-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwReferenceInIdeal (m : (ℓ : Loc Cert.AdamwReferenceInIdeal.nD Cert.AdamwReferenceInIdeal.τ Cert.AdamwReferenceInIdeal.sig) → Buf (Elt Ideal) ℓ) : Prop :=
  True

def Pre_AdamwSg (m : (ℓ : Loc Cert.AdamwSg.nD Cert.AdamwSg.τ Cert.AdamwSg.sig) → Buf (Elt Bits) ℓ) : Prop :=
  True

def Pre_AdamwSgIdeal (m : (ℓ : Loc Cert.AdamwSgIdeal.nD Cert.AdamwSgIdeal.τ Cert.AdamwSgIdeal.sig) → Buf (Elt Ideal) ℓ) : Prop :=
  True

def Pre_AdamwReferenceSgIdeal (m : (ℓ : Loc Cert.AdamwReferenceSgIdeal.nD Cert.AdamwReferenceSgIdeal.τ Cert.AdamwReferenceSgIdeal.sig) → Buf (Elt Ideal) ℓ) : Prop :=
  True

def Pre_AdamwBranch (m : (ℓ : Loc Cert.AdamwBranch.nD Cert.AdamwBranch.τ Cert.AdamwBranch.sig) → Buf (Elt Bits) ℓ) : Prop :=
  True

def Pre_AdamwBranchIdeal (m : (ℓ : Loc Cert.AdamwBranchIdeal.nD Cert.AdamwBranchIdeal.τ Cert.AdamwBranchIdeal.sig) → Buf (Elt Ideal) ℓ) : Prop :=
  True

def Pre_AdamwReferenceBranchIdeal (m : (ℓ : Loc Cert.AdamwReferenceBranchIdeal.nD Cert.AdamwReferenceBranchIdeal.τ Cert.AdamwReferenceBranchIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwReferenceOutIdeal (m : (ℓ : Loc Cert.AdamwReferenceOutIdeal.nD Cert.AdamwReferenceOutIdeal.τ Cert.AdamwReferenceOutIdeal.sig) → Buf (Elt Ideal) ℓ) : Prop :=
  True

def Pre_AdamwFfn (m : (ℓ : Loc Cert.AdamwFfn.nD Cert.AdamwFfn.τ Cert.AdamwFfn.sig) → Buf (Elt Bits) ℓ) : Prop :=
  True

def Pre_AdamwFfnIdeal (m : (ℓ : Loc Cert.AdamwFfnIdeal.nD Cert.AdamwFfnIdeal.τ Cert.AdamwFfnIdeal.sig) → Buf (Elt Ideal) ℓ) : Prop :=
  True

def Pre_AdamwReferenceFfnIdeal (m : (ℓ : Loc Cert.AdamwReferenceFfnIdeal.nD Cert.AdamwReferenceFfnIdeal.τ Cert.AdamwReferenceFfnIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_AdamwReferenceDownIdeal (m : (ℓ : Loc Cert.AdamwReferenceDownIdeal.nD Cert.AdamwReferenceDownIdeal.τ Cert.AdamwReferenceDownIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwReferenceSmallIdeal (m : (ℓ : Loc Cert.AdamwReferenceSmallIdeal.nD Cert.AdamwReferenceSmallIdeal.τ Cert.AdamwReferenceSmallIdeal.sig) → Buf (Elt Ideal) ℓ) : Prop :=
  True

def Pre_SumSharded (m : (ℓ : Loc Cert.SumSharded.nD Cert.SumSharded.τ Cert.SumSharded.sig) → Buf (Elt Bits) ℓ) : Prop :=
  True

def Pre_SumShardedIdeal (m : (ℓ : Loc Cert.SumShardedIdeal.nD Cert.SumShardedIdeal.τ Cert.SumShardedIdeal.sig) → Buf (Elt Ideal) ℓ) : Prop :=
  True

def Pre_SumReferenceShardedIdeal (m : (ℓ : Loc Cert.SumReferenceShardedIdeal.nD Cert.SumReferenceShardedIdeal.τ Cert.SumReferenceShardedIdeal.sig) → Buf (Elt Ideal) ℓ) : Prop :=
  True

def Pre_SumReplicated (m : (ℓ : Loc Cert.SumReplicated.nD Cert.SumReplicated.τ Cert.SumReplicated.sig) → Buf (Elt Bits) ℓ) : Prop :=
  True

def Pre_SumReplicatedIdeal (m : (ℓ : Loc Cert.SumReplicatedIdeal.nD Cert.SumReplicatedIdeal.τ Cert.SumReplicatedIdeal.sig) → Buf (Elt Ideal) ℓ) : Prop :=
  True

def Pre_SumReferenceReplicatedIdeal (m : (ℓ : Loc Cert.SumReferenceReplicatedIdeal.nD Cert.SumReferenceReplicatedIdeal.τ Cert.SumReferenceReplicatedIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputReferenceIdeal (m : (ℓ : Loc Cert.InputReferenceIdeal.nD Cert.InputReferenceIdeal.τ Cert.InputReferenceIdeal.sig) → Buf (Elt Ideal) ℓ) : Prop :=
  True

def Pre_WeightIn (m : (ℓ : Loc Cert.WeightIn.nD Cert.WeightIn.τ Cert.WeightIn.sig) → Buf (Elt Bits) ℓ) : Prop :=
  True

def Pre_WeightInIdeal (m : (ℓ : Loc Cert.WeightInIdeal.nD Cert.WeightInIdeal.τ Cert.WeightInIdeal.sig) → Buf (Elt Ideal) ℓ) : Prop :=
  True

def Pre_WeightInReferenceIdeal (m : (ℓ : Loc Cert.WeightInReferenceIdeal.nD Cert.WeightInReferenceIdeal.τ Cert.WeightInReferenceIdeal.sig) → Buf (Elt Ideal) ℓ) : Prop :=
  True

def Pre_WeightGate (m : (ℓ : Loc Cert.WeightGate.nD Cert.WeightGate.τ Cert.WeightGate.sig) → Buf (Elt Bits) ℓ) : Prop :=
  True

def Pre_WeightGateIdeal (m : (ℓ : Loc Cert.WeightGateIdeal.nD Cert.WeightGateIdeal.τ Cert.WeightGateIdeal.sig) → Buf (Elt Ideal) ℓ) : Prop :=
  True

def Pre_WeightGateReferenceIdeal (m : (ℓ : Loc Cert.WeightGateReferenceIdeal.nD Cert.WeightGateReferenceIdeal.τ Cert.WeightGateReferenceIdeal.sig) → Buf (Elt Ideal) ℓ) : Prop :=
  True

def Pre_WeightDown (m : (ℓ : Loc Cert.WeightDown.nD Cert.WeightDown.τ Cert.WeightDown.sig) → Buf (Elt Bits) ℓ) : Prop :=
  True

def Pre_WeightDownIdeal (m : (ℓ : Loc Cert.WeightDownIdeal.nD Cert.WeightDownIdeal.τ Cert.WeightDownIdeal.sig) → Buf (Elt Ideal) ℓ) : Prop :=
  True

def Pre_WeightDownReferenceIdeal (m : (ℓ : Loc Cert.WeightDownReferenceIdeal.nD Cert.WeightDownReferenceIdeal.τ Cert.WeightDownReferenceIdeal.sig) → Buf (Elt Ideal) ℓ) : Prop :=
  True

def Pre_WeightOut (m : (ℓ : Loc Cert.WeightOut.nD Cert.WeightOut.τ Cert.WeightOut.sig) → Buf (Elt Bits) ℓ) : Prop :=
  True

def Pre_WeightOutIdeal (m : (ℓ : Loc Cert.WeightOutIdeal.nD Cert.WeightOutIdeal.τ Cert.WeightOutIdeal.sig) → Buf (Elt Ideal) ℓ) : Prop :=
  True

def Pre_WeightOutReferenceIdeal (m : (ℓ : Loc Cert.WeightOutReferenceIdeal.nD Cert.WeightOutReferenceIdeal.τ Cert.WeightOutReferenceIdeal.sig) → Buf (Elt Ideal) ℓ) : Prop :=
  True

def Pre_WeightBranch (m : (ℓ : Loc Cert.WeightBranch.nD Cert.WeightBranch.τ Cert.WeightBranch.sig) → Buf (Elt Bits) ℓ) : Prop :=
  True

def Pre_WeightBranchIdeal (m : (ℓ : Loc Cert.WeightBranchIdeal.nD Cert.WeightBranchIdeal.τ Cert.WeightBranchIdeal.sig) → Buf (Elt Ideal) ℓ) : Prop :=
  True

def Pre_WeightBranchReferenceIdeal (m : (ℓ : Loc Cert.WeightBranchReferenceIdeal.nD Cert.WeightBranchReferenceIdeal.τ Cert.WeightBranchReferenceIdeal.sig) → Buf (Elt Ideal) ℓ) : Prop :=
  True

def Pre_Channel (m : (ℓ : Loc Cert.Channel.nD Cert.Channel.τ Cert.Channel.sig) → Buf (Elt Bits) ℓ) : Prop :=
  True

def Pre_ChannelIdeal (m : (ℓ : Loc Cert.ChannelIdeal.nD Cert.ChannelIdeal.τ Cert.ChannelIdeal.sig) → Buf (Elt Ideal) ℓ) : Prop :=
  True

def Pre_ChannelReferenceIdeal (m : (ℓ : Loc Cert.ChannelReferenceIdeal.nD Cert.ChannelReferenceIdeal.τ Cert.ChannelReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergeBackward (m : (ℓ : Loc Cert.MergeBackward.nD Cert.MergeBackward.τ Cert.MergeBackward.sig) → Buf (Elt Bits) ℓ) : Prop :=
  True

def Pre_MergeBackwardIdeal (m : (ℓ : Loc Cert.MergeBackwardIdeal.nD Cert.MergeBackwardIdeal.τ Cert.MergeBackwardIdeal.sig) → Buf (Elt Ideal) ℓ) : Prop :=
  True

def Pre_MergeBackwardReferenceIdeal (m : (ℓ : Loc Cert.MergeBackwardReferenceIdeal.nD Cert.MergeBackwardReferenceIdeal.τ Cert.MergeBackwardReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionReferenceIdeal (m : (ℓ : Loc Cert.AttentionReferenceIdeal.nD Cert.AttentionReferenceIdeal.τ Cert.AttentionReferenceIdeal.sig) → Buf (Elt Ideal) ℓ) : Prop :=
  True

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftReferenceIdeal (m : (ℓ : Loc Cert.ShiftReferenceIdeal.nD Cert.ShiftReferenceIdeal.τ Cert.ShiftReferenceIdeal.sig) → Buf (Elt Ideal) ℓ) : Prop :=
  True

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingReferenceIdeal (m : (ℓ : Loc Cert.GatingReferenceIdeal.nD Cert.GatingReferenceIdeal.τ Cert.GatingReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwReferenceInIdeal [hAdamwReferenceInIdeal : Cert.AdamwReferenceInIdeal.Facts] : Prop :=
  ∀ (m : (ℓ : Loc Cert.AdamwReferenceInIdeal.nD Cert.AdamwReferenceInIdeal.τ Cert.AdamwReferenceInIdeal.sig) → Buf (Elt Ideal) ℓ) (g : Dev Cert.AdamwReferenceInIdeal.nD → PrngReg), Pre_AdamwReferenceInIdeal m →
    θ_run (Cert.AdamwReferenceInIdeal.defs (F := Ideal)) (onTc (τ := Cert.AdamwReferenceInIdeal.τ) (Cert.AdamwReferenceInIdeal.main (F := Ideal))) ⟨m, fun _ => 0, g⟩ (fun r => (∀ c : Dev Cert.AdamwReferenceInIdeal.nD,
      r.2.mem ((c.tc : Thread Cert.AdamwReferenceInIdeal.nD Cert.AdamwReferenceInIdeal.τ).loc Cert.AdamwReferenceInIdeal.main_arg0) = m ((c.tc : Thread Cert.AdamwReferenceInIdeal.nD Cert.AdamwReferenceInIdeal.τ).loc Cert.AdamwReferenceInIdeal.main_arg0)
      ∧ r.2.mem ((c.tc : Thread Cert.AdamwReferenceInIdeal.nD Cert.AdamwReferenceInIdeal.τ).loc Cert.AdamwReferenceInIdeal.main_arg1) = m ((c.tc : Thread Cert.AdamwReferenceInIdeal.nD Cert.AdamwReferenceInIdeal.τ).loc Cert.AdamwReferenceInIdeal.main_arg1)
      ∧ r.2.mem ((c.tc : Thread Cert.AdamwReferenceInIdeal.nD Cert.AdamwReferenceInIdeal.τ).loc Cert.AdamwReferenceInIdeal.main_arg2) = m ((c.tc : Thread Cert.AdamwReferenceInIdeal.nD Cert.AdamwReferenceInIdeal.τ).loc Cert.AdamwReferenceInIdeal.main_arg2)
      ∧ r.2.mem ((c.tc : Thread Cert.AdamwReferenceInIdeal.nD Cert.AdamwReferenceInIdeal.τ).loc Cert.AdamwReferenceInIdeal.main_arg3) = m ((c.tc : Thread Cert.AdamwReferenceInIdeal.nD Cert.AdamwReferenceInIdeal.τ).loc Cert.AdamwReferenceInIdeal.main_arg3))
      ∧ r.2.sem = fun _ => 0)

def quiescent_AdamwSg [hAdamwSg : Cert.AdamwSg.Facts] : Prop :=
  ∀ (m : (ℓ : Loc Cert.AdamwSg.nD Cert.AdamwSg.τ Cert.AdamwSg.sig) → Buf (Elt Bits) ℓ) (g : Dev Cert.AdamwSg.nD → PrngReg), Pre_AdamwSg m →
    θ_run (Cert.AdamwSg.defs (F := Bits)) (onTc (τ := Cert.AdamwSg.τ) (Cert.AdamwSg.main (F := Bits))) ⟨m, fun _ => 0, g⟩ (fun r => (∀ c : Dev Cert.AdamwSg.nD,
      r.2.mem ((c.tc : Thread Cert.AdamwSg.nD Cert.AdamwSg.τ).loc Cert.AdamwSg.main_arg0) = m ((c.tc : Thread Cert.AdamwSg.nD Cert.AdamwSg.τ).loc Cert.AdamwSg.main_arg0)
      ∧ r.2.mem ((c.tc : Thread Cert.AdamwSg.nD Cert.AdamwSg.τ).loc Cert.AdamwSg.main_arg1) = m ((c.tc : Thread Cert.AdamwSg.nD Cert.AdamwSg.τ).loc Cert.AdamwSg.main_arg1)
      ∧ r.2.mem ((c.tc : Thread Cert.AdamwSg.nD Cert.AdamwSg.τ).loc Cert.AdamwSg.main_arg2) = m ((c.tc : Thread Cert.AdamwSg.nD Cert.AdamwSg.τ).loc Cert.AdamwSg.main_arg2)
      ∧ r.2.mem ((c.tc : Thread Cert.AdamwSg.nD Cert.AdamwSg.τ).loc Cert.AdamwSg.main_arg3) = m ((c.tc : Thread Cert.AdamwSg.nD Cert.AdamwSg.τ).loc Cert.AdamwSg.main_arg3))
      ∧ r.2.sem = fun _ => 0)

def quiescent_AdamwSgIdeal [hAdamwSgIdeal : Cert.AdamwSgIdeal.Facts] : Prop :=
  ∀ (m : (ℓ : Loc Cert.AdamwSgIdeal.nD Cert.AdamwSgIdeal.τ Cert.AdamwSgIdeal.sig) → Buf (Elt Ideal) ℓ) (g : Dev Cert.AdamwSgIdeal.nD → PrngReg), Pre_AdamwSgIdeal m →
    θ_run (Cert.AdamwSgIdeal.defs (F := Ideal)) (onTc (τ := Cert.AdamwSgIdeal.τ) (Cert.AdamwSgIdeal.main (F := Ideal))) ⟨m, fun _ => 0, g⟩ (fun r => (∀ c : Dev Cert.AdamwSgIdeal.nD,
      r.2.mem ((c.tc : Thread Cert.AdamwSgIdeal.nD Cert.AdamwSgIdeal.τ).loc Cert.AdamwSgIdeal.main_arg0) = m ((c.tc : Thread Cert.AdamwSgIdeal.nD Cert.AdamwSgIdeal.τ).loc Cert.AdamwSgIdeal.main_arg0)
      ∧ r.2.mem ((c.tc : Thread Cert.AdamwSgIdeal.nD Cert.AdamwSgIdeal.τ).loc Cert.AdamwSgIdeal.main_arg1) = m ((c.tc : Thread Cert.AdamwSgIdeal.nD Cert.AdamwSgIdeal.τ).loc Cert.AdamwSgIdeal.main_arg1)
      ∧ r.2.mem ((c.tc : Thread Cert.AdamwSgIdeal.nD Cert.AdamwSgIdeal.τ).loc Cert.AdamwSgIdeal.main_arg2) = m ((c.tc : Thread Cert.AdamwSgIdeal.nD Cert.AdamwSgIdeal.τ).loc Cert.AdamwSgIdeal.main_arg2)
      ∧ r.2.mem ((c.tc : Thread Cert.AdamwSgIdeal.nD Cert.AdamwSgIdeal.τ).loc Cert.AdamwSgIdeal.main_arg3) = m ((c.tc : Thread Cert.AdamwSgIdeal.nD Cert.AdamwSgIdeal.τ).loc Cert.AdamwSgIdeal.main_arg3))
      ∧ r.2.sem = fun _ => 0)

def quiescent_AdamwReferenceSgIdeal [hAdamwReferenceSgIdeal : Cert.AdamwReferenceSgIdeal.Facts] : Prop :=
  ∀ (m : (ℓ : Loc Cert.AdamwReferenceSgIdeal.nD Cert.AdamwReferenceSgIdeal.τ Cert.AdamwReferenceSgIdeal.sig) → Buf (Elt Ideal) ℓ) (g : Dev Cert.AdamwReferenceSgIdeal.nD → PrngReg), Pre_AdamwReferenceSgIdeal m →
    θ_run (Cert.AdamwReferenceSgIdeal.defs (F := Ideal)) (onTc (τ := Cert.AdamwReferenceSgIdeal.τ) (Cert.AdamwReferenceSgIdeal.main (F := Ideal))) ⟨m, fun _ => 0, g⟩ (fun r => (∀ c : Dev Cert.AdamwReferenceSgIdeal.nD,
      r.2.mem ((c.tc : Thread Cert.AdamwReferenceSgIdeal.nD Cert.AdamwReferenceSgIdeal.τ).loc Cert.AdamwReferenceSgIdeal.main_arg0) = m ((c.tc : Thread Cert.AdamwReferenceSgIdeal.nD Cert.AdamwReferenceSgIdeal.τ).loc Cert.AdamwReferenceSgIdeal.main_arg0)
      ∧ r.2.mem ((c.tc : Thread Cert.AdamwReferenceSgIdeal.nD Cert.AdamwReferenceSgIdeal.τ).loc Cert.AdamwReferenceSgIdeal.main_arg1) = m ((c.tc : Thread Cert.AdamwReferenceSgIdeal.nD Cert.AdamwReferenceSgIdeal.τ).loc Cert.AdamwReferenceSgIdeal.main_arg1)
      ∧ r.2.mem ((c.tc : Thread Cert.AdamwReferenceSgIdeal.nD Cert.AdamwReferenceSgIdeal.τ).loc Cert.AdamwReferenceSgIdeal.main_arg2) = m ((c.tc : Thread Cert.AdamwReferenceSgIdeal.nD Cert.AdamwReferenceSgIdeal.τ).loc Cert.AdamwReferenceSgIdeal.main_arg2)
      ∧ r.2.mem ((c.tc : Thread Cert.AdamwReferenceSgIdeal.nD Cert.AdamwReferenceSgIdeal.τ).loc Cert.AdamwReferenceSgIdeal.main_arg3) = m ((c.tc : Thread Cert.AdamwReferenceSgIdeal.nD Cert.AdamwReferenceSgIdeal.τ).loc Cert.AdamwReferenceSgIdeal.main_arg3))
      ∧ r.2.sem = fun _ => 0)

def quiescent_AdamwBranch [hAdamwBranch : Cert.AdamwBranch.Facts] : Prop :=
  ∀ (m : (ℓ : Loc Cert.AdamwBranch.nD Cert.AdamwBranch.τ Cert.AdamwBranch.sig) → Buf (Elt Bits) ℓ) (g : Dev Cert.AdamwBranch.nD → PrngReg), Pre_AdamwBranch m →
    θ_run (Cert.AdamwBranch.defs (F := Bits)) (onTc (τ := Cert.AdamwBranch.τ) (Cert.AdamwBranch.main (F := Bits))) ⟨m, fun _ => 0, g⟩ (fun r => (∀ c : Dev Cert.AdamwBranch.nD,
      r.2.mem ((c.tc : Thread Cert.AdamwBranch.nD Cert.AdamwBranch.τ).loc Cert.AdamwBranch.main_arg0) = m ((c.tc : Thread Cert.AdamwBranch.nD Cert.AdamwBranch.τ).loc Cert.AdamwBranch.main_arg0)
      ∧ r.2.mem ((c.tc : Thread Cert.AdamwBranch.nD Cert.AdamwBranch.τ).loc Cert.AdamwBranch.main_arg1) = m ((c.tc : Thread Cert.AdamwBranch.nD Cert.AdamwBranch.τ).loc Cert.AdamwBranch.main_arg1)
      ∧ r.2.mem ((c.tc : Thread Cert.AdamwBranch.nD Cert.AdamwBranch.τ).loc Cert.AdamwBranch.main_arg2) = m ((c.tc : Thread Cert.AdamwBranch.nD Cert.AdamwBranch.τ).loc Cert.AdamwBranch.main_arg2)
      ∧ r.2.mem ((c.tc : Thread Cert.AdamwBranch.nD Cert.AdamwBranch.τ).loc Cert.AdamwBranch.main_arg3) = m ((c.tc : Thread Cert.AdamwBranch.nD Cert.AdamwBranch.τ).loc Cert.AdamwBranch.main_arg3))
      ∧ r.2.sem = fun _ => 0)

def quiescent_AdamwBranchIdeal [hAdamwBranchIdeal : Cert.AdamwBranchIdeal.Facts] : Prop :=
  ∀ (m : (ℓ : Loc Cert.AdamwBranchIdeal.nD Cert.AdamwBranchIdeal.τ Cert.AdamwBranchIdeal.sig) → Buf (Elt Ideal) ℓ) (g : Dev Cert.AdamwBranchIdeal.nD → PrngReg), Pre_AdamwBranchIdeal m →
    θ_run (Cert.AdamwBranchIdeal.defs (F := Ideal)) (onTc (τ := Cert.AdamwBranchIdeal.τ) (Cert.AdamwBranchIdeal.main (F := Ideal))) ⟨m, fun _ => 0, g⟩ (fun r => (∀ c : Dev Cert.AdamwBranchIdeal.nD,
      r.2.mem ((c.tc : Thread Cert.AdamwBranchIdeal.nD Cert.AdamwBranchIdeal.τ).loc Cert.AdamwBranchIdeal.main_arg0) = m ((c.tc : Thread Cert.AdamwBranchIdeal.nD Cert.AdamwBranchIdeal.τ).loc Cert.AdamwBranchIdeal.main_arg0)
      ∧ r.2.mem ((c.tc : Thread Cert.AdamwBranchIdeal.nD Cert.AdamwBranchIdeal.τ).loc Cert.AdamwBranchIdeal.main_arg1) = m ((c.tc : Thread Cert.AdamwBranchIdeal.nD Cert.AdamwBranchIdeal.τ).loc Cert.AdamwBranchIdeal.main_arg1)
      ∧ r.2.mem ((c.tc : Thread Cert.AdamwBranchIdeal.nD Cert.AdamwBranchIdeal.τ).loc Cert.AdamwBranchIdeal.main_arg2) = m ((c.tc : Thread Cert.AdamwBranchIdeal.nD Cert.AdamwBranchIdeal.τ).loc Cert.AdamwBranchIdeal.main_arg2)
      ∧ r.2.mem ((c.tc : Thread Cert.AdamwBranchIdeal.nD Cert.AdamwBranchIdeal.τ).loc Cert.AdamwBranchIdeal.main_arg3) = m ((c.tc : Thread Cert.AdamwBranchIdeal.nD Cert.AdamwBranchIdeal.τ).loc Cert.AdamwBranchIdeal.main_arg3))
      ∧ r.2.sem = fun _ => 0)

def quiescent_AdamwReferenceBranchIdeal [hAdamwReferenceBranchIdeal : Cert.AdamwReferenceBranchIdeal.Facts] : Prop :=
  ∀ (m : (ℓ : Loc Cert.AdamwReferenceBranchIdeal.nD Cert.AdamwReferenceBranchIdeal.τ Cert.AdamwReferenceBranchIdeal.sig) → Buf (Elt Ideal) ℓ) (g : Dev Cert.AdamwReferenceBranchIdeal.nD → PrngReg), Pre_AdamwReferenceBranchIdeal m →
    θ_run (Cert.AdamwReferenceBranchIdeal.defs (F := Ideal)) (onTc (τ := Cert.AdamwReferenceBranchIdeal.τ) (Cert.AdamwReferenceBranchIdeal.main (F := Ideal))) ⟨m, fun _ => 0, g⟩ (fun r => (∀ c : Dev Cert.AdamwReferenceBranchIdeal.nD,
      r.2.mem ((c.tc : Thread Cert.AdamwReferenceBranchIdeal.nD Cert.AdamwReferenceBranchIdeal.τ).loc Cert.AdamwReferenceBranchIdeal.main_arg0) = m ((c.tc : Thread Cert.AdamwReferenceBranchIdeal.nD Cert.AdamwReferenceBranchIdeal.τ).loc Cert.AdamwReferenceBranchIdeal.main_arg0)
      ∧ r.2.mem ((c.tc : Thread Cert.AdamwReferenceBranchIdeal.nD Cert.AdamwReferenceBranchIdeal.τ).loc Cert.AdamwReferenceBranchIdeal.main_arg1) = m ((c.tc : Thread Cert.AdamwReferenceBranchIdeal.nD Cert.AdamwReferenceBranchIdeal.τ).loc Cert.AdamwReferenceBranchIdeal.main_arg1)
      ∧ r.2.mem ((c.tc : Thread Cert.AdamwReferenceBranchIdeal.nD Cert.AdamwReferenceBranchIdeal.τ).loc Cert.AdamwReferenceBranchIdeal.main_arg2) = m ((c.tc : Thread Cert.AdamwReferenceBranchIdeal.nD Cert.AdamwReferenceBranchIdeal.τ).loc Cert.AdamwReferenceBranchIdeal.main_arg2)
      ∧ r.2.mem ((c.tc : Thread Cert.AdamwReferenceBranchIdeal.nD Cert.AdamwReferenceBranchIdeal.τ).loc Cert.AdamwReferenceBranchIdeal.main_arg3) = m ((c.tc : Thread Cert.AdamwReferenceBranchIdeal.nD Cert.AdamwReferenceBranchIdeal.τ).loc Cert.AdamwReferenceBranchIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwReferenceOutIdeal [hAdamwReferenceOutIdeal : Cert.AdamwReferenceOutIdeal.Facts] : Prop :=
  ∀ (m : (ℓ : Loc Cert.AdamwReferenceOutIdeal.nD Cert.AdamwReferenceOutIdeal.τ Cert.AdamwReferenceOutIdeal.sig) → Buf (Elt Ideal) ℓ) (g : Dev Cert.AdamwReferenceOutIdeal.nD → PrngReg), Pre_AdamwReferenceOutIdeal m →
    θ_run (Cert.AdamwReferenceOutIdeal.defs (F := Ideal)) (onTc (τ := Cert.AdamwReferenceOutIdeal.τ) (Cert.AdamwReferenceOutIdeal.main (F := Ideal))) ⟨m, fun _ => 0, g⟩ (fun r => (∀ c : Dev Cert.AdamwReferenceOutIdeal.nD,
      r.2.mem ((c.tc : Thread Cert.AdamwReferenceOutIdeal.nD Cert.AdamwReferenceOutIdeal.τ).loc Cert.AdamwReferenceOutIdeal.main_arg0) = m ((c.tc : Thread Cert.AdamwReferenceOutIdeal.nD Cert.AdamwReferenceOutIdeal.τ).loc Cert.AdamwReferenceOutIdeal.main_arg0)
      ∧ r.2.mem ((c.tc : Thread Cert.AdamwReferenceOutIdeal.nD Cert.AdamwReferenceOutIdeal.τ).loc Cert.AdamwReferenceOutIdeal.main_arg1) = m ((c.tc : Thread Cert.AdamwReferenceOutIdeal.nD Cert.AdamwReferenceOutIdeal.τ).loc Cert.AdamwReferenceOutIdeal.main_arg1)
      ∧ r.2.mem ((c.tc : Thread Cert.AdamwReferenceOutIdeal.nD Cert.AdamwReferenceOutIdeal.τ).loc Cert.AdamwReferenceOutIdeal.main_arg2) = m ((c.tc : Thread Cert.AdamwReferenceOutIdeal.nD Cert.AdamwReferenceOutIdeal.τ).loc Cert.AdamwReferenceOutIdeal.main_arg2)
      ∧ r.2.mem ((c.tc : Thread Cert.AdamwReferenceOutIdeal.nD Cert.AdamwReferenceOutIdeal.τ).loc Cert.AdamwReferenceOutIdeal.main_arg3) = m ((c.tc : Thread Cert.AdamwReferenceOutIdeal.nD Cert.AdamwReferenceOutIdeal.τ).loc Cert.AdamwReferenceOutIdeal.main_arg3))
      ∧ r.2.sem = fun _ => 0)

def quiescent_AdamwFfn [hAdamwFfn : Cert.AdamwFfn.Facts] : Prop :=
  ∀ (m : (ℓ : Loc Cert.AdamwFfn.nD Cert.AdamwFfn.τ Cert.AdamwFfn.sig) → Buf (Elt Bits) ℓ) (g : Dev Cert.AdamwFfn.nD → PrngReg), Pre_AdamwFfn m →
    θ_run (Cert.AdamwFfn.defs (F := Bits)) (onTc (τ := Cert.AdamwFfn.τ) (Cert.AdamwFfn.main (F := Bits))) ⟨m, fun _ => 0, g⟩ (fun r => (∀ c : Dev Cert.AdamwFfn.nD,
      r.2.mem ((c.tc : Thread Cert.AdamwFfn.nD Cert.AdamwFfn.τ).loc Cert.AdamwFfn.main_arg0) = m ((c.tc : Thread Cert.AdamwFfn.nD Cert.AdamwFfn.τ).loc Cert.AdamwFfn.main_arg0)
      ∧ r.2.mem ((c.tc : Thread Cert.AdamwFfn.nD Cert.AdamwFfn.τ).loc Cert.AdamwFfn.main_arg1) = m ((c.tc : Thread Cert.AdamwFfn.nD Cert.AdamwFfn.τ).loc Cert.AdamwFfn.main_arg1)
      ∧ r.2.mem ((c.tc : Thread Cert.AdamwFfn.nD Cert.AdamwFfn.τ).loc Cert.AdamwFfn.main_arg2) = m ((c.tc : Thread Cert.AdamwFfn.nD Cert.AdamwFfn.τ).loc Cert.AdamwFfn.main_arg2)
      ∧ r.2.mem ((c.tc : Thread Cert.AdamwFfn.nD Cert.AdamwFfn.τ).loc Cert.AdamwFfn.main_arg3) = m ((c.tc : Thread Cert.AdamwFfn.nD Cert.AdamwFfn.τ).loc Cert.AdamwFfn.main_arg3))
      ∧ r.2.sem = fun _ => 0)

def quiescent_AdamwFfnIdeal [hAdamwFfnIdeal : Cert.AdamwFfnIdeal.Facts] : Prop :=
  ∀ (m : (ℓ : Loc Cert.AdamwFfnIdeal.nD Cert.AdamwFfnIdeal.τ Cert.AdamwFfnIdeal.sig) → Buf (Elt Ideal) ℓ) (g : Dev Cert.AdamwFfnIdeal.nD → PrngReg), Pre_AdamwFfnIdeal m →
    θ_run (Cert.AdamwFfnIdeal.defs (F := Ideal)) (onTc (τ := Cert.AdamwFfnIdeal.τ) (Cert.AdamwFfnIdeal.main (F := Ideal))) ⟨m, fun _ => 0, g⟩ (fun r => (∀ c : Dev Cert.AdamwFfnIdeal.nD,
      r.2.mem ((c.tc : Thread Cert.AdamwFfnIdeal.nD Cert.AdamwFfnIdeal.τ).loc Cert.AdamwFfnIdeal.main_arg0) = m ((c.tc : Thread Cert.AdamwFfnIdeal.nD Cert.AdamwFfnIdeal.τ).loc Cert.AdamwFfnIdeal.main_arg0)
      ∧ r.2.mem ((c.tc : Thread Cert.AdamwFfnIdeal.nD Cert.AdamwFfnIdeal.τ).loc Cert.AdamwFfnIdeal.main_arg1) = m ((c.tc : Thread Cert.AdamwFfnIdeal.nD Cert.AdamwFfnIdeal.τ).loc Cert.AdamwFfnIdeal.main_arg1)
      ∧ r.2.mem ((c.tc : Thread Cert.AdamwFfnIdeal.nD Cert.AdamwFfnIdeal.τ).loc Cert.AdamwFfnIdeal.main_arg2) = m ((c.tc : Thread Cert.AdamwFfnIdeal.nD Cert.AdamwFfnIdeal.τ).loc Cert.AdamwFfnIdeal.main_arg2)
      ∧ r.2.mem ((c.tc : Thread Cert.AdamwFfnIdeal.nD Cert.AdamwFfnIdeal.τ).loc Cert.AdamwFfnIdeal.main_arg3) = m ((c.tc : Thread Cert.AdamwFfnIdeal.nD Cert.AdamwFfnIdeal.τ).loc Cert.AdamwFfnIdeal.main_arg3))
      ∧ r.2.sem = fun _ => 0)

def quiescent_AdamwReferenceFfnIdeal [hAdamwReferenceFfnIdeal : Cert.AdamwReferenceFfnIdeal.Facts] : Prop :=
  ∀ (m : (ℓ : Loc Cert.AdamwReferenceFfnIdeal.nD Cert.AdamwReferenceFfnIdeal.τ Cert.AdamwReferenceFfnIdeal.sig) → Buf (Elt Ideal) ℓ) (g : Dev Cert.AdamwReferenceFfnIdeal.nD → PrngReg), Pre_AdamwReferenceFfnIdeal m →
    θ_run (Cert.AdamwReferenceFfnIdeal.defs (F := Ideal)) (onTc (τ := Cert.AdamwReferenceFfnIdeal.τ) (Cert.AdamwReferenceFfnIdeal.main (F := Ideal))) ⟨m, fun _ => 0, g⟩ (fun r => (∀ c : Dev Cert.AdamwReferenceFfnIdeal.nD,
      r.2.mem ((c.tc : Thread Cert.AdamwReferenceFfnIdeal.nD Cert.AdamwReferenceFfnIdeal.τ).loc Cert.AdamwReferenceFfnIdeal.main_arg0) = m ((c.tc : Thread Cert.AdamwReferenceFfnIdeal.nD Cert.AdamwReferenceFfnIdeal.τ).loc Cert.AdamwReferenceFfnIdeal.main_arg0)
      ∧ r.2.mem ((c.tc : Thread Cert.AdamwReferenceFfnIdeal.nD Cert.AdamwReferenceFfnIdeal.τ).loc Cert.AdamwReferenceFfnIdeal.main_arg1) = m ((c.tc : Thread Cert.AdamwReferenceFfnIdeal.nD Cert.AdamwReferenceFfnIdeal.τ).loc Cert.AdamwReferenceFfnIdeal.main_arg1)
      ∧ r.2.mem ((c.tc : Thread Cert.AdamwReferenceFfnIdeal.nD Cert.AdamwReferenceFfnIdeal.τ).loc Cert.AdamwReferenceFfnIdeal.main_arg2) = m ((c.tc : Thread Cert.AdamwReferenceFfnIdeal.nD Cert.AdamwReferenceFfnIdeal.τ).loc Cert.AdamwReferenceFfnIdeal.main_arg2)
      ∧ r.2.mem ((c.tc : Thread Cert.AdamwReferenceFfnIdeal.nD Cert.AdamwReferenceFfnIdeal.τ).loc Cert.AdamwReferenceFfnIdeal.main_arg3) = m ((c.tc : Thread Cert.AdamwReferenceFfnIdeal.nD Cert.AdamwReferenceFfnIdeal.τ).loc Cert.AdamwReferenceFfnIdeal.main_arg3))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ r.2.sem = fun _ => 0)

def quiescent_AdamwReferenceDownIdeal [hAdamwReferenceDownIdeal : Cert.AdamwReferenceDownIdeal.Facts] : Prop :=
  ∀ (m : (ℓ : Loc Cert.AdamwReferenceDownIdeal.nD Cert.AdamwReferenceDownIdeal.τ Cert.AdamwReferenceDownIdeal.sig) → Buf (Elt Ideal) ℓ) (g : Dev Cert.AdamwReferenceDownIdeal.nD → PrngReg), Pre_AdamwReferenceDownIdeal m →
    θ_run (Cert.AdamwReferenceDownIdeal.defs (F := Ideal)) (onTc (τ := Cert.AdamwReferenceDownIdeal.τ) (Cert.AdamwReferenceDownIdeal.main (F := Ideal))) ⟨m, fun _ => 0, g⟩ (fun r => (∀ c : Dev Cert.AdamwReferenceDownIdeal.nD,
      r.2.mem ((c.tc : Thread Cert.AdamwReferenceDownIdeal.nD Cert.AdamwReferenceDownIdeal.τ).loc Cert.AdamwReferenceDownIdeal.main_arg0) = m ((c.tc : Thread Cert.AdamwReferenceDownIdeal.nD Cert.AdamwReferenceDownIdeal.τ).loc Cert.AdamwReferenceDownIdeal.main_arg0)
      ∧ r.2.mem ((c.tc : Thread Cert.AdamwReferenceDownIdeal.nD Cert.AdamwReferenceDownIdeal.τ).loc Cert.AdamwReferenceDownIdeal.main_arg1) = m ((c.tc : Thread Cert.AdamwReferenceDownIdeal.nD Cert.AdamwReferenceDownIdeal.τ).loc Cert.AdamwReferenceDownIdeal.main_arg1)
      ∧ r.2.mem ((c.tc : Thread Cert.AdamwReferenceDownIdeal.nD Cert.AdamwReferenceDownIdeal.τ).loc Cert.AdamwReferenceDownIdeal.main_arg2) = m ((c.tc : Thread Cert.AdamwReferenceDownIdeal.nD Cert.AdamwReferenceDownIdeal.τ).loc Cert.AdamwReferenceDownIdeal.main_arg2)
      ∧ r.2.mem ((c.tc : Thread Cert.AdamwReferenceDownIdeal.nD Cert.AdamwReferenceDownIdeal.τ).loc Cert.AdamwReferenceDownIdeal.main_arg3) = m ((c.tc : Thread Cert.AdamwReferenceDownIdeal.nD Cert.AdamwReferenceDownIdeal.τ).loc Cert.AdamwReferenceDownIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwReferenceSmallIdeal [hAdamwReferenceSmallIdeal : Cert.AdamwReferenceSmallIdeal.Facts] : Prop :=
  ∀ (m : (ℓ : Loc Cert.AdamwReferenceSmallIdeal.nD Cert.AdamwReferenceSmallIdeal.τ Cert.AdamwReferenceSmallIdeal.sig) → Buf (Elt Ideal) ℓ) (g : Dev Cert.AdamwReferenceSmallIdeal.nD → PrngReg), Pre_AdamwReferenceSmallIdeal m →
    θ_run (Cert.AdamwReferenceSmallIdeal.defs (F := Ideal)) (onTc (τ := Cert.AdamwReferenceSmallIdeal.τ) (Cert.AdamwReferenceSmallIdeal.main (F := Ideal))) ⟨m, fun _ => 0, g⟩ (fun r => (∀ c : Dev Cert.AdamwReferenceSmallIdeal.nD,
      r.2.mem ((c.tc : Thread Cert.AdamwReferenceSmallIdeal.nD Cert.AdamwReferenceSmallIdeal.τ).loc Cert.AdamwReferenceSmallIdeal.main_arg0) = m ((c.tc : Thread Cert.AdamwReferenceSmallIdeal.nD Cert.AdamwReferenceSmallIdeal.τ).loc Cert.AdamwReferenceSmallIdeal.main_arg0)
      ∧ r.2.mem ((c.tc : Thread Cert.AdamwReferenceSmallIdeal.nD Cert.AdamwReferenceSmallIdeal.τ).loc Cert.AdamwReferenceSmallIdeal.main_arg1) = m ((c.tc : Thread Cert.AdamwReferenceSmallIdeal.nD Cert.AdamwReferenceSmallIdeal.τ).loc Cert.AdamwReferenceSmallIdeal.main_arg1)
      ∧ r.2.mem ((c.tc : Thread Cert.AdamwReferenceSmallIdeal.nD Cert.AdamwReferenceSmallIdeal.τ).loc Cert.AdamwReferenceSmallIdeal.main_arg2) = m ((c.tc : Thread Cert.AdamwReferenceSmallIdeal.nD Cert.AdamwReferenceSmallIdeal.τ).loc Cert.AdamwReferenceSmallIdeal.main_arg2)
      ∧ r.2.mem ((c.tc : Thread Cert.AdamwReferenceSmallIdeal.nD Cert.AdamwReferenceSmallIdeal.τ).loc Cert.AdamwReferenceSmallIdeal.main_arg3) = m ((c.tc : Thread Cert.AdamwReferenceSmallIdeal.nD Cert.AdamwReferenceSmallIdeal.τ).loc Cert.AdamwReferenceSmallIdeal.main_arg3))
      ∧ r.2.sem = fun _ => 0)

def quiescent_SumSharded [hSumSharded : Cert.SumSharded.Facts] : Prop :=
  ∀ (m : (ℓ : Loc Cert.SumSharded.nD Cert.SumSharded.τ Cert.SumSharded.sig) → Buf (Elt Bits) ℓ) (g : Dev Cert.SumSharded.nD → PrngReg), Pre_SumSharded m →
    θ_run (Cert.SumSharded.defs (F := Bits)) (onTc (τ := Cert.SumSharded.τ) (Cert.SumSharded.main (F := Bits))) ⟨m, fun _ => 0, g⟩ (fun r => (∀ c : Dev Cert.SumSharded.nD,
      r.2.mem ((c.tc : Thread Cert.SumSharded.nD Cert.SumSharded.τ).loc Cert.SumSharded.main_arg0) = m ((c.tc : Thread Cert.SumSharded.nD Cert.SumSharded.τ).loc Cert.SumSharded.main_arg0))
      ∧ r.2.sem = fun _ => 0)

def quiescent_SumShardedIdeal [hSumShardedIdeal : Cert.SumShardedIdeal.Facts] : Prop :=
  ∀ (m : (ℓ : Loc Cert.SumShardedIdeal.nD Cert.SumShardedIdeal.τ Cert.SumShardedIdeal.sig) → Buf (Elt Ideal) ℓ) (g : Dev Cert.SumShardedIdeal.nD → PrngReg), Pre_SumShardedIdeal m →
    θ_run (Cert.SumShardedIdeal.defs (F := Ideal)) (onTc (τ := Cert.SumShardedIdeal.τ) (Cert.SumShardedIdeal.main (F := Ideal))) ⟨m, fun _ => 0, g⟩ (fun r => (∀ c : Dev Cert.SumShardedIdeal.nD,
      r.2.mem ((c.tc : Thread Cert.SumShardedIdeal.nD Cert.SumShardedIdeal.τ).loc Cert.SumShardedIdeal.main_arg0) = m ((c.tc : Thread Cert.SumShardedIdeal.nD Cert.SumShardedIdeal.τ).loc Cert.SumShardedIdeal.main_arg0))
      ∧ r.2.sem = fun _ => 0)

def quiescent_SumReferenceShardedIdeal [hSumReferenceShardedIdeal : Cert.SumReferenceShardedIdeal.Facts] : Prop :=
  ∀ (m : (ℓ : Loc Cert.SumReferenceShardedIdeal.nD Cert.SumReferenceShardedIdeal.τ Cert.SumReferenceShardedIdeal.sig) → Buf (Elt Ideal) ℓ) (g : Dev Cert.SumReferenceShardedIdeal.nD → PrngReg), Pre_SumReferenceShardedIdeal m →
    θ_run (Cert.SumReferenceShardedIdeal.defs (F := Ideal)) (onTc (τ := Cert.SumReferenceShardedIdeal.τ) (Cert.SumReferenceShardedIdeal.main (F := Ideal))) ⟨m, fun _ => 0, g⟩ (fun r => (∀ c : Dev Cert.SumReferenceShardedIdeal.nD,
      r.2.mem ((c.tc : Thread Cert.SumReferenceShardedIdeal.nD Cert.SumReferenceShardedIdeal.τ).loc Cert.SumReferenceShardedIdeal.main_arg0) = m ((c.tc : Thread Cert.SumReferenceShardedIdeal.nD Cert.SumReferenceShardedIdeal.τ).loc Cert.SumReferenceShardedIdeal.main_arg0))
      ∧ r.2.sem = fun _ => 0)

def quiescent_SumReplicated [hSumReplicated : Cert.SumReplicated.Facts] : Prop :=
  ∀ (m : (ℓ : Loc Cert.SumReplicated.nD Cert.SumReplicated.τ Cert.SumReplicated.sig) → Buf (Elt Bits) ℓ) (g : Dev Cert.SumReplicated.nD → PrngReg), Pre_SumReplicated m →
    θ_run (Cert.SumReplicated.defs (F := Bits)) (onTc (τ := Cert.SumReplicated.τ) (Cert.SumReplicated.main (F := Bits))) ⟨m, fun _ => 0, g⟩ (fun r => (∀ c : Dev Cert.SumReplicated.nD,
      r.2.mem ((c.tc : Thread Cert.SumReplicated.nD Cert.SumReplicated.τ).loc Cert.SumReplicated.main_arg0) = m ((c.tc : Thread Cert.SumReplicated.nD Cert.SumReplicated.τ).loc Cert.SumReplicated.main_arg0))
      ∧ r.2.sem = fun _ => 0)

def quiescent_SumReplicatedIdeal [hSumReplicatedIdeal : Cert.SumReplicatedIdeal.Facts] : Prop :=
  ∀ (m : (ℓ : Loc Cert.SumReplicatedIdeal.nD Cert.SumReplicatedIdeal.τ Cert.SumReplicatedIdeal.sig) → Buf (Elt Ideal) ℓ) (g : Dev Cert.SumReplicatedIdeal.nD → PrngReg), Pre_SumReplicatedIdeal m →
    θ_run (Cert.SumReplicatedIdeal.defs (F := Ideal)) (onTc (τ := Cert.SumReplicatedIdeal.τ) (Cert.SumReplicatedIdeal.main (F := Ideal))) ⟨m, fun _ => 0, g⟩ (fun r => (∀ c : Dev Cert.SumReplicatedIdeal.nD,
      r.2.mem ((c.tc : Thread Cert.SumReplicatedIdeal.nD Cert.SumReplicatedIdeal.τ).loc Cert.SumReplicatedIdeal.main_arg0) = m ((c.tc : Thread Cert.SumReplicatedIdeal.nD Cert.SumReplicatedIdeal.τ).loc Cert.SumReplicatedIdeal.main_arg0))
      ∧ r.2.sem = fun _ => 0)

def quiescent_SumReferenceReplicatedIdeal [hSumReferenceReplicatedIdeal : Cert.SumReferenceReplicatedIdeal.Facts] : Prop :=
  ∀ (m : (ℓ : Loc Cert.SumReferenceReplicatedIdeal.nD Cert.SumReferenceReplicatedIdeal.τ Cert.SumReferenceReplicatedIdeal.sig) → Buf (Elt Ideal) ℓ) (g : Dev Cert.SumReferenceReplicatedIdeal.nD → PrngReg), Pre_SumReferenceReplicatedIdeal m →
    θ_run (Cert.SumReferenceReplicatedIdeal.defs (F := Ideal)) (onTc (τ := Cert.SumReferenceReplicatedIdeal.τ) (Cert.SumReferenceReplicatedIdeal.main (F := Ideal))) ⟨m, fun _ => 0, g⟩ (fun r => (∀ c : Dev Cert.SumReferenceReplicatedIdeal.nD,
      r.2.mem ((c.tc : Thread Cert.SumReferenceReplicatedIdeal.nD Cert.SumReferenceReplicatedIdeal.τ).loc Cert.SumReferenceReplicatedIdeal.main_arg0) = m ((c.tc : Thread Cert.SumReferenceReplicatedIdeal.nD Cert.SumReferenceReplicatedIdeal.τ).loc Cert.SumReferenceReplicatedIdeal.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4))
      ∧ r.2.sem = fun _ => 0)

def quiescent_WeightIn [hWeightIn : Cert.WeightIn.Facts] : Prop :=
  ∀ (m : (ℓ : Loc Cert.WeightIn.nD Cert.WeightIn.τ Cert.WeightIn.sig) → Buf (Elt Bits) ℓ) (g : Dev Cert.WeightIn.nD → PrngReg), Pre_WeightIn m →
    θ_run (Cert.WeightIn.defs (F := Bits)) (onTc (τ := Cert.WeightIn.τ) (Cert.WeightIn.main (F := Bits))) ⟨m, fun _ => 0, g⟩ (fun r => (∀ c : Dev Cert.WeightIn.nD,
      r.2.mem ((c.tc : Thread Cert.WeightIn.nD Cert.WeightIn.τ).loc Cert.WeightIn.main_arg0) = m ((c.tc : Thread Cert.WeightIn.nD Cert.WeightIn.τ).loc Cert.WeightIn.main_arg0)
      ∧ r.2.mem ((c.tc : Thread Cert.WeightIn.nD Cert.WeightIn.τ).loc Cert.WeightIn.main_arg1) = m ((c.tc : Thread Cert.WeightIn.nD Cert.WeightIn.τ).loc Cert.WeightIn.main_arg1))
      ∧ r.2.sem = fun _ => 0)

def quiescent_WeightInIdeal [hWeightInIdeal : Cert.WeightInIdeal.Facts] : Prop :=
  ∀ (m : (ℓ : Loc Cert.WeightInIdeal.nD Cert.WeightInIdeal.τ Cert.WeightInIdeal.sig) → Buf (Elt Ideal) ℓ) (g : Dev Cert.WeightInIdeal.nD → PrngReg), Pre_WeightInIdeal m →
    θ_run (Cert.WeightInIdeal.defs (F := Ideal)) (onTc (τ := Cert.WeightInIdeal.τ) (Cert.WeightInIdeal.main (F := Ideal))) ⟨m, fun _ => 0, g⟩ (fun r => (∀ c : Dev Cert.WeightInIdeal.nD,
      r.2.mem ((c.tc : Thread Cert.WeightInIdeal.nD Cert.WeightInIdeal.τ).loc Cert.WeightInIdeal.main_arg0) = m ((c.tc : Thread Cert.WeightInIdeal.nD Cert.WeightInIdeal.τ).loc Cert.WeightInIdeal.main_arg0)
      ∧ r.2.mem ((c.tc : Thread Cert.WeightInIdeal.nD Cert.WeightInIdeal.τ).loc Cert.WeightInIdeal.main_arg1) = m ((c.tc : Thread Cert.WeightInIdeal.nD Cert.WeightInIdeal.τ).loc Cert.WeightInIdeal.main_arg1))
      ∧ r.2.sem = fun _ => 0)

def quiescent_WeightInReferenceIdeal [hWeightInReferenceIdeal : Cert.WeightInReferenceIdeal.Facts] : Prop :=
  ∀ (m : (ℓ : Loc Cert.WeightInReferenceIdeal.nD Cert.WeightInReferenceIdeal.τ Cert.WeightInReferenceIdeal.sig) → Buf (Elt Ideal) ℓ) (g : Dev Cert.WeightInReferenceIdeal.nD → PrngReg), Pre_WeightInReferenceIdeal m →
    θ_run (Cert.WeightInReferenceIdeal.defs (F := Ideal)) (onTc (τ := Cert.WeightInReferenceIdeal.τ) (Cert.WeightInReferenceIdeal.main (F := Ideal))) ⟨m, fun _ => 0, g⟩ (fun r => (∀ c : Dev Cert.WeightInReferenceIdeal.nD,
      r.2.mem ((c.tc : Thread Cert.WeightInReferenceIdeal.nD Cert.WeightInReferenceIdeal.τ).loc Cert.WeightInReferenceIdeal.main_arg0) = m ((c.tc : Thread Cert.WeightInReferenceIdeal.nD Cert.WeightInReferenceIdeal.τ).loc Cert.WeightInReferenceIdeal.main_arg0)
      ∧ r.2.mem ((c.tc : Thread Cert.WeightInReferenceIdeal.nD Cert.WeightInReferenceIdeal.τ).loc Cert.WeightInReferenceIdeal.main_arg1) = m ((c.tc : Thread Cert.WeightInReferenceIdeal.nD Cert.WeightInReferenceIdeal.τ).loc Cert.WeightInReferenceIdeal.main_arg1))
      ∧ r.2.sem = fun _ => 0)

def quiescent_WeightGate [hWeightGate : Cert.WeightGate.Facts] : Prop :=
  ∀ (m : (ℓ : Loc Cert.WeightGate.nD Cert.WeightGate.τ Cert.WeightGate.sig) → Buf (Elt Bits) ℓ) (g : Dev Cert.WeightGate.nD → PrngReg), Pre_WeightGate m →
    θ_run (Cert.WeightGate.defs (F := Bits)) (onTc (τ := Cert.WeightGate.τ) (Cert.WeightGate.main (F := Bits))) ⟨m, fun _ => 0, g⟩ (fun r => (∀ c : Dev Cert.WeightGate.nD,
      r.2.mem ((c.tc : Thread Cert.WeightGate.nD Cert.WeightGate.τ).loc Cert.WeightGate.main_arg0) = m ((c.tc : Thread Cert.WeightGate.nD Cert.WeightGate.τ).loc Cert.WeightGate.main_arg0)
      ∧ r.2.mem ((c.tc : Thread Cert.WeightGate.nD Cert.WeightGate.τ).loc Cert.WeightGate.main_arg1) = m ((c.tc : Thread Cert.WeightGate.nD Cert.WeightGate.τ).loc Cert.WeightGate.main_arg1))
      ∧ r.2.sem = fun _ => 0)

def quiescent_WeightGateIdeal [hWeightGateIdeal : Cert.WeightGateIdeal.Facts] : Prop :=
  ∀ (m : (ℓ : Loc Cert.WeightGateIdeal.nD Cert.WeightGateIdeal.τ Cert.WeightGateIdeal.sig) → Buf (Elt Ideal) ℓ) (g : Dev Cert.WeightGateIdeal.nD → PrngReg), Pre_WeightGateIdeal m →
    θ_run (Cert.WeightGateIdeal.defs (F := Ideal)) (onTc (τ := Cert.WeightGateIdeal.τ) (Cert.WeightGateIdeal.main (F := Ideal))) ⟨m, fun _ => 0, g⟩ (fun r => (∀ c : Dev Cert.WeightGateIdeal.nD,
      r.2.mem ((c.tc : Thread Cert.WeightGateIdeal.nD Cert.WeightGateIdeal.τ).loc Cert.WeightGateIdeal.main_arg0) = m ((c.tc : Thread Cert.WeightGateIdeal.nD Cert.WeightGateIdeal.τ).loc Cert.WeightGateIdeal.main_arg0)
      ∧ r.2.mem ((c.tc : Thread Cert.WeightGateIdeal.nD Cert.WeightGateIdeal.τ).loc Cert.WeightGateIdeal.main_arg1) = m ((c.tc : Thread Cert.WeightGateIdeal.nD Cert.WeightGateIdeal.τ).loc Cert.WeightGateIdeal.main_arg1))
      ∧ r.2.sem = fun _ => 0)

def quiescent_WeightGateReferenceIdeal [hWeightGateReferenceIdeal : Cert.WeightGateReferenceIdeal.Facts] : Prop :=
  ∀ (m : (ℓ : Loc Cert.WeightGateReferenceIdeal.nD Cert.WeightGateReferenceIdeal.τ Cert.WeightGateReferenceIdeal.sig) → Buf (Elt Ideal) ℓ) (g : Dev Cert.WeightGateReferenceIdeal.nD → PrngReg), Pre_WeightGateReferenceIdeal m →
    θ_run (Cert.WeightGateReferenceIdeal.defs (F := Ideal)) (onTc (τ := Cert.WeightGateReferenceIdeal.τ) (Cert.WeightGateReferenceIdeal.main (F := Ideal))) ⟨m, fun _ => 0, g⟩ (fun r => (∀ c : Dev Cert.WeightGateReferenceIdeal.nD,
      r.2.mem ((c.tc : Thread Cert.WeightGateReferenceIdeal.nD Cert.WeightGateReferenceIdeal.τ).loc Cert.WeightGateReferenceIdeal.main_arg0) = m ((c.tc : Thread Cert.WeightGateReferenceIdeal.nD Cert.WeightGateReferenceIdeal.τ).loc Cert.WeightGateReferenceIdeal.main_arg0)
      ∧ r.2.mem ((c.tc : Thread Cert.WeightGateReferenceIdeal.nD Cert.WeightGateReferenceIdeal.τ).loc Cert.WeightGateReferenceIdeal.main_arg1) = m ((c.tc : Thread Cert.WeightGateReferenceIdeal.nD Cert.WeightGateReferenceIdeal.τ).loc Cert.WeightGateReferenceIdeal.main_arg1))
      ∧ r.2.sem = fun _ => 0)

def quiescent_WeightDown [hWeightDown : Cert.WeightDown.Facts] : Prop :=
  ∀ (m : (ℓ : Loc Cert.WeightDown.nD Cert.WeightDown.τ Cert.WeightDown.sig) → Buf (Elt Bits) ℓ) (g : Dev Cert.WeightDown.nD → PrngReg), Pre_WeightDown m →
    θ_run (Cert.WeightDown.defs (F := Bits)) (onTc (τ := Cert.WeightDown.τ) (Cert.WeightDown.main (F := Bits))) ⟨m, fun _ => 0, g⟩ (fun r => (∀ c : Dev Cert.WeightDown.nD,
      r.2.mem ((c.tc : Thread Cert.WeightDown.nD Cert.WeightDown.τ).loc Cert.WeightDown.main_arg0) = m ((c.tc : Thread Cert.WeightDown.nD Cert.WeightDown.τ).loc Cert.WeightDown.main_arg0)
      ∧ r.2.mem ((c.tc : Thread Cert.WeightDown.nD Cert.WeightDown.τ).loc Cert.WeightDown.main_arg1) = m ((c.tc : Thread Cert.WeightDown.nD Cert.WeightDown.τ).loc Cert.WeightDown.main_arg1))
      ∧ r.2.sem = fun _ => 0)

def quiescent_WeightDownIdeal [hWeightDownIdeal : Cert.WeightDownIdeal.Facts] : Prop :=
  ∀ (m : (ℓ : Loc Cert.WeightDownIdeal.nD Cert.WeightDownIdeal.τ Cert.WeightDownIdeal.sig) → Buf (Elt Ideal) ℓ) (g : Dev Cert.WeightDownIdeal.nD → PrngReg), Pre_WeightDownIdeal m →
    θ_run (Cert.WeightDownIdeal.defs (F := Ideal)) (onTc (τ := Cert.WeightDownIdeal.τ) (Cert.WeightDownIdeal.main (F := Ideal))) ⟨m, fun _ => 0, g⟩ (fun r => (∀ c : Dev Cert.WeightDownIdeal.nD,
      r.2.mem ((c.tc : Thread Cert.WeightDownIdeal.nD Cert.WeightDownIdeal.τ).loc Cert.WeightDownIdeal.main_arg0) = m ((c.tc : Thread Cert.WeightDownIdeal.nD Cert.WeightDownIdeal.τ).loc Cert.WeightDownIdeal.main_arg0)
      ∧ r.2.mem ((c.tc : Thread Cert.WeightDownIdeal.nD Cert.WeightDownIdeal.τ).loc Cert.WeightDownIdeal.main_arg1) = m ((c.tc : Thread Cert.WeightDownIdeal.nD Cert.WeightDownIdeal.τ).loc Cert.WeightDownIdeal.main_arg1))
      ∧ r.2.sem = fun _ => 0)

def quiescent_WeightDownReferenceIdeal [hWeightDownReferenceIdeal : Cert.WeightDownReferenceIdeal.Facts] : Prop :=
  ∀ (m : (ℓ : Loc Cert.WeightDownReferenceIdeal.nD Cert.WeightDownReferenceIdeal.τ Cert.WeightDownReferenceIdeal.sig) → Buf (Elt Ideal) ℓ) (g : Dev Cert.WeightDownReferenceIdeal.nD → PrngReg), Pre_WeightDownReferenceIdeal m →
    θ_run (Cert.WeightDownReferenceIdeal.defs (F := Ideal)) (onTc (τ := Cert.WeightDownReferenceIdeal.τ) (Cert.WeightDownReferenceIdeal.main (F := Ideal))) ⟨m, fun _ => 0, g⟩ (fun r => (∀ c : Dev Cert.WeightDownReferenceIdeal.nD,
      r.2.mem ((c.tc : Thread Cert.WeightDownReferenceIdeal.nD Cert.WeightDownReferenceIdeal.τ).loc Cert.WeightDownReferenceIdeal.main_arg0) = m ((c.tc : Thread Cert.WeightDownReferenceIdeal.nD Cert.WeightDownReferenceIdeal.τ).loc Cert.WeightDownReferenceIdeal.main_arg0)
      ∧ r.2.mem ((c.tc : Thread Cert.WeightDownReferenceIdeal.nD Cert.WeightDownReferenceIdeal.τ).loc Cert.WeightDownReferenceIdeal.main_arg1) = m ((c.tc : Thread Cert.WeightDownReferenceIdeal.nD Cert.WeightDownReferenceIdeal.τ).loc Cert.WeightDownReferenceIdeal.main_arg1))
      ∧ r.2.sem = fun _ => 0)

def quiescent_WeightOut [hWeightOut : Cert.WeightOut.Facts] : Prop :=
  ∀ (m : (ℓ : Loc Cert.WeightOut.nD Cert.WeightOut.τ Cert.WeightOut.sig) → Buf (Elt Bits) ℓ) (g : Dev Cert.WeightOut.nD → PrngReg), Pre_WeightOut m →
    θ_run (Cert.WeightOut.defs (F := Bits)) (onTc (τ := Cert.WeightOut.τ) (Cert.WeightOut.main (F := Bits))) ⟨m, fun _ => 0, g⟩ (fun r => (∀ c : Dev Cert.WeightOut.nD,
      r.2.mem ((c.tc : Thread Cert.WeightOut.nD Cert.WeightOut.τ).loc Cert.WeightOut.main_arg0) = m ((c.tc : Thread Cert.WeightOut.nD Cert.WeightOut.τ).loc Cert.WeightOut.main_arg0)
      ∧ r.2.mem ((c.tc : Thread Cert.WeightOut.nD Cert.WeightOut.τ).loc Cert.WeightOut.main_arg1) = m ((c.tc : Thread Cert.WeightOut.nD Cert.WeightOut.τ).loc Cert.WeightOut.main_arg1))
      ∧ r.2.sem = fun _ => 0)

def quiescent_WeightOutIdeal [hWeightOutIdeal : Cert.WeightOutIdeal.Facts] : Prop :=
  ∀ (m : (ℓ : Loc Cert.WeightOutIdeal.nD Cert.WeightOutIdeal.τ Cert.WeightOutIdeal.sig) → Buf (Elt Ideal) ℓ) (g : Dev Cert.WeightOutIdeal.nD → PrngReg), Pre_WeightOutIdeal m →
    θ_run (Cert.WeightOutIdeal.defs (F := Ideal)) (onTc (τ := Cert.WeightOutIdeal.τ) (Cert.WeightOutIdeal.main (F := Ideal))) ⟨m, fun _ => 0, g⟩ (fun r => (∀ c : Dev Cert.WeightOutIdeal.nD,
      r.2.mem ((c.tc : Thread Cert.WeightOutIdeal.nD Cert.WeightOutIdeal.τ).loc Cert.WeightOutIdeal.main_arg0) = m ((c.tc : Thread Cert.WeightOutIdeal.nD Cert.WeightOutIdeal.τ).loc Cert.WeightOutIdeal.main_arg0)
      ∧ r.2.mem ((c.tc : Thread Cert.WeightOutIdeal.nD Cert.WeightOutIdeal.τ).loc Cert.WeightOutIdeal.main_arg1) = m ((c.tc : Thread Cert.WeightOutIdeal.nD Cert.WeightOutIdeal.τ).loc Cert.WeightOutIdeal.main_arg1))
      ∧ r.2.sem = fun _ => 0)

def quiescent_WeightOutReferenceIdeal [hWeightOutReferenceIdeal : Cert.WeightOutReferenceIdeal.Facts] : Prop :=
  ∀ (m : (ℓ : Loc Cert.WeightOutReferenceIdeal.nD Cert.WeightOutReferenceIdeal.τ Cert.WeightOutReferenceIdeal.sig) → Buf (Elt Ideal) ℓ) (g : Dev Cert.WeightOutReferenceIdeal.nD → PrngReg), Pre_WeightOutReferenceIdeal m →
    θ_run (Cert.WeightOutReferenceIdeal.defs (F := Ideal)) (onTc (τ := Cert.WeightOutReferenceIdeal.τ) (Cert.WeightOutReferenceIdeal.main (F := Ideal))) ⟨m, fun _ => 0, g⟩ (fun r => (∀ c : Dev Cert.WeightOutReferenceIdeal.nD,
      r.2.mem ((c.tc : Thread Cert.WeightOutReferenceIdeal.nD Cert.WeightOutReferenceIdeal.τ).loc Cert.WeightOutReferenceIdeal.main_arg0) = m ((c.tc : Thread Cert.WeightOutReferenceIdeal.nD Cert.WeightOutReferenceIdeal.τ).loc Cert.WeightOutReferenceIdeal.main_arg0)
      ∧ r.2.mem ((c.tc : Thread Cert.WeightOutReferenceIdeal.nD Cert.WeightOutReferenceIdeal.τ).loc Cert.WeightOutReferenceIdeal.main_arg1) = m ((c.tc : Thread Cert.WeightOutReferenceIdeal.nD Cert.WeightOutReferenceIdeal.τ).loc Cert.WeightOutReferenceIdeal.main_arg1))
      ∧ r.2.sem = fun _ => 0)

def quiescent_WeightBranch [hWeightBranch : Cert.WeightBranch.Facts] : Prop :=
  ∀ (m : (ℓ : Loc Cert.WeightBranch.nD Cert.WeightBranch.τ Cert.WeightBranch.sig) → Buf (Elt Bits) ℓ) (g : Dev Cert.WeightBranch.nD → PrngReg), Pre_WeightBranch m →
    θ_run (Cert.WeightBranch.defs (F := Bits)) (onTc (τ := Cert.WeightBranch.τ) (Cert.WeightBranch.main (F := Bits))) ⟨m, fun _ => 0, g⟩ (fun r => (∀ c : Dev Cert.WeightBranch.nD,
      r.2.mem ((c.tc : Thread Cert.WeightBranch.nD Cert.WeightBranch.τ).loc Cert.WeightBranch.main_arg0) = m ((c.tc : Thread Cert.WeightBranch.nD Cert.WeightBranch.τ).loc Cert.WeightBranch.main_arg0)
      ∧ r.2.mem ((c.tc : Thread Cert.WeightBranch.nD Cert.WeightBranch.τ).loc Cert.WeightBranch.main_arg1) = m ((c.tc : Thread Cert.WeightBranch.nD Cert.WeightBranch.τ).loc Cert.WeightBranch.main_arg1))
      ∧ r.2.sem = fun _ => 0)

def quiescent_WeightBranchIdeal [hWeightBranchIdeal : Cert.WeightBranchIdeal.Facts] : Prop :=
  ∀ (m : (ℓ : Loc Cert.WeightBranchIdeal.nD Cert.WeightBranchIdeal.τ Cert.WeightBranchIdeal.sig) → Buf (Elt Ideal) ℓ) (g : Dev Cert.WeightBranchIdeal.nD → PrngReg), Pre_WeightBranchIdeal m →
    θ_run (Cert.WeightBranchIdeal.defs (F := Ideal)) (onTc (τ := Cert.WeightBranchIdeal.τ) (Cert.WeightBranchIdeal.main (F := Ideal))) ⟨m, fun _ => 0, g⟩ (fun r => (∀ c : Dev Cert.WeightBranchIdeal.nD,
      r.2.mem ((c.tc : Thread Cert.WeightBranchIdeal.nD Cert.WeightBranchIdeal.τ).loc Cert.WeightBranchIdeal.main_arg0) = m ((c.tc : Thread Cert.WeightBranchIdeal.nD Cert.WeightBranchIdeal.τ).loc Cert.WeightBranchIdeal.main_arg0)
      ∧ r.2.mem ((c.tc : Thread Cert.WeightBranchIdeal.nD Cert.WeightBranchIdeal.τ).loc Cert.WeightBranchIdeal.main_arg1) = m ((c.tc : Thread Cert.WeightBranchIdeal.nD Cert.WeightBranchIdeal.τ).loc Cert.WeightBranchIdeal.main_arg1))
      ∧ r.2.sem = fun _ => 0)

def quiescent_WeightBranchReferenceIdeal [hWeightBranchReferenceIdeal : Cert.WeightBranchReferenceIdeal.Facts] : Prop :=
  ∀ (m : (ℓ : Loc Cert.WeightBranchReferenceIdeal.nD Cert.WeightBranchReferenceIdeal.τ Cert.WeightBranchReferenceIdeal.sig) → Buf (Elt Ideal) ℓ) (g : Dev Cert.WeightBranchReferenceIdeal.nD → PrngReg), Pre_WeightBranchReferenceIdeal m →
    θ_run (Cert.WeightBranchReferenceIdeal.defs (F := Ideal)) (onTc (τ := Cert.WeightBranchReferenceIdeal.τ) (Cert.WeightBranchReferenceIdeal.main (F := Ideal))) ⟨m, fun _ => 0, g⟩ (fun r => (∀ c : Dev Cert.WeightBranchReferenceIdeal.nD,
      r.2.mem ((c.tc : Thread Cert.WeightBranchReferenceIdeal.nD Cert.WeightBranchReferenceIdeal.τ).loc Cert.WeightBranchReferenceIdeal.main_arg0) = m ((c.tc : Thread Cert.WeightBranchReferenceIdeal.nD Cert.WeightBranchReferenceIdeal.τ).loc Cert.WeightBranchReferenceIdeal.main_arg0)
      ∧ r.2.mem ((c.tc : Thread Cert.WeightBranchReferenceIdeal.nD Cert.WeightBranchReferenceIdeal.τ).loc Cert.WeightBranchReferenceIdeal.main_arg1) = m ((c.tc : Thread Cert.WeightBranchReferenceIdeal.nD Cert.WeightBranchReferenceIdeal.τ).loc Cert.WeightBranchReferenceIdeal.main_arg1))
      ∧ r.2.sem = fun _ => 0)

def quiescent_Channel [hChannel : Cert.Channel.Facts] : Prop :=
  ∀ (m : (ℓ : Loc Cert.Channel.nD Cert.Channel.τ Cert.Channel.sig) → Buf (Elt Bits) ℓ) (g : Dev Cert.Channel.nD → PrngReg), Pre_Channel m →
    θ_run (Cert.Channel.defs (F := Bits)) (onTc (τ := Cert.Channel.τ) (Cert.Channel.main (F := Bits))) ⟨m, fun _ => 0, g⟩ (fun r => (∀ c : Dev Cert.Channel.nD,
      r.2.mem ((c.tc : Thread Cert.Channel.nD Cert.Channel.τ).loc Cert.Channel.main_arg0) = m ((c.tc : Thread Cert.Channel.nD Cert.Channel.τ).loc Cert.Channel.main_arg0)
      ∧ r.2.mem ((c.tc : Thread Cert.Channel.nD Cert.Channel.τ).loc Cert.Channel.main_arg1) = m ((c.tc : Thread Cert.Channel.nD Cert.Channel.τ).loc Cert.Channel.main_arg1)
      ∧ r.2.mem ((c.tc : Thread Cert.Channel.nD Cert.Channel.τ).loc Cert.Channel.main_arg2) = m ((c.tc : Thread Cert.Channel.nD Cert.Channel.τ).loc Cert.Channel.main_arg2)
      ∧ r.2.mem ((c.tc : Thread Cert.Channel.nD Cert.Channel.τ).loc Cert.Channel.main_arg3) = m ((c.tc : Thread Cert.Channel.nD Cert.Channel.τ).loc Cert.Channel.main_arg3)
      ∧ r.2.mem ((c.tc : Thread Cert.Channel.nD Cert.Channel.τ).loc Cert.Channel.main_arg4) = m ((c.tc : Thread Cert.Channel.nD Cert.Channel.τ).loc Cert.Channel.main_arg4))
      ∧ r.2.sem = fun _ => 0)

def quiescent_ChannelIdeal [hChannelIdeal : Cert.ChannelIdeal.Facts] : Prop :=
  ∀ (m : (ℓ : Loc Cert.ChannelIdeal.nD Cert.ChannelIdeal.τ Cert.ChannelIdeal.sig) → Buf (Elt Ideal) ℓ) (g : Dev Cert.ChannelIdeal.nD → PrngReg), Pre_ChannelIdeal m →
    θ_run (Cert.ChannelIdeal.defs (F := Ideal)) (onTc (τ := Cert.ChannelIdeal.τ) (Cert.ChannelIdeal.main (F := Ideal))) ⟨m, fun _ => 0, g⟩ (fun r => (∀ c : Dev Cert.ChannelIdeal.nD,
      r.2.mem ((c.tc : Thread Cert.ChannelIdeal.nD Cert.ChannelIdeal.τ).loc Cert.ChannelIdeal.main_arg0) = m ((c.tc : Thread Cert.ChannelIdeal.nD Cert.ChannelIdeal.τ).loc Cert.ChannelIdeal.main_arg0)
      ∧ r.2.mem ((c.tc : Thread Cert.ChannelIdeal.nD Cert.ChannelIdeal.τ).loc Cert.ChannelIdeal.main_arg1) = m ((c.tc : Thread Cert.ChannelIdeal.nD Cert.ChannelIdeal.τ).loc Cert.ChannelIdeal.main_arg1)
      ∧ r.2.mem ((c.tc : Thread Cert.ChannelIdeal.nD Cert.ChannelIdeal.τ).loc Cert.ChannelIdeal.main_arg2) = m ((c.tc : Thread Cert.ChannelIdeal.nD Cert.ChannelIdeal.τ).loc Cert.ChannelIdeal.main_arg2)
      ∧ r.2.mem ((c.tc : Thread Cert.ChannelIdeal.nD Cert.ChannelIdeal.τ).loc Cert.ChannelIdeal.main_arg3) = m ((c.tc : Thread Cert.ChannelIdeal.nD Cert.ChannelIdeal.τ).loc Cert.ChannelIdeal.main_arg3)
      ∧ r.2.mem ((c.tc : Thread Cert.ChannelIdeal.nD Cert.ChannelIdeal.τ).loc Cert.ChannelIdeal.main_arg4) = m ((c.tc : Thread Cert.ChannelIdeal.nD Cert.ChannelIdeal.τ).loc Cert.ChannelIdeal.main_arg4))
      ∧ r.2.sem = fun _ => 0)

def quiescent_ChannelReferenceIdeal [hChannelReferenceIdeal : Cert.ChannelReferenceIdeal.Facts] : Prop :=
  ∀ (m : (ℓ : Loc Cert.ChannelReferenceIdeal.nD Cert.ChannelReferenceIdeal.τ Cert.ChannelReferenceIdeal.sig) → Buf (Elt Ideal) ℓ) (g : Dev Cert.ChannelReferenceIdeal.nD → PrngReg), Pre_ChannelReferenceIdeal m →
    θ_run (Cert.ChannelReferenceIdeal.defs (F := Ideal)) (onTc (τ := Cert.ChannelReferenceIdeal.τ) (Cert.ChannelReferenceIdeal.main (F := Ideal))) ⟨m, fun _ => 0, g⟩ (fun r => (∀ c : Dev Cert.ChannelReferenceIdeal.nD,
      r.2.mem ((c.tc : Thread Cert.ChannelReferenceIdeal.nD Cert.ChannelReferenceIdeal.τ).loc Cert.ChannelReferenceIdeal.main_arg0) = m ((c.tc : Thread Cert.ChannelReferenceIdeal.nD Cert.ChannelReferenceIdeal.τ).loc Cert.ChannelReferenceIdeal.main_arg0)
      ∧ r.2.mem ((c.tc : Thread Cert.ChannelReferenceIdeal.nD Cert.ChannelReferenceIdeal.τ).loc Cert.ChannelReferenceIdeal.main_arg1) = m ((c.tc : Thread Cert.ChannelReferenceIdeal.nD Cert.ChannelReferenceIdeal.τ).loc Cert.ChannelReferenceIdeal.main_arg1)
      ∧ r.2.mem ((c.tc : Thread Cert.ChannelReferenceIdeal.nD Cert.ChannelReferenceIdeal.τ).loc Cert.ChannelReferenceIdeal.main_arg2) = m ((c.tc : Thread Cert.ChannelReferenceIdeal.nD Cert.ChannelReferenceIdeal.τ).loc Cert.ChannelReferenceIdeal.main_arg2)
      ∧ r.2.mem ((c.tc : Thread Cert.ChannelReferenceIdeal.nD Cert.ChannelReferenceIdeal.τ).loc Cert.ChannelReferenceIdeal.main_arg3) = m ((c.tc : Thread Cert.ChannelReferenceIdeal.nD Cert.ChannelReferenceIdeal.τ).loc Cert.ChannelReferenceIdeal.main_arg3)
      ∧ r.2.mem ((c.tc : Thread Cert.ChannelReferenceIdeal.nD Cert.ChannelReferenceIdeal.τ).loc Cert.ChannelReferenceIdeal.main_arg4) = m ((c.tc : Thread Cert.ChannelReferenceIdeal.nD Cert.ChannelReferenceIdeal.τ).loc Cert.ChannelReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_MergeBackward [hMergeBackward : Cert.MergeBackward.Facts] : Prop :=
  ∀ (m : (ℓ : Loc Cert.MergeBackward.nD Cert.MergeBackward.τ Cert.MergeBackward.sig) → Buf (Elt Bits) ℓ) (g : Dev Cert.MergeBackward.nD → PrngReg), Pre_MergeBackward m →
    θ_run (Cert.MergeBackward.defs (F := Bits)) (onTc (τ := Cert.MergeBackward.τ) (Cert.MergeBackward.main (F := Bits))) ⟨m, fun _ => 0, g⟩ (fun r => (∀ c : Dev Cert.MergeBackward.nD,
      r.2.mem ((c.tc : Thread Cert.MergeBackward.nD Cert.MergeBackward.τ).loc Cert.MergeBackward.main_arg0) = m ((c.tc : Thread Cert.MergeBackward.nD Cert.MergeBackward.τ).loc Cert.MergeBackward.main_arg0)
      ∧ r.2.mem ((c.tc : Thread Cert.MergeBackward.nD Cert.MergeBackward.τ).loc Cert.MergeBackward.main_arg1) = m ((c.tc : Thread Cert.MergeBackward.nD Cert.MergeBackward.τ).loc Cert.MergeBackward.main_arg1)
      ∧ r.2.mem ((c.tc : Thread Cert.MergeBackward.nD Cert.MergeBackward.τ).loc Cert.MergeBackward.main_arg2) = m ((c.tc : Thread Cert.MergeBackward.nD Cert.MergeBackward.τ).loc Cert.MergeBackward.main_arg2)
      ∧ r.2.mem ((c.tc : Thread Cert.MergeBackward.nD Cert.MergeBackward.τ).loc Cert.MergeBackward.main_arg3) = m ((c.tc : Thread Cert.MergeBackward.nD Cert.MergeBackward.τ).loc Cert.MergeBackward.main_arg3)
      ∧ r.2.mem ((c.tc : Thread Cert.MergeBackward.nD Cert.MergeBackward.τ).loc Cert.MergeBackward.main_arg4) = m ((c.tc : Thread Cert.MergeBackward.nD Cert.MergeBackward.τ).loc Cert.MergeBackward.main_arg4)
      ∧ r.2.mem ((c.tc : Thread Cert.MergeBackward.nD Cert.MergeBackward.τ).loc Cert.MergeBackward.main_arg5) = m ((c.tc : Thread Cert.MergeBackward.nD Cert.MergeBackward.τ).loc Cert.MergeBackward.main_arg5)
      ∧ r.2.mem ((c.tc : Thread Cert.MergeBackward.nD Cert.MergeBackward.τ).loc Cert.MergeBackward.main_arg6) = m ((c.tc : Thread Cert.MergeBackward.nD Cert.MergeBackward.τ).loc Cert.MergeBackward.main_arg6)
      ∧ r.2.mem ((c.tc : Thread Cert.MergeBackward.nD Cert.MergeBackward.τ).loc Cert.MergeBackward.main_arg7) = m ((c.tc : Thread Cert.MergeBackward.nD Cert.MergeBackward.τ).loc Cert.MergeBackward.main_arg7))
      ∧ r.2.sem = fun _ => 0)

def quiescent_MergeBackwardIdeal [hMergeBackwardIdeal : Cert.MergeBackwardIdeal.Facts] : Prop :=
  ∀ (m : (ℓ : Loc Cert.MergeBackwardIdeal.nD Cert.MergeBackwardIdeal.τ Cert.MergeBackwardIdeal.sig) → Buf (Elt Ideal) ℓ) (g : Dev Cert.MergeBackwardIdeal.nD → PrngReg), Pre_MergeBackwardIdeal m →
    θ_run (Cert.MergeBackwardIdeal.defs (F := Ideal)) (onTc (τ := Cert.MergeBackwardIdeal.τ) (Cert.MergeBackwardIdeal.main (F := Ideal))) ⟨m, fun _ => 0, g⟩ (fun r => (∀ c : Dev Cert.MergeBackwardIdeal.nD,
      r.2.mem ((c.tc : Thread Cert.MergeBackwardIdeal.nD Cert.MergeBackwardIdeal.τ).loc Cert.MergeBackwardIdeal.main_arg0) = m ((c.tc : Thread Cert.MergeBackwardIdeal.nD Cert.MergeBackwardIdeal.τ).loc Cert.MergeBackwardIdeal.main_arg0)
      ∧ r.2.mem ((c.tc : Thread Cert.MergeBackwardIdeal.nD Cert.MergeBackwardIdeal.τ).loc Cert.MergeBackwardIdeal.main_arg1) = m ((c.tc : Thread Cert.MergeBackwardIdeal.nD Cert.MergeBackwardIdeal.τ).loc Cert.MergeBackwardIdeal.main_arg1)
      ∧ r.2.mem ((c.tc : Thread Cert.MergeBackwardIdeal.nD Cert.MergeBackwardIdeal.τ).loc Cert.MergeBackwardIdeal.main_arg2) = m ((c.tc : Thread Cert.MergeBackwardIdeal.nD Cert.MergeBackwardIdeal.τ).loc Cert.MergeBackwardIdeal.main_arg2)
      ∧ r.2.mem ((c.tc : Thread Cert.MergeBackwardIdeal.nD Cert.MergeBackwardIdeal.τ).loc Cert.MergeBackwardIdeal.main_arg3) = m ((c.tc : Thread Cert.MergeBackwardIdeal.nD Cert.MergeBackwardIdeal.τ).loc Cert.MergeBackwardIdeal.main_arg3)
      ∧ r.2.mem ((c.tc : Thread Cert.MergeBackwardIdeal.nD Cert.MergeBackwardIdeal.τ).loc Cert.MergeBackwardIdeal.main_arg4) = m ((c.tc : Thread Cert.MergeBackwardIdeal.nD Cert.MergeBackwardIdeal.τ).loc Cert.MergeBackwardIdeal.main_arg4)
      ∧ r.2.mem ((c.tc : Thread Cert.MergeBackwardIdeal.nD Cert.MergeBackwardIdeal.τ).loc Cert.MergeBackwardIdeal.main_arg5) = m ((c.tc : Thread Cert.MergeBackwardIdeal.nD Cert.MergeBackwardIdeal.τ).loc Cert.MergeBackwardIdeal.main_arg5)
      ∧ r.2.mem ((c.tc : Thread Cert.MergeBackwardIdeal.nD Cert.MergeBackwardIdeal.τ).loc Cert.MergeBackwardIdeal.main_arg6) = m ((c.tc : Thread Cert.MergeBackwardIdeal.nD Cert.MergeBackwardIdeal.τ).loc Cert.MergeBackwardIdeal.main_arg6)
      ∧ r.2.mem ((c.tc : Thread Cert.MergeBackwardIdeal.nD Cert.MergeBackwardIdeal.τ).loc Cert.MergeBackwardIdeal.main_arg7) = m ((c.tc : Thread Cert.MergeBackwardIdeal.nD Cert.MergeBackwardIdeal.τ).loc Cert.MergeBackwardIdeal.main_arg7))
      ∧ r.2.sem = fun _ => 0)

def quiescent_MergeBackwardReferenceIdeal [hMergeBackwardReferenceIdeal : Cert.MergeBackwardReferenceIdeal.Facts] : Prop :=
  ∀ (m : (ℓ : Loc Cert.MergeBackwardReferenceIdeal.nD Cert.MergeBackwardReferenceIdeal.τ Cert.MergeBackwardReferenceIdeal.sig) → Buf (Elt Ideal) ℓ) (g : Dev Cert.MergeBackwardReferenceIdeal.nD → PrngReg), Pre_MergeBackwardReferenceIdeal m →
    θ_run (Cert.MergeBackwardReferenceIdeal.defs (F := Ideal)) (onTc (τ := Cert.MergeBackwardReferenceIdeal.τ) (Cert.MergeBackwardReferenceIdeal.main (F := Ideal))) ⟨m, fun _ => 0, g⟩ (fun r => (∀ c : Dev Cert.MergeBackwardReferenceIdeal.nD,
      r.2.mem ((c.tc : Thread Cert.MergeBackwardReferenceIdeal.nD Cert.MergeBackwardReferenceIdeal.τ).loc Cert.MergeBackwardReferenceIdeal.main_arg0) = m ((c.tc : Thread Cert.MergeBackwardReferenceIdeal.nD Cert.MergeBackwardReferenceIdeal.τ).loc Cert.MergeBackwardReferenceIdeal.main_arg0)
      ∧ r.2.mem ((c.tc : Thread Cert.MergeBackwardReferenceIdeal.nD Cert.MergeBackwardReferenceIdeal.τ).loc Cert.MergeBackwardReferenceIdeal.main_arg1) = m ((c.tc : Thread Cert.MergeBackwardReferenceIdeal.nD Cert.MergeBackwardReferenceIdeal.τ).loc Cert.MergeBackwardReferenceIdeal.main_arg1)
      ∧ r.2.mem ((c.tc : Thread Cert.MergeBackwardReferenceIdeal.nD Cert.MergeBackwardReferenceIdeal.τ).loc Cert.MergeBackwardReferenceIdeal.main_arg2) = m ((c.tc : Thread Cert.MergeBackwardReferenceIdeal.nD Cert.MergeBackwardReferenceIdeal.τ).loc Cert.MergeBackwardReferenceIdeal.main_arg2)
      ∧ r.2.mem ((c.tc : Thread Cert.MergeBackwardReferenceIdeal.nD Cert.MergeBackwardReferenceIdeal.τ).loc Cert.MergeBackwardReferenceIdeal.main_arg3) = m ((c.tc : Thread Cert.MergeBackwardReferenceIdeal.nD Cert.MergeBackwardReferenceIdeal.τ).loc Cert.MergeBackwardReferenceIdeal.main_arg3)
      ∧ r.2.mem ((c.tc : Thread Cert.MergeBackwardReferenceIdeal.nD Cert.MergeBackwardReferenceIdeal.τ).loc Cert.MergeBackwardReferenceIdeal.main_arg4) = m ((c.tc : Thread Cert.MergeBackwardReferenceIdeal.nD Cert.MergeBackwardReferenceIdeal.τ).loc Cert.MergeBackwardReferenceIdeal.main_arg4)
      ∧ r.2.mem ((c.tc : Thread Cert.MergeBackwardReferenceIdeal.nD Cert.MergeBackwardReferenceIdeal.τ).loc Cert.MergeBackwardReferenceIdeal.main_arg5) = m ((c.tc : Thread Cert.MergeBackwardReferenceIdeal.nD Cert.MergeBackwardReferenceIdeal.τ).loc Cert.MergeBackwardReferenceIdeal.main_arg5)
      ∧ r.2.mem ((c.tc : Thread Cert.MergeBackwardReferenceIdeal.nD Cert.MergeBackwardReferenceIdeal.τ).loc Cert.MergeBackwardReferenceIdeal.main_arg6) = m ((c.tc : Thread Cert.MergeBackwardReferenceIdeal.nD Cert.MergeBackwardReferenceIdeal.τ).loc Cert.MergeBackwardReferenceIdeal.main_arg6)
      ∧ r.2.mem ((c.tc : Thread Cert.MergeBackwardReferenceIdeal.nD Cert.MergeBackwardReferenceIdeal.τ).loc Cert.MergeBackwardReferenceIdeal.main_arg7) = m ((c.tc : Thread Cert.MergeBackwardReferenceIdeal.nD Cert.MergeBackwardReferenceIdeal.τ).loc Cert.MergeBackwardReferenceIdeal.main_arg7))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1))
      ∧ r.2.sem = fun _ => 0)

def quiescent_ShiftReferenceIdeal [hShiftReferenceIdeal : Cert.ShiftReferenceIdeal.Facts] : Prop :=
  ∀ (m : (ℓ : Loc Cert.ShiftReferenceIdeal.nD Cert.ShiftReferenceIdeal.τ Cert.ShiftReferenceIdeal.sig) → Buf (Elt Ideal) ℓ) (g : Dev Cert.ShiftReferenceIdeal.nD → PrngReg), Pre_ShiftReferenceIdeal m →
    θ_run (Cert.ShiftReferenceIdeal.defs (F := Ideal)) (onTc (τ := Cert.ShiftReferenceIdeal.τ) (Cert.ShiftReferenceIdeal.main (F := Ideal))) ⟨m, fun _ => 0, g⟩ (fun r => (∀ c : Dev Cert.ShiftReferenceIdeal.nD,
      r.2.mem ((c.tc : Thread Cert.ShiftReferenceIdeal.nD Cert.ShiftReferenceIdeal.τ).loc Cert.ShiftReferenceIdeal.main_arg0) = m ((c.tc : Thread Cert.ShiftReferenceIdeal.nD Cert.ShiftReferenceIdeal.τ).loc Cert.ShiftReferenceIdeal.main_arg0)
      ∧ r.2.mem ((c.tc : Thread Cert.ShiftReferenceIdeal.nD Cert.ShiftReferenceIdeal.τ).loc Cert.ShiftReferenceIdeal.main_arg1) = m ((c.tc : Thread Cert.ShiftReferenceIdeal.nD Cert.ShiftReferenceIdeal.τ).loc Cert.ShiftReferenceIdeal.main_arg1))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4)
      ∧ r.2.mem ((c.tc : Thread Cert.Gating.nD Cert.Gating.τ).loc Cert.Gating.main_arg5) = m ((c.tc : Thread Cert.Gating.nD Cert.Gating.τ).loc Cert.Gating.main_arg5)
      ∧ r.2.mem ((c.tc : Thread Cert.Gating.nD Cert.Gating.τ).loc Cert.Gating.main_arg6) = m ((c.tc : Thread Cert.Gating.nD Cert.Gating.τ).loc Cert.Gating.main_arg6)
      ∧ r.2.mem ((c.tc : Thread Cert.Gating.nD Cert.Gating.τ).loc Cert.Gating.main_arg7) = m ((c.tc : Thread Cert.Gating.nD Cert.Gating.τ).loc Cert.Gating.main_arg7)
      ∧ r.2.mem ((c.tc : Thread Cert.Gating.nD Cert.Gating.τ).loc Cert.Gating.main_arg8) = m ((c.tc : Thread Cert.Gating.nD Cert.Gating.τ).loc Cert.Gating.main_arg8)
      ∧ r.2.mem ((c.tc : Thread Cert.Gating.nD Cert.Gating.τ).loc Cert.Gating.main_arg9) = m ((c.tc : Thread Cert.Gating.nD Cert.Gating.τ).loc Cert.Gating.main_arg9)
      ∧ r.2.mem ((c.tc : Thread Cert.Gating.nD Cert.Gating.τ).loc Cert.Gating.main_arg10) = m ((c.tc : Thread Cert.Gating.nD Cert.Gating.τ).loc Cert.Gating.main_arg10)
      ∧ r.2.mem ((c.tc : Thread Cert.Gating.nD Cert.Gating.τ).loc Cert.Gating.main_arg11) = m ((c.tc : Thread Cert.Gating.nD Cert.Gating.τ).loc Cert.Gating.main_arg11))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4)
      ∧ r.2.mem ((c.tc : Thread Cert.GatingIdeal.nD Cert.GatingIdeal.τ).loc Cert.GatingIdeal.main_arg5) = m ((c.tc : Thread Cert.GatingIdeal.nD Cert.GatingIdeal.τ).loc Cert.GatingIdeal.main_arg5)
      ∧ r.2.mem ((c.tc : Thread Cert.GatingIdeal.nD Cert.GatingIdeal.τ).loc Cert.GatingIdeal.main_arg6) = m ((c.tc : Thread Cert.GatingIdeal.nD Cert.GatingIdeal.τ).loc Cert.GatingIdeal.main_arg6)
      ∧ r.2.mem ((c.tc : Thread Cert.GatingIdeal.nD Cert.GatingIdeal.τ).loc Cert.GatingIdeal.main_arg7) = m ((c.tc : Thread Cert.GatingIdeal.nD Cert.GatingIdeal.τ).loc Cert.GatingIdeal.main_arg7)
      ∧ r.2.mem ((c.tc : Thread Cert.GatingIdeal.nD Cert.GatingIdeal.τ).loc Cert.GatingIdeal.main_arg8) = m ((c.tc : Thread Cert.GatingIdeal.nD Cert.GatingIdeal.τ).loc Cert.GatingIdeal.main_arg8)
      ∧ r.2.mem ((c.tc : Thread Cert.GatingIdeal.nD Cert.GatingIdeal.τ).loc Cert.GatingIdeal.main_arg9) = m ((c.tc : Thread Cert.GatingIdeal.nD Cert.GatingIdeal.τ).loc Cert.GatingIdeal.main_arg9)
      ∧ r.2.mem ((c.tc : Thread Cert.GatingIdeal.nD Cert.GatingIdeal.τ).loc Cert.GatingIdeal.main_arg10) = m ((c.tc : Thread Cert.GatingIdeal.nD Cert.GatingIdeal.τ).loc Cert.GatingIdeal.main_arg10)
      ∧ r.2.mem ((c.tc : Thread Cert.GatingIdeal.nD Cert.GatingIdeal.τ).loc Cert.GatingIdeal.main_arg11) = m ((c.tc : Thread Cert.GatingIdeal.nD Cert.GatingIdeal.τ).loc Cert.GatingIdeal.main_arg11))
      ∧ r.2.sem = fun _ => 0)

def quiescent_GatingReferenceIdeal [hGatingReferenceIdeal : Cert.GatingReferenceIdeal.Facts] : Prop :=
  ∀ (m : (ℓ : Loc Cert.GatingReferenceIdeal.nD Cert.GatingReferenceIdeal.τ Cert.GatingReferenceIdeal.sig) → Buf (Elt Ideal) ℓ) (g : Dev Cert.GatingReferenceIdeal.nD → PrngReg), Pre_GatingReferenceIdeal m →
    θ_run (Cert.GatingReferenceIdeal.defs (F := Ideal)) (onTc (τ := Cert.GatingReferenceIdeal.τ) (Cert.GatingReferenceIdeal.main (F := Ideal))) ⟨m, fun _ => 0, g⟩ (fun r => (∀ c : Dev Cert.GatingReferenceIdeal.nD,
      r.2.mem ((c.tc : Thread Cert.GatingReferenceIdeal.nD Cert.GatingReferenceIdeal.τ).loc Cert.GatingReferenceIdeal.main_arg0) = m ((c.tc : Thread Cert.GatingReferenceIdeal.nD Cert.GatingReferenceIdeal.τ).loc Cert.GatingReferenceIdeal.main_arg0)
      ∧ r.2.mem ((c.tc : Thread Cert.GatingReferenceIdeal.nD Cert.GatingReferenceIdeal.τ).loc Cert.GatingReferenceIdeal.main_arg1) = m ((c.tc : Thread Cert.GatingReferenceIdeal.nD Cert.GatingReferenceIdeal.τ).loc Cert.GatingReferenceIdeal.main_arg1)
      ∧ r.2.mem ((c.tc : Thread Cert.GatingReferenceIdeal.nD Cert.GatingReferenceIdeal.τ).loc Cert.GatingReferenceIdeal.main_arg2) = m ((c.tc : Thread Cert.GatingReferenceIdeal.nD Cert.GatingReferenceIdeal.τ).loc Cert.GatingReferenceIdeal.main_arg2)
      ∧ r.2.mem ((c.tc : Thread Cert.GatingReferenceIdeal.nD Cert.GatingReferenceIdeal.τ).loc Cert.GatingReferenceIdeal.main_arg3) = m ((c.tc : Thread Cert.GatingReferenceIdeal.nD Cert.GatingReferenceIdeal.τ).loc Cert.GatingReferenceIdeal.main_arg3)
      ∧ r.2.mem ((c.tc : Thread Cert.GatingReferenceIdeal.nD Cert.GatingReferenceIdeal.τ).loc Cert.GatingReferenceIdeal.main_arg4) = m ((c.tc : Thread Cert.GatingReferenceIdeal.nD Cert.GatingReferenceIdeal.τ).loc Cert.GatingReferenceIdeal.main_arg4)
      ∧ r.2.mem ((c.tc : Thread Cert.GatingReferenceIdeal.nD Cert.GatingReferenceIdeal.τ).loc Cert.GatingReferenceIdeal.main_arg5) = m ((c.tc : Thread Cert.GatingReferenceIdeal.nD Cert.GatingReferenceIdeal.τ).loc Cert.GatingReferenceIdeal.main_arg5)
      ∧ r.2.mem ((c.tc : Thread Cert.GatingReferenceIdeal.nD Cert.GatingReferenceIdeal.τ).loc Cert.GatingReferenceIdeal.main_arg6) = m ((c.tc : Thread Cert.GatingReferenceIdeal.nD Cert.GatingReferenceIdeal.τ).loc Cert.GatingReferenceIdeal.main_arg6)
      ∧ r.2.mem ((c.tc : Thread Cert.GatingReferenceIdeal.nD Cert.GatingReferenceIdeal.τ).loc Cert.GatingReferenceIdeal.main_arg7) = m ((c.tc : Thread Cert.GatingReferenceIdeal.nD Cert.GatingReferenceIdeal.τ).loc Cert.GatingReferenceIdeal.main_arg7)
      ∧ r.2.mem ((c.tc : Thread Cert.GatingReferenceIdeal.nD Cert.GatingReferenceIdeal.τ).loc Cert.GatingReferenceIdeal.main_arg8) = m ((c.tc : Thread Cert.GatingReferenceIdeal.nD Cert.GatingReferenceIdeal.τ).loc Cert.GatingReferenceIdeal.main_arg8)
      ∧ r.2.mem ((c.tc : Thread Cert.GatingReferenceIdeal.nD Cert.GatingReferenceIdeal.τ).loc Cert.GatingReferenceIdeal.main_arg9) = m ((c.tc : Thread Cert.GatingReferenceIdeal.nD Cert.GatingReferenceIdeal.τ).loc Cert.GatingReferenceIdeal.main_arg9)
      ∧ r.2.mem ((c.tc : Thread Cert.GatingReferenceIdeal.nD Cert.GatingReferenceIdeal.τ).loc Cert.GatingReferenceIdeal.main_arg10) = m ((c.tc : Thread Cert.GatingReferenceIdeal.nD Cert.GatingReferenceIdeal.τ).loc Cert.GatingReferenceIdeal.main_arg10)
      ∧ r.2.mem ((c.tc : Thread Cert.GatingReferenceIdeal.nD Cert.GatingReferenceIdeal.τ).loc Cert.GatingReferenceIdeal.main_arg11) = m ((c.tc : Thread Cert.GatingReferenceIdeal.nD Cert.GatingReferenceIdeal.τ).loc Cert.GatingReferenceIdeal.main_arg11))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 36880, 128]⟩ ⟨3, ![64, 36880, 128]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨2, ![2208, 128]⟩ ⟨2, ![17664, 128]⟩ 0 8 c (m' (((0 : Dev Cert.Reference.nD).tc : Thread Cert.Reference.nD Cert.Reference.τ).loc Cert.Reference.main_arg1))) →
    ∃ (v0 : Buf (Elt Bits) (((0 : Dev Cert.Reference.nD).tc : Thread Cert.Reference.nD Cert.Reference.τ).loc Cert.Reference.main_v4)) (v1 : Buf (Elt Bits) (((0 : Dev Cert.Reference.nD).tc : Thread Cert.Reference.nD Cert.Reference.τ).loc Cert.Reference.main_v5)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.block ⟨3, ![8, 36880, 128]⟩ ⟨3, ![64, 36880, 128]⟩ 0 8 c v0
          ∧ r.2.mem ((c.tc : Thread Cert.Kernel.nD Cert.Kernel.τ).loc Cert.Kernel.main_v1_1) = Layout.block ⟨3, ![8, 2208, 128]⟩ ⟨3, ![64, 2208, 128]⟩ 0 8 c v1
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v4) = v0
          ∧ r.2.mem (((0 : Dev Cert.Reference.nD).tc : Thread Cert.Reference.nD Cert.Reference.τ).loc Cert.Reference.main_v5) = v1
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 36880, 128]⟩ ⟨3, ![64, 36880, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2208, 128]⟩ ⟨2, ![17664, 128]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)) (v1 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![8, 36880, 128]⟩ ⟨3, ![64, 36880, 128]⟩ 0 8 c v0
          ∧ r.2.mem ((c.tc : Thread Cert.KernelIdeal.nD Cert.KernelIdeal.τ).loc Cert.KernelIdeal.main_v1_1) = Layout.block ⟨3, ![8, 2208, 128]⟩ ⟨3, ![64, 2208, 128]⟩ 0 8 c v1
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def preserves_Gather_GatherIdeal : Prop :=
  True

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.block ⟨2, ![9216, 512]⟩ ⟨2, ![73728, 512]⟩ 0 8 c (m' (((0 : Dev Cert.GatherReference.nD).tc : Thread Cert.GatherReference.nD Cert.GatherReference.τ).loc Cert.GatherReference.main_arg0))
      ∧ m ((c.tc : Thread Cert.Gather.nD Cert.Gather.τ).loc Cert.Gather.main_arg1) = Layout.block ⟨2, ![16, 512]⟩ ⟨2, ![128, 512]⟩ 0 8 c (m' (((0 : Dev Cert.GatherReference.nD).tc : Thread Cert.GatherReference.nD Cert.GatherReference.τ).loc Cert.GatherReference.main_arg1))) →
    ∃ (v0 : Buf (Elt Bits) (((0 : Dev Cert.GatherReference.nD).tc : Thread Cert.GatherReference.nD Cert.GatherReference.τ).loc Cert.GatherReference.main_v2)) (v1 : Buf (Elt Bits) (((0 : Dev Cert.GatherReference.nD).tc : Thread Cert.GatherReference.nD Cert.GatherReference.τ).loc Cert.GatherReference.main_v5)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = Layout.block ⟨3, ![8, 9216, 512]⟩ ⟨3, ![64, 9216, 512]⟩ 0 8 c v0
          ∧ r.2.mem ((c.tc : Thread Cert.Gather.nD Cert.Gather.τ).loc Cert.Gather.main_v1_1) = Layout.block ⟨3, ![8, 16, 512]⟩ ⟨3, ![64, 16, 512]⟩ 0 8 c v1
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v2) = v0
          ∧ r.2.mem (((0 : Dev Cert.GatherReference.nD).tc : Thread Cert.GatherReference.nD Cert.GatherReference.τ).loc Cert.GatherReference.main_v5) = v1
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0)
          ∧ r.2.mem (((0 : Dev Cert.GatherReference.nD).tc : Thread Cert.GatherReference.nD Cert.GatherReference.τ).loc Cert.GatherReference.main_arg1) = m' (((0 : Dev Cert.GatherReference.nD).tc : Thread Cert.GatherReference.nD Cert.GatherReference.τ).loc Cert.GatherReference.main_arg1))

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![9216, 512]⟩ ⟨2, ![73728, 512]⟩ 0 8 c (m' (((0 : Dev Cert.GatherReferenceIdeal.nD).tc : Thread Cert.GatherReferenceIdeal.nD Cert.GatherReferenceIdeal.τ).loc Cert.GatherReferenceIdeal.main_arg0))
      ∧ m ((c.tc : Thread Cert.GatherIdeal.nD Cert.GatherIdeal.τ).loc Cert.GatherIdeal.main_arg1) = Layout.block ⟨2, ![16, 512]⟩ ⟨2, ![128, 512]⟩ 0 8 c (m' (((0 : Dev Cert.GatherReferenceIdeal.nD).tc : Thread Cert.GatherReferenceIdeal.nD Cert.GatherReferenceIdeal.τ).loc Cert.GatherReferenceIdeal.main_arg1))) →
    ∃ (v0 : Buf (Elt Ideal) (((0 : Dev Cert.GatherReferenceIdeal.nD).tc : Thread Cert.GatherReferenceIdeal.nD Cert.GatherReferenceIdeal.τ).loc Cert.GatherReferenceIdeal.main_v2)) (v1 : Buf (Elt Ideal) (((0 : Dev Cert.GatherReferenceIdeal.nD).tc : Thread Cert.GatherReferenceIdeal.nD Cert.GatherReferenceIdeal.τ).loc Cert.GatherReferenceIdeal.main_v5)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = Layout.block ⟨3, ![8, 9216, 512]⟩ ⟨3, ![64, 9216, 512]⟩ 0 8 c v0
          ∧ r.2.mem ((c.tc : Thread Cert.GatherIdeal.nD Cert.GatherIdeal.τ).loc Cert.GatherIdeal.main_v1_1) = Layout.block ⟨3, ![8, 16, 512]⟩ ⟨3, ![64, 16, 512]⟩ 0 8 c v1
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v2) = v0
          ∧ r.2.mem (((0 : Dev Cert.GatherReferenceIdeal.nD).tc : Thread Cert.GatherReferenceIdeal.nD Cert.GatherReferenceIdeal.τ).loc Cert.GatherReferenceIdeal.main_v5) = v1
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1))

def preserves_AdamwIn_AdamwInIdeal : Prop :=
  True

def algebraic_AdamwInIdeal_AdamwReferenceInIdeal [hAdamwInIdeal : Cert.AdamwInIdeal.Facts] [hAdamwReferenceInIdeal : Cert.AdamwReferenceInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwReferenceInIdeal.nD Cert.AdamwReferenceInIdeal.τ Cert.AdamwReferenceInIdeal.sig) → Buf (Elt Ideal) ℓ) (g' : Dev Cert.AdamwReferenceInIdeal.nD → PrngReg), Pre_AdamwInIdeal m →
    (∀ c : Dev Cert.AdamwInIdeal.nD,
      m' ((c.tc : Thread Cert.AdamwReferenceInIdeal.nD Cert.AdamwReferenceInIdeal.τ).loc Cert.AdamwReferenceInIdeal.main_arg0) = m ((c.tc : Thread Cert.AdamwInIdeal.nD Cert.AdamwInIdeal.τ).loc Cert.AdamwInIdeal.main_arg0)
      ∧ m' ((c.tc : Thread Cert.AdamwReferenceInIdeal.nD Cert.AdamwReferenceInIdeal.τ).loc Cert.AdamwReferenceInIdeal.main_arg1) = m ((c.tc : Thread Cert.AdamwInIdeal.nD Cert.AdamwInIdeal.τ).loc Cert.AdamwInIdeal.main_arg1)
      ∧ m' ((c.tc : Thread Cert.AdamwReferenceInIdeal.nD Cert.AdamwReferenceInIdeal.τ).loc Cert.AdamwReferenceInIdeal.main_arg2) = m ((c.tc : Thread Cert.AdamwInIdeal.nD Cert.AdamwInIdeal.τ).loc Cert.AdamwInIdeal.main_arg2)
      ∧ m' ((c.tc : Thread Cert.AdamwReferenceInIdeal.nD Cert.AdamwReferenceInIdeal.τ).loc Cert.AdamwReferenceInIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwReferenceInIdeal.defs (F := Ideal)) (onTc (τ := Cert.AdamwReferenceInIdeal.τ) (Cert.AdamwReferenceInIdeal.main (F := Ideal))) ⟨m', fun _ => 0, g'⟩ (fun r => ∀ c : Dev Cert.AdamwReferenceInIdeal.nD,
          r.2.mem ((c.tc : Thread Cert.AdamwReferenceInIdeal.nD Cert.AdamwReferenceInIdeal.τ).loc Cert.AdamwReferenceInIdeal.main_v23) = v0 c
          ∧ r.2.mem ((c.tc : Thread Cert.AdamwReferenceInIdeal.nD Cert.AdamwReferenceInIdeal.τ).loc Cert.AdamwReferenceInIdeal.main_v4) = v1 c
          ∧ r.2.mem ((c.tc : Thread Cert.AdamwReferenceInIdeal.nD Cert.AdamwReferenceInIdeal.τ).loc Cert.AdamwReferenceInIdeal.main_v10) = v2 c
          ∧ r.2.mem ((c.tc : Thread Cert.AdamwReferenceInIdeal.nD Cert.AdamwReferenceInIdeal.τ).loc Cert.AdamwReferenceInIdeal.main_arg0) = m' ((c.tc : Thread Cert.AdamwReferenceInIdeal.nD Cert.AdamwReferenceInIdeal.τ).loc Cert.AdamwReferenceInIdeal.main_arg0)
          ∧ r.2.mem ((c.tc : Thread Cert.AdamwReferenceInIdeal.nD Cert.AdamwReferenceInIdeal.τ).loc Cert.AdamwReferenceInIdeal.main_arg1) = m' ((c.tc : Thread Cert.AdamwReferenceInIdeal.nD Cert.AdamwReferenceInIdeal.τ).loc Cert.AdamwReferenceInIdeal.main_arg1)
          ∧ r.2.mem ((c.tc : Thread Cert.AdamwReferenceInIdeal.nD Cert.AdamwReferenceInIdeal.τ).loc Cert.AdamwReferenceInIdeal.main_arg2) = m' ((c.tc : Thread Cert.AdamwReferenceInIdeal.nD Cert.AdamwReferenceInIdeal.τ).loc Cert.AdamwReferenceInIdeal.main_arg2)
          ∧ r.2.mem ((c.tc : Thread Cert.AdamwReferenceInIdeal.nD Cert.AdamwReferenceInIdeal.τ).loc Cert.AdamwReferenceInIdeal.main_arg3) = m' ((c.tc : Thread Cert.AdamwReferenceInIdeal.nD Cert.AdamwReferenceInIdeal.τ).loc Cert.AdamwReferenceInIdeal.main_arg3))

def preserves_AdamwSg_AdamwSgIdeal : Prop :=
  True

def algebraic_AdamwSgIdeal_AdamwReferenceSgIdeal [hAdamwSgIdeal : Cert.AdamwSgIdeal.Facts] [hAdamwReferenceSgIdeal : Cert.AdamwReferenceSgIdeal.Facts] : Prop :=
  ∀ (m : (ℓ : Loc Cert.AdamwSgIdeal.nD Cert.AdamwSgIdeal.τ Cert.AdamwSgIdeal.sig) → Buf (Elt Ideal) ℓ) (g : Dev Cert.AdamwSgIdeal.nD → PrngReg)
    (m' : (ℓ : Loc Cert.AdamwReferenceSgIdeal.nD Cert.AdamwReferenceSgIdeal.τ Cert.AdamwReferenceSgIdeal.sig) → Buf (Elt Ideal) ℓ) (g' : Dev Cert.AdamwReferenceSgIdeal.nD → PrngReg), Pre_AdamwSgIdeal m →
    (∀ c : Dev Cert.AdamwSgIdeal.nD,
      m' ((c.tc : Thread Cert.AdamwReferenceSgIdeal.nD Cert.AdamwReferenceSgIdeal.τ).loc Cert.AdamwReferenceSgIdeal.main_arg0) = m ((c.tc : Thread Cert.AdamwSgIdeal.nD Cert.AdamwSgIdeal.τ).loc Cert.AdamwSgIdeal.main_arg0)
      ∧ m' ((c.tc : Thread Cert.AdamwReferenceSgIdeal.nD Cert.AdamwReferenceSgIdeal.τ).loc Cert.AdamwReferenceSgIdeal.main_arg1) = m ((c.tc : Thread Cert.AdamwSgIdeal.nD Cert.AdamwSgIdeal.τ).loc Cert.AdamwSgIdeal.main_arg1)
      ∧ m' ((c.tc : Thread Cert.AdamwReferenceSgIdeal.nD Cert.AdamwReferenceSgIdeal.τ).loc Cert.AdamwReferenceSgIdeal.main_arg2) = m ((c.tc : Thread Cert.AdamwSgIdeal.nD Cert.AdamwSgIdeal.τ).loc Cert.AdamwSgIdeal.main_arg2)
      ∧ m' ((c.tc : Thread Cert.AdamwReferenceSgIdeal.nD Cert.AdamwReferenceSgIdeal.τ).loc Cert.AdamwReferenceSgIdeal.main_arg3) = m ((c.tc : Thread Cert.AdamwSgIdeal.nD Cert.AdamwSgIdeal.τ).loc Cert.AdamwSgIdeal.main_arg3)) →
    ∃ (v0 : (c : Dev Cert.AdamwSgIdeal.nD) → Buf (Elt Ideal) ((c.tc : Thread Cert.AdamwSgIdeal.nD Cert.AdamwSgIdeal.τ).loc Cert.AdamwSgIdeal.main_v0_0)) (v1 : (c : Dev Cert.AdamwSgIdeal.nD) → Buf (Elt Ideal) ((c.tc : Thread Cert.AdamwSgIdeal.nD Cert.AdamwSgIdeal.τ).loc Cert.AdamwSgIdeal.main_v0_1)) (v2 : (c : Dev Cert.AdamwSgIdeal.nD) → Buf (Elt Ideal) ((c.tc : Thread Cert.AdamwSgIdeal.nD Cert.AdamwSgIdeal.τ).loc Cert.AdamwSgIdeal.main_v0_2)),
      θ_run (Cert.AdamwSgIdeal.defs (F := Ideal)) (onTc (τ := Cert.AdamwSgIdeal.τ) (Cert.AdamwSgIdeal.main (F := Ideal))) ⟨m, fun _ => 0, g⟩ (fun r => ∀ c : Dev Cert.AdamwSgIdeal.nD,
          r.2.mem ((c.tc : Thread Cert.AdamwSgIdeal.nD Cert.AdamwSgIdeal.τ).loc Cert.AdamwSgIdeal.main_v0_0) = v0 c
          ∧ r.2.mem ((c.tc : Thread Cert.AdamwSgIdeal.nD Cert.AdamwSgIdeal.τ).loc Cert.AdamwSgIdeal.main_v0_1) = v1 c
          ∧ r.2.mem ((c.tc : Thread Cert.AdamwSgIdeal.nD Cert.AdamwSgIdeal.τ).loc Cert.AdamwSgIdeal.main_v0_2) = v2 c
          ∧ r.2.mem ((c.tc : Thread Cert.AdamwSgIdeal.nD Cert.AdamwSgIdeal.τ).loc Cert.AdamwSgIdeal.main_arg0) = m ((c.tc : Thread Cert.AdamwSgIdeal.nD Cert.AdamwSgIdeal.τ).loc Cert.AdamwSgIdeal.main_arg0)
          ∧ r.2.mem ((c.tc : Thread Cert.AdamwSgIdeal.nD Cert.AdamwSgIdeal.τ).loc Cert.AdamwSgIdeal.main_arg1) = m ((c.tc : Thread Cert.AdamwSgIdeal.nD Cert.AdamwSgIdeal.τ).loc Cert.AdamwSgIdeal.main_arg1)
          ∧ r.2.mem ((c.tc : Thread Cert.AdamwSgIdeal.nD Cert.AdamwSgIdeal.τ).loc Cert.AdamwSgIdeal.main_arg2) = m ((c.tc : Thread Cert.AdamwSgIdeal.nD Cert.AdamwSgIdeal.τ).loc Cert.AdamwSgIdeal.main_arg2)
          ∧ r.2.mem ((c.tc : Thread Cert.AdamwSgIdeal.nD Cert.AdamwSgIdeal.τ).loc Cert.AdamwSgIdeal.main_arg3) = m ((c.tc : Thread Cert.AdamwSgIdeal.nD Cert.AdamwSgIdeal.τ).loc Cert.AdamwSgIdeal.main_arg3))
      ∧ θ_run (Cert.AdamwReferenceSgIdeal.defs (F := Ideal)) (onTc (τ := Cert.AdamwReferenceSgIdeal.τ) (Cert.AdamwReferenceSgIdeal.main (F := Ideal))) ⟨m', fun _ => 0, g'⟩ (fun r => ∀ c : Dev Cert.AdamwReferenceSgIdeal.nD,
          r.2.mem ((c.tc : Thread Cert.AdamwReferenceSgIdeal.nD Cert.AdamwReferenceSgIdeal.τ).loc Cert.AdamwReferenceSgIdeal.main_v23) = v0 c
          ∧ r.2.mem ((c.tc : Thread Cert.AdamwReferenceSgIdeal.nD Cert.AdamwReferenceSgIdeal.τ).loc Cert.AdamwReferenceSgIdeal.main_v4) = v1 c
          ∧ r.2.mem ((c.tc : Thread Cert.AdamwReferenceSgIdeal.nD Cert.AdamwReferenceSgIdeal.τ).loc Cert.AdamwReferenceSgIdeal.main_v10) = v2 c
          ∧ r.2.mem ((c.tc : Thread Cert.AdamwReferenceSgIdeal.nD Cert.AdamwReferenceSgIdeal.τ).loc Cert.AdamwReferenceSgIdeal.main_arg0) = m' ((c.tc : Thread Cert.AdamwReferenceSgIdeal.nD Cert.AdamwReferenceSgIdeal.τ).loc Cert.AdamwReferenceSgIdeal.main_arg0)
          ∧ r.2.mem ((c.tc : Thread Cert.AdamwReferenceSgIdeal.nD Cert.AdamwReferenceSgIdeal.τ).loc Cert.AdamwReferenceSgIdeal.main_arg1) = m' ((c.tc : Thread Cert.AdamwReferenceSgIdeal.nD Cert.AdamwReferenceSgIdeal.τ).loc Cert.AdamwReferenceSgIdeal.main_arg1)
          ∧ r.2.mem ((c.tc : Thread Cert.AdamwReferenceSgIdeal.nD Cert.AdamwReferenceSgIdeal.τ).loc Cert.AdamwReferenceSgIdeal.main_arg2) = m' ((c.tc : Thread Cert.AdamwReferenceSgIdeal.nD Cert.AdamwReferenceSgIdeal.τ).loc Cert.AdamwReferenceSgIdeal.main_arg2)
          ∧ r.2.mem ((c.tc : Thread Cert.AdamwReferenceSgIdeal.nD Cert.AdamwReferenceSgIdeal.τ).loc Cert.AdamwReferenceSgIdeal.main_arg3) = m' ((c.tc : Thread Cert.AdamwReferenceSgIdeal.nD Cert.AdamwReferenceSgIdeal.τ).loc Cert.AdamwReferenceSgIdeal.main_arg3))

def preserves_AdamwBranch_AdamwBranchIdeal : Prop :=
  True

def algebraic_AdamwBranchIdeal_AdamwReferenceBranchIdeal [hAdamwBranchIdeal : Cert.AdamwBranchIdeal.Facts] [hAdamwReferenceBranchIdeal : Cert.AdamwReferenceBranchIdeal.Facts] : Prop :=
  ∀ (m : (ℓ : Loc Cert.AdamwBranchIdeal.nD Cert.AdamwBranchIdeal.τ Cert.AdamwBranchIdeal.sig) → Buf (Elt Ideal) ℓ) (g : Dev Cert.AdamwBranchIdeal.nD → PrngReg)
    (m' : (ℓ : Loc Cert.AdamwReferenceBranchIdeal.nD Cert.AdamwReferenceBranchIdeal.τ Cert.AdamwReferenceBranchIdeal.sig) → Buf (Elt Ideal) ℓ) (g' : Dev Cert.AdamwReferenceBranchIdeal.nD → PrngReg), Pre_AdamwBranchIdeal m →
    (∀ c : Dev Cert.AdamwBranchIdeal.nD,
      m' ((c.tc : Thread Cert.AdamwReferenceBranchIdeal.nD Cert.AdamwReferenceBranchIdeal.τ).loc Cert.AdamwReferenceBranchIdeal.main_arg0) = m ((c.tc : Thread Cert.AdamwBranchIdeal.nD Cert.AdamwBranchIdeal.τ).loc Cert.AdamwBranchIdeal.main_arg0)
      ∧ m' ((c.tc : Thread Cert.AdamwReferenceBranchIdeal.nD Cert.AdamwReferenceBranchIdeal.τ).loc Cert.AdamwReferenceBranchIdeal.main_arg1) = m ((c.tc : Thread Cert.AdamwBranchIdeal.nD Cert.AdamwBranchIdeal.τ).loc Cert.AdamwBranchIdeal.main_arg1)
      ∧ m' ((c.tc : Thread Cert.AdamwReferenceBranchIdeal.nD Cert.AdamwReferenceBranchIdeal.τ).loc Cert.AdamwReferenceBranchIdeal.main_arg2) = m ((c.tc : Thread Cert.AdamwBranchIdeal.nD Cert.AdamwBranchIdeal.τ).loc Cert.AdamwBranchIdeal.main_arg2)
      ∧ m' ((c.tc : Thread Cert.AdamwReferenceBranchIdeal.nD Cert.AdamwReferenceBranchIdeal.τ).loc Cert.AdamwReferenceBranchIdeal.main_arg3) = m ((c.tc : Thread Cert.AdamwBranchIdeal.nD Cert.AdamwBranchIdeal.τ).loc Cert.AdamwBranchIdeal.main_arg3)) →
    ∃ (v0 : (c : Dev Cert.AdamwBranchIdeal.nD) → Buf (Elt Ideal) ((c.tc : Thread Cert.AdamwBranchIdeal.nD Cert.AdamwBranchIdeal.τ).loc Cert.AdamwBranchIdeal.main_v0_0)) (v1 : (c : Dev Cert.AdamwBranchIdeal.nD) → Buf (Elt Ideal) ((c.tc : Thread Cert.AdamwBranchIdeal.nD Cert.AdamwBranchIdeal.τ).loc Cert.AdamwBranchIdeal.main_v0_1)) (v2 : (c : Dev Cert.AdamwBranchIdeal.nD) → Buf (Elt Ideal) ((c.tc : Thread Cert.AdamwBranchIdeal.nD Cert.AdamwBranchIdeal.τ).loc Cert.AdamwBranchIdeal.main_v0_2)),
      θ_run (Cert.AdamwBranchIdeal.defs (F := Ideal)) (onTc (τ := Cert.AdamwBranchIdeal.τ) (Cert.AdamwBranchIdeal.main (F := Ideal))) ⟨m, fun _ => 0, g⟩ (fun r => ∀ c : Dev Cert.AdamwBranchIdeal.nD,
          r.2.mem ((c.tc : Thread Cert.AdamwBranchIdeal.nD Cert.AdamwBranchIdeal.τ).loc Cert.AdamwBranchIdeal.main_v0_0) = v0 c
          ∧ r.2.mem ((c.tc : Thread Cert.AdamwBranchIdeal.nD Cert.AdamwBranchIdeal.τ).loc Cert.AdamwBranchIdeal.main_v0_1) = v1 c
          ∧ r.2.mem ((c.tc : Thread Cert.AdamwBranchIdeal.nD Cert.AdamwBranchIdeal.τ).loc Cert.AdamwBranchIdeal.main_v0_2) = v2 c
          ∧ r.2.mem ((c.tc : Thread Cert.AdamwBranchIdeal.nD Cert.AdamwBranchIdeal.τ).loc Cert.AdamwBranchIdeal.main_arg0) = m ((c.tc : Thread Cert.AdamwBranchIdeal.nD Cert.AdamwBranchIdeal.τ).loc Cert.AdamwBranchIdeal.main_arg0)
          ∧ r.2.mem ((c.tc : Thread Cert.AdamwBranchIdeal.nD Cert.AdamwBranchIdeal.τ).loc Cert.AdamwBranchIdeal.main_arg1) = m ((c.tc : Thread Cert.AdamwBranchIdeal.nD Cert.AdamwBranchIdeal.τ).loc Cert.AdamwBranchIdeal.main_arg1)
          ∧ r.2.mem ((c.tc : Thread Cert.AdamwBranchIdeal.nD Cert.AdamwBranchIdeal.τ).loc Cert.AdamwBranchIdeal.main_arg2) = m ((c.tc : Thread Cert.AdamwBranchIdeal.nD Cert.AdamwBranchIdeal.τ).loc Cert.AdamwBranchIdeal.main_arg2)
          ∧ r.2.mem ((c.tc : Thread Cert.AdamwBranchIdeal.nD Cert.AdamwBranchIdeal.τ).loc Cert.AdamwBranchIdeal.main_arg3) = m ((c.tc : Thread Cert.AdamwBranchIdeal.nD Cert.AdamwBranchIdeal.τ).loc Cert.AdamwBranchIdeal.main_arg3))
      ∧ θ_run (Cert.AdamwReferenceBranchIdeal.defs (F := Ideal)) (onTc (τ := Cert.AdamwReferenceBranchIdeal.τ) (Cert.AdamwReferenceBranchIdeal.main (F := Ideal))) ⟨m', fun _ => 0, g'⟩ (fun r => ∀ c : Dev Cert.AdamwReferenceBranchIdeal.nD,
          r.2.mem ((c.tc : Thread Cert.AdamwReferenceBranchIdeal.nD Cert.AdamwReferenceBranchIdeal.τ).loc Cert.AdamwReferenceBranchIdeal.main_v23) = v0 c
          ∧ r.2.mem ((c.tc : Thread Cert.AdamwReferenceBranchIdeal.nD Cert.AdamwReferenceBranchIdeal.τ).loc Cert.AdamwReferenceBranchIdeal.main_v4) = v1 c
          ∧ r.2.mem ((c.tc : Thread Cert.AdamwReferenceBranchIdeal.nD Cert.AdamwReferenceBranchIdeal.τ).loc Cert.AdamwReferenceBranchIdeal.main_v10) = v2 c
          ∧ r.2.mem ((c.tc : Thread Cert.AdamwReferenceBranchIdeal.nD Cert.AdamwReferenceBranchIdeal.τ).loc Cert.AdamwReferenceBranchIdeal.main_arg0) = m' ((c.tc : Thread Cert.AdamwReferenceBranchIdeal.nD Cert.AdamwReferenceBranchIdeal.τ).loc Cert.AdamwReferenceBranchIdeal.main_arg0)
          ∧ r.2.mem ((c.tc : Thread Cert.AdamwReferenceBranchIdeal.nD Cert.AdamwReferenceBranchIdeal.τ).loc Cert.AdamwReferenceBranchIdeal.main_arg1) = m' ((c.tc : Thread Cert.AdamwReferenceBranchIdeal.nD Cert.AdamwReferenceBranchIdeal.τ).loc Cert.AdamwReferenceBranchIdeal.main_arg1)
          ∧ r.2.mem ((c.tc : Thread Cert.AdamwReferenceBranchIdeal.nD Cert.AdamwReferenceBranchIdeal.τ).loc Cert.AdamwReferenceBranchIdeal.main_arg2) = m' ((c.tc : Thread Cert.AdamwReferenceBranchIdeal.nD Cert.AdamwReferenceBranchIdeal.τ).loc Cert.AdamwReferenceBranchIdeal.main_arg2)
          ∧ r.2.mem ((c.tc : Thread Cert.AdamwReferenceBranchIdeal.nD Cert.AdamwReferenceBranchIdeal.τ).loc Cert.AdamwReferenceBranchIdeal.main_arg3) = m' ((c.tc : Thread Cert.AdamwReferenceBranchIdeal.nD Cert.AdamwReferenceBranchIdeal.τ).loc Cert.AdamwReferenceBranchIdeal.main_arg3))

def preserves_AdamwOut_AdamwOutIdeal : Prop :=
  True

def algebraic_AdamwOutIdeal_AdamwReferenceOutIdeal [hAdamwOutIdeal : Cert.AdamwOutIdeal.Facts] [hAdamwReferenceOutIdeal : Cert.AdamwReferenceOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwReferenceOutIdeal.nD Cert.AdamwReferenceOutIdeal.τ Cert.AdamwReferenceOutIdeal.sig) → Buf (Elt Ideal) ℓ) (g' : Dev Cert.AdamwReferenceOutIdeal.nD → PrngReg), Pre_AdamwOutIdeal m →
    (∀ c : Dev Cert.AdamwOutIdeal.nD,
      m' ((c.tc : Thread Cert.AdamwReferenceOutIdeal.nD Cert.AdamwReferenceOutIdeal.τ).loc Cert.AdamwReferenceOutIdeal.main_arg0) = m ((c.tc : Thread Cert.AdamwOutIdeal.nD Cert.AdamwOutIdeal.τ).loc Cert.AdamwOutIdeal.main_arg0)
      ∧ m' ((c.tc : Thread Cert.AdamwReferenceOutIdeal.nD Cert.AdamwReferenceOutIdeal.τ).loc Cert.AdamwReferenceOutIdeal.main_arg1) = m ((c.tc : Thread Cert.AdamwOutIdeal.nD Cert.AdamwOutIdeal.τ).loc Cert.AdamwOutIdeal.main_arg1)
      ∧ m' ((c.tc : Thread Cert.AdamwReferenceOutIdeal.nD Cert.AdamwReferenceOutIdeal.τ).loc Cert.AdamwReferenceOutIdeal.main_arg2) = m ((c.tc : Thread Cert.AdamwOutIdeal.nD Cert.AdamwOutIdeal.τ).loc Cert.AdamwOutIdeal.main_arg2)
      ∧ m' ((c.tc : Thread Cert.AdamwReferenceOutIdeal.nD Cert.AdamwReferenceOutIdeal.τ).loc Cert.AdamwReferenceOutIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwReferenceOutIdeal.defs (F := Ideal)) (onTc (τ := Cert.AdamwReferenceOutIdeal.τ) (Cert.AdamwReferenceOutIdeal.main (F := Ideal))) ⟨m', fun _ => 0, g'⟩ (fun r => ∀ c : Dev Cert.AdamwReferenceOutIdeal.nD,
          r.2.mem ((c.tc : Thread Cert.AdamwReferenceOutIdeal.nD Cert.AdamwReferenceOutIdeal.τ).loc Cert.AdamwReferenceOutIdeal.main_v23) = v0 c
          ∧ r.2.mem ((c.tc : Thread Cert.AdamwReferenceOutIdeal.nD Cert.AdamwReferenceOutIdeal.τ).loc Cert.AdamwReferenceOutIdeal.main_v4) = v1 c
          ∧ r.2.mem ((c.tc : Thread Cert.AdamwReferenceOutIdeal.nD Cert.AdamwReferenceOutIdeal.τ).loc Cert.AdamwReferenceOutIdeal.main_v10) = v2 c
          ∧ r.2.mem ((c.tc : Thread Cert.AdamwReferenceOutIdeal.nD Cert.AdamwReferenceOutIdeal.τ).loc Cert.AdamwReferenceOutIdeal.main_arg0) = m' ((c.tc : Thread Cert.AdamwReferenceOutIdeal.nD Cert.AdamwReferenceOutIdeal.τ).loc Cert.AdamwReferenceOutIdeal.main_arg0)
          ∧ r.2.mem ((c.tc : Thread Cert.AdamwReferenceOutIdeal.nD Cert.AdamwReferenceOutIdeal.τ).loc Cert.AdamwReferenceOutIdeal.main_arg1) = m' ((c.tc : Thread Cert.AdamwReferenceOutIdeal.nD Cert.AdamwReferenceOutIdeal.τ).loc Cert.AdamwReferenceOutIdeal.main_arg1)
          ∧ r.2.mem ((c.tc : Thread Cert.AdamwReferenceOutIdeal.nD Cert.AdamwReferenceOutIdeal.τ).loc Cert.AdamwReferenceOutIdeal.main_arg2) = m' ((c.tc : Thread Cert.AdamwReferenceOutIdeal.nD Cert.AdamwReferenceOutIdeal.τ).loc Cert.AdamwReferenceOutIdeal.main_arg2)
          ∧ r.2.mem ((c.tc : Thread Cert.AdamwReferenceOutIdeal.nD Cert.AdamwReferenceOutIdeal.τ).loc Cert.AdamwReferenceOutIdeal.main_arg3) = m' ((c.tc : Thread Cert.AdamwReferenceOutIdeal.nD Cert.AdamwReferenceOutIdeal.τ).loc Cert.AdamwReferenceOutIdeal.main_arg3))

def preserves_AdamwFfn_AdamwFfnIdeal : Prop :=
  True

def algebraic_AdamwFfnIdeal_AdamwReferenceFfnIdeal [hAdamwFfnIdeal : Cert.AdamwFfnIdeal.Facts] [hAdamwReferenceFfnIdeal : Cert.AdamwReferenceFfnIdeal.Facts] : Prop :=
  ∀ (m : (ℓ : Loc Cert.AdamwFfnIdeal.nD Cert.AdamwFfnIdeal.τ Cert.AdamwFfnIdeal.sig) → Buf (Elt Ideal) ℓ) (g : Dev Cert.AdamwFfnIdeal.nD → PrngReg)
    (m' : (ℓ : Loc Cert.AdamwReferenceFfnIdeal.nD Cert.AdamwReferenceFfnIdeal.τ Cert.AdamwReferenceFfnIdeal.sig) → Buf (Elt Ideal) ℓ) (g' : Dev Cert.AdamwReferenceFfnIdeal.nD → PrngReg), Pre_AdamwFfnIdeal m →
    (∀ c : Dev Cert.AdamwFfnIdeal.nD,
      m' ((c.tc : Thread Cert.AdamwReferenceFfnIdeal.nD Cert.AdamwReferenceFfnIdeal.τ).loc Cert.AdamwReferenceFfnIdeal.main_arg0) = m ((c.tc : Thread Cert.AdamwFfnIdeal.nD Cert.AdamwFfnIdeal.τ).loc Cert.AdamwFfnIdeal.main_arg0)
      ∧ m' ((c.tc : Thread Cert.AdamwReferenceFfnIdeal.nD Cert.AdamwReferenceFfnIdeal.τ).loc Cert.AdamwReferenceFfnIdeal.main_arg1) = m ((c.tc : Thread Cert.AdamwFfnIdeal.nD Cert.AdamwFfnIdeal.τ).loc Cert.AdamwFfnIdeal.main_arg1)
      ∧ m' ((c.tc : Thread Cert.AdamwReferenceFfnIdeal.nD Cert.AdamwReferenceFfnIdeal.τ).loc Cert.AdamwReferenceFfnIdeal.main_arg2) = m ((c.tc : Thread Cert.AdamwFfnIdeal.nD Cert.AdamwFfnIdeal.τ).loc Cert.AdamwFfnIdeal.main_arg2)
      ∧ m' ((c.tc : Thread Cert.AdamwReferenceFfnIdeal.nD Cert.AdamwReferenceFfnIdeal.τ).loc Cert.AdamwReferenceFfnIdeal.main_arg3) = m ((c.tc : Thread Cert.AdamwFfnIdeal.nD Cert.AdamwFfnIdeal.τ).loc Cert.AdamwFfnIdeal.main_arg3)) →
    ∃ (v0 : (c : Dev Cert.AdamwFfnIdeal.nD) → Buf (Elt Ideal) ((c.tc : Thread Cert.AdamwFfnIdeal.nD Cert.AdamwFfnIdeal.τ).loc Cert.AdamwFfnIdeal.main_v0_0)) (v1 : (c : Dev Cert.AdamwFfnIdeal.nD) → Buf (Elt Ideal) ((c.tc : Thread Cert.AdamwFfnIdeal.nD Cert.AdamwFfnIdeal.τ).loc Cert.AdamwFfnIdeal.main_v0_1)) (v2 : (c : Dev Cert.AdamwFfnIdeal.nD) → Buf (Elt Ideal) ((c.tc : Thread Cert.AdamwFfnIdeal.nD Cert.AdamwFfnIdeal.τ).loc Cert.AdamwFfnIdeal.main_v0_2)),
      θ_run (Cert.AdamwFfnIdeal.defs (F := Ideal)) (onTc (τ := Cert.AdamwFfnIdeal.τ) (Cert.AdamwFfnIdeal.main (F := Ideal))) ⟨m, fun _ => 0, g⟩ (fun r => ∀ c : Dev Cert.AdamwFfnIdeal.nD,
          r.2.mem ((c.tc : Thread Cert.AdamwFfnIdeal.nD Cert.AdamwFfnIdeal.τ).loc Cert.AdamwFfnIdeal.main_v0_0) = v0 c
          ∧ r.2.mem ((c.tc : Thread Cert.AdamwFfnIdeal.nD Cert.AdamwFfnIdeal.τ).loc Cert.AdamwFfnIdeal.main_v0_1) = v1 c
          ∧ r.2.mem ((c.tc : Thread Cert.AdamwFfnIdeal.nD Cert.AdamwFfnIdeal.τ).loc Cert.AdamwFfnIdeal.main_v0_2) = v2 c
          ∧ r.2.mem ((c.tc : Thread Cert.AdamwFfnIdeal.nD Cert.AdamwFfnIdeal.τ).loc Cert.AdamwFfnIdeal.main_arg0) = m ((c.tc : Thread Cert.AdamwFfnIdeal.nD Cert.AdamwFfnIdeal.τ).loc Cert.AdamwFfnIdeal.main_arg0)
          ∧ r.2.mem ((c.tc : Thread Cert.AdamwFfnIdeal.nD Cert.AdamwFfnIdeal.τ).loc Cert.AdamwFfnIdeal.main_arg1) = m ((c.tc : Thread Cert.AdamwFfnIdeal.nD Cert.AdamwFfnIdeal.τ).loc Cert.AdamwFfnIdeal.main_arg1)
          ∧ r.2.mem ((c.tc : Thread Cert.AdamwFfnIdeal.nD Cert.AdamwFfnIdeal.τ).loc Cert.AdamwFfnIdeal.main_arg2) = m ((c.tc : Thread Cert.AdamwFfnIdeal.nD Cert.AdamwFfnIdeal.τ).loc Cert.AdamwFfnIdeal.main_arg2)
          ∧ r.2.mem ((c.tc : Thread Cert.AdamwFfnIdeal.nD Cert.AdamwFfnIdeal.τ).loc Cert.AdamwFfnIdeal.main_arg3) = m ((c.tc : Thread Cert.AdamwFfnIdeal.nD Cert.AdamwFfnIdeal.τ).loc Cert.AdamwFfnIdeal.main_arg3))
      ∧ θ_run (Cert.AdamwReferenceFfnIdeal.defs (F := Ideal)) (onTc (τ := Cert.AdamwReferenceFfnIdeal.τ) (Cert.AdamwReferenceFfnIdeal.main (F := Ideal))) ⟨m', fun _ => 0, g'⟩ (fun r => ∀ c : Dev Cert.AdamwReferenceFfnIdeal.nD,
          r.2.mem ((c.tc : Thread Cert.AdamwReferenceFfnIdeal.nD Cert.AdamwReferenceFfnIdeal.τ).loc Cert.AdamwReferenceFfnIdeal.main_v23) = v0 c
          ∧ r.2.mem ((c.tc : Thread Cert.AdamwReferenceFfnIdeal.nD Cert.AdamwReferenceFfnIdeal.τ).loc Cert.AdamwReferenceFfnIdeal.main_v4) = v1 c
          ∧ r.2.mem ((c.tc : Thread Cert.AdamwReferenceFfnIdeal.nD Cert.AdamwReferenceFfnIdeal.τ).loc Cert.AdamwReferenceFfnIdeal.main_v10) = v2 c
          ∧ r.2.mem ((c.tc : Thread Cert.AdamwReferenceFfnIdeal.nD Cert.AdamwReferenceFfnIdeal.τ).loc Cert.AdamwReferenceFfnIdeal.main_arg0) = m' ((c.tc : Thread Cert.AdamwReferenceFfnIdeal.nD Cert.AdamwReferenceFfnIdeal.τ).loc Cert.AdamwReferenceFfnIdeal.main_arg0)
          ∧ r.2.mem ((c.tc : Thread Cert.AdamwReferenceFfnIdeal.nD Cert.AdamwReferenceFfnIdeal.τ).loc Cert.AdamwReferenceFfnIdeal.main_arg1) = m' ((c.tc : Thread Cert.AdamwReferenceFfnIdeal.nD Cert.AdamwReferenceFfnIdeal.τ).loc Cert.AdamwReferenceFfnIdeal.main_arg1)
          ∧ r.2.mem ((c.tc : Thread Cert.AdamwReferenceFfnIdeal.nD Cert.AdamwReferenceFfnIdeal.τ).loc Cert.AdamwReferenceFfnIdeal.main_arg2) = m' ((c.tc : Thread Cert.AdamwReferenceFfnIdeal.nD Cert.AdamwReferenceFfnIdeal.τ).loc Cert.AdamwReferenceFfnIdeal.main_arg2)
          ∧ r.2.mem ((c.tc : Thread Cert.AdamwReferenceFfnIdeal.nD Cert.AdamwReferenceFfnIdeal.τ).loc Cert.AdamwReferenceFfnIdeal.main_arg3) = m' ((c.tc : Thread Cert.AdamwReferenceFfnIdeal.nD Cert.AdamwReferenceFfnIdeal.τ).loc Cert.AdamwReferenceFfnIdeal.main_arg3))

def preserves_AdamwDown_AdamwDownIdeal : Prop :=
  True

def algebraic_AdamwDownIdeal_AdamwReferenceDownIdeal [hAdamwDownIdeal : Cert.AdamwDownIdeal.Facts] [hAdamwReferenceDownIdeal : Cert.AdamwReferenceDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwReferenceDownIdeal.nD Cert.AdamwReferenceDownIdeal.τ Cert.AdamwReferenceDownIdeal.sig) → Buf (Elt Ideal) ℓ) (g' : Dev Cert.AdamwReferenceDownIdeal.nD → PrngReg), Pre_AdamwDownIdeal m →
    (∀ c : Dev Cert.AdamwDownIdeal.nD,
      m' ((c.tc : Thread Cert.AdamwReferenceDownIdeal.nD Cert.AdamwReferenceDownIdeal.τ).loc Cert.AdamwReferenceDownIdeal.main_arg0) = m ((c.tc : Thread Cert.AdamwDownIdeal.nD Cert.AdamwDownIdeal.τ).loc Cert.AdamwDownIdeal.main_arg0)
      ∧ m' ((c.tc : Thread Cert.AdamwReferenceDownIdeal.nD Cert.AdamwReferenceDownIdeal.τ).loc Cert.AdamwReferenceDownIdeal.main_arg1) = m ((c.tc : Thread Cert.AdamwDownIdeal.nD Cert.AdamwDownIdeal.τ).loc Cert.AdamwDownIdeal.main_arg1)
      ∧ m' ((c.tc : Thread Cert.AdamwReferenceDownIdeal.nD Cert.AdamwReferenceDownIdeal.τ).loc Cert.AdamwReferenceDownIdeal.main_arg2) = m ((c.tc : Thread Cert.AdamwDownIdeal.nD Cert.AdamwDownIdeal.τ).loc Cert.AdamwDownIdeal.main_arg2)
      ∧ m' ((c.tc : Thread Cert.AdamwReferenceDownIdeal.nD Cert.AdamwReferenceDownIdeal.τ).loc Cert.AdamwReferenceDownIdeal.main_arg3) = m ((c.tc : Thread Cert.AdamwDownIdeal.nD Cert.AdamwDownIdeal.τ).loc Cert.AdamwDownIdeal.main_arg3)) →
    ∃ (v0 : (c : Dev Cert.AdamwDownIdeal.nD) → Buf (Elt Ideal) ((c.tc : Thread Cert.AdamwDownIdeal.nD Cert.AdamwDownIdeal.τ).loc Cert.AdamwDownIdeal.main_v0_0)) (v1 : (c : Dev Cert.AdamwDownIdeal.nD) → Buf (Elt Ideal) ((c.tc : Thread Cert.AdamwDownIdeal.nD Cert.AdamwDownIdeal.τ).loc Cert.AdamwDownIdeal.main_v0_1)) (v2 : (c : Dev Cert.AdamwDownIdeal.nD) → Buf (Elt Ideal) ((c.tc : Thread Cert.AdamwDownIdeal.nD Cert.AdamwDownIdeal.τ).loc Cert.AdamwDownIdeal.main_v0_2)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v0_0) = v0 c
          ∧ r.2.mem ((c.tc : Thread Cert.AdamwDownIdeal.nD Cert.AdamwDownIdeal.τ).loc Cert.AdamwDownIdeal.main_v0_1) = v1 c
          ∧ r.2.mem ((c.tc : Thread Cert.AdamwDownIdeal.nD Cert.AdamwDownIdeal.τ).loc Cert.AdamwDownIdeal.main_v0_2) = v2 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ θ_run (Cert.AdamwReferenceDownIdeal.defs (F := Ideal)) (onTc (τ := Cert.AdamwReferenceDownIdeal.τ) (Cert.AdamwReferenceDownIdeal.main (F := Ideal))) ⟨m', fun _ => 0, g'⟩ (fun r => ∀ c : Dev Cert.AdamwReferenceDownIdeal.nD,
          r.2.mem ((c.tc : Thread Cert.AdamwReferenceDownIdeal.nD Cert.AdamwReferenceDownIdeal.τ).loc Cert.AdamwReferenceDownIdeal.main_v23) = v0 c
          ∧ r.2.mem ((c.tc : Thread Cert.AdamwReferenceDownIdeal.nD Cert.AdamwReferenceDownIdeal.τ).loc Cert.AdamwReferenceDownIdeal.main_v4) = v1 c
          ∧ r.2.mem ((c.tc : Thread Cert.AdamwReferenceDownIdeal.nD Cert.AdamwReferenceDownIdeal.τ).loc Cert.AdamwReferenceDownIdeal.main_v10) = v2 c
          ∧ r.2.mem ((c.tc : Thread Cert.AdamwReferenceDownIdeal.nD Cert.AdamwReferenceDownIdeal.τ).loc Cert.AdamwReferenceDownIdeal.main_arg0) = m' ((c.tc : Thread Cert.AdamwReferenceDownIdeal.nD Cert.AdamwReferenceDownIdeal.τ).loc Cert.AdamwReferenceDownIdeal.main_arg0)
          ∧ r.2.mem ((c.tc : Thread Cert.AdamwReferenceDownIdeal.nD Cert.AdamwReferenceDownIdeal.τ).loc Cert.AdamwReferenceDownIdeal.main_arg1) = m' ((c.tc : Thread Cert.AdamwReferenceDownIdeal.nD Cert.AdamwReferenceDownIdeal.τ).loc Cert.AdamwReferenceDownIdeal.main_arg1)
          ∧ r.2.mem ((c.tc : Thread Cert.AdamwReferenceDownIdeal.nD Cert.AdamwReferenceDownIdeal.τ).loc Cert.AdamwReferenceDownIdeal.main_arg2) = m' ((c.tc : Thread Cert.AdamwReferenceDownIdeal.nD Cert.AdamwReferenceDownIdeal.τ).loc Cert.AdamwReferenceDownIdeal.main_arg2)
          ∧ r.2.mem ((c.tc : Thread Cert.AdamwReferenceDownIdeal.nD Cert.AdamwReferenceDownIdeal.τ).loc Cert.AdamwReferenceDownIdeal.main_arg3) = m' ((c.tc : Thread Cert.AdamwReferenceDownIdeal.nD Cert.AdamwReferenceDownIdeal.τ).loc Cert.AdamwReferenceDownIdeal.main_arg3))

def preserves_AdamwSmall_AdamwSmallIdeal : Prop :=
  True

def algebraic_AdamwSmallIdeal_AdamwReferenceSmallIdeal [hAdamwSmallIdeal : Cert.AdamwSmallIdeal.Facts] [hAdamwReferenceSmallIdeal : Cert.AdamwReferenceSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwReferenceSmallIdeal.nD Cert.AdamwReferenceSmallIdeal.τ Cert.AdamwReferenceSmallIdeal.sig) → Buf (Elt Ideal) ℓ) (g' : Dev Cert.AdamwReferenceSmallIdeal.nD → PrngReg), Pre_AdamwSmallIdeal m →
    (∀ c : Dev Cert.AdamwSmallIdeal.nD,
      m' ((c.tc : Thread Cert.AdamwReferenceSmallIdeal.nD Cert.AdamwReferenceSmallIdeal.τ).loc Cert.AdamwReferenceSmallIdeal.main_arg0) = m ((c.tc : Thread Cert.AdamwSmallIdeal.nD Cert.AdamwSmallIdeal.τ).loc Cert.AdamwSmallIdeal.main_arg0)
      ∧ m' ((c.tc : Thread Cert.AdamwReferenceSmallIdeal.nD Cert.AdamwReferenceSmallIdeal.τ).loc Cert.AdamwReferenceSmallIdeal.main_arg1) = m ((c.tc : Thread Cert.AdamwSmallIdeal.nD Cert.AdamwSmallIdeal.τ).loc Cert.AdamwSmallIdeal.main_arg1)
      ∧ m' ((c.tc : Thread Cert.AdamwReferenceSmallIdeal.nD Cert.AdamwReferenceSmallIdeal.τ).loc Cert.AdamwReferenceSmallIdeal.main_arg2) = m ((c.tc : Thread Cert.AdamwSmallIdeal.nD Cert.AdamwSmallIdeal.τ).loc Cert.AdamwSmallIdeal.main_arg2)
      ∧ m' ((c.tc : Thread Cert.AdamwReferenceSmallIdeal.nD Cert.AdamwReferenceSmallIdeal.τ).loc Cert.AdamwReferenceSmallIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwReferenceSmallIdeal.defs (F := Ideal)) (onTc (τ := Cert.AdamwReferenceSmallIdeal.τ) (Cert.AdamwReferenceSmallIdeal.main (F := Ideal))) ⟨m', fun _ => 0, g'⟩ (fun r => ∀ c : Dev Cert.AdamwReferenceSmallIdeal.nD,
          r.2.mem ((c.tc : Thread Cert.AdamwReferenceSmallIdeal.nD Cert.AdamwReferenceSmallIdeal.τ).loc Cert.AdamwReferenceSmallIdeal.main_v23) = v0 c
          ∧ r.2.mem ((c.tc : Thread Cert.AdamwReferenceSmallIdeal.nD Cert.AdamwReferenceSmallIdeal.τ).loc Cert.AdamwReferenceSmallIdeal.main_v4) = v1 c
          ∧ r.2.mem ((c.tc : Thread Cert.AdamwReferenceSmallIdeal.nD Cert.AdamwReferenceSmallIdeal.τ).loc Cert.AdamwReferenceSmallIdeal.main_v10) = v2 c
          ∧ r.2.mem ((c.tc : Thread Cert.AdamwReferenceSmallIdeal.nD Cert.AdamwReferenceSmallIdeal.τ).loc Cert.AdamwReferenceSmallIdeal.main_arg0) = m' ((c.tc : Thread Cert.AdamwReferenceSmallIdeal.nD Cert.AdamwReferenceSmallIdeal.τ).loc Cert.AdamwReferenceSmallIdeal.main_arg0)
          ∧ r.2.mem ((c.tc : Thread Cert.AdamwReferenceSmallIdeal.nD Cert.AdamwReferenceSmallIdeal.τ).loc Cert.AdamwReferenceSmallIdeal.main_arg1) = m' ((c.tc : Thread Cert.AdamwReferenceSmallIdeal.nD Cert.AdamwReferenceSmallIdeal.τ).loc Cert.AdamwReferenceSmallIdeal.main_arg1)
          ∧ r.2.mem ((c.tc : Thread Cert.AdamwReferenceSmallIdeal.nD Cert.AdamwReferenceSmallIdeal.τ).loc Cert.AdamwReferenceSmallIdeal.main_arg2) = m' ((c.tc : Thread Cert.AdamwReferenceSmallIdeal.nD Cert.AdamwReferenceSmallIdeal.τ).loc Cert.AdamwReferenceSmallIdeal.main_arg2)
          ∧ r.2.mem ((c.tc : Thread Cert.AdamwReferenceSmallIdeal.nD Cert.AdamwReferenceSmallIdeal.τ).loc Cert.AdamwReferenceSmallIdeal.main_arg3) = m' ((c.tc : Thread Cert.AdamwReferenceSmallIdeal.nD Cert.AdamwReferenceSmallIdeal.τ).loc Cert.AdamwReferenceSmallIdeal.main_arg3))

def preserves_SumSharded_SumShardedIdeal : Prop :=
  True

def algebraic_SumShardedIdeal_SumReferenceShardedIdeal [hSumShardedIdeal : Cert.SumShardedIdeal.Facts] [hSumReferenceShardedIdeal : Cert.SumReferenceShardedIdeal.Facts] : Prop :=
  ∀ (m : (ℓ : Loc Cert.SumShardedIdeal.nD Cert.SumShardedIdeal.τ Cert.SumShardedIdeal.sig) → Buf (Elt Ideal) ℓ) (g : Dev Cert.SumShardedIdeal.nD → PrngReg)
    (m' : (ℓ : Loc Cert.SumReferenceShardedIdeal.nD Cert.SumReferenceShardedIdeal.τ Cert.SumReferenceShardedIdeal.sig) → Buf (Elt Ideal) ℓ) (g' : Dev Cert.SumReferenceShardedIdeal.nD → PrngReg), Pre_SumShardedIdeal m →
    (∀ c : Dev Cert.SumShardedIdeal.nD,
      m' ((c.tc : Thread Cert.SumReferenceShardedIdeal.nD Cert.SumReferenceShardedIdeal.τ).loc Cert.SumReferenceShardedIdeal.main_arg0) = m ((c.tc : Thread Cert.SumShardedIdeal.nD Cert.SumShardedIdeal.τ).loc Cert.SumShardedIdeal.main_arg0)) →
    ∃ (v0 : (c : Dev Cert.SumShardedIdeal.nD) → Buf (Elt Ideal) ((c.tc : Thread Cert.SumShardedIdeal.nD Cert.SumShardedIdeal.τ).loc Cert.SumShardedIdeal.main_v0)),
      θ_run (Cert.SumShardedIdeal.defs (F := Ideal)) (onTc (τ := Cert.SumShardedIdeal.τ) (Cert.SumShardedIdeal.main (F := Ideal))) ⟨m, fun _ => 0, g⟩ (fun r => ∀ c : Dev Cert.SumShardedIdeal.nD,
          r.2.mem ((c.tc : Thread Cert.SumShardedIdeal.nD Cert.SumShardedIdeal.τ).loc Cert.SumShardedIdeal.main_v0) = v0 c
          ∧ r.2.mem ((c.tc : Thread Cert.SumShardedIdeal.nD Cert.SumShardedIdeal.τ).loc Cert.SumShardedIdeal.main_arg0) = m ((c.tc : Thread Cert.SumShardedIdeal.nD Cert.SumShardedIdeal.τ).loc Cert.SumShardedIdeal.main_arg0))
      ∧ θ_run (Cert.SumReferenceShardedIdeal.defs (F := Ideal)) (onTc (τ := Cert.SumReferenceShardedIdeal.τ) (Cert.SumReferenceShardedIdeal.main (F := Ideal))) ⟨m', fun _ => 0, g'⟩ (fun r => ∀ c : Dev Cert.SumReferenceShardedIdeal.nD,
          r.2.mem ((c.tc : Thread Cert.SumReferenceShardedIdeal.nD Cert.SumReferenceShardedIdeal.τ).loc Cert.SumReferenceShardedIdeal.main_v0) = v0 c
          ∧ r.2.mem ((c.tc : Thread Cert.SumReferenceShardedIdeal.nD Cert.SumReferenceShardedIdeal.τ).loc Cert.SumReferenceShardedIdeal.main_arg0) = m' ((c.tc : Thread Cert.SumReferenceShardedIdeal.nD Cert.SumReferenceShardedIdeal.τ).loc Cert.SumReferenceShardedIdeal.main_arg0))

def preserves_SumReplicated_SumReplicatedIdeal : Prop :=
  True

def algebraic_SumReplicatedIdeal_SumReferenceReplicatedIdeal [hSumReplicatedIdeal : Cert.SumReplicatedIdeal.Facts] [hSumReferenceReplicatedIdeal : Cert.SumReferenceReplicatedIdeal.Facts] : Prop :=
  ∀ (m : (ℓ : Loc Cert.SumReplicatedIdeal.nD Cert.SumReplicatedIdeal.τ Cert.SumReplicatedIdeal.sig) → Buf (Elt Ideal) ℓ) (g : Dev Cert.SumReplicatedIdeal.nD → PrngReg)
    (m' : (ℓ : Loc Cert.SumReferenceReplicatedIdeal.nD Cert.SumReferenceReplicatedIdeal.τ Cert.SumReferenceReplicatedIdeal.sig) → Buf (Elt Ideal) ℓ) (g' : Dev Cert.SumReferenceReplicatedIdeal.nD → PrngReg), Pre_SumReplicatedIdeal m →
    (∀ c : Dev Cert.SumReplicatedIdeal.nD,
      m' ((c.tc : Thread Cert.SumReferenceReplicatedIdeal.nD Cert.SumReferenceReplicatedIdeal.τ).loc Cert.SumReferenceReplicatedIdeal.main_arg0) = m ((c.tc : Thread Cert.SumReplicatedIdeal.nD Cert.SumReplicatedIdeal.τ).loc Cert.SumReplicatedIdeal.main_arg0)) →
    ∃ (v0 : (c : Dev Cert.SumReplicatedIdeal.nD) → Buf (Elt Ideal) ((c.tc : Thread Cert.SumReplicatedIdeal.nD Cert.SumReplicatedIdeal.τ).loc Cert.SumReplicatedIdeal.main_v0)),
      θ_run (Cert.SumReplicatedIdeal.defs (F := Ideal)) (onTc (τ := Cert.SumReplicatedIdeal.τ) (Cert.SumReplicatedIdeal.main (F := Ideal))) ⟨m, fun _ => 0, g⟩ (fun r => ∀ c : Dev Cert.SumReplicatedIdeal.nD,
          r.2.mem ((c.tc : Thread Cert.SumReplicatedIdeal.nD Cert.SumReplicatedIdeal.τ).loc Cert.SumReplicatedIdeal.main_v0) = v0 c
          ∧ r.2.mem ((c.tc : Thread Cert.SumReplicatedIdeal.nD Cert.SumReplicatedIdeal.τ).loc Cert.SumReplicatedIdeal.main_arg0) = m ((c.tc : Thread Cert.SumReplicatedIdeal.nD Cert.SumReplicatedIdeal.τ).loc Cert.SumReplicatedIdeal.main_arg0))
      ∧ θ_run (Cert.SumReferenceReplicatedIdeal.defs (F := Ideal)) (onTc (τ := Cert.SumReferenceReplicatedIdeal.τ) (Cert.SumReferenceReplicatedIdeal.main (F := Ideal))) ⟨m', fun _ => 0, g'⟩ (fun r => ∀ c : Dev Cert.SumReferenceReplicatedIdeal.nD,
          r.2.mem ((c.tc : Thread Cert.SumReferenceReplicatedIdeal.nD Cert.SumReferenceReplicatedIdeal.τ).loc Cert.SumReferenceReplicatedIdeal.main_v0) = v0 c
          ∧ r.2.mem ((c.tc : Thread Cert.SumReferenceReplicatedIdeal.nD Cert.SumReferenceReplicatedIdeal.τ).loc Cert.SumReferenceReplicatedIdeal.main_arg0) = m' ((c.tc : Thread Cert.SumReferenceReplicatedIdeal.nD Cert.SumReferenceReplicatedIdeal.τ).loc Cert.SumReferenceReplicatedIdeal.main_arg0))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v52) = v0 c
          ∧ r.2.mem ((c.tc : Thread Cert.LossReferenceIdeal.nD Cert.LossReferenceIdeal.τ).loc Cert.LossReferenceIdeal.main_v51) = v1 c
          ∧ r.2.mem ((c.tc : Thread Cert.LossReferenceIdeal.nD Cert.LossReferenceIdeal.τ).loc Cert.LossReferenceIdeal.main_v53) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_Input_InputIdeal : Prop :=
  True

def algebraic_InputIdeal_InputReferenceIdeal [hInputIdeal : Cert.InputIdeal.Facts] [hInputReferenceIdeal : Cert.InputReferenceIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputIdeal m →
    (∀ c : Dev Cert.InputIdeal.nD,
      m' ((c.tc : Thread Cert.InputReferenceIdeal.nD Cert.InputReferenceIdeal.τ).loc Cert.InputReferenceIdeal.main_arg0) = m ((c.tc : Thread Cert.InputIdeal.nD Cert.InputIdeal.τ).loc Cert.InputIdeal.main_arg0)
      ∧ m' ((c.tc : Thread Cert.InputReferenceIdeal.nD Cert.InputReferenceIdeal.τ).loc Cert.InputReferenceIdeal.main_arg1) = m ((c.tc : Thread Cert.InputIdeal.nD Cert.InputIdeal.τ).loc Cert.InputIdeal.main_arg1)
      ∧ m' ((c.tc : Thread Cert.InputReferenceIdeal.nD Cert.InputReferenceIdeal.τ).loc Cert.InputReferenceIdeal.main_arg2) = m ((c.tc : Thread Cert.InputIdeal.nD Cert.InputIdeal.τ).loc Cert.InputIdeal.main_arg2)
      ∧ m' ((c.tc : Thread Cert.InputReferenceIdeal.nD Cert.InputReferenceIdeal.τ).loc Cert.InputReferenceIdeal.main_arg3) = m ((c.tc : Thread Cert.InputIdeal.nD Cert.InputIdeal.τ).loc Cert.InputIdeal.main_arg3)
      ∧ m' ((c.tc : Thread Cert.InputReferenceIdeal.nD Cert.InputReferenceIdeal.τ).loc Cert.InputReferenceIdeal.main_arg4) = m ((c.tc : Thread Cert.InputIdeal.nD Cert.InputIdeal.τ).loc Cert.InputIdeal.main_arg4)) →
    ∃ (v0 : (c : Dev Cert.InputIdeal.nD) → Buf (Elt Ideal) ((c.tc : Thread Cert.InputIdeal.nD Cert.InputIdeal.τ).loc Cert.InputIdeal.main_v0_0)) (v1 : (c : Dev Cert.InputIdeal.nD) → Buf (Elt Ideal) ((c.tc : Thread Cert.InputIdeal.nD Cert.InputIdeal.τ).loc Cert.InputIdeal.main_v0_1)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v0_0) = v0 c
          ∧ r.2.mem ((c.tc : Thread Cert.InputIdeal.nD Cert.InputIdeal.τ).loc Cert.InputIdeal.main_v0_1) = v1 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v41) = v0 c
          ∧ r.2.mem ((c.tc : Thread Cert.InputReferenceIdeal.nD Cert.InputReferenceIdeal.τ).loc Cert.InputReferenceIdeal.main_v42) = v1 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3)
          ∧ r.2.mem ((c.tc : Thread Cert.InputReferenceIdeal.nD Cert.InputReferenceIdeal.τ).loc Cert.InputReferenceIdeal.main_arg4) = m' ((c.tc : Thread Cert.InputReferenceIdeal.nD Cert.InputReferenceIdeal.τ).loc Cert.InputReferenceIdeal.main_arg4))

def preserves_WeightIn_WeightInIdeal : Prop :=
  True

def algebraic_WeightInIdeal_WeightInReferenceIdeal [hWeightInIdeal : Cert.WeightInIdeal.Facts] [hWeightInReferenceIdeal : Cert.WeightInReferenceIdeal.Facts] : Prop :=
  ∀ (m : (ℓ : Loc Cert.WeightInIdeal.nD Cert.WeightInIdeal.τ Cert.WeightInIdeal.sig) → Buf (Elt Ideal) ℓ) (g : Dev Cert.WeightInIdeal.nD → PrngReg)
    (m' : (ℓ : Loc Cert.WeightInReferenceIdeal.nD Cert.WeightInReferenceIdeal.τ Cert.WeightInReferenceIdeal.sig) → Buf (Elt Ideal) ℓ) (g' : Dev Cert.WeightInReferenceIdeal.nD → PrngReg), Pre_WeightInIdeal m →
    (∀ c : Dev Cert.WeightInIdeal.nD,
      m' ((c.tc : Thread Cert.WeightInReferenceIdeal.nD Cert.WeightInReferenceIdeal.τ).loc Cert.WeightInReferenceIdeal.main_arg0) = m ((c.tc : Thread Cert.WeightInIdeal.nD Cert.WeightInIdeal.τ).loc Cert.WeightInIdeal.main_arg0)
      ∧ m' ((c.tc : Thread Cert.WeightInReferenceIdeal.nD Cert.WeightInReferenceIdeal.τ).loc Cert.WeightInReferenceIdeal.main_arg1) = m ((c.tc : Thread Cert.WeightInIdeal.nD Cert.WeightInIdeal.τ).loc Cert.WeightInIdeal.main_arg1)) →
    ∃ (v0 : (c : Dev Cert.WeightInIdeal.nD) → Buf (Elt Ideal) ((c.tc : Thread Cert.WeightInIdeal.nD Cert.WeightInIdeal.τ).loc Cert.WeightInIdeal.main_v0)),
      θ_run (Cert.WeightInIdeal.defs (F := Ideal)) (onTc (τ := Cert.WeightInIdeal.τ) (Cert.WeightInIdeal.main (F := Ideal))) ⟨m, fun _ => 0, g⟩ (fun r => ∀ c : Dev Cert.WeightInIdeal.nD,
          r.2.mem ((c.tc : Thread Cert.WeightInIdeal.nD Cert.WeightInIdeal.τ).loc Cert.WeightInIdeal.main_v0) = v0 c
          ∧ r.2.mem ((c.tc : Thread Cert.WeightInIdeal.nD Cert.WeightInIdeal.τ).loc Cert.WeightInIdeal.main_arg0) = m ((c.tc : Thread Cert.WeightInIdeal.nD Cert.WeightInIdeal.τ).loc Cert.WeightInIdeal.main_arg0)
          ∧ r.2.mem ((c.tc : Thread Cert.WeightInIdeal.nD Cert.WeightInIdeal.τ).loc Cert.WeightInIdeal.main_arg1) = m ((c.tc : Thread Cert.WeightInIdeal.nD Cert.WeightInIdeal.τ).loc Cert.WeightInIdeal.main_arg1))
      ∧ θ_run (Cert.WeightInReferenceIdeal.defs (F := Ideal)) (onTc (τ := Cert.WeightInReferenceIdeal.τ) (Cert.WeightInReferenceIdeal.main (F := Ideal))) ⟨m', fun _ => 0, g'⟩ (fun r => ∀ c : Dev Cert.WeightInReferenceIdeal.nD,
          r.2.mem ((c.tc : Thread Cert.WeightInReferenceIdeal.nD Cert.WeightInReferenceIdeal.τ).loc Cert.WeightInReferenceIdeal.main_v3) = v0 c
          ∧ r.2.mem ((c.tc : Thread Cert.WeightInReferenceIdeal.nD Cert.WeightInReferenceIdeal.τ).loc Cert.WeightInReferenceIdeal.main_arg0) = m' ((c.tc : Thread Cert.WeightInReferenceIdeal.nD Cert.WeightInReferenceIdeal.τ).loc Cert.WeightInReferenceIdeal.main_arg0)
          ∧ r.2.mem ((c.tc : Thread Cert.WeightInReferenceIdeal.nD Cert.WeightInReferenceIdeal.τ).loc Cert.WeightInReferenceIdeal.main_arg1) = m' ((c.tc : Thread Cert.WeightInReferenceIdeal.nD Cert.WeightInReferenceIdeal.τ).loc Cert.WeightInReferenceIdeal.main_arg1))

def preserves_WeightGate_WeightGateIdeal : Prop :=
  True

def algebraic_WeightGateIdeal_WeightGateReferenceIdeal [hWeightGateIdeal : Cert.WeightGateIdeal.Facts] [hWeightGateReferenceIdeal : Cert.WeightGateReferenceIdeal.Facts] : Prop :=
  ∀ (m : (ℓ : Loc Cert.WeightGateIdeal.nD Cert.WeightGateIdeal.τ Cert.WeightGateIdeal.sig) → Buf (Elt Ideal) ℓ) (g : Dev Cert.WeightGateIdeal.nD → PrngReg)
    (m' : (ℓ : Loc Cert.WeightGateReferenceIdeal.nD Cert.WeightGateReferenceIdeal.τ Cert.WeightGateReferenceIdeal.sig) → Buf (Elt Ideal) ℓ) (g' : Dev Cert.WeightGateReferenceIdeal.nD → PrngReg), Pre_WeightGateIdeal m →
    (∀ c : Dev Cert.WeightGateIdeal.nD,
      m' ((c.tc : Thread Cert.WeightGateReferenceIdeal.nD Cert.WeightGateReferenceIdeal.τ).loc Cert.WeightGateReferenceIdeal.main_arg0) = m ((c.tc : Thread Cert.WeightGateIdeal.nD Cert.WeightGateIdeal.τ).loc Cert.WeightGateIdeal.main_arg0)
      ∧ m' ((c.tc : Thread Cert.WeightGateReferenceIdeal.nD Cert.WeightGateReferenceIdeal.τ).loc Cert.WeightGateReferenceIdeal.main_arg1) = m ((c.tc : Thread Cert.WeightGateIdeal.nD Cert.WeightGateIdeal.τ).loc Cert.WeightGateIdeal.main_arg1)) →
    ∃ (v0 : (c : Dev Cert.WeightGateIdeal.nD) → Buf (Elt Ideal) ((c.tc : Thread Cert.WeightGateIdeal.nD Cert.WeightGateIdeal.τ).loc Cert.WeightGateIdeal.main_v0)),
      θ_run (Cert.WeightGateIdeal.defs (F := Ideal)) (onTc (τ := Cert.WeightGateIdeal.τ) (Cert.WeightGateIdeal.main (F := Ideal))) ⟨m, fun _ => 0, g⟩ (fun r => ∀ c : Dev Cert.WeightGateIdeal.nD,
          r.2.mem ((c.tc : Thread Cert.WeightGateIdeal.nD Cert.WeightGateIdeal.τ).loc Cert.WeightGateIdeal.main_v0) = v0 c
          ∧ r.2.mem ((c.tc : Thread Cert.WeightGateIdeal.nD Cert.WeightGateIdeal.τ).loc Cert.WeightGateIdeal.main_arg0) = m ((c.tc : Thread Cert.WeightGateIdeal.nD Cert.WeightGateIdeal.τ).loc Cert.WeightGateIdeal.main_arg0)
          ∧ r.2.mem ((c.tc : Thread Cert.WeightGateIdeal.nD Cert.WeightGateIdeal.τ).loc Cert.WeightGateIdeal.main_arg1) = m ((c.tc : Thread Cert.WeightGateIdeal.nD Cert.WeightGateIdeal.τ).loc Cert.WeightGateIdeal.main_arg1))
      ∧ θ_run (Cert.WeightGateReferenceIdeal.defs (F := Ideal)) (onTc (τ := Cert.WeightGateReferenceIdeal.τ) (Cert.WeightGateReferenceIdeal.main (F := Ideal))) ⟨m', fun _ => 0, g'⟩ (fun r => ∀ c : Dev Cert.WeightGateReferenceIdeal.nD,
          r.2.mem ((c.tc : Thread Cert.WeightGateReferenceIdeal.nD Cert.WeightGateReferenceIdeal.τ).loc Cert.WeightGateReferenceIdeal.main_v3) = v0 c
          ∧ r.2.mem ((c.tc : Thread Cert.WeightGateReferenceIdeal.nD Cert.WeightGateReferenceIdeal.τ).loc Cert.WeightGateReferenceIdeal.main_arg0) = m' ((c.tc : Thread Cert.WeightGateReferenceIdeal.nD Cert.WeightGateReferenceIdeal.τ).loc Cert.WeightGateReferenceIdeal.main_arg0)
          ∧ r.2.mem ((c.tc : Thread Cert.WeightGateReferenceIdeal.nD Cert.WeightGateReferenceIdeal.τ).loc Cert.WeightGateReferenceIdeal.main_arg1) = m' ((c.tc : Thread Cert.WeightGateReferenceIdeal.nD Cert.WeightGateReferenceIdeal.τ).loc Cert.WeightGateReferenceIdeal.main_arg1))

def preserves_WeightDown_WeightDownIdeal : Prop :=
  True

def algebraic_WeightDownIdeal_WeightDownReferenceIdeal [hWeightDownIdeal : Cert.WeightDownIdeal.Facts] [hWeightDownReferenceIdeal : Cert.WeightDownReferenceIdeal.Facts] : Prop :=
  ∀ (m : (ℓ : Loc Cert.WeightDownIdeal.nD Cert.WeightDownIdeal.τ Cert.WeightDownIdeal.sig) → Buf (Elt Ideal) ℓ) (g : Dev Cert.WeightDownIdeal.nD → PrngReg)
    (m' : (ℓ : Loc Cert.WeightDownReferenceIdeal.nD Cert.WeightDownReferenceIdeal.τ Cert.WeightDownReferenceIdeal.sig) → Buf (Elt Ideal) ℓ) (g' : Dev Cert.WeightDownReferenceIdeal.nD → PrngReg), Pre_WeightDownIdeal m →
    (∀ c : Dev Cert.WeightDownIdeal.nD,
      m' ((c.tc : Thread Cert.WeightDownReferenceIdeal.nD Cert.WeightDownReferenceIdeal.τ).loc Cert.WeightDownReferenceIdeal.main_arg0) = m ((c.tc : Thread Cert.WeightDownIdeal.nD Cert.WeightDownIdeal.τ).loc Cert.WeightDownIdeal.main_arg0)
      ∧ m' ((c.tc : Thread Cert.WeightDownReferenceIdeal.nD Cert.WeightDownReferenceIdeal.τ).loc Cert.WeightDownReferenceIdeal.main_arg1) = m ((c.tc : Thread Cert.WeightDownIdeal.nD Cert.WeightDownIdeal.τ).loc Cert.WeightDownIdeal.main_arg1)) →
    ∃ (v0 : (c : Dev Cert.WeightDownIdeal.nD) → Buf (Elt Ideal) ((c.tc : Thread Cert.WeightDownIdeal.nD Cert.WeightDownIdeal.τ).loc Cert.WeightDownIdeal.main_v0)),
      θ_run (Cert.WeightDownIdeal.defs (F := Ideal)) (onTc (τ := Cert.WeightDownIdeal.τ) (Cert.WeightDownIdeal.main (F := Ideal))) ⟨m, fun _ => 0, g⟩ (fun r => ∀ c : Dev Cert.WeightDownIdeal.nD,
          r.2.mem ((c.tc : Thread Cert.WeightDownIdeal.nD Cert.WeightDownIdeal.τ).loc Cert.WeightDownIdeal.main_v0) = v0 c
          ∧ r.2.mem ((c.tc : Thread Cert.WeightDownIdeal.nD Cert.WeightDownIdeal.τ).loc Cert.WeightDownIdeal.main_arg0) = m ((c.tc : Thread Cert.WeightDownIdeal.nD Cert.WeightDownIdeal.τ).loc Cert.WeightDownIdeal.main_arg0)
          ∧ r.2.mem ((c.tc : Thread Cert.WeightDownIdeal.nD Cert.WeightDownIdeal.τ).loc Cert.WeightDownIdeal.main_arg1) = m ((c.tc : Thread Cert.WeightDownIdeal.nD Cert.WeightDownIdeal.τ).loc Cert.WeightDownIdeal.main_arg1))
      ∧ θ_run (Cert.WeightDownReferenceIdeal.defs (F := Ideal)) (onTc (τ := Cert.WeightDownReferenceIdeal.τ) (Cert.WeightDownReferenceIdeal.main (F := Ideal))) ⟨m', fun _ => 0, g'⟩ (fun r => ∀ c : Dev Cert.WeightDownReferenceIdeal.nD,
          r.2.mem ((c.tc : Thread Cert.WeightDownReferenceIdeal.nD Cert.WeightDownReferenceIdeal.τ).loc Cert.WeightDownReferenceIdeal.main_v3) = v0 c
          ∧ r.2.mem ((c.tc : Thread Cert.WeightDownReferenceIdeal.nD Cert.WeightDownReferenceIdeal.τ).loc Cert.WeightDownReferenceIdeal.main_arg0) = m' ((c.tc : Thread Cert.WeightDownReferenceIdeal.nD Cert.WeightDownReferenceIdeal.τ).loc Cert.WeightDownReferenceIdeal.main_arg0)
          ∧ r.2.mem ((c.tc : Thread Cert.WeightDownReferenceIdeal.nD Cert.WeightDownReferenceIdeal.τ).loc Cert.WeightDownReferenceIdeal.main_arg1) = m' ((c.tc : Thread Cert.WeightDownReferenceIdeal.nD Cert.WeightDownReferenceIdeal.τ).loc Cert.WeightDownReferenceIdeal.main_arg1))

def preserves_WeightOut_WeightOutIdeal : Prop :=
  True

def algebraic_WeightOutIdeal_WeightOutReferenceIdeal [hWeightOutIdeal : Cert.WeightOutIdeal.Facts] [hWeightOutReferenceIdeal : Cert.WeightOutReferenceIdeal.Facts] : Prop :=
  ∀ (m : (ℓ : Loc Cert.WeightOutIdeal.nD Cert.WeightOutIdeal.τ Cert.WeightOutIdeal.sig) → Buf (Elt Ideal) ℓ) (g : Dev Cert.WeightOutIdeal.nD → PrngReg)
    (m' : (ℓ : Loc Cert.WeightOutReferenceIdeal.nD Cert.WeightOutReferenceIdeal.τ Cert.WeightOutReferenceIdeal.sig) → Buf (Elt Ideal) ℓ) (g' : Dev Cert.WeightOutReferenceIdeal.nD → PrngReg), Pre_WeightOutIdeal m →
    (∀ c : Dev Cert.WeightOutIdeal.nD,
      m' ((c.tc : Thread Cert.WeightOutReferenceIdeal.nD Cert.WeightOutReferenceIdeal.τ).loc Cert.WeightOutReferenceIdeal.main_arg0) = m ((c.tc : Thread Cert.WeightOutIdeal.nD Cert.WeightOutIdeal.τ).loc Cert.WeightOutIdeal.main_arg0)
      ∧ m' ((c.tc : Thread Cert.WeightOutReferenceIdeal.nD Cert.WeightOutReferenceIdeal.τ).loc Cert.WeightOutReferenceIdeal.main_arg1) = m ((c.tc : Thread Cert.WeightOutIdeal.nD Cert.WeightOutIdeal.τ).loc Cert.WeightOutIdeal.main_arg1)) →
    ∃ (v0 : (c : Dev Cert.WeightOutIdeal.nD) → Buf (Elt Ideal) ((c.tc : Thread Cert.WeightOutIdeal.nD Cert.WeightOutIdeal.τ).loc Cert.WeightOutIdeal.main_v0)),
      θ_run (Cert.WeightOutIdeal.defs (F := Ideal)) (onTc (τ := Cert.WeightOutIdeal.τ) (Cert.WeightOutIdeal.main (F := Ideal))) ⟨m, fun _ => 0, g⟩ (fun r => ∀ c : Dev Cert.WeightOutIdeal.nD,
          r.2.mem ((c.tc : Thread Cert.WeightOutIdeal.nD Cert.WeightOutIdeal.τ).loc Cert.WeightOutIdeal.main_v0) = v0 c
          ∧ r.2.mem ((c.tc : Thread Cert.WeightOutIdeal.nD Cert.WeightOutIdeal.τ).loc Cert.WeightOutIdeal.main_arg0) = m ((c.tc : Thread Cert.WeightOutIdeal.nD Cert.WeightOutIdeal.τ).loc Cert.WeightOutIdeal.main_arg0)
          ∧ r.2.mem ((c.tc : Thread Cert.WeightOutIdeal.nD Cert.WeightOutIdeal.τ).loc Cert.WeightOutIdeal.main_arg1) = m ((c.tc : Thread Cert.WeightOutIdeal.nD Cert.WeightOutIdeal.τ).loc Cert.WeightOutIdeal.main_arg1))
      ∧ θ_run (Cert.WeightOutReferenceIdeal.defs (F := Ideal)) (onTc (τ := Cert.WeightOutReferenceIdeal.τ) (Cert.WeightOutReferenceIdeal.main (F := Ideal))) ⟨m', fun _ => 0, g'⟩ (fun r => ∀ c : Dev Cert.WeightOutReferenceIdeal.nD,
          r.2.mem ((c.tc : Thread Cert.WeightOutReferenceIdeal.nD Cert.WeightOutReferenceIdeal.τ).loc Cert.WeightOutReferenceIdeal.main_v3) = v0 c
          ∧ r.2.mem ((c.tc : Thread Cert.WeightOutReferenceIdeal.nD Cert.WeightOutReferenceIdeal.τ).loc Cert.WeightOutReferenceIdeal.main_arg0) = m' ((c.tc : Thread Cert.WeightOutReferenceIdeal.nD Cert.WeightOutReferenceIdeal.τ).loc Cert.WeightOutReferenceIdeal.main_arg0)
          ∧ r.2.mem ((c.tc : Thread Cert.WeightOutReferenceIdeal.nD Cert.WeightOutReferenceIdeal.τ).loc Cert.WeightOutReferenceIdeal.main_arg1) = m' ((c.tc : Thread Cert.WeightOutReferenceIdeal.nD Cert.WeightOutReferenceIdeal.τ).loc Cert.WeightOutReferenceIdeal.main_arg1))

def preserves_WeightBranch_WeightBranchIdeal : Prop :=
  True

def algebraic_WeightBranchIdeal_WeightBranchReferenceIdeal [hWeightBranchIdeal : Cert.WeightBranchIdeal.Facts] [hWeightBranchReferenceIdeal : Cert.WeightBranchReferenceIdeal.Facts] : Prop :=
  ∀ (m : (ℓ : Loc Cert.WeightBranchIdeal.nD Cert.WeightBranchIdeal.τ Cert.WeightBranchIdeal.sig) → Buf (Elt Ideal) ℓ) (g : Dev Cert.WeightBranchIdeal.nD → PrngReg)
    (m' : (ℓ : Loc Cert.WeightBranchReferenceIdeal.nD Cert.WeightBranchReferenceIdeal.τ Cert.WeightBranchReferenceIdeal.sig) → Buf (Elt Ideal) ℓ) (g' : Dev Cert.WeightBranchReferenceIdeal.nD → PrngReg), Pre_WeightBranchIdeal m →
    (∀ c : Dev Cert.WeightBranchIdeal.nD,
      m' ((c.tc : Thread Cert.WeightBranchReferenceIdeal.nD Cert.WeightBranchReferenceIdeal.τ).loc Cert.WeightBranchReferenceIdeal.main_arg0) = m ((c.tc : Thread Cert.WeightBranchIdeal.nD Cert.WeightBranchIdeal.τ).loc Cert.WeightBranchIdeal.main_arg0)
      ∧ m' ((c.tc : Thread Cert.WeightBranchReferenceIdeal.nD Cert.WeightBranchReferenceIdeal.τ).loc Cert.WeightBranchReferenceIdeal.main_arg1) = m ((c.tc : Thread Cert.WeightBranchIdeal.nD Cert.WeightBranchIdeal.τ).loc Cert.WeightBranchIdeal.main_arg1)) →
    ∃ (v0 : (c : Dev Cert.WeightBranchIdeal.nD) → Buf (Elt Ideal) ((c.tc : Thread Cert.WeightBranchIdeal.nD Cert.WeightBranchIdeal.τ).loc Cert.WeightBranchIdeal.main_v0)),
      θ_run (Cert.WeightBranchIdeal.defs (F := Ideal)) (onTc (τ := Cert.WeightBranchIdeal.τ) (Cert.WeightBranchIdeal.main (F := Ideal))) ⟨m, fun _ => 0, g⟩ (fun r => ∀ c : Dev Cert.WeightBranchIdeal.nD,
          r.2.mem ((c.tc : Thread Cert.WeightBranchIdeal.nD Cert.WeightBranchIdeal.τ).loc Cert.WeightBranchIdeal.main_v0) = v0 c
          ∧ r.2.mem ((c.tc : Thread Cert.WeightBranchIdeal.nD Cert.WeightBranchIdeal.τ).loc Cert.WeightBranchIdeal.main_arg0) = m ((c.tc : Thread Cert.WeightBranchIdeal.nD Cert.WeightBranchIdeal.τ).loc Cert.WeightBranchIdeal.main_arg0)
          ∧ r.2.mem ((c.tc : Thread Cert.WeightBranchIdeal.nD Cert.WeightBranchIdeal.τ).loc Cert.WeightBranchIdeal.main_arg1) = m ((c.tc : Thread Cert.WeightBranchIdeal.nD Cert.WeightBranchIdeal.τ).loc Cert.WeightBranchIdeal.main_arg1))
      ∧ θ_run (Cert.WeightBranchReferenceIdeal.defs (F := Ideal)) (onTc (τ := Cert.WeightBranchReferenceIdeal.τ) (Cert.WeightBranchReferenceIdeal.main (F := Ideal))) ⟨m', fun _ => 0, g'⟩ (fun r => ∀ c : Dev Cert.WeightBranchReferenceIdeal.nD,
          r.2.mem ((c.tc : Thread Cert.WeightBranchReferenceIdeal.nD Cert.WeightBranchReferenceIdeal.τ).loc Cert.WeightBranchReferenceIdeal.main_v3) = v0 c
          ∧ r.2.mem ((c.tc : Thread Cert.WeightBranchReferenceIdeal.nD Cert.WeightBranchReferenceIdeal.τ).loc Cert.WeightBranchReferenceIdeal.main_arg0) = m' ((c.tc : Thread Cert.WeightBranchReferenceIdeal.nD Cert.WeightBranchReferenceIdeal.τ).loc Cert.WeightBranchReferenceIdeal.main_arg0)
          ∧ r.2.mem ((c.tc : Thread Cert.WeightBranchReferenceIdeal.nD Cert.WeightBranchReferenceIdeal.τ).loc Cert.WeightBranchReferenceIdeal.main_arg1) = m' ((c.tc : Thread Cert.WeightBranchReferenceIdeal.nD Cert.WeightBranchReferenceIdeal.τ).loc Cert.WeightBranchReferenceIdeal.main_arg1))

def preserves_Channel_ChannelIdeal : Prop :=
  True

def algebraic_ChannelIdeal_ChannelReferenceIdeal [hChannelIdeal : Cert.ChannelIdeal.Facts] [hChannelReferenceIdeal : Cert.ChannelReferenceIdeal.Facts] : Prop :=
  ∀ (m : (ℓ : Loc Cert.ChannelIdeal.nD Cert.ChannelIdeal.τ Cert.ChannelIdeal.sig) → Buf (Elt Ideal) ℓ) (g : Dev Cert.ChannelIdeal.nD → PrngReg)
    (m' : (ℓ : Loc Cert.ChannelReferenceIdeal.nD Cert.ChannelReferenceIdeal.τ Cert.ChannelReferenceIdeal.sig) → Buf (Elt Ideal) ℓ) (g' : Dev Cert.ChannelReferenceIdeal.nD → PrngReg), Pre_ChannelIdeal m →
    (∀ c : Dev Cert.ChannelIdeal.nD,
      m' ((c.tc : Thread Cert.ChannelReferenceIdeal.nD Cert.ChannelReferenceIdeal.τ).loc Cert.ChannelReferenceIdeal.main_arg0) = m ((c.tc : Thread Cert.ChannelIdeal.nD Cert.ChannelIdeal.τ).loc Cert.ChannelIdeal.main_arg0)
      ∧ m' ((c.tc : Thread Cert.ChannelReferenceIdeal.nD Cert.ChannelReferenceIdeal.τ).loc Cert.ChannelReferenceIdeal.main_arg1) = m ((c.tc : Thread Cert.ChannelIdeal.nD Cert.ChannelIdeal.τ).loc Cert.ChannelIdeal.main_arg1)
      ∧ m' ((c.tc : Thread Cert.ChannelReferenceIdeal.nD Cert.ChannelReferenceIdeal.τ).loc Cert.ChannelReferenceIdeal.main_arg2) = m ((c.tc : Thread Cert.ChannelIdeal.nD Cert.ChannelIdeal.τ).loc Cert.ChannelIdeal.main_arg2)
      ∧ m' ((c.tc : Thread Cert.ChannelReferenceIdeal.nD Cert.ChannelReferenceIdeal.τ).loc Cert.ChannelReferenceIdeal.main_arg3) = m ((c.tc : Thread Cert.ChannelIdeal.nD Cert.ChannelIdeal.τ).loc Cert.ChannelIdeal.main_arg3)
      ∧ m' ((c.tc : Thread Cert.ChannelReferenceIdeal.nD Cert.ChannelReferenceIdeal.τ).loc Cert.ChannelReferenceIdeal.main_arg4) = m ((c.tc : Thread Cert.ChannelIdeal.nD Cert.ChannelIdeal.τ).loc Cert.ChannelIdeal.main_arg4)) →
    ∃ (v0 : (c : Dev Cert.ChannelIdeal.nD) → Buf (Elt Ideal) ((c.tc : Thread Cert.ChannelIdeal.nD Cert.ChannelIdeal.τ).loc Cert.ChannelIdeal.main_v0)),
      θ_run (Cert.ChannelIdeal.defs (F := Ideal)) (onTc (τ := Cert.ChannelIdeal.τ) (Cert.ChannelIdeal.main (F := Ideal))) ⟨m, fun _ => 0, g⟩ (fun r => ∀ c : Dev Cert.ChannelIdeal.nD,
          r.2.mem ((c.tc : Thread Cert.ChannelIdeal.nD Cert.ChannelIdeal.τ).loc Cert.ChannelIdeal.main_v0) = v0 c
          ∧ r.2.mem ((c.tc : Thread Cert.ChannelIdeal.nD Cert.ChannelIdeal.τ).loc Cert.ChannelIdeal.main_arg0) = m ((c.tc : Thread Cert.ChannelIdeal.nD Cert.ChannelIdeal.τ).loc Cert.ChannelIdeal.main_arg0)
          ∧ r.2.mem ((c.tc : Thread Cert.ChannelIdeal.nD Cert.ChannelIdeal.τ).loc Cert.ChannelIdeal.main_arg1) = m ((c.tc : Thread Cert.ChannelIdeal.nD Cert.ChannelIdeal.τ).loc Cert.ChannelIdeal.main_arg1)
          ∧ r.2.mem ((c.tc : Thread Cert.ChannelIdeal.nD Cert.ChannelIdeal.τ).loc Cert.ChannelIdeal.main_arg2) = m ((c.tc : Thread Cert.ChannelIdeal.nD Cert.ChannelIdeal.τ).loc Cert.ChannelIdeal.main_arg2)
          ∧ r.2.mem ((c.tc : Thread Cert.ChannelIdeal.nD Cert.ChannelIdeal.τ).loc Cert.ChannelIdeal.main_arg3) = m ((c.tc : Thread Cert.ChannelIdeal.nD Cert.ChannelIdeal.τ).loc Cert.ChannelIdeal.main_arg3)
          ∧ r.2.mem ((c.tc : Thread Cert.ChannelIdeal.nD Cert.ChannelIdeal.τ).loc Cert.ChannelIdeal.main_arg4) = m ((c.tc : Thread Cert.ChannelIdeal.nD Cert.ChannelIdeal.τ).loc Cert.ChannelIdeal.main_arg4))
      ∧ θ_run (Cert.ChannelReferenceIdeal.defs (F := Ideal)) (onTc (τ := Cert.ChannelReferenceIdeal.τ) (Cert.ChannelReferenceIdeal.main (F := Ideal))) ⟨m', fun _ => 0, g'⟩ (fun r => ∀ c : Dev Cert.ChannelReferenceIdeal.nD,
          r.2.mem ((c.tc : Thread Cert.ChannelReferenceIdeal.nD Cert.ChannelReferenceIdeal.τ).loc Cert.ChannelReferenceIdeal.main_v22) = v0 c
          ∧ r.2.mem ((c.tc : Thread Cert.ChannelReferenceIdeal.nD Cert.ChannelReferenceIdeal.τ).loc Cert.ChannelReferenceIdeal.main_arg0) = m' ((c.tc : Thread Cert.ChannelReferenceIdeal.nD Cert.ChannelReferenceIdeal.τ).loc Cert.ChannelReferenceIdeal.main_arg0)
          ∧ r.2.mem ((c.tc : Thread Cert.ChannelReferenceIdeal.nD Cert.ChannelReferenceIdeal.τ).loc Cert.ChannelReferenceIdeal.main_arg1) = m' ((c.tc : Thread Cert.ChannelReferenceIdeal.nD Cert.ChannelReferenceIdeal.τ).loc Cert.ChannelReferenceIdeal.main_arg1)
          ∧ r.2.mem ((c.tc : Thread Cert.ChannelReferenceIdeal.nD Cert.ChannelReferenceIdeal.τ).loc Cert.ChannelReferenceIdeal.main_arg2) = m' ((c.tc : Thread Cert.ChannelReferenceIdeal.nD Cert.ChannelReferenceIdeal.τ).loc Cert.ChannelReferenceIdeal.main_arg2)
          ∧ r.2.mem ((c.tc : Thread Cert.ChannelReferenceIdeal.nD Cert.ChannelReferenceIdeal.τ).loc Cert.ChannelReferenceIdeal.main_arg3) = m' ((c.tc : Thread Cert.ChannelReferenceIdeal.nD Cert.ChannelReferenceIdeal.τ).loc Cert.ChannelReferenceIdeal.main_arg3)
          ∧ r.2.mem ((c.tc : Thread Cert.ChannelReferenceIdeal.nD Cert.ChannelReferenceIdeal.τ).loc Cert.ChannelReferenceIdeal.main_arg4) = m' ((c.tc : Thread Cert.ChannelReferenceIdeal.nD Cert.ChannelReferenceIdeal.τ).loc Cert.ChannelReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v23) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_MergeBackward_MergeBackwardIdeal : Prop :=
  True

def algebraic_MergeBackwardIdeal_MergeBackwardReferenceIdeal [hMergeBackwardIdeal : Cert.MergeBackwardIdeal.Facts] [hMergeBackwardReferenceIdeal : Cert.MergeBackwardReferenceIdeal.Facts] : Prop :=
  ∀ (m : (ℓ : Loc Cert.MergeBackwardIdeal.nD Cert.MergeBackwardIdeal.τ Cert.MergeBackwardIdeal.sig) → Buf (Elt Ideal) ℓ) (g : Dev Cert.MergeBackwardIdeal.nD → PrngReg)
    (m' : (ℓ : Loc Cert.MergeBackwardReferenceIdeal.nD Cert.MergeBackwardReferenceIdeal.τ Cert.MergeBackwardReferenceIdeal.sig) → Buf (Elt Ideal) ℓ) (g' : Dev Cert.MergeBackwardReferenceIdeal.nD → PrngReg), Pre_MergeBackwardIdeal m →
    (∀ c : Dev Cert.MergeBackwardIdeal.nD,
      m' ((c.tc : Thread Cert.MergeBackwardReferenceIdeal.nD Cert.MergeBackwardReferenceIdeal.τ).loc Cert.MergeBackwardReferenceIdeal.main_arg0) = m ((c.tc : Thread Cert.MergeBackwardIdeal.nD Cert.MergeBackwardIdeal.τ).loc Cert.MergeBackwardIdeal.main_arg0)
      ∧ m' ((c.tc : Thread Cert.MergeBackwardReferenceIdeal.nD Cert.MergeBackwardReferenceIdeal.τ).loc Cert.MergeBackwardReferenceIdeal.main_arg1) = m ((c.tc : Thread Cert.MergeBackwardIdeal.nD Cert.MergeBackwardIdeal.τ).loc Cert.MergeBackwardIdeal.main_arg1)
      ∧ m' ((c.tc : Thread Cert.MergeBackwardReferenceIdeal.nD Cert.MergeBackwardReferenceIdeal.τ).loc Cert.MergeBackwardReferenceIdeal.main_arg2) = m ((c.tc : Thread Cert.MergeBackwardIdeal.nD Cert.MergeBackwardIdeal.τ).loc Cert.MergeBackwardIdeal.main_arg2)
      ∧ m' ((c.tc : Thread Cert.MergeBackwardReferenceIdeal.nD Cert.MergeBackwardReferenceIdeal.τ).loc Cert.MergeBackwardReferenceIdeal.main_arg3) = m ((c.tc : Thread Cert.MergeBackwardIdeal.nD Cert.MergeBackwardIdeal.τ).loc Cert.MergeBackwardIdeal.main_arg3)
      ∧ m' ((c.tc : Thread Cert.MergeBackwardReferenceIdeal.nD Cert.MergeBackwardReferenceIdeal.τ).loc Cert.MergeBackwardReferenceIdeal.main_arg4) = m ((c.tc : Thread Cert.MergeBackwardIdeal.nD Cert.MergeBackwardIdeal.τ).loc Cert.MergeBackwardIdeal.main_arg4)
      ∧ m' ((c.tc : Thread Cert.MergeBackwardReferenceIdeal.nD Cert.MergeBackwardReferenceIdeal.τ).loc Cert.MergeBackwardReferenceIdeal.main_arg5) = m ((c.tc : Thread Cert.MergeBackwardIdeal.nD Cert.MergeBackwardIdeal.τ).loc Cert.MergeBackwardIdeal.main_arg5)
      ∧ m' ((c.tc : Thread Cert.MergeBackwardReferenceIdeal.nD Cert.MergeBackwardReferenceIdeal.τ).loc Cert.MergeBackwardReferenceIdeal.main_arg6) = m ((c.tc : Thread Cert.MergeBackwardIdeal.nD Cert.MergeBackwardIdeal.τ).loc Cert.MergeBackwardIdeal.main_arg6)
      ∧ m' ((c.tc : Thread Cert.MergeBackwardReferenceIdeal.nD Cert.MergeBackwardReferenceIdeal.τ).loc Cert.MergeBackwardReferenceIdeal.main_arg7) = m ((c.tc : Thread Cert.MergeBackwardIdeal.nD Cert.MergeBackwardIdeal.τ).loc Cert.MergeBackwardIdeal.main_arg7)) →
    ∃ (v0 : (c : Dev Cert.MergeBackwardIdeal.nD) → Buf (Elt Ideal) ((c.tc : Thread Cert.MergeBackwardIdeal.nD Cert.MergeBackwardIdeal.τ).loc Cert.MergeBackwardIdeal.main_v0_0)) (v1 : (c : Dev Cert.MergeBackwardIdeal.nD) → Buf (Elt Ideal) ((c.tc : Thread Cert.MergeBackwardIdeal.nD Cert.MergeBackwardIdeal.τ).loc Cert.MergeBackwardIdeal.main_v0_1)) (v2 : (c : Dev Cert.MergeBackwardIdeal.nD) → Buf (Elt Ideal) ((c.tc : Thread Cert.MergeBackwardIdeal.nD Cert.MergeBackwardIdeal.τ).loc Cert.MergeBackwardIdeal.main_v0_2)) (v3 : (c : Dev Cert.MergeBackwardIdeal.nD) → Buf (Elt Ideal) ((c.tc : Thread Cert.MergeBackwardIdeal.nD Cert.MergeBackwardIdeal.τ).loc Cert.MergeBackwardIdeal.main_v0_3)) (v4 : (c : Dev Cert.MergeBackwardIdeal.nD) → Buf (Elt Ideal) ((c.tc : Thread Cert.MergeBackwardIdeal.nD Cert.MergeBackwardIdeal.τ).loc Cert.MergeBackwardIdeal.main_v0_4)) (v5 : (c : Dev Cert.MergeBackwardIdeal.nD) → Buf (Elt Ideal) ((c.tc : Thread Cert.MergeBackwardIdeal.nD Cert.MergeBackwardIdeal.τ).loc Cert.MergeBackwardIdeal.main_v0_5)) (v6 : (c : Dev Cert.MergeBackwardIdeal.nD) → Buf (Elt Ideal) ((c.tc : Thread Cert.MergeBackwardIdeal.nD Cert.MergeBackwardIdeal.τ).loc Cert.MergeBackwardIdeal.main_v0_6)),
      θ_run (Cert.MergeBackwardIdeal.defs (F := Ideal)) (onTc (τ := Cert.MergeBackwardIdeal.τ) (Cert.MergeBackwardIdeal.main (F := Ideal))) ⟨m, fun _ => 0, g⟩ (fun r => ∀ c : Dev Cert.MergeBackwardIdeal.nD,
          r.2.mem ((c.tc : Thread Cert.MergeBackwardIdeal.nD Cert.MergeBackwardIdeal.τ).loc Cert.MergeBackwardIdeal.main_v0_0) = v0 c
          ∧ r.2.mem ((c.tc : Thread Cert.MergeBackwardIdeal.nD Cert.MergeBackwardIdeal.τ).loc Cert.MergeBackwardIdeal.main_v0_1) = v1 c
          ∧ r.2.mem ((c.tc : Thread Cert.MergeBackwardIdeal.nD Cert.MergeBackwardIdeal.τ).loc Cert.MergeBackwardIdeal.main_v0_2) = v2 c
          ∧ r.2.mem ((c.tc : Thread Cert.MergeBackwardIdeal.nD Cert.MergeBackwardIdeal.τ).loc Cert.MergeBackwardIdeal.main_v0_3) = v3 c
          ∧ r.2.mem ((c.tc : Thread Cert.MergeBackwardIdeal.nD Cert.MergeBackwardIdeal.τ).loc Cert.MergeBackwardIdeal.main_v0_4) = v4 c
          ∧ r.2.mem ((c.tc : Thread Cert.MergeBackwardIdeal.nD Cert.MergeBackwardIdeal.τ).loc Cert.MergeBackwardIdeal.main_v0_5) = v5 c
          ∧ r.2.mem ((c.tc : Thread Cert.MergeBackwardIdeal.nD Cert.MergeBackwardIdeal.τ).loc Cert.MergeBackwardIdeal.main_v0_6) = v6 c
          ∧ r.2.mem ((c.tc : Thread Cert.MergeBackwardIdeal.nD Cert.MergeBackwardIdeal.τ).loc Cert.MergeBackwardIdeal.main_arg0) = m ((c.tc : Thread Cert.MergeBackwardIdeal.nD Cert.MergeBackwardIdeal.τ).loc Cert.MergeBackwardIdeal.main_arg0)
          ∧ r.2.mem ((c.tc : Thread Cert.MergeBackwardIdeal.nD Cert.MergeBackwardIdeal.τ).loc Cert.MergeBackwardIdeal.main_arg1) = m ((c.tc : Thread Cert.MergeBackwardIdeal.nD Cert.MergeBackwardIdeal.τ).loc Cert.MergeBackwardIdeal.main_arg1)
          ∧ r.2.mem ((c.tc : Thread Cert.MergeBackwardIdeal.nD Cert.MergeBackwardIdeal.τ).loc Cert.MergeBackwardIdeal.main_arg2) = m ((c.tc : Thread Cert.MergeBackwardIdeal.nD Cert.MergeBackwardIdeal.τ).loc Cert.MergeBackwardIdeal.main_arg2)
          ∧ r.2.mem ((c.tc : Thread Cert.MergeBackwardIdeal.nD Cert.MergeBackwardIdeal.τ).loc Cert.MergeBackwardIdeal.main_arg3) = m ((c.tc : Thread Cert.MergeBackwardIdeal.nD Cert.MergeBackwardIdeal.τ).loc Cert.MergeBackwardIdeal.main_arg3)
          ∧ r.2.mem ((c.tc : Thread Cert.MergeBackwardIdeal.nD Cert.MergeBackwardIdeal.τ).loc Cert.MergeBackwardIdeal.main_arg4) = m ((c.tc : Thread Cert.MergeBackwardIdeal.nD Cert.MergeBackwardIdeal.τ).loc Cert.MergeBackwardIdeal.main_arg4)
          ∧ r.2.mem ((c.tc : Thread Cert.MergeBackwardIdeal.nD Cert.MergeBackwardIdeal.τ).loc Cert.MergeBackwardIdeal.main_arg5) = m ((c.tc : Thread Cert.MergeBackwardIdeal.nD Cert.MergeBackwardIdeal.τ).loc Cert.MergeBackwardIdeal.main_arg5)
          ∧ r.2.mem ((c.tc : Thread Cert.MergeBackwardIdeal.nD Cert.MergeBackwardIdeal.τ).loc Cert.MergeBackwardIdeal.main_arg6) = m ((c.tc : Thread Cert.MergeBackwardIdeal.nD Cert.MergeBackwardIdeal.τ).loc Cert.MergeBackwardIdeal.main_arg6)
          ∧ r.2.mem ((c.tc : Thread Cert.MergeBackwardIdeal.nD Cert.MergeBackwardIdeal.τ).loc Cert.MergeBackwardIdeal.main_arg7) = m ((c.tc : Thread Cert.MergeBackwardIdeal.nD Cert.MergeBackwardIdeal.τ).loc Cert.MergeBackwardIdeal.main_arg7))
      ∧ θ_run (Cert.MergeBackwardReferenceIdeal.defs (F := Ideal)) (onTc (τ := Cert.MergeBackwardReferenceIdeal.τ) (Cert.MergeBackwardReferenceIdeal.main (F := Ideal))) ⟨m', fun _ => 0, g'⟩ (fun r => ∀ c : Dev Cert.MergeBackwardReferenceIdeal.nD,
          r.2.mem ((c.tc : Thread Cert.MergeBackwardReferenceIdeal.nD Cert.MergeBackwardReferenceIdeal.τ).loc Cert.MergeBackwardReferenceIdeal.main_v34) = v0 c
          ∧ r.2.mem ((c.tc : Thread Cert.MergeBackwardReferenceIdeal.nD Cert.MergeBackwardReferenceIdeal.τ).loc Cert.MergeBackwardReferenceIdeal.main_v36) = v1 c
          ∧ r.2.mem ((c.tc : Thread Cert.MergeBackwardReferenceIdeal.nD Cert.MergeBackwardReferenceIdeal.τ).loc Cert.MergeBackwardReferenceIdeal.main_v38) = v2 c
          ∧ r.2.mem ((c.tc : Thread Cert.MergeBackwardReferenceIdeal.nD Cert.MergeBackwardReferenceIdeal.τ).loc Cert.MergeBackwardReferenceIdeal.main_v40) = v3 c
          ∧ r.2.mem ((c.tc : Thread Cert.MergeBackwardReferenceIdeal.nD Cert.MergeBackwardReferenceIdeal.τ).loc Cert.MergeBackwardReferenceIdeal.main_v42) = v4 c
          ∧ r.2.mem ((c.tc : Thread Cert.MergeBackwardReferenceIdeal.nD Cert.MergeBackwardReferenceIdeal.τ).loc Cert.MergeBackwardReferenceIdeal.main_v45) = v5 c
          ∧ r.2.mem ((c.tc : Thread Cert.MergeBackwardReferenceIdeal.nD Cert.MergeBackwardReferenceIdeal.τ).loc Cert.MergeBackwardReferenceIdeal.main_v47) = v6 c
          ∧ r.2.mem ((c.tc : Thread Cert.MergeBackwardReferenceIdeal.nD Cert.MergeBackwardReferenceIdeal.τ).loc Cert.MergeBackwardReferenceIdeal.main_arg0) = m' ((c.tc : Thread Cert.MergeBackwardReferenceIdeal.nD Cert.MergeBackwardReferenceIdeal.τ).loc Cert.MergeBackwardReferenceIdeal.main_arg0)
          ∧ r.2.mem ((c.tc : Thread Cert.MergeBackwardReferenceIdeal.nD Cert.MergeBackwardReferenceIdeal.τ).loc Cert.MergeBackwardReferenceIdeal.main_arg1) = m' ((c.tc : Thread Cert.MergeBackwardReferenceIdeal.nD Cert.MergeBackwardReferenceIdeal.τ).loc Cert.MergeBackwardReferenceIdeal.main_arg1)
          ∧ r.2.mem ((c.tc : Thread Cert.MergeBackwardReferenceIdeal.nD Cert.MergeBackwardReferenceIdeal.τ).loc Cert.MergeBackwardReferenceIdeal.main_arg2) = m' ((c.tc : Thread Cert.MergeBackwardReferenceIdeal.nD Cert.MergeBackwardReferenceIdeal.τ).loc Cert.MergeBackwardReferenceIdeal.main_arg2)
          ∧ r.2.mem ((c.tc : Thread Cert.MergeBackwardReferenceIdeal.nD Cert.MergeBackwardReferenceIdeal.τ).loc Cert.MergeBackwardReferenceIdeal.main_arg3) = m' ((c.tc : Thread Cert.MergeBackwardReferenceIdeal.nD Cert.MergeBackwardReferenceIdeal.τ).loc Cert.MergeBackwardReferenceIdeal.main_arg3)
          ∧ r.2.mem ((c.tc : Thread Cert.MergeBackwardReferenceIdeal.nD Cert.MergeBackwardReferenceIdeal.τ).loc Cert.MergeBackwardReferenceIdeal.main_arg4) = m' ((c.tc : Thread Cert.MergeBackwardReferenceIdeal.nD Cert.MergeBackwardReferenceIdeal.τ).loc Cert.MergeBackwardReferenceIdeal.main_arg4)
          ∧ r.2.mem ((c.tc : Thread Cert.MergeBackwardReferenceIdeal.nD Cert.MergeBackwardReferenceIdeal.τ).loc Cert.MergeBackwardReferenceIdeal.main_arg5) = m' ((c.tc : Thread Cert.MergeBackwardReferenceIdeal.nD Cert.MergeBackwardReferenceIdeal.τ).loc Cert.MergeBackwardReferenceIdeal.main_arg5)
          ∧ r.2.mem ((c.tc : Thread Cert.MergeBackwardReferenceIdeal.nD Cert.MergeBackwardReferenceIdeal.τ).loc Cert.MergeBackwardReferenceIdeal.main_arg6) = m' ((c.tc : Thread Cert.MergeBackwardReferenceIdeal.nD Cert.MergeBackwardReferenceIdeal.τ).loc Cert.MergeBackwardReferenceIdeal.main_arg6)
          ∧ r.2.mem ((c.tc : Thread Cert.MergeBackwardReferenceIdeal.nD Cert.MergeBackwardReferenceIdeal.τ).loc Cert.MergeBackwardReferenceIdeal.main_arg7) = m' ((c.tc : Thread Cert.MergeBackwardReferenceIdeal.nD Cert.MergeBackwardReferenceIdeal.τ).loc Cert.MergeBackwardReferenceIdeal.main_arg7))

def preserves_Attention_AttentionIdeal : Prop :=
  True

def algebraic_AttentionIdeal_AttentionReferenceIdeal [hAttentionIdeal : Cert.AttentionIdeal.Facts] [hAttentionReferenceIdeal : Cert.AttentionReferenceIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v22) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2))

def preserves_Shift_ShiftIdeal : Prop :=
  True

def algebraic_ShiftIdeal_ShiftReferenceIdeal [hShiftIdeal : Cert.ShiftIdeal.Facts] [hShiftReferenceIdeal : Cert.ShiftReferenceIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftReferenceIdeal.nD Cert.ShiftReferenceIdeal.τ Cert.ShiftReferenceIdeal.sig) → Buf (Elt Ideal) ℓ) (g' : Dev Cert.ShiftReferenceIdeal.nD → PrngReg), Pre_ShiftIdeal m →
    (∀ c : Dev Cert.ShiftIdeal.nD,
      m' ((c.tc : Thread Cert.ShiftReferenceIdeal.nD Cert.ShiftReferenceIdeal.τ).loc Cert.ShiftReferenceIdeal.main_arg0) = m ((c.tc : Thread Cert.ShiftIdeal.nD Cert.ShiftIdeal.τ).loc Cert.ShiftIdeal.main_arg0)
      ∧ m' ((c.tc : Thread Cert.ShiftReferenceIdeal.nD Cert.ShiftReferenceIdeal.τ).loc Cert.ShiftReferenceIdeal.main_arg1) = m ((c.tc : Thread Cert.ShiftIdeal.nD Cert.ShiftIdeal.τ).loc Cert.ShiftIdeal.main_arg1)) →
    ∃ (v0 : (c : Dev Cert.ShiftIdeal.nD) → Buf (Elt Ideal) ((c.tc : Thread Cert.ShiftIdeal.nD Cert.ShiftIdeal.τ).loc Cert.ShiftIdeal.main_v0)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v0) = v0 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1))
      ∧ θ_run (Cert.ShiftReferenceIdeal.defs (F := Ideal)) (onTc (τ := Cert.ShiftReferenceIdeal.τ) (Cert.ShiftReferenceIdeal.main (F := Ideal))) ⟨m', fun _ => 0, g'⟩ (fun r => ∀ c : Dev Cert.ShiftReferenceIdeal.nD,
          r.2.mem ((c.tc : Thread Cert.ShiftReferenceIdeal.nD Cert.ShiftReferenceIdeal.τ).loc Cert.ShiftReferenceIdeal.main_v14) = v0 c
          ∧ r.2.mem ((c.tc : Thread Cert.ShiftReferenceIdeal.nD Cert.ShiftReferenceIdeal.τ).loc Cert.ShiftReferenceIdeal.main_arg0) = m' ((c.tc : Thread Cert.ShiftReferenceIdeal.nD Cert.ShiftReferenceIdeal.τ).loc Cert.ShiftReferenceIdeal.main_arg0)
          ∧ r.2.mem ((c.tc : Thread Cert.ShiftReferenceIdeal.nD Cert.ShiftReferenceIdeal.τ).loc Cert.ShiftReferenceIdeal.main_arg1) = m' ((c.tc : Thread Cert.ShiftReferenceIdeal.nD Cert.ShiftReferenceIdeal.τ).loc Cert.ShiftReferenceIdeal.main_arg1))

def preserves_Gating_GatingIdeal : Prop :=
  True

def algebraic_GatingIdeal_GatingReferenceIdeal [hGatingIdeal : Cert.GatingIdeal.Facts] [hGatingReferenceIdeal : Cert.GatingReferenceIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingReferenceIdeal.nD Cert.GatingReferenceIdeal.τ Cert.GatingReferenceIdeal.sig) → Buf (Elt Ideal) ℓ) (g' : Dev Cert.GatingReferenceIdeal.nD → PrngReg), Pre_GatingIdeal m →
    (∀ c : Dev Cert.GatingIdeal.nD,
      m' ((c.tc : Thread Cert.GatingReferenceIdeal.nD Cert.GatingReferenceIdeal.τ).loc Cert.GatingReferenceIdeal.main_arg0) = m ((c.tc : Thread Cert.GatingIdeal.nD Cert.GatingIdeal.τ).loc Cert.GatingIdeal.main_arg0)
      ∧ m' ((c.tc : Thread Cert.GatingReferenceIdeal.nD Cert.GatingReferenceIdeal.τ).loc Cert.GatingReferenceIdeal.main_arg1) = m ((c.tc : Thread Cert.GatingIdeal.nD Cert.GatingIdeal.τ).loc Cert.GatingIdeal.main_arg1)
      ∧ m' ((c.tc : Thread Cert.GatingReferenceIdeal.nD Cert.GatingReferenceIdeal.τ).loc Cert.GatingReferenceIdeal.main_arg2) = m ((c.tc : Thread Cert.GatingIdeal.nD Cert.GatingIdeal.τ).loc Cert.GatingIdeal.main_arg2)
      ∧ m' ((c.tc : Thread Cert.GatingReferenceIdeal.nD Cert.GatingReferenceIdeal.τ).loc Cert.GatingReferenceIdeal.main_arg3) = m ((c.tc : Thread Cert.GatingIdeal.nD Cert.GatingIdeal.τ).loc Cert.GatingIdeal.main_arg3)
      ∧ m' ((c.tc : Thread Cert.GatingReferenceIdeal.nD Cert.GatingReferenceIdeal.τ).loc Cert.GatingReferenceIdeal.main_arg4) = m ((c.tc : Thread Cert.GatingIdeal.nD Cert.GatingIdeal.τ).loc Cert.GatingIdeal.main_arg4)
      ∧ m' ((c.tc : Thread Cert.GatingReferenceIdeal.nD Cert.GatingReferenceIdeal.τ).loc Cert.GatingReferenceIdeal.main_arg5) = m ((c.tc : Thread Cert.GatingIdeal.nD Cert.GatingIdeal.τ).loc Cert.GatingIdeal.main_arg5)
      ∧ m' ((c.tc : Thread Cert.GatingReferenceIdeal.nD Cert.GatingReferenceIdeal.τ).loc Cert.GatingReferenceIdeal.main_arg6) = m ((c.tc : Thread Cert.GatingIdeal.nD Cert.GatingIdeal.τ).loc Cert.GatingIdeal.main_arg6)
      ∧ m' ((c.tc : Thread Cert.GatingReferenceIdeal.nD Cert.GatingReferenceIdeal.τ).loc Cert.GatingReferenceIdeal.main_arg7) = m ((c.tc : Thread Cert.GatingIdeal.nD Cert.GatingIdeal.τ).loc Cert.GatingIdeal.main_arg7)
      ∧ m' ((c.tc : Thread Cert.GatingReferenceIdeal.nD Cert.GatingReferenceIdeal.τ).loc Cert.GatingReferenceIdeal.main_arg8) = m ((c.tc : Thread Cert.GatingIdeal.nD Cert.GatingIdeal.τ).loc Cert.GatingIdeal.main_arg8)
      ∧ m' ((c.tc : Thread Cert.GatingReferenceIdeal.nD Cert.GatingReferenceIdeal.τ).loc Cert.GatingReferenceIdeal.main_arg9) = m ((c.tc : Thread Cert.GatingIdeal.nD Cert.GatingIdeal.τ).loc Cert.GatingIdeal.main_arg9)
      ∧ m' ((c.tc : Thread Cert.GatingReferenceIdeal.nD Cert.GatingReferenceIdeal.τ).loc Cert.GatingReferenceIdeal.main_arg10) = m ((c.tc : Thread Cert.GatingIdeal.nD Cert.GatingIdeal.τ).loc Cert.GatingIdeal.main_arg10)
      ∧ m' ((c.tc : Thread Cert.GatingReferenceIdeal.nD Cert.GatingReferenceIdeal.τ).loc Cert.GatingReferenceIdeal.main_arg11) = m ((c.tc : Thread Cert.GatingIdeal.nD Cert.GatingIdeal.τ).loc Cert.GatingIdeal.main_arg11)) →
    ∃ (v0 : (c : Dev Cert.GatingIdeal.nD) → Buf (Elt Ideal) ((c.tc : Thread Cert.GatingIdeal.nD Cert.GatingIdeal.τ).loc Cert.GatingIdeal.main_v0)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v0) = v0 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4)
          ∧ r.2.mem ((c.tc : Thread Cert.GatingIdeal.nD Cert.GatingIdeal.τ).loc Cert.GatingIdeal.main_arg5) = m ((c.tc : Thread Cert.GatingIdeal.nD Cert.GatingIdeal.τ).loc Cert.GatingIdeal.main_arg5)
          ∧ r.2.mem ((c.tc : Thread Cert.GatingIdeal.nD Cert.GatingIdeal.τ).loc Cert.GatingIdeal.main_arg6) = m ((c.tc : Thread Cert.GatingIdeal.nD Cert.GatingIdeal.τ).loc Cert.GatingIdeal.main_arg6)
          ∧ r.2.mem ((c.tc : Thread Cert.GatingIdeal.nD Cert.GatingIdeal.τ).loc Cert.GatingIdeal.main_arg7) = m ((c.tc : Thread Cert.GatingIdeal.nD Cert.GatingIdeal.τ).loc Cert.GatingIdeal.main_arg7)
          ∧ r.2.mem ((c.tc : Thread Cert.GatingIdeal.nD Cert.GatingIdeal.τ).loc Cert.GatingIdeal.main_arg8) = m ((c.tc : Thread Cert.GatingIdeal.nD Cert.GatingIdeal.τ).loc Cert.GatingIdeal.main_arg8)
          ∧ r.2.mem ((c.tc : Thread Cert.GatingIdeal.nD Cert.GatingIdeal.τ).loc Cert.GatingIdeal.main_arg9) = m ((c.tc : Thread Cert.GatingIdeal.nD Cert.GatingIdeal.τ).loc Cert.GatingIdeal.main_arg9)
          ∧ r.2.mem ((c.tc : Thread Cert.GatingIdeal.nD Cert.GatingIdeal.τ).loc Cert.GatingIdeal.main_arg10) = m ((c.tc : Thread Cert.GatingIdeal.nD Cert.GatingIdeal.τ).loc Cert.GatingIdeal.main_arg10)
          ∧ r.2.mem ((c.tc : Thread Cert.GatingIdeal.nD Cert.GatingIdeal.τ).loc Cert.GatingIdeal.main_arg11) = m ((c.tc : Thread Cert.GatingIdeal.nD Cert.GatingIdeal.τ).loc Cert.GatingIdeal.main_arg11))
      ∧ θ_run (Cert.GatingReferenceIdeal.defs (F := Ideal)) (onTc (τ := Cert.GatingReferenceIdeal.τ) (Cert.GatingReferenceIdeal.main (F := Ideal))) ⟨m', fun _ => 0, g'⟩ (fun r => ∀ c : Dev Cert.GatingReferenceIdeal.nD,
          r.2.mem ((c.tc : Thread Cert.GatingReferenceIdeal.nD Cert.GatingReferenceIdeal.τ).loc Cert.GatingReferenceIdeal.main_v55) = v0 c
          ∧ r.2.mem ((c.tc : Thread Cert.GatingReferenceIdeal.nD Cert.GatingReferenceIdeal.τ).loc Cert.GatingReferenceIdeal.main_arg0) = m' ((c.tc : Thread Cert.GatingReferenceIdeal.nD Cert.GatingReferenceIdeal.τ).loc Cert.GatingReferenceIdeal.main_arg0)
          ∧ r.2.mem ((c.tc : Thread Cert.GatingReferenceIdeal.nD Cert.GatingReferenceIdeal.τ).loc Cert.GatingReferenceIdeal.main_arg1) = m' ((c.tc : Thread Cert.GatingReferenceIdeal.nD Cert.GatingReferenceIdeal.τ).loc Cert.GatingReferenceIdeal.main_arg1)
          ∧ r.2.mem ((c.tc : Thread Cert.GatingReferenceIdeal.nD Cert.GatingReferenceIdeal.τ).loc Cert.GatingReferenceIdeal.main_arg2) = m' ((c.tc : Thread Cert.GatingReferenceIdeal.nD Cert.GatingReferenceIdeal.τ).loc Cert.GatingReferenceIdeal.main_arg2)
          ∧ r.2.mem ((c.tc : Thread Cert.GatingReferenceIdeal.nD Cert.GatingReferenceIdeal.τ).loc Cert.GatingReferenceIdeal.main_arg3) = m' ((c.tc : Thread Cert.GatingReferenceIdeal.nD Cert.GatingReferenceIdeal.τ).loc Cert.GatingReferenceIdeal.main_arg3)
          ∧ r.2.mem ((c.tc : Thread Cert.GatingReferenceIdeal.nD Cert.GatingReferenceIdeal.τ).loc Cert.GatingReferenceIdeal.main_arg4) = m' ((c.tc : Thread Cert.GatingReferenceIdeal.nD Cert.GatingReferenceIdeal.τ).loc Cert.GatingReferenceIdeal.main_arg4)
          ∧ r.2.mem ((c.tc : Thread Cert.GatingReferenceIdeal.nD Cert.GatingReferenceIdeal.τ).loc Cert.GatingReferenceIdeal.main_arg5) = m' ((c.tc : Thread Cert.GatingReferenceIdeal.nD Cert.GatingReferenceIdeal.τ).loc Cert.GatingReferenceIdeal.main_arg5)
          ∧ r.2.mem ((c.tc : Thread Cert.GatingReferenceIdeal.nD Cert.GatingReferenceIdeal.τ).loc Cert.GatingReferenceIdeal.main_arg6) = m' ((c.tc : Thread Cert.GatingReferenceIdeal.nD Cert.GatingReferenceIdeal.τ).loc Cert.GatingReferenceIdeal.main_arg6)
          ∧ r.2.mem ((c.tc : Thread Cert.GatingReferenceIdeal.nD Cert.GatingReferenceIdeal.τ).loc Cert.GatingReferenceIdeal.main_arg7) = m' ((c.tc : Thread Cert.GatingReferenceIdeal.nD Cert.GatingReferenceIdeal.τ).loc Cert.GatingReferenceIdeal.main_arg7)
          ∧ r.2.mem ((c.tc : Thread Cert.GatingReferenceIdeal.nD Cert.GatingReferenceIdeal.τ).loc Cert.GatingReferenceIdeal.main_arg8) = m' ((c.tc : Thread Cert.GatingReferenceIdeal.nD Cert.GatingReferenceIdeal.τ).loc Cert.GatingReferenceIdeal.main_arg8)
          ∧ r.2.mem ((c.tc : Thread Cert.GatingReferenceIdeal.nD Cert.GatingReferenceIdeal.τ).loc Cert.GatingReferenceIdeal.main_arg9) = m' ((c.tc : Thread Cert.GatingReferenceIdeal.nD Cert.GatingReferenceIdeal.τ).loc Cert.GatingReferenceIdeal.main_arg9)
          ∧ r.2.mem ((c.tc : Thread Cert.GatingReferenceIdeal.nD Cert.GatingReferenceIdeal.τ).loc Cert.GatingReferenceIdeal.main_arg10) = m' ((c.tc : Thread Cert.GatingReferenceIdeal.nD Cert.GatingReferenceIdeal.τ).loc Cert.GatingReferenceIdeal.main_arg10)
          ∧ r.2.mem ((c.tc : Thread Cert.GatingReferenceIdeal.nD Cert.GatingReferenceIdeal.τ).loc Cert.GatingReferenceIdeal.main_arg11) = m' ((c.tc : Thread Cert.GatingReferenceIdeal.nD Cert.GatingReferenceIdeal.τ).loc Cert.GatingReferenceIdeal.main_arg11))

def Claim : Prop :=
  ∃ (hKernel : Cert.Kernel.Facts) (hKernelIdeal : Cert.KernelIdeal.Facts) (hReference : Cert.Reference.Facts) (hReferenceIdeal : Cert.ReferenceIdeal.Facts) (hGather : Cert.Gather.Facts) (hGatherIdeal : Cert.GatherIdeal.Facts) (hGatherReference : Cert.GatherReference.Facts) (hGatherReferenceIdeal : Cert.GatherReferenceIdeal.Facts) (hAdamwIn : Cert.AdamwIn.Facts) (hAdamwInIdeal : Cert.AdamwInIdeal.Facts) (hAdamwReferenceInIdeal : Cert.AdamwReferenceInIdeal.Facts) (hAdamwSg : Cert.AdamwSg.Facts) (hAdamwSgIdeal : Cert.AdamwSgIdeal.Facts) (hAdamwReferenceSgIdeal : Cert.AdamwReferenceSgIdeal.Facts) (hAdamwBranch : Cert.AdamwBranch.Facts) (hAdamwBranchIdeal : Cert.AdamwBranchIdeal.Facts) (hAdamwReferenceBranchIdeal : Cert.AdamwReferenceBranchIdeal.Facts) (hAdamwOut : Cert.AdamwOut.Facts) (hAdamwOutIdeal : Cert.AdamwOutIdeal.Facts) (hAdamwReferenceOutIdeal : Cert.AdamwReferenceOutIdeal.Facts) (hAdamwFfn : Cert.AdamwFfn.Facts) (hAdamwFfnIdeal : Cert.AdamwFfnIdeal.Facts) (hAdamwReferenceFfnIdeal : Cert.AdamwReferenceFfnIdeal.Facts) (hAdamwDown : Cert.AdamwDown.Facts) (hAdamwDownIdeal : Cert.AdamwDownIdeal.Facts) (hAdamwReferenceDownIdeal : Cert.AdamwReferenceDownIdeal.Facts) (hAdamwSmall : Cert.AdamwSmall.Facts) (hAdamwSmallIdeal : Cert.AdamwSmallIdeal.Facts) (hAdamwReferenceSmallIdeal : Cert.AdamwReferenceSmallIdeal.Facts) (hSumSharded : Cert.SumSharded.Facts) (hSumShardedIdeal : Cert.SumShardedIdeal.Facts) (hSumReferenceShardedIdeal : Cert.SumReferenceShardedIdeal.Facts) (hSumReplicated : Cert.SumReplicated.Facts) (hSumReplicatedIdeal : Cert.SumReplicatedIdeal.Facts) (hSumReferenceReplicatedIdeal : Cert.SumReferenceReplicatedIdeal.Facts) (hLoss : Cert.Loss.Facts) (hLossIdeal : Cert.LossIdeal.Facts) (hLossReferenceIdeal : Cert.LossReferenceIdeal.Facts) (hInput : Cert.Input.Facts) (hInputIdeal : Cert.InputIdeal.Facts) (hInputReferenceIdeal : Cert.InputReferenceIdeal.Facts) (hWeightIn : Cert.WeightIn.Facts) (hWeightInIdeal : Cert.WeightInIdeal.Facts) (hWeightInReferenceIdeal : Cert.WeightInReferenceIdeal.Facts) (hWeightGate : Cert.WeightGate.Facts) (hWeightGateIdeal : Cert.WeightGateIdeal.Facts) (hWeightGateReferenceIdeal : Cert.WeightGateReferenceIdeal.Facts) (hWeightDown : Cert.WeightDown.Facts) (hWeightDownIdeal : Cert.WeightDownIdeal.Facts) (hWeightDownReferenceIdeal : Cert.WeightDownReferenceIdeal.Facts) (hWeightOut : Cert.WeightOut.Facts) (hWeightOutIdeal : Cert.WeightOutIdeal.Facts) (hWeightOutReferenceIdeal : Cert.WeightOutReferenceIdeal.Facts) (hWeightBranch : Cert.WeightBranch.Facts) (hWeightBranchIdeal : Cert.WeightBranchIdeal.Facts) (hWeightBranchReferenceIdeal : Cert.WeightBranchReferenceIdeal.Facts) (hChannel : Cert.Channel.Facts) (hChannelIdeal : Cert.ChannelIdeal.Facts) (hChannelReferenceIdeal : Cert.ChannelReferenceIdeal.Facts) (hMerge : Cert.Merge.Facts) (hMergeIdeal : Cert.MergeIdeal.Facts) (hMergeReferenceIdeal : Cert.MergeReferenceIdeal.Facts) (hMergeBackward : Cert.MergeBackward.Facts) (hMergeBackwardIdeal : Cert.MergeBackwardIdeal.Facts) (hMergeBackwardReferenceIdeal : Cert.MergeBackwardReferenceIdeal.Facts) (hAttention : Cert.Attention.Facts) (hAttentionIdeal : Cert.AttentionIdeal.Facts) (hAttentionReferenceIdeal : Cert.AttentionReferenceIdeal.Facts) (hShift : Cert.Shift.Facts) (hShiftIdeal : Cert.ShiftIdeal.Facts) (hShiftReferenceIdeal : Cert.ShiftReferenceIdeal.Facts) (hGating : Cert.Gating.Facts) (hGatingIdeal : Cert.GatingIdeal.Facts) (hGatingReferenceIdeal : Cert.GatingReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ quiescent_Gather (hGather := hGather)
    ∧ quiescent_GatherIdeal (hGatherIdeal := hGatherIdeal)
    ∧ quiescent_GatherReference (hGatherReference := hGatherReference)
    ∧ quiescent_GatherReferenceIdeal (hGatherReferenceIdeal := hGatherReferenceIdeal)
    ∧ quiescent_AdamwIn (hAdamwIn := hAdamwIn)
    ∧ quiescent_AdamwInIdeal (hAdamwInIdeal := hAdamwInIdeal)
    ∧ quiescent_AdamwReferenceInIdeal (hAdamwReferenceInIdeal := hAdamwReferenceInIdeal)
    ∧ quiescent_AdamwSg (hAdamwSg := hAdamwSg)
    ∧ quiescent_AdamwSgIdeal (hAdamwSgIdeal := hAdamwSgIdeal)
    ∧ quiescent_AdamwReferenceSgIdeal (hAdamwReferenceSgIdeal := hAdamwReferenceSgIdeal)
    ∧ quiescent_AdamwBranch (hAdamwBranch := hAdamwBranch)
    ∧ quiescent_AdamwBranchIdeal (hAdamwBranchIdeal := hAdamwBranchIdeal)
    ∧ quiescent_AdamwReferenceBranchIdeal (hAdamwReferenceBranchIdeal := hAdamwReferenceBranchIdeal)
    ∧ quiescent_AdamwOut (hAdamwOut := hAdamwOut)
    ∧ quiescent_AdamwOutIdeal (hAdamwOutIdeal := hAdamwOutIdeal)
    ∧ quiescent_AdamwReferenceOutIdeal (hAdamwReferenceOutIdeal := hAdamwReferenceOutIdeal)
    ∧ quiescent_AdamwFfn (hAdamwFfn := hAdamwFfn)
    ∧ quiescent_AdamwFfnIdeal (hAdamwFfnIdeal := hAdamwFfnIdeal)
    ∧ quiescent_AdamwReferenceFfnIdeal (hAdamwReferenceFfnIdeal := hAdamwReferenceFfnIdeal)
    ∧ quiescent_AdamwDown (hAdamwDown := hAdamwDown)
    ∧ quiescent_AdamwDownIdeal (hAdamwDownIdeal := hAdamwDownIdeal)
    ∧ quiescent_AdamwReferenceDownIdeal (hAdamwReferenceDownIdeal := hAdamwReferenceDownIdeal)
    ∧ quiescent_AdamwSmall (hAdamwSmall := hAdamwSmall)
    ∧ quiescent_AdamwSmallIdeal (hAdamwSmallIdeal := hAdamwSmallIdeal)
    ∧ quiescent_AdamwReferenceSmallIdeal (hAdamwReferenceSmallIdeal := hAdamwReferenceSmallIdeal)
    ∧ quiescent_SumSharded (hSumSharded := hSumSharded)
    ∧ quiescent_SumShardedIdeal (hSumShardedIdeal := hSumShardedIdeal)
    ∧ quiescent_SumReferenceShardedIdeal (hSumReferenceShardedIdeal := hSumReferenceShardedIdeal)
    ∧ quiescent_SumReplicated (hSumReplicated := hSumReplicated)
    ∧ quiescent_SumReplicatedIdeal (hSumReplicatedIdeal := hSumReplicatedIdeal)
    ∧ quiescent_SumReferenceReplicatedIdeal (hSumReferenceReplicatedIdeal := hSumReferenceReplicatedIdeal)
    ∧ quiescent_Loss (hLoss := hLoss)
    ∧ quiescent_LossIdeal (hLossIdeal := hLossIdeal)
    ∧ quiescent_LossReferenceIdeal (hLossReferenceIdeal := hLossReferenceIdeal)
    ∧ quiescent_Input (hInput := hInput)
    ∧ quiescent_InputIdeal (hInputIdeal := hInputIdeal)
    ∧ quiescent_InputReferenceIdeal (hInputReferenceIdeal := hInputReferenceIdeal)
    ∧ quiescent_WeightIn (hWeightIn := hWeightIn)
    ∧ quiescent_WeightInIdeal (hWeightInIdeal := hWeightInIdeal)
    ∧ quiescent_WeightInReferenceIdeal (hWeightInReferenceIdeal := hWeightInReferenceIdeal)
    ∧ quiescent_WeightGate (hWeightGate := hWeightGate)
    ∧ quiescent_WeightGateIdeal (hWeightGateIdeal := hWeightGateIdeal)
    ∧ quiescent_WeightGateReferenceIdeal (hWeightGateReferenceIdeal := hWeightGateReferenceIdeal)
    ∧ quiescent_WeightDown (hWeightDown := hWeightDown)
    ∧ quiescent_WeightDownIdeal (hWeightDownIdeal := hWeightDownIdeal)
    ∧ quiescent_WeightDownReferenceIdeal (hWeightDownReferenceIdeal := hWeightDownReferenceIdeal)
    ∧ quiescent_WeightOut (hWeightOut := hWeightOut)
    ∧ quiescent_WeightOutIdeal (hWeightOutIdeal := hWeightOutIdeal)
    ∧ quiescent_WeightOutReferenceIdeal (hWeightOutReferenceIdeal := hWeightOutReferenceIdeal)
    ∧ quiescent_WeightBranch (hWeightBranch := hWeightBranch)
    ∧ quiescent_WeightBranchIdeal (hWeightBranchIdeal := hWeightBranchIdeal)
    ∧ quiescent_WeightBranchReferenceIdeal (hWeightBranchReferenceIdeal := hWeightBranchReferenceIdeal)
    ∧ quiescent_Channel (hChannel := hChannel)
    ∧ quiescent_ChannelIdeal (hChannelIdeal := hChannelIdeal)
    ∧ quiescent_ChannelReferenceIdeal (hChannelReferenceIdeal := hChannelReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_MergeBackward (hMergeBackward := hMergeBackward)
    ∧ quiescent_MergeBackwardIdeal (hMergeBackwardIdeal := hMergeBackwardIdeal)
    ∧ quiescent_MergeBackwardReferenceIdeal (hMergeBackwardReferenceIdeal := hMergeBackwardReferenceIdeal)
    ∧ quiescent_Attention (hAttention := hAttention)
    ∧ quiescent_AttentionIdeal (hAttentionIdeal := hAttentionIdeal)
    ∧ quiescent_AttentionReferenceIdeal (hAttentionReferenceIdeal := hAttentionReferenceIdeal)
    ∧ quiescent_Shift (hShift := hShift)
    ∧ quiescent_ShiftIdeal (hShiftIdeal := hShiftIdeal)
    ∧ quiescent_ShiftReferenceIdeal (hShiftReferenceIdeal := hShiftReferenceIdeal)
    ∧ quiescent_Gating (hGating := hGating)
    ∧ quiescent_GatingIdeal (hGatingIdeal := hGatingIdeal)
    ∧ quiescent_GatingReferenceIdeal (hGatingReferenceIdeal := hGatingReferenceIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
    ∧ preserves_Gather_GatherIdeal
    ∧ bitexact_Gather_GatherReference (hGather := hGather) (hGatherReference := hGatherReference)
    ∧ algebraic_GatherIdeal_GatherReferenceIdeal (hGatherIdeal := hGatherIdeal) (hGatherReferenceIdeal := hGatherReferenceIdeal)
    ∧ preserves_AdamwIn_AdamwInIdeal
    ∧ algebraic_AdamwInIdeal_AdamwReferenceInIdeal (hAdamwInIdeal := hAdamwInIdeal) (hAdamwReferenceInIdeal := hAdamwReferenceInIdeal)
    ∧ preserves_AdamwSg_AdamwSgIdeal
    ∧ algebraic_AdamwSgIdeal_AdamwReferenceSgIdeal (hAdamwSgIdeal := hAdamwSgIdeal) (hAdamwReferenceSgIdeal := hAdamwReferenceSgIdeal)
    ∧ preserves_AdamwBranch_AdamwBranchIdeal
    ∧ algebraic_AdamwBranchIdeal_AdamwReferenceBranchIdeal (hAdamwBranchIdeal := hAdamwBranchIdeal) (hAdamwReferenceBranchIdeal := hAdamwReferenceBranchIdeal)
    ∧ preserves_AdamwOut_AdamwOutIdeal
    ∧ algebraic_AdamwOutIdeal_AdamwReferenceOutIdeal (hAdamwOutIdeal := hAdamwOutIdeal) (hAdamwReferenceOutIdeal := hAdamwReferenceOutIdeal)
    ∧ preserves_AdamwFfn_AdamwFfnIdeal
    ∧ algebraic_AdamwFfnIdeal_AdamwReferenceFfnIdeal (hAdamwFfnIdeal := hAdamwFfnIdeal) (hAdamwReferenceFfnIdeal := hAdamwReferenceFfnIdeal)
    ∧ preserves_AdamwDown_AdamwDownIdeal
    ∧ algebraic_AdamwDownIdeal_AdamwReferenceDownIdeal (hAdamwDownIdeal := hAdamwDownIdeal) (hAdamwReferenceDownIdeal := hAdamwReferenceDownIdeal)
    ∧ preserves_AdamwSmall_AdamwSmallIdeal
    ∧ algebraic_AdamwSmallIdeal_AdamwReferenceSmallIdeal (hAdamwSmallIdeal := hAdamwSmallIdeal) (hAdamwReferenceSmallIdeal := hAdamwReferenceSmallIdeal)
    ∧ preserves_SumSharded_SumShardedIdeal
    ∧ algebraic_SumShardedIdeal_SumReferenceShardedIdeal (hSumShardedIdeal := hSumShardedIdeal) (hSumReferenceShardedIdeal := hSumReferenceShardedIdeal)
    ∧ preserves_SumReplicated_SumReplicatedIdeal
    ∧ algebraic_SumReplicatedIdeal_SumReferenceReplicatedIdeal (hSumReplicatedIdeal := hSumReplicatedIdeal) (hSumReferenceReplicatedIdeal := hSumReferenceReplicatedIdeal)
    ∧ preserves_Loss_LossIdeal
    ∧ algebraic_LossIdeal_LossReferenceIdeal (hLossIdeal := hLossIdeal) (hLossReferenceIdeal := hLossReferenceIdeal)
    ∧ preserves_Input_InputIdeal
    ∧ algebraic_InputIdeal_InputReferenceIdeal (hInputIdeal := hInputIdeal) (hInputReferenceIdeal := hInputReferenceIdeal)
    ∧ preserves_WeightIn_WeightInIdeal
    ∧ algebraic_WeightInIdeal_WeightInReferenceIdeal (hWeightInIdeal := hWeightInIdeal) (hWeightInReferenceIdeal := hWeightInReferenceIdeal)
    ∧ preserves_WeightGate_WeightGateIdeal
    ∧ algebraic_WeightGateIdeal_WeightGateReferenceIdeal (hWeightGateIdeal := hWeightGateIdeal) (hWeightGateReferenceIdeal := hWeightGateReferenceIdeal)
    ∧ preserves_WeightDown_WeightDownIdeal
    ∧ algebraic_WeightDownIdeal_WeightDownReferenceIdeal (hWeightDownIdeal := hWeightDownIdeal) (hWeightDownReferenceIdeal := hWeightDownReferenceIdeal)
    ∧ preserves_WeightOut_WeightOutIdeal
    ∧ algebraic_WeightOutIdeal_WeightOutReferenceIdeal (hWeightOutIdeal := hWeightOutIdeal) (hWeightOutReferenceIdeal := hWeightOutReferenceIdeal)
    ∧ preserves_WeightBranch_WeightBranchIdeal
    ∧ algebraic_WeightBranchIdeal_WeightBranchReferenceIdeal (hWeightBranchIdeal := hWeightBranchIdeal) (hWeightBranchReferenceIdeal := hWeightBranchReferenceIdeal)
    ∧ preserves_Channel_ChannelIdeal
    ∧ algebraic_ChannelIdeal_ChannelReferenceIdeal (hChannelIdeal := hChannelIdeal) (hChannelReferenceIdeal := hChannelReferenceIdeal)
    ∧ preserves_Merge_MergeIdeal
    ∧ algebraic_MergeIdeal_MergeReferenceIdeal (hMergeIdeal := hMergeIdeal) (hMergeReferenceIdeal := hMergeReferenceIdeal)
    ∧ preserves_MergeBackward_MergeBackwardIdeal
    ∧ algebraic_MergeBackwardIdeal_MergeBackwardReferenceIdeal (hMergeBackwardIdeal := hMergeBackwardIdeal) (hMergeBackwardReferenceIdeal := hMergeBackwardReferenceIdeal)
    ∧ preserves_Attention_AttentionIdeal
    ∧ algebraic_AttentionIdeal_AttentionReferenceIdeal (hAttentionIdeal := hAttentionIdeal) (hAttentionReferenceIdeal := hAttentionReferenceIdeal)
    ∧ preserves_Shift_ShiftIdeal
    ∧ algebraic_ShiftIdeal_ShiftReferenceIdeal (hShiftIdeal := hShiftIdeal) (hShiftReferenceIdeal := hShiftReferenceIdeal)
    ∧ preserves_Gating_GatingIdeal
    ∧ algebraic_GatingIdeal_GatingReferenceIdeal (hGatingIdeal := hGatingIdeal) (hGatingReferenceIdeal := hGatingReferenceIdeal)
-- ==== Kernel.lean ====
abbrev S8x36880x128 : Shape := ⟨3, ![8, 36880, 128]⟩
abbrev S2208x128 : Shape := ⟨2, ![2208, 128]⟩
abbrev S8x2208x128 : Shape := ⟨3, ![8, 2208, 128]⟩
abbrev S14 : Shape := ⟨1, ![14]⟩
abbrev S2 : Shape := ⟨1, ![2]⟩
abbrev S1 : Shape := ⟨1, ![1]⟩
abbrev S_ : Shape := ⟨0, ![]⟩
abbrev S1x36880x128 : Shape := ⟨3, ![1, 36880, 128]⟩
abbrev S36880x128 : Shape := ⟨2, ![36880, 128]⟩
abbrev S1x2208x128 : Shape := ⟨3, ![1, 2208, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x36880x128, .f32⟩
  | .hbm, ⟨1, _⟩ => ⟨S2208x128, .f32⟩
  | .hbm, ⟨2, _⟩ => ⟨S8x36880x128, .f32⟩
  | .hbm, ⟨3, _⟩ => ⟨S8x2208x128, .f32⟩
  | _, _ => ⟨S8x36880x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_17 : BitVec 32 := 0#32
  let c0_i32_18 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_22 : BitVec 32 := 0#32
  let c0_i32_23 : BitVec 32 := 0#32
  ![v12.toNat, 0, 0]
def k0_off3 (d0 : Dev nD) : Fin 3 → Nat :=
  let c4_i32_24 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.muli c4_i32_24 v2
  let c2_i32_25 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.muli c2_i32_25 v5
  let v37 : BitVec 32 := Scalar.addi v35 v36
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let v38 : BitVec 32 := Scalar.addi v37 v13
  let c0_i32_34 : BitVec 32 := 0#32
  let c0_i32_35 : BitVec 32 := 0#32
  ![v38.toNat, 0, 0]
def k0_dev1 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v39 : BitVec 32 := Scalar.muli v2 c4_i32_28
  let v40 : BitVec 32 := Scalar.addi c0_i32_29 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v41 : BitVec 32 := Scalar.muli v5 c2_i32_30
  let v42 : BitVec 32 := Scalar.addi v40 v41
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_31 : BitVec 32 := 1#32
  let v43 : BitVec 32 := Scalar.muli v13 c1_i32_31
  let v44 : BitVec 32 := Scalar.addi v42 v43
  v44.toNat
def k0_dev2 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v53 : BitVec 32 := Scalar.muli v2 c4_i32_37
  let v54 : BitVec 32 := Scalar.addi c0_i32_38 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v55 : BitVec 32 := Scalar.muli v5 c2_i32_39
  let v56 : BitVec 32 := Scalar.addi v54 v55
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_40 : BitVec 32 := 1#32
  let v57 : BitVec 32 := Scalar.muli v13 c1_i32_40
  let v58 : BitVec 32 := Scalar.addi v56 v57
  v58.toNat
def k0_off4 (d0 : Dev nD) : Fin 3 → Nat :=
  let c4_i32_43 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v65 : BitVec 32 := Scalar.muli c4_i32_43 v2
  let c2_i32_44 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let v66 : BitVec 32 := Scalar.muli c2_i32_44 v14
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v68 : BitVec 32 := Scalar.addi v67 v8
  let c0_i32_53 : BitVec 32 := 0#32
  let c0_i32_54 : BitVec 32 := 0#32
  ![v68.toNat, 0, 0]
def k0_dev3 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v69 : BitVec 32 := Scalar.muli v2 c4_i32_47
  let v70 : BitVec 32 := Scalar.addi c0_i32_48 v69
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_49 : BitVec 32 := 2#32
  let v71 : BitVec 32 := Scalar.muli v14 c2_i32_49
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v73 : BitVec 32 := Scalar.muli v8 c1_i32_50
  let v74 : BitVec 32 := Scalar.addi v72 v73
  v74.toNat
def k0_dev4 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v83 : BitVec 32 := Scalar.muli v2 c4_i32_56
  let v84 : BitVec 32 := Scalar.addi c0_i32_57 v83
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_58 : BitVec 32 := 2#32
  let v85 : BitVec 32 := Scalar.muli v14 c2_i32_58
  let v86 : BitVec 32 := Scalar.addi v84 v85
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v87 : BitVec 32 := Scalar.muli v8 c1_i32_59
  let v88 : BitVec 32 := Scalar.addi v86 v87
  v88.toNat
def k0_off5 (d0 : Dev nD) : Fin 3 → Nat :=
  let c4_i32_62 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v95 : BitVec 32 := Scalar.muli c4_i32_62 v2
  let c2_i32_63 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v96 : BitVec 32 := Scalar.muli c2_i32_63 v15
  let v97 : BitVec 32 := Scalar.addi v95 v96
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let v98 : BitVec 32 := Scalar.addi v97 v16
  let c0_i32_72 : BitVec 32 := 0#32
  let c0_i32_73 : BitVec 32 := 0#32
  ![v98.toNat, 0, 0]
def k0_dev5 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v99 : BitVec 32 := Scalar.muli v2 c4_i32_66
  let v100 : BitVec 32 := Scalar.addi c0_i32_67 v99
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_68 : BitVec 32 := 2#32
  let v101 : BitVec 32 := Scalar.muli v15 c2_i32_68
  let v102 : BitVec 32 := Scalar.addi v100 v101
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let c1_i32_69 : BitVec 32 := 1#32
  let v103 : BitVec 32 := Scalar.muli v16 c1_i32_69
  let v104 : BitVec 32 := Scalar.addi v102 v103
  v104.toNat
def k0_dev6 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v113 : BitVec 32 := Scalar.muli v2 c4_i32_75
  let v114 : BitVec 32 := Scalar.addi c0_i32_76 v113
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_77 : BitVec 32 := 2#32
  let v115 : BitVec 32 := Scalar.muli v15 c2_i32_77
  let v116 : BitVec 32 := Scalar.addi v114 v115
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let c1_i32_78 : BitVec 32 := 1#32
  let v117 : BitVec 32 := Scalar.muli v16 c1_i32_78
  let v118 : BitVec 32 := Scalar.addi v116 v117
  v118.toNat
def k0_off6 (d0 : Dev nD) : Fin 3 → Nat :=
  let c4_i32_81 : BitVec 32 := 4#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v125 : BitVec 32 := Scalar.muli c4_i32_81 v17
  let c2_i32_82 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v126 : BitVec 32 := Scalar.muli c2_i32_82 v5
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v128 : BitVec 32 := Scalar.addi v127 v8
  let c0_i32_90 : BitVec 32 := 0#32
  let c0_i32_91 : BitVec 32 := 0#32
  ![v128.toNat, 0, 0]
def k0_dev7 (d0 : Dev nD) : Nat :=
  let c0_i32_85 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_84 : BitVec 32 := 4#32
  let v129 : BitVec 32 := Scalar.muli v17 c4_i32_84
  let v130 : BitVec 32 := Scalar.addi c0_i32_85 v129
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_86 : BitVec 32 := 2#32
  let v131 : BitVec 32 := Scalar.muli v5 c2_i32_86
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v133 : BitVec 32 := Scalar.muli v8 c1_i32_87
  let v134 : BitVec 32 := Scalar.addi v132 v133
  v134.toNat
def k0_dev8 (d0 : Dev nD) : Nat :=
  let c0_i32_94 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_93 : BitVec 32 := 4#32
  let v143 : BitVec 32 := Scalar.muli v17 c4_i32_93
  let v144 : BitVec 32 := Scalar.addi c0_i32_94 v143
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v145 : BitVec 32 := Scalar.muli v5 c2_i32_95
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v147 : BitVec 32 := Scalar.muli v8 c1_i32_96
  let v148 : BitVec 32 := Scalar.addi v146 v147
  v148.toNat
def k0_off7 (d0 : Dev nD) : Fin 3 → Nat :=
  let c4_i32_99 : BitVec 32 := 4#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let v155 : BitVec 32 := Scalar.muli c4_i32_99 v18
  let c2_i32_100 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v156 : BitVec 32 := Scalar.muli c2_i32_100 v5
  let v157 : BitVec 32 := Scalar.addi v155 v156
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_11 v8
  let v158 : BitVec 32 := Scalar.addi v157 v19
  let c0_i32_109 : BitVec 32 := 0#32
  let c0_i32_110 : BitVec 32 := 0#32
  ![v158.toNat, 0, 0]
def k0_dev9 (d0 : Dev nD) : Nat :=
  let c0_i32_104 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let c4_i32_103 : BitVec 32 := 4#32
  let v159 : BitVec 32 := Scalar.muli v18 c4_i32_103
  let v160 : BitVec 32 := Scalar.addi c0_i32_104 v159
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_105 : BitVec 32 := 2#32
  let v161 : BitVec 32 := Scalar.muli v5 c2_i32_105
  let v162 : BitVec 32 := Scalar.addi v160 v161
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_11 v8
  let c1_i32_106 : BitVec 32 := 1#32
  let v163 : BitVec 32 := Scalar.muli v19 c1_i32_106
  let v164 : BitVec 32 := Scalar.addi v162 v163
  v164.toNat
def k0_dev10 (d0 : Dev nD) : Nat :=
  let c0_i32_113 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let c4_i32_112 : BitVec 32 := 4#32
  let v173 : BitVec 32 := Scalar.muli v18 c4_i32_112
  let v174 : BitVec 32 := Scalar.addi c0_i32_113 v173
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v175 : BitVec 32 := Scalar.muli v5 c2_i32_114
  let v176 : BitVec 32 := Scalar.addi v174 v175
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_11 v8
  let c1_i32_115 : BitVec 32 := 1#32
  let v177 : BitVec 32 := Scalar.muli v19 c1_i32_115
  let v178 : BitVec 32 := Scalar.addi v176 v177
  v178.toNat
def k0_off8 (d0 : Dev nD) : Fin 3 → Nat :=
  let c4_i32_118 : BitVec 32 := 4#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_12 v2
  let v185 : BitVec 32 := Scalar.muli c4_i32_118 v20
  let c2_i32_119 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_13 v5
  let v186 : BitVec 32 := Scalar.muli c2_i32_119 v21
  let v187 : BitVec 32 := Scalar.addi v185 v186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v188 : BitVec 32 := Scalar.addi v187 v8
  let c0_i32_127 : BitVec 32 := 0#32
  let c0_i32_128 : BitVec 32 := 0#32
  ![v188.toNat, 0, 0]
def k0_dev11 (d0 : Dev nD) : Nat :=
  let c0_i32_122 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_12 v2
  let c4_i32_121 : BitVec 32 := 4#32
  let v189 : BitVec 32 := Scalar.muli v20 c4_i32_121
  let v190 : BitVec 32 := Scalar.addi c0_i32_122 v189
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_13 v5
  let c2_i32_123 : BitVec 32 := 2#32
  let v191 : BitVec 32 := Scalar.muli v21 c2_i32_123
  let v192 : BitVec 32 := Scalar.addi v190 v191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v193 : BitVec 32 := Scalar.muli v8 c1_i32_124
  let v194 : BitVec 32 := Scalar.addi v192 v193
  v194.toNat
def k0_dev12 (d0 : Dev nD) : Nat :=
  let c0_i32_131 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_12 v2
  let c4_i32_130 : BitVec 32 := 4#32
  let v203 : BitVec 32 := Scalar.muli v20 c4_i32_130
  let v204 : BitVec 32 := Scalar.addi c0_i32_131 v203
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_13 v5
  let c2_i32_132 : BitVec 32 := 2#32
  let v205 : BitVec 32 := Scalar.muli v21 c2_i32_132
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v207 : BitVec 32 := Scalar.muli v8 c1_i32_133
  let v208 : BitVec 32 := Scalar.addi v206 v207
  v208.toNat
def k0_off9 (d0 : Dev nD) : Fin 3 → Nat :=
  let c4_i32_136 : BitVec 32 := 4#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_14 v2
  let v215 : BitVec 32 := Scalar.muli c4_i32_136 v22
  let c2_i32_137 : BitVec 32 := 2#32
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_15 v5
  let v216 : BitVec 32 := Scalar.muli c2_i32_137 v23
  let v217 : BitVec 32 := Scalar.addi v215 v216
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_16 v8
  let v218 : BitVec 32 := Scalar.addi v217 v24
  let c0_i32_145 : BitVec 32 := 0#32
  let c0_i32_146 : BitVec 32 := 0#32
  ![v218.toNat, 0, 0]
def k0_dev13 (d0 : Dev nD) : Nat :=
  let c0_i32_140 : BitVec 32 := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_14 v2
  let c4_i32_139 : BitVec 32 := 4#32
  let v219 : BitVec 32 := Scalar.muli v22 c4_i32_139
  let v220 : BitVec 32 := Scalar.addi c0_i32_140 v219
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_15 v5
  let c2_i32_141 : BitVec 32 := 2#32
  let v221 : BitVec 32 := Scalar.muli v23 c2_i32_141
  let v222 : BitVec 32 := Scalar.addi v220 v221
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_16 v8
  let c1_i32_142 : BitVec 32 := 1#32
  let v223 : BitVec 32 := Scalar.muli v24 c1_i32_142
  let v224 : BitVec 32 := Scalar.addi v222 v223
  v224.toNat
def k0_dev14 (d0 : Dev nD) : Nat :=
  let c0_i32_149 : BitVec 32 := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_14 v2
  let c4_i32_148 : BitVec 32 := 4#32
  let v233 : BitVec 32 := Scalar.muli v22 c4_i32_148
  let v234 : BitVec 32 := Scalar.addi c0_i32_149 v233
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_15 v5
  let c2_i32_150 : BitVec 32 := 2#32
  let v235 : BitVec 32 := Scalar.muli v23 c2_i32_150
  let v236 : BitVec 32 := Scalar.addi v234 v235
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_16 v8
  let c1_i32_151 : BitVec 32 := 1#32
  let v237 : BitVec 32 := Scalar.muli v24 c1_i32_151
  let v238 : BitVec 32 := Scalar.addi v236 v237
  v238.toNat
-- ==== Reference.lean ====
abbrev S64x36880x128 : Shape := ⟨3, ![64, 36880, 128]⟩
abbrev S17664x128 : Shape := ⟨2, ![17664, 128]⟩
abbrev S8x8x36880x128 : Shape := ⟨4, ![8, 8, 36880, 128]⟩
abbrev S1x8x2208x128 : Shape := ⟨4, ![1, 8, 2208, 128]⟩
abbrev S8x8x2208x128 : Shape := ⟨4, ![8, 8, 2208, 128]⟩
abbrev S64x2208x128 : Shape := ⟨3, ![64, 2208, 128]⟩

abbrev nBuf : Space → Nat
  | .hbm => 8
  | .vmem => 0
  | .smem => 0
  | _ => 0

abbrev bufTy : (tb : Table) → Fin (tcTables nBuf tb) → BufTy
  | .hbm, ⟨0, _⟩ => ⟨S64x36880x128, .f32⟩
  | .hbm, ⟨1, _⟩ => ⟨S17664x128, .f32⟩
  | .hbm, ⟨2, _⟩ => ⟨S8x8x36880x128, .f32⟩
  | .hbm, ⟨3, _⟩ => ⟨S8x8x36880x128, .f32⟩
  | .hbm, ⟨4, _⟩ => ⟨S1x8x2208x128, .f32⟩
  | .hbm, ⟨5, _⟩ => ⟨S8x8x2208x128, .f32⟩
  | .hbm, ⟨6, _⟩ => ⟨S64x36880x128, .f32⟩
  | .hbm, ⟨7, _⟩ => ⟨S64x2208x128, .f32⟩
  | _, _ => ⟨S64x36880x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Gather.lean ====
abbrev S9216x512 : Shape := ⟨2, ![9216, 512]⟩
abbrev S16x512 : Shape := ⟨2, ![16, 512]⟩
abbrev S8x9216x512 : Shape := ⟨3, ![8, 9216, 512]⟩
abbrev S8x16x512 : Shape := ⟨3, ![8, 16, 512]⟩
abbrev S14 : Shape := ⟨1, ![14]⟩
abbrev S2 : Shape := ⟨1, ![2]⟩
abbrev S1 : Shape := ⟨1, ![1]⟩
abbrev S_ : Shape := ⟨0, ![]⟩
abbrev S1x9216x512 : Shape := ⟨3, ![1, 9216, 512]⟩
abbrev S1x16x512 : Shape := ⟨3, ![1, 16, 512]⟩

abbrev nBuf : Space → Nat
  | .hbm => 4
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S16x512, .f32⟩
  | .hbm, ⟨2, _⟩ => ⟨S8x9216x512, .bf16⟩
  | .hbm, ⟨3, _⟩ => ⟨S8x16x512, .f32⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_17 : BitVec 32 := 0#32
  let c0_i32_18 : BitVec 32 := 0#32
  ![v12.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v29 : BitVec 32 := Scalar.muli v2 c4_i32_21
  let v30 : BitVec 32 := Scalar.addi c0_i32_22 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v31 : BitVec 32 := Scalar.muli v5 c2_i32_23
  let v32 : BitVec 32 := Scalar.addi v30 v31
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_24 : BitVec 32 := 1#32
  let v33 : BitVec 32 := Scalar.muli v13 c1_i32_24
  let v34 : BitVec 32 := Scalar.addi v32 v33
  v34.toNat
def k0_dev2 (d0 : Dev nD) : Nat :=
  let c0_i32_30 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_29 : BitVec 32 := 4#32
  let v41 : BitVec 32 := Scalar.muli v2 c4_i32_29
  let v42 : BitVec 32 := Scalar.addi c0_i32_30 v41
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_31 : BitVec 32 := 2#32
  let v43 : BitVec 32 := Scalar.muli v14 c2_i32_31
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v45 : BitVec 32 := Scalar.muli v8 c1_i32_32
  let v46 : BitVec 32 := Scalar.addi v44 v45
  v46.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v53 : BitVec 32 := Scalar.muli v2 c4_i32_37
  let v54 : BitVec 32 := Scalar.addi c0_i32_38 v53
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_39 : BitVec 32 := 2#32
  let v55 : BitVec 32 := Scalar.muli v15 c2_i32_39
  let v56 : BitVec 32 := Scalar.addi v54 v55
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let c1_i32_40 : BitVec 32 := 1#32
  let v57 : BitVec 32 := Scalar.muli v16 c1_i32_40
  let v58 : BitVec 32 := Scalar.addi v56 v57
  v58.toNat
def k0_dev4 (d0 : Dev nD) : Nat :=
  let c0_i32_45 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_44 : BitVec 32 := 4#32
  let v65 : BitVec 32 := Scalar.muli v17 c4_i32_44
  let v66 : BitVec 32 := Scalar.addi c0_i32_45 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v67 : BitVec 32 := Scalar.muli v5 c2_i32_46
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v69 : BitVec 32 := Scalar.muli v8 c1_i32_47
  let v70 : BitVec 32 := Scalar.addi v68 v69
  v70.toNat
def k0_dev5 (d0 : Dev nD) : Nat :=
  let c0_i32_53 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let c4_i32_52 : BitVec 32 := 4#32
  let v77 : BitVec 32 := Scalar.muli v18 c4_i32_52
  let v78 : BitVec 32 := Scalar.addi c0_i32_53 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v79 : BitVec 32 := Scalar.muli v5 c2_i32_54
  let v80 : BitVec 32 := Scalar.addi v78 v79
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_11 v8
  let c1_i32_55 : BitVec 32 := 1#32
  let v81 : BitVec 32 := Scalar.muli v19 c1_i32_55
  let v82 : BitVec 32 := Scalar.addi v80 v81
  v82.toNat
def k0_dev6 (d0 : Dev nD) : Nat :=
  let c0_i32_60 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_12 v2
  let c4_i32_59 : BitVec 32 := 4#32
  let v89 : BitVec 32 := Scalar.muli v20 c4_i32_59
  let v90 : BitVec 32 := Scalar.addi c0_i32_60 v89
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_13 v5
  let c2_i32_61 : BitVec 32 := 2#32
  let v91 : BitVec 32 := Scalar.muli v21 c2_i32_61
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v93 : BitVec 32 := Scalar.muli v8 c1_i32_62
  let v94 : BitVec 32 := Scalar.addi v92 v93
  v94.toNat
def k0_dev7 (d0 : Dev nD) : Nat :=
  let c0_i32_67 : BitVec 32 := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_14 v2
  let c4_i32_66 : BitVec 32 := 4#32
  let v101 : BitVec 32 := Scalar.muli v22 c4_i32_66
  let v102 : BitVec 32 := Scalar.addi c0_i32_67 v101
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_15 v5
  let c2_i32_68 : BitVec 32 := 2#32
  let v103 : BitVec 32 := Scalar.muli v23 c2_i32_68
  let v104 : BitVec 32 := Scalar.addi v102 v103
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_16 v8
  let c1_i32_69 : BitVec 32 := 1#32
  let v105 : BitVec 32 := Scalar.muli v24 c1_i32_69
  let v106 : BitVec 32 := Scalar.addi v104 v105
  v106.toNat
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_73 : BitVec 32 := 0#32
  let c0_i32_74 : BitVec 32 := 0#32
  ![v12.toNat, 0, 0]
def k0_dev8 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v117 : BitVec 32 := Scalar.muli v2 c4_i32_76
  let v118 : BitVec 32 := Scalar.addi c0_i32_77 v117
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_78 : BitVec 32 := 2#32
  let v119 : BitVec 32 := Scalar.muli v5 c2_i32_78
  let v120 : BitVec 32 := Scalar.addi v118 v119
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_79 : BitVec 32 := 1#32
  let v121 : BitVec 32 := Scalar.muli v13 c1_i32_79
  let v122 : BitVec 32 := Scalar.addi v120 v121
  v122.toNat
def k0_dev9 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v129 : BitVec 32 := Scalar.muli v2 c4_i32_83
  let v130 : BitVec 32 := Scalar.addi c0_i32_84 v129
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_6 v5
  let c2_i32_85 : BitVec 32 := 2#32
  let v131 : BitVec 32 := Scalar.muli v14 c2_i32_85
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v133 : BitVec 32 := Scalar.muli v8 c1_i32_86
  let v134 : BitVec 32 := Scalar.addi v132 v133
  v134.toNat
def k0_dev10 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v141 : BitVec 32 := Scalar.muli v2 c4_i32_90
  let v142 : BitVec 32 := Scalar.addi c0_i32_91 v141
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let c2_i32_92 : BitVec 32 := 2#32
  let v143 : BitVec 32 := Scalar.muli v15 c2_i32_92
  let v144 : BitVec 32 := Scalar.addi v142 v143
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let c1_i32_93 : BitVec 32 := 1#32
  let v145 : BitVec 32 := Scalar.muli v16 c1_i32_93
  let v146 : BitVec 32 := Scalar.addi v144 v145
  v146.toNat
def k0_dev11 (d0 : Dev nD) : Nat :=
  let c0_i32_98 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let c4_i32_97 : BitVec 32 := 4#32
  let v153 : BitVec 32 := Scalar.muli v17 c4_i32_97
  let v154 : BitVec 32 := Scalar.addi c0_i32_98 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v155 : BitVec 32 := Scalar.muli v5 c2_i32_99
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v157 : BitVec 32 := Scalar.muli v8 c1_i32_100
  let v158 : BitVec 32 := Scalar.addi v156 v157
  v158.toNat
def k0_dev12 (d0 : Dev nD) : Nat :=
  let c0_i32_105 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let c4_i32_104 : BitVec 32 := 4#32
  let v165 : BitVec 32 := Scalar.muli v18 c4_i32_104
  let v166 : BitVec 32 := Scalar.addi c0_i32_105 v165
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v167 : BitVec 32 := Scalar.muli v5 c2_i32_106
  let v168 : BitVec 32 := Scalar.addi v166 v167
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_11 v8
  let c1_i32_107 : BitVec 32 := 1#32
  let v169 : BitVec 32 := Scalar.muli v19 c1_i32_107
  let v170 : BitVec 32 := Scalar.addi v168 v169
  v170.toNat
def k0_dev13 (d0 : Dev nD) : Nat :=
  let c0_i32_112 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_12 v2
  let c4_i32_111 : BitVec 32 := 4#32
  let v177 : BitVec 32 := Scalar.muli v20 c4_i32_111
  let v178 : BitVec 32 := Scalar.addi c0_i32_112 v177
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_13 v5
  let c2_i32_113 : BitVec 32 := 2#32
  let v179 : BitVec 32 := Scalar.muli v21 c2_i32_113
  let v180 : BitVec 32 := Scalar.addi v178 v179
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_114 : BitVec 32 := 1#32
  let v181 : BitVec 32 := Scalar.muli v8 c1_i32_114
  let v182 : BitVec 32 := Scalar.addi v180 v181
  v182.toNat
def k0_dev14 (d0 : Dev nD) : Nat :=
  let c0_i32_119 : BitVec 32 := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.subi c1_i32_14 v2
  let c4_i32_118 : BitVec 32 := 4#32
  let v189 : BitVec 32 := Scalar.muli v22 c4_i32_118
  let v190 : BitVec 32 := Scalar.addi c0_i32_119 v189
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_15 v5
  let c2_i32_120 : BitVec 32 := 2#32
  let v191 : BitVec 32 := Scalar.muli v23 c2_i32_120
  let v192 : BitVec 32 := Scalar.addi v190 v191
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_16 v8
  let c1_i32_121 : BitVec 32 := 1#32
  let v193 : BitVec 32 := Scalar.muli v24 c1_i32_121
  let v194 : BitVec 32 := Scalar.addi v192 v193
  v194.toNat
-- ==== GatherReference.lean ====
abbrev S73728x512 : Shape := ⟨2, ![73728, 512]⟩
abbrev S128x512 : Shape := ⟨2, ![128, 512]⟩
abbrev S1x8x9216x512 : Shape := ⟨4, ![1, 8, 9216, 512]⟩
abbrev S8x8x9216x512 : Shape := ⟨4, ![8, 8, 9216, 512]⟩
abbrev S64x9216x512 : Shape := ⟨3, ![64, 9216, 512]⟩
abbrev S1x8x16x512 : Shape := ⟨4, ![1, 8, 16, 512]⟩
abbrev S8x8x16x512 : Shape := ⟨4, ![8, 8, 16, 512]⟩
abbrev S64x16x512 : Shape := ⟨3, ![64, 16, 512]⟩

abbrev nBuf : Space → Nat
  | .hbm => 8
  | .vmem => 0
  | .smem => 0
  | _ => 0

abbrev bufTy : (tb : Table) → Fin (tcTables nBuf tb) → BufTy
  | .hbm, ⟨0, _⟩ => ⟨S73728x512, .bf16⟩
  | .hbm, ⟨1, _⟩ => ⟨S128x512, .f32⟩
  | .hbm, ⟨2, _⟩ => ⟨S1x8x9216x512, .bf16⟩
  | .hbm, ⟨3, _⟩ => ⟨S8x8x9216x512, .bf16⟩
  | .hbm, ⟨4, _⟩ => ⟨S64x9216x512, .bf16⟩
  | .hbm, ⟨5, _⟩ => ⟨S1x8x16x512, .f32⟩
  | .hbm, ⟨6, _⟩ => ⟨S8x8x16x512, .f32⟩
  | .hbm, ⟨7, _⟩ => ⟨S64x16x512, .f32⟩
  | _, _ => ⟨S73728x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AdamwIn.lean ====
abbrev S2048x836 : Shape := ⟨2, ![2048, 836]⟩
abbrev S512x836 : Shape := ⟨2, ![512, 836]⟩

abbrev nBuf : Space → Nat
  | .hbm => 7
  | .vmem => 14
  | .smem => 0
  | _ => 0

abbrev bufTy : (tb : Table) → Fin (tcTables nBuf tb) → BufTy
  | .hbm, ⟨0, _⟩ => ⟨S2048x836, .f32⟩
  | .hbm, ⟨1, _⟩ => ⟨S2048x836, .f32⟩
  | .hbm, ⟨2, _⟩ => ⟨S2048x836, .f32⟩
  | .hbm, ⟨3, _⟩ => ⟨S2048x836, .f32⟩
  | .hbm, ⟨4, _⟩ => ⟨S2048x836, .f32⟩
  | .hbm, ⟨5, _⟩ => ⟨S2048x836, .f32⟩
  | .hbm, ⟨6, _⟩ => ⟨S2048x836, .f32⟩
  | .local _ .vmem, ⟨0, _⟩ => ⟨S512x836, .f32⟩
  | .local _ .vmem, ⟨1, _⟩ => ⟨S512x836, .f32⟩
  | .local _ .vmem, ⟨2, _⟩ => ⟨S512x836, .f32⟩
  | .local _ .vmem, ⟨3, _⟩ => ⟨S512x836, .f32⟩
  | .local _ .vmem, ⟨4, _⟩ => ⟨S512x836, .f32⟩
  | .local _ .vmem, ⟨5, _⟩ => ⟨S512x836, .f32⟩
  | .local _ .vmem, ⟨6, _⟩ => ⟨S512x836, .f32⟩
  | .local _ .vmem, ⟨7, _⟩ => ⟨S512x836, .f32⟩
  | .local _ .vmem, ⟨8, _⟩ => ⟨S512x836, .f32⟩
  | .local _ .vmem, ⟨9, _⟩ => ⟨S512x836, .f32⟩
  | .local _ .vmem, ⟨10, _⟩ => ⟨S512x836, .f32⟩
  | .local _ .vmem, ⟨11, _⟩ => ⟨S512x836, .f32⟩
  | .local _ .vmem, ⟨12, _⟩ => ⟨S512x836, .f32⟩
  | .local _ .vmem, ⟨13, _⟩ => ⟨S512x836, .f32⟩
  | _, _ => ⟨S2048x836, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x836 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x836 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x836 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x836 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x836 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x836 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x836 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInIdeal.lean ====
abbrev S2048x836 : Shape := ⟨2, ![2048, 836]⟩
abbrev S512x836 : Shape := ⟨2, ![512, 836]⟩

abbrev nBuf : Space → Nat
  | .hbm => 7
  | .vmem => 14
  | .smem => 0
  | _ => 0

abbrev bufTy : (tb : Table) → Fin (tcTables nBuf tb) → BufTy
  | .hbm, ⟨0, _⟩ => ⟨S2048x836, .f32⟩
  | .hbm, ⟨1, _⟩ => ⟨S2048x836, .f32⟩
  | .hbm, ⟨2, _⟩ => ⟨S2048x836, .f32⟩
  | .hbm, ⟨3, _⟩ => ⟨S2048x836, .f32⟩
  | .hbm, ⟨4, _⟩ => ⟨S2048x836, .f32⟩
  | .hbm, ⟨5, _⟩ => ⟨S2048x836, .f32⟩
  | .hbm, ⟨6, _⟩ => ⟨S2048x836, .f32⟩
  | .local _ .vmem, ⟨0, _⟩ => ⟨S512x836, .f32⟩
  | .local _ .vmem, ⟨1, _⟩ => ⟨S512x836, .f32⟩
  | .local _ .vmem, ⟨2, _⟩ => ⟨S512x836, .f32⟩
  | .local _ .vmem, ⟨3, _⟩ => ⟨S512x836, .f32⟩
  | .local _ .vmem, ⟨4, _⟩ => ⟨S512x836, .f32⟩
  | .local _ .vmem, ⟨5, _⟩ => ⟨S512x836, .f32⟩
  | .local _ .vmem, ⟨6, _⟩ => ⟨S512x836, .f32⟩
  | .local _ .vmem, ⟨7, _⟩ => ⟨S512x836, .f32⟩
  | .local _ .vmem, ⟨8, _⟩ => ⟨S512x836, .f32⟩
  | .local _ .vmem, ⟨9, _⟩ => ⟨S512x836, .f32⟩
  | .local _ .vmem, ⟨10, _⟩ => ⟨S512x836, .f32⟩
  | .local _ .vmem, ⟨11, _⟩ => ⟨S512x836, .f32⟩
  | .local _ .vmem, ⟨12, _⟩ => ⟨S512x836, .f32⟩
  | .local _ .vmem, ⟨13, _⟩ => ⟨S512x836, .f32⟩
  | _, _ => ⟨S2048x836, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x836 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x836 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x836 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x836 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x836 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x836 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x836 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwReferenceInIdeal.lean ====
abbrev S2048x836 : Shape := ⟨2, ![2048, 836]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x836, .f32⟩
  | .hbm, ⟨1, _⟩ => ⟨S2048x836, .f32⟩
  | .hbm, ⟨2, _⟩ => ⟨S2048x836, .f32⟩
  | .hbm, ⟨3, _⟩ => ⟨S2048x836, .f32⟩
  | .hbm, ⟨4, _⟩ => ⟨S_, .f32⟩
  | .hbm, ⟨5, _⟩ => ⟨S2048x836, .f32⟩
  | .hbm, ⟨6, _⟩ => ⟨S2048x836, .f32⟩
  | .hbm, ⟨7, _⟩ => ⟨S_, .f32⟩
  | .hbm, ⟨8, _⟩ => ⟨S2048x836, .f32⟩
  | .hbm, ⟨9, _⟩ => ⟨S2048x836, .f32⟩
  | .hbm, ⟨10, _⟩ => ⟨S2048x836, .f32⟩
  | .hbm, ⟨11, _⟩ => ⟨S_, .f32⟩
  | .hbm, ⟨12, _⟩ => ⟨S2048x836, .f32⟩
  | .hbm, ⟨13, _⟩ => ⟨S2048x836, .f32⟩
  | .hbm, ⟨14, _⟩ => ⟨S2048x836, .f32⟩
  | .hbm, ⟨15, _⟩ => ⟨S_, .f32⟩
  | .hbm, ⟨16, _⟩ => ⟨S2048x836, .f32⟩
  | .hbm, ⟨17, _⟩ => ⟨S2048x836, .f32⟩
  | .hbm, ⟨18, _⟩ => ⟨S2048x836, .f32⟩
  | .hbm, ⟨19, _⟩ => ⟨S_, .f32⟩
  | .hbm, ⟨20, _⟩ => ⟨S2048x836, .f32⟩
  | .hbm, ⟨21, _⟩ => ⟨S2048x836, .f32⟩
  | .hbm, ⟨22, _⟩ => ⟨S_, .f32⟩
  | .hbm, ⟨23, _⟩ => ⟨S2048x836, .f32⟩
  | .hbm, ⟨24, _⟩ => ⟨S2048x836, .f32⟩
  | .hbm, ⟨25, _⟩ => ⟨S2048x836, .f32⟩
  | .hbm, ⟨26, _⟩ => ⟨S_, .f32⟩
  | .hbm, ⟨27, _⟩ => ⟨S2048x836, .f32⟩
  | .hbm, ⟨28, _⟩ => ⟨S2048x836, .f32⟩
  | .hbm, ⟨29, _⟩ => ⟨S2048x836, .f32⟩
  | .hbm, ⟨30, _⟩ => ⟨S_, .f32⟩
  | .hbm, ⟨31, _⟩ => ⟨S2048x836, .f32⟩
  | .hbm, ⟨32, _⟩ => ⟨S2048x836, .f32⟩
  | .hbm, ⟨33, _⟩ => ⟨S2048x836, .f32⟩
  | .hbm, ⟨34, _⟩ => ⟨S_, .f32⟩
  | .hbm, ⟨35, _⟩ => ⟨S2048x836, .f32⟩
  | .hbm, ⟨36, _⟩ => ⟨S2048x836, .f32⟩
  | _, _ => ⟨S2048x836, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSg.lean ====
abbrev S2048x128 : Shape := ⟨2, ![2048, 128]⟩
abbrev S1024x128 : Shape := ⟨2, ![1024, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSgIdeal.lean ====
abbrev S2048x128 : Shape := ⟨2, ![2048, 128]⟩
abbrev S1024x128 : Shape := ⟨2, ![1024, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwReferenceSgIdeal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwBranch.lean ====
abbrev S3072x128 : Shape := ⟨2, ![3072, 128]⟩
abbrev S1024x128 : Shape := ⟨2, ![1024, 128]⟩

abbrev nBuf : Space → Nat
  | .hbm => 7
  | .vmem => 14
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S3072x128, .f32⟩
  | .hbm, ⟨5, _⟩ => ⟨S3072x128, .f32⟩
  | .hbm, ⟨6, _⟩ => ⟨S3072x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S3072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwBranchIdeal.lean ====
abbrev S3072x128 : Shape := ⟨2, ![3072, 128]⟩
abbrev S1024x128 : Shape := ⟨2, ![1024, 128]⟩

abbrev nBuf : Space → Nat
  | .hbm => 7
  | .vmem => 14
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S3072x128, .f32⟩
  | .hbm, ⟨5, _⟩ => ⟨S3072x128, .f32⟩
  | .hbm, ⟨6, _⟩ => ⟨S3072x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S3072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwReferenceBranchIdeal.lean ====
abbrev S3072x128 : Shape := ⟨2, ![3072, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S_, .f32⟩
  | .hbm, ⟨5, _⟩ => ⟨S3072x128, .f32⟩
  | .hbm, ⟨6, _⟩ => ⟨S3072x128, .f32⟩
  | .hbm, ⟨7, _⟩ => ⟨S_, .f32⟩
  | .hbm, ⟨8, _⟩ => ⟨S3072x128, .f32⟩
  | .hbm, ⟨9, _⟩ => ⟨S3072x128, .f32⟩
  | .hbm, ⟨10, _⟩ => ⟨S3072x128, .f32⟩
  | .hbm, ⟨11, _⟩ => ⟨S_, .f32⟩
  | .hbm, ⟨12, _⟩ => ⟨S3072x128, .f32⟩
  | .hbm, ⟨13, _⟩ => ⟨S3072x128, .f32⟩
  | .hbm, ⟨14, _⟩ => ⟨S3072x128, .f32⟩
  | .hbm, ⟨15, _⟩ => ⟨S_, .f32⟩
  | .hbm, ⟨16, _⟩ => ⟨S3072x128, .f32⟩
  | .hbm, ⟨17, _⟩ => ⟨S3072x128, .f32⟩
  | .hbm, ⟨18, _⟩ => ⟨S3072x128, .f32⟩
  | .hbm, ⟨19, _⟩ => ⟨S_, .f32⟩
  | .hbm, ⟨20, _⟩ => ⟨S3072x128, .f32⟩
  | .hbm, ⟨21, _⟩ => ⟨S3072x128, .f32⟩
  | .hbm, ⟨22, _⟩ => ⟨S_, .f32⟩
  | .hbm, ⟨23, _⟩ => ⟨S3072x128, .f32⟩
  | .hbm, ⟨24, _⟩ => ⟨S3072x128, .f32⟩
  | .hbm, ⟨25, _⟩ => ⟨S3072x128, .f32⟩
  | .hbm, ⟨26, _⟩ => ⟨S_, .f32⟩
  | .hbm, ⟨27, _⟩ => ⟨S3072x128, .f32⟩
  | .hbm, ⟨28, _⟩ => ⟨S3072x128, .f32⟩
  | .hbm, ⟨29, _⟩ => ⟨S3072x128, .f32⟩
  | .hbm, ⟨30, _⟩ => ⟨S_, .f32⟩
  | .hbm, ⟨31, _⟩ => ⟨S3072x128, .f32⟩
  | .hbm, ⟨32, _⟩ => ⟨S3072x128, .f32⟩
  | .hbm, ⟨33, _⟩ => ⟨S3072x128, .f32⟩
  | .hbm, ⟨34, _⟩ => ⟨S_, .f32⟩
  | .hbm, ⟨35, _⟩ => ⟨S3072x128, .f32⟩
  | .hbm, ⟨36, _⟩ => ⟨S3072x128, .f32⟩
  | _, _ => ⟨S3072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwReferenceOutIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwFfn.lean ====
abbrev S2048x352 : Shape := ⟨2, ![2048, 352]⟩
abbrev S1024x352 : Shape := ⟨2, ![1024, 352]⟩

abbrev nBuf : Space → Nat
  | .hbm => 7
  | .vmem => 14
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S2048x352, .f32⟩
  | .hbm, ⟨5, _⟩ => ⟨S2048x352, .f32⟩
  | .hbm, ⟨6, _⟩ => ⟨S2048x352, .f32⟩
  | .local _ .vmem, ⟨0, _⟩ => ⟨S1024x352, .f32⟩
  | .local _ .vmem, ⟨1, _⟩ => ⟨S1024x352, .f32⟩
  | .local _ .vmem, ⟨2, _⟩ => ⟨S1024x352, .f32⟩
  | .local _ .vmem, ⟨3, _⟩ => ⟨S1024x352, .f32⟩
  | .local _ .vmem, ⟨4, _⟩ => ⟨S1024x352, .f32⟩
  | .local _ .vmem, ⟨5, _⟩ => ⟨S1024x352, .f32⟩
  | .local _ .vmem, ⟨6, _⟩ => ⟨S1024x352, .f32⟩
  | .local _ .vmem, ⟨7, _⟩ => ⟨S1024x352, .f32⟩
  | .local _ .vmem, ⟨8, _⟩ => ⟨S1024x352, .f32⟩
  | .local _ .vmem, ⟨9, _⟩ => ⟨S1024x352, .f32⟩
  | .local _ .vmem, ⟨10, _⟩ => ⟨S1024x352, .f32⟩
  | .local _ .vmem, ⟨11, _⟩ => ⟨S1024x352, .f32⟩
  | .local _ .vmem, ⟨12, _⟩ => ⟨S1024x352, .f32⟩
  | .local _ .vmem, ⟨13, _⟩ => ⟨S1024x352, .f32⟩
  | _, _ => ⟨S2048x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwFfnIdeal.lean ====
abbrev S2048x352 : Shape := ⟨2, ![2048, 352]⟩
abbrev S1024x352 : Shape := ⟨2, ![1024, 352]⟩

abbrev nBuf : Space → Nat
  | .hbm => 7
  | .vmem => 14
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S2048x352, .f32⟩
  | .hbm, ⟨5, _⟩ => ⟨S2048x352, .f32⟩
  | .hbm, ⟨6, _⟩ => ⟨S2048x352, .f32⟩
  | .local _ .vmem, ⟨0, _⟩ => ⟨S1024x352, .f32⟩
  | .local _ .vmem, ⟨1, _⟩ => ⟨S1024x352, .f32⟩
  | .local _ .vmem, ⟨2, _⟩ => ⟨S1024x352, .f32⟩
  | .local _ .vmem, ⟨3, _⟩ => ⟨S1024x352, .f32⟩
  | .local _ .vmem, ⟨4, _⟩ => ⟨S1024x352, .f32⟩
  | .local _ .vmem, ⟨5, _⟩ => ⟨S1024x352, .f32⟩
  | .local _ .vmem, ⟨6, _⟩ => ⟨S1024x352, .f32⟩
  | .local _ .vmem, ⟨7, _⟩ => ⟨S1024x352, .f32⟩
  | .local _ .vmem, ⟨8, _⟩ => ⟨S1024x352, .f32⟩
  | .local _ .vmem, ⟨9, _⟩ => ⟨S1024x352, .f32⟩
  | .local _ .vmem, ⟨10, _⟩ => ⟨S1024x352, .f32⟩
  | .local _ .vmem, ⟨11, _⟩ => ⟨S1024x352, .f32⟩
  | .local _ .vmem, ⟨12, _⟩ => ⟨S1024x352, .f32⟩
  | .local _ .vmem, ⟨13, _⟩ => ⟨S1024x352, .f32⟩
  | _, _ => ⟨S2048x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwReferenceFfnIdeal.lean ====
abbrev S2048x352 : Shape := ⟨2, ![2048, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S_, .f32⟩
  | .hbm, ⟨5, _⟩ => ⟨S2048x352, .f32⟩
  | .hbm, ⟨6, _⟩ => ⟨S2048x352, .f32⟩
  | .hbm, ⟨7, _⟩ => ⟨S_, .f32⟩
  | .hbm, ⟨8, _⟩ => ⟨S2048x352, .f32⟩
  | .hbm, ⟨9, _⟩ => ⟨S2048x352, .f32⟩
  | .hbm, ⟨10, _⟩ => ⟨S2048x352, .f32⟩
  | .hbm, ⟨11, _⟩ => ⟨S_, .f32⟩
  | .hbm, ⟨12, _⟩ => ⟨S2048x352, .f32⟩
  | .hbm, ⟨13, _⟩ => ⟨S2048x352, .f32⟩
  | .hbm, ⟨14, _⟩ => ⟨S2048x352, .f32⟩
  | .hbm, ⟨15, _⟩ => ⟨S_, .f32⟩
  | .hbm, ⟨16, _⟩ => ⟨S2048x352, .f32⟩
  | .hbm, ⟨17, _⟩ => ⟨S2048x352, .f32⟩
  | .hbm, ⟨18, _⟩ => ⟨S2048x352, .f32⟩
  | .hbm, ⟨19, _⟩ => ⟨S_, .f32⟩
  | .hbm, ⟨20, _⟩ => ⟨S2048x352, .f32⟩
  | .hbm, ⟨21, _⟩ => ⟨S2048x352, .f32⟩
  | .hbm, ⟨22, _⟩ => ⟨S_, .f32⟩
  | .hbm, ⟨23, _⟩ => ⟨S2048x352, .f32⟩
  | .hbm, ⟨24, _⟩ => ⟨S2048x352, .f32⟩
  | .hbm, ⟨25, _⟩ => ⟨S2048x352, .f32⟩
  | .hbm, ⟨26, _⟩ => ⟨S_, .f32⟩
  | .hbm, ⟨27, _⟩ => ⟨S2048x352, .f32⟩
  | .hbm, ⟨28, _⟩ => ⟨S2048x352, .f32⟩
  | .hbm, ⟨29, _⟩ => ⟨S2048x352, .f32⟩
  | .hbm, ⟨30, _⟩ => ⟨S_, .f32⟩
  | .hbm, ⟨31, _⟩ => ⟨S2048x352, .f32⟩
  | .hbm, ⟨32, _⟩ => ⟨S2048x352, .f32⟩
  | .hbm, ⟨33, _⟩ => ⟨S2048x352, .f32⟩
  | .hbm, ⟨34, _⟩ => ⟨S_, .f32⟩
  | .hbm, ⟨35, _⟩ => ⟨S2048x352, .f32⟩
  | .hbm, ⟨36, _⟩ => ⟨S2048x352, .f32⟩
  | _, _ => ⟨S2048x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwDown.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwDownIdeal.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwReferenceDownIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSmall.lean ====
abbrev S1648x128 : Shape := ⟨2, ![1648, 128]⟩
abbrev S16x128 : Shape := ⟨2, ![16, 128]⟩

abbrev nBuf : Space → Nat
  | .hbm => 7
  | .vmem => 14
  | .smem => 0
  | _ => 0

abbrev bufTy : (tb : Table) → Fin (tcTables nBuf tb) → BufTy
  | .hbm, ⟨0, _⟩ => ⟨S1648x128, .f32⟩
  | .hbm, ⟨1, _⟩ => ⟨S1648x128, .f32⟩
  | .hbm, ⟨2, _⟩ => ⟨S1648x128, .f32⟩
  | .hbm, ⟨3, _⟩ => ⟨S1648x128, .f32⟩
  | .hbm, ⟨4, _⟩ => ⟨S1648x128, .f32⟩
  | .hbm, ⟨5, _⟩ => ⟨S1648x128, .f32⟩
  | .hbm, ⟨6, _⟩ => ⟨S1648x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | _, _ => ⟨S1648x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![103], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSmallIdeal.lean ====
abbrev S1648x128 : Shape := ⟨2, ![1648, 128]⟩
abbrev S16x128 : Shape := ⟨2, ![16, 128]⟩

abbrev nBuf : Space → Nat
  | .hbm => 7
  | .vmem => 14
  | .smem => 0
  | _ => 0

abbrev bufTy : (tb : Table) → Fin (tcTables nBuf tb) → BufTy
  | .hbm, ⟨0, _⟩ => ⟨S1648x128, .f32⟩
  | .hbm, ⟨1, _⟩ => ⟨S1648x128, .f32⟩
  | .hbm, ⟨2, _⟩ => ⟨S1648x128, .f32⟩
  | .hbm, ⟨3, _⟩ => ⟨S1648x128, .f32⟩
  | .hbm, ⟨4, _⟩ => ⟨S1648x128, .f32⟩
  | .hbm, ⟨5, _⟩ => ⟨S1648x128, .f32⟩
  | .hbm, ⟨6, _⟩ => ⟨S1648x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | _, _ => ⟨S1648x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![103], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwReferenceSmallIdeal.lean ====
abbrev S1648x128 : Shape := ⟨2, ![1648, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1648x128, .f32⟩
  | .hbm, ⟨1, _⟩ => ⟨S1648x128, .f32⟩
  | .hbm, ⟨2, _⟩ => ⟨S1648x128, .f32⟩
  | .hbm, ⟨3, _⟩ => ⟨S1648x128, .f32⟩
  | .hbm, ⟨4, _⟩ => ⟨S_, .f32⟩
  | .hbm, ⟨5, _⟩ => ⟨S1648x128, .f32⟩
  | .hbm, ⟨6, _⟩ => ⟨S1648x128, .f32⟩
  | .hbm, ⟨7, _⟩ => ⟨S_, .f32⟩
  | .hbm, ⟨8, _⟩ => ⟨S1648x128, .f32⟩
  | .hbm, ⟨9, _⟩ => ⟨S1648x128, .f32⟩
  | .hbm, ⟨10, _⟩ => ⟨S1648x128, .f32⟩
  | .hbm, ⟨11, _⟩ => ⟨S_, .f32⟩
  | .hbm, ⟨12, _⟩ => ⟨S1648x128, .f32⟩
  | .hbm, ⟨13, _⟩ => ⟨S1648x128, .f32⟩
  | .hbm, ⟨14, _⟩ => ⟨S1648x128, .f32⟩
  | .hbm, ⟨15, _⟩ => ⟨S_, .f32⟩
  | .hbm, ⟨16, _⟩ => ⟨S1648x128, .f32⟩
  | .hbm, ⟨17, _⟩ => ⟨S1648x128, .f32⟩
  | .hbm, ⟨18, _⟩ => ⟨S1648x128, .f32⟩
  | .hbm, ⟨19, _⟩ => ⟨S_, .f32⟩
  | .hbm, ⟨20, _⟩ => ⟨S1648x128, .f32⟩
  | .hbm, ⟨21, _⟩ => ⟨S1648x128, .f32⟩
  | .hbm, ⟨22, _⟩ => ⟨S_, .f32⟩
  | .hbm, ⟨23, _⟩ => ⟨S1648x128, .f32⟩
  | .hbm, ⟨24, _⟩ => ⟨S1648x128, .f32⟩
  | .hbm, ⟨25, _⟩ => ⟨S1648x128, .f32⟩
  | .hbm, ⟨26, _⟩ => ⟨S_, .f32⟩
  | .hbm, ⟨27, _⟩ => ⟨S1648x128, .f32⟩
  | .hbm, ⟨28, _⟩ => ⟨S1648x128, .f32⟩
  | .hbm, ⟨29, _⟩ => ⟨S1648x128, .f32⟩
  | .hbm, ⟨30, _⟩ => ⟨S_, .f32⟩
  | .hbm, ⟨31, _⟩ => ⟨S1648x128, .f32⟩
  | .hbm, ⟨32, _⟩ => ⟨S1648x128, .f32⟩
  | .hbm, ⟨33, _⟩ => ⟨S1648x128, .f32⟩
  | .hbm, ⟨34, _⟩ => ⟨S_, .f32⟩
  | .hbm, ⟨35, _⟩ => ⟨S1648x128, .f32⟩
  | .hbm, ⟨36, _⟩ => ⟨S1648x128, .f32⟩
  | _, _ => ⟨S1648x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSharded.lean ====
abbrev S8x36880x128 : Shape := ⟨3, ![8, 36880, 128]⟩
abbrev S36880x128 : Shape := ⟨2, ![36880, 128]⟩
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x36880x128, .f32⟩
  | .hbm, ⟨1, _⟩ => ⟨S36880x128, .f32⟩
  | .local _ .vmem, ⟨0, _⟩ => ⟨S8x16x128, .f32⟩
  | .local _ .vmem, ⟨1, _⟩ => ⟨S8x16x128, .f32⟩
  | .local _ .vmem, ⟨2, _⟩ => ⟨S16x128, .f32⟩
  | .local _ .vmem, ⟨3, _⟩ => ⟨S16x128, .f32⟩
  | _, _ => ⟨S8x36880x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2305], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumShardedIdeal.lean ====
abbrev S8x36880x128 : Shape := ⟨3, ![8, 36880, 128]⟩
abbrev S36880x128 : Shape := ⟨2, ![36880, 128]⟩
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x36880x128, .f32⟩
  | .hbm, ⟨1, _⟩ => ⟨S36880x128, .f32⟩
  | .local _ .vmem, ⟨0, _⟩ => ⟨S8x16x128, .f32⟩
  | .local _ .vmem, ⟨1, _⟩ => ⟨S8x16x128, .f32⟩
  | .local _ .vmem, ⟨2, _⟩ => ⟨S16x128, .f32⟩
  | .local _ .vmem, ⟨3, _⟩ => ⟨S16x128, .f32⟩
  | _, _ => ⟨S8x36880x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2305], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumReferenceShardedIdeal.lean ====
abbrev S8x36880x128 : Shape := ⟨3, ![8, 36880, 128]⟩
abbrev S_ : Shape := ⟨0, ![]⟩
abbrev S36880x128 : Shape := ⟨2, ![36880, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x36880x128, .f32⟩
  | .hbm, ⟨1, _⟩ => ⟨S_, .f32⟩
  | .hbm, ⟨2, _⟩ => ⟨S36880x128, .f32⟩
  | _, _ => ⟨S8x36880x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumReplicated.lean ====
abbrev S8x2208x128 : Shape := ⟨3, ![8, 2208, 128]⟩
abbrev S2208x128 : Shape := ⟨2, ![2208, 128]⟩
abbrev S8x32x128 : Shape := ⟨3, ![8, 32, 128]⟩
abbrev S32x128 : Shape := ⟨2, ![32, 128]⟩
abbrev S1x32x128 : Shape := ⟨3, ![1, 32, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2208x128, .f32⟩
  | .hbm, ⟨1, _⟩ => ⟨S2208x128, .f32⟩
  | .local _ .vmem, ⟨0, _⟩ => ⟨S8x32x128, .f32⟩
  | .local _ .vmem, ⟨1, _⟩ => ⟨S8x32x128, .f32⟩
  | .local _ .vmem, ⟨2, _⟩ => ⟨S32x128, .f32⟩
  | .local _ .vmem, ⟨3, _⟩ => ⟨S32x128, .f32⟩
  | _, _ => ⟨S8x2208x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![69], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumReplicatedIdeal.lean ====
abbrev S8x2208x128 : Shape := ⟨3, ![8, 2208, 128]⟩
abbrev S2208x128 : Shape := ⟨2, ![2208, 128]⟩
abbrev S8x32x128 : Shape := ⟨3, ![8, 32, 128]⟩
abbrev S32x128 : Shape := ⟨2, ![32, 128]⟩
abbrev S1x32x128 : Shape := ⟨3, ![1, 32, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2208x128, .f32⟩
  | .hbm, ⟨1, _⟩ => ⟨S2208x128, .f32⟩
  | .local _ .vmem, ⟨0, _⟩ => ⟨S8x32x128, .f32⟩
  | .local _ .vmem, ⟨1, _⟩ => ⟨S8x32x128, .f32⟩
  | .local _ .vmem, ⟨2, _⟩ => ⟨S32x128, .f32⟩
  | .local _ .vmem, ⟨3, _⟩ => ⟨S32x128, .f32⟩
  | _, _ => ⟨S8x2208x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![69], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumReferenceReplicatedIdeal.lean ====
abbrev S8x2208x128 : Shape := ⟨3, ![8, 2208, 128]⟩
abbrev S_ : Shape := ⟨0, ![]⟩
abbrev S2208x128 : Shape := ⟨2, ![2208, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2208x128, .f32⟩
  | .hbm, ⟨1, _⟩ => ⟨S_, .f32⟩
  | .hbm, ⟨2, _⟩ => ⟨S2208x128, .f32⟩
  | _, _ => ⟨S8x2208x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8x128, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossIdeal.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8x128, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8x128, .f32⟩
  | .hbm, ⟨73, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Input.lean ====
abbrev S8192x7168 : Shape := ⟨2, ![8192, 7168]⟩
abbrev S1024x7168 : Shape := ⟨2, ![1024, 7168]⟩
abbrev S8192x1024 : Shape := ⟨2, ![8192, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 7], ![false, false]⟩

def k0_cond3 (i : grid0.Coords) : BitVec 1 :=
  let arg1 : BitVec 32 := BitVec.ofNat 32 (i 1).val
  let c6_i32 : BitVec 32 := 6#32
  let v16 : BitVec 1 := Scalar.cmpi .eq arg1 c6_i32
  let v17 : BitVec 32 := Scalar.extui v16
  let c0_i32_11 : BitVec 32 := 0#32
  let v18 : BitVec 1 := Scalar.cmpi .ne v17 c0_i32_11
  v18

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InputIdeal.lean ====
abbrev S8192x7168 : Shape := ⟨2, ![8192, 7168]⟩
abbrev S1024x7168 : Shape := ⟨2, ![1024, 7168]⟩
abbrev S8192x1024 : Shape := ⟨2, ![8192, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 7], ![false, false]⟩

def k0_cond3 (i : grid0.Coords) : BitVec 1 :=
  let arg1 : BitVec 32 := BitVec.ofNat 32 (i 1).val
  let c6_i32 : BitVec 32 := 6#32
  let v16 : BitVec 1 := Scalar.cmpi .eq arg1 c6_i32
  let v17 : BitVec 32 := Scalar.extui v16
  let c0_i32_11 : BitVec 32 := 0#32
  let v18 : BitVec 1 := Scalar.cmpi .ne v17 c0_i32_11
  v18

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InputReferenceIdeal.lean ====
abbrev S8192x7168 : Shape := ⟨2, ![8192, 7168]⟩
abbrev S1024x7168 : Shape := ⟨2, ![1024, 7168]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x7168, .f32⟩
  | .hbm, ⟨27, _⟩ => ⟨S8192x7168, .f32⟩
  | .hbm, ⟨28, _⟩ => ⟨S8192x7168, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== WeightIn.lean ====
abbrev S8192x1024 : Shape := ⟨2, ![8192, 1024]⟩
abbrev S8192x7168 : Shape := ⟨2, ![8192, 7168]⟩
abbrev S1024x7168 : Shape := ⟨2, ![1024, 7168]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S1024x7168, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 14, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightInIdeal.lean ====
abbrev S8192x1024 : Shape := ⟨2, ![8192, 1024]⟩
abbrev S8192x7168 : Shape := ⟨2, ![8192, 7168]⟩
abbrev S1024x7168 : Shape := ⟨2, ![1024, 7168]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S1024x7168, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 14, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightInReferenceIdeal.lean ====
abbrev S8192x1024 : Shape := ⟨2, ![8192, 1024]⟩
abbrev S8192x7168 : Shape := ⟨2, ![8192, 7168]⟩
abbrev S1024x8192 : Shape := ⟨2, ![1024, 8192]⟩
abbrev S1024x7168 : Shape := ⟨2, ![1024, 7168]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8192x1024, .f32⟩
  | .hbm, ⟨3, _⟩ => ⟨S1024x8192, .f32⟩
  | .hbm, ⟨4, _⟩ => ⟨S8192x7168, .f32⟩
  | .hbm, ⟨5, _⟩ => ⟨S1024x7168, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WeightGate.lean ====
abbrev S8192x1024 : Shape := ⟨2, ![8192, 1024]⟩
abbrev S8192x2816 : Shape := ⟨2, ![8192, 2816]⟩
abbrev S1024x2816 : Shape := ⟨2, ![1024, 2816]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightGateIdeal.lean ====
abbrev S8192x1024 : Shape := ⟨2, ![8192, 1024]⟩
abbrev S8192x2816 : Shape := ⟨2, ![8192, 2816]⟩
abbrev S1024x2816 : Shape := ⟨2, ![1024, 2816]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightGateReferenceIdeal.lean ====
abbrev S8192x1024 : Shape := ⟨2, ![8192, 1024]⟩
abbrev S8192x2816 : Shape := ⟨2, ![8192, 2816]⟩
abbrev S1024x8192 : Shape := ⟨2, ![1024, 8192]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S1024x8192, .f32⟩
  | .hbm, ⟨4, _⟩ => ⟨S8192x2816, .f32⟩
  | .hbm, ⟨5, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WeightDown.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightDownIdeal.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightDownReferenceIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S2816x8192, .f32⟩
  | .hbm, ⟨4, _⟩ => ⟨S8192x1024, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WeightOut.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WeightOutIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WeightOutReferenceIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WeightBranch.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WeightBranchIdeal.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WeightBranchReferenceIdeal.lean ====
abbrev S8192x512 : Shape := ⟨2, ![8192, 512]⟩
abbrev S8192x1024 : Shape := ⟨2, ![8192, 1024]⟩
abbrev S512x8192 : Shape := ⟨2, ![512, 8192]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S512x8192, .f32⟩
  | .hbm, ⟨4, _⟩ => ⟨S8192x1024, .f32⟩
  | .hbm, ⟨5, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Channel.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ChannelIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ChannelReferenceIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x1024, .f32⟩
  | .hbm, ⟨38, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Merge.lean ====
abbrev S8192x1024 : Shape := ⟨2, ![8192, 1024]⟩
abbrev S8192x7168 : Shape := ⟨2, ![8192, 7168]⟩
abbrev S8192x512 : Shape := ⟨2, ![8192, 512]⟩
abbrev S1x3072 : Shape := ⟨2, ![1, 3072]⟩
abbrev S3x512x1024 : Shape := ⟨3, ![3, 512, 1024]⟩
abbrev S1024x1024 : Shape := ⟨2, ![1024, 1024]⟩
abbrev S256x1024 : Shape := ⟨2, ![256, 1024]⟩
abbrev S256x3072 : Shape := ⟨2, ![256, 3072]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x3072, .f32⟩
  | .hbm, ⟨6, _⟩ => ⟨S3x512x1024, .bf16⟩
  | .hbm, ⟨7, _⟩ => ⟨S1024x1024, .bf16⟩
  | .hbm, ⟨8, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x3072, .f32⟩
  | .local _ .vmem, ⟨3, _⟩ => ⟨S256x3072, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x3072, .f32⟩
  | .local _ .vmem, ⟨11, _⟩ => ⟨S3x512x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeIdeal.lean ====
abbrev S8192x1024 : Shape := ⟨2, ![8192, 1024]⟩
abbrev S8192x7168 : Shape := ⟨2, ![8192, 7168]⟩
abbrev S8192x512 : Shape := ⟨2, ![8192, 512]⟩
abbrev S1x3072 : Shape := ⟨2, ![1, 3072]⟩
abbrev S3x512x1024 : Shape := ⟨3, ![3, 512, 1024]⟩
abbrev S1024x1024 : Shape := ⟨2, ![1024, 1024]⟩
abbrev S256x1024 : Shape := ⟨2, ![256, 1024]⟩
abbrev S256x3072 : Shape := ⟨2, ![256, 3072]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x3072, .f32⟩
  | .hbm, ⟨6, _⟩ => ⟨S3x512x1024, .bf16⟩
  | .hbm, ⟨7, _⟩ => ⟨S1024x1024, .bf16⟩
  | .hbm, ⟨8, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x3072, .f32⟩
  | .local _ .vmem, ⟨3, _⟩ => ⟨S256x3072, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x3072, .f32⟩
  | .local _ .vmem, ⟨11, _⟩ => ⟨S3x512x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S8192x1024 : Shape := ⟨2, ![8192, 1024]⟩
abbrev S8192x7168 : Shape := ⟨2, ![8192, 7168]⟩
abbrev S8192x512 : Shape := ⟨2, ![8192, 512]⟩
abbrev S1x3072 : Shape := ⟨2, ![1, 3072]⟩
abbrev S3x512x1024 : Shape := ⟨3, ![3, 512, 1024]⟩
abbrev S1024x1024 : Shape := ⟨2, ![1024, 1024]⟩
abbrev S8192x3072 : Shape := ⟨2, ![8192, 3072]⟩
abbrev S8192x3x1024 : Shape := ⟨3, ![8192, 3, 1024]⟩
abbrev S3x1024 : Shape := ⟨2, ![3, 1024]⟩
abbrev S1x3x1024 : Shape := ⟨3, ![1, 3, 1024]⟩
abbrev S_ : Shape := ⟨0, ![]⟩
abbrev S8192x1x512 : Shape := ⟨3, ![8192, 1, 512]⟩
abbrev S8192x3x512 : Shape := ⟨3, ![8192, 3, 512]⟩
abbrev S3x1024x8192 : Shape := ⟨3, ![3, 1024, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x3072, .f32⟩
  | .hbm, ⟨6, _⟩ => ⟨S3x512x1024, .bf16⟩
  | .hbm, ⟨7, _⟩ => ⟨S1024x1024, .bf16⟩
  | .hbm, ⟨8, _⟩ => ⟨S8192x3072, .f32⟩
  | .hbm, ⟨9, _⟩ => ⟨S8192x3x1024, .f32⟩
  | .hbm, ⟨10, _⟩ => ⟨S3x1024, .f32⟩
  | .hbm, ⟨11, _⟩ => ⟨S1x3x1024, .f32⟩
  | .hbm, ⟨12, _⟩ => ⟨S8192x3x1024, .f32⟩
  | .hbm, ⟨13, _⟩ => ⟨S8192x3x1024, .f32⟩
  | .hbm, ⟨14, _⟩ => ⟨S8192x3x1024, .f32⟩
  | .hbm, ⟨15, _⟩ => ⟨S8192x3x1024, .f32⟩
  | .hbm, ⟨16, _⟩ => ⟨S_, .f32⟩
  | .hbm, ⟨17, _⟩ => ⟨S8192x3x1024, .f32⟩
  | .hbm, ⟨18, _⟩ => ⟨S8192x3x1024, .f32⟩
  | .hbm, ⟨19, _⟩ => ⟨S_, .f32⟩
  | .hbm, ⟨20, _⟩ => ⟨S8192x3x1024, .f32⟩
  | .hbm, ⟨21, _⟩ => ⟨S8192x3x1024, .f32⟩
  | .hbm, ⟨22, _⟩ => ⟨S8192x1x512, .f32⟩
  | .hbm, ⟨23, _⟩ => ⟨S8192x1x512, .f32⟩
  | .hbm, ⟨24, _⟩ => ⟨S8192x1x512, .f32⟩
  | .hbm, ⟨25, _⟩ => ⟨S8192x3x512, .f32⟩
  | .hbm, ⟨26, _⟩ => ⟨S3x512x1024, .f32⟩
  | .hbm, ⟨27, _⟩ => ⟨S3x1024x8192, .f32⟩
  | .hbm, ⟨28, _⟩ => ⟨S8192x3x1024, .f32⟩
  | .hbm, ⟨29, _⟩ => ⟨S8192x3x1024, .f32⟩
  | .hbm, ⟨30, _⟩ => ⟨S_, .f32⟩
  | .hbm, ⟨31, _⟩ => ⟨S8192x1024, .f32⟩
  | .hbm, ⟨32, _⟩ => ⟨S1024x1024, .f32⟩
  | .hbm, ⟨33, _⟩ => ⟨S8192x1024, .f32⟩
  | .hbm, ⟨34, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== MergeBackward.lean ====
abbrev S8192x1024 : Shape := ⟨2, ![8192, 1024]⟩
abbrev S8192x7168 : Shape := ⟨2, ![8192, 7168]⟩
abbrev S8192x512 : Shape := ⟨2, ![8192, 512]⟩
abbrev S1x3072 : Shape := ⟨2, ![1, 3072]⟩
abbrev S3x512x1024 : Shape := ⟨3, ![3, 512, 1024]⟩
abbrev S1024x1024 : Shape := ⟨2, ![1024, 1024]⟩
abbrev S8192x3072 : Shape := ⟨2, ![8192, 3072]⟩
abbrev S256x1024 : Shape := ⟨2, ![256, 1024]⟩
abbrev S256x3072 : Shape := ⟨2, ![256, 3072]⟩
abbrev S256x512 : Shape := ⟨2, ![256, 512]⟩
abbrev S1x512x1024 : Shape := ⟨3, ![1, 512, 1024]⟩
abbrev S512x1024 : Shape := ⟨2, ![512, 1024]⟩
abbrev S3072 : Shape := ⟨1, ![3072]⟩

abbrev nBuf : Space → Nat
  | .hbm => 15
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x3072, .f32⟩
  | .hbm, ⟨6, _⟩ => ⟨S3x512x1024, .bf16⟩
  | .hbm, ⟨7, _⟩ => ⟨S1024x1024, .bf16⟩
  | .hbm, ⟨8, _⟩ => ⟨S8192x3072, .bf16⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x3072, .bf16⟩
  | .hbm, ⟨13, _⟩ => ⟨S8192x1024, .bf16⟩
  | .hbm, ⟨14, _⟩ => ⟨S1x3072, .f32⟩
  | .local _ .vmem, ⟨0, _⟩ => ⟨S256x1024, .f32⟩
  | .local _ .vmem, ⟨1, _⟩ => ⟨S256x1024, .f32⟩
  | .local _ .vmem, ⟨2, _⟩ => ⟨S256x3072, .f32⟩
  | .local _ .vmem, ⟨3, _⟩ => ⟨S256x3072, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x3072, .f32⟩
  | .local _ .vmem, ⟨11, _⟩ => ⟨S3x512x1024, .bf16⟩
  | .local _ .vmem, ⟨12, _⟩ => ⟨S1024x1024, .bf16⟩
  | .local _ .vmem, ⟨13, _⟩ => ⟨S256x3072, .bf16⟩
  | .local _ .vmem, ⟨14, _⟩ => ⟨S256x3072, .bf16⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x3072, .bf16⟩
  | .local _ .vmem, ⟨22, _⟩ => ⟨S256x3072, .bf16⟩
  | .local _ .vmem, ⟨23, _⟩ => ⟨S256x1024, .bf16⟩
  | .local _ .vmem, ⟨24, _⟩ => ⟨S256x1024, .bf16⟩
  | .local _ .vmem, ⟨25, _⟩ => ⟨S1x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v86 : BitVec 1 := Scalar.cmpi .eq arg0 c0_i32
  let v87 : BitVec 32 := Scalar.extui v86
  let c0_i32_57 : BitVec 32 := 0#32
  let v88 : BitVec 1 := Scalar.cmpi .ne v87 c0_i32_57
  v88

def k0_cond2 (i : grid0.Coords) : BitVec 1 :=
  let arg0 : BitVec 32 := BitVec.ofNat 32 (i 0).val
  let c0_i32_58 : BitVec 32 := 0#32
  let v89 : BitVec 1 := Scalar.cmpi .ne arg0 c0_i32_58
  let v90 : BitVec 32 := Scalar.extui v89
  let c0_i32_59 : BitVec 32 := 0#32
  let v91 : BitVec 1 := Scalar.cmpi .ne v90 c0_i32_59
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MergeBackwardIdeal.lean ====
abbrev S8192x1024 : Shape := ⟨2, ![8192, 1024]⟩
abbrev S8192x7168 : Shape := ⟨2, ![8192, 7168]⟩
abbrev S8192x512 : Shape := ⟨2, ![8192, 512]⟩
abbrev S1x3072 : Shape := ⟨2, ![1, 3072]⟩
abbrev S3x512x1024 : Shape := ⟨3, ![3, 512, 1024]⟩
abbrev S1024x1024 : Shape := ⟨2, ![1024, 1024]⟩
abbrev S8192x3072 : Shape := ⟨2, ![8192, 3072]⟩
abbrev S256x1024 : Shape := ⟨2, ![256, 1024]⟩
abbrev S256x3072 : Shape := ⟨2, ![256, 3072]⟩
abbrev S256x512 : Shape := ⟨2, ![256, 512]⟩
abbrev S1x512x1024 : Shape := ⟨3, ![1, 512, 1024]⟩
abbrev S512x1024 : Shape := ⟨2, ![512, 1024]⟩
abbrev S3072 : Shape := ⟨1, ![3072]⟩

abbrev nBuf : Space → Nat
  | .hbm => 15
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x3072, .f32⟩
  | .hbm, ⟨6, _⟩ => ⟨S3x512x1024, .bf16⟩
  | .hbm, ⟨7, _⟩ => ⟨S1024x1024, .bf16⟩
  | .hbm, ⟨8, _⟩ => ⟨S8192x3072, .bf16⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x3072, .bf16⟩
  | .hbm, ⟨13, _⟩ => ⟨S8192x1024, .bf16⟩
  | .hbm, ⟨14, _⟩ => ⟨S1x3072, .f32⟩
  | .local _ .vmem, ⟨0, _⟩ => ⟨S256x1024, .f32⟩
  | .local _ .vmem, ⟨1, _⟩ => ⟨S256x1024, .f32⟩
  | .local _ .vmem, ⟨2, _⟩ => ⟨S256x3072, .f32⟩
  | .local _ .vmem, ⟨3, _⟩ => ⟨S256x3072, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x3072, .f32⟩
  | .local _ .vmem, ⟨11, _⟩ => ⟨S3x512x1024, .bf16⟩
  | .local _ .vmem, ⟨12, _⟩ => ⟨S1024x1024, .bf16⟩
  | .local _ .vmem, ⟨13, _⟩ => ⟨S256x3072, .bf16⟩
  | .local _ .vmem, ⟨14, _⟩ => ⟨S256x3072, .bf16⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x3072, .bf16⟩
  | .local _ .vmem, ⟨22, _⟩ => ⟨S256x3072, .bf16⟩
  | .local _ .vmem, ⟨23, _⟩ => ⟨S256x1024, .bf16⟩
  | .local _ .vmem, ⟨24, _⟩ => ⟨S256x1024, .bf16⟩
  | .local _ .vmem, ⟨25, _⟩ => ⟨S1x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v86 : BitVec 1 := Scalar.cmpi .eq arg0 c0_i32
  let v87 : BitVec 32 := Scalar.extui v86
  let c0_i32_57 : BitVec 32 := 0#32
  let v88 : BitVec 1 := Scalar.cmpi .ne v87 c0_i32_57
  v88

def k0_cond2 (i : grid0.Coords) : BitVec 1 :=
  let arg0 : BitVec 32 := BitVec.ofNat 32 (i 0).val
  let c0_i32_58 : BitVec 32 := 0#32
  let v89 : BitVec 1 := Scalar.cmpi .ne arg0 c0_i32_58
  let v90 : BitVec 32 := Scalar.extui v89
  let c0_i32_59 : BitVec 32 := 0#32
  let v91 : BitVec 1 := Scalar.cmpi .ne v90 c0_i32_59
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MergeBackwardReferenceIdeal.lean ====
abbrev S8192x1024 : Shape := ⟨2, ![8192, 1024]⟩
abbrev S8192x7168 : Shape := ⟨2, ![8192, 7168]⟩
abbrev S8192x512 : Shape := ⟨2, ![8192, 512]⟩
abbrev S1x3072 : Shape := ⟨2, ![1, 3072]⟩
abbrev S3x512x1024 : Shape := ⟨3, ![3, 512, 1024]⟩
abbrev S1024x1024 : Shape := ⟨2, ![1024, 1024]⟩
abbrev S8192x3072 : Shape := ⟨2, ![8192, 3072]⟩
abbrev S8192x3x1024 : Shape := ⟨3, ![8192, 3, 1024]⟩
abbrev S3x1024 : Shape := ⟨2, ![3, 1024]⟩
abbrev S1x3x1024 : Shape := ⟨3, ![1, 3, 1024]⟩
abbrev S_ : Shape := ⟨0, ![]⟩
abbrev S8192x1x512 : Shape := ⟨3, ![8192, 1, 512]⟩
abbrev S8192x3x512 : Shape := ⟨3, ![8192, 3, 512]⟩
abbrev S3x1024x8192 : Shape := ⟨3, ![3, 1024, 8192]⟩
abbrev S8192x1x1024 : Shape := ⟨3, ![8192, 1, 1024]⟩
abbrev S3x512x8192 : Shape := ⟨3, ![3, 512, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x3072, .f32⟩
  | .hbm, ⟨6, _⟩ => ⟨S3x512x1024, .bf16⟩
  | .hbm, ⟨7, _⟩ => ⟨S1024x1024, .bf16⟩
  | .hbm, ⟨8, _⟩ => ⟨S3x512x1024, .f32⟩
  | .hbm, ⟨9, _⟩ => ⟨S1024x1024, .f32⟩
  | .hbm, ⟨10, _⟩ => ⟨S8192x3072, .f32⟩
  | .hbm, ⟨11, _⟩ => ⟨S8192x3x1024, .f32⟩
  | .hbm, ⟨12, _⟩ => ⟨S3x1024, .f32⟩
  | .hbm, ⟨13, _⟩ => ⟨S1x3x1024, .f32⟩
  | .hbm, ⟨14, _⟩ => ⟨S8192x3x1024, .f32⟩
  | .hbm, ⟨15, _⟩ => ⟨S8192x3x1024, .f32⟩
  | .hbm, ⟨16, _⟩ => ⟨S8192x3x1024, .f32⟩
  | .hbm, ⟨17, _⟩ => ⟨S8192x3x1024, .f32⟩
  | .hbm, ⟨18, _⟩ => ⟨S_, .f32⟩
  | .hbm, ⟨19, _⟩ => ⟨S8192x3x1024, .f32⟩
  | .hbm, ⟨20, _⟩ => ⟨S8192x3x1024, .f32⟩
  | .hbm, ⟨21, _⟩ => ⟨S_, .f32⟩
  | .hbm, ⟨22, _⟩ => ⟨S8192x3x1024, .f32⟩
  | .hbm, ⟨23, _⟩ => ⟨S8192x3x1024, .f32⟩
  | .hbm, ⟨24, _⟩ => ⟨S_, .f32⟩
  | .hbm, ⟨25, _⟩ => ⟨S8192x3x1024, .f32⟩
  | .hbm, ⟨26, _⟩ => ⟨S8192x3x1024, .f32⟩
  | .hbm, ⟨27, _⟩ => ⟨S8192x3x1024, .f32⟩
  | .hbm, ⟨28, _⟩ => ⟨S8192x1x512, .f32⟩
  | .hbm, ⟨29, _⟩ => ⟨S8192x1x512, .f32⟩
  | .hbm, ⟨30, _⟩ => ⟨S8192x1x512, .f32⟩
  | .hbm, ⟨31, _⟩ => ⟨S8192x3x512, .f32⟩
  | .hbm, ⟨32, _⟩ => ⟨S3x1024x8192, .f32⟩
  | .hbm, ⟨33, _⟩ => ⟨S8192x3x1024, .f32⟩
  | .hbm, ⟨34, _⟩ => ⟨S1024x1024, .f32⟩
  | .hbm, ⟨35, _⟩ => ⟨S8192x1024, .f32⟩
  | .hbm, ⟨36, _⟩ => ⟨S8192x1x1024, .f32⟩
  | .hbm, ⟨37, _⟩ => ⟨S8192x3x1024, .f32⟩
  | .hbm, ⟨38, _⟩ => ⟨S8192x3x1024, .f32⟩
  | .hbm, ⟨39, _⟩ => ⟨S8192x3x1024, .f32⟩
  | .hbm, ⟨40, _⟩ => ⟨S8192x3x1024, .f32⟩
  | .hbm, ⟨41, _⟩ => ⟨S8192x3x1024, .f32⟩
  | .hbm, ⟨42, _⟩ => ⟨S3x512x8192, .f32⟩
  | .hbm, ⟨43, _⟩ => ⟨S8192x3x512, .f32⟩
  | .hbm, ⟨44, _⟩ => ⟨S8192x3072, .f32⟩
  | .hbm, ⟨45, _⟩ => ⟨S8192x3072, .bf16⟩
  | .hbm, ⟨46, _⟩ => ⟨S8192x1x512, .f32⟩
  | .hbm, ⟨47, _⟩ => ⟨S8192x512, .f32⟩
  | .hbm, ⟨48, _⟩ => ⟨S8192x1x512, .f32⟩
  | .hbm, ⟨49, _⟩ => ⟨S8192x512, .f32⟩
  | .hbm, ⟨50, _⟩ => ⟨S8192x1x512, .f32⟩
  | .hbm, ⟨51, _⟩ => ⟨S8192x512, .f32⟩
  | .hbm, ⟨52, _⟩ => ⟨S8192x3072, .f32⟩
  | .hbm, ⟨53, _⟩ => ⟨S8192x3072, .bf16⟩
  | .hbm, ⟨54, _⟩ => ⟨S8192x3x1024, .f32⟩
  | .hbm, ⟨55, _⟩ => ⟨S_, .f32⟩
  | .hbm, ⟨56, _⟩ => ⟨S8192x1024, .f32⟩
  | .hbm, ⟨57, _⟩ => ⟨S8192x1024, .bf16⟩
  | .hbm, ⟨58, _⟩ => ⟨S_, .f32⟩
  | .hbm, ⟨59, _⟩ => ⟨S3x1024, .f32⟩
  | .hbm, ⟨60, _⟩ => ⟨S1x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Attention.lean ====
abbrev S8192x1024 : Shape := ⟨2, ![8192, 1024]⟩
abbrev S8192x512 : Shape := ⟨2, ![8192, 512]⟩
abbrev S256x256 : Shape := ⟨2, ![256, 256]⟩
abbrev S2048x256 : Shape := ⟨2, ![2048, 256]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .f32⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x128, .f32⟩
  | .local _ .vmem, ⟨7, _⟩ => ⟨S256x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttentionIdeal.lean ====
abbrev S8192x1024 : Shape := ⟨2, ![8192, 1024]⟩
abbrev S8192x512 : Shape := ⟨2, ![8192, 512]⟩
abbrev S256x256 : Shape := ⟨2, ![256, 256]⟩
abbrev S2048x256 : Shape := ⟨2, ![2048, 256]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .f32⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x128, .f32⟩
  | .local _ .vmem, ⟨7, _⟩ => ⟨S256x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttentionReferenceIdeal.lean ====
abbrev S8192x1024 : Shape := ⟨2, ![8192, 1024]⟩
abbrev S8192x512 : Shape := ⟨2, ![8192, 512]⟩
abbrev S4x2048x8x128 : Shape := ⟨4, ![4, 2048, 8, 128]⟩
abbrev S4x2048x8x64 : Shape := ⟨4, ![4, 2048, 8, 64]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x1024, .f32⟩
  | .hbm, ⟨4, _⟩ => ⟨S4x2048x8x128, .f32⟩
  | .hbm, ⟨5, _⟩ => ⟨S8192x1024, .f32⟩
  | .hbm, ⟨6, _⟩ => ⟨S4x2048x8x128, .f32⟩
  | .hbm, ⟨7, _⟩ => ⟨S8192x512, .f32⟩
  | .hbm, ⟨8, _⟩ => ⟨S4x2048x8x64, .f32⟩
  | .hbm, ⟨9, _⟩ => ⟨S4x8x2048x2048, .f32⟩
  | .hbm, ⟨10, _⟩ => ⟨S_, .f32⟩
  | .hbm, ⟨11, _⟩ => ⟨S4x8x2048x2048, .f32⟩
  | .hbm, ⟨12, _⟩ => ⟨S4x8x2048x2048, .f32⟩
  | .hbm, ⟨13, _⟩ => ⟨S_, .f32⟩
  | .hbm, ⟨14, _⟩ => ⟨S4x8x2048, .f32⟩
  | .hbm, ⟨15, _⟩ => ⟨S_, .f32⟩
  | .hbm, ⟨16, _⟩ => ⟨S4x8x2048, .f32⟩
  | .hbm, ⟨17, _⟩ => ⟨S4x8x2048, .f32⟩
  | .hbm, ⟨18, _⟩ => ⟨S4x8x2048x1, .f32⟩
  | .hbm, ⟨19, _⟩ => ⟨S4x8x2048x2048, .f32⟩
  | .hbm, ⟨20, _⟩ => ⟨S4x8x2048x2048, .f32⟩
  | .hbm, ⟨21, _⟩ => ⟨S4x8x2048x2048, .f32⟩
  | .hbm, ⟨22, _⟩ => ⟨S_, .f32⟩
  | .hbm, ⟨23, _⟩ => ⟨S4x8x2048, .f32⟩
  | .hbm, ⟨24, _⟩ => ⟨S4x8x2048x1, .f32⟩
  | .hbm, ⟨25, _⟩ => ⟨S4x8x2048x2048, .f32⟩
  | .hbm, ⟨26, _⟩ => ⟨S4x8x2048x2048, .f32⟩
  | .hbm, ⟨27, _⟩ => ⟨S4x8x64x2048, .f32⟩
  | .hbm, ⟨28, _⟩ => ⟨S4x2048x8x64, .f32⟩
  | .hbm, ⟨29, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Shift.lean ====
abbrev S8192x7168 : Shape := ⟨2, ![8192, 7168]⟩
abbrev S1x2048 : Shape := ⟨2, ![1, 2048]⟩
abbrev S8192x2048 : Shape := ⟨2, ![8192, 2048]⟩
abbrev S256x2048 : Shape := ⟨2, ![256, 2048]⟩
abbrev S8x2048 : Shape := ⟨2, ![8, 2048]⟩

abbrev nBuf : Space → Nat
  | .hbm => 3
  | .vmem => 9
  | .smem => 0
  | _ => 0

abbrev bufTy : (tb : Table) → Fin (tcTables nBuf tb) → BufTy
  | .hbm, ⟨0, _⟩ => ⟨S8192x7168, .f32⟩
  | .hbm, ⟨1, _⟩ => ⟨S1x2048, .f32⟩
  | .hbm, ⟨2, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c2_i32 : BitVec 32 := 2#32
  let c0_i32 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ShiftReferenceIdeal.lean ====
abbrev S8192x7168 : Shape := ⟨2, ![8192, 7168]⟩
abbrev S1x2048 : Shape := ⟨2, ![1, 2048]⟩
abbrev S8192x2048 : Shape := ⟨2, ![8192, 2048]⟩
abbrev S4x2048x2048 : Shape := ⟨3, ![4, 2048, 2048]⟩
abbrev S4x2047x2048 : Shape := ⟨3, ![4, 2047, 2048]⟩
abbrev S_ : Shape := ⟨0, ![]⟩
abbrev S1x1x2048 : Shape := ⟨3, ![1, 1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S1x2048, .f32⟩
  | .hbm, ⟨2, _⟩ => ⟨S8192x2048, .f32⟩
  | .hbm, ⟨3, _⟩ => ⟨S4x2048x2048, .f32⟩
  | .hbm, ⟨4, _⟩ => ⟨S4x2047x2048, .f32⟩
  | .hbm, ⟨5, _⟩ => ⟨S_, .i32⟩
  | .hbm, ⟨6, _⟩ => ⟨S_, .f32⟩
  | .hbm, ⟨7, _⟩ => ⟨S4x2048x2048, .f32⟩
  | .hbm, ⟨8, _⟩ => ⟨S4x2047x2048, .f32⟩
  | .hbm, ⟨9, _⟩ => ⟨S_, .i32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S8192x2048, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Gating.lean ====
abbrev S8192x7168 : Shape := ⟨2, ![8192, 7168]⟩
abbrev S1x512 : Shape := ⟨2, ![1, 512]⟩
abbrev S128x512 : Shape := ⟨2, ![128, 512]⟩
abbrev S128x128 : Shape := ⟨2, ![128, 128]⟩
abbrev S8192x512 : Shape := ⟨2, ![8192, 512]⟩
abbrev S128 : Shape := ⟨1, ![128]⟩
abbrev S128x1 : Shape := ⟨2, ![128, 1]⟩

abbrev nBuf : Space → Nat
  | .hbm => 13
  | .vmem => 17
  | .smem => 0
  | _ => 0

abbrev bufTy : (tb : Table) → Fin (tcTables nBuf tb) → BufTy
  | .hbm, ⟨0, _⟩ => ⟨S8192x7168, .f32⟩
  | .hbm, ⟨1, _⟩ => ⟨S1x512, .f32⟩
  | .hbm, ⟨2, _⟩ => ⟨S1x512, .f32⟩
  | .hbm, ⟨3, _⟩ => ⟨S128x512, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S8192x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S128x512, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x512, .f32⟩
  | .local _ .vmem, ⟨16, _⟩ => ⟨S128x512, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== GatingReferenceIdeal.lean ====
abbrev S8192x7168 : Shape := ⟨2, ![8192, 7168]⟩
abbrev S1x512 : Shape := ⟨2, ![1, 512]⟩
abbrev S128x512 : Shape := ⟨2, ![128, 512]⟩
abbrev S128x128 : Shape := ⟨2, ![128, 128]⟩
abbrev S8192x1024 : Shape := ⟨2, ![8192, 1024]⟩
abbrev S_ : Shape := ⟨0, ![]⟩
abbrev S8192x512 : Shape := ⟨2, ![8192, 512]⟩
abbrev S8192 : Shape := ⟨1, ![8192]⟩
abbrev S8192x1 : Shape := ⟨2, ![8192, 1]⟩
abbrev S64x128x8x64 : Shape := ⟨4, ![64, 128, 8, 64]⟩
abbrev S1x128x128 : Shape := ⟨3, ![1, 128, 128]⟩
abbrev S8x128x128 : Shape := ⟨3, ![8, 128, 128]⟩
abbrev S8x64x64x128 : Shape := ⟨4, ![8, 64, 64, 128]⟩
abbrev S64x128x512 : Shape := ⟨3, ![64, 128, 512]⟩
abbrev S1x128x512 : Shape := ⟨3, ![1, 128, 512]⟩

abbrev nBuf : Space → Nat
  | .hbm => 77
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S1x512, .f32⟩
  | .hbm, ⟨2, _⟩ => ⟨S1x512, .f32⟩
  | .hbm, ⟨3, _⟩ => ⟨S128x512, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S64x128x8x64, .f32⟩
  | .hbm, ⟨60, _⟩ => ⟨S1x128x128, .f32⟩
  | .hbm, ⟨61, _⟩ => ⟨S1x128x128, .f32⟩
  | .hbm, ⟨62, _⟩ => ⟨S1x128x128, .f32⟩
  | .hbm, ⟨63, _⟩ => ⟨S1x128x128, .f32⟩
  | .hbm, ⟨64, _⟩ => ⟨S1x128x128, .f32⟩
  | .hbm, ⟨65, _⟩ => ⟨S1x128x128, .f32⟩
  | .hbm, ⟨66, _⟩ => ⟨S1x128x128, .f32⟩
  | .hbm, ⟨67, _⟩ => ⟨S1x128x128, .f32⟩
  | .hbm, ⟨68, _⟩ => ⟨S8x128x128, .f32⟩
  | .hbm, ⟨69, _⟩ => ⟨S8x64x64x128, .f32⟩
  | .hbm, ⟨70, _⟩ => ⟨S64x128x8x64, .f32⟩
  | .hbm, ⟨71, _⟩ => ⟨S64x128x512, .f32⟩
  | .hbm, ⟨72, _⟩ => ⟨S1x128x512, .f32⟩
  | .hbm, ⟨73, _⟩ => ⟨S64x128x512, .f32⟩
  | .hbm, ⟨74, _⟩ => ⟨S64x128x512, .f32⟩
  | .hbm, ⟨75, _⟩ => ⟨S8192x512, .f32⟩
  | .hbm, ⟨76, _⟩ => ⟨S8192x512, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Proof.Adamw.lean ====
/- The optimizer's updates: each call's blocks are the update of the whole arrays, entry by entry, and so is the reference. -/
module

public import proofs.«01_k».proof.Defs
public import proofs.«01_k».proof.Proof.Gen.AdamwIn.Frame
public import proofs.«01_k».proof.Proof.Gen.AdamwInIdeal.Value
public import proofs.«01_k».proof.Proof.Gen.AdamwReferenceInIdeal.Run
public import proofs.«01_k».proof.Proof.Gen.AdamwSg.Frame
public import proofs.«01_k».proof.Proof.Gen.AdamwSgIdeal.Value
public import proofs.«01_k».proof.Proof.Gen.AdamwReferenceSgIdeal.Run
public import proofs.«01_k».proof.Proof.Gen.AdamwBranch.Frame
public import proofs.«01_k».proof.Proof.Gen.AdamwBranchIdeal.Value
public import proofs.«01_k».proof.Proof.Gen.AdamwReferenceBranchIdeal.Run
public import proofs.«01_k».proof.Proof.Gen.AdamwOut.Frame
public import proofs.«01_k».proof.Proof.Gen.AdamwOutIdeal.Value
public import proofs.«01_k».proof.Proof.Gen.AdamwReferenceOutIdeal.Run
public import proofs.«01_k».proof.Proof.Gen.AdamwFfn.Frame
public import proofs.«01_k».proof.Proof.Gen.AdamwFfnIdeal.Value
public import proofs.«01_k».proof.Proof.Gen.AdamwReferenceFfnIdeal.Run
public import proofs.«01_k».proof.Proof.Gen.AdamwDown.Frame
public import proofs.«01_k».proof.Proof.Gen.AdamwDownIdeal.Value
public import proofs.«01_k».proof.Proof.Gen.AdamwReferenceDownIdeal.Run
public import proofs.«01_k».proof.Proof.Gen.AdamwSmall.Frame
public import proofs.«01_k».proof.Proof.Gen.AdamwSmallIdeal.Value
public import proofs.«01_k».proof.Proof.Gen.AdamwReferenceSmallIdeal.Run
public import Idealize.ShloMosaic.Adequacy
public import Idealize.ShloMosaic.Init
public import Idealize.ShloMosaic.Lib.Quiescent

@[expose] public section

noncomputable section

namespace Cert.Updates

open Idealize.ShloMosaic Idealize.ShloMosaic.TcCoe Idealize.SL.Sem

/-! ### w_in -/

/-- The call leaves its arguments unchanged and every counter at zero. -/
theorem ofIn_frame : @Cert.quiescent_AdamwIn Cert.AdamwIn.Gen.facts := fun m ρ _ => Cert.AdamwIn.Gen.frame (F := Bits) m ρ

/-- So does its ideal program. -/
theorem ofIn_frame_ideal : @Cert.quiescent_AdamwInIdeal Cert.AdamwInIdeal.Gen.facts := fun m ρ _ => Cert.AdamwInIdeal.Gen.frame (F := Ideal) m ρ

/-- So does the reference, which declares no semaphore. -/
theorem ofIn_frame_reference : @Cert.quiescent_AdamwReferenceInIdeal Cert.AdamwReferenceInIdeal.Gen.facts := fun m ρ _ =>
  (θ_run (Cert.AdamwReferenceInIdeal.defs (F := Ideal)) _ _).mono (fun r h => ⟨fun c => (h c).2.2.2, sem_eq_zero_of_no_sems (by decide) r.2⟩) (Cert.AdamwReferenceInIdeal.Value.run (F := Ideal) m ρ)

/-- Over the extended reals the step and the two new moments are those of the reference. -/
theorem ofIn_algebraic : @Cert.algebraic_AdamwInIdeal_AdamwReferenceInIdeal Cert.AdamwInIdeal.Gen.facts Cert.AdamwReferenceInIdeal.Gen.facts :=
  fun m ρ m' ρ' _ hin => by
    refine ⟨_, _, _, Cert.AdamwInIdeal.Value.run (F := Ideal) m ρ, (θ_run (Cert.AdamwReferenceInIdeal.defs (F := Ideal)) _ _).mono (fun r h c => ?_) (Cert.AdamwReferenceInIdeal.Value.run (F := Ideal) m' ρ')⟩
    obtain ⟨h0, h1, h2, h3⟩ := hin c
    obtain ⟨r0, r1, r2, rest⟩ := h c
    rw [h0, h1, h2, h3] at r0
    rw [h1, h2] at r1
    rw [h1, h3] at r2
    exact ⟨r0.trans rfl, r1.trans rfl, r2.trans rfl, rest⟩

/-! ### sg_w -/

/-- The call leaves its arguments unchanged and every counter at zero. -/
theorem ofSg_frame : @Cert.quiescent_AdamwSg Cert.AdamwSg.Gen.facts := fun m ρ _ => Cert.AdamwSg.Gen.frame (F := Bits) m ρ

/-- So does its ideal program. -/
theorem ofSg_frame_ideal : @Cert.quiescent_AdamwSgIdeal Cert.AdamwSgIdeal.Gen.facts := fun m ρ _ => Cert.AdamwSgIdeal.Gen.frame (F := Ideal) m ρ

/-- So does the reference, which declares no semaphore. -/
theorem ofSg_frame_reference : @Cert.quiescent_AdamwReferenceSgIdeal Cert.AdamwReferenceSgIdeal.Gen.facts := fun m ρ _ =>
  (θ_run (Cert.AdamwReferenceSgIdeal.defs (F := Ideal)) _ _).mono (fun r h => ⟨fun c => (h c).2.2.2, sem_eq_zero_of_no_sems (by decide) r.2⟩) (Cert.AdamwReferenceSgIdeal.Value.run (F := Ideal) m ρ)

/-- Over the extended reals the step and the two new moments are those of the reference. -/
theorem ofSg_algebraic : @Cert.algebraic_AdamwSgIdeal_AdamwReferenceSgIdeal Cert.AdamwSgIdeal.Gen.facts Cert.AdamwReferenceSgIdeal.Gen.facts :=
  fun m ρ m' ρ' _ hin => by
    refine ⟨_, _, _, Cert.AdamwSgIdeal.Value.run (F := Ideal) m ρ, (θ_run (Cert.AdamwReferenceSgIdeal.defs (F := Ideal)) _ _).mono (fun r h c => ?_) (Cert.AdamwReferenceSgIdeal.Value.run (F := Ideal) m' ρ')⟩
    obtain ⟨h0, h1, h2, h3⟩ := hin c
    obtain ⟨r0, r1, r2, rest⟩ := h c
    rw [h0, h1, h2, h3] at r0
    rw [h1, h2] at r1
    rw [h1, h3] at r2
    exact ⟨r0.trans rfl, r1.trans rfl, r2.trans rfl, rest⟩

/-! ### w_branch -/

/-- The call leaves its arguments unchanged and every counter at zero. -/
theorem ofBranch_frame : @Cert.quiescent_AdamwBranch Cert.AdamwBranch.Gen.facts := fun m ρ _ => Cert.AdamwBranch.Gen.frame (F := Bits) m ρ

/-- So does its ideal program. -/
theorem ofBranch_frame_ideal : @Cert.quiescent_AdamwBranchIdeal Cert.AdamwBranchIdeal.Gen.facts := fun m ρ _ => Cert.AdamwBranchIdeal.Gen.frame (F := Ideal) m ρ

/-- So does the reference, which declares no semaphore. -/
theorem ofBranch_frame_reference : @Cert.quiescent_AdamwReferenceBranchIdeal Cert.AdamwReferenceBranchIdeal.Gen.facts := fun m ρ _ =>
  (θ_run (Cert.AdamwReferenceBranchIdeal.defs (F := Ideal)) _ _).mono (fun r h => ⟨fun c => (h c).2.2.2, sem_eq_zero_of_no_sems (by decide) r.2⟩) (Cert.AdamwReferenceBranchIdeal.Value.run (F := Ideal) m ρ)

/-- Over the extended reals the step and the two new moments are those of the reference. -/
theorem ofBranch_algebraic : @Cert.algebraic_AdamwBranchIdeal_AdamwReferenceBranchIdeal Cert.AdamwBranchIdeal.Gen.facts Cert.AdamwReferenceBranchIdeal.Gen.facts :=
  fun m ρ m' ρ' _ hin => by
    refine ⟨_, _, _, Cert.AdamwBranchIdeal.Value.run (F := Ideal) m ρ, (θ_run (Cert.AdamwReferenceBranchIdeal.defs (F := Ideal)) _ _).mono (fun r h c => ?_) (Cert.AdamwReferenceBranchIdeal.Value.run (F := Ideal) m' ρ')⟩
    obtain ⟨h0, h1, h2, h3⟩ := hin c
    obtain ⟨r0, r1, r2, rest⟩ := h c
    rw [h0, h1, h2, h3] at r0
    rw [h1, h2] at r1
    rw [h1, h3] at r2
    exact ⟨r0.trans rfl, r1.trans rfl, r2.trans rfl, rest⟩

/-! ### w_out -/

/-- The call leaves its arguments unchanged and every counter at zero. -/
theorem ofOut_frame : @Cert.quiescent_AdamwOut Cert.AdamwOut.Gen.facts := fun m ρ _ => Cert.AdamwOut.Gen.frame (F := Bits) m ρ

/-- So does its ideal program. -/
theorem ofOut_frame_ideal : @Cert.quiescent_AdamwOutIdeal Cert.AdamwOutIdeal.Gen.facts := fun m ρ _ => Cert.AdamwOutIdeal.Gen.frame (F := Ideal) m ρ

/-- So does the reference, which declares no semaphore. -/
theorem ofOut_frame_reference : @Cert.quiescent_AdamwReferenceOutIdeal Cert.AdamwReferenceOutIdeal.Gen.facts := fun m ρ _ =>
  (θ_run (Cert.AdamwReferenceOutIdeal.defs (F := Ideal)) _ _).mono (fun r h => ⟨fun c => (h c).2.2.2, sem_eq_zero_of_no_sems (by decide) r.2⟩) (Cert.AdamwReferenceOutIdeal.Value.run (F := Ideal) m ρ)

/-- Over the extended reals the step and the two new moments are those of the reference. -/
theorem ofOut_algebraic : @Cert.algebraic_AdamwOutIdeal_AdamwReferenceOutIdeal Cert.AdamwOutIdeal.Gen.facts Cert.AdamwReferenceOutIdeal.Gen.facts :=
  fun m ρ m' ρ' _ hin => by
    refine ⟨_, _, _, Cert.AdamwOutIdeal.Value.run (F := Ideal) m ρ, (θ_run (Cert.AdamwReferenceOutIdeal.defs (F := Ideal)) _ _).mono (fun r h c => ?_) (Cert.AdamwReferenceOutIdeal.Value.run (F := Ideal) m' ρ')⟩
    obtain ⟨h0, h1, h2, h3⟩ := hin c
    obtain ⟨r0, r1, r2, rest⟩ := h c
    rw [h0, h1, h2, h3] at r0
    rw [h1, h2] at r1
    rw [h1, h3] at r2
    exact ⟨r0.trans rfl, r1.trans rfl, r2.trans rfl, rest⟩

/-! ### w_ffn_gate and w_ffn_up -/

/-- The call leaves its arguments unchanged and every counter at zero. -/
theorem ofFfn_frame : @Cert.quiescent_AdamwFfn Cert.AdamwFfn.Gen.facts := fun m ρ _ => Cert.AdamwFfn.Gen.frame (F := Bits) m ρ

/-- So does its ideal program. -/
theorem ofFfn_frame_ideal : @Cert.quiescent_AdamwFfnIdeal Cert.AdamwFfnIdeal.Gen.facts := fun m ρ _ => Cert.AdamwFfnIdeal.Gen.frame (F := Ideal) m ρ

/-- So does the reference, which declares no semaphore. -/
theorem ofFfn_frame_reference : @Cert.quiescent_AdamwReferenceFfnIdeal Cert.AdamwReferenceFfnIdeal.Gen.facts := fun m ρ _ =>
  (θ_run (Cert.AdamwReferenceFfnIdeal.defs (F := Ideal)) _ _).mono (fun r h => ⟨fun c => (h c).2.2.2, sem_eq_zero_of_no_sems (by decide) r.2⟩) (Cert.AdamwReferenceFfnIdeal.Value.run (F := Ideal) m ρ)

/-- Over the extended reals the step and the two new moments are those of the reference. -/
theorem ofFfn_algebraic : @Cert.algebraic_AdamwFfnIdeal_AdamwReferenceFfnIdeal Cert.AdamwFfnIdeal.Gen.facts Cert.AdamwReferenceFfnIdeal.Gen.facts :=
  fun m ρ m' ρ' _ hin => by
    refine ⟨_, _, _, Cert.AdamwFfnIdeal.Value.run (F := Ideal) m ρ, (θ_run (Cert.AdamwReferenceFfnIdeal.defs (F := Ideal)) _ _).mono (fun r h c => ?_) (Cert.AdamwReferenceFfnIdeal.Value.run (F := Ideal) m' ρ')⟩
    obtain ⟨h0, h1, h2, h3⟩ := hin c
    obtain ⟨r0, r1, r2, rest⟩ := h c
    rw [h0, h1, h2, h3] at r0
    rw [h1, h2] at r1
    rw [h1, h3] at r2
    exact ⟨r0.trans rfl, r1.trans rfl, r2.trans rfl, rest⟩

/-! ### w_ffn_down -/

/-- The call leaves its arguments unchanged and every counter at zero. -/
theorem ofDown_frame : @Cert.quiescent_AdamwDown Cert.AdamwDown.Gen.facts := fun m ρ _ => Cert.AdamwDown.Gen.frame (F := Bits) m ρ

/-- So does its ideal program. -/
theorem ofDown_frame_ideal : @Cert.quiescent_AdamwDownIdeal Cert.AdamwDownIdeal.Gen.facts := fun m ρ _ => Cert.AdamwDownIdeal.Gen.frame (F := Ideal) m ρ

/-- So does the reference, which declares no semaphore. -/
theorem ofDown_frame_reference : @Cert.quiescent_AdamwReferenceDownIdeal Cert.AdamwReferenceDownIdeal.Gen.facts := fun m ρ _ =>
  (θ_run (Cert.AdamwReferenceDownIdeal.defs (F := Ideal)) _ _).mono (fun r h => ⟨fun c => (h c).2.2.2, sem_eq_zero_of_no_sems (by decide) r.2⟩) (Cert.AdamwReferenceDownIdeal.Value.run (F := Ideal) m ρ)

/-- Over the extended reals the step and the two new moments are those of the reference. -/
theorem ofDown_algebraic : @Cert.algebraic_AdamwDownIdeal_AdamwReferenceDownIdeal Cert.AdamwDownIdeal.Gen.facts Cert.AdamwReferenceDownIdeal.Gen.facts :=
  fun m ρ m' ρ' _ hin => by
    refine ⟨_, _, _, Cert.AdamwDownIdeal.Value.run (F := Ideal) m ρ, (θ_run (Cert.AdamwReferenceDownIdeal.defs (F := Ideal)) _ _).mono (fun r h c => ?_) (Cert.AdamwReferenceDownIdeal.Value.run (F := Ideal) m' ρ')⟩
    obtain ⟨h0, h1, h2, h3⟩ := hin c
    obtain ⟨r0, r1, r2, rest⟩ := h c
    rw [h0, h1, h2, h3] at r0
    rw [h1, h2] at r1
    rw [h1, h3] at r2
    exact ⟨r0.trans rfl, r1.trans rfl, r2.trans rfl, rest⟩

/-! ### the small weights, packed in rows -/

/-- The call leaves its arguments unchanged and every counter at zero. -/
theorem ofSmall_frame : @Cert.quiescent_AdamwSmall Cert.AdamwSmall.Gen.facts := fun m ρ _ => Cert.AdamwSmall.Gen.frame (F := Bits) m ρ

/-- So does its ideal program. -/
theorem ofSmall_frame_ideal : @Cert.quiescent_AdamwSmallIdeal Cert.AdamwSmallIdeal.Gen.facts := fun m ρ _ => Cert.AdamwSmallIdeal.Gen.frame (F := Ideal) m ρ

/-- So does the reference, which declares no semaphore. -/
theorem ofSmall_frame_reference : @Cert.quiescent_AdamwReferenceSmallIdeal Cert.AdamwReferenceSmallIdeal.Gen.facts := fun m ρ _ =>
  (θ_run (Cert.AdamwReferenceSmallIdeal.defs (F := Ideal)) _ _).mono (fun r h => ⟨fun c => (h c).2.2.2, sem_eq_zero_of_no_sems (by decide) r.2⟩) (Cert.AdamwReferenceSmallIdeal.Value.run (F := Ideal) m ρ)

/-- Over the extended reals the step and the two new moments are those of the reference. -/
theorem ofSmall_algebraic : @Cert.algebraic_AdamwSmallIdeal_AdamwReferenceSmallIdeal Cert.AdamwSmallIdeal.Gen.facts Cert.AdamwReferenceSmallIdeal.Gen.facts :=
  fun m ρ m' ρ' _ hin => by
    refine ⟨_, _, _, Cert.AdamwSmallIdeal.Value.run (F := Ideal) m ρ, (θ_run (Cert.AdamwReferenceSmallIdeal.defs (F := Ideal)) _ _).mono (fun r h c => ?_) (Cert.AdamwReferenceSmallIdeal.Value.run (F := Ideal) m' ρ')⟩
    obtain ⟨h0, h1, h2, h3⟩ := hin c
    obtain ⟨r0, r1, r2, rest⟩ := h c
    rw [h0, h1, h2, h3] at r0
    rw [h1, h2] at r1
    rw [h1, h3] at r2
    exact ⟨r0.trans rfl, r1.trans rfl, r2.trans rfl, rest⟩

end Cert.Updates

end
-- ==== Proof.Sums.lean ====
/- The sum of the gradients each device received: every block the call writes is the sum of the eight slots' blocks, and so the
   whole array is the sum over the first axis. -/
module

public import proofs.«01_k».proof.Defs
public import proofs.«01_k».proof.Proof.Gen.SumSharded.Frame
public import proofs.«01_k».proof.Proof.Gen.SumShardedIdeal.Value
public import proofs.«01_k».proof.Proof.Gen.SumReferenceShardedIdeal.Run
public import proofs.«01_k».proof.Proof.Gen.SumReplicated.Frame
public import proofs.«01_k».proof.Proof.Gen.SumReplicatedIdeal.Value
public import proofs.«01_k».proof.Proof.Gen.SumReferenceReplicatedIdeal.Run
public import Idealize.ShloMosaic.Adequacy
public import Idealize.ShloMosaic.Init
public import Idealize.ShloMosaic.Lib.Quiescent
public import Idealize.ShloMosaic.Lib.Pointwise.Reduce
public import Idealize.ShloMosaic.Lib.Pointwise.Tactic

@[expose] public section

noncomputable section

namespace Cert.Sums

open Idealize.ShloMosaic Idealize.ShloMosaic.TcCoe Idealize.SL.Sem

/-- The eight slots of a stack of matrices added entry by entry. -/
abbrev total {r l : Nat} (a : (⟨3, ![8, r, l]⟩ : Shape).Idx → EReal) : (⟨2, ![r, l]⟩ : Shape).Idx → EReal :=
  fun i => ∑ k : Fin 8, a (ix3 k (i 0) (i 1))

/-- A sum of eight terms, added from the first to the last. -/
theorem sum_eight (f : Fin 8 → EReal) : ∑ k, f k = f 0 + f 1 + f 2 + f 3 + f 4 + f 5 + f 6 + f 7 := Fin.sum_univ_eight f

/-- The host's sum over the first axis, started at zero, is that total. -/
theorem host_total {r l : Nat} (a : FVec Ideal ⟨3, ![8, r, l]⟩ .f32) (h : (⟨3, ![8, r, l]⟩ : Shape).ReducesTo [0] ⟨2, ![r, l]⟩)
    (hu : 0 < (⟨0, ![]⟩ : Shape).numel) : Host.reduceAdd a (constant ⟨0, ![]⟩ .f32 0x00000000#32) h hu = total a := by
  funext j
  rw [ValueIdx.hostReduceAdd_apply]
  show Ideal.ofBits .f32 0x00000000#32 + ∑ i ∈ Finset.univ.filter (fun i => h.drop i = j), a i = _
  rw [h.sum_fiber_r3_a0, Ideal.ofBits_zero_f32, zero_add]
  rfl

/-! ### The sharded rows -/

/-- The call leaves its argument unchanged and every counter at zero. -/
theorem sharded_frame : @Cert.quiescent_SumSharded Cert.SumSharded.Gen.facts := fun m ρ _ => Cert.SumSharded.Gen.frame (F := Bits) m ρ

/-- So does its ideal program. -/
theorem sharded_frame_ideal : @Cert.quiescent_SumShardedIdeal Cert.SumShardedIdeal.Gen.facts := fun m ρ _ => Cert.SumShardedIdeal.Gen.frame (F := Ideal) m ρ

/-- So does the reference, which declares no semaphore. -/
theorem sharded_frame_reference : @Cert.quiescent_SumReferenceShardedIdeal Cert.SumReferenceShardedIdeal.Gen.facts := fun m ρ _ =>
  (θ_run (Cert.SumReferenceShardedIdeal.defs (F := Ideal)) _ _).mono (fun r h => ⟨fun c => (h c).2, sem_eq_zero_of_no_sems (by decide) r.2⟩) (Cert.SumReferenceShardedIdeal.Value.run (F := Ideal) m ρ)

namespace Sharded

open Cert.SumShardedIdeal Cert.SumShardedIdeal.Gen Cert.SumShardedIdeal.Value

variable (m : (ℓ : Loc nD τ sig) → Buf (Elt Ideal) ℓ)

/-- Where the two windows' blocks lie at a grid point: all eight slots of one run of rows, and that run of rows. -/
theorem places : ∀ t : Fin cfg0.N, win0_0.index t (0 : Fin 3) = 0 ∧ win0_0.index t (1 : Fin 3) = win0_1.index t (0 : Fin 2)
    ∧ win0_0.index t (2 : Fin 3) = 0 ∧ win0_1.index t (1 : Fin 2) = 0 :=
  (by decide +kernel : ∀ t : Fin grid0.N, _)

/-- The grid points take the runs of rows in order. -/
theorem order : ∀ t : Fin cfg0.N, win0_1.index t = ![t.val, 0] :=
  (by decide +kernel : ∀ t : Fin grid0.N, win0_1.index t = ![t.val, 0])

/-- There is a grid point for every run of rows. -/
theorem points : cfg0.N = 2305 := (by decide +kernel : grid0.N = 2305)

/-- What a grid point writes is its run of rows of the total. -/
theorem written (c : Dev nD) (t : Fin cfg0.N) :
    (dats m 0 c).flushed 1 t = ((cfg0.win 1).blk t).view.read (Elt Ideal) (total (m ((c : Thread nD τ).loc main_arg0))) := by
  rw [flushed1]
  funext y
  obtain ⟨p0, p1, p2, p3⟩ := places t
  show out0_1 (iblk m c 0 t) y = total (m ((c : Thread nD τ).loc main_arg0)) (((cfg0.win 1).blk t).view.emb y)
  unfold out0_1
  rw [canon1_eq]
  have hy0 : (y 0).val < 16 := (y 0).isLt
  have hy1 : (y 1).val < 128 := (y 1).isLt
  have part : ∀ (k : Fin 8) (z : S8x16x128.Idx), (z 0).val = k.val → (z 1).val = (y 0).val → (z 2).val = (y 1).val →
      iblk m c 0 t z = m ((c : Thread nD τ).loc main_arg0) (ix3 k (((cfg0.win 1).blk t).view.emb y 0) (((cfg0.win 1).blk t).view.emb y 1)) := by
    intro k z z0 z1 z2
    show m ((c : Thread nD τ).loc main_arg0) (((cfg0.win 0).blk t).view.emb z) = _
    refine congrArg _ (funext fun a => Fin.ext ?_)
    match a with
    | ⟨0, _⟩ => show win0_0.index t (0 : Fin 3) * 8 + 1 * (z 0).val = k.val; omega
    | ⟨1, _⟩ => show win0_0.index t (1 : Fin 3) * 16 + 1 * (z 1).val = win0_1.index t (0 : Fin 2) * 16 + 1 * (y 0).val; omega
    | ⟨2, _⟩ => show win0_0.index t (2 : Fin 3) * 128 + 1 * (z 2).val = win0_1.index t (1 : Fin 2) * 128 + 1 * (y 1).val; omega
  rw [total, sum_eight]
  have e0 : View.ld (iblk m c 0 t) r0_0 (ix1_0 y) = _ := part 0 (r0_0.idx (ix1_0 y)) (show 0 + 1 * 0 = 0 by omega) (show 0 + 1 * (y 0).val = (y 0).val by omega) (show 0 + 1 * (y 1).val = (y 1).val by omega)
  have e1 : View.ld (iblk m c 0 t) r0_1 (ix1_1 y) = _ := part 1 (r0_1.idx (ix1_1 y)) (show 1 + 1 * 0 = 1 by omega) (show 0 + 1 * (y 0).val = (y 0).val by omega) (show 0 + 1 * (y 1).val = (y 1).val by omega)
  have e2 : View.ld (iblk m c 0 t) r0_2 (ix1_2 y) = _ := part 2 (r0_2.idx (ix1_2 y)) (show 2 + 1 * 0 = 2 by omega) (show 0 + 1 * (y 0).val = (y 0).val by omega) (show 0 + 1 * (y 1).val = (y 1).val by omega)
  have e3 : View.ld (iblk m c 0 t) r0_3 (ix1_3 y) = _ := part 3 (r0_3.idx (ix1_3 y)) (show 3 + 1 * 0 = 3 by omega) (show 0 + 1 * (y 0).val = (y 0).val by omega) (show 0 + 1 * (y 1).val = (y 1).val by omega)
  have e4 : View.ld (iblk m c 0 t) r0_4 (ix1_4 y) = _ := part 4 (r0_4.idx (ix1_4 y)) (show 4 + 1 * 0 = 4 by omega) (show 0 + 1 * (y 0).val = (y 0).val by omega) (show 0 + 1 * (y 1).val = (y 1).val by omega)
  have e5 : View.ld (iblk m c 0 t) r0_5 (ix1_5 y) = _ := part 5 (r0_5.idx (ix1_5 y)) (show 5 + 1 * 0 = 5 by omega) (show 0 + 1 * (y 0).val = (y 0).val by omega) (show 0 + 1 * (y 1).val = (y 1).val by omega)
  have e6 : View.ld (iblk m c 0 t) r0_6 (ix1_6 y) = _ := part 6 (r0_6.idx (ix1_6 y)) (show 6 + 1 * 0 = 6 by omega) (show 0 + 1 * (y 0).val = (y 0).val by omega) (show 0 + 1 * (y 1).val = (y 1).val by omega)
  have e7 : View.ld (iblk m c 0 t) r0_7 (ix1_7 y) = _ := part 7 (r0_7.idx (ix1_7 y)) (show 7 + 1 * 0 = 7 by omega) (show 0 + 1 * (y 0).val = (y 0).val by omega) (show 0 + 1 * (y 1).val = (y 1).val by omega)
  rw [← e0, ← e1, ← e2, ← e3, ← e4, ← e5, ← e6, ← e7]
  rfl

/-- An entry lies in a grid point's block when its row is in that run of rows. -/
theorem mem_rows (t : Fin cfg0.N) (i : S36880x128.Idx) :
    i ∈ ((cfg0.win 1).blk t).view.set ↔ ∀ a : Fin 2, win0_1.index t a * S16x128.size a ≤ (i a).val ∧ (i a).val < win0_1.index t a * S16x128.size a + S16x128.size a := by
  show i ∈ ((View.whole main_v0).slice (win0_1.rect t)).set ↔ _
  rw [View.set_slice_whole, Rect.mem_set_unit]
  exact Iff.rfl

/-- After the last grid point the result array is the total. -/
theorem result (c : Dev nD) : (dats m 0 c).arrAt 1 cfg0.N = total (m ((c : Thread nD τ).loc main_arg0)) := by
  refine (dats m 0 c).arrAt_eq_of_cover 1 _ (fun t _ => written m c t) fun i => ?_
  have h0 : (i 0).val < 36880 := (i 0).isLt
  have h1 : (i 1).val < 128 := (i 1).isLt
  let t : Fin cfg0.N := ⟨(i 0).val / 16, by rw [points]; omega⟩
  have ht := order t
  have q0 : win0_1.index t (0 : Fin 2) = (i 0).val / 16 := congrFun ht 0
  have q1 : win0_1.index t (1 : Fin 2) = 0 := congrFun ht 1
  refine ⟨t, flush0_1 t, (mem_rows t i).2 fun a => ?_⟩
  match a with
  | ⟨0, _⟩ => show win0_1.index t (0 : Fin 2) * 16 ≤ (i 0).val ∧ (i 0).val < win0_1.index t (0 : Fin 2) * 16 + 16; omega
  | ⟨1, _⟩ => show win0_1.index t (1 : Fin 2) * 128 ≤ (i 1).val ∧ (i 1).val < win0_1.index t (1 : Fin 2) * 128 + 128; omega

end Sharded

/-- Over the extended reals the call's result is the reference's sum over the devices. -/
theorem sharded_algebraic : @Cert.algebraic_SumShardedIdeal_SumReferenceShardedIdeal Cert.SumShardedIdeal.Gen.facts Cert.SumReferenceShardedIdeal.Gen.facts :=
  fun m ρ m' ρ' _ hin =>
    ⟨fun c => total (m ((c : Thread Cert.SumShardedIdeal.nD Cert.SumShardedIdeal.τ).loc Cert.SumShardedIdeal.main_arg0)),
      (θ_run (Cert.SumShardedIdeal.defs (F := Ideal)) _ _).mono (fun r h c => ⟨(h c).1.trans (Sharded.result m c), (h c).2⟩) (Cert.SumShardedIdeal.Value.run_blocks (F := Ideal) m ρ),
      (θ_run (Cert.SumReferenceShardedIdeal.defs (F := Ideal)) _ _).mono (fun r h c => by
        obtain ⟨r0, rest⟩ := h c
        rw [hin c] at r0
        exact ⟨r0.trans (host_total _ _ _), rest⟩) (Cert.SumReferenceShardedIdeal.Value.run (F := Ideal) m' ρ')⟩

/-! ### The replicated rows -/

/-- The call leaves its argument unchanged and every counter at zero. -/
theorem replicated_frame : @Cert.quiescent_SumReplicated Cert.SumReplicated.Gen.facts := fun m ρ _ => Cert.SumReplicated.Gen.frame (F := Bits) m ρ

/-- So does its ideal program. -/
theorem replicated_frame_ideal : @Cert.quiescent_SumReplicatedIdeal Cert.SumReplicatedIdeal.Gen.facts := fun m ρ _ => Cert.SumReplicatedIdeal.Gen.frame (F := Ideal) m ρ

/-- So does the reference, which declares no semaphore. -/
theorem replicated_frame_reference : @Cert.quiescent_SumReferenceReplicatedIdeal Cert.SumReferenceReplicatedIdeal.Gen.facts := fun m ρ _ =>
  (θ_run (Cert.SumReferenceReplicatedIdeal.defs (F := Ideal)) _ _).mono (fun r h => ⟨fun c => (h c).2, sem_eq_zero_of_no_sems (by decide) r.2⟩) (Cert.SumReferenceReplicatedIdeal.Value.run (F := Ideal) m ρ)

namespace Replicated

open Cert.SumReplicatedIdeal Cert.SumReplicatedIdeal.Gen Cert.SumReplicatedIdeal.Value

variable (m : (ℓ : Loc nD τ sig) → Buf (Elt Ideal) ℓ)

/-- Where the two windows' blocks lie at a grid point: all eight slots of one run of rows, and that run of rows. -/
theorem places : ∀ t : Fin cfg0.N, win0_0.index t (0 : Fin 3) = 0 ∧ win0_0.index t (1 : Fin 3) = win0_1.index t (0 : Fin 2)
    ∧ win0_0.index t (2 : Fin 3) = 0 ∧ win0_1.index t (1 : Fin 2) = 0 :=
  (by decide +kernel : ∀ t : Fin grid0.N, _)

/-- The grid points take the runs of rows in order. -/
theorem order : ∀ t : Fin cfg0.N, win0_1.index t = ![t.val, 0] :=
  (by decide +kernel : ∀ t : Fin grid0.N, win0_1.index t = ![t.val, 0])

/-- There is a grid point for every run of rows. -/
theorem points : cfg0.N = 69 := (by decide +kernel : grid0.N = 69)

/-- What a grid point writes is its run of rows of the total. -/
theorem written (c : Dev nD) (t : Fin cfg0.N) :
    (dats m 0 c).flushed 1 t = ((cfg0.win 1).blk t).view.read (Elt Ideal) (total (m ((c : Thread nD τ).loc main_arg0))) := by
  rw [flushed1]
  funext y
  obtain ⟨p0, p1, p2, p3⟩ := places t
  show out0_1 (iblk m c 0 t) y = total (m ((c : Thread nD τ).loc main_arg0)) (((cfg0.win 1).blk t).view.emb y)
  unfold out0_1
  rw [canon1_eq]
  have hy0 : (y 0).val < 32 := (y 0).isLt
  have hy1 : (y 1).val < 128 := (y 1).isLt
  have part : ∀ (k : Fin 8) (z : S8x32x128.Idx), (z 0).val = k.val → (z 1).val = (y 0).val → (z 2).val = (y 1).val →
      iblk m c 0 t z = m ((c : Thread nD τ).loc main_arg0) (ix3 k (((cfg0.win 1).blk t).view.emb y 0) (((cfg0.win 1).blk t).view.emb y 1)) := by
    intro k z z0 z1 z2
    show m ((c : Thread nD τ).loc main_arg0) (((cfg0.win 0).blk t).view.emb z) = _
    refine congrArg _ (funext fun a => Fin.ext ?_)
    match a with
    | ⟨0, _⟩ => show win0_0.index t (0 : Fin 3) * 8 + 1 * (z 0).val = k.val; omega
    | ⟨1, _⟩ => show win0_0.index t (1 : Fin 3) * 32 + 1 * (z 1).val = win0_1.index t (0 : Fin 2) * 32 + 1 * (y 0).val; omega
    | ⟨2, _⟩ => show win0_0.index t (2 : Fin 3) * 128 + 1 * (z 2).val = win0_1.index t (1 : Fin 2) * 128 + 1 * (y 1).val; omega
  rw [total, sum_eight]
  have e0 : View.ld (iblk m c 0 t) r0_0 (ix1_0 y) = _ := part 0 (r0_0.idx (ix1_0 y)) (show 0 + 1 * 0 = 0 by omega) (show 0 + 1 * (y 0).val = (y 0).val by omega) (show 0 + 1 * (y 1).val = (y 1).val by omega)
  have e1 : View.ld (iblk m c 0 t) r0_1 (ix1_1 y) = _ := part 1 (r0_1.idx (ix1_1 y)) (show 1 + 1 * 0 = 1 by omega) (show 0 + 1 * (y 0).val = (y 0).val by omega) (show 0 + 1 * (y 1).val = (y 1).val by omega)
  have e2 : View.ld (iblk m c 0 t) r0_2 (ix1_2 y) = _ := part 2 (r0_2.idx (ix1_2 y)) (show 2 + 1 * 0 = 2 by omega) (show 0 + 1 * (y 0).val = (y 0).val by omega) (show 0 + 1 * (y 1).val = (y 1).val by omega)
  have e3 : View.ld (iblk m c 0 t) r0_3 (ix1_3 y) = _ := part 3 (r0_3.idx (ix1_3 y)) (show 3 + 1 * 0 = 3 by omega) (show 0 + 1 * (y 0).val = (y 0).val by omega) (show 0 + 1 * (y 1).val = (y 1).val by omega)
  have e4 : View.ld (iblk m c 0 t) r0_4 (ix1_4 y) = _ := part 4 (r0_4.idx (ix1_4 y)) (show 4 + 1 * 0 = 4 by omega) (show 0 + 1 * (y 0).val = (y 0).val by omega) (show 0 + 1 * (y 1).val = (y 1).val by omega)
  have e5 : View.ld (iblk m c 0 t) r0_5 (ix1_5 y) = _ := part 5 (r0_5.idx (ix1_5 y)) (show 5 + 1 * 0 = 5 by omega) (show 0 + 1 * (y 0).val = (y 0).val by omega) (show 0 + 1 * (y 1).val = (y 1).val by omega)
  have e6 : View.ld (iblk m c 0 t) r0_6 (ix1_6 y) = _ := part 6 (r0_6.idx (ix1_6 y)) (show 6 + 1 * 0 = 6 by omega) (show 0 + 1 * (y 0).val = (y 0).val by omega) (show 0 + 1 * (y 1).val = (y 1).val by omega)
  have e7 : View.ld (iblk m c 0 t) r0_7 (ix1_7 y) = _ := part 7 (r0_7.idx (ix1_7 y)) (show 7 + 1 * 0 = 7 by omega) (show 0 + 1 * (y 0).val = (y 0).val by omega) (show 0 + 1 * (y 1).val = (y 1).val by omega)
  rw [← e0, ← e1, ← e2, ← e3, ← e4, ← e5, ← e6, ← e7]
  rfl

/-- An entry lies in a grid point's block when its row is in that run of rows. -/
theorem mem_rows (t : Fin cfg0.N) (i : S2208x128.Idx) :
    i ∈ ((cfg0.win 1).blk t).view.set ↔ ∀ a : Fin 2, win0_1.index t a * S32x128.size a ≤ (i a).val ∧ (i a).val < win0_1.index t a * S32x128.size a + S32x128.size a := by
  show i ∈ ((View.whole main_v0).slice (win0_1.rect t)).set ↔ _
  rw [View.set_slice_whole, Rect.mem_set_unit]
  exact Iff.rfl

/-- After the last grid point the result array is the total. -/
theorem result (c : Dev nD) : (dats m 0 c).arrAt 1 cfg0.N = total (m ((c : Thread nD τ).loc main_arg0)) := by
  refine (dats m 0 c).arrAt_eq_of_cover 1 _ (fun t _ => written m c t) fun i => ?_
  have h0 : (i 0).val < 2208 := (i 0).isLt
  have h1 : (i 1).val < 128 := (i 1).isLt
  let t : Fin cfg0.N := ⟨(i 0).val / 32, by rw [points]; omega⟩
  have ht := order t
  have q0 : win0_1.index t (0 : Fin 2) = (i 0).val / 32 := congrFun ht 0
  have q1 : win0_1.index t (1 : Fin 2) = 0 := congrFun ht 1
  refine ⟨t, flush0_1 t, (mem_rows t i).2 fun a => ?_⟩
  match a with
  | ⟨0, _⟩ => show win0_1.index t (0 : Fin 2) * 32 ≤ (i 0).val ∧ (i 0).val < win0_1.index t (0 : Fin 2) * 32 + 32; omega
  | ⟨1, _⟩ => show win0_1.index t (1 : Fin 2) * 128 ≤ (i 1).val ∧ (i 1).val < win0_1.index t (1 : Fin 2) * 128 + 128; omega

end Replicated

/-- Over the extended reals the call's result is the reference's sum over the devices. -/
theorem replicated_algebraic : @Cert.algebraic_SumReplicatedIdeal_SumReferenceReplicatedIdeal Cert.SumReplicatedIdeal.Gen.facts Cert.SumReferenceReplicatedIdeal.Gen.facts :=
  fun m ρ m' ρ' _ hin =>
    ⟨fun c => total (m ((c : Thread Cert.SumReplicatedIdeal.nD Cert.SumReplicatedIdeal.τ).loc Cert.SumReplicatedIdeal.main_arg0)),
      (θ_run (Cert.SumReplicatedIdeal.defs (F := Ideal)) _ _).mono (fun r h c => ⟨(h c).1.trans (Replicated.result m c), (h c).2⟩) (Cert.SumReplicatedIdeal.Value.run_blocks (F := Ideal) m ρ),
      (θ_run (Cert.SumReferenceReplicatedIdeal.defs (F := Ideal)) _ _).mono (fun r h c => by
        obtain ⟨r0, rest⟩ := h c
        rw [hin c] at r0
        exact ⟨r0.trans (host_total _ _ _), rest⟩) (Cert.SumReferenceReplicatedIdeal.Value.run (F := Ideal) m' ρ')⟩

end Cert.Sums

end
-- ==== Proof.Norm.lean ====
/- The scaled root-mean-square normalization of one row of 1024 entries over the extended reals, its pullback, and a few laws of
   the extended reals that the calls around it need. -/
module

public import Idealize.ShloMosaic.Lib.Pointwise.Reduce
public import Idealize.ShloMosaic.Lib.Pointwise.Tactic
public import Idealize.ShloMosaic.Lib.Pointwise

@[expose] public section

noncomputable section

namespace Cert.Norm

open Idealize.ShloMosaic

/-- A matrix of extended reals. -/
abbrev Mat (n l : Nat) : Type := (⟨2, ![n, l]⟩ : Shape).Idx → EReal

/-- A row of a matrix. -/
abbrev row {n l : Nat} (a : Mat n l) (r : Fin n) (k : Fin l) : EReal := a (ix2 r k)

/-- The length of a row, as the programs spell it. -/
abbrev width : EReal := Ideal.ofBits .f32 0x44800000#32

/-- The row's mean square, kept away from zero. -/
def spread (u : Fin 1024 → EReal) : EReal := Ideal.div (∑ k, u k * u k) width + Ideal.ofBits .f32 0x358637BD#32

/-- The factor a row is divided by, inverted. -/
def root (u : Fin 1024 → EReal) : EReal := Ideal.rsqrt (spread u)

/-- What the row's own mean square passes back, for a pull `v` on the normalized row. -/
def slope (u g v : Fin 1024 → EReal) : EReal :=
  Ideal.div ((∑ k, u k * (v k * g k)) * (Ideal.ofBits .f32 0xBF000000#32 * Ideal.div (root u) (spread u))) width

/-- The pullback of the normalization along `v`, to the row. -/
def back (u g v : Fin 1024 → EReal) (k : Fin 1024) : EReal := v k * g k * root u + u k * slope u g v + slope u g v * u k

/-- The pullback of the normalization along `v`, to the scale: one row's part. -/
def gain (u v : Fin 1024 → EReal) (k : Fin 1024) : EReal := u k * root u * v k

/-- The row normalized and scaled. -/
def normed (u g : Fin 1024 → EReal) (k : Fin 1024) : EReal := u k * root u * g k

/-- The logistic function. -/
def sigmoid (a : EReal) : EReal := Ideal.div 1 (1 + Ideal.exp (-a))

/-- A sum over one place is the term there. -/
theorem sum_one (f : Fin 1 → EReal) : ∑ k, f k = f 0 := Fin.sum_univ_one f

/-- An index of a matrix of one row is on that row. -/
theorem one_row {l : Nat} (j : (⟨2, ![1, l]⟩ : Shape).Idx) : j = ix2 (0 : Fin 1) (j 1) := by
  funext a
  match a with
  | ⟨0, _⟩ => exact Subsingleton.elim (α := Fin 1) _ _
  | ⟨1, _⟩ => rfl

/-- One half, as the programs spell it. -/
theorem half_eq : Ideal.ofBits .f32 0x3F000000#32 = (((1 : ℝ) / 2 : ℝ) : EReal) := by
  simp [Ideal.ofBits, Ideal.ieee]
  rw [← EReal.coe_mul]
  exact congrArg _ (by norm_num)

/-- Two, as the programs spell it. -/
theorem two_eq : Ideal.ofBits .f32 0x40000000#32 = 1 + 1 := by
  have e : Ideal.ofBits .f32 0x40000000#32 = ((2 : ℝ) : EReal) := by
    simp [Ideal.ofBits, Ideal.ieee]
    rw [← EReal.coe_mul]
    exact congrArg _ (by norm_num)
  rw [e]
  exact (congrArg _ (by norm_num : (2 : ℝ) = 1 + 1)).trans (EReal.coe_add 1 1)

/-- A nonnegative real factor goes into a sum. -/
theorem real_mul_sum {ι : Type} (s : Finset ι) (f : ι → EReal) {a : EReal} (h : 0 ≤ a) (h' : a ≠ ⊤) : a * ∑ i ∈ s, f i = ∑ i ∈ s, a * f i := by
  classical
  induction s using Finset.induction_on with
  | empty => simp
  | insert i s hi ih => rw [Finset.sum_insert hi, Finset.sum_insert hi, EReal.left_distrib_of_nonneg_of_ne_top h h', ih]

/-- Half of a sum is the sum of the halves. -/
theorem half_sum {ι : Type} (s : Finset ι) (f : ι → EReal) :
    Ideal.ofBits .f32 0x3F000000#32 * ∑ i ∈ s, f i = ∑ i ∈ s, Ideal.ofBits .f32 0x3F000000#32 * f i := by
  refine real_mul_sum s f ?_ ?_
  · rw [half_eq]; exact_mod_cast (by norm_num : (0 : ℝ) ≤ 1 / 2)
  · rw [half_eq]; exact EReal.coe_ne_top _

/-- A product added to itself in either order is the product with twice the factor. -/
theorem twice (a b : EReal) : a * b + b * a = b * (Ideal.ofBits .f32 0x40000000#32 * a) := by
  have e : (1 + 1 : EReal) * a = a + a := by
    rw [EReal.right_distrib_of_nonneg zero_le_one zero_le_one, one_mul]
  have e' : (1 + 1 : EReal) * (b * a) = b * a + b * a := by
    rw [EReal.right_distrib_of_nonneg zero_le_one zero_le_one, one_mul]
  rw [two_eq, mul_comm a b, ← e', mul_left_comm]

end Cert.Norm
-- ==== Proof.Loss.lean ====
/- The loss head on one device: each grid point handles one run of 512 rows, the loss and the scale's gradient are added up over
   the points, and the whole is what the reference computes over all rows at once. -/
module

public import proofs.«01_k».proof.Defs
public import proofs.«01_k».proof.Proof.Gen.Loss.Frame
public import proofs.«01_k».proof.Proof.Gen.LossIdeal.Value
public import proofs.«01_k».proof.Proof.Gen.LossReferenceIdeal.Run
public import proofs.«01_k».proof.Proof.Norm
public import Idealize.ShloMosaic.Adequacy
public import Idealize.ShloMosaic.Init
public import Idealize.ShloMosaic.Lib.Quiescent
public import Idealize.ShloMosaic.Lib.Pipeline.ValueKit

@[expose] public section

noncomputable section

namespace Cert.LossHead

open Idealize.ShloMosaic Idealize.ShloMosaic.TcCoe Idealize.SL.Sem
open Cert.Norm (Mat row)

/-- The call leaves its arguments unchanged and every counter at zero. -/
theorem frame : @Cert.quiescent_Loss Cert.Loss.Gen.facts := fun m ρ _ => Cert.Loss.Gen.frame (F := Bits) m ρ

/-- So does its ideal program. -/
theorem frame_ideal : @Cert.quiescent_LossIdeal Cert.LossIdeal.Gen.facts := fun m ρ _ => Cert.LossIdeal.Gen.frame (F := Ideal) m ρ

/-- So does the reference, which declares no semaphore. -/
theorem frame_reference : @Cert.quiescent_LossReferenceIdeal Cert.LossReferenceIdeal.Gen.facts := fun m ρ _ =>
  (θ_run (Cert.LossReferenceIdeal.defs (F := Ideal)) _ _).mono (fun r h => ⟨fun c => (h c).2.2.2, sem_eq_zero_of_no_sems (by decide) r.2⟩) (Cert.LossReferenceIdeal.Value.run (F := Ideal) m ρ)

/-- A normalized row less its target. -/
def miss (u g y : Fin 1024 → EReal) (k : Fin 1024) : EReal := u k * Norm.root u * g k - y k

/-- A row's mean squared error. -/
def rowLoss (u g y : Fin 1024 → EReal) : EReal := Ideal.div (∑ k, miss u g y k * miss u g y k) Norm.width

/-- The loss's pull on a normalized row. -/
def pull (u g y : Fin 1024 → EReal) (k : Fin 1024) : EReal :=
  Ideal.div (Ideal.ofBits .f32 0x3F000000#32) Norm.width * (Ideal.ofBits .f32 0x40000000#32 * miss u g y k)

section Points

open Cert.LossIdeal Cert.LossIdeal.Gen Cert.LossIdeal.Value

variable (x : Vec Ideal S512x1024 .f32) (g : Vec Ideal S1x1024 .f32) (y : Vec Ideal S512x1024 .f32)
  (l : Vec Ideal S8x128 .f32) (d : Vec Ideal S1x1024 .f32)

/-- The tile's entries after a grid point: what was there, and half of every row's mean squared error. -/
theorem tile_entry (j : S8x128.Idx) : k0_pay4 (k0_pay11 x g y) l j
    = l j + ∑ p : Fin 512, Ideal.ofBits .f32 0x3F000000#32 * rowLoss (row x p) (row g 0) (row y p) := by
  rw [← Norm.half_sum]
  pointwise [k0_pay4, k0_pay11, k0_pay10, k0_pay9, k0_pay7, k0_pay6]
  simp only [Norm.sum_one]
  rfl

/-- The rows' gradient at a grid point, entry by entry. -/
theorem rows_entry (p : Fin 512) (q : Fin 1024) : k0_pay1 x g (k0_pay7 x) (k0_pay8 x) (k0_pay12 x g y) (ix2 p q)
    = Norm.back (row x p) (row g 0) (pull (row x p) (row g 0) (row y p)) q := by
  pointwise [k0_pay1, k0_pay12, k0_pay11, k0_pay10, k0_pay9, k0_pay8, k0_pay7, k0_pay6]
  simp only [Norm.sum_one, Norm.twice]
  rfl

/-- The scale's gradient after a grid point: what was there, and every row's part. -/
theorem scale_entry (j : S1x1024.Idx) : k0_pay5 (k0_pay13 x g y) d j
    = d j + ∑ p : Fin 512, Norm.gain (row x p) (pull (row x p) (row g 0) (row y p)) (j 1) := by
  pointwise [k0_pay5, k0_pay13, k0_pay12, k0_pay11, k0_pay10, k0_pay9, k0_pay7, k0_pay6]
  simp only [Norm.sum_one, Norm.twice]
  rfl

end Points

/-- Half of the mean squared errors of all rows, at every entry of a tile. -/
def lossTile (x : Mat 8192 1024) (g : Mat 1 1024) (y : Mat 8192 1024) : Mat 8 128 :=
  fun _ => ∑ r : Fin 8192, Ideal.ofBits .f32 0x3F000000#32 * rowLoss (row x r) (row g 0) (row y r)

/-- The gradient of every row. -/
def rowsBack (x : Mat 8192 1024) (g : Mat 1 1024) (y : Mat 8192 1024) : Mat 8192 1024 :=
  fun i => Norm.back (row x (i 0)) (row g 0) (pull (row x (i 0)) (row g 0) (row y (i 0))) (i 1)

/-- The scale's gradient: the rows' parts together. -/
def scaleBack (x : Mat 8192 1024) (g : Mat 1 1024) (y : Mat 8192 1024) : Mat 1 1024 :=
  fun i => ∑ r : Fin 8192, Norm.gain (row x r) (pull (row x r) (row g 0) (row y r)) (i 1)

section Arrays
open Cert.LossIdeal Cert.LossIdeal.Gen Cert.LossIdeal.Value

variable (m : (ℓ : Loc nD τ sig) → Buf (Elt Ideal) ℓ) (c : Dev nD)

/-- Where the blocks of the rows, of the scale and of the targets lie at a grid point. -/
theorem places (t : Fin cfg0.N) : win0_0.index t = ![t.val, 0] ∧ win0_1.index t = ![0, 0] ∧ win0_2.index t = ![t.val, 0] ∧ win0_4.index t = ![t.val, 0] :=
  (by decide +kernel : ∀ t : Fin grid0.N, win0_0.index t = ![t.val, 0] ∧ win0_1.index t = ![0, 0] ∧ win0_2.index t = ![t.val, 0] ∧ win0_4.index t = ![t.val, 0]) t

/-- A row of a grid point's block of rows is that row of the array. -/
theorem block_rows (t : Fin cfg0.N) (p : Fin 512) (h : t.val * 512 + p.val < 8192) :
    row (iblk m c 0 t) p = row (m ((c : Thread nD τ).loc main_arg0)) ⟨t.val * 512 + p.val, h⟩ := by
  obtain ⟨p0, p1, p2, p3⟩ := places t
  funext k
  show iblk m c 0 t (ix2 p k) = m ((c : Thread nD τ).loc main_arg0) (ix2 _ k)
  blk_ext [iblk, V, p0]

/-- The scale's block is the scale. -/
theorem block_scale (t : Fin cfg0.N) : row (iblk m c 1 t) 0 = row (m ((c : Thread nD τ).loc main_arg1)) 0 := by
  obtain ⟨p0, p1, p2, p3⟩ := places t
  funext k
  show iblk m c 1 t (ix2 0 k) = m ((c : Thread nD τ).loc main_arg1) (ix2 0 k)
  blk_ext [iblk, V, p1]

/-- A row of a grid point's block of targets is that row of the array. -/
theorem block_targets (t : Fin cfg0.N) (p : Fin 512) (h : t.val * 512 + p.val < 8192) :
    row (iblk m c 2 t) p = row (m ((c : Thread nD τ).loc main_arg2)) ⟨t.val * 512 + p.val, h⟩ := by
  obtain ⟨p0, p1, p2, p3⟩ := places t
  funext k
  show iblk m c 2 t (ix2 p k) = m ((c : Thread nD τ).loc main_arg2) (ix2 _ k)
  blk_ext [iblk, V, p2]

/-- The zero tile the call starts the loss from. -/
theorem tile_zero (j : S8x128.Idx) : k0_pay2 (F := Ideal) j = 0 := Ideal.ofBits_zero_f32

/-- The zeros the call starts the scale's gradient from. -/
theorem scale_zero (j : S1x1024.Idx) : k0_pay3 (F := Ideal) j = 0 := Ideal.ofBits_zero_f32

/-- The loss tile after the call. -/
theorem tile_result : (dats m 0 c).arrAt 3 cfg0.N
    = lossTile (m ((c : Thread nD τ).loc main_arg0)) (m ((c : Thread nD τ).loc main_arg1)) (m ((c : Thread nD τ).loc main_arg2)) := by
  refine (dats m 0 c).arrAt_eq_of_after_last 3 t0_15 (by decide +kernel) _ fun j => ?_
  blk_simp
  rw [after0_3, Pipeline.eq_sum_fin_of_reset_step_apply_last (fun n h => (outsAt0 m c n h).1) 16 (fun _ => 0) _
    (fun t h j => by rw [outsAt0_A m c t h]; frame_out; rw [tile_entry, tile_zero])
    (fun t h j => by rw [outsAt0_B m c t h]; frame_out; rw [tile_entry]) (le_of_eq N_0) t0_15 rfl _, zero_add]
  unfold lossTile
  refine Fin.sum_mul_add_congr (S := 16) fun t p h => ?_
  rw [block_rows m c t p h, block_targets m c t p h, block_scale m c t]

/-- The scale's gradient after the call. -/
theorem scale_result : (dats m 0 c).arrAt 5 cfg0.N
    = scaleBack (m ((c : Thread nD τ).loc main_arg0)) (m ((c : Thread nD τ).loc main_arg1)) (m ((c : Thread nD τ).loc main_arg2)) := by
  refine (dats m 0 c).arrAt_eq_of_after_last 5 t0_15 (by decide +kernel) _ fun j => ?_
  blk_simp
  rw [after0_5, Pipeline.eq_sum_fin_of_reset_step_apply_last (fun n h => (outsAt0 m c n h).2.2) 16 (fun _ => 0) _
    (fun t h j => by rw [outsAt0_A m c t h]; frame_out; rw [scale_entry, scale_zero])
    (fun t h j => by rw [outsAt0_B m c t h]; frame_out; rw [scale_entry]) (le_of_eq N_0) t0_15 rfl _, zero_add]
  unfold scaleBack
  refine Fin.sum_mul_add_congr (S := 16) fun t p h => ?_
  rw [block_rows m c t p h, block_targets m c t p h, block_scale m c t]

/-- What a grid point leaves of the rows' gradient. -/
theorem rows_point (t : Fin cfg0.N) (p : Fin 512) (q : Fin 1024) : (outsAt0 m c t.val t.isLt).2.1 (ix2 p q)
    = Norm.back (row (iblk m c 0 t) p) (row (iblk m c 1 t) 0) (pull (row (iblk m c 0 t) p) (row (iblk m c 1 t) 0) (row (iblk m c 2 t) p)) q := by
  by_cases h : t.val % 16 = 0
  · rw [outsAt0_A m c t h, ← rows_entry]
    frame_out
  · rw [outsAt0_B m c t h, ← rows_entry]
    frame_out

/-- The rows' gradient after the call. -/
theorem rows_result : (dats m 0 c).arrAt 4 cfg0.N
    = rowsBack (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨p0, p1, p2, p3⟩ := places t
  blk_simp
  rw [after0_4]
  obtain ⟨p, q, rfl⟩ : ∃ (p : Fin 512) (q : Fin 1024), y = ix2 p q := ⟨y 0, y 1, eq_ix2 y⟩
  have hp := p.isLt
  have ht : t.val < 16 := t.isLt.trans_eq N_0
  have h : t.val * 512 + p.val < 8192 := by omega
  have e : (win0_4.blk t).view.emb (ix2 p q) = ix2 (⟨t.val * 512 + p.val, h⟩ : Fin 8192) q := by
    blk_ext [p3]
  rw [e, rows_point, block_rows m c t p h, block_targets m c t p h, block_scale m c t]
  rfl

end Arrays

section Reference
open Cert.LossReferenceIdeal Cert.LossReferenceIdeal.Value

variable (m : (ℓ : Loc nD τ sig) → Buf (Elt Ideal) ℓ) (c : Dev nD)

/-- The reference's gradient of the rows, at an entry. -/
theorem reference_rows (p : Fin 8192) (q : Fin 1024) : res_main_v51 m c (ix2 p q)
    = rowsBack (m ((c : Thread nD τ).loc main_arg0)) (m ((c : Thread nD τ).loc main_arg1)) (m ((c : Thread nD τ).loc main_arg2)) (ix2 p q) := by
  unfold res_main_v51
  pointwise []
  simp only [Norm.sum_one]
  rfl

end Reference

set_option maxHeartbeats 2000000 in
/-- Over the extended reals the call's loss and gradients are the reference's. -/
theorem algebraic : @Cert.algebraic_LossIdeal_LossReferenceIdeal Cert.LossIdeal.Gen.facts Cert.LossReferenceIdeal.Gen.facts :=
  fun m ρ m' ρ' _ hin =>
    ⟨fun c => lossTile (m ((c : Thread Cert.LossIdeal.nD Cert.LossIdeal.τ).loc Cert.LossIdeal.main_arg0)) (m ((c : Thread Cert.LossIdeal.nD Cert.LossIdeal.τ).loc Cert.LossIdeal.main_arg1)) (m ((c : Thread Cert.LossIdeal.nD Cert.LossIdeal.τ).loc Cert.LossIdeal.main_arg2)),
      fun c => rowsBack (m ((c : Thread Cert.LossIdeal.nD Cert.LossIdeal.τ).loc Cert.LossIdeal.main_arg0)) (m ((c : Thread Cert.LossIdeal.nD Cert.LossIdeal.τ).loc Cert.LossIdeal.main_arg1)) (m ((c : Thread Cert.LossIdeal.nD Cert.LossIdeal.τ).loc Cert.LossIdeal.main_arg2)),
      fun c => scaleBack (m ((c : Thread Cert.LossIdeal.nD Cert.LossIdeal.τ).loc Cert.LossIdeal.main_arg0)) (m ((c : Thread Cert.LossIdeal.nD Cert.LossIdeal.τ).loc Cert.LossIdeal.main_arg1)) (m ((c : Thread Cert.LossIdeal.nD Cert.LossIdeal.τ).loc Cert.LossIdeal.main_arg2)),
      (θ_run (Cert.LossIdeal.defs (F := Ideal)) _ _).mono (fun r h c =>
        ⟨(h c).1.trans (tile_result m c), (h c).2.1.trans (rows_result m c), (h c).2.2.1.trans (scale_result m c), (h c).2.2.2⟩) (Cert.LossIdeal.Value.run_blocks (F := Ideal) m ρ),
      (θ_run (Cert.LossReferenceIdeal.defs (F := Ideal)) _ _).mono (fun r h c => by
        obtain ⟨r0, r1, r2, rest⟩ := h c
        obtain ⟨e0, e1, e2⟩ := hin c
        refine ⟨r0.trans ?_, r1.trans ?_, r2.trans ?_, rest⟩ <;> beta_reduce <;> rw [← e0, ← e1, ← e2] <;> funext j
        · rw [eq_ix2 j]
          pointwise []
          unfold lossTile
          rw [← Norm.half_sum]
          refine congrArg _ (Finset.sum_congr rfl fun r _ => ?_)
          rfl
        · rw [eq_ix2 j]
          exact reference_rows m' c _ _
        · obtain ⟨q, rfl⟩ : ∃ q : Fin 1024, j = ix2 (0 : Fin 1) q := ⟨j 1, Norm.one_row j⟩
          pointwise []
          simp only [Norm.sum_one]
          exact Finset.sum_congr rfl fun r _ => rfl) (Cert.LossReferenceIdeal.Value.run (F := Ideal) m' ρ')⟩

end Cert.LossHead
-- ==== Proof.Input.lean ====
/- The backward pass of the input projection on one device: the product with the transposed weight is added up over seven runs of
   1024 columns, the normalization's pullback is taken at the last of them, and the whole is what the reference computes. -/
module

public import proofs.«01_k».proof.Defs
public import proofs.«01_k».proof.Proof.Gen.Input.Frame
public import proofs.«01_k».proof.Proof.Gen.InputIdeal.Value
public import proofs.«01_k».proof.Proof.Gen.InputReferenceIdeal.Run
public import proofs.«01_k».proof.Proof.Norm
public import Idealize.ShloMosaic.Adequacy
public import Idealize.ShloMosaic.Init
public import Idealize.ShloMosaic.Lib.Quiescent
public import Idealize.ShloMosaic.Lib.Pipeline.ValueKit

@[expose] public section

noncomputable section

namespace Cert.InputBackward

open Idealize.ShloMosaic Idealize.ShloMosaic.TcCoe Idealize.SL.Sem
open Cert.Norm (Mat row)

/-- The call leaves its arguments unchanged and every counter at zero. -/
theorem frame : @Cert.quiescent_Input Cert.Input.Gen.facts := fun m ρ _ => Cert.Input.Gen.frame (F := Bits) m ρ

/-- So does its ideal program. -/
theorem frame_ideal : @Cert.quiescent_InputIdeal Cert.InputIdeal.Gen.facts := fun m ρ _ => Cert.InputIdeal.Gen.frame (F := Ideal) m ρ

/-- So does the reference, which declares no semaphore. -/
theorem frame_reference : @Cert.quiescent_InputReferenceIdeal Cert.InputReferenceIdeal.Gen.facts := fun m ρ _ =>
  (θ_run (Cert.InputReferenceIdeal.defs (F := Ideal)) _ _).mono (fun r h => ⟨fun c => (h c).2.2, sem_eq_zero_of_no_sems (by decide) r.2⟩) (Cert.InputReferenceIdeal.Value.run (F := Ideal) m ρ)

/-- The pull on a normalized row: that row of the product of `p` with the transpose of `w`. -/
def pull (p : Mat 8192 7168) (w : Mat 1024 7168) (r : Fin 8192) (k : Fin 1024) : EReal := ∑ l : Fin 7168, p (ix2 r l) * w (ix2 k l)

/-- The gradient of every row, on top of what reaches it past the normalization. -/
def rowsBack (p : Mat 8192 7168) (w : Mat 1024 7168) (x : Mat 8192 1024) (g : Mat 1 1024) (a : Mat 8192 1024) : Mat 8192 1024 :=
  fun i => a (ix2 (i 0) (i 1)) + Norm.back (row x (i 0)) (row g 0) (pull p w (i 0)) (i 1)

/-- The scale's gradient: the rows' parts together. -/
def scaleBack (p : Mat 8192 7168) (w : Mat 1024 7168) (x : Mat 8192 1024) : Mat 1 1024 :=
  fun i => ∑ r : Fin 8192, Norm.gain (row x r) (pull p w r) (i 1)

section Points

open Cert.InputIdeal Cert.InputIdeal.Gen Cert.InputIdeal.Value

variable (p : Vec Ideal S512x1024 .bf16) (w : Vec Ideal S1024x1024 .bf16) (x : Vec Ideal S512x1024 .f32) (g : Vec Ideal S1x1024 .f32)
  (a : Vec Ideal S512x1024 .f32) (s : Vec Ideal S512x1024 .f32) (d : Vec Ideal S1x1024 .f32)

/-- The product's entries after a grid point: what was there, and one run of columns. -/
theorem product_entry (j : S512x1024.Idx) : k0_pay3 s p w j = s j + ∑ l : Fin 1024, p (ix2 (j 0) l) * w (ix2 (j 1) l) := by
  rw [eq_ix2 j]
  pointwise [k0_pay3]

/-- The rows' gradient at a last grid point, entry by entry. -/
theorem rows_entry (q : Fin 512) (k : Fin 1024) : k0_pay8 x g s a (ix2 q k)
    = a (ix2 q k) + Norm.back (row x q) (row g 0) (row s q) k := by
  pointwise [k0_pay8, k0_pay6, k0_pay5]
  simp only [Norm.sum_one]
  rfl

/-- The scale's gradient after a last grid point: what was there, and every row's part. -/
theorem scale_entry (j : S1x1024.Idx) : k0_pay4 (k0_pay7 x s) d j
    = d j + ∑ q : Fin 512, Norm.gain (row x q) (row s q) (j 1) := by
  pointwise [k0_pay4, k0_pay7, k0_pay6, k0_pay5]
  rfl

end Points

section Arrays
open Cert.InputIdeal Cert.InputIdeal.Gen Cert.InputIdeal.Value

variable (m : (ℓ : Loc nD τ sig) → Buf (Elt Ideal) ℓ) (c : Dev nD)

/-- Where the blocks lie at a grid point. -/
theorem places (t : Fin cfg0.N) : win0_0.index t = ![t.val / 7, t.val % 7] ∧ win0_1.index t = ![0, t.val % 7] ∧ win0_2.index t = ![t.val / 7, 0]
    ∧ win0_3.index t = ![0, 0] ∧ win0_4.index t = ![t.val / 7, 0] ∧ win0_5.index t = ![t.val / 7, 0] :=
  (by decide +kernel : ∀ t : Fin grid0.N, win0_0.index t = ![t.val / 7, t.val % 7] ∧ win0_1.index t = ![0, t.val % 7] ∧ win0_2.index t = ![t.val / 7, 0]
    ∧ win0_3.index t = ![0, 0] ∧ win0_4.index t = ![t.val / 7, 0] ∧ win0_5.index t = ![t.val / 7, 0]) t

/-- An entry of a grid point's block of `p`. -/
theorem block_p (t : Fin cfg0.N) (q : Fin 512) (l : Fin 1024) (h : t.val / 7 * 512 + q.val < 8192) (h' : t.val % 7 * 1024 + l.val < 7168) :
    row (iblk m c 0 t) q l = m ((c : Thread nD τ).loc main_arg0) (ix2 ⟨t.val / 7 * 512 + q.val, h⟩ ⟨t.val % 7 * 1024 + l.val, h'⟩) := by
  obtain ⟨p0, p1, p2, p3, p4, p5⟩ := places t
  show iblk m c 0 t (ix2 q l) = _
  blk_ext [iblk, V, p0]

/-- An entry of a grid point's block of `w`. -/
theorem block_w (t : Fin cfg0.N) (k : Fin 1024) (l : Fin 1024) (h' : t.val % 7 * 1024 + l.val < 7168) :
    row (iblk m c 1 t) k l = m ((c : Thread nD τ).loc main_arg1) (ix2 k ⟨t.val % 7 * 1024 + l.val, h'⟩) := by
  obtain ⟨p0, p1, p2, p3, p4, p5⟩ := places t
  show iblk m c 1 t (ix2 k l) = _
  blk_ext [iblk, V, p1]

/-- A row of a grid point's block of rows. -/
theorem block_x (t : Fin cfg0.N) (q : Fin 512) (h : t.val / 7 * 512 + q.val < 8192) :
    row (iblk m c 2 t) q = row (m ((c : Thread nD τ).loc main_arg2)) ⟨t.val / 7 * 512 + q.val, h⟩ := by
  obtain ⟨p0, p1, p2, p3, p4, p5⟩ := places t
  funext k
  show iblk m c 2 t (ix2 q k) = m ((c : Thread nD τ).loc main_arg2) (ix2 _ k)
  blk_ext [iblk, V, p2]

/-- The scale's block is the scale. -/
theorem block_g (t : Fin cfg0.N) : row (iblk m c 3 t) 0 = row (m ((c : Thread nD τ).loc main_arg3)) 0 := by
  obtain ⟨p0, p1, p2, p3, p4, p5⟩ := places t
  funext k
  show iblk m c 3 t (ix2 0 k) = m ((c : Thread nD τ).loc main_arg3) (ix2 0 k)
  blk_ext [iblk, V, p3]

/-- An entry of a grid point's block of what reaches the rows past the normalization. -/
theorem block_a (t : Fin cfg0.N) (q : Fin 512) (k : Fin 1024) (h : t.val / 7 * 512 + q.val < 8192) :
    row (iblk m c 4 t) q k = m ((c : Thread nD τ).loc main_arg4) (ix2 ⟨t.val / 7 * 512 + q.val, h⟩ k) := by
  obtain ⟨p0, p1, p2, p3, p4, p5⟩ := places t
  show iblk m c 4 t (ix2 q k) = _
  blk_ext [iblk, V, p4]

/-- The zeros the call starts a product from. -/
theorem product_zero (j : S512x1024.Idx) : k0_pay1 (F := Ideal) j = 0 := by
  pointwise [k0_pay1]

/-- The zeros the call starts the scale's gradient from. -/
theorem scale_zero (j : S1x1024.Idx) : k0_pay2 (F := Ideal) j = 0 := Ideal.ofBits_zero_f32

/-- What the call holds of the product after the last of seven grid points: the rows of the whole product. -/
theorem product_last (t : Fin cfg0.N) (ht : t.val % 7 = 6) (q : Fin 512) (h : t.val / 7 * 512 + q.val < 8192) :
    row (outsAt0 m c t.val t.isLt).2.2 q = pull (m ((c : Thread nD τ).loc main_arg0)) (m ((c : Thread nD τ).loc main_arg1)) ⟨t.val / 7 * 512 + q.val, h⟩ := by
  funext k
  show (outsAt0 m c t.val t.isLt).2.2 (ix2 q k) = _
  rw [Pipeline.eq_sum_fin_of_reset_step_apply_of_flush (fun n h => (outsAt0 m c n h).2.2) 7 (fun _ => 0)
    (fun t j => ∑ l : Fin 1024, row (iblk m c 0 t) (j 0) l * row (iblk m c 1 t) (j 1) l)
    (fun t h j => by
      by_cases h1 : t.val % 112 = 0
      · rw [outsAt0_A m c t h h1 (by omega)]; frame_out; rw [product_entry, product_zero]
      · rw [outsAt0_D m c t h h1 (by omega)]; frame_out; rw [product_entry, product_zero])
    (fun t h j => by
      by_cases h1 : t.val % 7 = 6
      · rw [outsAt0_C m c t h (by omega) h1]; frame_out; rw [product_entry, (Memref.isWhole_whole _).read_unread]
      · rw [outsAt0_B m c t h (by omega) h1]; frame_out; rw [product_entry, (Memref.isWhole_whole _).read_unread]) t ht _, zero_add]
  unfold pull
  refine Fin.sum_mul_add_congr (S := 7) fun s l hl => ?_
  have et : (7 * (t.val / 7) + s.val) / 7 = t.val / 7 := by omega
  have es : (7 * (t.val / 7) + s.val) % 7 = s.val := by omega
  have step : ∀ u : Fin cfg0.N, u.val / 7 = t.val / 7 → u.val % 7 = s.val → row (iblk m c 0 u) q l * row (iblk m c 1 u) k l
      = row (m ((c : Thread nD τ).loc main_arg0)) ⟨t.val / 7 * 512 + q.val, h⟩ ⟨s.val * 1024 + l.val, hl⟩
        * row (m ((c : Thread nD τ).loc main_arg1)) k ⟨s.val * 1024 + l.val, hl⟩ := by
    intro u hu hs
    rw [block_p m c u q l (by omega) (by omega), block_w m c u k l (by omega)]
    simp only [hu, hs]
  exact step _ et es

/-- What a last grid point leaves of the rows' gradient. -/
theorem rows_point (t : Fin cfg0.N) (ht : t.val % 7 = 6) (q : Fin 512) (k : Fin 1024) : (outsAt0 m c t.val t.isLt).1 (ix2 q k)
    = row (iblk m c 4 t) q k + Norm.back (row (iblk m c 2 t) q) (row (iblk m c 3 t) 0) (row (outsAt0 m c t.val t.isLt).2.2 q) k := by
  rw [← rows_entry, outsAt0_C m c t (by omega) (by omega) ht]
  frame_out

/-- What a last grid point leaves of the scale's gradient. -/
theorem scale_point (t : Fin cfg0.N) (ht : t.val % 7 = 6) (j : S1x1024.Idx) : (outsAt0 m c t.val t.isLt).2.1 j
    = (outsAt0 m c (t.val - 1) (Nat.lt_of_le_of_lt (Nat.sub_le _ _) t.isLt)).2.1 j + ∑ q : Fin 512, Norm.gain (row (iblk m c 2 t) q) (row (outsAt0 m c t.val t.isLt).2.2 q) (j 1) := by
  rw [← scale_entry, outsAt0_C m c t (by omega) (by omega) ht]
  frame_out

/-- The rows' gradient after the call. -/
theorem rows_result : (dats m 0 c).arrAt 5 cfg0.N
    = rowsBack (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  obtain ⟨p0, p1, p2, p3, p4, p5⟩ := places t
  have h6 := (flush0_5 t).mp hf
  blk_simp
  rw [after0_5]
  obtain ⟨q, k, rfl⟩ : ∃ (q : Fin 512) (k : Fin 1024), y = ix2 q k := ⟨y 0, y 1, eq_ix2 y⟩
  have hq := q.isLt
  have ht : t.val < 112 := t.isLt.trans_eq N_0
  have h : t.val / 7 * 512 + q.val < 8192 := by omega
  have e : (win0_5.blk t).view.emb (ix2 q k) = ix2 (⟨t.val / 7 * 512 + q.val, h⟩ : Fin 8192) k := by
    blk_ext [p5]
  rw [e, rows_point m c t h6, block_a m c t q k h, block_x m c t q h, block_g m c t, product_last m c t h6 q h]
  rfl

/-- The last grid point. -/
def last : Fin cfg0.N := ⟨111, by rw [show cfg0.N = 112 from N_0]; decide⟩

/-- The part of the scale's gradient a grid point adds: the rows' at a last point, nothing at the others. -/
def added (t : Fin cfg0.N) (j : S1x1024.Idx) : EReal :=
  if t.val % 7 = 6 then ∑ q : Fin 512, Norm.gain (row (iblk m c 2 t) q) (row (outsAt0 m c t.val t.isLt).2.2 q) (j 1) else 0

/-- What the last of seven grid points adds, from the arrays. -/
theorem added_last (t : Fin cfg0.N) (ht : t.val % 7 = 6) (i : Fin 16) (hi : t.val / 7 = i.val) (j : S1x1024.Idx) : added m c t j
    = ∑ q : Fin 512, Norm.gain (row (m ((c : Thread nD τ).loc main_arg2)) ⟨i.val * 512 + q.val, by omega⟩)
        (pull (m ((c : Thread nD τ).loc main_arg0)) (m ((c : Thread nD τ).loc main_arg1)) ⟨i.val * 512 + q.val, by omega⟩) (j 1) := by
  unfold added
  rw [if_pos ht]
  refine Finset.sum_congr rfl fun q _ => ?_
  have h : t.val / 7 * 512 + q.val < 8192 := by omega
  rw [block_x m c t q h, product_last m c t ht q h]
  simp only [hi]

/-- What seven grid points add. -/
theorem added_run (i : Fin 16) (j : S1x1024.Idx) (hN : ∀ s : Fin 7, i.val * 7 + s.val < cfg0.N) : ∑ s : Fin 7, added m c ⟨i.val * 7 + s.val, hN s⟩ j
    = ∑ q : Fin 512, Norm.gain (row (m ((c : Thread nD τ).loc main_arg2)) ⟨i.val * 512 + q.val, by omega⟩)
        (pull (m ((c : Thread nD τ).loc main_arg0)) (m ((c : Thread nD τ).loc main_arg1)) ⟨i.val * 512 + q.val, by omega⟩) (j 1) := by
  have none : ∀ s : Fin 7, s.val ≠ 6 → added m c ⟨i.val * 7 + s.val, hN s⟩ j = 0 := by
    intro s hs
    exact if_neg fun (e : (i.val * 7 + s.val) % 7 = 6) => hs (by omega)
  rw [Fin.sum_univ_seven, none 0 (by decide), none 1 (by decide), none 2 (by decide), none 3 (by decide), none 4 (by decide), none 5 (by decide)]
  simp only [zero_add]
  exact added_last m c ⟨i.val * 7 + 6, hN 6⟩ (show (i.val * 7 + 6) % 7 = 6 by omega) i (show (i.val * 7 + 6) / 7 = i.val by omega) j

/-- What all grid points add. -/
theorem added_all (j : S1x1024.Idx) : ∑ t : Fin cfg0.N, added m c t j
    = scaleBack (m ((c : Thread nD τ).loc main_arg0)) (m ((c : Thread nD τ).loc main_arg1)) (m ((c : Thread nD τ).loc main_arg2)) j := by
  have hN : cfg0.N = 16 * 7 := N_0
  rw [← Fin.sum_mul_add_fin 16 7 (fun t => added m c t j) hN]
  refine (Finset.sum_congr rfl fun i _ => added_run m c i j fun s => by omega).trans ?_
  exact Fin.sum_mul_add_fin 16 512 (fun r : Fin 8192 => Norm.gain (row (m ((c : Thread nD τ).loc main_arg2)) r)
    (pull (m ((c : Thread nD τ).loc main_arg0)) (m ((c : Thread nD τ).loc main_arg1)) r) (j 1))

/-- The scale's gradient after every grid point. -/
theorem scale_all (j : S1x1024.Idx) : (outsAt0 m c (last).val (last).isLt).2.1 j = ∑ t : Fin cfg0.N, added m c t j := by
  rw [Pipeline.eq_sum_fin_of_reset_step_apply_last (fun n h => (outsAt0 m c n h).2.1) 112 (fun _ => 0) (added m c)
    (fun t h j => by
      unfold added
      rw [if_neg (by omega), outsAt0_A m c t (by omega) h (by omega)]; frame_out; rw [scale_zero]; exact (add_zero _).symm)
    (fun t h j => by
      unfold added
      by_cases h1 : t.val % 7 = 6
      · rw [if_pos h1]; exact scale_point m c t h1 j
      · rw [if_neg h1]
        by_cases h2 : t.val % 7 = 0
        · rw [outsAt0_D m c t h2 h h1]; exact (add_zero _).symm
        · rw [outsAt0_B m c t h2 h h1]; exact (add_zero _).symm) (le_of_eq N_0) last rfl j, zero_add]

/-- The scale's gradient after the call. -/
theorem scale_result : (dats m 0 c).arrAt 6 cfg0.N
    = scaleBack (m ((c : Thread nD τ).loc main_arg0)) (m ((c : Thread nD τ).loc main_arg1)) (m ((c : Thread nD τ).loc main_arg2)) := by
  refine (dats m 0 c).arrAt_eq_of_after_last 6 last (by decide +kernel) _ fun j => ?_
  blk_simp
  rw [after0_6, scale_all, added_all]

end Arrays

section Reference
open Cert.InputReferenceIdeal Cert.InputReferenceIdeal.Value

variable (m : (ℓ : Loc nD τ sig) → Buf (Elt Ideal) ℓ) (c : Dev nD)

/-- The reference's gradient of the rows, at an entry. -/
theorem reference_rows (r : Fin 8192) (k : Fin 1024) : res_main_v41 m c (ix2 r k)
    = rowsBack (m ((c : Thread nD τ).loc main_arg0)) (m ((c : Thread nD τ).loc main_arg1)) (m ((c : Thread nD τ).loc main_arg2))
        (m ((c : Thread nD τ).loc main_arg3)) (m ((c : Thread nD τ).loc main_arg4)) (ix2 r k) := by
  unfold res_main_v41
  pointwise []
  simp only [Norm.sum_one]
  rfl

end Reference

set_option maxHeartbeats 2000000 in
/-- Over the extended reals the call's gradients are the reference's. -/
theorem algebraic : @Cert.algebraic_InputIdeal_InputReferenceIdeal Cert.InputIdeal.Gen.facts Cert.InputReferenceIdeal.Gen.facts :=
  fun m ρ m' ρ' _ hin =>
    ⟨fun c => rowsBack (m ((c : Thread Cert.InputIdeal.nD Cert.InputIdeal.τ).loc Cert.InputIdeal.main_arg0)) (m ((c : Thread Cert.InputIdeal.nD Cert.InputIdeal.τ).loc Cert.InputIdeal.main_arg1)) (m ((c : Thread Cert.InputIdeal.nD Cert.InputIdeal.τ).loc Cert.InputIdeal.main_arg2)) (m ((c : Thread Cert.InputIdeal.nD Cert.InputIdeal.τ).loc Cert.InputIdeal.main_arg3)) (m ((c : Thread Cert.InputIdeal.nD Cert.InputIdeal.τ).loc Cert.InputIdeal.main_arg4)),
      fun c => scaleBack (m ((c : Thread Cert.InputIdeal.nD Cert.InputIdeal.τ).loc Cert.InputIdeal.main_arg0)) (m ((c : Thread Cert.InputIdeal.nD Cert.InputIdeal.τ).loc Cert.InputIdeal.main_arg1)) (m ((c : Thread Cert.InputIdeal.nD Cert.InputIdeal.τ).loc Cert.InputIdeal.main_arg2)),
      (θ_run (Cert.InputIdeal.defs (F := Ideal)) _ _).mono (fun r h c =>
        ⟨(h c).1.trans (rows_result m c), (h c).2.1.trans (scale_result m c), (h c).2.2⟩) (Cert.InputIdeal.Value.run_blocks (F := Ideal) m ρ),
      (θ_run (Cert.InputReferenceIdeal.defs (F := Ideal)) _ _).mono (fun r h c => by
        obtain ⟨r0, r1, rest⟩ := h c
        obtain ⟨e0, e1, e2, e3, e4⟩ := hin c
        refine ⟨r0.trans ?_, r1.trans ?_, rest⟩
        · beta_reduce
          rw [← e0, ← e1, ← e2, ← e3, ← e4]
          funext j
          rw [eq_ix2 j]
          exact reference_rows m' c _ _
        · beta_reduce
          rw [← e0, ← e1, ← e2]
          funext j
          obtain ⟨k, rfl⟩ : ∃ k : Fin 1024, j = ix2 (0 : Fin 1) k := ⟨j 1, Norm.one_row j⟩
          pointwise []
          simp only [Norm.sum_one]
          exact Finset.sum_congr rfl fun r _ => rfl) (Cert.InputReferenceIdeal.Value.run (F := Ideal) m' ρ')⟩

end Cert.InputBackward
-- ==== Proof.Weights.lean ====
/- The gradients of five weights on one device: each is the transpose of what the weight was applied to by the gradient of what
   came out, added up over sixteen runs of 512 rows, and so it is the reference's product over all rows. -/
module

public import proofs.«01_k».proof.Defs
public import proofs.«01_k».proof.Proof.Gen.WeightIn.Frame
public import proofs.«01_k».proof.Proof.Gen.WeightInIdeal.Value
public import proofs.«01_k».proof.Proof.Gen.WeightInReferenceIdeal.Run
public import proofs.«01_k».proof.Proof.Gen.WeightGate.Frame
public import proofs.«01_k».proof.Proof.Gen.WeightGateIdeal.Value
public import proofs.«01_k».proof.Proof.Gen.WeightGateReferenceIdeal.Run
public import proofs.«01_k».proof.Proof.Gen.WeightDown.Frame
public import proofs.«01_k».proof.Proof.Gen.WeightDownIdeal.Value
public import proofs.«01_k».proof.Proof.Gen.WeightDownReferenceIdeal.Run
public import proofs.«01_k».proof.Proof.Gen.WeightOut.Frame
public import proofs.«01_k».proof.Proof.Gen.WeightOutIdeal.Value
public import proofs.«01_k».proof.Proof.Gen.WeightOutReferenceIdeal.Run
public import proofs.«01_k».proof.Proof.Gen.WeightBranch.Frame
public import proofs.«01_k».proof.Proof.Gen.WeightBranchIdeal.Value
public import proofs.«01_k».proof.Proof.Gen.WeightBranchReferenceIdeal.Run
public import proofs.«01_k».proof.Proof.Norm
public import Idealize.ShloMosaic.Adequacy
public import Idealize.ShloMosaic.Init
public import Idealize.ShloMosaic.Lib.Quiescent
public import Idealize.ShloMosaic.Lib.Pipeline.ValueKit

@[expose] public section

noncomputable section

namespace Cert.Weights

open Idealize.ShloMosaic Idealize.ShloMosaic.TcCoe Idealize.SL.Sem
open Cert.Norm (Mat row)

/-- The product of the transpose of `a` with `g`. -/
def product {n k l : Nat} (a : Mat n k) (g : Mat n l) : Mat k l := fun i => ∑ r : Fin n, a (ix2 r (i 0)) * g (ix2 r (i 1))

/-! ### The weight of the input projection -/

namespace In

/-- The call leaves its arguments unchanged and every counter at zero. -/
theorem frame : @Cert.quiescent_WeightIn Cert.WeightIn.Gen.facts := fun m ρ _ => Cert.WeightIn.Gen.frame (F := Bits) m ρ

/-- So does its ideal program. -/
theorem frame_ideal : @Cert.quiescent_WeightInIdeal Cert.WeightInIdeal.Gen.facts := fun m ρ _ => Cert.WeightInIdeal.Gen.frame (F := Ideal) m ρ

/-- So does the reference, which declares no semaphore. -/
theorem frame_reference : @Cert.quiescent_WeightInReferenceIdeal Cert.WeightInReferenceIdeal.Gen.facts := fun m ρ _ =>
  (θ_run (Cert.WeightInReferenceIdeal.defs (F := Ideal)) _ _).mono (fun r h => ⟨fun c => (h c).2, sem_eq_zero_of_no_sems (by decide) r.2⟩) (Cert.WeightInReferenceIdeal.Value.run (F := Ideal) m ρ)

section Arrays
open Cert.WeightInIdeal Cert.WeightInIdeal.Gen Cert.WeightInIdeal.Value

/-- A block's entries after a grid point: what was there, and one run of rows. -/
theorem entry (a : Vec Ideal S512x1024 .bf16) (g : Vec Ideal S512x512 .bf16) (s : Vec Ideal S1024x512 .f32) (j : S1024x512.Idx) :
    k0_pay2 s a g j = s j + ∑ q : Fin 512, row a q (j 0) * row g q (j 1) := by
  rw [eq_ix2 j]
  pointwise [k0_pay2]

/-- The zeros the call starts a block from. -/
theorem zero (j : S1024x512.Idx) : k0_pay1 (F := Ideal) j = 0 := by
  pointwise [k0_pay1]

variable (m : (ℓ : Loc nD τ sig) → Buf (Elt Ideal) ℓ) (c : Dev nD)

/-- Where the blocks lie at a grid point. -/
theorem places (t : Fin cfg0.N) : win0_0.index t = ![t.val % 16, t.val / 16 / 14] ∧ win0_1.index t = ![t.val % 16, t.val / 16 % 14] ∧ win0_2.index t = ![t.val / 16 / 14, t.val / 16 % 14] :=
  (by decide +kernel : ∀ t : Fin grid0.N, win0_0.index t = ![t.val % 16, t.val / 16 / 14] ∧ win0_1.index t = ![t.val % 16, t.val / 16 % 14] ∧ win0_2.index t = ![t.val / 16 / 14, t.val / 16 % 14]) t

/-- The number of grid points. -/
theorem points (t : Fin cfg0.N) : t.val < 224 := t.isLt.trans_eq N_0

/-- An entry of a grid point's block of the left operand. -/
theorem block_a (t : Fin cfg0.N) (q : Fin 512) (l : Fin 1024) (h : t.val % 16 * 512 + q.val < 8192) (h' : t.val / 16 / 14 * 1024 + l.val < 1024) :
    row (iblk m c 0 t) q l = row (m ((c : Thread nD τ).loc main_arg0)) ⟨t.val % 16 * 512 + q.val, h⟩ ⟨t.val / 16 / 14 * 1024 + l.val, h'⟩ := by
  obtain ⟨p0, p1, p2⟩ := places t
  show iblk m c 0 t (ix2 q l) = m ((c : Thread nD τ).loc main_arg0) (ix2 _ _)
  blk_ext [iblk, V, p0]

/-- An entry of a grid point's block of the right operand. -/
theorem block_g (t : Fin cfg0.N) (q : Fin 512) (l : Fin 512) (h : t.val % 16 * 512 + q.val < 8192) (h' : t.val / 16 % 14 * 512 + l.val < 7168) :
    row (iblk m c 1 t) q l = row (m ((c : Thread nD τ).loc main_arg1)) ⟨t.val % 16 * 512 + q.val, h⟩ ⟨t.val / 16 % 14 * 512 + l.val, h'⟩ := by
  obtain ⟨p0, p1, p2⟩ := places t
  show iblk m c 1 t (ix2 q l) = m ((c : Thread nD τ).loc main_arg1) (ix2 _ _)
  blk_ext [iblk, V, p1]

/-- What the last of sixteen grid points leaves in a block: the sums over all rows. -/
theorem block_last (t : Fin cfg0.N) (ht : t.val % 16 = 15) (p : Fin 1024) (k : Fin 512) (h : t.val / 16 / 14 * 1024 + p.val < 1024)
    (h' : t.val / 16 % 14 * 512 + k.val < 7168) : outsAt0 m c t.val t.isLt (ix2 p k)
    = ∑ r : Fin 8192, row (m ((c : Thread nD τ).loc main_arg0)) r ⟨t.val / 16 / 14 * 1024 + p.val, h⟩ * row (m ((c : Thread nD τ).loc main_arg1)) r ⟨t.val / 16 % 14 * 512 + k.val, h'⟩ := by
  rw [Pipeline.eq_sum_fin_of_reset_step_apply_of_flush (fun n h => (outsAt0 m c n h : S1024x512.Idx → EReal)) 16 (fun _ => 0)
    (fun t j => ∑ q : Fin 512, row (iblk m c 0 t) q (j 0) * row (iblk m c 1 t) q (j 1))
    (fun t h j => by rw [outsAt0_A m c t h, out_A_2_eq, entry, zero])
    (fun t h j => by rw [outsAt0_B m c t h, out_B_2_eq, entry]) t ht _, zero_add]
  refine Fin.sum_mul_add_congr (S := 16) fun s q hq => ?_
  have et : (16 * (t.val / 16) + s.val) / 16 = t.val / 16 := by omega
  have es : (16 * (t.val / 16) + s.val) % 16 = s.val := by omega
  have step : ∀ u : Fin cfg0.N, u.val / 16 = t.val / 16 → u.val % 16 = s.val → row (iblk m c 0 u) q p * row (iblk m c 1 u) q k
      = row (m ((c : Thread nD τ).loc main_arg0)) ⟨s.val * 512 + q.val, hq⟩ ⟨t.val / 16 / 14 * 1024 + p.val, h⟩
        * row (m ((c : Thread nD τ).loc main_arg1)) ⟨s.val * 512 + q.val, hq⟩ ⟨t.val / 16 % 14 * 512 + k.val, h'⟩ := by
    intro u hu hs
    rw [block_a m c u q p (by omega) (by omega), block_g m c u q k (by omega) (by omega)]
    simp only [hu, hs]
  exact step _ et es

/-- The product after the call. -/
theorem result : (dats m 0 c).arrAt 2 cfg0.N = product (m ((c : Thread nD τ).loc main_arg0)) (m ((c : Thread nD τ).loc main_arg1)) := by
  refine (dats m 0 c).arrAt_eq_of_covers 2 _ (by decide +kernel) fun t hf y => ?_
  obtain ⟨p0, p1, p2⟩ := places t
  have hl := (flush0_2 t).mp hf
  have hN := points t
  blk_simp
  rw [after0_2]
  obtain ⟨p, k, rfl⟩ : ∃ (p : Fin 1024) (k : Fin 512), y = ix2 p k := ⟨y 0, y 1, eq_ix2 y⟩
  have hp := p.isLt
  have hk := k.isLt
  have h : t.val / 16 / 14 * 1024 + p.val < 1024 := by omega
  have h' : t.val / 16 % 14 * 512 + k.val < 7168 := by omega
  have e : (win0_2.blk t).view.emb (ix2 p k) = ix2 (⟨t.val / 16 / 14 * 1024 + p.val, h⟩ : Fin 1024) (⟨t.val / 16 % 14 * 512 + k.val, h'⟩ : Fin 7168) := by
    blk_ext [p2]
  rw [e, block_last m c t hl p k h h']
  rfl

end Arrays

/-- Over the extended reals the call's product is the reference's. -/
theorem algebraic : @Cert.algebraic_WeightInIdeal_WeightInReferenceIdeal Cert.WeightInIdeal.Gen.facts Cert.WeightInReferenceIdeal.Gen.facts :=
  fun m ρ m' ρ' _ hin =>
    ⟨fun c => product (m ((c : Thread Cert.WeightInIdeal.nD Cert.WeightInIdeal.τ).loc Cert.WeightInIdeal.main_arg0)) (m ((c : Thread Cert.WeightInIdeal.nD Cert.WeightInIdeal.τ).loc Cert.WeightInIdeal.main_arg1)),
      (θ_run (Cert.WeightInIdeal.defs (F := Ideal)) _ _).mono (fun r h c => ⟨(h c).1.trans (result m c), (h c).2⟩) (Cert.WeightInIdeal.Value.run_blocks (F := Ideal) m ρ),
      (θ_run (Cert.WeightInReferenceIdeal.defs (F := Ideal)) _ _).mono (fun r h c => by
        obtain ⟨r0, rest⟩ := h c
        obtain ⟨e0, e1⟩ := hin c
        refine ⟨r0.trans ?_, rest⟩
        beta_reduce
        rw [← e0, ← e1]
        funext j
        rw [eq_ix2 j]
        pointwise []
        exact Finset.sum_congr rfl fun r _ => rfl) (Cert.WeightInReferenceIdeal.Value.run (F := Ideal) m' ρ')⟩

end In

/-! ### The weight of the channel mixer's gate or up projection -/

namespace Gate

/-- The call leaves its arguments unchanged and every counter at zero. -/
theorem frame : @Cert.quiescent_WeightGate Cert.WeightGate.Gen.facts := fun m ρ _ => Cert.WeightGate.Gen.frame (F := Bits) m ρ

/-- So does its ideal program. -/
theorem frame_ideal : @Cert.quiescent_WeightGateIdeal Cert.WeightGateIdeal.Gen.facts := fun m ρ _ => Cert.WeightGateIdeal.Gen.frame (F := Ideal) m ρ

/-- So does the reference, which declares no semaphore. -/
theorem frame_reference : @Cert.quiescent_WeightGateReferenceIdeal Cert.WeightGateReferenceIdeal.Gen.facts := fun m ρ _ =>
  (θ_run (Cert.WeightGateReferenceIdeal.defs (F := Ideal)) _ _).mono (fun r h => ⟨fun c => (h c).2, sem_eq_zero_of_no_sems (by decide) r.2⟩) (Cert.WeightGateReferenceIdeal.Value.run (F := Ideal) m ρ)

section Arrays
open Cert.WeightGateIdeal Cert.WeightGateIdeal.Gen Cert.WeightGateIdeal.Value

/-- A block's entries after a grid point: what was there, and one run of rows. -/
theorem entry (a : Vec Ideal S512x1024 .bf16) (g : Vec Ideal S512x1408 .bf16) (s : Vec Ideal S1024x1408 .f32) (j : S1024x1408.Idx) :
    k0_pay2 s a g j = s j + ∑ q : Fin 512, row a q (j 0) * row g q (j 1) := by
  rw [eq_ix2 j]
  pointwise [k0_pay2]

/-- The zeros the call starts a block from. -/
theorem zero (j : S1024x1408.Idx) : k0_pay1 (F := Ideal) j = 0 := by
  pointwise [k0_pay1]

variable (m : (ℓ : Loc nD τ sig) → Buf (Elt Ideal) ℓ) (c : Dev nD)

/-- Where the blocks lie at a grid point. -/
theorem places (t : Fin cfg0.N) : win0_0.index t = ![t.val % 16, t.val / 16 / 2] ∧ win0_1.index t = ![t.val % 16, t.val / 16 % 2] ∧ win0_2.index t = ![t.val / 16 / 2, t.val / 16 % 2] :=
  (by decide +kernel : ∀ t : Fin grid0.N, win0_0.index t = ![t.val % 16, t.val / 16 / 2] ∧ win0_1.index t = ![t.val % 16, t.val / 16 % 2] ∧ win0_2.index t = ![t.val / 16 / 2, t.val / 16 % 2]) t

/-- The number of grid points. -/
theorem points (t : Fin cfg0.N) : t.val < 32 := t.isLt.trans_eq N_0

/-- An entry of a grid point's block of the left operand. -/
theorem block_a (t : Fin cfg0.N) (q : Fin 512) (l : Fin 1024) (h : t.val % 16 * 512 + q.val < 8192) (h' : t.val / 16 / 2 * 1024 + l.val < 1024) :
    row (iblk m c 0 t) q l = row (m ((c : Thread nD τ).loc main_arg0)) ⟨t.val % 16 * 512 + q.val, h⟩ ⟨t.val / 16 / 2 * 1024 + l.val, h'⟩ := by
  obtain ⟨p0, p1, p2⟩ := places t
  show iblk m c 0 t (ix2 q l) = m ((c : Thread nD τ).loc main_arg0) (ix2 _ _)
  blk_ext [iblk, V, p0]

/-- An entry of a grid point's block of the right operand. -/
theorem block_g (t : Fin cfg0.N) (q : Fin 512) (l : Fin 1408) (h : t.val % 16 * 512 + q.val < 8192) (h' : t.val / 16 % 2 * 1408 + l.val < 2816) :
    row (iblk m c 1 t) q l = row (m ((c : Thread nD τ).loc main_arg1)) ⟨t.val % 16 * 512 + q.val, h⟩ ⟨t.val / 16 % 2 * 1408 + l.val, h'⟩ := by
  obtain ⟨p0, p1, p2⟩ := places t
  show iblk m c 1 t (ix2 q l) = m ((c : Thread nD τ).loc main_arg1) (ix2 _ _)
  blk_ext [iblk, V, p1]

/-- What the last of sixteen grid points leaves in a block: the sums over all rows. -/
theorem block_last (t : Fin cfg0.N) (ht : t.val % 16 = 15) (p : Fin 1024) (k : Fin 1408) (h : t.val / 16 / 2 * 1024 + p.val < 1024)
    (h' : t.val / 16 % 2 * 1408 + k.val < 2816) : outsAt0 m c t.val t.isLt (ix2 p k)
    = ∑ r : Fin 8192, row (m ((c : Thread nD τ).loc main_arg0)) r ⟨t.val / 16 / 2 * 1024 + p.val, h⟩ * row (m ((c : Thread nD τ).loc main_arg1)) r ⟨t.val / 16 % 2 * 1408 + k.val, h'⟩ := by
  rw [Pipeline.eq_sum_fin_of_reset_step_apply_of_flush (fun n h => (outsAt0 m c n h : S1024x1408.Idx → EReal)) 16 (fun _ => 0)
    (fun t j => ∑ q : Fin 512, row (iblk m c 0 t) q (j 0) * row (iblk m c 1 t) q (j 1))
    (fun t h j => by rw [outsAt0_A m c t h, out_A_2_eq, entry, zero])
    (fun t h j => by rw [outsAt0_B m c t h, out_B_2_eq, entry]) t ht _, zero_add]
  refine Fin.sum_mul_add_congr (S := 16) fun s q hq => ?_
  have et : (16 * (t.val / 16) + s.val) / 16 = t.val / 16 := by omega
  have es : (16 * (t.val / 16) + s.val) % 16 = s.val := by omega
  have step : ∀ u : Fin cfg0.N, u.val / 16 = t.val / 16 → u.val % 16 = s.val → row (iblk m c 0 u) q p * row (iblk m c 1 u) q k
      = row (m ((c : Thread nD τ).loc main_arg0)) ⟨s.val * 512 + q.val, hq⟩ ⟨t.val / 16 / 2 * 1024 + p.val, h⟩
        * row (m ((c : Thread nD τ).loc main_arg1)) ⟨s.val * 512 + q.val, hq⟩ ⟨t.val / 16 % 2 * 1408 + k.val, h'⟩ := by
    intro u hu hs
    rw [block_a m c u q p (by omega) (by omega), block_g m c u q k (by omega) (by omega)]
    simp only [hu, hs]
  exact step _ et es

/-- The product after the call. -/
theorem result : (dats m 0 c).arrAt 2 cfg0.N = product (m ((c : Thread nD τ).loc main_arg0)) (m ((c : Thread nD τ).loc main_arg1)) := by
  refine (dats m 0 c).arrAt_eq_of_covers 2 _ (by decide +kernel) fun t hf y => ?_
  obtain ⟨p0, p1, p2⟩ := places t
  have hl := (flush0_2 t).mp hf
  have hN := points t
  blk_simp
  rw [after0_2]
  obtain ⟨p, k, rfl⟩ : ∃ (p : Fin 1024) (k : Fin 1408), y = ix2 p k := ⟨y 0, y 1, eq_ix2 y⟩
  have hp := p.isLt
  have hk := k.isLt
  have h : t.val / 16 / 2 * 1024 + p.val < 1024 := by omega
  have h' : t.val / 16 % 2 * 1408 + k.val < 2816 := by omega
  have e : (win0_2.blk t).view.emb (ix2 p k) = ix2 (⟨t.val / 16 / 2 * 1024 + p.val, h⟩ : Fin 1024) (⟨t.val / 16 % 2 * 1408 + k.val, h'⟩ : Fin 2816) := by
    blk_ext [p2]
  rw [e, block_last m c t hl p k h h']
  rfl

end Arrays

/-- Over the extended reals the call's product is the reference's. -/
theorem algebraic : @Cert.algebraic_WeightGateIdeal_WeightGateReferenceIdeal Cert.WeightGateIdeal.Gen.facts Cert.WeightGateReferenceIdeal.Gen.facts :=
  fun m ρ m' ρ' _ hin =>
    ⟨fun c => product (m ((c : Thread Cert.WeightGateIdeal.nD Cert.WeightGateIdeal.τ).loc Cert.WeightGateIdeal.main_arg0)) (m ((c : Thread Cert.WeightGateIdeal.nD Cert.WeightGateIdeal.τ).loc Cert.WeightGateIdeal.main_arg1)),
      (θ_run (Cert.WeightGateIdeal.defs (F := Ideal)) _ _).mono (fun r h c => ⟨(h c).1.trans (result m c), (h c).2⟩) (Cert.WeightGateIdeal.Value.run_blocks (F := Ideal) m ρ),
      (θ_run (Cert.WeightGateReferenceIdeal.defs (F := Ideal)) _ _).mono (fun r h c => by
        obtain ⟨r0, rest⟩ := h c
        obtain ⟨e0, e1⟩ := hin c
        refine ⟨r0.trans ?_, rest⟩
        beta_reduce
        rw [← e0, ← e1]
        funext j
        rw [eq_ix2 j]
        pointwise []
        exact Finset.sum_congr rfl fun r _ => rfl) (Cert.WeightGateReferenceIdeal.Value.run (F := Ideal) m' ρ')⟩

end Gate

/-! ### The weight of the channel mixer's down projection -/

namespace Down

/-- The call leaves its arguments unchanged and every counter at zero. -/
theorem frame : @Cert.quiescent_WeightDown Cert.WeightDown.Gen.facts := fun m ρ _ => Cert.WeightDown.Gen.frame (F := Bits) m ρ

/-- So does its ideal program. -/
theorem frame_ideal : @Cert.quiescent_WeightDownIdeal Cert.WeightDownIdeal.Gen.facts := fun m ρ _ => Cert.WeightDownIdeal.Gen.frame (F := Ideal) m ρ

/-- So does the reference, which declares no semaphore. -/
theorem frame_reference : @Cert.quiescent_WeightDownReferenceIdeal Cert.WeightDownReferenceIdeal.Gen.facts := fun m ρ _ =>
  (θ_run (Cert.WeightDownReferenceIdeal.defs (F := Ideal)) _ _).mono (fun r h => ⟨fun c => (h c).2, sem_eq_zero_of_no_sems (by decide) r.2⟩) (Cert.WeightDownReferenceIdeal.Value.run (F := Ideal) m ρ)

section Arrays
open Cert.WeightDownIdeal Cert.WeightDownIdeal.Gen Cert.WeightDownIdeal.Value

/-- A block's entries after a grid point: what was there, and one run of rows. -/
theorem entry (a : Vec Ideal S512x1408 .bf16) (g : Vec Ideal S512x1024 .bf16) (s : Vec Ideal S1408x1024 .f32) (j : S1408x1024.Idx) :
    k0_pay2 s a g j = s j + ∑ q : Fin 512, row a q (j 0) * row g q (j 1) := by
  rw [eq_ix2 j]
  pointwise [k0_pay2]

/-- The zeros the call starts a block from. -/
theorem zero (j : S1408x1024.Idx) : k0_pay1 (F := Ideal) j = 0 := by
  pointwise [k0_pay1]

variable (m : (ℓ : Loc nD τ sig) → Buf (Elt Ideal) ℓ) (c : Dev nD)

/-- Where the blocks lie at a grid point. -/
theorem places (t : Fin cfg0.N) : win0_0.index t = ![t.val % 16, t.val / 16 / 1] ∧ win0_1.index t = ![t.val % 16, t.val / 16 % 1] ∧ win0_2.index t = ![t.val / 16 / 1, t.val / 16 % 1] :=
  (by decide +kernel : ∀ t : Fin grid0.N, win0_0.index t = ![t.val % 16, t.val / 16 / 1] ∧ win0_1.index t = ![t.val % 16, t.val / 16 % 1] ∧ win0_2.index t = ![t.val / 16 / 1, t.val / 16 % 1]) t

/-- The number of grid points. -/
theorem points (t : Fin cfg0.N) : t.val < 32 := t.isLt.trans_eq N_0

/-- An entry of a grid point's block of the left operand. -/
theorem block_a (t : Fin cfg0.N) (q : Fin 512) (l : Fin 1408) (h : t.val % 16 * 512 + q.val < 8192) (h' : t.val / 16 / 1 * 1408 + l.val < 2816) :
    row (iblk m c 0 t) q l = row (m ((c : Thread nD τ).loc main_arg0)) ⟨t.val % 16 * 512 + q.val, h⟩ ⟨t.val / 16 / 1 * 1408 + l.val, h'⟩ := by
  obtain ⟨p0, p1, p2⟩ := places t
  show iblk m c 0 t (ix2 q l) = m ((c : Thread nD τ).loc main_arg0) (ix2 _ _)
  blk_ext [iblk, V, p0]

/-- An entry of a grid point's block of the right operand. -/
theorem block_g (t : Fin cfg0.N) (q : Fin 512) (l : Fin 1024) (h : t.val % 16 * 512 + q.val < 8192) (h' : t.val / 16 % 1 * 1024 + l.val < 1024) :
    row (iblk m c 1 t) q l = row (m ((c : Thread nD τ).loc main_arg1)) ⟨t.val % 16 * 512 + q.val, h⟩ ⟨t.val / 16 % 1 * 1024 + l.val, h'⟩ := by
  obtain ⟨p0, p1, p2⟩ := places t
  show iblk m c 1 t (ix2 q l) = m ((c : Thread nD τ).loc main_arg1) (ix2 _ _)
  blk_ext [iblk, V, p1]

/-- What the last of sixteen grid points leaves in a block: the sums over all rows. -/
theorem block_last (t : Fin cfg0.N) (ht : t.val % 16 = 15) (p : Fin 1408) (k : Fin 1024) (h : t.val / 16 / 1 * 1408 + p.val < 2816)
    (h' : t.val / 16 % 1 * 1024 + k.val < 1024) : outsAt0 m c t.val t.isLt (ix2 p k)
    = ∑ r : Fin 8192, row (m ((c : Thread nD τ).loc main_arg0)) r ⟨t.val / 16 / 1 * 1408 + p.val, h⟩ * row (m ((c : Thread nD τ).loc main_arg1)) r ⟨t.val / 16 % 1 * 1024 + k.val, h'⟩ := by
  rw [Pipeline.eq_sum_fin_of_reset_step_apply_of_flush (fun n h => (outsAt0 m c n h : S1408x1024.Idx → EReal)) 16 (fun _ => 0)
    (fun t j => ∑ q : Fin 512, row (iblk m c 0 t) q (j 0) * row (iblk m c 1 t) q (j 1))
    (fun t h j => by rw [outsAt0_A m c t h, out_A_2_eq, entry, zero])
    (fun t h j => by rw [outsAt0_B m c t h, out_B_2_eq, entry]) t ht _, zero_add]
  refine Fin.sum_mul_add_congr (S := 16) fun s q hq => ?_
  have et : (16 * (t.val / 16) + s.val) / 16 = t.val / 16 := by omega
  have es : (16 * (t.val / 16) + s.val) % 16 = s.val := by omega
  have step : ∀ u : Fin cfg0.N, u.val / 16 = t.val / 16 → u.val % 16 = s.val → row (iblk m c 0 u) q p * row (iblk m c 1 u) q k
      = row (m ((c : Thread nD τ).loc main_arg0)) ⟨s.val * 512 + q.val, hq⟩ ⟨t.val / 16 / 1 * 1408 + p.val, h⟩
        * row (m ((c : Thread nD τ).loc main_arg1)) ⟨s.val * 512 + q.val, hq⟩ ⟨t.val / 16 % 1 * 1024 + k.val, h'⟩ := by
    intro u hu hs
    rw [block_a m c u q p (by omega) (by omega), block_g m c u q k (by omega) (by omega)]
    simp only [hu, hs]
  exact step _ et es

/-- The product after the call. -/
theorem result : (dats m 0 c).arrAt 2 cfg0.N = product (m ((c : Thread nD τ).loc main_arg0)) (m ((c : Thread nD τ).loc main_arg1)) := by
  refine (dats m 0 c).arrAt_eq_of_covers 2 _ (by decide +kernel) fun t hf y => ?_
  obtain ⟨p0, p1, p2⟩ := places t
  have hl := (flush0_2 t).mp hf
  have hN := points t
  blk_simp
  rw [after0_2]
  obtain ⟨p, k, rfl⟩ : ∃ (p : Fin 1408) (k : Fin 1024), y = ix2 p k := ⟨y 0, y 1, eq_ix2 y⟩
  have hp := p.isLt
  have hk := k.isLt
  have h : t.val / 16 / 1 * 1408 + p.val < 2816 := by omega
  have h' : t.val / 16 % 1 * 1024 + k.val < 1024 := by omega
  have e : (win0_2.blk t).view.emb (ix2 p k) = ix2 (⟨t.val / 16 / 1 * 1408 + p.val, h⟩ : Fin 2816) (⟨t.val / 16 % 1 * 1024 + k.val, h'⟩ : Fin 1024) := by
    blk_ext [p2]
  rw [e, block_last m c t hl p k h h']
  rfl

end Arrays

/-- Over the extended reals the call's product is the reference's. -/
theorem algebraic : @Cert.algebraic_WeightDownIdeal_WeightDownReferenceIdeal Cert.WeightDownIdeal.Gen.facts Cert.WeightDownReferenceIdeal.Gen.facts :=
  fun m ρ m' ρ' _ hin =>
    ⟨fun c => product (m ((c : Thread Cert.WeightDownIdeal.nD Cert.WeightDownIdeal.τ).loc Cert.WeightDownIdeal.main_arg0)) (m ((c : Thread Cert.WeightDownIdeal.nD Cert.WeightDownIdeal.τ).loc Cert.WeightDownIdeal.main_arg1)),
      (θ_run (Cert.WeightDownIdeal.defs (F := Ideal)) _ _).mono (fun r h c => ⟨(h c).1.trans (result m c), (h c).2⟩) (Cert.WeightDownIdeal.Value.run_blocks (F := Ideal) m ρ),
      (θ_run (Cert.WeightDownReferenceIdeal.defs (F := Ideal)) _ _).mono (fun r h c => by
        obtain ⟨r0, rest⟩ := h c
        obtain ⟨e0, e1⟩ := hin c
        refine ⟨r0.trans ?_, rest⟩
        beta_reduce
        rw [← e0, ← e1]
        funext j
        rw [eq_ix2 j]
        pointwise []
        exact Finset.sum_congr rfl fun r _ => rfl) (Cert.WeightDownReferenceIdeal.Value.run (F := Ideal) m' ρ')⟩

end Down

/-! ### The weight of the output projection -/

namespace Out

/-- The call leaves its arguments unchanged and every counter at zero. -/
theorem frame : @Cert.quiescent_WeightOut Cert.WeightOut.Gen.facts := fun m ρ _ => Cert.WeightOut.Gen.frame (F := Bits) m ρ

/-- So does its ideal program. -/
theorem frame_ideal : @Cert.quiescent_WeightOutIdeal Cert.WeightOutIdeal.Gen.facts := fun m ρ _ => Cert.WeightOutIdeal.Gen.frame (F := Ideal) m ρ

/-- So does the reference, which declares no semaphore. -/
theorem frame_reference : @Cert.quiescent_WeightOutReferenceIdeal Cert.WeightOutReferenceIdeal.Gen.facts := fun m ρ _ =>
  (θ_run (Cert.WeightOutReferenceIdeal.defs (F := Ideal)) _ _).mono (fun r h => ⟨fun c => (h c).2, sem_eq_zero_of_no_sems (by decide) r.2⟩) (Cert.WeightOutReferenceIdeal.Value.run (F := Ideal) m ρ)

section Arrays
open Cert.WeightOutIdeal Cert.WeightOutIdeal.Gen Cert.WeightOutIdeal.Value

/-- A block's entries after a grid point: what was there, and one run of rows. -/
theorem entry (a : Vec Ideal S512x1024 .bf16) (g : Vec Ideal S512x1024 .bf16) (s : Vec Ideal S1024x1024 .f32) (j : S1024x1024.Idx) :
    k0_pay2 s a g j = s j + ∑ q : Fin 512, row a q (j 0) * row g q (j 1) := by
  rw [eq_ix2 j]
  pointwise [k0_pay2]

/-- The zeros the call starts a block from. -/
theorem zero (j : S1024x1024.Idx) : k0_pay1 (F := Ideal) j = 0 := by
  pointwise [k0_pay1]

variable (m : (ℓ : Loc nD τ sig) → Buf (Elt Ideal) ℓ) (c : Dev nD)

/-- Where the blocks lie at a grid point. -/
theorem places (t : Fin cfg0.N) : win0_0.index t = ![t.val % 16, t.val / 16 / 1] ∧ win0_1.index t = ![t.val % 16, t.val / 16 % 1] ∧ win0_2.index t = ![t.val / 16 / 1, t.val / 16 % 1] :=
  (by decide +kernel : ∀ t : Fin grid0.N, win0_0.index t = ![t.val % 16, t.val / 16 / 1] ∧ win0_1.index t = ![t.val % 16, t.val / 16 % 1] ∧ win0_2.index t = ![t.val / 16 / 1, t.val / 16 % 1]) t

/-- The number of grid points. -/
theorem points (t : Fin cfg0.N) : t.val < 16 := t.isLt.trans_eq N_0

/-- An entry of a grid point's block of the left operand. -/
theorem block_a (t : Fin cfg0.N) (q : Fin 512) (l : Fin 1024) (h : t.val % 16 * 512 + q.val < 8192) (h' : t.val / 16 / 1 * 1024 + l.val < 1024) :
    row (iblk m c 0 t) q l = row (m ((c : Thread nD τ).loc main_arg0)) ⟨t.val % 16 * 512 + q.val, h⟩ ⟨t.val / 16 / 1 * 1024 + l.val, h'⟩ := by
  obtain ⟨p0, p1, p2⟩ := places t
  show iblk m c 0 t (ix2 q l) = m ((c : Thread nD τ).loc main_arg0) (ix2 _ _)
  blk_ext [iblk, V, p0]

/-- An entry of a grid point's block of the right operand. -/
theorem block_g (t : Fin cfg0.N) (q : Fin 512) (l : Fin 1024) (h : t.val % 16 * 512 + q.val < 8192) (h' : t.val / 16 % 1 * 1024 + l.val < 1024) :
    row (iblk m c 1 t) q l = row (m ((c : Thread nD τ).loc main_arg1)) ⟨t.val % 16 * 512 + q.val, h⟩ ⟨t.val / 16 % 1 * 1024 + l.val, h'⟩ := by
  obtain ⟨p0, p1, p2⟩ := places t
  show iblk m c 1 t (ix2 q l) = m ((c : Thread nD τ).loc main_arg1) (ix2 _ _)
  blk_ext [iblk, V, p1]

/-- What the last of sixteen grid points leaves in a block: the sums over all rows. -/
theorem block_last (t : Fin cfg0.N) (ht : t.val % 16 = 15) (p : Fin 1024) (k : Fin 1024) (h : t.val / 16 / 1 * 1024 + p.val < 1024)
    (h' : t.val / 16 % 1 * 1024 + k.val < 1024) : outsAt0 m c t.val t.isLt (ix2 p k)
    = ∑ r : Fin 8192, row (m ((c : Thread nD τ).loc main_arg0)) r ⟨t.val / 16 / 1 * 1024 + p.val, h⟩ * row (m ((c : Thread nD τ).loc main_arg1)) r ⟨t.val / 16 % 1 * 1024 + k.val, h'⟩ := by
  rw [Pipeline.eq_sum_fin_of_reset_step_apply_of_flush (fun n h => (outsAt0 m c n h : S1024x1024.Idx → EReal)) 16 (fun _ => 0)
    (fun t j => ∑ q : Fin 512, row (iblk m c 0 t) q (j 0) * row (iblk m c 1 t) q (j 1))
    (fun t h j => by rw [outsAt0_A m c t h, out_A_2_eq, entry, zero])
    (fun t h j => by rw [outsAt0_B m c t h, out_B_2_eq, entry]) t ht _, zero_add]
  refine Fin.sum_mul_add_congr (S := 16) fun s q hq => ?_
  have et : (16 * (t.val / 16) + s.val) / 16 = t.val / 16 := by omega
  have es : (16 * (t.val / 16) + s.val) % 16 = s.val := by omega
  have step : ∀ u : Fin cfg0.N, u.val / 16 = t.val / 16 → u.val % 16 = s.val → row (iblk m c 0 u) q p * row (iblk m c 1 u) q k
      = row (m ((c : Thread nD τ).loc main_arg0)) ⟨s.val * 512 + q.val, hq⟩ ⟨t.val / 16 / 1 * 1024 + p.val, h⟩
        * row (m ((c : Thread nD τ).loc main_arg1)) ⟨s.val * 512 + q.val, hq⟩ ⟨t.val / 16 % 1 * 1024 + k.val, h'⟩ := by
    intro u hu hs
    rw [block_a m c u q p (by omega) (by omega), block_g m c u q k (by omega) (by omega)]
    simp only [hu, hs]
  exact step _ et es

/-- The product after the call. -/
theorem result : (dats m 0 c).arrAt 2 cfg0.N = product (m ((c : Thread nD τ).loc main_arg0)) (m ((c : Thread nD τ).loc main_arg1)) := by
  refine (dats m 0 c).arrAt_eq_of_covers 2 _ (by decide +kernel) fun t hf y => ?_
  obtain ⟨p0, p1, p2⟩ := places t
  have hl := (flush0_2 t).mp hf
  have hN := points t
  blk_simp
  rw [after0_2]
  obtain ⟨p, k, rfl⟩ : ∃ (p : Fin 1024) (k : Fin 1024), y = ix2 p k := ⟨y 0, y 1, eq_ix2 y⟩
  have hp := p.isLt
  have hk := k.isLt
  have h : t.val / 16 / 1 * 1024 + p.val < 1024 := by omega
  have h' : t.val / 16 % 1 * 1024 + k.val < 1024 := by omega
  have e : (win0_2.blk t).view.emb (ix2 p k) = ix2 (⟨t.val / 16 / 1 * 1024 + p.val, h⟩ : Fin 1024) (⟨t.val / 16 % 1 * 1024 + k.val, h'⟩ : Fin 1024) := by
    blk_ext [p2]
  rw [e, block_last m c t hl p k h h']
  rfl

end Arrays

/-- Over the extended reals the call's product is the reference's. -/
theorem algebraic : @Cert.algebraic_WeightOutIdeal_WeightOutReferenceIdeal Cert.WeightOutIdeal.Gen.facts Cert.WeightOutReferenceIdeal.Gen.facts :=
  fun m ρ m' ρ' _ hin =>
    ⟨fun c => product (m ((c : Thread Cert.WeightOutIdeal.nD Cert.WeightOutIdeal.τ).loc Cert.WeightOutIdeal.main_arg0)) (m ((c : Thread Cert.WeightOutIdeal.nD Cert.WeightOutIdeal.τ).loc Cert.WeightOutIdeal.main_arg1)),
      (θ_run (Cert.WeightOutIdeal.defs (F := Ideal)) _ _).mono (fun r h c => ⟨(h c).1.trans (result m c), (h c).2⟩) (Cert.WeightOutIdeal.Value.run_blocks (F := Ideal) m ρ),
      (θ_run (Cert.WeightOutReferenceIdeal.defs (F := Ideal)) _ _).mono (fun r h c => by
        obtain ⟨r0, rest⟩ := h c
        obtain ⟨e0, e1⟩ := hin c
        refine ⟨r0.trans ?_, rest⟩
        beta_reduce
        rw [← e0, ← e1]
        funext j
        rw [eq_ix2 j]
        pointwise []
        exact Finset.sum_congr rfl fun r _ => rfl) (Cert.WeightOutReferenceIdeal.Value.run (F := Ideal) m' ρ')⟩

end Out

/-! ### The weight of a branch's projection -/

namespace Branch

/-- The call leaves its arguments unchanged and every counter at zero. -/
theorem frame : @Cert.quiescent_WeightBranch Cert.WeightBranch.Gen.facts := fun m ρ _ => Cert.WeightBranch.Gen.frame (F := Bits) m ρ

/-- So does its ideal program. -/
theorem frame_ideal : @Cert.quiescent_WeightBranchIdeal Cert.WeightBranchIdeal.Gen.facts := fun m ρ _ => Cert.WeightBranchIdeal.Gen.frame (F := Ideal) m ρ

/-- So does the reference, which declares no semaphore. -/
theorem frame_reference : @Cert.quiescent_WeightBranchReferenceIdeal Cert.WeightBranchReferenceIdeal.Gen.facts := fun m ρ _ =>
  (θ_run (Cert.WeightBranchReferenceIdeal.defs (F := Ideal)) _ _).mono (fun r h => ⟨fun c => (h c).2, sem_eq_zero_of_no_sems (by decide) r.2⟩) (Cert.WeightBranchReferenceIdeal.Value.run (F := Ideal) m ρ)

section Arrays
open Cert.WeightBranchIdeal Cert.WeightBranchIdeal.Gen Cert.WeightBranchIdeal.Value

/-- A block's entries after a grid point: what was there, and one run of rows. -/
theorem entry (a : Vec Ideal S512x512 .bf16) (g : Vec Ideal S512x1024 .bf16) (s : Vec Ideal S512x1024 .f32) (j : S512x1024.Idx) :
    k0_pay2 s a g j = s j + ∑ q : Fin 512, row a q (j 0) * row g q (j 1) := by
  rw [eq_ix2 j]
  pointwise [k0_pay2]

/-- The zeros the call starts a block from. -/
theorem zero (j : S512x1024.Idx) : k0_pay1 (F := Ideal) j = 0 := by
  pointwise [k0_pay1]

variable (m : (ℓ : Loc nD τ sig) → Buf (Elt Ideal) ℓ) (c : Dev nD)

/-- Where the blocks lie at a grid point. -/
theorem places (t : Fin cfg0.N) : win0_0.index t = ![t.val % 16, t.val / 16 / 1] ∧ win0_1.index t = ![t.val % 16, t.val / 16 % 1] ∧ win0_2.index t = ![t.val / 16 / 1, t.val / 16 % 1] :=
  (by decide +kernel : ∀ t : Fin grid0.N, win0_0.index t = ![t.val % 16, t.val / 16 / 1] ∧ win0_1.index t = ![t.val % 16, t.val / 16 % 1] ∧ win0_2.index t = ![t.val / 16 / 1, t.val / 16 % 1]) t

/-- The number of grid points. -/
theorem points (t : Fin cfg0.N) : t.val < 16 := t.isLt.trans_eq N_0

/-- An entry of a grid point's block of the left operand. -/
theorem block_a (t : Fin cfg0.N) (q : Fin 512) (l : Fin 512) (h : t.val % 16 * 512 + q.val < 8192) (h' : t.val / 16 / 1 * 512 + l.val < 512) :
    row (iblk m c 0 t) q l = row (m ((c : Thread nD τ).loc main_arg0)) ⟨t.val % 16 * 512 + q.val, h⟩ ⟨t.val / 16 / 1 * 512 + l.val, h'⟩ := by
  obtain ⟨p0, p1, p2⟩ := places t
  show iblk m c 0 t (ix2 q l) = m ((c : Thread nD τ).loc main_arg0) (ix2 _ _)
  blk_ext [iblk, V, p0]

/-- An entry of a grid point's block of the right operand. -/
theorem block_g (t : Fin cfg0.N) (q : Fin 512) (l : Fin 1024) (h : t.val % 16 * 512 + q.val < 8192) (h' : t.val / 16 % 1 * 1024 + l.val < 1024) :
    row (iblk m c 1 t) q l = row (m ((c : Thread nD τ).loc main_arg1)) ⟨t.val % 16 * 512 + q.val, h⟩ ⟨t.val / 16 % 1 * 1024 + l.val, h'⟩ := by
  obtain ⟨p0, p1, p2⟩ := places t
  show iblk m c 1 t (ix2 q l) = m ((c : Thread nD τ).loc main_arg1) (ix2 _ _)
  blk_ext [iblk, V, p1]

/-- What the last of sixteen grid points leaves in a block: the sums over all rows. -/
theorem block_last (t : Fin cfg0.N) (ht : t.val % 16 = 15) (p : Fin 512) (k : Fin 1024) (h : t.val / 16 / 1 * 512 + p.val < 512)
    (h' : t.val / 16 % 1 * 1024 + k.val < 1024) : outsAt0 m c t.val t.isLt (ix2 p k)
    = ∑ r : Fin 8192, row (m ((c : Thread nD τ).loc main_arg0)) r ⟨t.val / 16 / 1 * 512 + p.val, h⟩ * row (m ((c : Thread nD τ).loc main_arg1)) r ⟨t.val / 16 % 1 * 1024 + k.val, h'⟩ := by
  rw [Pipeline.eq_sum_fin_of_reset_step_apply_of_flush (fun n h => (outsAt0 m c n h : S512x1024.Idx → EReal)) 16 (fun _ => 0)
    (fun t j => ∑ q : Fin 512, row (iblk m c 0 t) q (j 0) * row (iblk m c 1 t) q (j 1))
    (fun t h j => by rw [outsAt0_A m c t h, out_A_2_eq, entry, zero])
    (fun t h j => by rw [outsAt0_B m c t h, out_B_2_eq, entry]) t ht _, zero_add]
  refine Fin.sum_mul_add_congr (S := 16) fun s q hq => ?_
  have et : (16 * (t.val / 16) + s.val) / 16 = t.val / 16 := by omega
  have es : (16 * (t.val / 16) + s.val) % 16 = s.val := by omega
  have step : ∀ u : Fin cfg0.N, u.val / 16 = t.val / 16 → u.val % 16 = s.val → row (iblk m c 0 u) q p * row (iblk m c 1 u) q k
      = row (m ((c : Thread nD τ).loc main_arg0)) ⟨s.val * 512 + q.val, hq⟩ ⟨t.val / 16 / 1 * 512 + p.val, h⟩
        * row (m ((c : Thread nD τ).loc main_arg1)) ⟨s.val * 512 + q.val, hq⟩ ⟨t.val / 16 % 1 * 1024 + k.val, h'⟩ := by
    intro u hu hs
    rw [block_a m c u q p (by omega) (by omega), block_g m c u q k (by omega) (by omega)]
    simp only [hu, hs]
  exact step _ et es

/-- The product after the call. -/
theorem result : (dats m 0 c).arrAt 2 cfg0.N = product (m ((c : Thread nD τ).loc main_arg0)) (m ((c : Thread nD τ).loc main_arg1)) := by
  refine (dats m 0 c).arrAt_eq_of_covers 2 _ (by decide +kernel) fun t hf y => ?_
  obtain ⟨p0, p1, p2⟩ := places t
  have hl := (flush0_2 t).mp hf
  have hN := points t
  blk_simp
  rw [after0_2]
  obtain ⟨p, k, rfl⟩ : ∃ (p : Fin 512) (k : Fin 1024), y = ix2 p k := ⟨y 0, y 1, eq_ix2 y⟩
  have hp := p.isLt
  have hk := k.isLt
  have h : t.val / 16 / 1 * 512 + p.val < 512 := by omega
  have h' : t.val / 16 % 1 * 1024 + k.val < 1024 := by omega
  have e : (win0_2.blk t).view.emb (ix2 p k) = ix2 (⟨t.val / 16 / 1 * 512 + p.val, h⟩ : Fin 512) (⟨t.val / 16 % 1 * 1024 + k.val, h'⟩ : Fin 1024) := by
    blk_ext [p2]
  rw [e, block_last m c t hl p k h h']
  rfl

end Arrays

/-- Over the extended reals the call's product is the reference's. -/
theorem algebraic : @Cert.algebraic_WeightBranchIdeal_WeightBranchReferenceIdeal Cert.WeightBranchIdeal.Gen.facts Cert.WeightBranchReferenceIdeal.Gen.facts :=
  fun m ρ m' ρ' _ hin =>
    ⟨fun c => product (m ((c : Thread Cert.WeightBranchIdeal.nD Cert.WeightBranchIdeal.τ).loc Cert.WeightBranchIdeal.main_arg0)) (m ((c : Thread Cert.WeightBranchIdeal.nD Cert.WeightBranchIdeal.τ).loc Cert.WeightBranchIdeal.main_arg1)),
      (θ_run (Cert.WeightBranchIdeal.defs (F := Ideal)) _ _).mono (fun r h c => ⟨(h c).1.trans (result m c), (h c).2⟩) (Cert.WeightBranchIdeal.Value.run_blocks (F := Ideal) m ρ),
      (θ_run (Cert.WeightBranchReferenceIdeal.defs (F := Ideal)) _ _).mono (fun r h c => by
        obtain ⟨r0, rest⟩ := h c
        obtain ⟨e0, e1⟩ := hin c
        refine ⟨r0.trans ?_, rest⟩
        beta_reduce
        rw [← e0, ← e1]
        funext j
        rw [eq_ix2 j]
        pointwise []
        exact Finset.sum_congr rfl fun r _ => rfl) (Cert.WeightBranchReferenceIdeal.Value.run (F := Ideal) m' ρ')⟩

end Branch

end Cert.Weights
-- ==== Proof.Channel.lean ====
/- The channel mixer's forward pass on one device: the normalized rows go through the gate and up projections in two runs of 1408
   columns, each run's part of the down projection is added onto the rows, and the whole is what the reference computes. -/
module

public import proofs.«01_k».proof.Defs
public import proofs.«01_k».proof.Proof.Gen.Channel.Frame
public import proofs.«01_k».proof.Proof.Gen.ChannelIdeal.Value
public import proofs.«01_k».proof.Proof.Gen.ChannelReferenceIdeal.Run
public import proofs.«01_k».proof.Proof.Norm
public import Idealize.ShloMosaic.Adequacy
public import Idealize.ShloMosaic.Init
public import Idealize.ShloMosaic.Lib.Quiescent
public import Idealize.ShloMosaic.Lib.Pipeline.ValueKit

@[expose] public section

noncomputable section

namespace Cert.ChannelMixer

open Idealize.ShloMosaic Idealize.ShloMosaic.TcCoe Idealize.SL.Sem
open Cert.Norm (Mat row)

/-- The call leaves its arguments unchanged and every counter at zero. -/
theorem frame : @Cert.quiescent_Channel Cert.Channel.Gen.facts := fun m ρ _ => Cert.Channel.Gen.frame (F := Bits) m ρ

/-- So does its ideal program. -/
theorem frame_ideal : @Cert.quiescent_ChannelIdeal Cert.ChannelIdeal.Gen.facts := fun m ρ _ => Cert.ChannelIdeal.Gen.frame (F := Ideal) m ρ

/-- So does the reference, which declares no semaphore. -/
theorem frame_reference : @Cert.quiescent_ChannelReferenceIdeal Cert.ChannelReferenceIdeal.Gen.facts := fun m ρ _ =>
  (θ_run (Cert.ChannelReferenceIdeal.defs (F := Ideal)) _ _).mono (fun r h => ⟨fun c => (h c).2, sem_eq_zero_of_no_sems (by decide) r.2⟩) (Cert.ChannelReferenceIdeal.Value.run (F := Ideal) m ρ)

/-- One column of a projection of a row. -/
def through {n l : Nat} (u : Fin n → EReal) (w : Mat n l) (f : Fin l) : EReal := ∑ k : Fin n, u k * w (ix2 k f)

/-- The gated activation of a column of each of the two projections. -/
def active (a b : EReal) : EReal := a * Norm.sigmoid a * b

/-- The rows with the channel mixer's output added. -/
def mixed (x : Mat 8192 1024) (g : Mat 1 1024) (wg wu : Mat 1024 2816) (wd : Mat 2816 1024) : Mat 8192 1024 := fun i =>
  x i + ∑ f : Fin 2816, active (through (Norm.normed (row x (i 0)) (row g 0)) wg f) (through (Norm.normed (row x (i 0)) (row g 0)) wu f) * wd (ix2 f (i 1))

section Points

open Cert.ChannelIdeal Cert.ChannelIdeal.Gen Cert.ChannelIdeal.Value

/-- The normalized rows, entry by entry. -/
theorem normed_entry (x : Vec Ideal S512x1024 .f32) (g : Vec Ideal S1x1024 .f32) (q : Fin 512) : row (k0_pay1 x g) q = Norm.normed (row x q) (row g 0) := by
  funext k
  show k0_pay1 x g (ix2 q k) = _
  pointwise [k0_pay1]
  rfl

/-- The rows after a grid point: what was there, and one run of columns. -/
theorem mixed_entry (h : Vec Ideal S512x1024 .bf16) (wg wu : Vec Ideal S1024x1408 .bf16) (s : Vec Ideal S512x1024 .f32) (wd : Vec Ideal S1408x1024 .bf16)
    (q : Fin 512) (k : Fin 1024) : k0_pay2 h wg h wu s wd (ix2 q k)
    = row s q k + ∑ f : Fin 1408, active (through (row h q) wg f) (through (row h q) wu f) * row wd f k := by
  pointwise [k0_pay2]
  simp only [Ideal.ofBits_zero_f32, Ideal.ofBits_one_f32, zero_sub]
  rfl

end Points

section Arrays
open Cert.ChannelIdeal Cert.ChannelIdeal.Gen Cert.ChannelIdeal.Value

variable (m : (ℓ : Loc nD τ sig) → Buf (Elt Ideal) ℓ) (c : Dev nD)

/-- Where the blocks lie at a grid point. -/
theorem places (t : Fin cfg0.N) : win0_0.index t = ![t.val / 2, 0] ∧ win0_1.index t = ![0, 0] ∧ win0_2.index t = ![0, t.val % 2]
    ∧ win0_3.index t = ![0, t.val % 2] ∧ win0_4.index t = ![t.val % 2, 0] ∧ win0_5.index t = ![t.val / 2, 0] :=
  (by decide +kernel : ∀ t : Fin grid0.N, win0_0.index t = ![t.val / 2, 0] ∧ win0_1.index t = ![0, 0] ∧ win0_2.index t = ![0, t.val % 2]
    ∧ win0_3.index t = ![0, t.val % 2] ∧ win0_4.index t = ![t.val % 2, 0] ∧ win0_5.index t = ![t.val / 2, 0]) t

/-- A row of a grid point's block of rows. -/
theorem block_x (t : Fin cfg0.N) (q : Fin 512) (h : t.val / 2 * 512 + q.val < 8192) :
    row (iblk m c 0 t) q = row (m ((c : Thread nD τ).loc main_arg0)) ⟨t.val / 2 * 512 + q.val, h⟩ := by
  obtain ⟨p0, p1, p2, p3, p4, p5⟩ := places t
  funext k
  show iblk m c 0 t (ix2 q k) = m ((c : Thread nD τ).loc main_arg0) (ix2 _ k)
  blk_ext [iblk, V, p0]

/-- The scale's block is the scale. -/
theorem block_g (t : Fin cfg0.N) : row (iblk m c 1 t) 0 = row (m ((c : Thread nD τ).loc main_arg1)) 0 := by
  obtain ⟨p0, p1, p2, p3, p4, p5⟩ := places t
  funext k
  show iblk m c 1 t (ix2 0 k) = m ((c : Thread nD τ).loc main_arg1) (ix2 0 k)
  blk_ext [iblk, V, p1]

/-- An entry of a grid point's block of the gate projection. -/
theorem block_wg (t : Fin cfg0.N) (k : Fin 1024) (f : Fin 1408) (h : t.val % 2 * 1408 + f.val < 2816) :
    row (iblk m c 2 t) k f = row (m ((c : Thread nD τ).loc main_arg2)) k ⟨t.val % 2 * 1408 + f.val, h⟩ := by
  obtain ⟨p0, p1, p2, p3, p4, p5⟩ := places t
  show iblk m c 2 t (ix2 k f) = m ((c : Thread nD τ).loc main_arg2) (ix2 k _)
  blk_ext [iblk, V, p2]

/-- An entry of a grid point's block of the up projection. -/
theorem block_wu (t : Fin cfg0.N) (k : Fin 1024) (f : Fin 1408) (h : t.val % 2 * 1408 + f.val < 2816) :
    row (iblk m c 3 t) k f = row (m ((c : Thread nD τ).loc main_arg3)) k ⟨t.val % 2 * 1408 + f.val, h⟩ := by
  obtain ⟨p0, p1, p2, p3, p4, p5⟩ := places t
  show iblk m c 3 t (ix2 k f) = m ((c : Thread nD τ).loc main_arg3) (ix2 k _)
  blk_ext [iblk, V, p3]

/-- An entry of a grid point's block of the down projection. -/
theorem block_wd (t : Fin cfg0.N) (f : Fin 1408) (k : Fin 1024) (h : t.val % 2 * 1408 + f.val < 2816) :
    row (iblk m c 4 t) f k = row (m ((c : Thread nD τ).loc main_arg4)) ⟨t.val % 2 * 1408 + f.val, h⟩ k := by
  obtain ⟨p0, p1, p2, p3, p4, p5⟩ := places t
  show iblk m c 4 t (ix2 f k) = m ((c : Thread nD τ).loc main_arg4) (ix2 _ k)
  blk_ext [iblk, V, p4]

/-- The part of an entry that one run of columns adds, from the arrays. -/
def part (r : Fin 8192) (k : Fin 1024) (f : Fin 2816) : EReal :=
  active (through (Norm.normed (row (m ((c : Thread nD τ).loc main_arg0)) r) (row (m ((c : Thread nD τ).loc main_arg1)) 0)) (m ((c : Thread nD τ).loc main_arg2)) f)
    (through (Norm.normed (row (m ((c : Thread nD τ).loc main_arg0)) r) (row (m ((c : Thread nD τ).loc main_arg1)) 0)) (m ((c : Thread nD τ).loc main_arg3)) f)
    * row (m ((c : Thread nD τ).loc main_arg4)) f k

/-- What a grid point adds, once the rows it finds normalized are those of the array. -/
theorem part_point (t : Fin cfg0.N) (r : Fin 8192) (k : Fin 1024) (u : Fin 1024 → EReal) (s : Nat) (hs : t.val % 2 = s) (h2 : s < 2)
    (hu : u = Norm.normed (row (m ((c : Thread nD τ).loc main_arg0)) r) (row (m ((c : Thread nD τ).loc main_arg1)) 0)) :
    ∑ f : Fin 1408, active (through u (iblk m c 2 t) f) (through u (iblk m c 3 t) f) * row (iblk m c 4 t) f k
    = ∑ f : Fin 1408, part m c r k ⟨s * 1408 + f.val, by omega⟩ := by
  subst hs
  refine Finset.sum_congr rfl fun f _ => ?_
  have h : t.val % 2 * 1408 + f.val < 2816 := by omega
  have eg : through u (iblk m c 2 t) f = through u (m ((c : Thread nD τ).loc main_arg2)) ⟨t.val % 2 * 1408 + f.val, h⟩ :=
    Finset.sum_congr rfl fun i _ => congrArg (u i * ·) (block_wg m c t i f h)
  have eu : through u (iblk m c 3 t) f = through u (m ((c : Thread nD τ).loc main_arg3)) ⟨t.val % 2 * 1408 + f.val, h⟩ :=
    Finset.sum_congr rfl fun i _ => congrArg (u i * ·) (block_wu m c t i f h)
  rw [eg, eu, block_wd m c t f k h, hu]
  rfl

/-- What an even grid point leaves: the normalized rows, and the rows with the first run's part. -/
theorem first_point (t : Fin cfg0.N) (ht : t.val % 2 = 0) (q : Fin 512) (k : Fin 1024) :
    row (outsAt0 m c t.val t.isLt).2 q = Norm.normed (row (iblk m c 0 t) q) (row (iblk m c 1 t) 0)
    ∧ row (outsAt0 m c t.val t.isLt).1 q k = row (iblk m c 0 t) q k
      + ∑ f : Fin 1408, active (through (Norm.normed (row (iblk m c 0 t) q) (row (iblk m c 1 t) 0)) (iblk m c 2 t) f)
          (through (Norm.normed (row (iblk m c 0 t) q) (row (iblk m c 1 t) 0)) (iblk m c 3 t) f) * row (iblk m c 4 t) f k := by
  rw [outsAt0_A m c t ht]
  constructor
  · rw [← normed_entry]
    frame_out
  · rw [← normed_entry, ← mixed_entry]
    frame_out

/-- What an odd grid point leaves of the rows: what was there, and the second run's part. -/
theorem second_point (t : Fin cfg0.N) (ht : t.val % 2 = 1) (q : Fin 512) (k : Fin 1024) :
    row (outsAt0 m c t.val t.isLt).1 q k = row (outsAt0 m c (t.val - 1) (Nat.lt_of_le_of_lt (Nat.sub_le _ _) t.isLt)).1 q k
      + ∑ f : Fin 1408, active (through (row (outsAt0 m c (t.val - 1) (Nat.lt_of_le_of_lt (Nat.sub_le _ _) t.isLt)).2 q) (iblk m c 2 t) f)
          (through (row (outsAt0 m c (t.val - 1) (Nat.lt_of_le_of_lt (Nat.sub_le _ _) t.isLt)).2 q) (iblk m c 3 t) f) * row (iblk m c 4 t) f k := by
  rw [← mixed_entry, outsAt0_B m c t (by omega)]
  frame_out
  rw [(Memref.isWhole_whole _).read_unread]

/-- The rows after the call. -/
theorem result : (dats m 0 c).arrAt 5 cfg0.N
    = mixed (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  obtain ⟨p0, p1, p2, p3, p4, p5⟩ := places t
  have h1 := (flush0_5 t).mp hf
  blk_simp
  rw [after0_5]
  obtain ⟨q, k, rfl⟩ : ∃ (q : Fin 512) (k : Fin 1024), y = ix2 q k := ⟨y 0, y 1, eq_ix2 y⟩
  have hq := q.isLt
  have ht : t.val < 32 := t.isLt.trans_eq N_0
  have h : t.val / 2 * 512 + q.val < 8192 := by omega
  have e : (win0_5.blk t).view.emb (ix2 q k) = ix2 (⟨t.val / 2 * 512 + q.val, h⟩ : Fin 8192) k := by
    blk_ext [p5]
  rw [e]
  have hb : t.val - 1 < cfg0.N := Nat.lt_of_le_of_lt (Nat.sub_le _ _) t.isLt
  have bx : row (iblk m c 0 ⟨t.val - 1, hb⟩) q = row (m ((c : Thread nD τ).loc main_arg0)) ⟨t.val / 2 * 512 + q.val, h⟩ := by
    rw [block_x m c ⟨t.val - 1, hb⟩ q (show (t.val - 1) / 2 * 512 + q.val < 8192 by omega)]
    exact congrArg _ (Fin.ext (show (t.val - 1) / 2 * 512 + q.val = t.val / 2 * 512 + q.val by omega))
  obtain ⟨f2, f1⟩ := first_point m c ⟨t.val - 1, hb⟩ (show (t.val - 1) % 2 = 0 by omega) q k
  rw [bx, block_g] at f2
  rw [bx, block_g, part_point m c ⟨t.val - 1, hb⟩ ⟨t.val / 2 * 512 + q.val, h⟩ k _ 0 (show (t.val - 1) % 2 = 0 by omega) (by omega) rfl] at f1
  refine (second_point m c t h1 q k).trans ?_
  rw [f1, part_point m c t ⟨t.val / 2 * 512 + q.val, h⟩ k _ 1 h1 (by omega) f2, add_assoc]
  refine congrArg (_ + ·) ?_
  have sums := Fin.sum_mul_add_fin 2 1408 (fun f : Fin 2816 => part m c ⟨t.val / 2 * 512 + q.val, h⟩ k f)
  rw [Fin.sum_univ_two] at sums
  exact sums

end Arrays

set_option maxHeartbeats 2000000 in
/-- Over the extended reals the call's rows are the reference's. -/
theorem algebraic : @Cert.algebraic_ChannelIdeal_ChannelReferenceIdeal Cert.ChannelIdeal.Gen.facts Cert.ChannelReferenceIdeal.Gen.facts :=
  fun m ρ m' ρ' _ hin =>
    ⟨fun c => mixed (m ((c : Thread Cert.ChannelIdeal.nD Cert.ChannelIdeal.τ).loc Cert.ChannelIdeal.main_arg0)) (m ((c : Thread Cert.ChannelIdeal.nD Cert.ChannelIdeal.τ).loc Cert.ChannelIdeal.main_arg1)) (m ((c : Thread Cert.ChannelIdeal.nD Cert.ChannelIdeal.τ).loc Cert.ChannelIdeal.main_arg2)) (m ((c : Thread Cert.ChannelIdeal.nD Cert.ChannelIdeal.τ).loc Cert.ChannelIdeal.main_arg3)) (m ((c : Thread Cert.ChannelIdeal.nD Cert.ChannelIdeal.τ).loc Cert.ChannelIdeal.main_arg4)),
      (θ_run (Cert.ChannelIdeal.defs (F := Ideal)) _ _).mono (fun r h c =>
        ⟨(h c).1.trans (result m c), (h c).2⟩) (Cert.ChannelIdeal.Value.run_blocks (F := Ideal) m ρ),
      (θ_run (Cert.ChannelReferenceIdeal.defs (F := Ideal)) _ _).mono (fun r h c => by
        obtain ⟨r0, rest⟩ := h c
        obtain ⟨e0, e1, e2, e3, e4⟩ := hin c
        refine ⟨r0.trans ?_, rest⟩
        beta_reduce
        rw [← e0, ← e1, ← e2, ← e3, ← e4]
        funext j
        rw [eq_ix2 j]
        pointwise []
        rfl) (Cert.ChannelReferenceIdeal.Value.run (F := Ideal) m' ρ')⟩

end Cert.ChannelMixer
-- ==== Proof.Merge.lean ====
/- The gated merge of the three branches on one device: a row plus the out-projection of the sum of its branches, each projected and
   weighted by its gate, which is what the reference computes for all rows at once. -/
module

public import proofs.«01_k».proof.Defs
public import proofs.«01_k».proof.Proof.Gen.Merge.Frame
public import proofs.«01_k».proof.Proof.Gen.MergeIdeal.Value
public import proofs.«01_k».proof.Proof.Gen.MergeReferenceIdeal.Run
public import proofs.«01_k».proof.Proof.Norm
public import Idealize.ShloMosaic.Adequacy
public import Idealize.ShloMosaic.Init
public import Idealize.ShloMosaic.Lib.Quiescent
public import Idealize.ShloMosaic.Lib.Pipeline.ValueKit

@[expose] public section

noncomputable section

namespace Cert.GatedMerge

open Idealize.ShloMosaic Idealize.ShloMosaic.TcCoe Idealize.SL.Sem
open Cert.Norm (Mat row)

/-- The call leaves its arguments unchanged and every counter at zero. -/
theorem frame : @Cert.quiescent_Merge Cert.Merge.Gen.facts := fun m ρ _ => Cert.Merge.Gen.frame (F := Bits) m ρ

/-- So does its ideal program. -/
theorem frame_ideal : @Cert.quiescent_MergeIdeal Cert.MergeIdeal.Gen.facts := fun m ρ _ => Cert.MergeIdeal.Gen.frame (F := Ideal) m ρ

/-- So does the reference, which declares no semaphore. -/
theorem frame_reference : @Cert.quiescent_MergeReferenceIdeal Cert.MergeReferenceIdeal.Gen.facts := fun m ρ _ =>
  (θ_run (Cert.MergeReferenceIdeal.defs (F := Ideal)) _ _).mono (fun r h => ⟨fun c => (h c).2, sem_eq_zero_of_no_sems (by decide) r.2⟩) (Cert.MergeReferenceIdeal.Value.run (F := Ideal) m ρ)

/-- One of the three runs of a row of 3072. -/
def lane (b : Fin 3) (u : Fin 3072 → EReal) (d : Fin 1024) : EReal := u ⟨b.val * 1024 + d.val, by omega⟩

/-- The first run starts at the row's start. -/
theorem lane_zero (u : Fin 3072 → EReal) (d : Fin 1024) : lane 0 u d = u ⟨d.val, by omega⟩ := congrArg u (Fin.ext (by show 0 * 1024 + d.val = d.val; omega))

/-- A branch's gate. -/
def gate (p b : Fin 3072 → EReal) (i : Fin 3) (d : Fin 1024) : EReal := Norm.sigmoid (lane i p d + lane i b d)

/-- A branch's projection. -/
def branch (y : Fin 512 → EReal) (w : Fin 512 → Fin 1024 → EReal) (d : Fin 1024) : EReal := ∑ k : Fin 512, w k d * y k

/-- The factors may stand the other way round. -/
theorem branch_comm (y : Fin 512 → EReal) (w : Fin 512 → Fin 1024 → EReal) (d : Fin 1024) : ∑ k : Fin 512, y k * w k d = branch y w d :=
  Finset.sum_congr rfl fun _ _ => mul_comm _ _

/-- The branches' projections weighted by their gates, summed. -/
def blend (p b : Fin 3072 → EReal) (ya yb yc : Fin 512 → EReal) (w : Fin 3 → Fin 512 → Fin 1024 → EReal) (d : Fin 1024) : EReal :=
  gate p b 0 d * branch ya (w 0) d + gate p b 1 d * branch yb (w 1) d + gate p b 2 d * branch yc (w 2) d

/-- The part of a row of the input projection that holds the gates. -/
def gates (p : Mat 8192 7168) (r : Fin 8192) (k : Fin 3072) : EReal := p (ix2 r ⟨k.val, by omega⟩)

/-- The branches' weights, by branch. -/
def weights (w : (⟨3, ![3, 512, 1024]⟩ : Shape).Idx → EReal) (i : Fin 3) (k : Fin 512) (d : Fin 1024) : EReal := w (ix3 i k d)

/-- The rows with the merged branches' out-projection added. -/
def rows (x : Mat 8192 1024) (p : Mat 8192 7168) (ya yb yc : Mat 8192 512) (b : Mat 1 3072) (w : (⟨3, ![3, 512, 1024]⟩ : Shape).Idx → EReal) (o : Mat 1024 1024) : Mat 8192 1024 := fun i =>
  x i + ∑ d : Fin 1024, blend (gates p (i 0)) (row b 0) (row ya (i 0)) (row yb (i 0)) (row yc (i 0)) (weights w) d * o (ix2 d (i 1))

section Points
open Cert.MergeIdeal Cert.MergeIdeal.Gen Cert.MergeIdeal.Value

/-- What a grid point writes, entry by entry. -/
theorem entry (x : Vec Ideal S256x1024 .f32) (p : Vec Ideal S256x3072 .f32) (ya yb yc : Vec Ideal S256x512 .f32) (b : Vec Ideal S1x3072 .f32)
    (w0 w1 w2 : Vec Ideal S1x512x1024 .bf16) (o : Vec Ideal S1024x1024 .bf16) (w : Fin 3 → Fin 512 → Fin 1024 → EReal)
    (h0 : ∀ k d, w0 (ix3 0 k d) = w 0 k d) (h1 : ∀ k d, w1 (ix3 0 k d) = w 1 k d) (h2 : ∀ k d, w2 (ix3 0 k d) = w 2 k d) (q : Fin 256) (k : Fin 1024) :
    k0_pay1 (k0_pay3 p b ya w0 yb w1) (k0_pay4 p b) (k0_pay5 w2) (k0_pay6 yc) (constant S256x1024 .f32 0x00000000#32) x o (ix2 q k)
    = row x q k + ∑ d : Fin 1024, blend (row p q) (row b 0) (row ya q) (row yb q) (row yc q) w d * row o d k := by
  pointwise [k0_pay1, k0_pay2, k0_pay3, k0_pay4, k0_pay5, k0_pay6]
  simp only [h0, h1, h2, zero_sub]
  refine congrArg (x (ix2 q k) + ·) (Finset.sum_congr rfl fun d _ => congrArg (· * o (ix2 d k)) ?_)
  unfold blend gate
  rw [lane_zero, lane_zero, ← branch_comm, ← branch_comm, ← branch_comm]
  rfl

end Points

section Arrays
open Cert.MergeIdeal Cert.MergeIdeal.Gen Cert.MergeIdeal.Value

variable (m : (ℓ : Loc nD τ sig) → Buf (Elt Ideal) ℓ) (c : Dev nD)

/-- Where the blocks lie at a grid point. -/
theorem places (t : Fin cfg0.N) : win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0, 0] ∧ win0_7.index t = ![0, 0] ∧ win0_8.index t = ![t.val, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0, 0] ∧ win0_7.index t = ![0, 0] ∧ win0_8.index t = ![t.val, 0]) t

/-- The number of grid points. -/
theorem points (t : Fin cfg0.N) : t.val < 32 := t.isLt.trans_eq N_0

/-- A row of a grid point's block of rows. -/
theorem block_x (t : Fin cfg0.N) (q : Fin 256) (h : t.val * 256 + q.val < 8192) :
    row (iblk m c 0 t) q = row (m ((c : Thread nD τ).loc main_arg0)) ⟨t.val * 256 + q.val, h⟩ := by
  obtain ⟨p0, p1, p2, p3, p4, p5, p6, p7, p8⟩ := places t
  funext k
  show iblk m c 0 t (ix2 q k) = m ((c : Thread nD τ).loc main_arg0) (ix2 _ k)
  blk_ext [iblk, V, p0]

/-- A row of a grid point's block of gates. -/
theorem block_p (t : Fin cfg0.N) (q : Fin 256) (h : t.val * 256 + q.val < 8192) :
    row (X0_1 m c t) q = gates (m ((c : Thread nD τ).loc main_arg1)) ⟨t.val * 256 + q.val, h⟩ := by
  obtain ⟨p0, p1, p2, p3, p4, p5, p6, p7, p8⟩ := places t
  funext k
  show X0_1 m c t (ix2 q k) = m ((c : Thread nD τ).loc main_arg1) (ix2 _ ⟨k.val, _⟩)
  unfold X0_1 Pipeline.Window.fill
  rw [dif_pos (moved0_1 t _)]
  blk_ext [iblk, V, p1]

/-- A row of a grid point's block of the first branch. -/
theorem block_ya (t : Fin cfg0.N) (q : Fin 256) (h : t.val * 256 + q.val < 8192) :
    row (iblk m c 2 t) q = row (m ((c : Thread nD τ).loc main_arg2)) ⟨t.val * 256 + q.val, h⟩ := by
  obtain ⟨p0, p1, p2, p3, p4, p5, p6, p7, p8⟩ := places t
  funext k
  show iblk m c 2 t (ix2 q k) = m ((c : Thread nD τ).loc main_arg2) (ix2 _ k)
  blk_ext [iblk, V, p2]

/-- Of the second. -/
theorem block_yb (t : Fin cfg0.N) (q : Fin 256) (h : t.val * 256 + q.val < 8192) :
    row (iblk m c 3 t) q = row (m ((c : Thread nD τ).loc main_arg3)) ⟨t.val * 256 + q.val, h⟩ := by
  obtain ⟨p0, p1, p2, p3, p4, p5, p6, p7, p8⟩ := places t
  funext k
  show iblk m c 3 t (ix2 q k) = m ((c : Thread nD τ).loc main_arg3) (ix2 _ k)
  blk_ext [iblk, V, p3]

/-- Of the third. -/
theorem block_yc (t : Fin cfg0.N) (q : Fin 256) (h : t.val * 256 + q.val < 8192) :
    row (iblk m c 4 t) q = row (m ((c : Thread nD τ).loc main_arg4)) ⟨t.val * 256 + q.val, h⟩ := by
  obtain ⟨p0, p1, p2, p3, p4, p5, p6, p7, p8⟩ := places t
  funext k
  show iblk m c 4 t (ix2 q k) = m ((c : Thread nD τ).loc main_arg4) (ix2 _ k)
  blk_ext [iblk, V, p4]

/-- The gates' bias is whole at every grid point. -/
theorem block_b (t : Fin cfg0.N) : row (iblk m c 5 t) 0 = row (m ((c : Thread nD τ).loc main_arg5)) 0 := by
  obtain ⟨p0, p1, p2, p3, p4, p5, p6, p7, p8⟩ := places t
  funext k
  show iblk m c 5 t (ix2 0 k) = m ((c : Thread nD τ).loc main_arg5) (ix2 0 k)
  blk_ext [iblk, V, p5]

/-- So are the branches' weights. -/
theorem block_w (t : Fin cfg0.N) (i : Fin 3) (k : Fin 512) (d : Fin 1024) : iblk m c 6 t (ix3 i k d) = weights (m ((c : Thread nD τ).loc main_arg6)) i k d := by
  obtain ⟨p0, p1, p2, p3, p4, p5, p6, p7, p8⟩ := places t
  show iblk m c 6 t (ix3 i k d) = m ((c : Thread nD τ).loc main_arg6) (ix3 i k d)
  blk_ext [iblk, V, p6]

/-- The first branch's weights, as loaded. -/
theorem load_0 (t : Fin cfg0.N) (k : Fin 512) (d : Fin 1024) :
    View.ld (iblk m c 6 t) (Rect.unit ![0, 0, 0] ![1, 512, 1024] inb_S3x512x1024_S1x512x1024_0_0_0) (ix3 0 k d) = weights (m ((c : Thread nD τ).loc main_arg6)) 0 k d :=
  (View.ld_unit_apply_of _ _ _ _ _ (ix3 0 k d) (by intro a; fin_cases a <;> simp [ix3])).trans (block_w m c t 0 k d)

/-- The second's. -/
theorem load_1 (t : Fin cfg0.N) (k : Fin 512) (d : Fin 1024) :
    View.ld (iblk m c 6 t) (Rect.unit ![1, 0, 0] ![1, 512, 1024] inb_S3x512x1024_S1x512x1024_1_0_0) (ix3 0 k d) = weights (m ((c : Thread nD τ).loc main_arg6)) 1 k d :=
  (View.ld_unit_apply_of _ _ _ _ _ (ix3 1 k d) (by intro a; fin_cases a <;> simp [ix3])).trans (block_w m c t 1 k d)

/-- The third's. -/
theorem load_2 (t : Fin cfg0.N) (k : Fin 512) (d : Fin 1024) :
    View.ld (iblk m c 6 t) (Rect.unit ![2, 0, 0] ![1, 512, 1024] inb_S3x512x1024_S1x512x1024_2_0_0) (ix3 0 k d) = weights (m ((c : Thread nD τ).loc main_arg6)) 2 k d :=
  (View.ld_unit_apply_of _ _ _ _ _ (ix3 2 k d) (by intro a; fin_cases a <;> simp [ix3])).trans (block_w m c t 2 k d)

/-- The out-projection's. -/
theorem block_o (t : Fin cfg0.N) (d k : Fin 1024) : row (iblk m c 7 t) d k = m ((c : Thread nD τ).loc main_arg7) (ix2 d k) := by
  obtain ⟨p0, p1, p2, p3, p4, p5, p6, p7, p8⟩ := places t
  show iblk m c 7 t (ix2 d k) = m ((c : Thread nD τ).loc main_arg7) (ix2 d k)
  blk_ext [iblk, V, p7]

/-- What a grid point writes, from the arrays. -/
theorem point (t : Fin cfg0.N) (q : Fin 256) (k : Fin 1024) (h : t.val * 256 + q.val < 8192) : outsAt0 m c t (ix2 q k)
    = rows (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (ix2 ⟨t.val * 256 + q.val, h⟩ k) := by
  unfold outsAt0
  frame_out
  refine (entry _ _ _ _ _ _ _ _ _ _ (weights (m ((c : Thread nD τ).loc main_arg6))) (load_0 m c t) (load_1 m c t) (load_2 m c t) q k).trans ?_
  rw [block_x m c t q h, block_p m c t q h, block_ya m c t q h, block_yb m c t q h, block_yc m c t q h, block_b m c t]
  simp only [block_o]
  rfl

/-- The rows after the call. -/
theorem result : (dats m 0 c).arrAt 8 cfg0.N
    = rows (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  obtain ⟨p0, p1, p2, p3, p4, p5, p6, p7, p8⟩ := places t
  have hN := points t
  blk_simp
  rw [after0_8]
  obtain ⟨q, k, rfl⟩ : ∃ (q : Fin 256) (k : Fin 1024), y = ix2 q k := ⟨y 0, y 1, eq_ix2 y⟩
  have hq := q.isLt
  have h : t.val * 256 + q.val < 8192 := by omega
  have e : (win0_8.blk t).view.emb (ix2 q k) = ix2 (⟨t.val * 256 + q.val, h⟩ : Fin 8192) k := by
    blk_ext [p8]
  rw [e, point m c t q k h]

end Arrays

section Reference
open Cert.MergeReferenceIdeal Cert.MergeReferenceIdeal.Gen

/-- The reference's rows, entry by entry. -/
theorem reference_rows (x : Vec Ideal S8192x1024 .f32) (p : Vec Ideal S8192x7168 .f32) (ya yb yc : Vec Ideal S8192x512 .f32) (b : Vec Ideal S1x3072 .f32)
    (w : Vec Ideal S3x512x1024 .bf16) (o : Vec Ideal S1024x1024 .bf16) (r : Fin 8192) (k : Fin 1024) :
    addf (F := Ideal) x (Host.dotGeneral (φ₂ := .f32) dot_S8192x1024_S1024x1024_S8192x1024_1_0_0_1_n_n none (Host.reduceAdd (mulf (Host.divf (broadcastInDim S8192x3x1024 ![] bcast_S_S8192x3x1024 (constant S_ .f32 0x3F800000#32)) (addf (broadcastInDim S8192x3x1024 ![] bcast_S_S8192x3x1024 (constant S_ .f32 0x3F800000#32)) (Host.exp (Host.negf (addf (shapeCast _ (extractStridedSlice S8192x3072 ![0, 0] p slices_S8192x7168_S8192x3072_0_0) shapeCasts_S8192x3072_S8192x3x1024) (broadcastInDim S8192x3x1024 ![0, 1, 2] bcast_S1x3x1024_S8192x3x1024_0_1_2 (broadcastInDim S1x3x1024 ![1, 2] bcast_S3x1024_S1x3x1024_1_2 (shapeCast _ b shapeCasts_S1x3072_S3x1024)))))))) (transpose S8192x3x1024 [2, 0, 1] (Host.dotGeneral (φ₂ := .f32) dot_S3x512x1024_S8192x3x512_S3x1024x8192_1_2_2_0_0_1 none (extf .f32 w bitsLt_bf16_f32) ((concatenate S8192x3x512 1 [⟨S8192x1x512, ((broadcastInDim S8192x1x512 ![0, 2] bcast_S8192x512_S8192x1x512_0_2 ya) : (⟨S8192x1x512, .f32⟩ : BufTy).Contents (Elt Ideal))⟩, ⟨S8192x1x512, ((broadcastInDim S8192x1x512 ![0, 2] bcast_S8192x512_S8192x1x512_0_2 yb) : (⟨S8192x1x512, .f32⟩ : BufTy).Contents (Elt Ideal))⟩, ⟨S8192x1x512, ((broadcastInDim S8192x1x512 ![0, 2] bcast_S8192x512_S8192x1x512_0_2 yc) : (⟨S8192x1x512, .f32⟩ : BufTy).Contents (Elt Ideal))⟩] concatenates_S8192x1x512_S8192x1x512_S8192x1x512_S8192x3x512_d1 : (⟨S8192x3x512, .f32⟩ : BufTy).Contents (Elt Ideal)))) transposes_S3x1024x8192_S8192x3x1024_2_0_1)) (constant S_ .f32 0x00000000#32) reducesTo_S8192x3x1024_S8192x1024_d1 h_S_) (extf .f32 o bitsLt_bf16_f32)) (ix2 r k)
    = rows x p ya yb yc b w o (ix2 r k) := by
  pointwise []
  refine congrArg (_ + ·) (Finset.sum_congr rfl fun d _ => congrArg (· * _) ?_)
  rw [Fin.sum_univ_three]
  refine congrArg₂ (· + ·) (congrArg₂ (· + ·) ?_ ?_) ?_
  · rfl
  · rfl
  · rfl

end Reference

set_option maxHeartbeats 2000000 in
/-- Over the extended reals the call's rows are the reference's. -/
theorem algebraic : @Cert.algebraic_MergeIdeal_MergeReferenceIdeal Cert.MergeIdeal.Gen.facts Cert.MergeReferenceIdeal.Gen.facts :=
  fun m ρ m' ρ' _ hin =>
    ⟨fun c => rows (m ((c : Thread Cert.MergeIdeal.nD Cert.MergeIdeal.τ).loc Cert.MergeIdeal.main_arg0)) (m ((c : Thread Cert.MergeIdeal.nD Cert.MergeIdeal.τ).loc Cert.MergeIdeal.main_arg1)) (m ((c : Thread Cert.MergeIdeal.nD Cert.MergeIdeal.τ).loc Cert.MergeIdeal.main_arg2)) (m ((c : Thread Cert.MergeIdeal.nD Cert.MergeIdeal.τ).loc Cert.MergeIdeal.main_arg3)) (m ((c : Thread Cert.MergeIdeal.nD Cert.MergeIdeal.τ).loc Cert.MergeIdeal.main_arg4)) (m ((c : Thread Cert.MergeIdeal.nD Cert.MergeIdeal.τ).loc Cert.MergeIdeal.main_arg5)) (m ((c : Thread Cert.MergeIdeal.nD Cert.MergeIdeal.τ).loc Cert.MergeIdeal.main_arg6)) (m ((c : Thread Cert.MergeIdeal.nD Cert.MergeIdeal.τ).loc Cert.MergeIdeal.main_arg7)),
      (θ_run (Cert.MergeIdeal.defs (F := Ideal)) _ _).mono (fun r h c =>
        ⟨(h c).1.trans (result m c), (h c).2⟩) (Cert.MergeIdeal.Value.run_blocks (F := Ideal) m ρ),
      (θ_run (Cert.MergeReferenceIdeal.defs (F := Ideal)) _ _).mono (fun r h c => by
        obtain ⟨r0, rest⟩ := h c
        obtain ⟨e0, e1, e2, e3, e4, e5, e6, e7⟩ := hin c
        refine ⟨r0.trans ?_, rest⟩
        beta_reduce
        rw [← e0, ← e1, ← e2, ← e3, ← e4, ← e5, ← e6, ← e7]
        funext j
        rw [eq_ix2 j]
        exact reference_rows _ _ _ _ _ _ _ _ _ _) (Cert.MergeReferenceIdeal.Value.run (F := Ideal) m' ρ')⟩

end Cert.GatedMerge
-- ==== Proof.MergeBackward.lean ====
/- The backward pass of the gated merge on one device: from the gradient of the merged rows' out-projection, the gradients of the gates,
   of the three branches, of the projected branches and of the gates' bias, and the merged rows once more, all as the reference has
   them by the chain rule. -/
module

public import proofs.«01_k».proof.Defs
public import proofs.«01_k».proof.Proof.Gen.MergeBackward.Frame
public import proofs.«01_k».proof.Proof.Gen.MergeBackwardIdeal.Value
public import proofs.«01_k».proof.Proof.Gen.MergeBackwardReferenceIdeal.Run
public import proofs.«01_k».proof.Proof.Merge
public import Idealize.ShloMosaic.Adequacy
public import Idealize.ShloMosaic.Init
public import Idealize.ShloMosaic.Lib.Quiescent
public import Idealize.ShloMosaic.Lib.Pipeline.ValueKit

@[expose] public section

noncomputable section

namespace Cert.GatedMergeBackward

open Idealize.ShloMosaic Idealize.ShloMosaic.TcCoe Idealize.SL.Sem
open Cert.Norm (Mat row)
open Cert.GatedMerge (lane lane_zero gate branch branch_comm blend gates weights)

/-- The call leaves its arguments unchanged and every counter at zero. -/
theorem frame : @Cert.quiescent_MergeBackward Cert.MergeBackward.Gen.facts := fun m ρ _ => Cert.MergeBackward.Gen.frame (F := Bits) m ρ

/-- So does its ideal program. -/
theorem frame_ideal : @Cert.quiescent_MergeBackwardIdeal Cert.MergeBackwardIdeal.Gen.facts := fun m ρ _ => Cert.MergeBackwardIdeal.Gen.frame (F := Ideal) m ρ

/-- So does the reference, which declares no semaphore. -/
theorem frame_reference : @Cert.quiescent_MergeBackwardReferenceIdeal Cert.MergeBackwardReferenceIdeal.Gen.facts := fun m ρ _ =>
  (θ_run (Cert.MergeBackwardReferenceIdeal.defs (F := Ideal)) _ _).mono (fun r h => ⟨fun c => (h c).2.2.2.2.2.2.2, sem_eq_zero_of_no_sems (by decide) r.2⟩) (Cert.MergeBackwardReferenceIdeal.Value.run (F := Ideal) m ρ)

/-- Which of the three runs a column lies in. -/
def run (j : Fin 3072) : Fin 3 := ⟨j.val / 1024, by omega⟩

/-- Where in its run a column lies. -/
def place (j : Fin 3072) : Fin 1024 := ⟨j.val % 1024, by omega⟩

/-- The column at a place of a run. -/
def col (i : Fin 3) (d : Fin 1024) : Fin 3072 := ⟨i.val * 1024 + d.val, by omega⟩

theorem run_col (i : Fin 3) (d : Fin 1024) : run (col i d) = i := Fin.ext (by show (i.val * 1024 + d.val) / 1024 = i.val; omega)

theorem place_col (i : Fin 3) (d : Fin 1024) : place (col i d) = d := Fin.ext (by show (i.val * 1024 + d.val) % 1024 = d.val; omega)

/-- Every column is at its place of its run. -/
theorem col_run (j : Fin 3072) : col (run j) (place j) = j := Fin.ext (by show j.val / 1024 * 1024 + j.val % 1024 = j.val; omega)

/-- The first, the second or the third of three rows. -/
def fed (i : Fin 3) (a b c : Fin 512 → EReal) (k : Fin 512) : EReal := if _h : i.val < 1 then a k else if _h : i.val - 1 < 1 then b k else c k

/-- The gradient of a merged row. -/
def pulled (x : Fin 1024 → EReal) (o : Mat 1024 1024) (d : Fin 1024) : EReal := ∑ k : Fin 1024, x k * o (ix2 d k)

/-- The gate at a column. -/
def opened (p b : Fin 3072 → EReal) (j : Fin 3072) : EReal := Norm.sigmoid (p j + b j)

/-- The projected branches at a column. -/
def projected (ya yb yc : Fin 512 → EReal) (w : Fin 3 → Fin 512 → Fin 1024 → EReal) (j : Fin 3072) : EReal :=
  ∑ k : Fin 512, w (run j) k (place j) * fed (run j) ya yb yc k

/-- The gradient of the projected branches at a column. -/
def passed (x : Fin 1024 → EReal) (p b : Fin 3072 → EReal) (o : Mat 1024 1024) (j : Fin 3072) : EReal := pulled x o (place j) * opened p b j

/-- The gradient of what the gates' sigmoid is taken of, at a column. -/
def opening (x : Fin 1024 → EReal) (p : Fin 3072 → EReal) (ya yb yc : Fin 512 → EReal) (b : Fin 3072 → EReal) (w : Fin 3 → Fin 512 → Fin 1024 → EReal)
    (o : Mat 1024 1024) (j : Fin 3072) : EReal := pulled x o (place j) * projected ya yb yc w j * (opened p b j * (1 - opened p b j))

/-- The gradient of a branch. -/
def fedBack (i : Fin 3) (x : Fin 1024 → EReal) (p b : Fin 3072 → EReal) (w : Fin 3 → Fin 512 → Fin 1024 → EReal) (o : Mat 1024 1024) (k : Fin 512) : EReal :=
  ∑ d : Fin 1024, w i k d * (pulled x o d * gate p b i d)

/-- The gradient of the gates at a place of a run. -/
theorem opening_col (x : Fin 1024 → EReal) (p : Fin 3072 → EReal) (ya yb yc : Fin 512 → EReal) (b : Fin 3072 → EReal) (w : Fin 3 → Fin 512 → Fin 1024 → EReal)
    (o : Mat 1024 1024) (i : Fin 3) (d : Fin 1024) : opening x p ya yb yc b w o (col i d)
    = pulled x o d * branch (fed i ya yb yc) (w i) d * gate p b i d * (1 - gate p b i d) := by
  unfold opening projected
  rw [run_col, place_col, mul_assoc (pulled x o d * branch (fed i ya yb yc) (w i) d)]
  rfl

/-- The gradient of the projected branches at a place of a run. -/
theorem passed_col (x : Fin 1024 → EReal) (p b : Fin 3072 → EReal) (o : Mat 1024 1024) (i : Fin 3) (d : Fin 1024) : passed x p b o (col i d)
    = pulled x o d * gate p b i d := by
  unfold passed
  rw [place_col]
  rfl

section Results

variable (x : Mat 8192 1024) (p : Mat 8192 7168) (ya yb yc : Mat 8192 512) (b : Mat 1 3072) (w : (⟨3, ![3, 512, 1024]⟩ : Shape).Idx → EReal) (o : Mat 1024 1024)

/-- The gates' gradient. -/
def toGates : Mat 8192 3072 := fun i => opening (row x (i 0)) (gates p (i 0)) (row ya (i 0)) (row yb (i 0)) (row yc (i 0)) (row b 0) (weights w) o (i 1)

/-- A branch's gradient. -/
def toBranch (n : Fin 3) : Mat 8192 512 := fun i => fedBack n (row x (i 0)) (gates p (i 0)) (row b 0) (weights w) o (i 1)

/-- The projected branches' gradient. -/
def toProjected : Mat 8192 3072 := fun i => passed (row x (i 0)) (gates p (i 0)) (row b 0) o (i 1)

/-- The merged rows. -/
def mergedRows : Mat 8192 1024 := fun i => blend (gates p (i 0)) (row b 0) (row ya (i 0)) (row yb (i 0)) (row yc (i 0)) (weights w) (i 1)

/-- The gates' bias' gradient. -/
def toBias : Mat 1 3072 := fun i => ∑ r : Fin 8192, opening (row x r) (gates p r) (row ya r) (row yb r) (row yc r) (row b 0) (weights w) o (i 1)

end Results

section Points
open Cert.MergeBackwardIdeal Cert.MergeBackwardIdeal.Gen Cert.MergeBackwardIdeal.Value

variable (x : Vec Ideal S256x1024 .f32) (p : Vec Ideal S256x3072 .f32) (ya yb yc : Vec Ideal S256x512 .f32) (b : Vec Ideal S1x3072 .f32)
  (w0 w1 w2 : Vec Ideal S1x512x1024 .bf16) (o : Vec Ideal S1024x1024 .bf16) (w : Fin 3 → Fin 512 → Fin 1024 → EReal)
  (h0 : ∀ k d, w0 (ix3 0 k d) = w 0 k d) (h1 : ∀ k d, w1 (ix3 0 k d) = w 1 k d) (h2 : ∀ k d, w2 (ix3 0 k d) = w 2 k d) (q : Fin 256)

/-- The gates, entry by entry. -/
theorem opened_entry (j : Fin 3072) : k0_pay9 p b (ix2 q j) = opened (row p q) (row b 0) j := by
  pointwise [k0_pay9]
  simp only [zero_sub]
  rfl

/-- The merged rows' gradient, entry by entry. -/
theorem pulled_entry (d : Fin 1024) : k0_pay10 x o (ix2 q d) = pulled (row x q) o d := by
  pointwise [k0_pay10]
  rfl

/-- The first branch's gate. -/
theorem gate_entry_0 (d : Fin 1024) : k0_pay11 p b (ix2 q d) = gate (row p q) (row b 0) 0 d := by
  pointwise [k0_pay11]
  rw [opened_entry]
  unfold gate
  rw [lane_zero, lane_zero]
  rfl

/-- The second's. -/
theorem gate_entry_1 (d : Fin 1024) : k0_pay18 (k0_pay9 p b) (ix2 q d) = gate (row p q) (row b 0) 1 d := by
  pointwise [k0_pay18]
  rw [opened_entry]
  rfl

/-- The third's. -/
theorem gate_entry_2 (d : Fin 1024) : k0_pay24 (k0_pay9 p b) (ix2 q d) = gate (row p q) (row b 0) 2 d := by
  pointwise [k0_pay24]
  rw [opened_entry]
  rfl

include h0 in
/-- The first branch's projection. -/
theorem branch_entry_0 (d : Fin 1024) : k0_pay12 ya w0 (ix2 q d) = branch (row ya q) (w 0) d := by
  pointwise [k0_pay12]
  simp only [h0]
  exact branch_comm _ _ _

include h1 in
/-- The second's. -/
theorem branch_entry_1 (d : Fin 1024) : k0_pay19 yb w1 (ix2 q d) = branch (row yb q) (w 1) d := by
  pointwise [k0_pay19]
  simp only [h1]
  exact branch_comm _ _ _

include h2 in
/-- The third's. -/
theorem branch_entry_2 (d : Fin 1024) : k0_pay25 yc w2 (ix2 q d) = branch (row yc q) (w 2) d := by
  pointwise [k0_pay25]
  simp only [h2]
  exact branch_comm _ _ _

/-- Three blocks side by side, in the first. -/
theorem side_0 (u e f g l : FVec Ideal S256x1024 .f32) (d : Fin 1024) : k0_pay4 (F := Ideal) u e f g l (ix2 q (col 0 d)) = e (ix2 q d) := by
  have hd := d.isLt
  pointwise [k0_pay4]
  rw [dif_pos (show (col 0 d).val < 1024 by show 0 * 1024 + d.val < 1024; omega)]
  exact congrArg (fun k => e (ix2 q k)) (Fin.ext (show 0 * 1024 + d.val = d.val by omega))

/-- In the second. -/
theorem side_1 (u e f g l : FVec Ideal S256x1024 .f32) (d : Fin 1024) : k0_pay4 (F := Ideal) u e f g l (ix2 q (col 1 d)) = f (ix2 q d) := by
  have hd := d.isLt
  pointwise [k0_pay4]
  rw [dif_neg (show ¬(col 1 d).val < 1024 by show ¬1 * 1024 + d.val < 1024; omega), dif_pos (show (col 1 d).val - 1024 < 1024 by show 1 * 1024 + d.val - 1024 < 1024; omega)]
  exact congrArg (fun k => f (ix2 q k)) (Fin.ext (show 1 * 1024 + d.val - 1024 = d.val by omega))

/-- In the third. -/
theorem side_2 (u e f g l : FVec Ideal S256x1024 .f32) (d : Fin 1024) : k0_pay4 (F := Ideal) u e f g l (ix2 q (col 2 d))
    = u (ix2 q d) * l (ix2 q d) * g (ix2 q d) * (1 - g (ix2 q d)) := by
  have hd := d.isLt
  pointwise [k0_pay4]
  rw [dif_neg (show ¬(col 2 d).val < 1024 by show ¬2 * 1024 + d.val < 1024; omega), dif_neg (show ¬(col 2 d).val - 1024 < 1024 by show ¬2 * 1024 + d.val - 1024 < 1024; omega)]
  exact congrArg (fun k => u (ix2 q k) * l (ix2 q k) * g (ix2 q k) * (1 - g (ix2 q k))) (Fin.ext (show 2 * 1024 + d.val - 1024 - 1024 = d.val by omega))

include h0 h1 h2 in
/-- The gates' gradient, entry by entry. -/
theorem opening_entry (j : Fin 3072) :
    k0_pay4 (k0_pay10 x o) (k0_pay14 p b x o ya w0) (k0_pay20 (k0_pay9 p b) (k0_pay10 x o) yb w1) (k0_pay24 (k0_pay9 p b)) (k0_pay25 yc w2) (ix2 q j)
    = opening (row x q) (row p q) (row ya q) (row yb q) (row yc q) (row b 0) w o j := by
  rw [← col_run j]
  generalize place j = d
  generalize run j = i
  rw [opening_col]
  match i with
  | 0 =>
    rw [side_0]
    pointwise [k0_pay14]
    rw [pulled_entry, branch_entry_0 ya w0 w h0, gate_entry_0]
    rfl
  | 1 =>
    rw [side_1]
    pointwise [k0_pay20]
    rw [pulled_entry, branch_entry_1 yb w1 w h1, gate_entry_1]
    rfl
  | 2 =>
    rw [side_2, pulled_entry, branch_entry_2 yc w2 w h2, gate_entry_2]
    rfl

include h0 h1 h2 in
/-- The same, rounded. -/
theorem rounded_entry (j : Fin 3072) :
    k0_pay5 (k0_pay10 x o) (k0_pay14 p b x o ya w0) (k0_pay20 (k0_pay9 p b) (k0_pay10 x o) yb w1) (k0_pay24 (k0_pay9 p b)) (k0_pay25 yc w2) (ix2 q j)
    = opening (row x q) (row p q) (row ya q) (row yb q) (row yc q) (row b 0) w o j := by
  rw [← opening_entry x p ya yb yc b w0 w1 w2 o w h0 h1 h2 q j]
  pointwise [k0_pay5]

include h0 h1 h2 in
/-- Its sum over the block's rows. -/
theorem summed_entry (i : Fin 1) (j : Fin 3072) :
    k0_pay7 (k0_pay10 x o) (k0_pay14 p b x o ya w0) (k0_pay20 (k0_pay9 p b) (k0_pay10 x o) yb w1) (k0_pay24 (k0_pay9 p b)) (k0_pay25 yc w2) (ix2 i j)
    = ∑ q : Fin 256, opening (row x q) (row p q) (row ya q) (row yb q) (row yc q) (row b 0) w o j := by
  pointwise [k0_pay7]
  exact Finset.sum_congr rfl fun q _ => opening_entry x p ya yb yc b w0 w1 w2 o w h0 h1 h2 q j

include h0 h1 h2 in
/-- Added onto what was there. -/
theorem added_entry (s : Vec Ideal S1x3072 .f32) (i : Fin 1) (j : Fin 3072) :
    k0_pay8 (k0_pay10 x o) (k0_pay14 p b x o ya w0) (k0_pay20 (k0_pay9 p b) (k0_pay10 x o) yb w1) (k0_pay24 (k0_pay9 p b)) (k0_pay25 yc w2) s (ix2 i j)
    = s (ix2 i j) + ∑ q : Fin 256, opening (row x q) (row p q) (row ya q) (row yb q) (row yc q) (row b 0) w o j := by
  rw [← summed_entry x p ya yb yc b w0 w1 w2 o w h0 h1 h2 i j]
  pointwise [k0_pay8]

include h0 in
/-- The first branch's gradient, entry by entry. -/
theorem back_entry_0 (k : Fin 512) : k0_pay17 (k0_pay15 p b x o) w0 (ix2 q k) = fedBack 0 (row x q) (row p q) (row b 0) w o k := by
  pointwise [k0_pay17, k0_pay15]
  refine Finset.sum_congr rfl fun d _ => ?_
  rw [pulled_entry, gate_entry_0, h0, mul_comm]

include h1 in
/-- The second's. -/
theorem back_entry_1 (k : Fin 512) : k0_pay23 (k0_pay9 p b) (k0_pay10 x o) w1 (ix2 q k) = fedBack 1 (row x q) (row p q) (row b 0) w o k := by
  pointwise [k0_pay23, k0_pay21]
  refine Finset.sum_congr rfl fun d _ => ?_
  rw [pulled_entry, gate_entry_1, h1, mul_comm]

include h2 in
/-- The third's. -/
theorem back_entry_2 (k : Fin 512) : k0_pay3 (k0_pay10 x o) (k0_pay24 (k0_pay9 p b)) w2 (ix2 q k) = fedBack 2 (row x q) (row p q) (row b 0) w o k := by
  pointwise [k0_pay3, k0_pay1]
  refine Finset.sum_congr rfl fun d _ => ?_
  rw [pulled_entry, gate_entry_2, h2, mul_comm]

/-- The first run of the projected branches' gradient. -/
theorem passed_entry_0 (d : Fin 1024) : k0_pay16 p b x o (ix2 q d) = passed (row x q) (row p q) (row b 0) o (col 0 d) := by
  pointwise [k0_pay16, k0_pay15]
  rw [passed_col, pulled_entry, gate_entry_0]

/-- The second. -/
theorem passed_entry_1 (d : Fin 1024) : k0_pay22 (k0_pay9 p b) (k0_pay10 x o) (ix2 q d) = passed (row x q) (row p q) (row b 0) o (col 1 d) := by
  pointwise [k0_pay22, k0_pay21]
  rw [passed_col, pulled_entry, gate_entry_1]

/-- The third. -/
theorem passed_entry_2 (d : Fin 1024) : k0_pay2 (k0_pay10 x o) (k0_pay24 (k0_pay9 p b)) (ix2 q d) = passed (row x q) (row p q) (row b 0) o (col 2 d) := by
  pointwise [k0_pay2, k0_pay1]
  rw [passed_col, pulled_entry, gate_entry_2]

include h0 h1 h2 in
/-- The merged rows, entry by entry. -/
theorem merged_entry (d : Fin 1024) : k0_pay6 (k0_pay26 (k0_pay9 p b) (k0_pay13 p b ya w0) yb w1 yc w2) (ix2 q d)
    = blend (row p q) (row b 0) (row ya q) (row yb q) (row yc q) w d := by
  pointwise [k0_pay6, k0_pay26, k0_pay13]
  rw [gate_entry_0, gate_entry_1, gate_entry_2, branch_entry_0 ya w0 w h0, branch_entry_1 yb w1 w h1, branch_entry_2 yc w2 w h2]
  rfl

end Points

section Arrays
open Cert.MergeBackwardIdeal Cert.MergeBackwardIdeal.Gen Cert.MergeBackwardIdeal.Value

variable (m : (ℓ : Loc nD τ sig) → Buf (Elt Ideal) ℓ) (c : Dev nD)

/-- Where the blocks lie at a grid point. -/
theorem places (t : Fin cfg0.N) : win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0, 0]
    ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0, 0]
    ∧ win0_7.index t = ![0, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0]) t

/-- The number of grid points. -/
theorem points (t : Fin cfg0.N) : t.val < 32 := t.isLt.trans_eq N_0

/-- A row of a grid point's block of rows. -/
theorem block_x (t : Fin cfg0.N) (q : Fin 256) (h : t.val * 256 + q.val < 8192) :
    row (iblk m c 0 t) q = row (m ((c : Thread nD τ).loc main_arg0)) ⟨t.val * 256 + q.val, h⟩ := by
  obtain ⟨p0, p1, p2, p3, p4, p5, p6, p7, p8, p9, p10, p11, p12, p13⟩ := places t
  funext k
  show iblk m c 0 t (ix2 q k) = m ((c : Thread nD τ).loc main_arg0) (ix2 _ k)
  blk_ext [iblk, V, p0]

/-- A row of a grid point's block of gates. -/
theorem block_p (t : Fin cfg0.N) (q : Fin 256) (h : t.val * 256 + q.val < 8192) :
    row (X0_1 m c t) q = gates (m ((c : Thread nD τ).loc main_arg1)) ⟨t.val * 256 + q.val, h⟩ := by
  obtain ⟨p0, p1, p2, p3, p4, p5, p6, p7, p8, p9, p10, p11, p12, p13⟩ := places t
  funext k
  show X0_1 m c t (ix2 q k) = m ((c : Thread nD τ).loc main_arg1) (ix2 _ ⟨k.val, _⟩)
  unfold X0_1 Pipeline.Window.fill
  rw [dif_pos (moved0_1 t _)]
  blk_ext [iblk, V, p1]

/-- A row of a grid point's block of the first branch. -/
theorem block_ya (t : Fin cfg0.N) (q : Fin 256) (h : t.val * 256 + q.val < 8192) :
    row (iblk m c 2 t) q = row (m ((c : Thread nD τ).loc main_arg2)) ⟨t.val * 256 + q.val, h⟩ := by
  obtain ⟨p0, p1, p2, p3, p4, p5, p6, p7, p8, p9, p10, p11, p12, p13⟩ := places t
  funext k
  show iblk m c 2 t (ix2 q k) = m ((c : Thread nD τ).loc main_arg2) (ix2 _ k)
  blk_ext [iblk, V, p2]

/-- Of the second. -/
theorem block_yb (t : Fin cfg0.N) (q : Fin 256) (h : t.val * 256 + q.val < 8192) :
    row (iblk m c 3 t) q = row (m ((c : Thread nD τ).loc main_arg3)) ⟨t.val * 256 + q.val, h⟩ := by
  obtain ⟨p0, p1, p2, p3, p4, p5, p6, p7, p8, p9, p10, p11, p12, p13⟩ := places t
  funext k
  show iblk m c 3 t (ix2 q k) = m ((c : Thread nD τ).loc main_arg3) (ix2 _ k)
  blk_ext [iblk, V, p3]

/-- Of the third. -/
theorem block_yc (t : Fin cfg0.N) (q : Fin 256) (h : t.val * 256 + q.val < 8192) :
    row (iblk m c 4 t) q = row (m ((c : Thread nD τ).loc main_arg4)) ⟨t.val * 256 + q.val, h⟩ := by
  obtain ⟨p0, p1, p2, p3, p4, p5, p6, p7, p8, p9, p10, p11, p12, p13⟩ := places t
  funext k
  show iblk m c 4 t (ix2 q k) = m ((c : Thread nD τ).loc main_arg4) (ix2 _ k)
  blk_ext [iblk, V, p4]

/-- The gates' bias is whole at every grid point. -/
theorem block_b (t : Fin cfg0.N) : row (iblk m c 5 t) 0 = row (m ((c : Thread nD τ).loc main_arg5)) 0 := by
  obtain ⟨p0, p1, p2, p3, p4, p5, p6, p7, p8, p9, p10, p11, p12, p13⟩ := places t
  funext k
  show iblk m c 5 t (ix2 0 k) = m ((c : Thread nD τ).loc main_arg5) (ix2 0 k)
  blk_ext [iblk, V, p5]

/-- So are the branches' weights. -/
theorem block_w (t : Fin cfg0.N) (i : Fin 3) (k : Fin 512) (d : Fin 1024) : iblk m c 6 t (ix3 i k d) = weights (m ((c : Thread nD τ).loc main_arg6)) i k d := by
  obtain ⟨p0, p1, p2, p3, p4, p5, p6, p7, p8, p9, p10, p11, p12, p13⟩ := places t
  show iblk m c 6 t (ix3 i k d) = m ((c : Thread nD τ).loc main_arg6) (ix3 i k d)
  blk_ext [iblk, V, p6]

/-- The first branch's weights, as loaded. -/
theorem load_0 (t : Fin cfg0.N) (k : Fin 512) (d : Fin 1024) :
    View.ld (iblk m c 6 t) (Rect.unit ![0, 0, 0] ![1, 512, 1024] inb_S3x512x1024_S1x512x1024_0_0_0) (ix3 0 k d) = weights (m ((c : Thread nD τ).loc main_arg6)) 0 k d :=
  (View.ld_unit_apply_of _ _ _ _ _ (ix3 0 k d) (by intro a; fin_cases a <;> simp [ix3])).trans (block_w m c t 0 k d)

/-- The second's. -/
theorem load_1 (t : Fin cfg0.N) (k : Fin 512) (d : Fin 1024) :
    View.ld (iblk m c 6 t) (Rect.unit ![1, 0, 0] ![1, 512, 1024] inb_S3x512x1024_S1x512x1024_1_0_0) (ix3 0 k d) = weights (m ((c : Thread nD τ).loc main_arg6)) 1 k d :=
  (View.ld_unit_apply_of _ _ _ _ _ (ix3 1 k d) (by intro a; fin_cases a <;> simp [ix3])).trans (block_w m c t 1 k d)

/-- The third's. -/
theorem load_2 (t : Fin cfg0.N) (k : Fin 512) (d : Fin 1024) :
    View.ld (iblk m c 6 t) (Rect.unit ![2, 0, 0] ![1, 512, 1024] inb_S3x512x1024_S1x512x1024_2_0_0) (ix3 0 k d) = weights (m ((c : Thread nD τ).loc main_arg6)) 2 k d :=
  (View.ld_unit_apply_of _ _ _ _ _ (ix3 2 k d) (by intro a; fin_cases a <;> simp [ix3])).trans (block_w m c t 2 k d)

/-- And the out-projection's. -/
theorem block_o (t : Fin cfg0.N) : iblk m c 7 t = m ((c : Thread nD τ).loc main_arg7) := by
  obtain ⟨p0, p1, p2, p3, p4, p5, p6, p7, p8, p9, p10, p11, p12, p13⟩ := places t
  funext j
  obtain ⟨d, k, rfl⟩ : ∃ d k : Fin 1024, j = ix2 d k := ⟨j 0, j 1, eq_ix2 j⟩
  show iblk m c 7 t (ix2 d k) = m ((c : Thread nD τ).loc main_arg7) (ix2 d k)
  blk_ext [iblk, V, p7]

/-- What a grid point writes of the gates' gradient. -/
theorem point_gates (t : Fin cfg0.N) (q : Fin 256) (j : Fin 3072) : (outsAt0 m c t.val t.isLt).1 (ix2 q j)
    = opening (row (iblk m c 0 t) q) (row (X0_1 m c t) q) (row (iblk m c 2 t) q) (row (iblk m c 3 t) q) (row (iblk m c 4 t) q) (row (iblk m c 5 t) 0) (weights (m ((c : Thread nD τ).loc main_arg6))) (iblk m c 7 t) j := by
  have hN := points t
  by_cases h : t.val % 32 = 0
  · rw [outsAt0_A m c t h (by omega)]
    frame_out
    exact rounded_entry (iblk m c 0 t) (X0_1 m c t) (iblk m c 2 t) (iblk m c 3 t) (iblk m c 4 t) (iblk m c 5 t) _ _ _ (iblk m c 7 t) _ (load_0 m c t) (load_1 m c t) (load_2 m c t) q j
  · rw [outsAt0_B m c t h (by omega)]
    frame_out
    exact rounded_entry (iblk m c 0 t) (X0_1 m c t) (iblk m c 2 t) (iblk m c 3 t) (iblk m c 4 t) (iblk m c 5 t) _ _ _ (iblk m c 7 t) _ (load_0 m c t) (load_1 m c t) (load_2 m c t) q j

/-- Of the first branch's. -/
theorem point_branch_0 (t : Fin cfg0.N) (q : Fin 256) (k : Fin 512) : (outsAt0 m c t.val t.isLt).2.1 (ix2 q k)
    = fedBack 0 (row (iblk m c 0 t) q) (row (X0_1 m c t) q) (row (iblk m c 5 t) 0) (weights (m ((c : Thread nD τ).loc main_arg6))) (iblk m c 7 t) k := by
  have hN := points t
  by_cases h : t.val % 32 = 0
  · rw [outsAt0_A m c t h (by omega)]
    frame_out
    exact back_entry_0 (iblk m c 0 t) (X0_1 m c t) (iblk m c 5 t) _ (iblk m c 7 t) _ (load_0 m c t) q k
  · rw [outsAt0_B m c t h (by omega)]
    frame_out
    exact back_entry_0 (iblk m c 0 t) (X0_1 m c t) (iblk m c 5 t) _ (iblk m c 7 t) _ (load_0 m c t) q k

/-- Of the second branch's. -/
theorem point_branch_1 (t : Fin cfg0.N) (q : Fin 256) (k : Fin 512) : (outsAt0 m c t.val t.isLt).2.2.1 (ix2 q k)
    = fedBack 1 (row (iblk m c 0 t) q) (row (X0_1 m c t) q) (row (iblk m c 5 t) 0) (weights (m ((c : Thread nD τ).loc main_arg6))) (iblk m c 7 t) k := by
  have hN := points t
  by_cases h : t.val % 32 = 0
  · rw [outsAt0_A m c t h (by omega)]
    frame_out
    exact back_entry_1 (iblk m c 0 t) (X0_1 m c t) (iblk m c 5 t) _ (iblk m c 7 t) _ (load_1 m c t) q k
  · rw [outsAt0_B m c t h (by omega)]
    frame_out
    exact back_entry_1 (iblk m c 0 t) (X0_1 m c t) (iblk m c 5 t) _ (iblk m c 7 t) _ (load_1 m c t) q k

/-- Of the third branch's. -/
theorem point_branch_2 (t : Fin cfg0.N) (q : Fin 256) (k : Fin 512) : (outsAt0 m c t.val t.isLt).2.2.2.1 (ix2 q k)
    = fedBack 2 (row (iblk m c 0 t) q) (row (X0_1 m c t) q) (row (iblk m c 5 t) 0) (weights (m ((c : Thread nD τ).loc main_arg6))) (iblk m c 7 t) k := by
  have hN := points t
  by_cases h : t.val % 32 = 0
  · rw [outsAt0_A m c t h (by omega)]
    frame_out
    exact back_entry_2 (iblk m c 0 t) (X0_1 m c t) (iblk m c 5 t) _ (iblk m c 7 t) _ (load_2 m c t) q k
  · rw [outsAt0_B m c t h (by omega)]
    frame_out
    exact back_entry_2 (iblk m c 0 t) (X0_1 m c t) (iblk m c 5 t) _ (iblk m c 7 t) _ (load_2 m c t) q k

/-- Of the projected branches', in three runs of columns. -/
theorem point_projected (t : Fin cfg0.N) (q : Fin 256) (j : Fin 3072) : (outsAt0 m c t.val t.isLt).2.2.2.2.1 (ix2 q j)
    = passed (row (iblk m c 0 t) q) (row (X0_1 m c t) q) (row (iblk m c 5 t) 0) (iblk m c 7 t) j := by
  have hN := points t
  by_cases h : t.val % 32 = 0
  · rw [outsAt0_A m c t h (by omega)]
    frame_out
    canon_tiles y hy
    · obtain ⟨a, d, rfl⟩ : ∃ (a : Fin 256) (d : Fin 1024), y = ix2 a d := ⟨y 0, y 1, eq_ix2 y⟩
      obtain rfl : q = a := Fin.ext hy0
      obtain rfl : j = col 2 d := Fin.ext hy1
      exact passed_entry_2 (iblk m c 0 t) (X0_1 m c t) (iblk m c 5 t) (iblk m c 7 t) q d
    · obtain ⟨a, d, rfl⟩ : ∃ (a : Fin 256) (d : Fin 1024), y = ix2 a d := ⟨y 0, y 1, eq_ix2 y⟩
      obtain rfl : q = a := Fin.ext hy0
      obtain rfl : j = col 1 d := Fin.ext hy1
      exact passed_entry_1 (iblk m c 0 t) (X0_1 m c t) (iblk m c 5 t) (iblk m c 7 t) q d
    · obtain ⟨a, d, rfl⟩ : ∃ (a : Fin 256) (d : Fin 1024), y = ix2 a d := ⟨y 0, y 1, eq_ix2 y⟩
      obtain rfl : q = a := Fin.ext hy0
      obtain rfl : j = col 0 d := Fin.ext (hy1.trans (show d.val = 0 * 1024 + d.val by omega))
      exact passed_entry_0 (iblk m c 0 t) (X0_1 m c t) (iblk m c 5 t) (iblk m c 7 t) q d
  · rw [outsAt0_B m c t h (by omega)]
    frame_out
    canon_tiles y hy
    · obtain ⟨a, d, rfl⟩ : ∃ (a : Fin 256) (d : Fin 1024), y = ix2 a d := ⟨y 0, y 1, eq_ix2 y⟩
      obtain rfl : q = a := Fin.ext hy0
      obtain rfl : j = col 2 d := Fin.ext hy1
      exact passed_entry_2 (iblk m c 0 t) (X0_1 m c t) (iblk m c 5 t) (iblk m c 7 t) q d
    · obtain ⟨a, d, rfl⟩ : ∃ (a : Fin 256) (d : Fin 1024), y = ix2 a d := ⟨y 0, y 1, eq_ix2 y⟩
      obtain rfl : q = a := Fin.ext hy0
      obtain rfl : j = col 1 d := Fin.ext hy1
      exact passed_entry_1 (iblk m c 0 t) (X0_1 m c t) (iblk m c 5 t) (iblk m c 7 t) q d
    · obtain ⟨a, d, rfl⟩ : ∃ (a : Fin 256) (d : Fin 1024), y = ix2 a d := ⟨y 0, y 1, eq_ix2 y⟩
      obtain rfl : q = a := Fin.ext hy0
      obtain rfl : j = col 0 d := Fin.ext (hy1.trans (show d.val = 0 * 1024 + d.val by omega))
      exact passed_entry_0 (iblk m c 0 t) (X0_1 m c t) (iblk m c 5 t) (iblk m c 7 t) q d

/-- Of the merged rows. -/
theorem point_merged (t : Fin cfg0.N) (q : Fin 256) (k : Fin 1024) : (outsAt0 m c t.val t.isLt).2.2.2.2.2.1 (ix2 q k)
    = blend (row (X0_1 m c t) q) (row (iblk m c 5 t) 0) (row (iblk m c 2 t) q) (row (iblk m c 3 t) q) (row (iblk m c 4 t) q) (weights (m ((c : Thread nD τ).loc main_arg6))) k := by
  have hN := points t
  by_cases h : t.val % 32 = 0
  · rw [outsAt0_A m c t h (by omega)]
    frame_out
    exact merged_entry (X0_1 m c t) (iblk m c 2 t) (iblk m c 3 t) (iblk m c 4 t) (iblk m c 5 t) _ _ _ _ (load_0 m c t) (load_1 m c t) (load_2 m c t) q k
  · rw [outsAt0_B m c t h (by omega)]
    frame_out
    exact merged_entry (X0_1 m c t) (iblk m c 2 t) (iblk m c 3 t) (iblk m c 4 t) (iblk m c 5 t) _ _ _ _ (load_0 m c t) (load_1 m c t) (load_2 m c t) q k

/-- The gates' gradient after the call. -/
theorem gates_result : (dats m 0 c).arrAt 8 cfg0.N = toGates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  obtain ⟨p0, p1, p2, p3, p4, p5, p6, p7, p8, p9, p10, p11, p12, p13⟩ := places t
  have hN := points t
  blk_simp
  rw [after0_8]
  obtain ⟨q, k, rfl⟩ : ∃ (q : Fin 256) (k : Fin 3072), y = ix2 q k := ⟨y 0, y 1, eq_ix2 y⟩
  have hq := q.isLt
  have h : t.val * 256 + q.val < 8192 := by omega
  have e : (win0_8.blk t).view.emb (ix2 q k) = ix2 (⟨t.val * 256 + q.val, h⟩ : Fin 8192) k := by
    blk_ext [p8]
  rw [e, point_gates m c t q k, block_x m c t q h, block_p m c t q h, block_ya m c t q h, block_yb m c t q h, block_yc m c t q h, block_b m c t, block_o m c t]
  rfl

/-- The first branch's gradient after the call. -/
theorem branch_result_0 : (dats m 0 c).arrAt 9 cfg0.N = toBranch (m ((c : Thread nD τ).loc main_arg0)) (m ((c : Thread nD τ).loc main_arg1)) (m ((c : Thread nD τ).loc main_arg5)) (m ((c : Thread nD τ).loc main_arg6)) (m ((c : Thread nD τ).loc main_arg7)) 0 := by
  refine (dats m 0 c).arrAt_eq_of_covers 9 _ (by decide +kernel) fun t hf y => ?_
  obtain ⟨p0, p1, p2, p3, p4, p5, p6, p7, p8, p9, p10, p11, p12, p13⟩ := places t
  have hN := points t
  blk_simp
  rw [after0_9]
  obtain ⟨q, k, rfl⟩ : ∃ (q : Fin 256) (k : Fin 512), y = ix2 q k := ⟨y 0, y 1, eq_ix2 y⟩
  have hq := q.isLt
  have h : t.val * 256 + q.val < 8192 := by omega
  have e : (win0_9.blk t).view.emb (ix2 q k) = ix2 (⟨t.val * 256 + q.val, h⟩ : Fin 8192) k := by
    blk_ext [p9]
  rw [e, point_branch_0 m c t q k, block_x m c t q h, block_p m c t q h, block_b m c t, block_o m c t]
  rfl

/-- The second branch's gradient after the call. -/
theorem branch_result_1 : (dats m 0 c).arrAt 10 cfg0.N = toBranch (m ((c : Thread nD τ).loc main_arg0)) (m ((c : Thread nD τ).loc main_arg1)) (m ((c : Thread nD τ).loc main_arg5)) (m ((c : Thread nD τ).loc main_arg6)) (m ((c : Thread nD τ).loc main_arg7)) 1 := by
  refine (dats m 0 c).arrAt_eq_of_covers 10 _ (by decide +kernel) fun t hf y => ?_
  obtain ⟨p0, p1, p2, p3, p4, p5, p6, p7, p8, p9, p10, p11, p12, p13⟩ := places t
  have hN := points t
  blk_simp
  rw [after0_10]
  obtain ⟨q, k, rfl⟩ : ∃ (q : Fin 256) (k : Fin 512), y = ix2 q k := ⟨y 0, y 1, eq_ix2 y⟩
  have hq := q.isLt
  have h : t.val * 256 + q.val < 8192 := by omega
  have e : (win0_10.blk t).view.emb (ix2 q k) = ix2 (⟨t.val * 256 + q.val, h⟩ : Fin 8192) k := by
    blk_ext [p10]
  rw [e, point_branch_1 m c t q k, block_x m c t q h, block_p m c t q h, block_b m c t, block_o m c t]
  rfl

/-- The third branch's gradient after the call. -/
theorem branch_result_2 : (dats m 0 c).arrAt 11 cfg0.N = toBranch (m ((c : Thread nD τ).loc main_arg0)) (m ((c : Thread nD τ).loc main_arg1)) (m ((c : Thread nD τ).loc main_arg5)) (m ((c : Thread nD τ).loc main_arg6)) (m ((c : Thread nD τ).loc main_arg7)) 2 := by
  refine (dats m 0 c).arrAt_eq_of_covers 11 _ (by decide +kernel) fun t hf y => ?_
  obtain ⟨p0, p1, p2, p3, p4, p5, p6, p7, p8, p9, p10, p11, p12, p13⟩ := places t
  have hN := points t
  blk_simp
  rw [after0_11]
  obtain ⟨q, k, rfl⟩ : ∃ (q : Fin 256) (k : Fin 512), y = ix2 q k := ⟨y 0, y 1, eq_ix2 y⟩
  have hq := q.isLt
  have h : t.val * 256 + q.val < 8192 := by omega
  have e : (win0_11.blk t).view.emb (ix2 q k) = ix2 (⟨t.val * 256 + q.val, h⟩ : Fin 8192) k := by
    blk_ext [p11]
  rw [e, point_branch_2 m c t q k, block_x m c t q h, block_p m c t q h, block_b m c t, block_o m c t]
  rfl

/-- The projected branches' gradient after the call. -/
theorem projected_result : (dats m 0 c).arrAt 12 cfg0.N = toProjected (m ((c : Thread nD τ).loc main_arg0)) (m ((c : Thread nD τ).loc main_arg1)) (m ((c : Thread nD τ).loc main_arg5)) (m ((c : Thread nD τ).loc main_arg7)) := by
  refine (dats m 0 c).arrAt_eq_of_covers 12 _ (by decide +kernel) fun t hf y => ?_
  obtain ⟨p0, p1, p2, p3, p4, p5, p6, p7, p8, p9, p10, p11, p12, p13⟩ := places t
  have hN := points t
  blk_simp
  rw [after0_12]
  obtain ⟨q, k, rfl⟩ : ∃ (q : Fin 256) (k : Fin 3072), y = ix2 q k := ⟨y 0, y 1, eq_ix2 y⟩
  have hq := q.isLt
  have h : t.val * 256 + q.val < 8192 := by omega
  have e : (win0_12.blk t).view.emb (ix2 q k) = ix2 (⟨t.val * 256 + q.val, h⟩ : Fin 8192) k := by
    blk_ext [p12]
  rw [e, point_projected m c t q k, block_x m c t q h, block_p m c t q h, block_b m c t, block_o m c t]
  rfl

/-- The merged rows after the call. -/
theorem merged_result : (dats m 0 c).arrAt 13 cfg0.N = mergedRows (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t hf y => ?_
  obtain ⟨p0, p1, p2, p3, p4, p5, p6, p7, p8, p9, p10, p11, p12, p13⟩ := places t
  have hN := points t
  blk_simp
  rw [after0_13]
  obtain ⟨q, k, rfl⟩ : ∃ (q : Fin 256) (k : Fin 1024), y = ix2 q k := ⟨y 0, y 1, eq_ix2 y⟩
  have hq := q.isLt
  have h : t.val * 256 + q.val < 8192 := by omega
  have e : (win0_13.blk t).view.emb (ix2 q k) = ix2 (⟨t.val * 256 + q.val, h⟩ : Fin 8192) k := by
    blk_ext [p13]
  rw [e, point_merged m c t q k, block_p m c t q h, block_ya m c t q h, block_yb m c t q h, block_yc m c t q h, block_b m c t]
  rfl

/-- The part of the bias' gradient that a grid point adds. -/
def added (t : Fin cfg0.N) (i : S1x3072.Idx) : EReal := ∑ q : Fin 256, opening (row (iblk m c 0 t) q) (row (X0_1 m c t) q) (row (iblk m c 2 t) q) (row (iblk m c 3 t) q) (row (iblk m c 4 t) q) (row (iblk m c 5 t) 0) (weights (m ((c : Thread nD τ).loc main_arg6))) (iblk m c 7 t) (i 1)

/-- The last grid point. -/
def lastPoint : Fin cfg0.N := ⟨31, by rw [show cfg0.N = 32 from N_0]; decide⟩

/-- The bias' gradient after the call. -/
theorem bias_result : (dats m 0 c).arrAt 14 cfg0.N = toBias (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 14 lastPoint (by decide +kernel) _ fun i => ?_
  blk_simp
  rw [after0_14, Pipeline.eq_sum_fin_of_reset_step_apply_last (fun n h => (outsAt0 m c n h).2.2.2.2.2.2) 32 (fun _ => 0) (added m c)
    (fun t h i => by
      have hN := points t
      rw [outsAt0_A m c t h (by omega), zero_add]
      frame_out
      rw [eq_ix2 i]
      exact summed_entry (iblk m c 0 t) (X0_1 m c t) (iblk m c 2 t) (iblk m c 3 t) (iblk m c 4 t) (iblk m c 5 t) _ _ _ (iblk m c 7 t) _ (load_0 m c t) (load_1 m c t) (load_2 m c t) _ _)
    (fun t h i => by
      rw [outsAt0_B m c t h (by omega)]
      frame_out
      rw [eq_ix2 i]
      exact added_entry (iblk m c 0 t) (X0_1 m c t) (iblk m c 2 t) (iblk m c 3 t) (iblk m c 4 t) (iblk m c 5 t) _ _ _ (iblk m c 7 t) _ (load_0 m c t) (load_1 m c t) (load_2 m c t) _ _ _) (le_of_eq N_0) lastPoint rfl _, zero_add]
  unfold toBias
  refine Fin.sum_mul_add_congr (S := 32) fun t q h => ?_
  rw [block_x m c t q h, block_p m c t q h, block_ya m c t q h, block_yb m c t q h, block_yc m c t q h, block_b m c t, block_o m c t]

end Arrays

section Reference
open Cert.MergeBackwardReferenceIdeal Cert.MergeBackwardReferenceIdeal.Gen

variable (dx : Vec Ideal S8192x1024 .f32) (p : Vec Ideal S8192x7168 .f32) (ya yb yc : Vec Ideal S8192x512 .f32) (b : Vec Ideal S1x3072 .f32)
  (w : Vec Ideal S3x512x1024 .bf16) (o : Vec Ideal S1024x1024 .bf16)

/-- The reference's gates' gradient, entry by entry. -/
theorem reference_gates (r : Fin 8192) (j : Fin 3072) :
    (truncf (F := Ideal) .bf16 (shapeCast _ (mulf (F := Ideal) (mulf (F := Ideal) (broadcastInDim S8192x3x1024 ![0, 1, 2] bcast_S8192x1x1024_S8192x3x1024_0_1_2 (broadcastInDim S8192x1x1024 ![0, 2] bcast_S8192x1024_S8192x1x1024_0_2 (Host.dotGeneral (F := Ideal) (φ₁ := .f32) (φ₂ := .f32) dot_S8192x1024_S1024x1024_S8192x1024_1_0_0_1_n_n none dx (transpose S1024x1024 [1, 0] (extf (F := Ideal) .f32 o bitsLt_bf16_f32) transposes_S1024x1024_S1024x1024_1_0)))) (transpose S8192x3x1024 [2, 0, 1] (Host.dotGeneral (F := Ideal) (φ₁ := .f32) (φ₂ := .f32) dot_S3x512x1024_S8192x3x512_S3x1024x8192_1_2_2_0_0_1 none (extf (F := Ideal) .f32 w bitsLt_bf16_f32) ((concatenate S8192x3x512 1 [⟨S8192x1x512, ((broadcastInDim S8192x1x512 ![0, 2] bcast_S8192x512_S8192x1x512_0_2 ya) : (⟨S8192x1x512, .f32⟩ : BufTy).Contents (Elt Ideal))⟩, ⟨S8192x1x512, ((broadcastInDim S8192x1x512 ![0, 2] bcast_S8192x512_S8192x1x512_0_2 yb) : (⟨S8192x1x512, .f32⟩ : BufTy).Contents (Elt Ideal))⟩, ⟨S8192x1x512, ((broadcastInDim S8192x1x512 ![0, 2] bcast_S8192x512_S8192x1x512_0_2 yc) : (⟨S8192x1x512, .f32⟩ : BufTy).Contents (Elt Ideal))⟩] concatenates_S8192x1x512_S8192x1x512_S8192x1x512_S8192x3x512_d1 : (⟨S8192x3x512, .f32⟩ : BufTy).Contents (Elt Ideal)))) transposes_S3x1024x8192_S8192x3x1024_2_0_1)) (mulf (F := Ideal) (Host.divf (broadcastInDim S8192x3x1024 ![] bcast_S_S8192x3x1024 (constant S_ .f32 0x3F800000#32)) (addf (broadcastInDim S8192x3x1024 ![] bcast_S_S8192x3x1024 (constant S_ .f32 0x3F800000#32)) (Host.exp (Host.negf (addf (shapeCast _ (extractStridedSlice S8192x3072 ![0, 0] p slices_S8192x7168_S8192x3072_0_0) shapeCasts_S8192x3072_S8192x3x1024) (broadcastInDim S8192x3x1024 ![0, 1, 2] bcast_S1x3x1024_S8192x3x1024_0_1_2 (broadcastInDim S1x3x1024 ![1, 2] bcast_S3x1024_S1x3x1024_1_2 (shapeCast _ b shapeCasts_S1x3072_S3x1024)))))))) (subf (broadcastInDim S8192x3x1024 ![] bcast_S_S8192x3x1024 (constant S_ .f32 0x3F800000#32)) (Host.divf (broadcastInDim S8192x3x1024 ![] bcast_S_S8192x3x1024 (constant S_ .f32 0x3F800000#32)) (addf (broadcastInDim S8192x3x1024 ![] bcast_S_S8192x3x1024 (constant S_ .f32 0x3F800000#32)) (Host.exp (Host.negf (addf (shapeCast _ (extractStridedSlice S8192x3072 ![0, 0] p slices_S8192x7168_S8192x3072_0_0) shapeCasts_S8192x3072_S8192x3x1024) (broadcastInDim S8192x3x1024 ![0, 1, 2] bcast_S1x3x1024_S8192x3x1024_0_1_2 (broadcastInDim S1x3x1024 ![1, 2] bcast_S3x1024_S1x3x1024_1_2 (shapeCast _ b shapeCasts_S1x3072_S3x1024))))))))))) shapeCasts_S8192x3x1024_S8192x3072) bitsLt_bf16_f32 : Vec Ideal S8192x3072 .bf16) (ix2 r j)
    = toGates dx p ya yb yc b w o (ix2 r j) := by
  pointwise []
  rfl

/-- Its first branch's gradient. -/
theorem reference_branch_0 (r : Fin 8192) (k : Fin 512) :
    (shapeCast _ (extractStridedSlice S8192x1x512 ![0, 0, 0] (transpose S8192x3x512 [2, 0, 1] (Host.dotGeneral (F := Ideal) (φ₁ := .f32) (φ₂ := .f32) dot_S3x512x1024_S8192x3x1024_S3x512x8192_2_2_1_0_0_1 none (extf (F := Ideal) .f32 w bitsLt_bf16_f32) (mulf (F := Ideal) (broadcastInDim S8192x3x1024 ![0, 1, 2] bcast_S8192x1x1024_S8192x3x1024_0_1_2 (broadcastInDim S8192x1x1024 ![0, 2] bcast_S8192x1024_S8192x1x1024_0_2 (Host.dotGeneral (F := Ideal) (φ₁ := .f32) (φ₂ := .f32) dot_S8192x1024_S1024x1024_S8192x1024_1_0_0_1_n_n none dx (transpose S1024x1024 [1, 0] (extf (F := Ideal) .f32 o bitsLt_bf16_f32) transposes_S1024x1024_S1024x1024_1_0)))) (Host.divf (broadcastInDim S8192x3x1024 ![] bcast_S_S8192x3x1024 (constant S_ .f32 0x3F800000#32)) (addf (broadcastInDim S8192x3x1024 ![] bcast_S_S8192x3x1024 (constant S_ .f32 0x3F800000#32)) (Host.exp (Host.negf (addf (shapeCast _ (extractStridedSlice S8192x3072 ![0, 0] p slices_S8192x7168_S8192x3072_0_0) shapeCasts_S8192x3072_S8192x3x1024) (broadcastInDim S8192x3x1024 ![0, 1, 2] bcast_S1x3x1024_S8192x3x1024_0_1_2 (broadcastInDim S1x3x1024 ![1, 2] bcast_S3x1024_S1x3x1024_1_2 (shapeCast _ b shapeCasts_S1x3072_S3x1024)))))))))) transposes_S3x512x8192_S8192x3x512_2_0_1) slices_S8192x3x512_S8192x1x512_0_0_0) shapeCasts_S8192x1x512_S8192x512 : Vec Ideal S8192x512 .f32) (ix2 r k)
    = toBranch dx p b w o 0 (ix2 r k) := by
  pointwise []
  unfold toBranch fedBack
  refine Finset.sum_congr rfl fun d _ => ?_
  unfold gate
  rw [lane_zero, lane_zero]
  rfl

/-- Its second branch's gradient. -/
theorem reference_branch_1 (r : Fin 8192) (k : Fin 512) :
    (shapeCast _ (extractStridedSlice S8192x1x512 ![0, 1, 0] (transpose S8192x3x512 [2, 0, 1] (Host.dotGeneral (F := Ideal) (φ₁ := .f32) (φ₂ := .f32) dot_S3x512x1024_S8192x3x1024_S3x512x8192_2_2_1_0_0_1 none (extf (F := Ideal) .f32 w bitsLt_bf16_f32) (mulf (F := Ideal) (broadcastInDim S8192x3x1024 ![0, 1, 2] bcast_S8192x1x1024_S8192x3x1024_0_1_2 (broadcastInDim S8192x1x1024 ![0, 2] bcast_S8192x1024_S8192x1x1024_0_2 (Host.dotGeneral (F := Ideal) (φ₁ := .f32) (φ₂ := .f32) dot_S8192x1024_S1024x1024_S8192x1024_1_0_0_1_n_n none dx (transpose S1024x1024 [1, 0] (extf (F := Ideal) .f32 o bitsLt_bf16_f32) transposes_S1024x1024_S1024x1024_1_0)))) (Host.divf (broadcastInDim S8192x3x1024 ![] bcast_S_S8192x3x1024 (constant S_ .f32 0x3F800000#32)) (addf (broadcastInDim S8192x3x1024 ![] bcast_S_S8192x3x1024 (constant S_ .f32 0x3F800000#32)) (Host.exp (Host.negf (addf (shapeCast _ (extractStridedSlice S8192x3072 ![0, 0] p slices_S8192x7168_S8192x3072_0_0) shapeCasts_S8192x3072_S8192x3x1024) (broadcastInDim S8192x3x1024 ![0, 1, 2] bcast_S1x3x1024_S8192x3x1024_0_1_2 (broadcastInDim S1x3x1024 ![1, 2] bcast_S3x1024_S1x3x1024_1_2 (shapeCast _ b shapeCasts_S1x3072_S3x1024)))))))))) transposes_S3x512x8192_S8192x3x512_2_0_1) slices_S8192x3x512_S8192x1x512_0_1_0) shapeCasts_S8192x1x512_S8192x512 : Vec Ideal S8192x512 .f32) (ix2 r k)
    = toBranch dx p b w o 1 (ix2 r k) := by
  pointwise []
  unfold toBranch fedBack
  refine Finset.sum_congr rfl fun d _ => ?_
  rfl

/-- Its third branch's gradient. -/
theorem reference_branch_2 (r : Fin 8192) (k : Fin 512) :
    (shapeCast _ (extractStridedSlice S8192x1x512 ![0, 2, 0] (transpose S8192x3x512 [2, 0, 1] (Host.dotGeneral (F := Ideal) (φ₁ := .f32) (φ₂ := .f32) dot_S3x512x1024_S8192x3x1024_S3x512x8192_2_2_1_0_0_1 none (extf (F := Ideal) .f32 w bitsLt_bf16_f32) (mulf (F := Ideal) (broadcastInDim S8192x3x1024 ![0, 1, 2] bcast_S8192x1x1024_S8192x3x1024_0_1_2 (broadcastInDim S8192x1x1024 ![0, 2] bcast_S8192x1024_S8192x1x1024_0_2 (Host.dotGeneral (F := Ideal) (φ₁ := .f32) (φ₂ := .f32) dot_S8192x1024_S1024x1024_S8192x1024_1_0_0_1_n_n none dx (transpose S1024x1024 [1, 0] (extf (F := Ideal) .f32 o bitsLt_bf16_f32) transposes_S1024x1024_S1024x1024_1_0)))) (Host.divf (broadcastInDim S8192x3x1024 ![] bcast_S_S8192x3x1024 (constant S_ .f32 0x3F800000#32)) (addf (broadcastInDim S8192x3x1024 ![] bcast_S_S8192x3x1024 (constant S_ .f32 0x3F800000#32)) (Host.exp (Host.negf (addf (shapeCast _ (extractStridedSlice S8192x3072 ![0, 0] p slices_S8192x7168_S8192x3072_0_0) shapeCasts_S8192x3072_S8192x3x1024) (broadcastInDim S8192x3x1024 ![0, 1, 2] bcast_S1x3x1024_S8192x3x1024_0_1_2 (broadcastInDim S1x3x1024 ![1, 2] bcast_S3x1024_S1x3x1024_1_2 (shapeCast _ b shapeCasts_S1x3072_S3x1024)))))))))) transposes_S3x512x8192_S8192x3x512_2_0_1) slices_S8192x3x512_S8192x1x512_0_2_0) shapeCasts_S8192x1x512_S8192x512 : Vec Ideal S8192x512 .f32) (ix2 r k)
    = toBranch dx p b w o 2 (ix2 r k) := by
  pointwise []
  unfold toBranch fedBack
  refine Finset.sum_congr rfl fun d _ => ?_
  rfl

/-- Its projected branches' gradient. -/
theorem reference_projected (r : Fin 8192) (j : Fin 3072) :
    (truncf (F := Ideal) .bf16 (shapeCast _ (mulf (F := Ideal) (broadcastInDim S8192x3x1024 ![0, 1, 2] bcast_S8192x1x1024_S8192x3x1024_0_1_2 (broadcastInDim S8192x1x1024 ![0, 2] bcast_S8192x1024_S8192x1x1024_0_2 (Host.dotGeneral (F := Ideal) (φ₁ := .f32) (φ₂ := .f32) dot_S8192x1024_S1024x1024_S8192x1024_1_0_0_1_n_n none dx (transpose S1024x1024 [1, 0] (extf (F := Ideal) .f32 o bitsLt_bf16_f32) transposes_S1024x1024_S1024x1024_1_0)))) (Host.divf (broadcastInDim S8192x3x1024 ![] bcast_S_S8192x3x1024 (constant S_ .f32 0x3F800000#32)) (addf (broadcastInDim S8192x3x1024 ![] bcast_S_S8192x3x1024 (constant S_ .f32 0x3F800000#32)) (Host.exp (Host.negf (addf (shapeCast _ (extractStridedSlice S8192x3072 ![0, 0] p slices_S8192x7168_S8192x3072_0_0) shapeCasts_S8192x3072_S8192x3x1024) (broadcastInDim S8192x3x1024 ![0, 1, 2] bcast_S1x3x1024_S8192x3x1024_0_1_2 (broadcastInDim S1x3x1024 ![1, 2] bcast_S3x1024_S1x3x1024_1_2 (shapeCast _ b shapeCasts_S1x3072_S3x1024))))))))) shapeCasts_S8192x3x1024_S8192x3072) bitsLt_bf16_f32 : Vec Ideal S8192x3072 .bf16) (ix2 r j)
    = toProjected dx p b o (ix2 r j) := by
  pointwise []
  rfl

/-- Its merged rows. -/
theorem reference_merged (r : Fin 8192) (k : Fin 1024) :
    (truncf (F := Ideal) .bf16 (Host.reduceAdd (F := Ideal) (mulf (F := Ideal) (Host.divf (broadcastInDim S8192x3x1024 ![] bcast_S_S8192x3x1024 (constant S_ .f32 0x3F800000#32)) (addf (broadcastInDim S8192x3x1024 ![] bcast_S_S8192x3x1024 (constant S_ .f32 0x3F800000#32)) (Host.exp (Host.negf (addf (shapeCast _ (extractStridedSlice S8192x3072 ![0, 0] p slices_S8192x7168_S8192x3072_0_0) shapeCasts_S8192x3072_S8192x3x1024) (broadcastInDim S8192x3x1024 ![0, 1, 2] bcast_S1x3x1024_S8192x3x1024_0_1_2 (broadcastInDim S1x3x1024 ![1, 2] bcast_S3x1024_S1x3x1024_1_2 (shapeCast _ b shapeCasts_S1x3072_S3x1024)))))))) (transpose S8192x3x1024 [2, 0, 1] (Host.dotGeneral (F := Ideal) (φ₁ := .f32) (φ₂ := .f32) dot_S3x512x1024_S8192x3x512_S3x1024x8192_1_2_2_0_0_1 none (extf (F := Ideal) .f32 w bitsLt_bf16_f32) ((concatenate S8192x3x512 1 [⟨S8192x1x512, ((broadcastInDim S8192x1x512 ![0, 2] bcast_S8192x512_S8192x1x512_0_2 ya) : (⟨S8192x1x512, .f32⟩ : BufTy).Contents (Elt Ideal))⟩, ⟨S8192x1x512, ((broadcastInDim S8192x1x512 ![0, 2] bcast_S8192x512_S8192x1x512_0_2 yb) : (⟨S8192x1x512, .f32⟩ : BufTy).Contents (Elt Ideal))⟩, ⟨S8192x1x512, ((broadcastInDim S8192x1x512 ![0, 2] bcast_S8192x512_S8192x1x512_0_2 yc) : (⟨S8192x1x512, .f32⟩ : BufTy).Contents (Elt Ideal))⟩] concatenates_S8192x1x512_S8192x1x512_S8192x1x512_S8192x3x512_d1 : (⟨S8192x3x512, .f32⟩ : BufTy).Contents (Elt Ideal)))) transposes_S3x1024x8192_S8192x3x1024_2_0_1)) (constant S_ .f32 0x00000000#32) reducesTo_S8192x3x1024_S8192x1024_d1 h_S_) bitsLt_bf16_f32 : Vec Ideal S8192x1024 .bf16) (ix2 r k)
    = mergedRows p ya yb yc b w (ix2 r k) := by
  pointwise []
  rw [Fin.sum_univ_three]
  refine congrArg₂ (· + ·) (congrArg₂ (· + ·) ?_ ?_) ?_
  · rfl
  · rfl
  · rfl

/-- Its bias' gradient. -/
theorem reference_bias (j : Fin 3072) :
    (shapeCast _ (Host.reduceAdd (F := Ideal) (mulf (F := Ideal) (mulf (F := Ideal) (broadcastInDim S8192x3x1024 ![0, 1, 2] bcast_S8192x1x1024_S8192x3x1024_0_1_2 (broadcastInDim S8192x1x1024 ![0, 2] bcast_S8192x1024_S8192x1x1024_0_2 (Host.dotGeneral (F := Ideal) (φ₁ := .f32) (φ₂ := .f32) dot_S8192x1024_S1024x1024_S8192x1024_1_0_0_1_n_n none dx (transpose S1024x1024 [1, 0] (extf (F := Ideal) .f32 o bitsLt_bf16_f32) transposes_S1024x1024_S1024x1024_1_0)))) (transpose S8192x3x1024 [2, 0, 1] (Host.dotGeneral (F := Ideal) (φ₁ := .f32) (φ₂ := .f32) dot_S3x512x1024_S8192x3x512_S3x1024x8192_1_2_2_0_0_1 none (extf (F := Ideal) .f32 w bitsLt_bf16_f32) ((concatenate S8192x3x512 1 [⟨S8192x1x512, ((broadcastInDim S8192x1x512 ![0, 2] bcast_S8192x512_S8192x1x512_0_2 ya) : (⟨S8192x1x512, .f32⟩ : BufTy).Contents (Elt Ideal))⟩, ⟨S8192x1x512, ((broadcastInDim S8192x1x512 ![0, 2] bcast_S8192x512_S8192x1x512_0_2 yb) : (⟨S8192x1x512, .f32⟩ : BufTy).Contents (Elt Ideal))⟩, ⟨S8192x1x512, ((broadcastInDim S8192x1x512 ![0, 2] bcast_S8192x512_S8192x1x512_0_2 yc) : (⟨S8192x1x512, .f32⟩ : BufTy).Contents (Elt Ideal))⟩] concatenates_S8192x1x512_S8192x1x512_S8192x1x512_S8192x3x512_d1 : (⟨S8192x3x512, .f32⟩ : BufTy).Contents (Elt Ideal)))) transposes_S3x1024x8192_S8192x3x1024_2_0_1)) (mulf (F := Ideal) (Host.divf (broadcastInDim S8192x3x1024 ![] bcast_S_S8192x3x1024 (constant S_ .f32 0x3F800000#32)) (addf (broadcastInDim S8192x3x1024 ![] bcast_S_S8192x3x1024 (constant S_ .f32 0x3F800000#32)) (Host.exp (Host.negf (addf (shapeCast _ (extractStridedSlice S8192x3072 ![0, 0] p slices_S8192x7168_S8192x3072_0_0) shapeCasts_S8192x3072_S8192x3x1024) (broadcastInDim S8192x3x1024 ![0, 1, 2] bcast_S1x3x1024_S8192x3x1024_0_1_2 (broadcastInDim S1x3x1024 ![1, 2] bcast_S3x1024_S1x3x1024_1_2 (shapeCast _ b shapeCasts_S1x3072_S3x1024)))))))) (subf (broadcastInDim S8192x3x1024 ![] bcast_S_S8192x3x1024 (constant S_ .f32 0x3F800000#32)) (Host.divf (broadcastInDim S8192x3x1024 ![] bcast_S_S8192x3x1024 (constant S_ .f32 0x3F800000#32)) (addf (broadcastInDim S8192x3x1024 ![] bcast_S_S8192x3x1024 (constant S_ .f32 0x3F800000#32)) (Host.exp (Host.negf (addf (shapeCast _ (extractStridedSlice S8192x3072 ![0, 0] p slices_S8192x7168_S8192x3072_0_0) shapeCasts_S8192x3072_S8192x3x1024) (broadcastInDim S8192x3x1024 ![0, 1, 2] bcast_S1x3x1024_S8192x3x1024_0_1_2 (broadcastInDim S1x3x1024 ![1, 2] bcast_S3x1024_S1x3x1024_1_2 (shapeCast _ b shapeCasts_S1x3072_S3x1024))))))))))) (constant S_ .f32 0x00000000#32) reducesTo_S8192x3x1024_S3x1024_d0 h_S_) shapeCasts_S3x1024_S1x3072 : Vec Ideal S1x3072 .f32) (ix2 0 j)
    = toBias dx p ya yb yc b w o (ix2 0 j) := by
  pointwise []
  exact Finset.sum_congr rfl fun r _ => rfl

end Reference

set_option maxHeartbeats 2000000 in
/-- Over the extended reals the call's results are the reference's. -/
theorem algebraic : @Cert.algebraic_MergeBackwardIdeal_MergeBackwardReferenceIdeal Cert.MergeBackwardIdeal.Gen.facts Cert.MergeBackwardReferenceIdeal.Gen.facts :=
  fun m ρ m' ρ' _ hin =>
    ⟨fun c => toGates (m ((c : Thread Cert.MergeBackwardIdeal.nD Cert.MergeBackwardIdeal.τ).loc Cert.MergeBackwardIdeal.main_arg0)) (m ((c : Thread Cert.MergeBackwardIdeal.nD Cert.MergeBackwardIdeal.τ).loc Cert.MergeBackwardIdeal.main_arg1)) (m ((c : Thread Cert.MergeBackwardIdeal.nD Cert.MergeBackwardIdeal.τ).loc Cert.MergeBackwardIdeal.main_arg2)) (m ((c : Thread Cert.MergeBackwardIdeal.nD Cert.MergeBackwardIdeal.τ).loc Cert.MergeBackwardIdeal.main_arg3)) (m ((c : Thread Cert.MergeBackwardIdeal.nD Cert.MergeBackwardIdeal.τ).loc Cert.MergeBackwardIdeal.main_arg4)) (m ((c : Thread Cert.MergeBackwardIdeal.nD Cert.MergeBackwardIdeal.τ).loc Cert.MergeBackwardIdeal.main_arg5)) (m ((c : Thread Cert.MergeBackwardIdeal.nD Cert.MergeBackwardIdeal.τ).loc Cert.MergeBackwardIdeal.main_arg6)) (m ((c : Thread Cert.MergeBackwardIdeal.nD Cert.MergeBackwardIdeal.τ).loc Cert.MergeBackwardIdeal.main_arg7)),
      fun c => toBranch (m ((c : Thread Cert.MergeBackwardIdeal.nD Cert.MergeBackwardIdeal.τ).loc Cert.MergeBackwardIdeal.main_arg0)) (m ((c : Thread Cert.MergeBackwardIdeal.nD Cert.MergeBackwardIdeal.τ).loc Cert.MergeBackwardIdeal.main_arg1)) (m ((c : Thread Cert.MergeBackwardIdeal.nD Cert.MergeBackwardIdeal.τ).loc Cert.MergeBackwardIdeal.main_arg5)) (m ((c : Thread Cert.MergeBackwardIdeal.nD Cert.MergeBackwardIdeal.τ).loc Cert.MergeBackwardIdeal.main_arg6)) (m ((c : Thread Cert.MergeBackwardIdeal.nD Cert.MergeBackwardIdeal.τ).loc Cert.MergeBackwardIdeal.main_arg7)) 0,
      fun c => toBranch (m ((c : Thread Cert.MergeBackwardIdeal.nD Cert.MergeBackwardIdeal.τ).loc Cert.MergeBackwardIdeal.main_arg0)) (m ((c : Thread Cert.MergeBackwardIdeal.nD Cert.MergeBackwardIdeal.τ).loc Cert.MergeBackwardIdeal.main_arg1)) (m ((c : Thread Cert.MergeBackwardIdeal.nD Cert.MergeBackwardIdeal.τ).loc Cert.MergeBackwardIdeal.main_arg5)) (m ((c : Thread Cert.MergeBackwardIdeal.nD Cert.MergeBackwardIdeal.τ).loc Cert.MergeBackwardIdeal.main_arg6)) (m ((c : Thread Cert.MergeBackwardIdeal.nD Cert.MergeBackwardIdeal.τ).loc Cert.MergeBackwardIdeal.main_arg7)) 1,
      fun c => toBranch (m ((c : Thread Cert.MergeBackwardIdeal.nD Cert.MergeBackwardIdeal.τ).loc Cert.MergeBackwardIdeal.main_arg0)) (m ((c : Thread Cert.MergeBackwardIdeal.nD Cert.MergeBackwardIdeal.τ).loc Cert.MergeBackwardIdeal.main_arg1)) (m ((c : Thread Cert.MergeBackwardIdeal.nD Cert.MergeBackwardIdeal.τ).loc Cert.MergeBackwardIdeal.main_arg5)) (m ((c : Thread Cert.MergeBackwardIdeal.nD Cert.MergeBackwardIdeal.τ).loc Cert.MergeBackwardIdeal.main_arg6)) (m ((c : Thread Cert.MergeBackwardIdeal.nD Cert.MergeBackwardIdeal.τ).loc Cert.MergeBackwardIdeal.main_arg7)) 2,
      fun c => toProjected (m ((c : Thread Cert.MergeBackwardIdeal.nD Cert.MergeBackwardIdeal.τ).loc Cert.MergeBackwardIdeal.main_arg0)) (m ((c : Thread Cert.MergeBackwardIdeal.nD Cert.MergeBackwardIdeal.τ).loc Cert.MergeBackwardIdeal.main_arg1)) (m ((c : Thread Cert.MergeBackwardIdeal.nD Cert.MergeBackwardIdeal.τ).loc Cert.MergeBackwardIdeal.main_arg5)) (m ((c : Thread Cert.MergeBackwardIdeal.nD Cert.MergeBackwardIdeal.τ).loc Cert.MergeBackwardIdeal.main_arg7)),
      fun c => mergedRows (m ((c : Thread Cert.MergeBackwardIdeal.nD Cert.MergeBackwardIdeal.τ).loc Cert.MergeBackwardIdeal.main_arg1)) (m ((c : Thread Cert.MergeBackwardIdeal.nD Cert.MergeBackwardIdeal.τ).loc Cert.MergeBackwardIdeal.main_arg2)) (m ((c : Thread Cert.MergeBackwardIdeal.nD Cert.MergeBackwardIdeal.τ).loc Cert.MergeBackwardIdeal.main_arg3)) (m ((c : Thread Cert.MergeBackwardIdeal.nD Cert.MergeBackwardIdeal.τ).loc Cert.MergeBackwardIdeal.main_arg4)) (m ((c : Thread Cert.MergeBackwardIdeal.nD Cert.MergeBackwardIdeal.τ).loc Cert.MergeBackwardIdeal.main_arg5)) (m ((c : Thread Cert.MergeBackwardIdeal.nD Cert.MergeBackwardIdeal.τ).loc Cert.MergeBackwardIdeal.main_arg6)),
      fun c => toBias (m ((c : Thread Cert.MergeBackwardIdeal.nD Cert.MergeBackwardIdeal.τ).loc Cert.MergeBackwardIdeal.main_arg0)) (m ((c : Thread Cert.MergeBackwardIdeal.nD Cert.MergeBackwardIdeal.τ).loc Cert.MergeBackwardIdeal.main_arg1)) (m ((c : Thread Cert.MergeBackwardIdeal.nD Cert.MergeBackwardIdeal.τ).loc Cert.MergeBackwardIdeal.main_arg2)) (m ((c : Thread Cert.MergeBackwardIdeal.nD Cert.MergeBackwardIdeal.τ).loc Cert.MergeBackwardIdeal.main_arg3)) (m ((c : Thread Cert.MergeBackwardIdeal.nD Cert.MergeBackwardIdeal.τ).loc Cert.MergeBackwardIdeal.main_arg4)) (m ((c : Thread Cert.MergeBackwardIdeal.nD Cert.MergeBackwardIdeal.τ).loc Cert.MergeBackwardIdeal.main_arg5)) (m ((c : Thread Cert.MergeBackwardIdeal.nD Cert.MergeBackwardIdeal.τ).loc Cert.MergeBackwardIdeal.main_arg6)) (m ((c : Thread Cert.MergeBackwardIdeal.nD Cert.MergeBackwardIdeal.τ).loc Cert.MergeBackwardIdeal.main_arg7)),
      (θ_run (Cert.MergeBackwardIdeal.defs (F := Ideal)) _ _).mono (fun r h c =>
        ⟨((h c).1).trans (gates_result m c), ((h c).2.1).trans (branch_result_0 m c), ((h c).2.2.1).trans (branch_result_1 m c), ((h c).2.2.2.1).trans (branch_result_2 m c), ((h c).2.2.2.2.1).trans (projected_result m c), ((h c).2.2.2.2.2.1).trans (merged_result m c), ((h c).2.2.2.2.2.2.1).trans (bias_result m c), (h c).2.2.2.2.2.2.2⟩) (Cert.MergeBackwardIdeal.Value.run_blocks (F := Ideal) m ρ),
      (θ_run (Cert.MergeBackwardReferenceIdeal.defs (F := Ideal)) _ _).mono (fun r h c => by
        obtain ⟨r0, r1, r2, r3, r4, r5, r6, rest⟩ := h c
        obtain ⟨e0, e1, e2, e3, e4, e5, e6, e7⟩ := hin c
        refine ⟨r0.trans ?_, r1.trans ?_, r2.trans ?_, r3.trans ?_, r4.trans ?_, r5.trans ?_, r6.trans ?_, rest⟩
        · beta_reduce
          rw [← e0, ← e1, ← e2, ← e3, ← e4, ← e5, ← e6, ← e7]
          funext j
          rw [eq_ix2 j]
          exact reference_gates (m' ((c : Thread Cert.MergeBackwardReferenceIdeal.nD Cert.MergeBackwardReferenceIdeal.τ).loc Cert.MergeBackwardReferenceIdeal.main_arg0)) (m' ((c : Thread Cert.MergeBackwardReferenceIdeal.nD Cert.MergeBackwardReferenceIdeal.τ).loc Cert.MergeBackwardReferenceIdeal.main_arg1)) (m' ((c : Thread Cert.MergeBackwardReferenceIdeal.nD Cert.MergeBackwardReferenceIdeal.τ).loc Cert.MergeBackwardReferenceIdeal.main_arg2)) (m' ((c : Thread Cert.MergeBackwardReferenceIdeal.nD Cert.MergeBackwardReferenceIdeal.τ).loc Cert.MergeBackwardReferenceIdeal.main_arg3)) (m' ((c : Thread Cert.MergeBackwardReferenceIdeal.nD Cert.MergeBackwardReferenceIdeal.τ).loc Cert.MergeBackwardReferenceIdeal.main_arg4)) (m' ((c : Thread Cert.MergeBackwardReferenceIdeal.nD Cert.MergeBackwardReferenceIdeal.τ).loc Cert.MergeBackwardReferenceIdeal.main_arg5)) (m' ((c : Thread Cert.MergeBackwardReferenceIdeal.nD Cert.MergeBackwardReferenceIdeal.τ).loc Cert.MergeBackwardReferenceIdeal.main_arg6)) (m' ((c : Thread Cert.MergeBackwardReferenceIdeal.nD Cert.MergeBackwardReferenceIdeal.τ).loc Cert.MergeBackwardReferenceIdeal.main_arg7)) _ _
        · beta_reduce
          rw [← e0, ← e1, ← e5, ← e6, ← e7]
          funext j
          rw [eq_ix2 j]
          exact reference_branch_0 (m' ((c : Thread Cert.MergeBackwardReferenceIdeal.nD Cert.MergeBackwardReferenceIdeal.τ).loc Cert.MergeBackwardReferenceIdeal.main_arg0)) (m' ((c : Thread Cert.MergeBackwardReferenceIdeal.nD Cert.MergeBackwardReferenceIdeal.τ).loc Cert.MergeBackwardReferenceIdeal.main_arg1)) (m' ((c : Thread Cert.MergeBackwardReferenceIdeal.nD Cert.MergeBackwardReferenceIdeal.τ).loc Cert.MergeBackwardReferenceIdeal.main_arg5)) (m' ((c : Thread Cert.MergeBackwardReferenceIdeal.nD Cert.MergeBackwardReferenceIdeal.τ).loc Cert.MergeBackwardReferenceIdeal.main_arg6)) (m' ((c : Thread Cert.MergeBackwardReferenceIdeal.nD Cert.MergeBackwardReferenceIdeal.τ).loc Cert.MergeBackwardReferenceIdeal.main_arg7)) _ _
        · beta_reduce
          rw [← e0, ← e1, ← e5, ← e6, ← e7]
          funext j
          rw [eq_ix2 j]
          exact reference_branch_1 (m' ((c : Thread Cert.MergeBackwardReferenceIdeal.nD Cert.MergeBackwardReferenceIdeal.τ).loc Cert.MergeBackwardReferenceIdeal.main_arg0)) (m' ((c : Thread Cert.MergeBackwardReferenceIdeal.nD Cert.MergeBackwardReferenceIdeal.τ).loc Cert.MergeBackwardReferenceIdeal.main_arg1)) (m' ((c : Thread Cert.MergeBackwardReferenceIdeal.nD Cert.MergeBackwardReferenceIdeal.τ).loc Cert.MergeBackwardReferenceIdeal.main_arg5)) (m' ((c : Thread Cert.MergeBackwardReferenceIdeal.nD Cert.MergeBackwardReferenceIdeal.τ).loc Cert.MergeBackwardReferenceIdeal.main_arg6)) (m' ((c : Thread Cert.MergeBackwardReferenceIdeal.nD Cert.MergeBackwardReferenceIdeal.τ).loc Cert.MergeBackwardReferenceIdeal.main_arg7)) _ _
        · beta_reduce
          rw [← e0, ← e1, ← e5, ← e6, ← e7]
          funext j
          rw [eq_ix2 j]
          exact reference_branch_2 (m' ((c : Thread Cert.MergeBackwardReferenceIdeal.nD Cert.MergeBackwardReferenceIdeal.τ).loc Cert.MergeBackwardReferenceIdeal.main_arg0)) (m' ((c : Thread Cert.MergeBackwardReferenceIdeal.nD Cert.MergeBackwardReferenceIdeal.τ).loc Cert.MergeBackwardReferenceIdeal.main_arg1)) (m' ((c : Thread Cert.MergeBackwardReferenceIdeal.nD Cert.MergeBackwardReferenceIdeal.τ).loc Cert.MergeBackwardReferenceIdeal.main_arg5)) (m' ((c : Thread Cert.MergeBackwardReferenceIdeal.nD Cert.MergeBackwardReferenceIdeal.τ).loc Cert.MergeBackwardReferenceIdeal.main_arg6)) (m' ((c : Thread Cert.MergeBackwardReferenceIdeal.nD Cert.MergeBackwardReferenceIdeal.τ).loc Cert.MergeBackwardReferenceIdeal.main_arg7)) _ _
        · beta_reduce
          rw [← e0, ← e1, ← e5, ← e7]
          funext j
          rw [eq_ix2 j]
          exact reference_projected (m' ((c : Thread Cert.MergeBackwardReferenceIdeal.nD Cert.MergeBackwardReferenceIdeal.τ).loc Cert.MergeBackwardReferenceIdeal.main_arg0)) (m' ((c : Thread Cert.MergeBackwardReferenceIdeal.nD Cert.MergeBackwardReferenceIdeal.τ).loc Cert.MergeBackwardReferenceIdeal.main_arg1)) (m' ((c : Thread Cert.MergeBackwardReferenceIdeal.nD Cert.MergeBackwardReferenceIdeal.τ).loc Cert.MergeBackwardReferenceIdeal.main_arg5)) (m' ((c : Thread Cert.MergeBackwardReferenceIdeal.nD Cert.MergeBackwardReferenceIdeal.τ).loc Cert.MergeBackwardReferenceIdeal.main_arg7)) _ _
        · beta_reduce
          rw [← e1, ← e2, ← e3, ← e4, ← e5, ← e6]
          funext j
          rw [eq_ix2 j]
          exact reference_merged (m' ((c : Thread Cert.MergeBackwardReferenceIdeal.nD Cert.MergeBackwardReferenceIdeal.τ).loc Cert.MergeBackwardReferenceIdeal.main_arg1)) (m' ((c : Thread Cert.MergeBackwardReferenceIdeal.nD Cert.MergeBackwardReferenceIdeal.τ).loc Cert.MergeBackwardReferenceIdeal.main_arg2)) (m' ((c : Thread Cert.MergeBackwardReferenceIdeal.nD Cert.MergeBackwardReferenceIdeal.τ).loc Cert.MergeBackwardReferenceIdeal.main_arg3)) (m' ((c : Thread Cert.MergeBackwardReferenceIdeal.nD Cert.MergeBackwardReferenceIdeal.τ).loc Cert.MergeBackwardReferenceIdeal.main_arg4)) (m' ((c : Thread Cert.MergeBackwardReferenceIdeal.nD Cert.MergeBackwardReferenceIdeal.τ).loc Cert.MergeBackwardReferenceIdeal.main_arg5)) (m' ((c : Thread Cert.MergeBackwardReferenceIdeal.nD Cert.MergeBackwardReferenceIdeal.τ).loc Cert.MergeBackwardReferenceIdeal.main_arg6)) _ _
        · beta_reduce
          rw [← e0, ← e1, ← e2, ← e3, ← e4, ← e5, ← e6, ← e7]
          funext j
          obtain ⟨k, rfl⟩ : ∃ k : Fin 3072, j = ix2 (0 : Fin 1) k := ⟨j 1, Norm.one_row j⟩
          exact reference_bias (m' ((c : Thread Cert.MergeBackwardReferenceIdeal.nD Cert.MergeBackwardReferenceIdeal.τ).loc Cert.MergeBackwardReferenceIdeal.main_arg0)) (m' ((c : Thread Cert.MergeBackwardReferenceIdeal.nD Cert.MergeBackwardReferenceIdeal.τ).loc Cert.MergeBackwardReferenceIdeal.main_arg1)) (m' ((c : Thread Cert.MergeBackwardReferenceIdeal.nD Cert.MergeBackwardReferenceIdeal.τ).loc Cert.MergeBackwardReferenceIdeal.main_arg2)) (m' ((c : Thread Cert.MergeBackwardReferenceIdeal.nD Cert.MergeBackwardReferenceIdeal.τ).loc Cert.MergeBackwardReferenceIdeal.main_arg3)) (m' ((c : Thread Cert.MergeBackwardReferenceIdeal.nD Cert.MergeBackwardReferenceIdeal.τ).loc Cert.MergeBackwardReferenceIdeal.main_arg4)) (m' ((c : Thread Cert.MergeBackwardReferenceIdeal.nD Cert.MergeBackwardReferenceIdeal.τ).loc Cert.MergeBackwardReferenceIdeal.main_arg5)) (m' ((c : Thread Cert.MergeBackwardReferenceIdeal.nD Cert.MergeBackwardReferenceIdeal.τ).loc Cert.MergeBackwardReferenceIdeal.main_arg6)) (m' ((c : Thread Cert.MergeBackwardReferenceIdeal.nD Cert.MergeBackwardReferenceIdeal.τ).loc Cert.MergeBackwardReferenceIdeal.main_arg7)) _) (Cert.MergeBackwardReferenceIdeal.Value.run (F := Ideal) m' ρ')⟩

end Cert.GatedMergeBackward
-- ==== Proof.Attention.lean ====
/- The attention of the first branch on one device: eight heads over four sequences of 2048 rows, two heads to a block of lanes. -/
module

public import proofs.«01_k».proof.Defs
public import proofs.«01_k».proof.Proof.Gen.Attention.Frame
public import proofs.«01_k».proof.Proof.Gen.AttentionIdeal.Value
public import proofs.«01_k».proof.Proof.Gen.AttentionReferenceIdeal.Run
public import proofs.«01_k».proof.Proof.Norm
public import Idealize.ShloMosaic.Adequacy
public import Idealize.ShloMosaic.Init
public import Idealize.ShloMosaic.Lib.Quiescent
public import Idealize.ShloMosaic.Lib.Pipeline.ValueKit

@[expose] public section

noncomputable section

namespace Cert.Attend

open Idealize.ShloMosaic Idealize.ShloMosaic.TcCoe Idealize.SL.Sem
open Cert.Norm (Mat row)

/-- The call leaves its arguments unchanged and every counter at zero. -/
theorem frame : @Cert.quiescent_Attention Cert.Attention.Gen.facts := fun m ρ _ => Cert.Attention.Gen.frame (F := Bits) m ρ

/-- So does its ideal program. -/
theorem frame_ideal : @Cert.quiescent_AttentionIdeal Cert.AttentionIdeal.Gen.facts := fun m ρ _ => Cert.AttentionIdeal.Gen.frame (F := Ideal) m ρ

/-- So does the reference, which declares no semaphore. -/
theorem frame_reference : @Cert.quiescent_AttentionReferenceIdeal Cert.AttentionReferenceIdeal.Gen.facts := fun m ρ _ =>
  (θ_run (Cert.AttentionReferenceIdeal.defs (F := Ideal)) _ _).mono (fun r h => ⟨fun c => (h c).2, sem_eq_zero_of_no_sems (by decide) r.2⟩) (Cert.AttentionReferenceIdeal.Value.run (F := Ideal) m ρ)

/-- The largest of the scores. -/
def top (s : Fin 2048 → EReal) : EReal := Finset.fold max (Ideal.ofBits .f32 4286578688#32) s Finset.univ

/-- The softmax of the scores. -/
def share (s : Fin 2048 → EReal) (y : Fin 2048) : EReal := Ideal.div (Ideal.exp (s y - top s)) (∑ z : Fin 2048, Ideal.exp (s z - top s))

/-- The scaled scores of a query against the keys. -/
def scores (a : Fin 128 → EReal) (k : Fin 2048 → Fin 128 → EReal) (y : Fin 2048) : EReal := (∑ d : Fin 128, a d * k y d) * Ideal.ofBits .f32 1037108716#32

/-- The head that a result's lane belongs to. -/
def head (j : Fin 512) : Fin 8 := ⟨j.val / 64, by omega⟩

/-- A head's lanes of a row. -/
def lanes (h : Fin 8) (x : Fin 1024 → EReal) (d : Fin 128) : EReal := x ⟨h.val * 128 + d.val, by omega⟩

/-- The rows of the sequence that a row belongs to. -/
def mate (r : Fin 8192) (y : Fin 2048) : Fin 8192 := ⟨r.val / 2048 * 2048 + y.val, by omega⟩

/-- The attention: the values of the sequence's rows in the proportions of the softmax of the head's scores. -/
def attended (q k : Mat 8192 1024) (v : Mat 8192 512) : Mat 8192 512 := fun i =>
  ∑ y : Fin 2048, share (scores (lanes (head (i 1)) (row q (i 0))) (fun z => lanes (head (i 1)) (row k (mate (i 0) z)))) y * v (ix2 (mate (i 0) y) (i 1))

/-- A maximum that starts from a value is no less than it. -/
theorem top_start (s : Fin 2048 → EReal) : max (Ideal.ofBits .f32 4286578688#32) (top s) = top s :=
  max_eq_right ((Finset.le_fold_max _).mpr (Or.inl le_rfl))

section Points
open Cert.AttentionIdeal Cert.AttentionIdeal.Gen Cert.AttentionIdeal.Value

/-- The first head of a block, entry by entry. -/
theorem first_entry (v : Vec Ideal S2048x128 .bf16) (q : Vec Ideal S256x128 .bf16) (k : Vec Ideal S2048x128 .bf16) (a : Fin 256) (d : Fin 128) :
    k0_pay3 v q k (ix2 a d) = ∑ y : Fin 2048, share (scores (fun l => q (ix2 a l)) (fun z l => k (ix2 z l))) y * v (ix2 y d) := by
  pointwise [k0_pay3]
  rfl

/-- The second. -/
theorem second_entry (v : Vec Ideal S2048x128 .bf16) (q : Vec Ideal S256x128 .bf16) (k : Vec Ideal S2048x128 .bf16) (a : Fin 256) (d : Fin 128) :
    k0_pay4 v q k (ix2 a d) = ∑ y : Fin 2048, share (scores (fun l => q (ix2 a l)) (fun z l => k (ix2 z l))) y * v (ix2 y d) := by
  pointwise [k0_pay4]
  rfl

/-- Which lanes are below 64. -/
theorem low_lane : ∀ d : Fin 128, IntOp.cmpi CmpIPredicate.slt (BitVec.ofNat 32 d.val) 64#32 = if d.val < 64 then 1#1 else 0#1 := by decide +kernel

/-- Of two blocks, the lanes below 64 of the first and the others of the second. -/
theorem both_entry (x y : FVec Ideal S256x128 .f32) (a : Fin 256) (d : Fin 128) :
    k0_pay1 (F := Ideal) k0_pay2 x y (ix2 a d) = if d.val < 64 then x (ix2 a d) else y (ix2 a d) := by
  pointwise [k0_pay1, k0_pay2]
  rw [low_lane]
  by_cases h : d.val < 64
  · rw [if_pos h, if_pos h]
    rfl
  · rw [if_neg h, if_neg h]
    rfl

variable (m : (ℓ : Loc nD τ sig) → Buf (Elt Ideal) ℓ) (c : Dev nD)

/-- Where the blocks lie at a grid point. -/
theorem places (t : Fin cfg0.N) : win0_0.index t = ![t.val / 32 * 8 + t.val % 8, t.val / 8 % 4] ∧ win0_1.index t = ![t.val / 32, t.val / 8 % 4]
    ∧ win0_2.index t = ![t.val / 32, t.val / 8 % 4] ∧ win0_3.index t = ![t.val / 32 * 8 + t.val % 8, t.val / 8 % 4] :=
  (by decide +kernel : ∀ t : Fin grid0.N, win0_0.index t = ![t.val / 32 * 8 + t.val % 8, t.val / 8 % 4] ∧ win0_1.index t = ![t.val / 32, t.val / 8 % 4]
    ∧ win0_2.index t = ![t.val / 32, t.val / 8 % 4] ∧ win0_3.index t = ![t.val / 32 * 8 + t.val % 8, t.val / 8 % 4]) t

/-- The number of grid points. -/
theorem points (t : Fin cfg0.N) : t.val < 128 := lt_of_lt_of_eq t.isLt N_0

/-- A block of queries, read from the array. -/
theorem block_q (t : Fin cfg0.N) (a l : Fin 256) (r : Fin 8192) (i : Fin 1024) (hr : r.val = (t.val / 32 * 8 + t.val % 8) * 256 + a.val)
    (hi : i.val = t.val / 8 % 4 * 256 + l.val) : iblk m c 0 t (ix2 a l) = (m ((c : Thread nD τ).loc main_arg0)) (ix2 r i) := by
  obtain ⟨p0, p1, p2, p3⟩ := places t
  blk_ext [iblk, V, p0]

/-- Of keys. -/
theorem block_k (t : Fin cfg0.N) (y : Fin 2048) (l : Fin 256) (r : Fin 8192) (i : Fin 1024) (hr : r.val = t.val / 32 * 2048 + y.val)
    (hi : i.val = t.val / 8 % 4 * 256 + l.val) : iblk m c 1 t (ix2 y l) = (m ((c : Thread nD τ).loc main_arg1)) (ix2 r i) := by
  obtain ⟨p0, p1, p2, p3⟩ := places t
  blk_ext [iblk, V, p1]

/-- Of values. -/
theorem block_v (t : Fin cfg0.N) (y : Fin 2048) (l : Fin 128) (r : Fin 8192) (i : Fin 512) (hr : r.val = t.val / 32 * 2048 + y.val)
    (hi : i.val = t.val / 8 % 4 * 128 + l.val) : iblk m c 2 t (ix2 y l) = (m ((c : Thread nD τ).loc main_arg2)) (ix2 r i) := by
  obtain ⟨p0, p1, p2, p3⟩ := places t
  blk_ext [iblk, V, p2]

/-- What a head's part of a block is, once its operands are the arrays' entries. -/
theorem part (t : Fin cfg0.N) (a : Fin 256) (d : Fin 128) (r : Fin 8192) (j : Fin 512) (hr : r.val = (t.val / 32 * 8 + t.val % 8) * 256 + a.val)
    (hj : j.val = t.val / 8 % 4 * 128 + d.val) (q : Vec Ideal S256x128 .bf16) (k : Vec Ideal S2048x128 .bf16)
    (hq : ∀ l : Fin 128, q (ix2 a l) = lanes (head j) (row (m ((c : Thread nD τ).loc main_arg0)) r) l)
    (hk : ∀ (y : Fin 2048) (l : Fin 128), k (ix2 y l) = lanes (head j) (row (m ((c : Thread nD τ).loc main_arg1)) (mate r y)) l) :
    (∑ y : Fin 2048, share (scores (fun l => q (ix2 a l)) (fun z l => k (ix2 z l))) y * iblk m c 2 t (ix2 y d))
    = attended (m ((c : Thread nD τ).loc main_arg0)) (m ((c : Thread nD τ).loc main_arg1)) (m ((c : Thread nD τ).loc main_arg2)) (ix2 r j) := by
  have ha := a.isLt
  unfold attended
  refine Finset.sum_congr rfl fun y _ => ?_
  rw [block_v m c t y d (mate r y) j (by show r.val / 2048 * 2048 + y.val = _; omega) hj]
  simp only [hq, hk]
  rfl

/-- What a grid point writes, from the arrays. -/
theorem point (t : Fin cfg0.N) (a : Fin 256) (d : Fin 128) (r : Fin 8192) (j : Fin 512) (hr : r.val = (t.val / 32 * 8 + t.val % 8) * 256 + a.val)
    (hj : j.val = t.val / 8 % 4 * 128 + d.val) : out0_3 (iblk m c 0 t) (iblk m c 1 t) (iblk m c 2 t) (ix2 a d)
    = attended (m ((c : Thread nD τ).loc main_arg0)) (m ((c : Thread nD τ).loc main_arg1)) (m ((c : Thread nD τ).loc main_arg2)) (ix2 r j) := by
  have ha := a.isLt
  have hN := points t
  unfold out0_3
  frame_out
  refine (both_entry _ _ a d).trans ?_
  by_cases h : d.val < 64
  · rw [if_pos h]
    refine (first_entry _ _ _ a d).trans (part m c t a d r j hr hj _ _ (fun l => ?_) fun y l => ?_)
    · exact (View.ld_unit_apply_of _ _ _ _ _ (ix2 a ⟨l.val, by omega⟩) (by intro b; fin_cases b <;> simp [ix2])).trans
        (block_q m c t a ⟨l.val, by omega⟩ r ⟨(head j).val * 128 + l.val, by omega⟩ hr (by show j.val / 64 * 128 + l.val = t.val / 8 % 4 * 256 + (l.val); omega))
    · exact (View.ld_unit_apply_of _ _ _ _ _ (ix2 y ⟨l.val, by omega⟩) (by intro b; fin_cases b <;> simp [ix2])).trans
        (block_k m c t y ⟨l.val, by omega⟩ (mate r y) ⟨(head j).val * 128 + l.val, by omega⟩ (by show r.val / 2048 * 2048 + y.val = _; omega) (by show j.val / 64 * 128 + l.val = t.val / 8 % 4 * 256 + (l.val); omega))
  · rw [if_neg h]
    refine (second_entry _ _ _ a d).trans (part m c t a d r j hr hj _ _ (fun l => ?_) fun y l => ?_)
    · exact (View.ld_unit_apply_of _ _ _ _ _ (ix2 a ⟨128 + l.val, by omega⟩) (by intro b; fin_cases b <;> simp [ix2])).trans
        (block_q m c t a ⟨128 + l.val, by omega⟩ r ⟨(head j).val * 128 + l.val, by omega⟩ hr (by show j.val / 64 * 128 + l.val = t.val / 8 % 4 * 256 + (128 + l.val); omega))
    · exact (View.ld_unit_apply_of _ _ _ _ _ (ix2 y ⟨128 + l.val, by omega⟩) (by intro b; fin_cases b <;> simp [ix2])).trans
        (block_k m c t y ⟨128 + l.val, by omega⟩ (mate r y) ⟨(head j).val * 128 + l.val, by omega⟩ (by show r.val / 2048 * 2048 + y.val = _; omega) (by show j.val / 64 * 128 + l.val = t.val / 8 % 4 * 256 + (128 + l.val); omega))

/-- The rows after the call. -/
theorem result : (dats m 0 c).arrAt 3 cfg0.N = attended (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨p0, p1, p2, p3⟩ := places t
  have hN := points t
  blk_simp
  rw [after0_3]
  obtain ⟨a, d, rfl⟩ : ∃ (a : Fin 256) (d : Fin 128), y = ix2 a d := ⟨y 0, y 1, eq_ix2 y⟩
  have ha := a.isLt
  have hd := d.isLt
  have h : (t.val / 32 * 8 + t.val % 8) * 256 + a.val < 8192 := by omega
  have h' : t.val / 8 % 4 * 128 + d.val < 512 := by omega
  have e : (win0_3.blk t).view.emb (ix2 a d) = ix2 (⟨(t.val / 32 * 8 + t.val % 8) * 256 + a.val, h⟩ : Fin 8192) (⟨t.val / 8 % 4 * 128 + d.val, h'⟩ : Fin 512) := by
    blk_ext [p3]
  rw [e, point m c t a d ⟨_, h⟩ ⟨_, h'⟩ rfl rfl]

end Points

section Reference
open Cert.AttentionReferenceIdeal Cert.AttentionReferenceIdeal.Gen

/-- The reference's scores, entry by entry. -/
theorem scores_entry (q k : Vec Ideal S8192x1024 .bf16) (b : Fin 4) (h : Fin 8) (x y : Fin 2048) :
    ((mulf (Host.dotGeneral (F := Ideal) (φ₁ := .f32) (φ₂ := .f32) dot_S4x2048x8x128_S4x2048x8x128_S4x8x2048x2048_3_3_1_1_02_02 none (shapeCast _ (extf (F := Ideal) (φ := .bf16) .f32 q bitsLt_bf16_f32) shapeCasts_S8192x1024_S4x2048x8x128) (shapeCast _ (extf (F := Ideal) (φ := .bf16) .f32 k bitsLt_bf16_f32) shapeCasts_S8192x1024_S4x2048x8x128)) (broadcastInDim S4x8x2048x2048 ![] bcast_S_S4x8x2048x2048 (constant (F := Ideal) S_ .f32 0x3DD105EC#32))) : Vec Ideal S4x8x2048x2048 .f32) (ix4 b h x y)
    = scores (lanes h (row q ⟨b.val * 2048 + x.val, by omega⟩)) (fun z => lanes h (row k ⟨b.val * 2048 + z.val, by omega⟩)) y := by
  pointwise []
  rfl

variable (S : FVec Ideal S4x8x2048x2048 .f32)

/-- A maximum with the value that a maximum starts from. -/
theorem start_entry (M : FVec Ideal S4x8x2048 .f32) (b : Fin 4) (h : Fin 8) (x : Fin 2048) :
    ((maximumf (broadcastInDim S4x8x2048 ![] bcast_S_S4x8x2048 (constant (F := Ideal) S_ .f32 0xFF800000#32)) M) : Vec Ideal S4x8x2048 .f32) (ix3 b h x) = max (Ideal.ofBits .f32 4286578688#32) (M (ix3 b h x)) := by
  pointwise []

/-- The maxima along the last axis. -/
theorem fold_entry (b : Fin 4) (h : Fin 8) (x : Fin 2048) :
    ((Host.reduce (FloatOps.maximumf (F := Ideal) (φ := .f32)) S (constant (F := Ideal) S_ .f32 0xFF800000#32) reducesTo_S4x8x2048x2048_S4x8x2048_d3 h_S_) : Vec Ideal S4x8x2048 .f32) (ix3 b h x) = top (fun z => S (ix4 b h x z)) := by
  unfold top
  rw [Host.reduce_eq_fold]
  pointwise []

/-- The scores' maxima as the softmax takes them. -/
theorem peak_entry (b : Fin 4) (h : Fin 8) (x : Fin 2048) : ((maximumf (broadcastInDim S4x8x2048 ![] bcast_S_S4x8x2048 (constant (F := Ideal) S_ .f32 0xFF800000#32)) (Host.reduce (FloatOps.maximumf (F := Ideal) (φ := .f32)) S (constant (F := Ideal) S_ .f32 0xFF800000#32) reducesTo_S4x8x2048x2048_S4x8x2048_d3 h_S_)) : Vec Ideal S4x8x2048 .f32) (ix3 b h x) = top (fun z => S (ix4 b h x z)) :=
  (start_entry _ b h x).trans ((congrArg (max _) (fold_entry S b h x)).trans (top_start _))

/-- The exponentials of their differences from a row's value. -/
theorem exp_entry (M : FVec Ideal S4x8x2048 .f32) (b : Fin 4) (h : Fin 8) (x y : Fin 2048) :
    ((Host.exp (subf S (broadcastInDim S4x8x2048x2048 ![0, 1, 2, 3] bcast_S4x8x2048x1_S4x8x2048x2048_0_1_2_3 (broadcastInDim S4x8x2048x1 ![0, 1, 2] bcast_S4x8x2048_S4x8x2048x1_0_1_2 M)))) : Vec Ideal S4x8x2048x2048 .f32) (ix4 b h x y) = Ideal.exp (S (ix4 b h x y) - M (ix3 b h x)) := by
  pointwise []

/-- Their sums. -/
theorem total_entry (b : Fin 4) (h : Fin 8) (x : Fin 2048) :
    ((Host.reduceAdd S (constant (F := Ideal) S_ .f32 0x00000000#32) reducesTo_S4x8x2048x2048_S4x8x2048_d3 h_S_) : Vec Ideal S4x8x2048 .f32) (ix3 b h x) = ∑ z : Fin 2048, S (ix4 b h x z) := by
  pointwise []

/-- The quotients by a row's value. -/
theorem quotient_entry (M : FVec Ideal S4x8x2048 .f32) (b : Fin 4) (h : Fin 8) (x y : Fin 2048) :
    ((Host.divf S (broadcastInDim S4x8x2048x2048 ![0, 1, 2, 3] bcast_S4x8x2048x1_S4x8x2048x2048_0_1_2_3 (broadcastInDim S4x8x2048x1 ![0, 1, 2] bcast_S4x8x2048_S4x8x2048x1_0_1_2 M))) : Vec Ideal S4x8x2048x2048 .f32) (ix4 b h x y) = Ideal.div (S (ix4 b h x y)) (M (ix3 b h x)) := by
  pointwise []

/-- The reference's softmax. -/
theorem share_entry (b : Fin 4) (h : Fin 8) (x y : Fin 2048) :
    ((Host.divf (Host.exp (subf S (broadcastInDim S4x8x2048x2048 ![0, 1, 2, 3] bcast_S4x8x2048x1_S4x8x2048x2048_0_1_2_3 (broadcastInDim S4x8x2048x1 ![0, 1, 2] bcast_S4x8x2048_S4x8x2048x1_0_1_2 (maximumf (broadcastInDim S4x8x2048 ![] bcast_S_S4x8x2048 (constant (F := Ideal) S_ .f32 0xFF800000#32)) (Host.reduce (FloatOps.maximumf (F := Ideal) (φ := .f32)) S (constant (F := Ideal) S_ .f32 0xFF800000#32) reducesTo_S4x8x2048x2048_S4x8x2048_d3 h_S_)))))) (broadcastInDim S4x8x2048x2048 ![0, 1, 2, 3] bcast_S4x8x2048x1_S4x8x2048x2048_0_1_2_3 (broadcastInDim S4x8x2048x1 ![0, 1, 2] bcast_S4x8x2048_S4x8x2048x1_0_1_2 (Host.reduceAdd (Host.exp (subf S (broadcastInDim S4x8x2048x2048 ![0, 1, 2, 3] bcast_S4x8x2048x1_S4x8x2048x2048_0_1_2_3 (broadcastInDim S4x8x2048x1 ![0, 1, 2] bcast_S4x8x2048_S4x8x2048x1_0_1_2 (maximumf (broadcastInDim S4x8x2048 ![] bcast_S_S4x8x2048 (constant (F := Ideal) S_ .f32 0xFF800000#32)) (Host.reduce (FloatOps.maximumf (F := Ideal) (φ := .f32)) S (constant (F := Ideal) S_ .f32 0xFF800000#32) reducesTo_S4x8x2048x2048_S4x8x2048_d3 h_S_)))))) (constant (F := Ideal) S_ .f32 0x00000000#32) reducesTo_S4x8x2048x2048_S4x8x2048_d3 h_S_)))) : Vec Ideal S4x8x2048x2048 .f32) (ix4 b h x y) = share (fun z => S (ix4 b h x z)) y := by
  refine (quotient_entry _ _ b h x y).trans (congrArg₂ Ideal.div ?_ ((total_entry _ b h x).trans (Finset.sum_congr rfl fun z _ => ?_)))
  · exact (exp_entry S _ b h x y).trans (congrArg (fun e => Ideal.exp (S (ix4 b h x y) - e)) (peak_entry S b h x))
  · exact (exp_entry S _ b h x z).trans (congrArg (fun e => Ideal.exp (S (ix4 b h x z) - e)) (peak_entry S b h x))

/-- The reference's values in given proportions. -/
theorem mixed_entry (P : FVec Ideal S4x8x2048x2048 .f32) (v : Vec Ideal S8192x512 .bf16) (r : Fin 8192) (j : Fin 512) :
    (shapeCast _ (transpose S4x2048x8x64 [0, 3, 1, 2] (Host.dotGeneral (F := Ideal) (φ₁ := .f32) (φ₂ := .f32) dot_S4x2048x8x64_S4x8x2048x2048_S4x8x64x2048_1_3_3_2_02_01 none (shapeCast _ (extf (F := Ideal) (φ := .bf16) .f32 v bitsLt_bf16_f32) shapeCasts_S8192x512_S4x2048x8x64) P) transposes_S4x8x64x2048_S4x2048x8x64_0_3_1_2) shapeCasts_S4x2048x8x64_S8192x512 : Vec Ideal S8192x512 .f32) (ix2 r j)
    = ∑ y : Fin 2048, v (ix2 (mate r y) j) * P (ix4 ⟨r.val / 2048, by omega⟩ (head j) ⟨r.val % 2048, by omega⟩ y) := by
  pointwise []
  rfl

/-- The reference's rows, entry by entry. -/
theorem reference_rows (q k : Vec Ideal S8192x1024 .bf16) (v : Vec Ideal S8192x512 .bf16) (r : Fin 8192) (j : Fin 512) :
    (shapeCast _ (transpose S4x2048x8x64 [0, 3, 1, 2] (Host.dotGeneral (F := Ideal) (φ₁ := .f32) (φ₂ := .f32) dot_S4x2048x8x64_S4x8x2048x2048_S4x8x64x2048_1_3_3_2_02_01 none (shapeCast _ (extf (F := Ideal) (φ := .bf16) .f32 v bitsLt_bf16_f32) shapeCasts_S8192x512_S4x2048x8x64) (Host.divf (Host.exp (subf (mulf (Host.dotGeneral (F := Ideal) (φ₁ := .f32) (φ₂ := .f32) dot_S4x2048x8x128_S4x2048x8x128_S4x8x2048x2048_3_3_1_1_02_02 none (shapeCast _ (extf (F := Ideal) (φ := .bf16) .f32 q bitsLt_bf16_f32) shapeCasts_S8192x1024_S4x2048x8x128) (shapeCast _ (extf (F := Ideal) (φ := .bf16) .f32 k bitsLt_bf16_f32) shapeCasts_S8192x1024_S4x2048x8x128)) (broadcastInDim S4x8x2048x2048 ![] bcast_S_S4x8x2048x2048 (constant (F := Ideal) S_ .f32 0x3DD105EC#32))) (broadcastInDim S4x8x2048x2048 ![0, 1, 2, 3] bcast_S4x8x2048x1_S4x8x2048x2048_0_1_2_3 (broadcastInDim S4x8x2048x1 ![0, 1, 2] bcast_S4x8x2048_S4x8x2048x1_0_1_2 (maximumf (broadcastInDim S4x8x2048 ![] bcast_S_S4x8x2048 (constant (F := Ideal) S_ .f32 0xFF800000#32)) (Host.reduce (FloatOps.maximumf (F := Ideal) (φ := .f32)) (mulf (Host.dotGeneral (F := Ideal) (φ₁ := .f32) (φ₂ := .f32) dot_S4x2048x8x128_S4x2048x8x128_S4x8x2048x2048_3_3_1_1_02_02 none (shapeCast _ (extf (F := Ideal) (φ := .bf16) .f32 q bitsLt_bf16_f32) shapeCasts_S8192x1024_S4x2048x8x128) (shapeCast _ (extf (F := Ideal) (φ := .bf16) .f32 k bitsLt_bf16_f32) shapeCasts_S8192x1024_S4x2048x8x128)) (broadcastInDim S4x8x2048x2048 ![] bcast_S_S4x8x2048x2048 (constant (F := Ideal) S_ .f32 0x3DD105EC#32))) (constant (F := Ideal) S_ .f32 0xFF800000#32) reducesTo_S4x8x2048x2048_S4x8x2048_d3 h_S_)))))) (broadcastInDim S4x8x2048x2048 ![0, 1, 2, 3] bcast_S4x8x2048x1_S4x8x2048x2048_0_1_2_3 (broadcastInDim S4x8x2048x1 ![0, 1, 2] bcast_S4x8x2048_S4x8x2048x1_0_1_2 (Host.reduceAdd (Host.exp (subf (mulf (Host.dotGeneral (F := Ideal) (φ₁ := .f32) (φ₂ := .f32) dot_S4x2048x8x128_S4x2048x8x128_S4x8x2048x2048_3_3_1_1_02_02 none (shapeCast _ (extf (F := Ideal) (φ := .bf16) .f32 q bitsLt_bf16_f32) shapeCasts_S8192x1024_S4x2048x8x128) (shapeCast _ (extf (F := Ideal) (φ := .bf16) .f32 k bitsLt_bf16_f32) shapeCasts_S8192x1024_S4x2048x8x128)) (broadcastInDim S4x8x2048x2048 ![] bcast_S_S4x8x2048x2048 (constant (F := Ideal) S_ .f32 0x3DD105EC#32))) (broadcastInDim S4x8x2048x2048 ![0, 1, 2, 3] bcast_S4x8x2048x1_S4x8x2048x2048_0_1_2_3 (broadcastInDim S4x8x2048x1 ![0, 1, 2] bcast_S4x8x2048_S4x8x2048x1_0_1_2 (maximumf (broadcastInDim S4x8x2048 ![] bcast_S_S4x8x2048 (constant (F := Ideal) S_ .f32 0xFF800000#32)) (Host.reduce (FloatOps.maximumf (F := Ideal) (φ := .f32)) (mulf (Host.dotGeneral (F := Ideal) (φ₁ := .f32) (φ₂ := .f32) dot_S4x2048x8x128_S4x2048x8x128_S4x8x2048x2048_3_3_1_1_02_02 none (shapeCast _ (extf (F := Ideal) (φ := .bf16) .f32 q bitsLt_bf16_f32) shapeCasts_S8192x1024_S4x2048x8x128) (shapeCast _ (extf (F := Ideal) (φ := .bf16) .f32 k bitsLt_bf16_f32) shapeCasts_S8192x1024_S4x2048x8x128)) (broadcastInDim S4x8x2048x2048 ![] bcast_S_S4x8x2048x2048 (constant (F := Ideal) S_ .f32 0x3DD105EC#32))) (constant (F := Ideal) S_ .f32 0xFF800000#32) reducesTo_S4x8x2048x2048_S4x8x2048_d3 h_S_)))))) (constant (F := Ideal) S_ .f32 0x00000000#32) reducesTo_S4x8x2048x2048_S4x8x2048_d3 h_S_))))) transposes_S4x8x64x2048_S4x2048x8x64_0_3_1_2) shapeCasts_S4x2048x8x64_S8192x512 : Vec Ideal S8192x512 .f32) (ix2 r j)
    = attended q k v (ix2 r j) := by
  refine (mixed_entry _ v r j).trans (Finset.sum_congr rfl fun y _ => (mul_comm _ _).trans (congrArg (· * _) ?_))
  refine (share_entry _ _ _ _ y).trans (congrArg (fun s => share s y) (funext fun z => (scores_entry q k _ _ _ z).trans ?_))
  have e : (⟨r.val / 2048 * 2048 + r.val % 2048, by omega⟩ : Fin 8192) = r := Fin.ext (by show r.val / 2048 * 2048 + r.val % 2048 = r.val; omega)
  exact congrArg (fun i => scores (lanes (head j) (row q i)) (fun z => lanes (head j) (row k (mate r z))) z) e

end Reference

set_option maxHeartbeats 2000000 in
/-- Over the extended reals the call's rows are the reference's. -/
theorem algebraic : @Cert.algebraic_AttentionIdeal_AttentionReferenceIdeal Cert.AttentionIdeal.Gen.facts Cert.AttentionReferenceIdeal.Gen.facts :=
  fun m ρ m' ρ' _ hin =>
    ⟨fun c => attended (m ((c : Thread Cert.AttentionIdeal.nD Cert.AttentionIdeal.τ).loc Cert.AttentionIdeal.main_arg0)) (m ((c : Thread Cert.AttentionIdeal.nD Cert.AttentionIdeal.τ).loc Cert.AttentionIdeal.main_arg1)) (m ((c : Thread Cert.AttentionIdeal.nD Cert.AttentionIdeal.τ).loc Cert.AttentionIdeal.main_arg2)),
      (θ_run (Cert.AttentionIdeal.defs (F := Ideal)) _ _).mono (fun r h c => ⟨((h c).1).trans (result m c), (h c).2⟩) (Cert.AttentionIdeal.Value.run_blocks (F := Ideal) m ρ),
      (θ_run (Cert.AttentionReferenceIdeal.defs (F := Ideal)) _ _).mono (fun r h c => by
        obtain ⟨r0, rest⟩ := h c
        obtain ⟨e0, e1, e2⟩ := hin c
        refine ⟨r0.trans ?_, rest⟩
        beta_reduce
        rw [← e0, ← e1, ← e2]
        funext j
        rw [eq_ix2 j]
        exact reference_rows (m' ((c : Thread Cert.AttentionReferenceIdeal.nD Cert.AttentionReferenceIdeal.τ).loc Cert.AttentionReferenceIdeal.main_arg0)) (m' ((c : Thread Cert.AttentionReferenceIdeal.nD Cert.AttentionReferenceIdeal.τ).loc Cert.AttentionReferenceIdeal.main_arg1)) (m' ((c : Thread Cert.AttentionReferenceIdeal.nD Cert.AttentionReferenceIdeal.τ).loc Cert.AttentionReferenceIdeal.main_arg2)) _ _) (Cert.AttentionReferenceIdeal.Value.run (F := Ideal) m' ρ')⟩

end Cert.Attend
-- ==== Proof.Shift.lean ====
/- The token shift of the third branch on one device: in each sequence a row is moved towards the mean of its two neighbours, the row before
   the first and the one after the last being zero. The call takes the neighbours across its blocks' edges from two further blocks of eight
   rows; the reference pads the sequences. -/
module

public import proofs.«01_k».proof.Defs
public import proofs.«01_k».proof.Proof.Gen.Shift.Frame
public import proofs.«01_k».proof.Proof.Gen.ShiftIdeal.Value
public import proofs.«01_k».proof.Proof.Gen.ShiftReferenceIdeal.Run
public import proofs.«01_k».proof.Proof.Norm
public import Idealize.ShloMosaic.Adequacy
public import Idealize.ShloMosaic.Init
public import Idealize.ShloMosaic.Lib.Quiescent
public import Idealize.ShloMosaic.Lib.Pipeline.ValueKit

@[expose] public section

noncomputable section

namespace Cert.TokenShift

open Idealize.ShloMosaic Idealize.ShloMosaic.TcCoe Idealize.SL.Sem
open Cert.Norm (Mat row)

/-- The call leaves its arguments unchanged and every counter at zero. -/
theorem frame : @Cert.quiescent_Shift Cert.Shift.Gen.facts := fun m ρ _ => Cert.Shift.Gen.frame (F := Bits) m ρ

/-- So does its ideal program. -/
theorem frame_ideal : @Cert.quiescent_ShiftIdeal Cert.ShiftIdeal.Gen.facts := fun m ρ _ => Cert.ShiftIdeal.Gen.frame (F := Ideal) m ρ

/-- So does the reference, which declares no semaphore. -/
theorem frame_reference : @Cert.quiescent_ShiftReferenceIdeal Cert.ShiftReferenceIdeal.Gen.facts := fun m ρ _ =>
  (θ_run (Cert.ShiftReferenceIdeal.defs (F := Ideal)) _ _).mono (fun r h => ⟨fun c => (h c).2, sem_eq_zero_of_no_sems (by decide) r.2⟩) (Cert.ShiftReferenceIdeal.Value.run (F := Ideal) m ρ)

/-- The part of the input projection that belongs to the third branch. -/
def part (p : Mat 8192 7168) (r : Fin 8192) (k : Fin 2048) : EReal := p (ix2 r ⟨4096 + k.val, by omega⟩)

/-- A row's predecessor in its sequence, zero for the first. -/
def before (p : Mat 8192 7168) (r : Fin 8192) (k : Fin 2048) : EReal := if r.val % 2048 = 0 then 0 else part p ⟨r.val - 1, by omega⟩ k

/-- A row's successor in its sequence, zero for the last. -/
def after (p : Mat 8192 7168) (r : Fin 8192) (k : Fin 2048) : EReal := if h : r.val % 2048 = 2047 then 0 else part p ⟨r.val + 1, by omega⟩ k

/-- An entry moved by a given share towards the mean of its neighbours. -/
def moved (x mu u v : EReal) : EReal := x + mu * (Ideal.ofBits .f32 0x3F000000#32 * (u + v) - x)

/-- The shifted rows. -/
def shifted (p : Mat 8192 7168) (mu : Mat 1 2048) : Mat 8192 2048 := fun i =>
  moved (part p (i 0) (i 1)) (mu (ix2 0 (i 1))) (before p (i 0) (i 1)) (after p (i 0) (i 1))

/-- Whether a row's number is a multiple of a sequence's 2048 rows, as the program computes it. -/
def opens (b : BitVec 32) : BitVec 1 :=
  let s : BitVec 32 := Scalar.select (Scalar.cmpi .eq 2048#32 0#32) 1#32 2048#32
  Scalar.cmpi .eq (Scalar.select (Scalar.andi (Scalar.xori (Scalar.cmpi .slt (Scalar.remsi b s) 0#32) (Scalar.cmpi .slt s 0#32)) (Scalar.cmpi .ne (Scalar.remsi b s) 0#32))
    (Scalar.addi (Scalar.remsi b s) s) (Scalar.remsi b s)) 0#32

section Points
open Cert.ShiftIdeal Cert.ShiftIdeal.Gen Cert.ShiftIdeal.Value

/-- What a grid point writes, entry by entry. -/
theorem entry (x : Vec Ideal S256x2048 .f32) (u v mu : Vec Ideal S1x2048 .f32) (q : Fin 256) (k : Fin 2048) : k0_pay1 x u v mu (ix2 q k)
    = moved (x (ix2 q k)) (mu (ix2 0 k)) (Scalar.select (IntOp.cmpi .eq (BitVec.ofNat 32 q.val) 0#32) (u (ix2 0 k)) (x (ix2 ⟨(q.val + 255) % 256, by omega⟩ k)))
        (Scalar.select (IntOp.cmpi .eq (BitVec.ofNat 32 q.val) 255#32) (v (ix2 0 k)) (x (ix2 ⟨(q.val + 1) % 256, by omega⟩ k))) := by
  pointwise [k0_pay1]
  have e0 : (⟨(q.val + 256 - 1) % 256, by omega⟩ : Fin 256) = ⟨(q.val + 255) % 256, by omega⟩ := Fin.ext (by show (q.val + 256 - 1) % 256 = (q.val + 255) % 256; omega)
  have e1 : (⟨(q.val + 256 - 255) % 256, by omega⟩ : Fin 256) = ⟨(q.val + 1) % 256, by omega⟩ := Fin.ext (by show (q.val + 256 - 255) % 256 = (q.val + 1) % 256; omega)
  rw [e0, e1]
  rfl

/-- The first row of a block. -/
theorem first_row : ∀ q : Fin 256, IntOp.cmpi .eq (BitVec.ofNat 32 q.val) 0#32 = if q.val = 0 then 1#1 else 0#1 := by decide +kernel

/-- The last. -/
theorem last_row : ∀ q : Fin 256, IntOp.cmpi .eq (BitVec.ofNat 32 q.val) 255#32 = if q.val = 255 then 1#1 else 0#1 := by decide +kernel

/-- The blocks whose first row is a sequence's first. -/
theorem first_block : ∀ t : Fin grid0.N, opens (Scalar.muli (BitVec.ofNat 32 (grid0.coords t 0).val) 256#32) = if t.val % 8 = 0 then 1#1 else 0#1 := by decide +kernel

/-- Those whose last row is a sequence's last. -/
theorem last_block : ∀ t : Fin grid0.N, opens (Scalar.muli (Scalar.addi (BitVec.ofNat 32 (grid0.coords t 0).val) 1#32) 256#32) = if t.val % 8 = 7 then 1#1 else 0#1 := by decide +kernel

/-- The row before a block, as the program takes it. -/
theorem above_entry (t : Fin grid0.N) (x : Vec Ideal S1x2048 .f32) (k : Fin 2048) : k0_pay2 (grid0.coords t) x (ix2 0 k) = if t.val % 8 = 0 then 0 else x (ix2 0 k) := by
  pointwise [k0_pay2]
  refine (congrArg (fun b => Scalar.select b 0 (x (ix2 0 k))) (first_block t)).trans ?_
  by_cases h : t.val % 8 = 0
  · rw [if_pos h, if_pos h]; rfl
  · rw [if_neg h, if_neg h]; rfl

/-- The row after it. -/
theorem below_entry (t : Fin grid0.N) (x : Vec Ideal S1x2048 .f32) (k : Fin 2048) : k0_pay3 (grid0.coords t) x (ix2 0 k) = if t.val % 8 = 7 then 0 else x (ix2 0 k) := by
  pointwise [k0_pay3]
  refine (congrArg (fun b => Scalar.select b 0 (x (ix2 0 k))) (last_block t)).trans ?_
  by_cases h : t.val % 8 = 7
  · rw [if_pos h, if_pos h]; rfl
  · rw [if_neg h, if_neg h]; rfl

end Points

section Arrays
open Cert.ShiftIdeal Cert.ShiftIdeal.Gen Cert.ShiftIdeal.Value

variable (m : (ℓ : Loc nD τ sig) → Buf (Elt Ideal) ℓ) (c : Dev nD)

/-- Where the blocks lie at a grid point. -/
theorem places (t : Fin cfg0.N) : win0_0.index t = ![t.val, 2] ∧ win0_1.index t = ![32 * t.val - 1, 2] ∧ win0_2.index t = ![min (32 * (t.val + 1)) 1023, 2]
    ∧ win0_3.index t = ![0, 0] ∧ win0_4.index t = ![t.val, 0] :=
  (by decide +kernel : ∀ t : Fin grid0.N, win0_0.index t = ![t.val, 2] ∧ win0_1.index t = ![32 * t.val - 1, 2] ∧ win0_2.index t = ![min (32 * (t.val + 1)) 1023, 2]
    ∧ win0_3.index t = ![0, 0] ∧ win0_4.index t = ![t.val, 0]) t

/-- The number of grid points. -/
theorem points (t : Fin cfg0.N) : t.val < 32 := t.isLt.trans_eq N_0

/-- A grid point's block of rows. -/
theorem block_x (t : Fin cfg0.N) (q : Fin 256) (k : Fin 2048) (r : Fin 8192) (hr : r.val = t.val * 256 + q.val) :
    X0_0 m c t (ix2 q k) = part (m ((c : Thread nD τ).loc main_arg0)) r k := by
  obtain ⟨p0, p1, p2, p3, p4⟩ := places t
  show X0_0 m c t (ix2 q k) = m ((c : Thread nD τ).loc main_arg0) (ix2 r ⟨4096 + k.val, _⟩)
  unfold X0_0 Pipeline.Window.fill
  rw [dif_pos (moved0_0 t _)]
  blk_ext [iblk, V, p0, hr]

/-- The eight rows before it. -/
theorem block_u (t : Fin cfg0.N) (q : Fin 8) (k : Fin 2048) (r : Fin 8192) (hr : r.val = (32 * t.val - 1) * 8 + q.val) :
    X0_1 m c t (ix2 q k) = part (m ((c : Thread nD τ).loc main_arg0)) r k := by
  obtain ⟨p0, p1, p2, p3, p4⟩ := places t
  show X0_1 m c t (ix2 q k) = m ((c : Thread nD τ).loc main_arg0) (ix2 r ⟨4096 + k.val, _⟩)
  unfold X0_1 Pipeline.Window.fill
  rw [dif_pos (moved0_1 t _)]
  blk_ext [iblk, V, p1, hr]

/-- The eight rows after it. -/
theorem block_v (t : Fin cfg0.N) (q : Fin 8) (k : Fin 2048) (r : Fin 8192) (hr : r.val = min (32 * (t.val + 1)) 1023 * 8 + q.val) :
    X0_2 m c t (ix2 q k) = part (m ((c : Thread nD τ).loc main_arg0)) r k := by
  obtain ⟨p0, p1, p2, p3, p4⟩ := places t
  show X0_2 m c t (ix2 q k) = m ((c : Thread nD τ).loc main_arg0) (ix2 r ⟨4096 + k.val, _⟩)
  unfold X0_2 Pipeline.Window.fill
  rw [dif_pos (moved0_2 t _)]
  blk_ext [iblk, V, p2, hr]

/-- The shares, whole at every grid point. -/
theorem block_mu (t : Fin cfg0.N) (k : Fin 2048) : iblk m c 3 t (ix2 0 k) = m ((c : Thread nD τ).loc main_arg1) (ix2 0 k) := by
  obtain ⟨p0, p1, p2, p3, p4⟩ := places t
  blk_ext [iblk, V, p3]

/-- The row before a block, as loaded. -/
theorem load_u (t : Fin cfg0.N) (k : Fin 2048) :
    View.ld (X0_1 m c t) (Rect.unit ![7, 0] ![1, 2048] inb_S8x2048_S1x2048_7_0) (ix2 0 k) = X0_1 m c t (ix2 7 k) :=
  View.ld_unit_apply_of _ _ _ _ _ (ix2 7 k) (by intro a; fin_cases a <;> simp [ix2])

/-- The row after it. -/
theorem load_v (t : Fin cfg0.N) (k : Fin 2048) :
    View.ld (X0_2 m c t) (Rect.unit ![0, 0] ![1, 2048] inb_S8x2048_S1x2048_0_0) (ix2 0 k) = X0_2 m c t (ix2 0 k) :=
  View.ld_unit_apply_of _ _ _ _ _ (ix2 0 k) (by intro a; fin_cases a <;> simp [ix2])

/-- The row above a row. -/
theorem above (t : Fin cfg0.N) (q : Fin 256) (k : Fin 2048) (r : Fin 8192) (hr : r.val = t.val * 256 + q.val) :
    Scalar.select (IntOp.cmpi .eq (BitVec.ofNat 32 q.val) 0#32) (k0_pay2 (grid0.coords t) (View.ld (X0_1 m c t) (Rect.unit ![7, 0] ![1, 2048] inb_S8x2048_S1x2048_7_0)) (ix2 0 k))
      (X0_0 m c t (ix2 ⟨(q.val + 255) % 256, by omega⟩ k)) = before (m ((c : Thread nD τ).loc main_arg0)) r k := by
  have hq := q.isLt
  have ht := points t
  rw [first_row q]
  unfold before
  by_cases h0 : q.val = 0
  · rw [if_pos h0]
    refine ((above_entry t _ k).trans ?_)
    by_cases h8 : t.val % 8 = 0
    · rw [if_pos h8, if_pos (by omega)]
    · rw [if_neg h8, if_neg (by omega)]
      exact (load_u m c t k).trans (block_u m c t 7 k _ (by show r.val - 1 = (32 * t.val - 1) * 8 + 7; omega))
  · rw [if_neg h0, if_neg (by omega)]
    exact block_x m c t _ k _ (by show r.val - 1 = t.val * 256 + (q.val + 255) % 256; omega)

/-- The row below it. -/
theorem below (t : Fin cfg0.N) (q : Fin 256) (k : Fin 2048) (r : Fin 8192) (hr : r.val = t.val * 256 + q.val) :
    Scalar.select (IntOp.cmpi .eq (BitVec.ofNat 32 q.val) 255#32) (k0_pay3 (grid0.coords t) (View.ld (X0_2 m c t) (Rect.unit ![0, 0] ![1, 2048] inb_S8x2048_S1x2048_0_0)) (ix2 0 k))
      (X0_0 m c t (ix2 ⟨(q.val + 1) % 256, by omega⟩ k)) = after (m ((c : Thread nD τ).loc main_arg0)) r k := by
  have hq := q.isLt
  have ht := points t
  rw [last_row q]
  unfold after
  by_cases h0 : q.val = 255
  · rw [if_pos h0]
    refine ((below_entry t _ k).trans ?_)
    by_cases h8 : t.val % 8 = 7
    · rw [if_pos h8, dif_pos (by omega)]
    · rw [if_neg h8, dif_neg (by omega)]
      exact (load_v m c t k).trans (block_v m c t 0 k _ (by show r.val + 1 = min (32 * (t.val + 1)) 1023 * 8 + 0; omega))
  · rw [if_neg h0, dif_neg (by omega)]
    exact block_x m c t _ k _ (by show r.val + 1 = t.val * 256 + (q.val + 1) % 256; omega)

/-- What a grid point writes, from the arrays. -/
theorem point (t : Fin cfg0.N) (q : Fin 256) (k : Fin 2048) (r : Fin 8192) (hr : r.val = t.val * 256 + q.val) :
    outsAt0 m c t (ix2 q k) = shifted (m ((c : Thread nD τ).loc main_arg0)) (m ((c : Thread nD τ).loc main_arg1)) (ix2 r k) := by
  unfold outsAt0
  frame_out
  refine (entry _ _ _ _ q k).trans ?_
  rw [block_x m c t q k r hr, block_mu m c t k]
  exact congrArg₂ (moved _ _) (above m c t q k r hr) (below m c t q k r hr)

/-- The rows after the call. -/
theorem result : (dats m 0 c).arrAt 4 cfg0.N = shifted (m ((c : Thread nD τ).loc main_arg0)) (m ((c : Thread nD τ).loc main_arg1)) := by
  refine (dats m 0 c).arrAt_eq_of_covers 4 _ (by decide +kernel) fun t hf y => ?_
  obtain ⟨p0, p1, p2, p3, p4⟩ := places t
  have hN := points t
  blk_simp
  rw [after0_4]
  obtain ⟨q, k, rfl⟩ : ∃ (q : Fin 256) (k : Fin 2048), y = ix2 q k := ⟨y 0, y 1, eq_ix2 y⟩
  have hq := q.isLt
  have h : t.val * 256 + q.val < 8192 := by omega
  have e : (win0_4.blk t).view.emb (ix2 q k) = ix2 (⟨t.val * 256 + q.val, h⟩ : Fin 8192) k := by
    blk_ext [p4]
  rw [e, point m c t q k ⟨t.val * 256 + q.val, h⟩ rfl]

end Arrays

section Reference
open Cert.ShiftReferenceIdeal Cert.ShiftReferenceIdeal.Gen

/-- The pad's value is zero. -/
theorem pad_zero : FloatOps.sitofp (F := Ideal) .f32 (0#32) = (0 : EReal) := by
  show ((((0#32 : BitVec 32).toInt : ℝ)) : EReal) = 0
  simp

/-- The sequences padded in front. -/
theorem front_entry (z : Vec Ideal S4x2048x2048 .f32) (b : Fin 4) (x k : Fin 2048) :
    ((pad S4x2048x2048 ![0, 1, 0] ![0, 0, 0] ![0, 0, 0] (extractStridedSlice S4x2047x2048 ![0, 0, 0] z slices_S4x2048x2048_S4x2047x2048_0_0_0) (sitofp (F := Ideal) .f32 (constantI S_ 32 0#32)) pads_S4x2047x2048_S4x2048x2048_000_100_000 h_S_) : Vec Ideal S4x2048x2048 .f32) (ix3 b x k) = if x.val = 0 then 0 else z (ix3 b ⟨x.val - 1, by omega⟩ k) := by
  pointwise []
  by_cases h : x.val = 0
  · rw [if_pos h, dif_neg (by omega)]
    exact pad_zero
  · rw [if_neg h, dif_pos (by omega)]

/-- The sequences padded behind. -/
theorem behind_entry (z : Vec Ideal S4x2048x2048 .f32) (b : Fin 4) (x k : Fin 2048) :
    ((pad S4x2048x2048 ![0, 0, 0] ![0, 1, 0] ![0, 0, 0] (extractStridedSlice S4x2047x2048 ![0, 1, 0] z slices_S4x2048x2048_S4x2047x2048_0_1_0) (sitofp (F := Ideal) .f32 (constantI S_ 32 0#32)) pads_S4x2047x2048_S4x2048x2048_000_010_000 h_S_) : Vec Ideal S4x2048x2048 .f32) (ix3 b x k) = if h : x.val = 2047 then 0 else z (ix3 b ⟨x.val + 1, by omega⟩ k) := by
  pointwise []
  have hx := x.isLt
  by_cases h : x.val = 2047
  · rw [dif_pos h, dif_neg (by omega)]
    exact pad_zero
  · rw [dif_neg h, dif_pos (by omega)]
    exact congrArg (fun i => z (ix3 b i k)) (Fin.ext (Nat.add_comm 1 x.val))

/-- The sequences' rows, from the projected input's. -/
theorem rows_entry (p : Vec Ideal S8192x7168 .f32) (b : Fin 4) (x k : Fin 2048) :
    ((shapeCast _ (extractStridedSlice S8192x2048 ![0, 4096] p slices_S8192x7168_S8192x2048_0_4096) shapeCasts_S8192x2048_S4x2048x2048) : Vec Ideal S4x2048x2048 .f32) (ix3 b x k) = part p ⟨b.val * 2048 + x.val, by omega⟩ k := by
  pointwise []
  rfl

/-- The reference's last steps. -/
theorem last_entry (mu : Vec Ideal S1x2048 .f32) (z a b : FVec Ideal S4x2048x2048 .f32) (r : Fin 8192) (k : Fin 2048) :
    (shapeCast _ (addf z (mulf (broadcastInDim S4x2048x2048 ![0, 1, 2] bcast_S1x1x2048_S4x2048x2048_0_1_2 (broadcastInDim S1x1x2048 ![1, 2] bcast_S1x2048_S1x1x2048_1_2 mu)) (subf (mulf (broadcastInDim S4x2048x2048 ![] bcast_S_S4x2048x2048 (constant (F := Ideal) S_ .f32 0x3F000000#32)) (addf a b)) z))) shapeCasts_S4x2048x2048_S8192x2048 : Vec Ideal S8192x2048 .f32) (ix2 r k)
    = moved (z (ix3 ⟨r.val / 2048, by omega⟩ ⟨r.val % 2048, by omega⟩ k)) (mu (ix2 0 k)) (a (ix3 ⟨r.val / 2048, by omega⟩ ⟨r.val % 2048, by omega⟩ k))
        (b (ix3 ⟨r.val / 2048, by omega⟩ ⟨r.val % 2048, by omega⟩ k)) := by
  pointwise []
  rfl

/-- The reference's rows, entry by entry. -/
theorem reference_rows (p : Vec Ideal S8192x7168 .f32) (mu : Vec Ideal S1x2048 .f32) (r : Fin 8192) (k : Fin 2048) :
    (shapeCast _ (addf (shapeCast _ (extractStridedSlice S8192x2048 ![0, 4096] p slices_S8192x7168_S8192x2048_0_4096) shapeCasts_S8192x2048_S4x2048x2048) (mulf (broadcastInDim S4x2048x2048 ![0, 1, 2] bcast_S1x1x2048_S4x2048x2048_0_1_2 (broadcastInDim S1x1x2048 ![1, 2] bcast_S1x2048_S1x1x2048_1_2 mu)) (subf (mulf (broadcastInDim S4x2048x2048 ![] bcast_S_S4x2048x2048 (constant (F := Ideal) S_ .f32 0x3F000000#32)) (addf (pad S4x2048x2048 ![0, 1, 0] ![0, 0, 0] ![0, 0, 0] (extractStridedSlice S4x2047x2048 ![0, 0, 0] (shapeCast _ (extractStridedSlice S8192x2048 ![0, 4096] p slices_S8192x7168_S8192x2048_0_4096) shapeCasts_S8192x2048_S4x2048x2048) slices_S4x2048x2048_S4x2047x2048_0_0_0) (sitofp (F := Ideal) .f32 (constantI S_ 32 0#32)) pads_S4x2047x2048_S4x2048x2048_000_100_000 h_S_) (pad S4x2048x2048 ![0, 0, 0] ![0, 1, 0] ![0, 0, 0] (extractStridedSlice S4x2047x2048 ![0, 1, 0] (shapeCast _ (extractStridedSlice S8192x2048 ![0, 4096] p slices_S8192x7168_S8192x2048_0_4096) shapeCasts_S8192x2048_S4x2048x2048) slices_S4x2048x2048_S4x2047x2048_0_1_0) (sitofp (F := Ideal) .f32 (constantI S_ 32 0#32)) pads_S4x2047x2048_S4x2048x2048_000_010_000 h_S_))) (shapeCast _ (extractStridedSlice S8192x2048 ![0, 4096] p slices_S8192x7168_S8192x2048_0_4096) shapeCasts_S8192x2048_S4x2048x2048)))) shapeCasts_S4x2048x2048_S8192x2048 : Vec Ideal S8192x2048 .f32) (ix2 r k) = shifted p mu (ix2 r k) := by
  have er : (⟨r.val / 2048 * 2048 + r.val % 2048, by omega⟩ : Fin 8192) = r := Fin.ext (by show r.val / 2048 * 2048 + r.val % 2048 = r.val; omega)
  have e0 := (rows_entry p ⟨r.val / 2048, by omega⟩ ⟨r.val % 2048, by omega⟩ k).trans (congrArg (fun i => part p i k) er)
  refine (last_entry mu (shapeCast _ (extractStridedSlice S8192x2048 ![0, 4096] p slices_S8192x7168_S8192x2048_0_4096) shapeCasts_S8192x2048_S4x2048x2048) _ _ r k).trans ?_
  rw [e0]
  refine congrArg₂ (moved _ _) ((front_entry _ _ _ k).trans ?_) ((behind_entry _ _ _ k).trans ?_)
  · show _ = before p r k
    unfold before
    by_cases h : r.val % 2048 = 0
    · exact (if_pos h).trans (if_pos h).symm
    · refine (if_neg h).trans (((rows_entry p _ _ k).trans ?_).trans (if_neg h).symm)
      exact congrArg (fun i => part p i k) (Fin.ext (by show r.val / 2048 * 2048 + (r.val % 2048 - 1) = r.val - 1; omega))
  · show _ = after p r k
    unfold after
    by_cases h : r.val % 2048 = 2047
    · refine (dif_pos h).trans ?_
      symm
      exact dif_pos h
    · refine (dif_neg h).trans (((rows_entry p _ _ k).trans ?_).trans (dif_neg h).symm)
      exact congrArg (fun i => part p i k) (Fin.ext (by show r.val / 2048 * 2048 + (r.val % 2048 + 1) = r.val + 1; omega))

end Reference

set_option maxHeartbeats 2000000 in
/-- Over the extended reals the call's rows are the reference's. -/
theorem algebraic : @Cert.algebraic_ShiftIdeal_ShiftReferenceIdeal Cert.ShiftIdeal.Gen.facts Cert.ShiftReferenceIdeal.Gen.facts :=
  fun m ρ m' ρ' _ hin =>
    ⟨fun c => shifted (m ((c : Thread Cert.ShiftIdeal.nD Cert.ShiftIdeal.τ).loc Cert.ShiftIdeal.main_arg0)) (m ((c : Thread Cert.ShiftIdeal.nD Cert.ShiftIdeal.τ).loc Cert.ShiftIdeal.main_arg1)),
      (θ_run (Cert.ShiftIdeal.defs (F := Ideal)) _ _).mono (fun r h c => ⟨((h c).1).trans (result m c), (h c).2⟩) (Cert.ShiftIdeal.Value.run_blocks (F := Ideal) m ρ),
      (θ_run (Cert.ShiftReferenceIdeal.defs (F := Ideal)) _ _).mono (fun r h c => by
        obtain ⟨r0, rest⟩ := h c
        obtain ⟨e0, e1⟩ := hin c
        refine ⟨r0.trans ?_, rest⟩
        beta_reduce
        rw [← e0, ← e1]
        funext j
        rw [eq_ix2 j]
        exact reference_rows _ _ _ _) (Cert.ShiftReferenceIdeal.Value.run (F := Ideal) m' ρ')⟩

end Cert.TokenShift
-- ==== Proof.Gating.lean ====
/- The spatial gating of the second branch on one device: half of the projected input's entries, bent by the GELU, weigh what the other half,
   bent, normalized and mixed over the rows of a chunk by their group's weights, comes to. The call mixes all lanes by each group's weights and
   keeps each group's own; the reference mixes each group once. -/
module

public import proofs.«01_k».proof.Defs
public import proofs.«01_k».proof.Proof.Gen.Gating.Frame
public import proofs.«01_k».proof.Proof.Gen.GatingIdeal.Value
public import proofs.«01_k».proof.Proof.Gen.GatingReferenceIdeal.Run
public import proofs.«01_k».proof.Proof.Norm
public import Idealize.ShloMosaic.Adequacy
public import Idealize.ShloMosaic.Init
public import Idealize.ShloMosaic.Lib.Quiescent
public import Idealize.ShloMosaic.Lib.Pipeline.ValueKit

@[expose] public section

noncomputable section

namespace Cert.SpatialGating

open Idealize.ShloMosaic Idealize.ShloMosaic.TcCoe Idealize.SL.Sem
open Cert.Norm (Mat row)

/-- The call leaves its arguments unchanged and every counter at zero. -/
theorem frame : @Cert.quiescent_Gating Cert.Gating.Gen.facts := fun m ρ _ => Cert.Gating.Gen.frame (F := Bits) m ρ

/-- So does its ideal program. -/
theorem frame_ideal : @Cert.quiescent_GatingIdeal Cert.GatingIdeal.Gen.facts := fun m ρ _ => Cert.GatingIdeal.Gen.frame (F := Ideal) m ρ

/-- So does the reference, which declares no semaphore. -/
theorem frame_reference : @Cert.quiescent_GatingReferenceIdeal Cert.GatingReferenceIdeal.Gen.facts := fun m ρ _ =>
  (θ_run (Cert.GatingReferenceIdeal.defs (F := Ideal)) _ _).mono (fun r h => ⟨fun c => (h c).2, sem_eq_zero_of_no_sems (by decide) r.2⟩) (Cert.GatingReferenceIdeal.Value.run (F := Ideal) m ρ)

/-- The GELU in its tangent form. -/
def bend (x : EReal) : EReal := x * (Ideal.ofBits .f32 0x3F000000#32 * (1 + Ideal.tanh (Ideal.ofBits .f32 0x3F4C422A#32 * (x + Ideal.ofBits .f32 0x3D372713#32 * (x * x * x)))))

/-- The factors may be gathered otherwise. -/
theorem bend_eq (x : EReal) :
    Ideal.ofBits .f32 0x3F000000#32 * x * (1 + Ideal.tanh (Ideal.ofBits .f32 0x3F4C422A#32 * (x + Ideal.ofBits .f32 0x3D372713#32 * x * x * x))) = bend x := by
  unfold bend
  rw [mul_assoc (Ideal.ofBits .f32 0x3D372713#32) x x, mul_assoc (Ideal.ofBits .f32 0x3D372713#32) (x * x) x, mul_comm (Ideal.ofBits .f32 0x3F000000#32) x, mul_assoc x]

/-- A row's mean. -/
def mean (v : Fin 512 → EReal) : EReal := Ideal.div (∑ k : Fin 512, v k) (Ideal.ofBits .f32 0x44000000#32)

/-- How far an entry lies from its row's mean. -/
def apart (v : Fin 512 → EReal) (k : Fin 512) : EReal := v k - mean v

/-- The layer norm of a row, with its scale and offset. -/
def normed (v g b : Fin 512 → EReal) (k : Fin 512) : EReal :=
  apart v k * Ideal.rsqrt (mean (fun j => apart v j * apart v j) + Ideal.ofBits .f32 0x3727C5AC#32) * g k + b k

/-- The half of the projected input that weighs. -/
def left (p : Mat 8192 7168) (r : Fin 8192) (k : Fin 512) : EReal := bend (p (ix2 r ⟨3072 + k.val, by omega⟩))

/-- The half that is weighed. -/
def right (p : Mat 8192 7168) (r : Fin 8192) (k : Fin 512) : EReal := bend (p (ix2 r ⟨3584 + k.val, by omega⟩))

/-- A lane's group. -/
def group (k : Fin 512) : Fin 8 := ⟨k.val / 64, by omega⟩

/-- A row's place in its chunk. -/
def place (r : Fin 8192) : Fin 128 := ⟨r.val % 128, by omega⟩

/-- A row of the same chunk. -/
def fellow (r : Fin 8192) (s : Fin 128) : Fin 8192 := ⟨r.val / 128 * 128 + s.val, by omega⟩

/-- The gated rows. -/
def gated (p : Mat 8192 7168) (lg lb : Mat 1 512) (bi : Mat 128 512) (w : Fin 8 → Mat 128 128) : Mat 8192 512 := fun i =>
  left p (i 0) (i 1) * ((∑ s : Fin 128, normed (right p (fellow (i 0) s)) (row lg 0) (row lb 0) (i 1) * w (group (i 1)) (ix2 (place (i 0)) s)) + bi (ix2 (place (i 0)) (i 1)))

/-- Of eight terms masked by their group, the lane's own is left. -/
theorem own (g : Fin 8) (b : EReal) (f : Fin 8 → EReal) :
    b + Scalar.select (IntOp.cmpi .eq (BitVec.ofNat 32 g.val) 0#32) (f 0) 0 + Scalar.select (IntOp.cmpi .eq (BitVec.ofNat 32 g.val) 1#32) (f 1) 0
      + Scalar.select (IntOp.cmpi .eq (BitVec.ofNat 32 g.val) 2#32) (f 2) 0 + Scalar.select (IntOp.cmpi .eq (BitVec.ofNat 32 g.val) 3#32) (f 3) 0
      + Scalar.select (IntOp.cmpi .eq (BitVec.ofNat 32 g.val) 4#32) (f 4) 0 + Scalar.select (IntOp.cmpi .eq (BitVec.ofNat 32 g.val) 5#32) (f 5) 0
      + Scalar.select (IntOp.cmpi .eq (BitVec.ofNat 32 g.val) 6#32) (f 6) 0 + Scalar.select (IntOp.cmpi .eq (BitVec.ofNat 32 g.val) 7#32) (f 7) 0 = f g + b := by
  have e : ∀ h : Fin 8, ∀ a : EReal, Scalar.select (IntOp.cmpi .eq (BitVec.ofNat 32 g.val) (BitVec.ofNat 32 h.val)) a 0 = if g = h then a else 0 := by
    intro h a
    have d : ∀ g h : Fin 8, IntOp.cmpi .eq (BitVec.ofNat 32 g.val) (BitVec.ofNat 32 h.val) = if g = h then 1#1 else 0#1 := by decide +kernel
    rw [d g h]
    by_cases k : g = h
    · rw [if_pos k, if_pos k]; rfl
    · rw [if_neg k, if_neg k]; rfl
  refine (congrArg₂ (· + ·) (congrArg₂ (· + ·) (congrArg₂ (· + ·) (congrArg₂ (· + ·) (congrArg₂ (· + ·) (congrArg₂ (· + ·) (congrArg₂ (· + ·) (congrArg (b + ·)
    (e 0 (f 0))) (e 1 (f 1))) (e 2 (f 2))) (e 3 (f 3))) (e 4 (f 4))) (e 5 (f 5))) (e 6 (f 6))) (e 7 (f 7))).trans ?_
  rw [add_comm (f g) b]
  fin_cases g <;> simp

section Points
open Cert.GatingIdeal Cert.GatingIdeal.Gen Cert.GatingIdeal.Value

/-- The weighing half at a grid point. -/
theorem left_entry (x : Vec Ideal S128x512 .f32) (q : Fin 128) (k : Fin 512) : k0_pay2 x (ix2 q k) = bend (x (ix2 q k)) := by
  pointwise [k0_pay2]
  exact bend_eq _

/-- The weighed half, bent. -/
theorem bent_entry (x : Vec Ideal S128x512 .f32) (lg lb : Vec Ideal S1x512 .f32) (q : Fin 128) (k : Fin 512) :
    k0_pay4 x lg lb (k0_pay3 x) (ix2 q k) = normed (fun j => bend (x (ix2 q j))) (row lg 0) (row lb 0) k := by
  pointwise [k0_pay4, k0_pay3]
  simp only [bend_eq]
  rfl

/-- A lane's group, as the program finds it. -/
theorem group_entry (q : Fin 128) (k : Fin 512) :
    k0_pay8 (iota .tc S128x512 32 [1] iota_S128x512_d1_w32) 64#32 k0_pay5 k0_pay6 k0_pay7 (ix2 q k) = BitVec.ofNat 32 (group k).val := by
  pointwise [k0_pay8, k0_pay5, k0_pay6, k0_pay7]
  show _ = BitVec.ofNat 32 (k.val / 64)
  revert k
  decide +kernel

/-- The rows of a chunk mixed, masked and weighed. -/
theorem mixed_entry (w0 w1 w2 w3 w4 w5 w6 w7 : Vec Ideal S128x128 .f32) (u n bi : Vec Ideal S128x512 .f32) (i a b d : IVec S128x512 32) (q : Fin 128) (k : Fin 512)
    (h : k0_pay8 i 64#32 a b d (ix2 q k) = BitVec.ofNat 32 (group k).val) :
    k0_pay1 w5 w6 w7 u n (k0_pay8 i 64#32 a b d) (k0_pay9 bi w0 w1 w2 w3 n i 64#32 a b d) (k0_pay10 i 64#32 a b d) (k0_pay11 w4) (k0_pay12 n) (ix2 q k)
    = u (ix2 q k) * ((∑ s : Fin 128, n (ix2 s k) * (![w0, w1, w2, w3, w4, w5, w6, w7] : Fin 8 → Vec Ideal S128x128 .f32) (group k) (ix2 q s)) + bi (ix2 q k)) := by
  pointwise [k0_pay1, k0_pay9, k0_pay10, k0_pay11, k0_pay12]
  rw [h]
  refine congrArg (u (ix2 q k) * ·) ((own (group k) (bi (ix2 q k)) fun g => ∑ s : Fin 128, (![w0, w1, w2, w3, w4, w5, w6, w7] : Fin 8 → Vec Ideal S128x128 .f32) g (ix2 q s) * n (ix2 s k)).trans ?_)
  exact congrArg (· + _) (Finset.sum_congr rfl fun s _ => mul_comm _ _)

end Points
section Arrays
open Cert.GatingIdeal Cert.GatingIdeal.Gen Cert.GatingIdeal.Value

variable (m : (ℓ : Loc nD τ sig) → Buf (Elt Ideal) ℓ) (c : Dev nD)

/-- The groups' weights. -/
def weights : Fin 8 → Mat 128 128 := ![(m ((c : Thread nD τ).loc main_arg4)), (m ((c : Thread nD τ).loc main_arg5)), (m ((c : Thread nD τ).loc main_arg6)), (m ((c : Thread nD τ).loc main_arg7)), (m ((c : Thread nD τ).loc main_arg8)), (m ((c : Thread nD τ).loc main_arg9)), (m ((c : Thread nD τ).loc main_arg10)), (m ((c : Thread nD τ).loc main_arg11))]

/-- Where the blocks lie at a grid point. -/
theorem places (t : Fin cfg0.N) : win0_0.index t = ![t.val, 6] ∧ win0_1.index t = ![t.val, 7] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![t.val, 0] :=
  (by decide +kernel : ∀ t : Fin grid0.N, win0_0.index t = ![t.val, 6] ∧ win0_1.index t = ![t.val, 7] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![t.val, 0]) t

/-- The number of grid points. -/
theorem points (t : Fin cfg0.N) : t.val < 64 := t.isLt.trans_eq N_0

/-- A grid point's block of the weighing half. -/
theorem block_u (t : Fin cfg0.N) (q : Fin 128) (k : Fin 512) (r : Fin 8192) (hr : r.val = t.val * 128 + q.val) :
    iblk m c 0 t (ix2 q k) = (m ((c : Thread nD τ).loc main_arg0)) (ix2 r ⟨3072 + k.val, by omega⟩) := by
  obtain ⟨p0, p1, p2, p3, p4, p5, p6, p7, p8, p9, p10, p11, p12, p13⟩ := places t
  blk_ext [iblk, V, p0, hr]

/-- Of the weighed half. -/
theorem block_v (t : Fin cfg0.N) (q : Fin 128) (k : Fin 512) (r : Fin 8192) (hr : r.val = t.val * 128 + q.val) :
    iblk m c 1 t (ix2 q k) = (m ((c : Thread nD τ).loc main_arg0)) (ix2 r ⟨3584 + k.val, by omega⟩) := by
  obtain ⟨p0, p1, p2, p3, p4, p5, p6, p7, p8, p9, p10, p11, p12, p13⟩ := places t
  blk_ext [iblk, V, p1, hr]

/-- The norm's scale is whole at every grid point. -/
theorem block_g (t : Fin cfg0.N) : row (iblk m c 2 t) 0 = row (m ((c : Thread nD τ).loc main_arg1)) 0 := by
  obtain ⟨p0, p1, p2, p3, p4, p5, p6, p7, p8, p9, p10, p11, p12, p13⟩ := places t
  funext k
  show iblk m c 2 t (ix2 0 k) = (m ((c : Thread nD τ).loc main_arg1)) (ix2 0 k)
  blk_ext [iblk, V, p2]

/-- So is its offset. -/
theorem block_b (t : Fin cfg0.N) : row (iblk m c 3 t) 0 = row (m ((c : Thread nD τ).loc main_arg2)) 0 := by
  obtain ⟨p0, p1, p2, p3, p4, p5, p6, p7, p8, p9, p10, p11, p12, p13⟩ := places t
  funext k
  show iblk m c 3 t (ix2 0 k) = (m ((c : Thread nD τ).loc main_arg2)) (ix2 0 k)
  blk_ext [iblk, V, p3]

/-- So is the mixing's bias. -/
theorem block_bi (t : Fin cfg0.N) (q : Fin 128) (k : Fin 512) : iblk m c 4 t (ix2 q k) = (m ((c : Thread nD τ).loc main_arg3)) (ix2 q k) := by
  obtain ⟨p0, p1, p2, p3, p4, p5, p6, p7, p8, p9, p10, p11, p12, p13⟩ := places t
  blk_ext [iblk, V, p4]

/-- The first group's weights are whole at every grid point. -/
theorem block_w0 (t : Fin cfg0.N) (q s : Fin 128) : iblk m c 5 t (ix2 q s) = (m ((c : Thread nD τ).loc main_arg4)) (ix2 q s) := by
  obtain ⟨p0, p1, p2, p3, p4, p5, p6, p7, p8, p9, p10, p11, p12, p13⟩ := places t
  blk_ext [iblk, V, p5]

/-- The second group's weights are whole at every grid point. -/
theorem block_w1 (t : Fin cfg0.N) (q s : Fin 128) : iblk m c 6 t (ix2 q s) = (m ((c : Thread nD τ).loc main_arg5)) (ix2 q s) := by
  obtain ⟨p0, p1, p2, p3, p4, p5, p6, p7, p8, p9, p10, p11, p12, p13⟩ := places t
  blk_ext [iblk, V, p6]

/-- The third group's weights are whole at every grid point. -/
theorem block_w2 (t : Fin cfg0.N) (q s : Fin 128) : iblk m c 7 t (ix2 q s) = (m ((c : Thread nD τ).loc main_arg6)) (ix2 q s) := by
  obtain ⟨p0, p1, p2, p3, p4, p5, p6, p7, p8, p9, p10, p11, p12, p13⟩ := places t
  blk_ext [iblk, V, p7]

/-- The fourth group's weights are whole at every grid point. -/
theorem block_w3 (t : Fin cfg0.N) (q s : Fin 128) : iblk m c 8 t (ix2 q s) = (m ((c : Thread nD τ).loc main_arg7)) (ix2 q s) := by
  obtain ⟨p0, p1, p2, p3, p4, p5, p6, p7, p8, p9, p10, p11, p12, p13⟩ := places t
  blk_ext [iblk, V, p8]

/-- The fifth group's weights are whole at every grid point. -/
theorem block_w4 (t : Fin cfg0.N) (q s : Fin 128) : iblk m c 9 t (ix2 q s) = (m ((c : Thread nD τ).loc main_arg8)) (ix2 q s) := by
  obtain ⟨p0, p1, p2, p3, p4, p5, p6, p7, p8, p9, p10, p11, p12, p13⟩ := places t
  blk_ext [iblk, V, p9]

/-- The sixth group's weights are whole at every grid point. -/
theorem block_w5 (t : Fin cfg0.N) (q s : Fin 128) : iblk m c 10 t (ix2 q s) = (m ((c : Thread nD τ).loc main_arg9)) (ix2 q s) := by
  obtain ⟨p0, p1, p2, p3, p4, p5, p6, p7, p8, p9, p10, p11, p12, p13⟩ := places t
  blk_ext [iblk, V, p10]

/-- The seventh group's weights are whole at every grid point. -/
theorem block_w6 (t : Fin cfg0.N) (q s : Fin 128) : iblk m c 11 t (ix2 q s) = (m ((c : Thread nD τ).loc main_arg10)) (ix2 q s) := by
  obtain ⟨p0, p1, p2, p3, p4, p5, p6, p7, p8, p9, p10, p11, p12, p13⟩ := places t
  blk_ext [iblk, V, p11]

/-- The eighth group's weights are whole at every grid point. -/
theorem block_w7 (t : Fin cfg0.N) (q s : Fin 128) : iblk m c 12 t (ix2 q s) = (m ((c : Thread nD τ).loc main_arg11)) (ix2 q s) := by
  obtain ⟨p0, p1, p2, p3, p4, p5, p6, p7, p8, p9, p10, p11, p12, p13⟩ := places t
  blk_ext [iblk, V, p12]

/-- The groups' weights at a grid point. -/
theorem block_w (t : Fin cfg0.N) (g : Fin 8) (q s : Fin 128) :
    (![iblk m c 5 t, iblk m c 6 t, iblk m c 7 t, iblk m c 8 t, iblk m c 9 t, iblk m c 10 t, iblk m c 11 t, iblk m c 12 t] : Fin 8 → Vec Ideal S128x128 .f32) g (ix2 q s) = weights m c g (ix2 q s) := by
  fin_cases g
  · exact block_w0 m c t q s
  · exact block_w1 m c t q s
  · exact block_w2 m c t q s
  · exact block_w3 m c t q s
  · exact block_w4 m c t q s
  · exact block_w5 m c t q s
  · exact block_w6 m c t q s
  · exact block_w7 m c t q s

/-- What a grid point writes, from the arrays. -/
theorem point (t : Fin cfg0.N) (q : Fin 128) (k : Fin 512) (r : Fin 8192) (hr : r.val = t.val * 128 + q.val) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 q k) = gated (m ((c : Thread nD τ).loc main_arg0)) (m ((c : Thread nD τ).loc main_arg1)) (m ((c : Thread nD τ).loc main_arg2)) (m ((c : Thread nD τ).loc main_arg3)) (weights m c) (ix2 r k) := by
  have hq := q.isLt
  have e : place r = q := Fin.ext (by show r.val % 128 = q.val; omega)
  unfold_out out0_13
  frame_out
  refine (mixed_entry _ _ _ _ _ _ _ _ _ _ _ _ _ _ _ q k (group_entry q k)).trans ?_
  unfold gated
  refine congrArg₂ (· * ·) ?_ (congrArg₂ (· + ·) (Finset.sum_congr rfl fun s _ => congrArg₂ (· * ·) ?_ ?_) ?_)
  · exact (left_entry _ q k).trans (congrArg bend (block_u m c t q k r hr))
  · refine (bent_entry _ _ _ s k).trans ?_
    rw [block_g m c t, block_b m c t]
    exact congrArg (fun v => normed v _ _ k) (funext fun j => congrArg bend (block_v m c t s j (fellow r s) (by show r.val / 128 * 128 + s.val = t.val * 128 + s.val; omega)))
  · exact (block_w m c t (group k) q s).trans (congrArg (fun i => weights m c (group k) (ix2 i s)) e.symm)
  · exact (block_bi m c t q k).trans (congrArg (fun i => (m ((c : Thread nD τ).loc main_arg3)) (ix2 i k)) e.symm)

/-- The rows after the call. -/
theorem result : (dats m 0 c).arrAt 13 cfg0.N = gated (m ((c : Thread nD τ).loc main_arg0)) (m ((c : Thread nD τ).loc main_arg1)) (m ((c : Thread nD τ).loc main_arg2)) (m ((c : Thread nD τ).loc main_arg3)) (weights m c) := by
  refine (dats m 0 c).arrAt_eq_of_covers 13 _ (by decide +kernel) fun t hf y => ?_
  obtain ⟨p0, p1, p2, p3, p4, p5, p6, p7, p8, p9, p10, p11, p12, p13⟩ := places t
  have hN := points t
  blk_simp
  rw [after0_13]
  obtain ⟨q, k, rfl⟩ : ∃ (q : Fin 128) (k : Fin 512), y = ix2 q k := ⟨y 0, y 1, eq_ix2 y⟩
  have hq := q.isLt
  have h : t.val * 128 + q.val < 8192 := by omega
  have e : (win0_13.blk t).view.emb (ix2 q k) = ix2 (⟨t.val * 128 + q.val, h⟩ : Fin 8192) k := by
    blk_ext [p13]
  rw [e, point m c t q k ⟨t.val * 128 + q.val, h⟩ rfl]

end Arrays

section Reference
open Cert.GatingReferenceIdeal Cert.GatingReferenceIdeal.Gen

/-- The reference's bent rows, as a term of its operations. -/
def bentRows (x : FVec Ideal S8192x1024 .f32) : FVec Ideal S8192x1024 .f32 := (mulf x (mulf (broadcastInDim S8192x1024 ![] bcast_S_S8192x1024 (constant (F := Ideal) S_ .f32 0x3F000000#32)) (addf (broadcastInDim S8192x1024 ![] bcast_S_S8192x1024 (constant (F := Ideal) S_ .f32 0x3F800000#32)) (Host.tanh (mulf (broadcastInDim S8192x1024 ![] bcast_S_S8192x1024 (constant (F := Ideal) S_ .f32 0x3F4C422A#32)) (addf x (mulf (broadcastInDim S8192x1024 ![] bcast_S_S8192x1024 (constant (F := Ideal) S_ .f32 0x3D372713#32)) (mulf (mulf x x) x))))))))

/-- Its means. -/
def meanRows (v : FVec Ideal S8192x512 .f32) : FVec Ideal S8192x1 .f32 := (Host.divf (broadcastInDim S8192x1 ![0] bcast_S8192_S8192x1_0 (Host.reduceAdd v (constant (F := Ideal) S_ .f32 0x00000000#32) reducesTo_S8192x512_S8192_d1 h_S_)) (broadcastInDim S8192x1 ![] bcast_S_S8192x1 (constant (F := Ideal) S_ .f32 0x44000000#32)))

/-- Its rows less given means. -/
def apartRows (v : FVec Ideal S8192x512 .f32) (u : FVec Ideal S8192x1 .f32) : FVec Ideal S8192x512 .f32 := (subf v (broadcastInDim S8192x512 ![0, 1] bcast_S8192x1_S8192x512_0_1 u))

/-- Its rows scaled by given variances. -/
def scaledRows (d : FVec Ideal S8192x512 .f32) (u : FVec Ideal S8192x1 .f32) (lg lb : Vec Ideal S1x512 .f32) : FVec Ideal S8192x512 .f32 := (addf (mulf (mulf d (broadcastInDim S8192x512 ![0, 1] bcast_S8192x1_S8192x512_0_1 (Host.rsqrt (addf u (broadcastInDim S8192x1 ![] bcast_S_S8192x1 (constant (F := Ideal) S_ .f32 0x3727C5AC#32)))))) (broadcastInDim S8192x512 ![0, 1] bcast_S1x512_S8192x512_0_1 lg)) (broadcastInDim S8192x512 ![0, 1] bcast_S1x512_S8192x512_0_1 lb))

/-- Its squares. -/
def squareRows (d : FVec Ideal S8192x512 .f32) : FVec Ideal S8192x512 .f32 := mulf d d

/-- Its normalized rows. -/
def normedRows (v : FVec Ideal S8192x512 .f32) (lg lb : Vec Ideal S1x512 .f32) : FVec Ideal S8192x512 .f32 := scaledRows (apartRows v (meanRows v)) (meanRows (squareRows (apartRows v (meanRows v)))) lg lb

/-- Its stacked weights. -/
def stacked (w0 w1 w2 w3 w4 w5 w6 w7 : Vec Ideal S128x128 .f32) : FVec Ideal S8x128x128 .f32 := (concatenate S8x128x128 0 [⟨S1x128x128, (broadcastInDim S1x128x128 ![1, 2] bcast_S128x128_S1x128x128_1_2 w0)⟩, ⟨S1x128x128, (broadcastInDim S1x128x128 ![1, 2] bcast_S128x128_S1x128x128_1_2 w1)⟩, ⟨S1x128x128, (broadcastInDim S1x128x128 ![1, 2] bcast_S128x128_S1x128x128_1_2 w2)⟩, ⟨S1x128x128, (broadcastInDim S1x128x128 ![1, 2] bcast_S128x128_S1x128x128_1_2 w3)⟩, ⟨S1x128x128, (broadcastInDim S1x128x128 ![1, 2] bcast_S128x128_S1x128x128_1_2 w4)⟩, ⟨S1x128x128, (broadcastInDim S1x128x128 ![1, 2] bcast_S128x128_S1x128x128_1_2 w5)⟩, ⟨S1x128x128, (broadcastInDim S1x128x128 ![1, 2] bcast_S128x128_S1x128x128_1_2 w6)⟩, ⟨S1x128x128, (broadcastInDim S1x128x128 ![1, 2] bcast_S128x128_S1x128x128_1_2 w7)⟩] concatenates_S1x128x128_S1x128x128_S1x128x128_S1x128x128_S1x128x128_S1x128x128_S1x128x128_S1x128x128_S8x128x128_d0)

/-- Its mixed rows. -/
def mixedRows (n : FVec Ideal S8192x512 .f32) (w : FVec Ideal S8x128x128 .f32) (bi : Vec Ideal S128x512 .f32) : FVec Ideal S8192x512 .f32 := (shapeCast _ (addf (shapeCast _ (transpose S64x128x8x64 [1, 3, 0, 2] (Host.dotGeneral (F := Ideal) (φ₁ := .f32) (φ₂ := .f32) dot_S64x128x8x64_S8x128x128_S8x64x64x128_1_2_03_1_2_0 none (shapeCast _ n shapeCasts_S8192x512_S64x128x8x64) w) transposes_S8x64x64x128_S64x128x8x64_1_3_0_2) shapeCasts_S64x128x8x64_S64x128x512) (broadcastInDim S64x128x512 ![0, 1, 2] bcast_S1x128x512_S64x128x512_0_1_2 (broadcastInDim S1x128x512 ![1, 2] bcast_S128x512_S1x128x512_1_2 bi))) shapeCasts_S64x128x512_S8192x512)

/-- The projected input's part for this branch. -/
def branchRows (p : Vec Ideal S8192x7168 .f32) : FVec Ideal S8192x1024 .f32 := (extractStridedSlice S8192x1024 ![0, 3072] p slices_S8192x7168_S8192x1024_0_3072)

/-- Its first half. -/
def firstHalf (y : FVec Ideal S8192x1024 .f32) : FVec Ideal S8192x512 .f32 := (extractStridedSlice S8192x512 ![0, 0] y slices_S8192x1024_S8192x512_0_0)

/-- Its second half. -/
def secondHalf (y : FVec Ideal S8192x1024 .f32) : FVec Ideal S8192x512 .f32 := (extractStridedSlice S8192x512 ![0, 512] y slices_S8192x1024_S8192x512_0_512)

/-- The reference's GELU. -/
theorem gelu_entry (x : FVec Ideal S8192x1024 .f32) (r : Fin 8192) (k : Fin 1024) : bentRows x (ix2 r k) = bend (x (ix2 r k)) := by
  unfold bentRows
  pointwise []
  rfl

/-- The rows' means. -/
theorem mean_entry (v : FVec Ideal S8192x512 .f32) (r : Fin 8192) : meanRows v (ix2 r 0) = mean (fun j => v (ix2 r j)) := by
  unfold meanRows
  pointwise []
  rfl

/-- What is left after a mean. -/
theorem apart_entry (v : FVec Ideal S8192x512 .f32) (u : FVec Ideal S8192x1 .f32) (r : Fin 8192) (k : Fin 512) : apartRows v u (ix2 r k) = v (ix2 r k) - u (ix2 r 0) := by
  unfold apartRows
  pointwise []

/-- It, scaled. -/
theorem scaled_entry (d : FVec Ideal S8192x512 .f32) (u : FVec Ideal S8192x1 .f32) (lg lb : Vec Ideal S1x512 .f32) (r : Fin 8192) (k : Fin 512) :
    scaledRows d u lg lb (ix2 r k) = d (ix2 r k) * Ideal.rsqrt (u (ix2 r 0) + Ideal.ofBits .f32 0x3727C5AC#32) * lg (ix2 0 k) + lb (ix2 0 k) := by
  unfold scaledRows
  pointwise []

/-- The groups' weights, stacked. -/
theorem stack_entry (w0 w1 w2 w3 w4 w5 w6 w7 : Vec Ideal S128x128 .f32) (g : Fin 8) (q s : Fin 128) :
    stacked w0 w1 w2 w3 w4 w5 w6 w7 (ix3 g q s) = (![w0, w1, w2, w3, w4, w5, w6, w7] : Fin 8 → Vec Ideal S128x128 .f32) g (ix2 q s) := by
  unfold stacked
  pointwise []
  fin_cases g <;> rfl

/-- The rows of a chunk mixed by the stacked weights. -/
theorem chunk_entry (n : FVec Ideal S8192x512 .f32) (w : FVec Ideal S8x128x128 .f32) (bi : Vec Ideal S128x512 .f32) (r : Fin 8192) (k : Fin 512) :
    mixedRows n w bi (ix2 r k) = (∑ s : Fin 128, n (ix2 (fellow r s) k) * w (ix3 (group k) (place r) s)) + bi (ix2 (place r) k) := by
  unfold mixedRows
  pointwise []
  rfl

/-- The projected input's part for this branch. -/
theorem part_entry (p : Vec Ideal S8192x7168 .f32) (r : Fin 8192) (k : Fin 1024) (j : Fin 7168) (h : j.val = 3072 + k.val) : branchRows p (ix2 r k) = p (ix2 r j) := by
  unfold branchRows
  pointwise []
  exact congrArg (fun i => p (ix2 r i)) (Fin.ext h.symm)

/-- Its second half. -/
theorem half_entry (y : FVec Ideal S8192x1024 .f32) (r : Fin 8192) (k : Fin 512) : secondHalf y (ix2 r k) = y (ix2 r ⟨512 + k.val, by omega⟩) := by
  unfold secondHalf
  pointwise []

/-- A square. -/
theorem square_entry (d : FVec Ideal S8192x512 .f32) (r : Fin 8192) (k : Fin 512) : squareRows d (ix2 r k) = d (ix2 r k) * d (ix2 r k) := by
  unfold squareRows
  pointwise []

/-- The first half times what the rows come to. -/
theorem gate_entry (y : FVec Ideal S8192x1024 .f32) (v : FVec Ideal S8192x512 .f32) (r : Fin 8192) (k : Fin 512) :
    (mulf (firstHalf y) v : Vec Ideal S8192x512 .f32) (ix2 r k) = y (ix2 r ⟨k.val, by omega⟩) * v (ix2 r k) := by
  unfold firstHalf
  pointwise []

/-- A normalized row, entry by entry. -/
theorem normed_entry (v : FVec Ideal S8192x512 .f32) (lg lb : Vec Ideal S1x512 .f32) (r : Fin 8192) (k : Fin 512) :
    normedRows v lg lb (ix2 r k) = normed (fun j => v (ix2 r j)) (row lg 0) (row lb 0) k := by
  have hd : ∀ j : Fin 512, apartRows v (meanRows v) (ix2 r j) = apart (fun j => v (ix2 r j)) j := fun j =>
    (apart_entry v _ r j).trans (congrArg (v (ix2 r j) - ·) (mean_entry v r))
  have hs : ∀ j : Fin 512, squareRows (apartRows v (meanRows v)) (ix2 r j) = apart (fun j => v (ix2 r j)) j * apart (fun j => v (ix2 r j)) j := fun j =>
    (square_entry _ r j).trans (congrArg (fun e => e * e) (hd j))
  refine (scaled_entry _ _ lg lb r k).trans ?_
  rw [hd k, mean_entry _ r]
  simp only [hs]
  rfl

/-- The reference's rows, entry by entry. -/
theorem reference_rows (p : Vec Ideal S8192x7168 .f32) (lg lb : Vec Ideal S1x512 .f32) (bi : Vec Ideal S128x512 .f32) (w0 w1 w2 w3 w4 w5 w6 w7 : Vec Ideal S128x128 .f32)
    (r : Fin 8192) (k : Fin 512) :
    (mulf (firstHalf (bentRows (branchRows p))) (mixedRows (normedRows (secondHalf (bentRows (branchRows p))) lg lb) (stacked w0 w1 w2 w3 w4 w5 w6 w7) bi) : Vec Ideal S8192x512 .f32) (ix2 r k)
    = gated p lg lb bi ![w0, w1, w2, w3, w4, w5, w6, w7] (ix2 r k) := by
  have hv : ∀ (i : Fin 8192) (j : Fin 512), secondHalf (bentRows (branchRows p)) (ix2 i j) = right p i j := fun i j =>
    (half_entry _ i j).trans ((gelu_entry _ i _).trans (congrArg bend (part_entry p i _ _ (by show 3584 + j.val = 3072 + (512 + j.val); omega))))
  refine (gate_entry _ _ r k).trans ?_
  refine congrArg₂ (· * ·) ((gelu_entry _ r _).trans (congrArg bend (part_entry p r _ _ rfl))) ((chunk_entry _ _ bi r k).trans (congrArg (· + _) (Finset.sum_congr rfl fun s _ => congrArg₂ (· * ·) ?_ ?_)))
  · exact (normed_entry _ lg lb _ k).trans (congrArg (fun v => normed v (row lg 0) (row lb 0) k) (funext fun j => hv _ j))
  · exact stack_entry w0 w1 w2 w3 w4 w5 w6 w7 (group k) (place r) s

end Reference

set_option maxHeartbeats 4000000 in
/-- Over the extended reals the call's rows are the reference's. -/
theorem algebraic : @Cert.algebraic_GatingIdeal_GatingReferenceIdeal Cert.GatingIdeal.Gen.facts Cert.GatingReferenceIdeal.Gen.facts :=
  fun m ρ m' ρ' _ hin =>
    ⟨fun c => gated (m ((c : Thread Cert.GatingIdeal.nD Cert.GatingIdeal.τ).loc Cert.GatingIdeal.main_arg0)) (m ((c : Thread Cert.GatingIdeal.nD Cert.GatingIdeal.τ).loc Cert.GatingIdeal.main_arg1)) (m ((c : Thread Cert.GatingIdeal.nD Cert.GatingIdeal.τ).loc Cert.GatingIdeal.main_arg2)) (m ((c : Thread Cert.GatingIdeal.nD Cert.GatingIdeal.τ).loc Cert.GatingIdeal.main_arg3)) (weights m c),
      (θ_run (Cert.GatingIdeal.defs (F := Ideal)) _ _).mono (fun r h c => ⟨((h c).1).trans (result m c), (h c).2⟩) (Cert.GatingIdeal.Value.run_blocks (F := Ideal) m ρ),
      (θ_run (Cert.GatingReferenceIdeal.defs (F := Ideal)) _ _).mono (fun r h c => by
        obtain ⟨r0, rest⟩ := h c
        obtain ⟨e0, e1, e2, e3, e4, e5, e6, e7, e8, e9, e10, e11⟩ := hin c
        refine ⟨r0.trans ?_, rest⟩
        beta_reduce
        unfold weights
        rw [← e0, ← e1, ← e2, ← e3, ← e4, ← e5, ← e6, ← e7, ← e8, ← e9, ← e10, ← e11]
        funext j
        rw [eq_ix2 j]
        exact reference_rows (m' ((c : Thread Cert.GatingReferenceIdeal.nD Cert.GatingReferenceIdeal.τ).loc Cert.GatingReferenceIdeal.main_arg0)) _ _ _ _ _ _ _ _ _ _ _ _ _) (Cert.GatingReferenceIdeal.Value.run (F := Ideal) m' ρ')⟩
end Cert.SpatialGating
-- ==== Proof.Talk.lean ====
/-
  A protocol in which every semaphore counts ONE transfer. Each device starts a fixed sequence of copies, some to itself
  and some to a peer, and then waits for them all. A `Plan` says, for each cell of a device: on which device the transfer
  that credits it is started (`tgt`), whether that is a peer (`recv`), how much it counts (`amt`), what its starter gives
  up (`need`) and what its owner gets back (`pay`), in which step its transfer starts (`ord`) and in which step it is waited
  for (`word`). The step lemmas move a device through the two phases; `launch` sets the cells up.
-/
module

public import Idealize.ShloMosaic.Lib.Pipeline.Launch
public import Idealize.ShloMosaic.Lib.Tactic

@[expose] public section

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {nD : Nat} {τ : Topo} {sig : RefSig} {Val : EltTy → Type} {U : Type} [URA U]

local notation "𝕄" => MT nD τ sig Unit Val ℕ U ℕ

variable (nD τ sig Val U) in
/-- The transfers of a protocol, named by the cells they credit. -/
structure Plan (K : Type) where
  /-- The semaphore of a cell. -/
  osem : K → SemLoc sig
  osem_inj : Function.Injective osem
  /-- The units its transfer credits. -/
  amt : K → ℕ
  amt_pos : ∀ q, 0 < amt q
  /-- The device whose cell `q` device `c` credits. -/
  tgt : K → Dev nD ≃ Dev nD
  /-- Whether that is another device's cell, credited by a landing there. -/
  recv : K → Bool
  tgt_local : ∀ q, recv q = false → ∀ c, tgt q c = c
  /-- What device `c` gives up to credit cell `q` of `tgt q c`. -/
  need : Dev nD → K → sProp 𝕄
  /-- What device `c` gets from the credit of its own cell `q`. -/
  pay : Dev nD → K → sProp 𝕄
  storable : ∀ c q, Storable (upEmb : UEmb _ 𝕄) (pay c q)
  /-- The step in which the transfer starts. -/
  ord : K → ℕ
  /-- The step in which it is waited for. -/
  word : K → ℕ

/-- One member taken out of a family. -/
theorem takeOut {I : Type} [DecidableEq I] {s : Finset I} {i : I} (h : i ∈ s) {Φ : I → sProp 𝕄} :
    bigSep s Φ = iprop(Φ i ∗ bigSep (s.erase i) Φ) := BI.bigSep_erase h

/-- One member of a family, the others dropped. -/
theorem pick {I : Type} [DecidableEq I] {s : Finset I} {Φ : I → sProp 𝕄} {i : I} (h : i ∈ s) : bigSep s Φ ⊢ Φ i := BI.bigSep_elim h

namespace Plan

variable {K : Type} [Fintype K] [DecidableEq K] (P : Plan nD τ sig Val U K)
variable (E : Emb (URounds (GSem nD τ sig) Unit) (MT nD τ sig Unit Val ℕ U ℕ))

/-- Cell `q` of device `c`. -/
abbrev cell (c : Dev nD) (q : K) : GSem nD τ sig := ((c.tc : Thread nD τ), P.osem q)

theorem cell_inj : Function.Injective fun x : Dev nD × K => P.cell x.1 x.2 := by
  rintro ⟨c, q⟩ ⟨c', q'⟩ h
  have h1 : c = c' := congrArg (fun g : GSem nD τ sig => g.1.1) h
  have h2 : q = q' := P.osem_inj (congrArg Prod.snd h)
  subst h1; subst h2; rfl

open Classical in
/-- The schedule: every cell has one duty, in round 0. -/
def sched : Schedule (GSem nD τ sig) Unit 𝕄 where
  duties _ r := if r = 0 then {()} else ∅
  unitless _ := False
  amount g _ _ := if h : ∃ q, P.osem q = g.2 then P.amt h.choose else 1
  payload g _ _ := if h : ∃ q, P.osem q = g.2 then P.pay g.1.1 h.choose else iprop(emp)
  amount_pos g _ _ _ := by
    split
    · exact P.amt_pos _
    · exact Nat.one_pos

instance sched_storable (g : GSem nD τ sig) (r : ℕ) (d : Unit) : Storable (upEmb : UEmb _ 𝕄) (P.sched.payload g r d) := by
  unfold sched; dsimp only
  split
  · exact P.storable _ _
  · infer_instance

theorem duties_zero (g : GSem nD τ sig) : P.sched.duties g 0 = {()} := by unfold sched; dsimp only; exact if_pos rfl

theorem mem_duties (g : GSem nD τ sig) : () ∈ P.sched.duties g 0 := by rw [duties_zero]; exact Finset.mem_singleton_self _

theorem duties_later (g : GSem nD τ sig) : ∀ r, 1 ≤ r → P.sched.duties g r = ∅ := fun r hr => by
  unfold sched; dsimp only; exact if_neg (by omega)

theorem choose_eq {q : K} (h : ∃ q', P.osem q' = P.osem q) : h.choose = q := P.osem_inj h.choose_spec

theorem amount_eq (c : Dev nD) (q : K) (r : ℕ) (d : Unit) : P.sched.amount (P.cell c q) r d = P.amt q := by
  unfold sched cell; dsimp only
  rw [dif_pos ⟨q, rfl⟩, P.choose_eq ⟨q, rfl⟩]

theorem payload_eq (c : Dev nD) (q : K) (r : ℕ) (d : Unit) : P.sched.payload (P.cell c q) r d = P.pay c q := by
  unfold sched cell; dsimp only
  rw [dif_pos ⟨q, rfl⟩, P.choose_eq ⟨q, rfl⟩]

theorem expect_eq (c : Dev nD) (q : K) : P.sched.expect (P.cell c q) 0 = P.amt q := by
  unfold Schedule.expect Schedule.amountOf
  rw [duties_zero, Finset.sum_singleton, amount_eq]

/-- The lasting facts: every cell of every device follows the schedule, and its round 0 is open. -/
def recs (κ : Dev nD × K → ℕ) : sProp 𝕄 :=
  iprop((bigSep Finset.univ fun x : Dev nD × K => cellInv E P.sched (κ x) (P.cell x.1 x.2))
    ∗ bigSep Finset.univ fun x : Dev nD × K => reached E (P.cell x.1 x.2) 0)

instance recs_persistent (κ : Dev nD × K → ℕ) : BI.Persistent (P.recs E κ) := by unfold recs; infer_instance

theorem inv_at (κ : Dev nD × K → ℕ) (c : Dev nD) (q : K) : P.recs E κ ⊢ cellInv E P.sched (κ (c, q)) (P.cell c q) := by
  unfold recs
  iintro ⟨H, -⟩
  iapply (pick (Φ := fun x : Dev nD × K => cellInv E P.sched (κ x) (P.cell x.1 x.2)) (Finset.mem_univ (c, q)))
  iexact H

theorem reached_at (κ : Dev nD × K → ℕ) (c : Dev nD) (q : K) : P.recs E κ ⊢ reached E (P.cell c q) 0 := by
  unfold recs
  iintro ⟨-, H⟩
  iapply (pick (Φ := fun x : Dev nD × K => (reached E (P.cell x.1 x.2) 0 : sProp 𝕄)) (Finset.mem_univ (c, q)))
  iexact H

/-! ### What a device still owes before its step `n` -/

/-- The credits device `c` still owes its peers' cells before step `n`. -/
def debt (n : ℕ) (c : Dev nD) : CellTallies nD τ sig Unit :=
  ∑ q : K, if P.recv q = true ∧ n ≤ P.ord q then tallyAt (P.cell (P.tgt q c) q) () (P.amt q) else 0

theorem debt_done {n : ℕ} (h : ∀ q, P.ord q < n) (c : Dev nD) : P.debt n c = 0 := by
  unfold debt
  exact Finset.sum_eq_zero fun q _ => if_neg fun h' => absurd h'.2 (Nat.not_le.mpr (h q))

theorem debt_local {n : ℕ} {s : K} (hon : ∀ q, P.ord q = n → q = s) (hs : P.recv s = false) (c : Dev nD) :
    P.debt n c = P.debt (n + 1) c := by
  unfold debt
  refine Finset.sum_congr rfl fun q _ => ?_
  by_cases hq : P.ord q = n
  · rw [hon q hq, hs, if_neg (fun h => by cases h.1), if_neg (fun h => by cases h.1)]
  · exact if_congr (and_congr_right fun _ => ⟨fun h => by omega, fun h => by omega⟩) rfl rfl

theorem debt_remote {n : ℕ} {s r : K} (hon : ∀ q, P.ord q = n → q = s ∨ q = r) (hs : P.recv s = false) (hr : P.recv r = true)
    (hrn : P.ord r = n) (c : Dev nD) :
    P.debt n c = P.debt (n + 1) c + tallyAt (P.cell (P.tgt r c) r) () (P.amt r) := by
  have hsplit : ∀ q ∈ (Finset.univ : Finset K), (if P.recv q = true ∧ n ≤ P.ord q then tallyAt (P.cell (P.tgt q c) q) () (P.amt q) else 0)
      = (if P.recv q = true ∧ n + 1 ≤ P.ord q then tallyAt (P.cell (P.tgt q c) q) () (P.amt q) else 0)
        + (if q = r then (tallyAt (P.cell (P.tgt q c) q) () (P.amt q) : CellTallies nD τ sig Unit) else 0) := fun q _ => by
    by_cases hq : q = r
    · subst hq
      rw [if_pos ⟨hr, hrn.ge⟩, if_neg (fun h => by omega), if_pos rfl, zero_add]
    · rw [if_neg hq, add_zero]
      by_cases hqn : P.ord q = n
      · rcases hon q hqn with h | h
        · subst h; rw [hs, if_neg (fun h => by cases h.1), if_neg (fun h => by cases h.1)]
        · exact absurd h hq
      · exact if_congr (and_congr_right fun _ => ⟨fun h => by omega, fun h => by omega⟩) rfl rfl
  unfold debt
  rw [Finset.sum_congr rfl hsplit, Finset.sum_add_distrib, Finset.sum_ite_eq' Finset.univ r, if_pos (Finset.mem_univ r)]

/-! ### The two phases -/

/-- What device `c` holds of its own cell `q` once it has started the transfer that credits it. -/
def got (c : Dev nD) (q : K) : sProp 𝕄 := if P.recv q then iprop(emp) else cred (tallyAt (P.cell c q) () (P.amt q))

/-- What device `c` gives up to start the transfer of cell `q`: the right to credit it and what it asks. -/
def give (c : Dev nD) (q : K) : sProp 𝕄 := iprop(dutyTok E (P.cell (P.tgt q c) q) 0 () ∗ P.need c q)

/-- Device `c` before its start step `n`. -/
def starting (n : ℕ) (c : Dev nD) : sProp 𝕄 :=
  iprop((bigSep Finset.univ fun q : K => if P.ord q < n then P.got c q else P.give E c q) ∗ ∃ W, owes (c.tc : Thread nD τ) (P.debt n c) W)

/-- Device `c` before its wait step `n`. -/
def waiting (n : ℕ) (c : Dev nD) : sProp 𝕄 :=
  iprop((bigSep Finset.univ fun q : K => if P.word q < n then iprop(P.pay c q ∗ semVal (P.cell c q) 0)
      else iprop(cred (tallyAt (P.cell c q) () (P.amt q)) ∗ atPos E (P.cell c q) 0 ∅ 0)) ∗ ∃ W, owes (c.tc : Thread nD τ) 0 W)

theorem step_at {n : ℕ} {f : K → ℕ} {q : K} (h : f q = n) (A B : K → sProp 𝕄) :
    (if f q < n then A q else B q) = B q ∧ (if f q < n + 1 then A q else B q) = A q :=
  ⟨if_neg (by omega), if_pos (by omega)⟩

theorem step_off {n : ℕ} {f : K → ℕ} {q : K} (h : f q ≠ n) (A B : K → sProp 𝕄) :
    (if f q < n then A q else B q) = (if f q < n + 1 then A q else B q) := by
  by_cases h' : f q < n
  · rw [if_pos h', if_pos (by omega)]
  · rw [if_neg h', if_neg (by omega)]

/-- A family moved on by one step at its only member of that step. -/
theorem step_one {n : ℕ} {f : K → ℕ} {s : K} (hs : f s = n) (hon : ∀ q, f q = n → q = s) (A B : K → sProp 𝕄) :
    (bigSep Finset.univ fun q => if f q < n then A q else B q) = iprop(B s ∗ bigSep (Finset.univ.erase s) fun q => if f q < n + 1 then A q else B q)
    ∧ (bigSep Finset.univ fun q => if f q < n + 1 then A q else B q) = iprop(A s ∗ bigSep (Finset.univ.erase s) fun q => if f q < n + 1 then A q else B q) := by
  refine ⟨?_, ?_⟩
  · rw [bigSep_univ_at _ s, (step_at hs A B).1]
    exact congrArg (fun X => iprop(B s ∗ X)) (bigSep_congr fun q hq => step_off (fun h => Finset.ne_of_mem_erase hq (hon q h)) A B)
  · rw [bigSep_univ_at _ s, (step_at hs A B).2]

/-- A family moved on by one step at its only two members of that step. -/
theorem step_two {n : ℕ} {f : K → ℕ} {s r : K} (hs : f s = n) (hr : f r = n) (hsr : r ≠ s) (hon : ∀ q, f q = n → q = s ∨ q = r) (A B : K → sProp 𝕄) :
    (bigSep Finset.univ fun q => if f q < n then A q else B q)
        = iprop(B s ∗ B r ∗ bigSep ((Finset.univ.erase s).erase r) fun q => if f q < n + 1 then A q else B q)
    ∧ (bigSep Finset.univ fun q => if f q < n + 1 then A q else B q)
        = iprop(A s ∗ A r ∗ bigSep ((Finset.univ.erase s).erase r) fun q => if f q < n + 1 then A q else B q) := by
  have hm : r ∈ Finset.univ.erase s := Finset.mem_erase.mpr ⟨hsr, Finset.mem_univ r⟩
  refine ⟨?_, ?_⟩
  · rw [bigSep_univ_at _ s, (step_at hs A B).1, takeOut hm, (step_at hr A B).1]
    exact congrArg (fun X => iprop(B s ∗ B r ∗ X)) (bigSep_congr fun q hq => step_off (fun h => by
      rcases hon q h with h | h
      · exact Finset.ne_of_mem_erase (Finset.mem_of_mem_erase hq) h
      · exact Finset.ne_of_mem_erase hq h) A B)
  · rw [bigSep_univ_at _ s, (step_at hs A B).2, takeOut hm, (step_at hr A B).2]

variable {Λ : Labels} (defs : Defs nD τ sig Val Λ) (𝒱 : Variants)

/-- Start step `n` is a copy of device `c` to itself, crediting its cell `s`. -/
theorem start_local (κ : Dev nD × K → ℕ) {n : ℕ} (c : Dev nD) (s : K) (hs : P.ord s = n) (hon : ∀ q, P.ord q = n → q = s) (hsl : P.recv s = false)
    {sp sp' : Space} {sh : Shape} {e : EltTy} {src : Memref sig (c.tc : Thread nD τ).2.kind sp sh e} {dst : Memref sig (c.tc : Thread nD τ).2.kind sp' sh e} {sem : SemLoc sig} (hsem' : sem = P.osem s)
    {hsrc : src.view.WordExact} {hdst : dst.view.WordExact} {hsem : DmaTarget.Typed (nD := nD) sp sem (.here dst)}
    (hN : dst.view.amount sem = P.amt s) {q : PosShare TreeShare} {fs : Buf Val (src.view.loc (c.tc : Thread nD τ))}
    (hneed : P.need c s ⊢ iprop((src.view.loc (c.tc : Thread nD τ) ↦[src.view.set]{q} fs) ∗ ∃ fd, dst.view.loc (c.tc : Thread nD τ) ↦[dst.view.set]{fullShare} fd))
    (hpay : ∀ fd, iprop((dst.view.loc (c.tc : Thread nD τ) ↦[dst.view.set]{fullShare} (dst.view.write Val fd (src.view.read Val fs) Finset.univ))
      ∗ (src.view.loc (c.tc : Thread nD τ) ↦[src.view.set]{q} fs)) ⊢ P.pay c s)
    {α : Type} {Q : α → sProp 𝕄} {k : PUnit → Prog (TpuEff nD τ sig Val Λ (c.tc : Thread nD τ).2) α} :
    iprop(P.recs E κ ∗ P.starting E n c)
      ⊢ iprop((P.starting E (n + 1) c -∗ wp frame (wpE defs 𝒱 (c.tc : Thread nD τ) none) Set.univ (k ⟨⟩) Q)
          -∗ wp frame (wpE defs 𝒱 (c.tc : Thread nD τ) none) Set.univ (.op (.enqueueDma src (.here dst) sem hsrc hdst hsem) k) Q) := by
  subst hsem'
  unfold starting
  rw [(step_one hs hon (P.got c) (P.give E c)).1, (step_one hs hon (P.got c) (P.give E c)).2, P.debt_local hon hsl]
  have hgot : P.got c s = cred (tallyAt (P.cell c s) () (P.amt s)) := by unfold got; rw [hsl]; rfl
  have hgive : P.give E c s ⊢ iprop(dutyTok E (P.cell c s) 0 () ∗ P.need c s) := by unfold give; rw [P.tgt_local s hsl c]
  iintro ⟨#HR, ⟨Hs, Hrest⟩, HO⟩ Hk
  ihave HI := (P.inv_at E κ c s) $$ HR
  ihave Hre := (P.reached_at E κ c s) $$ HR
  ihave Hg := hgive $$ Hs
  icases Hg with ⟨Htok, Hneed⟩
  ihave Hn := hneed $$ Hneed
  icases Hn with ⟨Hsrc, %fd, Hdst⟩
  iapply (Rounds.wp_copy_pointsTo 𝒱 E P.sched (c.tc : Thread nD τ) none (κ := κ (c, s)) (r := 0) (d := ()) (P.mem_duties _) () (P.amt s) hN
    (P.amount_eq c s 0 ()) ((hpay fd).trans (Entails.of_eq (P.payload_eq c s 0 ()).symm))) $$ [HI Hsrc Hdst Htok Hre]
  · isplitl [HI]; · iexact HI
    isplitl [Hsrc]; · iexact Hsrc
    isplitl [Hdst]; · iexact Hdst
    isplitl [Htok] <;> iassumption
  iintro Hc
  iapply Hk
  isplitr [HO]
  · isplitl [Hc]
    · rw [hgot]; iexact Hc
    · iexact Hrest
  · iexact HO

/-- Start step `n` is a copy from device `c` to its peer `d`, crediting its own cell `s` and `d`'s cell `r`. -/
theorem start_remote (κ : Dev nD × K → ℕ) {n : ℕ} (c d : Dev nD) (s r : K) (hd : d = P.tgt r c) (hs : P.ord s = n) (hr : P.ord r = n) (hsr : r ≠ s)
    (hon : ∀ q, P.ord q = n → q = s ∨ q = r) (hsl : P.recv s = false) (hrr : P.recv r = true) (hamt : P.amt s = P.amt r)
    {sp sp' : Space} {sh : Shape} {e : EltTy} {src : Memref sig (c.tc : Thread nD τ).2.kind sp sh e} {dst : Memref sig (Dev.tc d : Thread nD τ).2.kind sp' sh e}
    {hsc : dst.view.ref.isScScratch = false} {sS sem : SemLoc sig} (hsS : sS = P.osem s) (hsem' : sem = P.osem r)
    {hsrc : src.view.WordExact} {hdst : dst.view.WordExact} {hsem : DmaTarget.Typed sp sem (.remote (Dev.tc d : Thread nD τ) dst sS hsc)}
    (hN : dst.view.amount sem = P.amt r) {q : PosShare TreeShare} {fs : Buf Val (src.view.loc (c.tc : Thread nD τ))}
    (hneeds : P.need c s ⊢ (src.view.loc (c.tc : Thread nD τ) ↦[src.view.set]{q} fs))
    (hneedr : P.need c r ⊢ iprop(∃ fd, dst.view.loc (Dev.tc d : Thread nD τ) ↦[dst.view.set]{fullShare} fd))
    (hpays : (src.view.loc (c.tc : Thread nD τ) ↦[src.view.set]{q} fs) ⊢ P.pay c s)
    (hpayr : ∀ fd, (dst.view.loc (Dev.tc d : Thread nD τ) ↦[dst.view.set]{fullShare} (dst.view.write Val fd (src.view.read Val fs) Finset.univ)) ⊢ P.pay d r)
    (hroute : τ.routes (c.tc : Thread nD τ) (Dev.tc d : Thread nD τ) = true)
    {α : Type} {Q : α → sProp 𝕄} {k : PUnit → Prog (TpuEff nD τ sig Val Λ (c.tc : Thread nD τ).2) α} :
    iprop(P.recs E κ ∗ P.starting E n c)
      ⊢ iprop((P.starting E (n + 1) c -∗ wp frame (wpE defs 𝒱 (c.tc : Thread nD τ) none) Set.univ (k ⟨⟩) Q)
          -∗ wp frame (wpE defs 𝒱 (c.tc : Thread nD τ) none) Set.univ
              (.op (.enqueueDma src (.remote (Dev.tc d : Thread nD τ) dst sS hsc) sem hsrc hdst hsem) k) Q) := by
  subst hsem' hsS
  unfold starting
  rw [(step_two hs hr hsr hon (P.got c) (P.give E c)).1, (step_two hs hr hsr hon (P.got c) (P.give E c)).2, P.debt_remote hon hsl hrr hr c, ← hd]
  have hgot : P.got c s = cred (tallyAt (P.cell c s) () (P.amt r)) := by unfold got; rw [hsl, hamt]; rfl
  have hgot' : P.got c r = iprop(emp) := by unfold got; rw [hrr]; rfl
  have hgive : P.give E c s ⊢ iprop(dutyTok E (P.cell c s) 0 () ∗ P.need c s) := by unfold give; rw [P.tgt_local s hsl c]
  have hgive' : P.give E c r ⊢ iprop(dutyTok E (P.cell d r) 0 () ∗ P.need c r) := by unfold give; rw [hd]
  iintro ⟨#HR, ⟨Hs, Hr, Hrest⟩, %W, HO⟩ Hk
  ihave HI := (P.inv_at E κ c s) $$ HR
  ihave Hre := (P.reached_at E κ c s) $$ HR
  ihave HI' := (P.inv_at E κ d r) $$ HR
  ihave Hre' := (P.reached_at E κ d r) $$ HR
  ihave Hg := hgive $$ Hs
  icases Hg with ⟨Htok, Hneed⟩
  ihave Hsrc := hneeds $$ Hneed
  ihave Hg' := hgive' $$ Hr
  icases Hg' with ⟨Htok', Hneed'⟩
  ihave Hn' := hneedr $$ Hneed'
  icases Hn' with ⟨%fd, Hdst⟩
  iapply (Rounds.wp_send_pointsTo 𝒱 E P.sched (c.tc : Thread nD τ) none (κ₁ := κ (c, s)) (κ₂ := κ (d, r)) (r₁ := 0) (r₂ := 0) (d₁ := ()) (d₂ := ())
    (fd := fd) (P.mem_duties _) (P.mem_duties _) () () (P.amt r) hN ((P.amount_eq c s 0 ()).trans hamt) (P.amount_eq d r 0 ()) (P.debt (n + 1) c) rfl (W := W)
    (hpays.trans (Entails.of_eq (P.payload_eq c s 0 ()).symm)) ((hpayr fd).trans (Entails.of_eq (P.payload_eq d r 0 ()).symm)) hroute)
    $$ [HI HI' Hsrc Hdst HO Htok Hre Htok' Hre']
  · isplitl [HI]; · iexact HI
    isplitl [HI']; · iexact HI'
    isplitl [Hsrc]; · iexact Hsrc
    isplitl [Hdst]; · iexact Hdst
    isplitl [HO]; · iexact HO
    isplitl [Htok]; · iexact Htok
    isplitl [Hre]; · iexact Hre
    isplitl [Htok'] <;> iassumption
  iintro ⟨Hc, HO⟩
  iapply Hk
  isplitr [HO]
  · isplitl [Hc]
    · rw [hgot]; iexact Hc
    isplitr
    · rw [hgot']; iempintro
    · iexact Hrest
  · iexists W; iexact HO

/-- Wait step `n` is for device `c`'s cell `s`: its owner gets what the transfer hands over, and the counter at zero. -/
theorem wait_step (κ : Dev nD × K → ℕ) {n : ℕ} (c : Dev nD) (s : K) (hs : P.word s = n) (hon : ∀ q, P.word q = n → q = s)
    {sp sp' : Space} {sh sh' : Shape} {e e' : EltTy} {src : Memref sig (c.tc : Thread nD τ).2.kind sp' sh' e'} {dst : Memref sig (c.tc : Thread nD τ).2.kind sp sh e} {sem : DmaSem sig}
    (hsem : SemLoc.dma sem = P.osem s) {hsrc : src.view.WordExact} {hdst : dst.view.WordExact} (hN : dst.view.dmaCredit = P.amt s)
    {α : Type} {Q : α → sProp 𝕄} {k : PUnit → Prog (TpuEff nD τ sig Val Λ (c.tc : Thread nD τ).2) α} :
    iprop(P.recs E κ ∗ P.waiting E n c)
      ⊢ iprop((P.waiting E (n + 1) c -∗ wp frame (wpE defs 𝒱 (c.tc : Thread nD τ) none) Set.univ (k ⟨⟩) Q)
          -∗ wp frame (wpE defs 𝒱 (c.tc : Thread nD τ) none) Set.univ (.op (.waitDma2 sem src dst hsrc hdst) k) Q) := by
  unfold waiting
  have h1 := step_one hs hon (fun q => iprop(P.pay c q ∗ semVal (P.cell c q) 0))
    (fun q => iprop(cred (tallyAt (P.cell c q) () (P.amt q)) ∗ atPos E (P.cell c q) 0 ∅ 0))
  rw [h1.1, h1.2]
  have hpay : bigSep (P.sched.duties (P.cell c s) 0 \ ∅) (fun d => P.sched.payload (P.cell c s) 0 d) ⊢ P.pay c s := by
    rw [Finset.sdiff_empty, P.duties_zero, bigSep_singleton, P.payload_eq]
  iintro ⟨#HR, ⟨⟨Hc, Hat⟩, Hrest⟩, %W, HO⟩ Hk
  ihave #HI := (P.inv_at E κ c s) $$ HR
  iapply (Rounds.wp_wait_rest_token 𝒱 E P.sched (c.tc : Thread nD τ) none (sm := P.osem s) (κ := κ (c, s))
      (hsem ▸ wpE_waitDma2_eq 𝒱 (c.tc : Thread nD τ) none Set.univ) (Set.mem_univ _) () (O := 0) (W := W) (R := 0) (m := 0) (T := ∅)
      (k' := dst.view.dmaCredit) (by rw [Nat.zero_add, hN]; exact (P.expect_eq c s).symm)) $$ [Hc HO Hat]
  · isplitr; · iexact HI
    isplitl [Hc]; · rw [hN]; iexact Hc
    isplitl [HO]; · iexact HO
    isplitr; · rw [MayWait_zero]; iempintro
    iexact Hat
  iintro ⟨HO, Hat, -, Hp⟩
  ihave Hp' := hpay $$ Hp
  iapply (fupd_wp frame (wpE defs 𝒱 (c.tc : Thread nD τ) none) Set.univ _ _)
  imod (Rounds.cell_close E P.sched (Set.mem_univ (κ (c, s))) (fun h => h) (R := 0 + 1) (P.duties_later (P.cell c s))) $$ [Hat] with Hz
  · isplitr; · iexact HI
    iexact Hat
  imodintro
  iapply Hk
  isplitr [HO]
  · isplitr [Hrest]
    · isplitl [Hp'] <;> iassumption
    · iexact Hrest
  · iexists _; iexact HO

/-- Every transfer started, what a device was dealt at launch puts it before its first wait. -/
theorem turn {n : ℕ} (h : ∀ q, P.ord q < n) (c : Dev nD) :
    iprop(P.starting E n c ∗ (bigSep Finset.univ fun q : K => if P.recv q then cred (tallyAt (P.cell c q) () (P.amt q)) else iprop(emp))
        ∗ bigSep Finset.univ fun q : K => atPos E (P.cell c q) 0 ∅ 0)
      ⊢ P.waiting E 0 c := by
  unfold starting waiting
  rw [P.debt_done h, bigSep_congr (Ψ := fun q => P.got c q) (fun q _ => if_pos (h q)),
    bigSep_congr (s := Finset.univ) (Φ := fun q => if P.word q < 0 then iprop(P.pay c q ∗ semVal (P.cell c q) 0)
      else iprop(cred (tallyAt (P.cell c q) () (P.amt q)) ∗ atPos E (P.cell c q) 0 ∅ 0))
      (Ψ := fun q => iprop((P.got c q ∗ if P.recv q then cred (tallyAt (P.cell c q) () (P.amt q)) else iprop(emp)) ∗ atPos E (P.cell c q) 0 ∅ 0))
      (fun q _ => by
        rw [if_neg (Nat.not_lt_zero _)]
        unfold got
        cases P.recv q
        · exact congrArg (fun X => iprop(X ∗ atPos E (P.cell c q) 0 ∅ 0)) (sep_emp_eq _).symm
        · exact congrArg (fun X => iprop(X ∗ atPos E (P.cell c q) 0 ∅ 0)) (emp_sep_eq _).symm),
    bigSep_sep', bigSep_sep']
  iintro ⟨⟨Hg, HO⟩, Hr, Hat⟩
  isplitr [HO]
  · isplitr [Hat]
    · isplitl [Hg] <;> iassumption
    · iexact Hat
  · iexact HO

/-- Every wait done, a device holds what all its cells handed over and every counter at zero. -/
theorem waited {n : ℕ} (h : ∀ q, P.word q < n) (c : Dev nD) :
    P.waiting E n c ⊢ iprop((bigSep Finset.univ fun q : K => P.pay c q) ∗ (bigSep Finset.univ fun q : K => semVal (P.cell c q) 0)
      ∗ ∃ W, owes (c.tc : Thread nD τ) 0 W) := by
  unfold waiting
  rw [bigSep_congr (Ψ := fun q => iprop(P.pay c q ∗ semVal (P.cell c q) 0)) (fun q _ => if_pos (h q)), bigSep_sep']
  iintro ⟨⟨Hp, Hz⟩, HO⟩
  isplitl [Hp]; · iexact Hp
  isplitl [Hz] <;> iassumption

/-- A device's first state, from its rights, what it gives up and its debts. -/
theorem starting_zero (c : Dev nD) (W : Waits sig Unit) :
    iprop((bigSep Finset.univ fun q : K => dutyTok E (P.cell (P.tgt q c) q) 0 ()) ∗ (bigSep Finset.univ fun q : K => P.need c q)
        ∗ owes (c.tc : Thread nD τ) (P.debt 0 c) W)
      ⊢ P.starting E 0 c := by
  unfold starting
  rw [bigSep_congr (s := Finset.univ) (Φ := fun q => if P.ord q < 0 then P.got c q else P.give E c q)
    (Ψ := fun q => iprop(dutyTok E (P.cell (P.tgt q c) q) 0 () ∗ P.need c q)) (fun q _ => if_neg (Nat.not_lt_zero _)), bigSep_sep']
  iintro ⟨Ht, Hn, HO⟩
  isplitr [HO]
  · isplitl [Ht] <;> iassumption
  · iexists W; iexact HO

/-! ### The launch -/

/-- Every cell of every device. -/
def cells : Finset (GSem nD τ sig) := Finset.univ.map ⟨fun x : Dev nD × K => P.cell x.1 x.2, P.cell_inj⟩

/-- Every cell's one right. -/
def toks : Finset (GSem nD τ sig × ℕ × Unit) :=
  Finset.univ.map ⟨fun x : Dev nD × K => (P.cell x.1 x.2, 0, ()), fun _ _ h => P.cell_inj (Prod.mk.inj h).1⟩

/-- What the launch leaves device `c` of the cells: its positions at its own cells and the rights to credit those it starts. -/
def dealtTo (c : Dev nD) : sProp 𝕄 :=
  iprop((bigSep Finset.univ fun q : K => atPos E (P.cell c q) 0 ∅ 0) ∗ bigSep Finset.univ fun q : K => dutyTok E (P.cell (P.tgt q c) q) 0 ())

/-- From every device's counters at zero and the protocol's launch element: the lasting facts, and each device's part. -/
theorem launch [E.LandsIn (upEmb : UEmb _ 𝕄)] :
    iprop((bigSep Finset.univ fun c : Dev nD => bigSep Finset.univ fun q : K => semVal (P.cell c q) 0) ∗ BI.own (E (initOf P.cells P.toks)))
      ⊢ |={Set.univ}=> iprop(∃ κ, P.recs E κ ∗ bigSep Finset.univ fun c : Dev nD => P.dealtTo E c) := by
  have hC (Φ : GSem nD τ sig → sProp 𝕄) : bigSep P.cells Φ = bigSep Finset.univ fun x : Dev nD × K => Φ (P.cell x.1 x.2) := by
    unfold cells; rw [bigSep_map]; rfl
  have hT : bigSep P.toks (fun x => (dutyTok E x.1 x.2.1 x.2.2 : sProp 𝕄))
      = bigSep Finset.univ fun c : Dev nD => bigSep Finset.univ fun q : K => dutyTok E (P.cell (P.tgt q c) q) 0 () := by
    unfold toks; rw [bigSep_map, bigSep_univ_prod, bigSep_univ_comm, bigSep_univ_comm (fun (c : Dev nD) (q : K) => dutyTok E (P.cell (P.tgt q c) q) 0 ())]
    exact bigSep_congr fun q _ => bigSep_univ_equiv (P.tgt q) (fun c : Dev nD => dutyTok E (P.cell c q) 0 ())
  have hsplit : iprop((bigSep Finset.univ fun c : Dev nD => bigSep Finset.univ fun q : K => atPos E (P.cell c q) 0 ∅ 0)
      ∗ bigSep Finset.univ fun c : Dev nD => bigSep Finset.univ fun q : K => dutyTok E (P.cell (P.tgt q c) q) 0 ())
      ⊢ bigSep Finset.univ fun c : Dev nD => P.dealtTo E c := by unfold dealtTo; rw [bigSep_sep']
  have hbody : iprop((bigSep Finset.univ fun x : Dev nD × K => (semVal (P.cell x.1 x.2) 0 : sProp 𝕄))
      ∗ bigSep Finset.univ fun x : Dev nD × K => roundState E P.sched (P.cell x.1 x.2) 0)
      ⊢ bigSep Finset.univ fun x : Dev nD × K => body E P.sched (P.cell x.1 x.2) := by
    rw [← bigSep_sep']
    exact bigSep_mono fun x _ => Rounds.body_intro E P.sched (P.cell x.1 x.2)
  iintro ⟨Hv, HX⟩
  imod (Rounds.fund E P.sched P.cells P.toks) $$ HX with ⟨Hst, Hr, Hat, Htok⟩
  ihave Hst' := (Entails.of_eq (hC fun g => roundState E P.sched g 0)) $$ Hst
  ihave Hat' := (Entails.of_eq ((hC fun g => atPos E g 0 ∅ 0).trans (bigSep_univ_prod _))) $$ Hat
  ihave Hr' := (Entails.of_eq (hC fun g => reached E g 0)) $$ Hr
  ihave Htok' := (Entails.of_eq hT) $$ Htok
  ihave Hv' := (Entails.of_eq (bigSep_univ_prod (fun x : Dev nD × K => (semVal (P.cell x.1 x.2) 0 : sProp 𝕄))).symm) $$ Hv
  ihave Hb := hbody $$ [Hv' Hst']
  · isplitl [Hv'] <;> iassumption
  imod (inv_alloc_family Finset.univ (fun x : Dev nD × K => body E P.sched (P.cell x.1 x.2)) ∅) $$ Hb with ⟨%κ, -, Hinv⟩
  imodintro
  iexists κ
  isplitl [Hinv Hr']
  · unfold recs
    isplitl [Hinv] <;> iassumption
  · iapply hsplit
    isplitl [Hat'] <;> iassumption

/-- The launch credit of the debts is a credit on every cell a peer credits. -/
theorem launch_creds (c : Dev nD) :
    (Pipeline.launchCred (P.debt 0) c : sProp 𝕄)
      ⊢ bigSep Finset.univ fun q : K => if P.recv q then cred (tallyAt (P.cell c q) () (P.amt q)) else iprop(emp) := by
  have hd : P.debt 0 = fun d => ∑ q ∈ (Finset.univ : Finset K),
      (if P.recv q = true ∧ 0 ≤ P.ord q then tallyAt (P.cell (P.tgt q d) q) () (P.amt q) else (0 : CellTallies nD τ sig Unit)) := rfl
  rw [hd, Pipeline.launchCred_sum]
  refine bigSep_mono fun q _ => ?_
  by_cases hq : P.recv q = true
  · simp only [hq, true_and, Nat.zero_le, if_true]
    exact Pipeline.launchCred_tallyAt (P.osem q) (P.tgt q) (P.tgt q).symm (fun c => (P.tgt q).apply_symm_apply c) (fun c => (P.tgt q).symm_apply_apply c) () (P.amt q) c
  · rw [Bool.not_eq_true] at hq
    simp only [hq, Bool.false_eq_true, false_and, if_false]
    exact Entails.of_eq (Pipeline.launchCred_zero c)

end Plan

end Cert.Talk

end
-- ==== Proof.Rows.lean ====
module
public import Idealize.ShloMosaic.Lib.Pipeline.Launch
public import Idealize.ShloMosaic.Lib.ValueLayout

/-! # The rows of a stack of eight matrices

The exchange moves whole matrices: a device's arrays are stacks of eight of them, and a transfer's source or
destination is one matrix of a stack. This file names the elements of one matrix of a stack and the devices' numbering
relative to one of them. -/

@[expose] public section

namespace Cert.Rows
open Idealize.ShloMosaic
open Idealize.ShloMosaic.ValueIdx

/-- A stack of eight matrices. -/
abbrev Stack (A B : ℕ) : Shape := ⟨3, ![8, A, B]⟩

/-- The elements of matrix `j` of a stack. -/
def row (A B : ℕ) (j : Fin 8) : Finset (Stack A B).Idx := Finset.univ.filter fun i => (i 0).val = j.val

theorem mem_row {A B : ℕ} {j : Fin 8} {i : (Stack A B).Idx} : i ∈ row A B j ↔ (i 0).val = j.val := by
  unfold row
  exact Finset.mem_filter.trans (and_iff_right (Finset.mem_univ _))

/-- Different matrices of a stack share no element. -/
theorem row_disjoint (A B : ℕ) (S : Set (Fin 8)) : S.PairwiseDisjoint (row A B) := by
  intro a _ b _ hab
  refine Finset.disjoint_left.mpr fun i hi hi' => hab (Fin.ext ?_)
  rw [mem_row] at hi hi'
  rw [← hi, ← hi']

/-- The eight matrices are the stack. -/
theorem row_union (A B : ℕ) : Finset.univ.biUnion (row A B) = Finset.univ := by
  refine Finset.eq_univ_of_forall fun i => Finset.mem_biUnion.mpr ⟨⟨(i 0).val, (i 0).isLt⟩, Finset.mem_univ _, ?_⟩
  rw [mem_row]

/-- Where matrix `j`'s elements lie, in a view of the stack cut at `j` and read as a matrix. -/
theorem row_emb {A B : ℕ} (j : Fin 8) {o : Fin 3 → ℕ} (ho : o = ![j.val, 0, 0])
    (h : ∀ a, o a + (![1, A, B] : Fin 3 → ℕ) a ≤ (Stack A B).size a)
    (hq : (⟨2, ![A, B]⟩ : Shape).numel = (⟨3, ![1, A, B]⟩ : Shape).numel) (x : (⟨2, ![A, B]⟩ : Shape).Idx) :
    (Rect.unit (s := Stack A B) o ![1, A, B] h).emb (Shape.reshapeEquiv hq x) = ix3 j (x 0) (x 1) := by
  subst ho
  obtain ⟨u, v, rfl⟩ : ∃ u v, x = ix2 u v := ⟨_, _, eq_ix2 x⟩
  have e : Shape.reshapeEquiv hq (ix2 u v) = ix3 (⟨0, Nat.one_pos⟩ : Fin 1) u v := reshapeEquiv_ix2_1ab hq u v
  rw [e]
  funext a
  refine Fin.ext ?_
  rw [Rect.emb_apply]
  match a with
  | ⟨0, _⟩ => exact Nat.add_zero _
  | ⟨1, _⟩ => exact (Nat.zero_add _).trans (Nat.one_mul _)
  | ⟨2, _⟩ => exact (Nat.zero_add _).trans (Nat.one_mul _)

/-- The devices numbered from device `c` on: number `k` is the one whose coordinates differ from those of `c` in the
    axes `k` has a bit for. Number 0 is `c` itself. -/
def peerFun (k : Fin 8) (c : Fin 8) : Fin 8 := ⟨k.val ^^^ c.val, by revert k c; decide⟩

/-- The numbering by `k` exchanges two devices. -/
def peer (k : Fin 8) : Fin 8 ≃ Fin 8 where
  toFun := peerFun k
  invFun := peerFun k
  left_inv := by revert k; decide
  right_inv := by revert k; decide

theorem peer_comm (k c : Fin 8) : peer k c = peer c k := by revert k c; decide
theorem peer_zero (c : Fin 8) : peer 0 c = c := by revert c; decide
theorem peer_peer (k c : Fin 8) : peer k (peer k c) = c := (peer k).left_inv c

end Cert.Rows
-- ==== Proof.Exchange.lean ====
/-
  The exchange of the gradients as a protocol of single transfers. Every device holds a stack of eight shards, one for
  each device, and one array of its own; it sends shard `d` and the array to device `d`, its own shard and array to
  itself. Device `c` writes matrix `c` of every device's two outputs, so no two transfers meet. One cell counts each
  landing and one each departure.
-/
module

public import proofs.«01_k».proof.Proof.Gen.KernelIdeal
public import proofs.«01_k».proof.Proof.Gen.KernelIdeal.Skeleton
public import proofs.«01_k».proof.Proof.Talk
public import proofs.«01_k».proof.Proof.Rows
public import Idealize.ShloMosaic.Lib.Pipeline.Launch
public import Idealize.ShloMosaic.Lib.Tactic

@[expose] public section

noncomputable section

namespace Cert.Exchange

open Cert.KernelIdeal Cert.KernelIdeal.Gen Cert.Rows
open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.Talk (Plan)

variable {F : FTy → Type} [FloatOps F]

abbrev UB := URounds (GSem nD τ sig) Unit
abbrev UU := UR sig nD τ × UB

local notation "𝕄" => MT nD τ sig Unit (Elt F) ℕ UU ℕ

abbrev EP : Emb (UR sig nD τ) 𝕄 := embL
abbrev ER : Emb UB 𝕄 := embR

variable (m : (ℓ : Loc nD τ sig) → Buf (Elt F) ℓ)

/-! ### The views the transfers read and write -/

/-- One matrix of a stack of shards. -/
abbrev cutSh (M : Memref sig .tc .hbm S8x36880x128 .f32) (o : Fin 3 → ℕ) (h : ∀ a, o a + S1x36880x128.size a ≤ S8x36880x128.size a) :
    Memref sig .tc .hbm S36880x128 .f32 :=
  (M.slice (Rect.unit (s := S8x36880x128) o S1x36880x128.size h) (fun _ => rfl)).squeeze S36880x128 squeezes_S1x36880x128_S36880x128

/-- One matrix of a stack of replicated arrays. -/
abbrev cutRep (M : Memref sig .tc .hbm S8x2208x128 .f32) (o : Fin 3 → ℕ) (h : ∀ a, o a + S1x2208x128.size a ≤ S8x2208x128.size a) :
    Memref sig .tc .hbm S2208x128 .f32 :=
  (M.slice (Rect.unit (s := S8x2208x128) o S1x2208x128.size h) (fun _ => rfl)).squeeze S2208x128 squeezes_S1x2208x128_S2208x128

abbrev shIn : Memref sig .tc .hbm S8x36880x128 .f32 := Memref.whole main_arg0
abbrev repIn : Memref sig .tc .hbm S2208x128 .f32 := Memref.whole main_arg1
abbrev shOut : Memref sig .tc .hbm S8x36880x128 .f32 := Memref.whole main_v1_0
abbrev repOut : Memref sig .tc .hbm S8x2208x128 .f32 := Memref.whole main_v1_1

/-- An embedding whose value at `(x, y)` is `(j, x, y)` covers matrix `j`. -/
theorem map_eq_row {A B : ℕ} (j : Fin 8) (f : (⟨2, ![A, B]⟩ : Shape).Idx ↪ (Stack A B).Idx) (hf : ∀ x, f x = ix3 j (x 0) (x 1)) :
    Finset.univ.map f = row A B j := by
  ext i
  rw [Finset.mem_map, mem_row]
  constructor
  · rintro ⟨x, -, rfl⟩; rw [hf]; rfl
  · intro h
    refine ⟨ix2 (i 1) (i 2), Finset.mem_univ _, ?_⟩
    rw [hf]
    refine Eq.trans ?_ (eq_ix3 i).symm
    exact congrArg (fun t => ix3 t (i 1) (i 2)) (Fin.ext h.symm)

theorem emb_shIn (j : Fin 8) {o : Fin 3 → ℕ} (ho : o = ![j.val, 0, 0]) (h) (x : S36880x128.Idx) :
    (cutSh shIn o h).view.emb x = ix3 j (x 0) (x 1) := row_emb j ho h _ x
theorem emb_shOut (j : Fin 8) {o : Fin 3 → ℕ} (ho : o = ![j.val, 0, 0]) (h) (x : S36880x128.Idx) :
    (cutSh shOut o h).view.emb x = ix3 j (x 0) (x 1) := row_emb j ho h _ x
theorem emb_repOut (j : Fin 8) {o : Fin 3 → ℕ} (ho : o = ![j.val, 0, 0]) (h) (x : S2208x128.Idx) :
    (cutRep repOut o h).view.emb x = ix3 j (x 0) (x 1) := row_emb j ho h _ x

theorem set_shIn (j : Fin 8) {o : Fin 3 → ℕ} (ho : o = ![j.val, 0, 0]) (h) : (cutSh shIn o h).view.set = row 36880 128 j :=
  map_eq_row j _ (emb_shIn j ho h)
theorem set_shOut (j : Fin 8) {o : Fin 3 → ℕ} (ho : o = ![j.val, 0, 0]) (h) : (cutSh shOut o h).view.set = row 36880 128 j :=
  map_eq_row j _ (emb_shOut j ho h)
theorem set_repOut (j : Fin 8) {o : Fin 3 → ℕ} (ho : o = ![j.val, 0, 0]) (h) : (cutRep repOut o h).view.set = row 2208 128 j :=
  map_eq_row j _ (emb_repOut j ho h)

/-! ### What the outputs hold -/

/-- Device `d`'s first output: matrix `j` is shard `d` of device `j`. -/
def shards (d : Dev nD) : Buf (Elt F) ((d.tc : Thread nD τ).loc main_v1_0) :=
  fun i : (Stack 36880 128).Idx => (m ((Dev.tc (⟨(i 0).val, (i 0).isLt⟩ : Dev nD) : Thread nD τ).loc main_arg0) : (Stack 36880 128).Idx → Elt F .f32) (ix3 (n0 := 8) d (i 1) (i 2))

/-- Device `d`'s second output: matrix `j` is device `j`'s array. -/
def reps (d : Dev nD) : Buf (Elt F) ((d.tc : Thread nD τ).loc main_v1_1) :=
  fun i : (Stack 2208 128).Idx => (m ((Dev.tc (⟨(i 0).val, (i 0).isLt⟩ : Dev nD) : Thread nD τ).loc main_arg1) : S2208x128.Idx → Elt F .f32) (ix2 (i 1) (i 2))

/-- What a transfer of device `c`'s shard `d` leaves in matrix `c` of an output. -/
theorem write_shards (c d : Fin 8) {o o' : Fin 3 → ℕ} (ho : o = ![c.val, 0, 0]) (ho' : o' = ![d.val, 0, 0]) (h h')
    (fd : Buf (Elt F) ((Dev.tc (nD := nD) d : Thread nD τ).loc main_v1_0)) (i : (Stack 36880 128).Idx) (hi : i ∈ row 36880 128 c) :
    (cutSh shOut o h).view.write (Elt F) fd ((cutSh shIn o' h').view.read (Elt F) (m ((Dev.tc (nD := nD) c : Thread nD τ).loc main_arg0))) Finset.univ i
      = shards m d i := by
  have e : (cutSh shOut o h).view.emb (ix2 (i 1) (i 2)) = i := by
    rw [emb_shOut c ho]
    refine Eq.trans ?_ (eq_ix3 i).symm
    exact congrArg (fun t => ix3 t (i 1) (i 2)) (Fin.ext (mem_row.mp hi).symm)
  have hc : (⟨(i 0).val, (i 0).isLt⟩ : Dev nD) = c := Fin.ext (mem_row.mp hi)
  have := View.write_emb (v := (cutSh shOut o h).view) (Val := Elt F) fd
    ((cutSh shIn o' h').view.read (Elt F) (m ((Dev.tc (nD := nD) c : Thread nD τ).loc main_arg0))) Finset.univ (ix2 (i 1) (i 2))
  rw [e, if_pos (Finset.mem_univ _), View.read_apply, emb_shIn d ho'] at this
  refine this.trans ?_
  unfold shards
  rw [hc]
  rfl

/-- What a transfer of device `c`'s array leaves in matrix `c` of an output. -/
theorem write_reps (c d : Fin 8) {o : Fin 3 → ℕ} (ho : o = ![c.val, 0, 0]) (h)
    (fd : Buf (Elt F) ((Dev.tc (nD := nD) d : Thread nD τ).loc main_v1_1)) (i : (Stack 2208 128).Idx) (hi : i ∈ row 2208 128 c) :
    (cutRep repOut o h).view.write (Elt F) fd (repIn.view.read (Elt F) (m ((Dev.tc (nD := nD) c : Thread nD τ).loc main_arg1))) Finset.univ i
      = reps m d i := by
  have e : (cutRep repOut o h).view.emb (ix2 (i 1) (i 2)) = i := by
    rw [emb_repOut c ho]
    refine Eq.trans ?_ (eq_ix3 i).symm
    exact congrArg (fun t => ix3 t (i 1) (i 2)) (Fin.ext (mem_row.mp hi).symm)
  have hc : (⟨(i 0).val, (i 0).isLt⟩ : Dev nD) = c := Fin.ext (mem_row.mp hi)
  have := View.write_emb (v := (cutRep repOut o h).view) (Val := Elt F) fd
    (repIn.view.read (Elt F) (m ((Dev.tc (nD := nD) c : Thread nD τ).loc main_arg1))) Finset.univ (ix2 (i 1) (i 2))
  rw [e, if_pos (Finset.mem_univ _), View.read_apply] at this
  refine this.trans ?_
  unfold reps
  rw [hc]
  rfl

/-! ### The shares in which an array sent eight times is held -/

/-- Eight shares of a whole: three halvings. -/
def eighth (k : Fin 8) : PosShare TreeShare :=
  let h (b : Bool) (p : PosShare TreeShare) : PosShare TreeShare := if b then p.right else p.left
  h (k.val.testBit 0) (h (k.val.testBit 1) (h (k.val.testBit 2) fullShare))

theorem assoc_eq (A B C : sProp 𝕄) : iprop((A ∗ B) ∗ C) = iprop(A ∗ B ∗ C) := BI.Entails.antisymm BI.sep_assoc BI.sep_assoc'

theorem halves {ℓ : Loc nD τ sig} (I : Finset (Idx ℓ)) (p : PosShare TreeShare) (f : Buf (Elt F) ℓ) :
    (ℓ ↦[I]{p} f : sProp 𝕄) = iprop((ℓ ↦[I]{p.left} f) ∗ (ℓ ↦[I]{p.right} f)) :=
  BI.Entails.antisymm (pointsTo_share (PosShare.mem_left_op_right p)).1 (pointsTo_share (PosShare.mem_left_op_right p)).2

/-- A buffer held whole is held in eight shares. -/
theorem in_eighths {ℓ : Loc nD τ sig} (I : Finset (Idx ℓ)) (f : Buf (Elt F) ℓ) :
    (ℓ ↦[I]{fullShare} f : sProp 𝕄) = bigSep Finset.univ fun k : Fin 8 => (ℓ ↦[I]{eighth k} f : sProp 𝕄) := by
  have e : (bigSep Finset.univ fun k : Fin 8 => (ℓ ↦[I]{eighth k} f : sProp 𝕄)) = _ :=
    bigSep_univ_eq_bigSepL [0, 1, 2, 3, 4, 5, 6, 7] (by decide) (by decide) _
  rw [e]
  rw [halves I fullShare, halves I fullShare.left, halves I fullShare.right, halves I fullShare.left.left, halves I fullShare.left.right,
    halves I fullShare.right.left, halves I fullShare.right.right]
  simp only [assoc_eq]
  rfl

/-! ### The protocol -/

/-- The cells of a device: for the shards (left) and for the arrays (right), one for the landing of each device's
    transfer, numbered from the device itself on, and one for the departure to each of its seven peers. -/
abbrev K := (Fin 8 ⊕ Fin 7) ⊕ (Fin 8 ⊕ Fin 7)

/-- The semaphore that counts a cell. -/
def semNo : K → Fin 30
  | .inl (.inl k) => if k = 0 then 28 else ⟨13 + k.val, by omega⟩
  | .inl (.inr k) => ⟨k.val, by omega⟩
  | .inr (.inl k) => if k = 0 then 29 else ⟨20 + k.val, by omega⟩
  | .inr (.inr k) => ⟨7 + k.val, by omega⟩

theorem semNo_inj : Function.Injective semNo := by decide +kernel

/-- The start step of a cell's transfer. -/
def startNo : K → ℕ
  | .inl (.inl k) => 2 * k.val
  | .inl (.inr k) => 2 * (k.val + 1)
  | .inr (.inl k) => 2 * k.val + 1
  | .inr (.inr k) => 2 * (k.val + 1) + 1

/-- The wait step of a cell. -/
def waitNo : K → ℕ
  | .inl (.inl k) => if k = 0 then 0 else 4 * k.val - 1
  | .inl (.inr k) => 2 + 4 * k.val
  | .inr (.inl k) => if k = 0 then 1 else 4 * k.val + 1
  | .inr (.inr k) => 4 + 4 * k.val

/-- Whether a cell counts a peer's landing. -/
def isRecv : K → Bool
  | .inl (.inl k) | .inr (.inl k) => k ≠ 0
  | .inl (.inr _) | .inr (.inr _) => false

/-- The device whose cell a device's transfer credits. -/
def tgt : K → Dev nD ≃ Dev nD
  | .inl (.inl k) | .inr (.inl k) => peer k
  | .inl (.inr _) | .inr (.inr _) => Equiv.refl _

/-- The credit of one shard and of one array. -/
def creditSh : ℕ := (cutSh shOut (k0_off1 0) (k0_off1_inb 0)).view.dmaCredit
def creditRep : ℕ := (cutRep repOut (k0_off2 0) (k0_off2_inb 0)).view.dmaCredit

/-- Shard `k` (numbered from the device on) of device `c`'s input. -/
def srcSh (c : Dev nD) (k : Fin 8) : sProp 𝕄 :=
  ((c.tc : Thread nD τ).loc main_arg0 ↦[row 36880 128 (peer k c)]{fullShare} m ((c.tc : Thread nD τ).loc main_arg0))
/-- Device `c`'s array, in the share its `k`-th transfer reads it at. -/
def srcRep (c : Dev nD) (k : Fin 8) : sProp 𝕄 :=
  ((c.tc : Thread nD τ).loc main_arg1 ↦{eighth k} m ((c.tc : Thread nD τ).loc main_arg1))
/-- Matrix `j` of device `d`'s outputs, at any contents. -/
def roomSh (d : Dev nD) (j : Fin 8) : sProp 𝕄 := iprop(∃ f, (d.tc : Thread nD τ).loc main_v1_0 ↦[row 36880 128 j]{fullShare} f)
def roomRep (d : Dev nD) (j : Fin 8) : sProp 𝕄 := iprop(∃ f, (d.tc : Thread nD τ).loc main_v1_1 ↦[row 2208 128 j]{fullShare} f)
/-- Matrix `j` of device `d`'s outputs, at what device `j` sent. -/
def doneSh (d : Dev nD) (j : Fin 8) : sProp 𝕄 := ((d.tc : Thread nD τ).loc main_v1_0 ↦[row 36880 128 j]{fullShare} shards m d)
def doneRep (d : Dev nD) (j : Fin 8) : sProp 𝕄 := ((d.tc : Thread nD τ).loc main_v1_1 ↦[row 2208 128 j]{fullShare} reps m d)

/-- The assertion `S` for the device's own transfer, nothing for its peers'. -/
def own0 (k : Fin 8) (S : sProp 𝕄) : sProp 𝕄 := if k = 0 then S else iprop(emp)

/-- What device `c` gives up to credit a cell. -/
def need (c : Dev nD) : K → sProp 𝕄
  | .inl (.inl k) => iprop(roomSh (peer k c) c ∗ own0 k (srcSh m c 0))
  | .inl (.inr k) => srcSh m c k.succ
  | .inr (.inl k) => iprop(roomRep (peer k c) c ∗ own0 k (srcRep m c 0))
  | .inr (.inr k) => srcRep m c k.succ

/-- What device `c` gets from a cell of its own. -/
def pay (c : Dev nD) : K → sProp 𝕄
  | .inl (.inl k) => iprop(doneSh m c (peer k c) ∗ own0 k (srcSh m c 0))
  | .inl (.inr k) => srcSh m c k.succ
  | .inr (.inl k) => iprop(doneRep m c (peer k c) ∗ own0 k (srcRep m c 0))
  | .inr (.inr k) => srcRep m c k.succ

instance own0_storable (k : Fin 8) (S : sProp 𝕄) [Storable (upEmb : UEmb _ 𝕄) S] : Storable (upEmb : UEmb _ 𝕄) (own0 k S) := by
  unfold own0; split <;> infer_instance
instance srcSh_storable (c : Dev nD) (k : Fin 8) : Storable (upEmb : UEmb _ 𝕄) (srcSh m c k) := by unfold srcSh; infer_instance
instance srcRep_storable (c : Dev nD) (k : Fin 8) : Storable (upEmb : UEmb _ 𝕄) (srcRep m c k) := by unfold srcRep; infer_instance
instance doneSh_storable (c : Dev nD) (k : Fin 8) : Storable (upEmb : UEmb _ 𝕄) (doneSh m c k) := by unfold doneSh; infer_instance
instance doneRep_storable (c : Dev nD) (k : Fin 8) : Storable (upEmb : UEmb _ 𝕄) (doneRep m c k) := by unfold doneRep; infer_instance

/-- The exchange's transfers. -/
def plan : Plan nD τ sig (Elt F) UU K where
  osem q := .dma (semNo q)
  osem_inj a b h := semNo_inj (SemLoc.dma.inj h)
  amt q := match q with
    | .inl _ => creditSh
    | .inr _ => creditRep
  amt_pos q := by
    rcases q with q | q
    · exact View.dmaCredit_pos _ (by decide)
    · exact View.dmaCredit_pos _ (by decide)
  tgt := tgt
  recv := isRecv
  tgt_local q h c := by
    rcases q with (k | k) | (k | k)
    · have : k = 0 := by simpa [isRecv] using h
      subst this; exact peer_zero c
    · rfl
    · have : k = 0 := by simpa [isRecv] using h
      subst this; exact peer_zero c
    · rfl
  need := need m
  pay := pay m
  storable c q := by
    rcases q with (k | k) | (k | k) <;> unfold pay <;> infer_instance
  ord := startNo
  word := waitNo

end Cert.Exchange
-- ==== Proof.Body.lean ====
/-
  The exchange's kernel on one device: sixteen start steps, then thirty waits, carried through the protocol's two phases.
-/
module

public import proofs.«01_k».proof.Proof.Exchange

@[expose] public section

noncomputable section

namespace Cert.Exchange

open Cert.KernelIdeal Cert.KernelIdeal.Gen Cert.Rows
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Talk (Plan)

variable {F : FTy → Type} [FloatOps F]

local notation "𝕄" => MT nD τ sig Unit (Elt F) ℕ UU ℕ

abbrev 𝒱₀ : Variants := Variants.none

variable (m : (ℓ : Loc nD τ sig) → Buf (Elt F) ℓ)

/-! ### One step of each kind -/

theorem own0_none {k : Fin 8} (hk : k ≠ 0) (A S : sProp 𝕄) : iprop(A ∗ own0 k S) = A := by
  unfold own0
  rw [if_neg hk]
  exact equiv_iff.mp BI.sep_emp

theorem routed (c d : Dev nD) : τ.routes (c.tc : Thread nD τ) (Dev.tc d : Thread nD τ) = true := by revert c d; decide

theorem sh_start (p : Fin 7) : ∀ q, startNo q = 2 * (p.val + 1) → q = .inl (.inr p) ∨ q = .inl (.inl p.succ) := by revert p; decide +kernel
theorem rep_start (p : Fin 7) : ∀ q, startNo q = 2 * (p.val + 1) + 1 → q = .inr (.inr p) ∨ q = .inr (.inl p.succ) := by revert p; decide +kernel
theorem succ_ne (p : Fin 7) : decide (p.succ ≠ 0) = true := by revert p; decide

/-- Device `c` before start step `n`. -/
abbrev startAt (c : Dev nD) (n : ℕ) : sProp 𝕄 := (plan m).starting ER n c
/-- Device `c` before wait step `n`. -/
abbrev waitAt (c : Dev nD) (n : ℕ) : sProp 𝕄 := (plan m).waiting ER n c
/-- The kernel's run from `e` on, on device `c`, to `Ψ`. -/
abbrev rest (c : Dev nD) {α : Type} (e : Prog (TpuEff nD τ sig (Elt F) Λ₀ .tc) α) (Ψ : α → sProp 𝕄) : sProp 𝕄 :=
  wp frame (wpE defs₀ 𝒱₀ (c.tc : Thread nD τ) none) Set.univ e Ψ

section
variable (κ : Dev nD × K → ℕ) {n : ℕ} (c : Dev nD)

/-- The device's own shard is copied. -/
theorem copy_sh {o : Fin 3 → ℕ} (ho : o = ![c.val, 0, 0]) {h h'} {hsrc hdst hsem}
    {α : Type} {Ψ : α → sProp 𝕄} {k : PUnit → Prog (TpuEff nD τ sig (Elt F) Λ₀ .tc) α} :
    iprop((plan m).recs ER κ ∗ startAt m c 0)
      ⊢ iprop((startAt m c 1 -∗ rest c (k ⟨⟩) Ψ)
        -∗ rest c (.op (.enqueueDma (cutSh shIn o h) (.here (cutSh shOut o h')) (.dma 28) hsrc hdst hsem) k) Ψ) := by
  refine (plan m).start_local ER defs₀ 𝒱₀ κ c (.inl (.inl 0)) rfl (show ∀ q, startNo q = 0 → q = _ by decide +kernel) rfl rfl rfl (q := fullShare)
    (fs := m ((c.tc : Thread nD τ).loc main_arg0)) ?_ ?_
  · have e1 : (cutSh shIn o h).view.set = row 36880 128 c := set_shIn c ho h
    have e2 : (cutSh shOut o h').view.set = row 36880 128 c := set_shOut c ho h'
    rw [e1, e2]
    show iprop(roomSh (peer 0 c) c ∗ own0 0 (srcSh m c 0)) ⊢ _
    rw [peer_zero]
    unfold roomSh own0 srcSh
    rw [if_pos rfl, peer_zero]
    iintro ⟨Hr, Hs⟩
    isplitl [Hs] <;> iassumption
  · intro fd
    have e1 : (cutSh shIn o h).view.set = row 36880 128 c := set_shIn c ho h
    have e2 : (cutSh shOut o h').view.set = row 36880 128 c := set_shOut c ho h'
    rw [e1, e2]
    show _ ⊢ iprop(doneSh m c (peer 0 c) ∗ own0 0 (srcSh m c 0))
    rw [peer_zero]
    unfold doneSh own0 srcSh
    rw [if_pos rfl, peer_zero, pointsTo_congr (write_shards m c c ho ho h' h fd)]

/-- The device's own array is copied. -/
theorem copy_rep {o : Fin 3 → ℕ} (ho : o = ![c.val, 0, 0]) {h} {hsrc hdst hsem}
    {α : Type} {Ψ : α → sProp 𝕄} {k : PUnit → Prog (TpuEff nD τ sig (Elt F) Λ₀ .tc) α} :
    iprop((plan m).recs ER κ ∗ startAt m c 1)
      ⊢ iprop((startAt m c 2 -∗ rest c (k ⟨⟩) Ψ)
        -∗ rest c (.op (.enqueueDma repIn (.here (cutRep repOut o h)) (.dma 29) hsrc hdst hsem) k) Ψ) := by
  refine (plan m).start_local ER defs₀ 𝒱₀ κ c (.inr (.inl 0)) rfl (show ∀ q, startNo q = 1 → q = _ by decide +kernel) rfl rfl rfl (q := eighth 0)
    (fs := m ((c.tc : Thread nD τ).loc main_arg1)) ?_ ?_
  · have e2 : (cutRep repOut o h).view.set = row 2208 128 c := set_repOut c ho h
    rw [e2, View.set_whole]
    show iprop(roomRep (peer 0 c) c ∗ own0 0 (srcRep m c 0)) ⊢ _
    rw [peer_zero]
    unfold roomRep own0 srcRep
    rw [if_pos rfl]
    iintro ⟨Hr, Hs⟩
    isplitl [Hs] <;> iassumption
  · intro fd
    have e2 : (cutRep repOut o h).view.set = row 2208 128 c := set_repOut c ho h
    rw [e2, View.set_whole]
    show _ ⊢ iprop(doneRep m c (peer 0 c) ∗ own0 0 (srcRep m c 0))
    rw [peer_zero]
    unfold doneRep own0 srcRep
    rw [if_pos rfl, pointsTo_congr (write_reps m c c ho h fd)]

/-- A shard is sent to its peer. -/
theorem send_sh (p : Fin 7) (hn : n = 2 * (p.val + 1)) {d : Dev nD} (hd : d = peer p.succ c) {o o' : Fin 3 → ℕ}
    (ho : o = ![c.val, 0, 0]) (ho' : o' = ![(peer p.succ c).val, 0, 0]) {h h'}
    {sS sR : SemLoc sig} (hS : sS = .dma (semNo (.inl (.inr p)))) (hR : sR = .dma (semNo (.inl (.inl p.succ)))) {hsc hsrc hdst hsem}
    {α : Type} {Ψ : α → sProp 𝕄} {k : PUnit → Prog (TpuEff nD τ sig (Elt F) Λ₀ .tc) α} :
    iprop((plan m).recs ER κ ∗ startAt m c n)
      ⊢ iprop((startAt m c (n + 1) -∗ rest c (k ⟨⟩) Ψ)
        -∗ rest c (.op (.enqueueDma (cutSh shIn o' h') (.remote (Dev.tc d : Thread nD τ) (cutSh shOut o h) sS hsc) sR hsrc hdst hsem) k) Ψ) := by
  have hord : ∀ q, startNo q = n → q = .inl (.inr p) ∨ q = .inl (.inl p.succ) := by subst hn; exact sh_start p
  have e1 : (cutSh shIn o' h').view.set = row 36880 128 (peer p.succ c) := set_shIn _ ho' h'
  have e2 : (cutSh shOut o h).view.set = row 36880 128 c := set_shOut c ho h
  subst hd
  refine (plan m).start_remote ER defs₀ 𝒱₀ κ c _ (.inl (.inr p)) (.inl (.inl p.succ)) rfl hn.symm hn.symm (by simp) hord rfl
    (succ_ne p) rfl hS hR (by subst hR; rfl) (q := fullShare) (fs := m ((c.tc : Thread nD τ).loc main_arg0)) ?_ ?_ ?_ ?_ ?_
  · rw [e1]
    exact Entails.of_eq rfl
  · rw [e2]
    show iprop(roomSh (peer p.succ c) c ∗ own0 p.succ (srcSh m c 0)) ⊢ _
    rw [own0_none (Fin.succ_ne_zero p)]
    exact Entails.of_eq rfl
  · rw [e1]
    exact Entails.of_eq rfl
  · intro fd
    rw [e2]
    show _ ⊢ iprop(doneSh m (peer p.succ c) (peer p.succ (peer p.succ c)) ∗ own0 p.succ (srcSh m (peer p.succ c) 0))
    rw [peer_peer]
    rw [own0_none (Fin.succ_ne_zero p)]
    exact Entails.of_eq (pointsTo_congr (write_shards m c (peer p.succ c) ho ho' h h' fd))
  · exact routed _ _

/-- The array is sent to a peer. -/
theorem send_rep (p : Fin 7) (hn : n = 2 * (p.val + 1) + 1) {d : Dev nD} (hd : d = peer p.succ c) {o : Fin 3 → ℕ}
    (ho : o = ![c.val, 0, 0]) {h} {sS sR : SemLoc sig} (hS : sS = .dma (semNo (.inr (.inr p)))) (hR : sR = .dma (semNo (.inr (.inl p.succ))))
    {hsc hsrc hdst hsem}
    {α : Type} {Ψ : α → sProp 𝕄} {k : PUnit → Prog (TpuEff nD τ sig (Elt F) Λ₀ .tc) α} :
    iprop((plan m).recs ER κ ∗ startAt m c n)
      ⊢ iprop((startAt m c (n + 1) -∗ rest c (k ⟨⟩) Ψ)
        -∗ rest c (.op (.enqueueDma repIn (.remote (Dev.tc d : Thread nD τ) (cutRep repOut o h) sS hsc) sR hsrc hdst hsem) k) Ψ) := by
  have hord : ∀ q, startNo q = n → q = .inr (.inr p) ∨ q = .inr (.inl p.succ) := by subst hn; exact rep_start p
  have e2 : (cutRep repOut o h).view.set = row 2208 128 c := set_repOut c ho h
  subst hd
  refine (plan m).start_remote ER defs₀ 𝒱₀ κ c _ (.inr (.inr p)) (.inr (.inl p.succ)) rfl hn.symm hn.symm (by simp) hord rfl
    (succ_ne p) rfl hS hR (by subst hR; rfl) (q := eighth p.succ) (fs := m ((c.tc : Thread nD τ).loc main_arg1)) ?_ ?_ ?_ ?_ ?_
  · rw [View.set_whole]
    exact Entails.of_eq rfl
  · rw [e2]
    show iprop(roomRep (peer p.succ c) c ∗ own0 p.succ (srcRep m c 0)) ⊢ _
    rw [own0_none (Fin.succ_ne_zero p)]
    exact Entails.of_eq rfl
  · rw [View.set_whole]
    exact Entails.of_eq rfl
  · intro fd
    rw [e2]
    show _ ⊢ iprop(doneRep m (peer p.succ c) (peer p.succ (peer p.succ c)) ∗ own0 p.succ (srcRep m (peer p.succ c) 0))
    rw [peer_peer]
    rw [own0_none (Fin.succ_ne_zero p)]
    exact Entails.of_eq (pointsTo_congr (write_reps m c (peer p.succ c) ho h fd))
  · exact routed _ _

/-- A cell is waited for. -/
theorem wait_one (q : K) (hn : waitNo q = n) {sp sp' : Space} {sh sh' : Shape} {e e' : EltTy} {src : Memref sig .tc sp sh e}
    {dst : Memref sig .tc sp' sh' e'} {sem : DmaSem sig} (hs : sem = semNo q) (hN : dst.view.dmaCredit = (plan m).amt q) {hsrc hdst}
    {α : Type} {Ψ : α → sProp 𝕄} {k : PUnit → Prog (TpuEff nD τ sig (Elt F) Λ₀ .tc) α} :
    iprop((plan m).recs ER κ ∗ waitAt m c n)
      ⊢ iprop((waitAt m c (n + 1) -∗ rest c (k ⟨⟩) Ψ)
        -∗ rest c (.op (.waitDma2 sem src dst hsrc hdst) k) Ψ) := by
  have hon : ∀ q', waitNo q' = n → q' = q := by subst hn; clear hN hs; revert q; decide +kernel
  exact (plan m).wait_step ER defs₀ 𝒱₀ κ c q hn hon (congrArg SemLoc.dma hs) hN

end

/-! ### The kernel -/

theorem at_off1 (c : Dev nD) : k0_off1 c = ![c.val, 0, 0] := by revert c; decide +kernel
theorem at_off2 (c : Dev nD) : k0_off2 c = ![c.val, 0, 0] := by revert c; decide +kernel
theorem at_off3 (c : Dev nD) : k0_off3 c = ![(peer 1 c).val, 0, 0] := by revert c; decide +kernel
theorem at_off4 (c : Dev nD) : k0_off4 c = ![(peer 2 c).val, 0, 0] := by revert c; decide +kernel
theorem at_off5 (c : Dev nD) : k0_off5 c = ![(peer 3 c).val, 0, 0] := by revert c; decide +kernel
theorem at_off6 (c : Dev nD) : k0_off6 c = ![(peer 4 c).val, 0, 0] := by revert c; decide +kernel
theorem at_off7 (c : Dev nD) : k0_off7 c = ![(peer 5 c).val, 0, 0] := by revert c; decide +kernel
theorem at_off8 (c : Dev nD) : k0_off8 c = ![(peer 6 c).val, 0, 0] := by revert c; decide +kernel
theorem at_off9 (c : Dev nD) : k0_off9 c = ![(peer 7 c).val, 0, 0] := by revert c; decide +kernel
theorem to_dev1 (c : Dev nD) : (⟨k0_dev1 c, k0_dev1_lt c⟩ : Dev nD) = peer 1 c := by revert c; decide +kernel
theorem to_dev2 (c : Dev nD) : (⟨k0_dev2 c, k0_dev2_lt c⟩ : Dev nD) = peer 1 c := by revert c; decide +kernel
theorem to_dev3 (c : Dev nD) : (⟨k0_dev3 c, k0_dev3_lt c⟩ : Dev nD) = peer 2 c := by revert c; decide +kernel
theorem to_dev4 (c : Dev nD) : (⟨k0_dev4 c, k0_dev4_lt c⟩ : Dev nD) = peer 2 c := by revert c; decide +kernel
theorem to_dev5 (c : Dev nD) : (⟨k0_dev5 c, k0_dev5_lt c⟩ : Dev nD) = peer 3 c := by revert c; decide +kernel
theorem to_dev6 (c : Dev nD) : (⟨k0_dev6 c, k0_dev6_lt c⟩ : Dev nD) = peer 3 c := by revert c; decide +kernel
theorem to_dev7 (c : Dev nD) : (⟨k0_dev7 c, k0_dev7_lt c⟩ : Dev nD) = peer 4 c := by revert c; decide +kernel
theorem to_dev8 (c : Dev nD) : (⟨k0_dev8 c, k0_dev8_lt c⟩ : Dev nD) = peer 4 c := by revert c; decide +kernel
theorem to_dev9 (c : Dev nD) : (⟨k0_dev9 c, k0_dev9_lt c⟩ : Dev nD) = peer 5 c := by revert c; decide +kernel
theorem to_dev10 (c : Dev nD) : (⟨k0_dev10 c, k0_dev10_lt c⟩ : Dev nD) = peer 5 c := by revert c; decide +kernel
theorem to_dev11 (c : Dev nD) : (⟨k0_dev11 c, k0_dev11_lt c⟩ : Dev nD) = peer 6 c := by revert c; decide +kernel
theorem to_dev12 (c : Dev nD) : (⟨k0_dev12 c, k0_dev12_lt c⟩ : Dev nD) = peer 6 c := by revert c; decide +kernel
theorem to_dev13 (c : Dev nD) : (⟨k0_dev13 c, k0_dev13_lt c⟩ : Dev nD) = peer 7 c := by revert c; decide +kernel
theorem to_dev14 (c : Dev nD) : (⟨k0_dev14 c, k0_dev14_lt c⟩ : Dev nD) = peer 7 c := by revert c; decide +kernel

set_option maxRecDepth 20000 in
set_option maxHeartbeats 4000000 in
/-- The kernel on device `c`: from its first state, with the credits of what lands on it and its positions at its cells, to
    its last. -/
theorem run_kernel (κ : Dev nD × K → ℕ) (c : Dev nD) {Ψ : PUnit → sProp 𝕄} :
    iprop((plan m).recs ER κ ∗ startAt m c 0
        ∗ (bigSep Finset.univ fun q : K => if (plan m).recv q then cred (tallyAt ((plan m).cell c q) () ((plan m).amt q)) else iprop(emp))
        ∗ bigSep Finset.univ fun q : K => atPos ER ((plan m).cell c q) 0 ∅ 0)
      ⊢ iprop((waitAt m c 30 -∗ Ψ ⟨⟩)
        -∗ rest c (cc0_exchange_grads (F := F) shIn (Memref.isWhole_whole _) repIn (Memref.isWhole_whole _) shOut (Memref.isWhole_whole _)
            repOut (Memref.isWhole_whole _) cc0_scratch0 cc0_scratch1 cc0_scratch2) Ψ) := by
  simp only [cc0_exchange_grads_eq_skeleton]
  unfold cc0_exchange_grads_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel
  simp only [Prog.lift, Prog.bind_op, Prog.bind_ret, Prog.pure_eq_ret, Prog.bind_assoc, wp_deviceId]
  iintro ⟨#HR, HS, HC, HA⟩ Hk
  iapply (copy_sh m κ c (at_off1 c)) $$ [HS]
  · isplitr; · iexact HR
    iexact HS
  iintro HS
  iapply (copy_rep m κ c (at_off2 c)) $$ [HS]
  · isplitr; · iexact HR
    iexact HS
  iintro HS
  iapply (send_sh m κ c 0 rfl (to_dev1 c) (at_off1 c) (at_off3 c) rfl rfl) $$ [HS]
  · isplitr; · iexact HR
    iexact HS
  iintro HS
  iapply (send_rep m κ c 0 rfl (to_dev2 c) (at_off2 c) rfl rfl) $$ [HS]
  · isplitr; · iexact HR
    iexact HS
  iintro HS
  iapply (send_sh m κ c 1 rfl (to_dev3 c) (at_off1 c) (at_off4 c) rfl rfl) $$ [HS]
  · isplitr; · iexact HR
    iexact HS
  iintro HS
  iapply (send_rep m κ c 1 rfl (to_dev4 c) (at_off2 c) rfl rfl) $$ [HS]
  · isplitr; · iexact HR
    iexact HS
  iintro HS
  iapply (send_sh m κ c 2 rfl (to_dev5 c) (at_off1 c) (at_off5 c) rfl rfl) $$ [HS]
  · isplitr; · iexact HR
    iexact HS
  iintro HS
  iapply (send_rep m κ c 2 rfl (to_dev6 c) (at_off2 c) rfl rfl) $$ [HS]
  · isplitr; · iexact HR
    iexact HS
  iintro HS
  iapply (send_sh m κ c 3 rfl (to_dev7 c) (at_off1 c) (at_off6 c) rfl rfl) $$ [HS]
  · isplitr; · iexact HR
    iexact HS
  iintro HS
  iapply (send_rep m κ c 3 rfl (to_dev8 c) (at_off2 c) rfl rfl) $$ [HS]
  · isplitr; · iexact HR
    iexact HS
  iintro HS
  iapply (send_sh m κ c 4 rfl (to_dev9 c) (at_off1 c) (at_off7 c) rfl rfl) $$ [HS]
  · isplitr; · iexact HR
    iexact HS
  iintro HS
  iapply (send_rep m κ c 4 rfl (to_dev10 c) (at_off2 c) rfl rfl) $$ [HS]
  · isplitr; · iexact HR
    iexact HS
  iintro HS
  iapply (send_sh m κ c 5 rfl (to_dev11 c) (at_off1 c) (at_off8 c) rfl rfl) $$ [HS]
  · isplitr; · iexact HR
    iexact HS
  iintro HS
  iapply (send_rep m κ c 5 rfl (to_dev12 c) (at_off2 c) rfl rfl) $$ [HS]
  · isplitr; · iexact HR
    iexact HS
  iintro HS
  iapply (send_sh m κ c 6 rfl (to_dev13 c) (at_off1 c) (at_off9 c) rfl rfl) $$ [HS]
  · isplitr; · iexact HR
    iexact HS
  iintro HS
  iapply (send_rep m κ c 6 rfl (to_dev14 c) (at_off2 c) rfl rfl) $$ [HS]
  · isplitr; · iexact HR
    iexact HS
  iintro HS
  ihave HS := ((plan m).turn ER (show ∀ q, startNo q < 16 by decide) c) $$ [HS HC HA]
  · isplitl [HS]; · iexact HS
    isplitl [HC] <;> iassumption
  iapply (wait_one m κ c (.inl (.inl 0)) rfl rfl rfl) $$ [HS]
  · isplitr; · iexact HR
    iexact HS
  iintro HS
  iapply (wait_one m κ c (.inr (.inl 0)) rfl rfl rfl) $$ [HS]
  · isplitr; · iexact HR
    iexact HS
  iintro HS
  iapply (wait_one m κ c (.inl (.inr 0)) rfl rfl rfl) $$ [HS]
  · isplitr; · iexact HR
    iexact HS
  iintro HS
  iapply (wait_one m κ c (.inl (.inl 1)) rfl rfl rfl) $$ [HS]
  · isplitr; · iexact HR
    iexact HS
  iintro HS
  iapply (wait_one m κ c (.inr (.inr 0)) rfl rfl rfl) $$ [HS]
  · isplitr; · iexact HR
    iexact HS
  iintro HS
  iapply (wait_one m κ c (.inr (.inl 1)) rfl rfl rfl) $$ [HS]
  · isplitr; · iexact HR
    iexact HS
  iintro HS
  iapply (wait_one m κ c (.inl (.inr 1)) rfl rfl rfl) $$ [HS]
  · isplitr; · iexact HR
    iexact HS
  iintro HS
  iapply (wait_one m κ c (.inl (.inl 2)) rfl rfl rfl) $$ [HS]
  · isplitr; · iexact HR
    iexact HS
  iintro HS
  iapply (wait_one m κ c (.inr (.inr 1)) rfl rfl rfl) $$ [HS]
  · isplitr; · iexact HR
    iexact HS
  iintro HS
  iapply (wait_one m κ c (.inr (.inl 2)) rfl rfl rfl) $$ [HS]
  · isplitr; · iexact HR
    iexact HS
  iintro HS
  iapply (wait_one m κ c (.inl (.inr 2)) rfl rfl rfl) $$ [HS]
  · isplitr; · iexact HR
    iexact HS
  iintro HS
  iapply (wait_one m κ c (.inl (.inl 3)) rfl rfl rfl) $$ [HS]
  · isplitr; · iexact HR
    iexact HS
  iintro HS
  iapply (wait_one m κ c (.inr (.inr 2)) rfl rfl rfl) $$ [HS]
  · isplitr; · iexact HR
    iexact HS
  iintro HS
  iapply (wait_one m κ c (.inr (.inl 3)) rfl rfl rfl) $$ [HS]
  · isplitr; · iexact HR
    iexact HS
  iintro HS
  iapply (wait_one m κ c (.inl (.inr 3)) rfl rfl rfl) $$ [HS]
  · isplitr; · iexact HR
    iexact HS
  iintro HS
  iapply (wait_one m κ c (.inl (.inl 4)) rfl rfl rfl) $$ [HS]
  · isplitr; · iexact HR
    iexact HS
  iintro HS
  iapply (wait_one m κ c (.inr (.inr 3)) rfl rfl rfl) $$ [HS]
  · isplitr; · iexact HR
    iexact HS
  iintro HS
  iapply (wait_one m κ c (.inr (.inl 4)) rfl rfl rfl) $$ [HS]
  · isplitr; · iexact HR
    iexact HS
  iintro HS
  iapply (wait_one m κ c (.inl (.inr 4)) rfl rfl rfl) $$ [HS]
  · isplitr; · iexact HR
    iexact HS
  iintro HS
  iapply (wait_one m κ c (.inl (.inl 5)) rfl rfl rfl) $$ [HS]
  · isplitr; · iexact HR
    iexact HS
  iintro HS
  iapply (wait_one m κ c (.inr (.inr 4)) rfl rfl rfl) $$ [HS]
  · isplitr; · iexact HR
    iexact HS
  iintro HS
  iapply (wait_one m κ c (.inr (.inl 5)) rfl rfl rfl) $$ [HS]
  · isplitr; · iexact HR
    iexact HS
  iintro HS
  iapply (wait_one m κ c (.inl (.inr 5)) rfl rfl rfl) $$ [HS]
  · isplitr; · iexact HR
    iexact HS
  iintro HS
  iapply (wait_one m κ c (.inl (.inl 6)) rfl rfl rfl) $$ [HS]
  · isplitr; · iexact HR
    iexact HS
  iintro HS
  iapply (wait_one m κ c (.inr (.inr 5)) rfl rfl rfl) $$ [HS]
  · isplitr; · iexact HR
    iexact HS
  iintro HS
  iapply (wait_one m κ c (.inr (.inl 6)) rfl rfl rfl) $$ [HS]
  · isplitr; · iexact HR
    iexact HS
  iintro HS
  iapply (wait_one m κ c (.inl (.inr 6)) rfl rfl rfl) $$ [HS]
  · isplitr; · iexact HR
    iexact HS
  iintro HS
  iapply (wait_one m κ c (.inl (.inl 7)) rfl rfl rfl) $$ [HS]
  · isplitr; · iexact HR
    iexact HS
  iintro HS
  iapply (wait_one m κ c (.inr (.inr 6)) rfl rfl rfl) $$ [HS]
  · isplitr; · iexact HR
    iexact HS
  iintro HS
  iapply (wait_one m κ c (.inr (.inl 7)) rfl rfl rfl) $$ [HS]
  · isplitr; · iexact HR
    iexact HS
  iintro HS
  unfold rest
  rw [wp_ret]
  imodintro
  iapply Hk
  iexact HS

end Cert.Exchange
-- ==== Proof.FirstRegion.lean ====
/-
  The launch of a TensorCore program whose first statement is a kernel region that writes other devices' arrays
  without any handshake. Such a region needs, on every device, resources of all the others from the first instant:
  the peers' output arrays and the peers' semaphores. `run_first_region` therefore lets ONE update, made before any
  device starts, share out every device's unscoped buffers together with the kernel's own semaphores. What follows
  the region is a list of segments in the library's sense, possibly empty.
-/
module

public import Idealize.ShloMosaic.Lib.Pipeline.Regions

@[expose] public section

noncomputable section

namespace Cert.FirstRegion

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

omit [Preorder Lvl] in
/-- The level facts of every thread's cells, from what each TensorCore holds of them at launch. -/
theorem levels_assigned (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hout : ∀ (d : Dev nD) (q : Proc τ), q ≠ .tc → (coreLevAts ((d, q) : Thread nD τ) L lv : sProp 𝕄) = BI.emp := fun d q hq => by
    unfold coreLevAts
    rw [bigSep_congr (Ψ := fun _ : SemLoc sig => (BI.emp : sProp 𝕄)) fun sm _ => by rw [hL (((d, q) : Thread nD τ), sm) hq, BI.bigSep_empty],
      BI.bigSep_emp_const]
  have hall : (levAts L lv : sProp 𝕄) = bigSep Finset.univ fun d : Dev nD => coreLevAts (d.tc : Thread nD τ) L lv := by
    rw [show (levAts L lv : sProp 𝕄) = bigSep Finset.univ fun c : Thread nD τ => coreLevAts c L lv
      from bigSep_univ_prod fun g : GSem nD τ sig => bigSep (L g) fun ι => levAt g ι (lv g ι), bigSep_threads (fun c : Thread nD τ => coreLevAts c L lv),
      bigSep_congr (s := (Finset.univ : Finset (Dev nD))) (Ψ := fun _ : Dev nD => (BI.emp : sProp 𝕄)) fun d _ =>
        (bigSep_congr (Ψ := fun _ : Proc τ => (BI.emp : sProp 𝕄)) fun q hq => hout d q (Finset.ne_of_mem_erase hq)).trans (BI.bigSep_emp_const _),
      BI.bigSep_emp_const]
    exact equiv_iff.mp BI.sep_emp
  rw [hall]
  refine (bigSep_mono fun c _ => lev_assign_cells (c.tc : Thread nD τ) L lv).trans <| (BI.bigSep_bupd _ _).trans <| BI.bupd_mono ?_
  have hdrop (A B : sProp 𝕄) : iprop(A ∗ B) ⊢ B := by iintro ⟨-, H⟩; iexact H
  exact bigSep_mono fun c _ => hdrop _ _

variable {Λ₀ : Idealize.SL.Sem.Labels} {P : Type} [Fintype P] [DecidableEq P]
variable (pcs : P → PCfg sig Λ₀ Val) (a : (p : P) → (pcs p).Adm)
  (pdats : (p : P) → (c : Dev nD) → Dat τ Val Ix Name U Lvl (pin pcs a p) c) (ι : Ix)
  (phinj : Function.Injective (cellOf (nD := nD) (pin pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

local notation "𝔻" => Pipeline.defs pcs defs₀
local notation "𝕍" => Variants.lift 𝒱₀

/-- What device `c` brings to the common update at launch: its unscoped buffers and semaphores, its launch credit, its
    generator register and the kernel's own semaphores at zero. -/
def dealt (osem : K → SemLoc sig) (O₀ : Dev nD → CellTallies nD τ sig Ix) (m : (ℓ : Loc nD τ sig) → Buf Val ℓ) (g : Dev nD → PrngReg)
    (c : Dev nD) : sProp 𝕄 :=
  iprop(unscopedBufs c (fun b => m ((c.tc : Thread nD τ).loc b)) ∗ unscopedSems0 c ∗ launchCred O₀ c ∗ prngReg c (g c) ∗ ownSems0 osem c)

/-- What device `c` keeps of its region boundary: everything but the kernel's own semaphores. -/
def kept (c : Dev nD) : sProp 𝕄 :=
  iprop(scopedBufs (c.tc : Thread nD τ) ∗ cellsSems0 (pin pcs a) p c ∗ idleSems0 (pin pcs a) phinj p ho c ∗ opIdle (c.tc : Thread nD τ))

include hw in
omit [Preorder Lvl] [Fintype P] [DecidableEq P] in
/-- A device's launch bundle is what it keeps, what it brings, what it owes and its level counters. -/
theorem core_split (O₀ : Dev nD → CellTallies nD τ sig Ix) (m : (ℓ : Loc nD τ sig) → Buf Val ℓ) (g : Dev nD → PrngReg) (c : Dev nD) :
    coreInit (Ix := Ix) (Name := Name) (U := U) (Lvl := Lvl) (owing O₀) 0 (⟨m, fun _ => 0, g⟩ : MemSt nD τ sig Val) (c.tc : Thread nD τ)
      ⊢ iprop((kept pcs a phinj p ho c ∗ owes (c.tc : Thread nD τ) (O₀ c) ∅) ∗ dealt osem O₀ m g c ∗ levels0 c) := by
  refine (coreInit_boundary_owing O₀ m g c).trans ?_
  unfold boundary kept dealt
  rw [scopedSems0_split (pin pcs a) phinj p hw ho c]
  iintro ⟨⟨Hsc, ⟨⟨Hcells, Hos⟩, Hidle⟩, Hop⟩, Hub, Hus, HO, Hlv, Hpr, Hcr⟩
  isplitl [Hsc Hcells Hidle Hop HO]
  · isplitr [HO]
    · isplitl [Hsc]; · iexact Hsc
      isplitl [Hcells]; · iexact Hcells
      isplitl [Hidle] <;> iassumption
    · iexact HO
  isplitr [Hlv]
  · isplitl [Hub]; · iexact Hub
    isplitl [Hus]; · iexact Hus
    isplitl [Hcr]; · iexact Hcr
    isplitl [Hpr] <;> iassumption
  · iexact Hlv

include phinj hw ho in
/-- A TensorCore program that enters pipeline `p`'s region first and then runs the segments `segs`, from memory `m` with
    every counter at zero: given the region's body obligation, the common update `hglob` that turns what all devices
    bring into what each device's region starts from, the segments' thread states chaining from what the region leaves
    (`hexit`, `hch`) to `Tn` with nothing owed, and what `Tn` says of a final memory (`hfin`), every weakly fair
    execution terminates and every final state satisfies `Q`. -/
theorem run_first_region [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (segs : List (Seg pcs a pdats ι defs₀ 𝒱₀ L lv))
    (hmain : ∀ c, main c = .op (.customCall (entry p) ()) fun _ => Seg.run segs)
    (hnd : (Seg.pipes segs).Nodup) (hmem : p ∉ Seg.pipes segs)
    (hbody : ∀ c, BodyObligationLoose (pdats p c) defs₀ 𝒱₀ ι Set.univ)
    (hne : ∀ w : Fin (pin pcs a p).W, 0 < ((pin pcs a p).win w).block.numel)
    (hstage : ∀ w s, (((pin pcs a p).spec w).stage s).IsWhole)
    (O₀ : Dev nD → CellTallies nD τ sig Ix) (howed₀ : ∀ c, (pdats p c).owed 0 = O₀ c)
    (hL : ∀ g : GSem nD τ sig, g.1.2 ≠ .tc → L g = ∅)
    (hwaits : ∀ c, (levAts L lv : sProp 𝕄) ⊢ cellsWaits (pin pcs a) pdats ι p c)
    (G : Dev nD → sProp 𝕄) (u₀ : U)
    (hu₀ : (ownU u₀ : sProp 𝕄)
      ⊢ |={Set.univ}=> iprop(BI.own (EP (initOf (cells (pin pcs a) phinj) (launchToks (pin pcs a) phinj))) ∗ bigSep Finset.univ G))
    (X Y Z : Dev nD → sProp 𝕄)
    (hglob : iprop((bigSep Finset.univ fun c => iprop(dealt osem O₀ m g c ∗ G c)) ∗ levAts L lv)
      ⊢ |={Set.univ}=> bigSep Finset.univ fun c => iprop((pdats p c).arrays ((pdats p c).arrAt · 0)
          ∗ prefHeld (pcs p).pre c (fun _ => fullShare) (a p).1 ∗ X c ∗ Z c))
    (hin : ∀ c, iprop(X c ∗ prefHeld (pcs p).pre c (fun _ => fullShare) (a p).1 ∗ scopedRest (pin pcs a p).spec c) ⊢ (pdats p c).Φ 0)
    (hout : ∀ c, (pdats p c).Φ (Fin.last (pin pcs a p).N) ⊢ iprop(Y c ∗ ownSems0 osem c ∗ scopedRest (pin pcs a p).spec c))
    (T₁ Tn : Dev nD → sProp 𝕄)
    (hexit : ∀ c, iprop((pdats p c).arrays ((pdats p c).arrAt · (pin pcs a p).N) ∗ (pdats p c).owesAt ι (Fin.last (pin pcs a p).N) ∗ Y c ∗ Z c) ⊢ T₁ c)
    (hch : Seg.Chains T₁ segs fun c => iprop(Tn c ∗ ∃ W, owes (c.tc : Thread nD τ) (0 : CellTallies nD τ sig Ix) W))
    (QY : Dev nD → MemSt nD τ sig Val → Prop)
    (hfin : ∀ c (s' : Phys nD τ sig Val), iprop(Tn c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let pre : Dev nD → sProp 𝕄 := fun c => iprop((kept pcs a phinj p ho c ∗ owes (c.tc : Thread nD τ) (O₀ c) ∅)
    ∗ iprop((pdats p c).arrays ((pdats p c).arrAt · 0) ∗ prefHeld (pcs p).pre c (fun _ => fullShare) (a p).1 ∗ X c ∗ Z c)
    ∗ levAts L lv ∗ (bigSep Finset.univ fun p' => cellsGhost (pin pcs a) EP p' c)
    ∗ bigSep Finset.univ fun p' => (toksInit (pin pcs a) EP p' c : sProp 𝕄))
  let fin : Dev nD → sProp 𝕄 := fun c => iprop(Tn c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- before any device starts: the common update
    have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ (iprop((bigSep Finset.univ fun c => iprop(kept pcs a phinj p ho c ∗ owes (c.tc : Thread nD τ) (O₀ c) ∅))
          ∗ bigSep Finset.univ fun c => iprop(dealt osem O₀ m g c ∗ levels0 c)) : sProp 𝕄) := by
      rw [← bigSep_sep']
      exact bigSep_mono fun c _ => core_split pcs a phinj p hw ho O₀ m g c
    have hboth : (bigSep Finset.univ fun c => iprop(dealt osem O₀ m g c ∗ levels0 c))
        ⊢ (iprop((bigSep Finset.univ fun c => dealt osem O₀ m g c) ∗ bigSep Finset.univ fun c => levels0 c) : sProp 𝕄) := by rw [bigSep_sep']
    have hdeal : iprop((bigSep Finset.univ fun c => dealt osem O₀ m g c) ∗ bigSep Finset.univ G)
        ⊢ (bigSep Finset.univ fun c => iprop(dealt osem O₀ m g c ∗ G c) : sProp 𝕄) := by rw [bigSep_sep']
    iintro ⟨Hcores, Hu⟩
    ihave Hc := hcores $$ Hcores
    icases Hc with ⟨Hkept, Hboth⟩
    ihave Hb := hboth $$ Hboth
    icases Hb with ⟨Hdealt, Hlv⟩
    imod (levels_assigned L lv hL) $$ Hlv with #Hla
    imod hu₀ $$ Hu with ⟨HP, HG⟩
    imod (fund_ghost (pin pcs a) EP phinj) $$ HP with ⟨Hg, Ht⟩
    imod hglob $$ [Hdealt HG] with HT
    · isplitl
      · iapply hdeal; isplitl [Hdealt] <;> iassumption
      · iexact Hla
    imodintro
    iexists ()
    isplitl
    · have hpre : iprop((bigSep Finset.univ fun c => iprop(kept pcs a phinj p ho c ∗ owes (c.tc : Thread nD τ) (O₀ c) ∅))
          ∗ (bigSep Finset.univ fun c => iprop((pdats p c).arrays ((pdats p c).arrAt · 0) ∗ prefHeld (pcs p).pre c (fun _ => fullShare) (a p).1 ∗ X c ∗ Z c))
          ∗ (bigSep Finset.univ fun _ : Dev nD => levAts L lv)
          ∗ (bigSep Finset.univ fun c : Dev nD => bigSep Finset.univ fun p' => cellsGhost (pin pcs a) EP p' c)
          ∗ (bigSep Finset.univ fun c : Dev nD => bigSep Finset.univ fun p' => (toksInit (pin pcs a) EP p' c : sProp 𝕄)))
          ⊢ bigSep Finset.univ pre := by
        rw [← bigSep_sep', ← bigSep_sep', ← bigSep_sep', ← bigSep_sep']
      iapply hpre
      isplitl [Hkept]; · iexact Hkept
      isplitl [HT]; · iexact HT
      isplitr; · iapply (BI.bigSep_intro_persistent (S := Finset.univ) fun (c : Dev nD) _ => (BI.Entails.refl (levAts L lv : sProp 𝕄))); iexact Hla
      isplitl [Hg] <;> iassumption
    · iempintro
  · -- one device: the region, then the segments
    have hg1 : (bigSep Finset.univ fun p' => cellsGhost (pin pcs a) EP p' c)
        ⊢ iprop(cellsGhost (pin pcs a) EP p c ∗ bigSep (Finset.univ.erase p) fun p' => cellsGhost (pin pcs a) EP p' c) :=
      Entails.of_eq (bigSep_erase (Finset.mem_univ p))
    have hg2 : (bigSep Finset.univ fun p' => (toksInit (pin pcs a) EP p' c : sProp 𝕄))
        ⊢ iprop(toksInit (pin pcs a) EP p c ∗ bigSep (Finset.univ.erase p) fun p' => (toksInit (pin pcs a) EP p' c : sProp 𝕄)) :=
      Entails.of_eq (bigSep_erase (Finset.mem_univ p))
    have hg3 : iprop((bigSep (Finset.univ.erase p) fun p' => cellsGhost (pin pcs a) EP p' c)
          ∗ bigSep (Finset.univ.erase p) fun p' => (toksInit (pin pcs a) EP p' c : sProp 𝕄))
        ⊢ Pipeline.ghostOn pcs a EP (Finset.univ.erase p) c := by
      rw [← bigSep_sep']; exact BI.Entails.refl _
    have hsb := scopedBufs_split (pin pcs a) p hw.stage_scoped hw.stage_inj hstage (nD := nD) (τ := τ) (Ix := Ix) (Val := Val) (Name := Name) (U := U) (Lvl := Lvl) c
    have hout' : iprop((pdats p c).Φ (Fin.last (pin pcs a p).N) ∗ cellsSems0 (pin pcs a) p c ∗ Dat.staging (pin pcs a p) c ∗ idleSems0 (pin pcs a) phinj p ho c)
        ⊢ iprop(Y c ∗ scopedSems0 (c.tc : Thread nD τ) ∗ scopedBufs (c.tc : Thread nD τ)) := by
      rw [scopedSems0_split (pin pcs a) phinj p hw ho c, hsb]
      iintro ⟨HΦ, Hcells, Hst, Hidle⟩
      ihave H := (hout c) $$ HΦ
      icases H with ⟨HY, Hos, Hrest⟩
      isplitl [HY]; · iexact HY
      isplitr [Hst Hrest]
      · isplitr [Hidle]
        · isplitl [Hcells] <;> iassumption
        · iexact Hidle
      · isplitl [Hst] <;> iassumption
    have hpost : EntryPost (pin pcs a) pdats ι p c
        ⊢ iprop((pdats p c).arrays ((pdats p c).arrAt · (pin pcs a p).N) ∗ (pdats p c).owesAt ι (Fin.last (pin pcs a p).N)) := BI.Entails.refl _
    simp only [pre, kept]
    rw [hmain c]
    iintro ⟨⟨⟨Hsc, Hcells, Hidle, Hop⟩, HO⟩, ⟨Harr, Hpf, HX, HZ⟩, #Hla, Hg, Ht⟩
    ihave Hg' := hg1 $$ Hg
    icases Hg' with ⟨Hg, Hgr⟩
    ihave Ht' := hg2 $$ Ht
    icases Ht' with ⟨Ht, Htr⟩
    ihave Hrest := hg3 $$ [Hgr Htr]
    · isplitl [Hgr] <;> iassumption
    ihave Hw := (hwaits c) $$ Hla
    iapply (fupd_wp frame (wpE 𝔻 𝕍 (c.tc : Thread nD τ) none) Set.univ _ _)
    imod (cellsInit_alloc (pin pcs a) pdats EP phinj p c) $$ [Hcells Hg] with ⟨%κ, -, Hinit⟩
    · isplitl [Hcells] <;> iassumption
    imodintro
    iapply (wp_customCall_entry_frame pcs a pdats ι EP κ phinj p defs₀ 𝒱₀ (fun _ => fullShare) c Set.univ (fun _ _ => Set.mem_univ _)
        (hbody c) hne none (fun u h => nomatch h) (X := X c) (Y := Y c) (R := scopedRest (pin pcs a p).spec c) (I := idleSems0 (pin pcs a) phinj p ho c)
        (Entails.of_eq hsb) (hin c) hout'
        (k := fun _ => Seg.run segs) (Q := fun _ => post (liftTc fin BI.emp) (c.tc : Thread nD τ))) $$ [Harr HO Hinit Ht Hpf HX Hidle Hsc Hw]
    · isplitl [Harr HO Hinit Ht Hw]
      · unfold EntryPre PerCore.EntryPre Dat.owesAt owesWithin
        rw [howed₀ c]
        isplitl [Harr]; · iexact Harr
        isplitl [HO]
        · iexists ∅; isplitr; · ipureintro; rw [Finset.coe_empty]; exact Set.empty_subset _
          iexact HO
        isplitl [Hw]; · iexact Hw
        isplitl [Hinit] <;> iassumption
      isplitl [Hpf]; · iexact Hpf
      isplitl [HX]; · iexact HX
      isplitl [Hidle]; · iexact Hidle
      iexact Hsc
    iintro ⟨Hpost, HY, Hss, Hsc⟩
    ihave Hp := hpost $$ Hpost
    icases Hp with ⟨Ha, HO⟩
    iapply (wp_segs pcs a pdats ι phinj EP defs₀ 𝒱₀ L lv c segs (Finset.univ.erase p) T₁ _ hnd
      (fun p' hp' => Finset.mem_erase.mpr ⟨fun h => hmem (h ▸ hp'), Finset.mem_univ p'⟩) hch)
    isplitr [Hss Hsc Hop Ha HO HY HZ Hrest]
    · iintro ⟨Hbd, HT, HW⟩
      unfold post; simp only [liftTc_tc, fin]
      isplitl [HT Hbd]
      · isplitl [HT] <;> iassumption
      · iexact HW
    isplitl [Hss Hsc Hop]
    · iapply (show iprop(scopedBufs (c.tc : Thread nD τ) ∗ scopedSems0 (c.tc : Thread nD τ) ∗ opIdle (c.tc : Thread nD τ))
        ⊢ boundary (c.tc : Thread nD τ) from BI.Entails.refl _)
      isplitl [Hsc]; · iexact Hsc
      isplitl [Hss] <;> iassumption
    isplitl [Ha HO HY HZ]
    · iapply (hexit c)
      isplitl [Ha]; · iexact Ha
      isplitl [HO]; · iexact HO
      isplitl [HY] <;> iassumption
    isplitr; · iexact Hla
    iexact Hrest
  · -- the last thread states, read against a final state
    iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.FirstRegion

end
-- ==== Proof.Run.lean ====
/-
  The exchange run from its launch: what the devices bring is shared out before any of them starts, each device's kernel
  is run, and what it leaves is the arguments as they were and the two outputs at what the devices sent.
-/
module

public import proofs.«01_k».proof.Proof.Body
public import proofs.«01_k».proof.Proof.FirstRegion
public import proofs.«01_k».proof.Proof.Gen.KernelIdeal.Launch
public import proofs.«01_k».proof.Proof.Gen.KernelIdeal.Points

@[expose] public section

noncomputable section

namespace Cert.Exchange

open Cert.KernelIdeal Cert.KernelIdeal.Gen Cert.Rows
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.Talk (Plan)

variable {F : FTy → Type} [FloatOps F]

local notation "𝕄" => MT nD τ sig Unit (Elt F) ℕ UU ℕ

variable (m : (ℓ : Loc nD τ sig) → Buf (Elt F) ℓ) (ρ : Dev nD → PrngReg)

/-! ### Families over the cells -/

/-- A family over `n + 1` members is its first member and the others. -/
theorem first_and_rest {n : ℕ} (B : Fin (n + 1) → sProp 𝕄) :
    bigSep Finset.univ B = iprop(B 0 ∗ bigSep Finset.univ fun p : Fin n => B p.succ) := by
  rw [Fin.univ_succ, Finset.cons_eq_insert, BI.bigSep_insert (by simp [Fin.succ_ne_zero]), bigSep_map]
  rfl

/-- What is held for member 0 alone is held once. -/
theorem own0_family (S : sProp 𝕄) : (bigSep Finset.univ fun k : Fin 8 => own0 k S) = S := by
  rw [first_and_rest, bigSep_congr (Ψ := fun _ : Fin 7 => (BI.emp : sProp 𝕄)) (fun p _ => ?_), BI.bigSep_emp_const]
  · refine (equiv_iff.mp BI.sep_emp).trans ?_
    unfold own0; exact if_pos rfl
  · unfold own0; exact if_neg (Fin.succ_ne_zero p)

/-- A family over one kind of cell, sorted: what the eight landings take, and the eight sources. -/
theorem sorted (A B : Fin 8 → sProp 𝕄) (f : Fin 8 ⊕ Fin 7 → sProp 𝕄) (hl : ∀ k, f (.inl k) = iprop(A k ∗ own0 k (B 0))) (hr : ∀ p, f (.inr p) = B p.succ) :
    bigSep Finset.univ f = iprop((bigSep Finset.univ A) ∗ bigSep Finset.univ B) := by
  rw [BI.bigSep_univ_sum, bigSep_congr (s := Finset.univ) (Φ := fun k => f (.inl k)) (fun k _ => hl k),
    bigSep_congr (s := Finset.univ) (Φ := fun p => f (.inr p)) (fun p _ => hr p), bigSep_sep', own0_family, first_and_rest B]
  exact assoc_eq _ _ _

/-- Everything device `c` gives up: room in every device's outputs, its shards and its array. -/
theorem needs (c : Dev nD) : (bigSep Finset.univ fun q : K => (plan m).need c q)
    = iprop(((bigSep Finset.univ fun k : Fin 8 => roomSh (peer k c) c) ∗ bigSep Finset.univ fun k : Fin 8 => srcSh m c k)
      ∗ (bigSep Finset.univ fun k : Fin 8 => roomRep (peer k c) c) ∗ bigSep Finset.univ fun k : Fin 8 => srcRep m c k) := by
  rw [BI.bigSep_univ_sum, sorted (fun k => roomSh (peer k c) c) (srcSh m c) _ (fun _ => rfl) (fun _ => rfl),
    sorted (fun k => roomRep (peer k c) c) (srcRep m c) _ (fun _ => rfl) (fun _ => rfl)]
  rfl

/-- Everything device `c` gets: its own outputs' matrices, its shards and its array. -/
theorem pays (c : Dev nD) : (bigSep Finset.univ fun q : K => (plan m).pay c q)
    = iprop(((bigSep Finset.univ fun k : Fin 8 => doneSh m c (peer k c)) ∗ bigSep Finset.univ fun k : Fin 8 => srcSh m c k)
      ∗ (bigSep Finset.univ fun k : Fin 8 => doneRep m c (peer k c)) ∗ bigSep Finset.univ fun k : Fin 8 => srcRep m c k) := by
  rw [BI.bigSep_univ_sum, sorted (fun k => doneSh m c (peer k c)) (srcSh m c) _ (fun _ => rfl) (fun _ => rfl),
    sorted (fun k => doneRep m c (peer k c)) (srcRep m c) _ (fun _ => rfl) (fun _ => rfl)]
  rfl

/-- Numbering from device `c` on reaches every device once. -/
theorem renumber (c : Fin 8) (Φ : Fin 8 → sProp 𝕄) : (bigSep Finset.univ fun k : Fin 8 => Φ (peer k c)) = bigSep Finset.univ Φ := by
  rw [BI.bigSep_univ_equiv (peer c) Φ]
  exact bigSep_congr fun k _ => by rw [peer_comm]

/-- What every device holds of itself for each sender is what every sender holds of each device. -/
theorem crossed (R : Fin 8 → Fin 8 → sProp 𝕄) :
    (bigSep Finset.univ fun d : Fin 8 => bigSep Finset.univ fun j : Fin 8 => R d j)
      = bigSep Finset.univ fun c : Fin 8 => bigSep Finset.univ fun k : Fin 8 => R (peer k c) c := by
  rw [Pipeline.bigSep_univ_comm]
  exact bigSep_congr fun c _ => (renumber c fun d => R d c).symm

/-! ### Whole buffers in parts -/

theorem shards_in (c : Dev nD) : (((c.tc : Thread nD τ).loc main_arg0) ↦{fullShare} m ((c.tc : Thread nD τ).loc main_arg0) : sProp 𝕄)
    = bigSep Finset.univ fun k : Fin 8 => srcSh m c k := by
  unfold srcSh
  rw [renumber c fun j => (((c.tc : Thread nD τ).loc main_arg0) ↦[row 36880 128 j]{fullShare} m ((c.tc : Thread nD τ).loc main_arg0) : sProp 𝕄)]
  rw [← pointsTo_biUnion (ℓ := (c.tc : Thread nD τ).loc main_arg0) Finset.univ (row 36880 128) (fun _ _ _ _ h => row_disjoint 36880 128 Set.univ trivial trivial h)]
  rw [row_union]

theorem array_in (c : Dev nD) : (((c.tc : Thread nD τ).loc main_arg1) ↦{fullShare} m ((c.tc : Thread nD τ).loc main_arg1) : sProp 𝕄)
    = bigSep Finset.univ fun k : Fin 8 => srcRep m c k := in_eighths _ _

theorem cut_sh (d : Dev nD) (f : Buf (Elt F) ((d.tc : Thread nD τ).loc main_v1_0)) : (((d.tc : Thread nD τ).loc main_v1_0) ↦{fullShare} f : sProp 𝕄)
    = bigSep Finset.univ fun j : Fin 8 => (((d.tc : Thread nD τ).loc main_v1_0) ↦[row 36880 128 j]{fullShare} f : sProp 𝕄) := by
  rw [← pointsTo_biUnion (ℓ := (d.tc : Thread nD τ).loc main_v1_0) Finset.univ (row 36880 128) (fun _ _ _ _ h => row_disjoint 36880 128 Set.univ trivial trivial h)]
  rw [row_union]

theorem cut_rep (d : Dev nD) (f : Buf (Elt F) ((d.tc : Thread nD τ).loc main_v1_1)) : (((d.tc : Thread nD τ).loc main_v1_1) ↦{fullShare} f : sProp 𝕄)
    = bigSep Finset.univ fun j : Fin 8 => (((d.tc : Thread nD τ).loc main_v1_1) ↦[row 2208 128 j]{fullShare} f : sProp 𝕄) := by
  rw [← pointsTo_biUnion (ℓ := (d.tc : Thread nD τ).loc main_v1_1) Finset.univ (row 2208 128) (fun _ _ _ _ h => row_disjoint 2208 128 Set.univ trivial trivial h)]
  rw [row_union]

/-- A device's two outputs at what the devices sent it. -/
theorem outputs_in (c : Dev nD) :
    iprop((bigSep Finset.univ fun k : Fin 8 => doneSh m c (peer k c)) ∗ bigSep Finset.univ fun k : Fin 8 => doneRep m c (peer k c))
      = iprop((((c.tc : Thread nD τ).loc main_v1_0) ↦{fullShare} shards m c) ∗ (((c.tc : Thread nD τ).loc main_v1_1) ↦{fullShare} reps m c)) := by
  rw [renumber c (doneSh m c), renumber c (doneRep m c), cut_sh, cut_rep]
  rfl

theorem room_sh (d : Dev nD) (f : Buf (Elt F) ((d.tc : Thread nD τ).loc main_v1_0)) : (((d.tc : Thread nD τ).loc main_v1_0) ↦{fullShare} f : sProp 𝕄)
    ⊢ bigSep Finset.univ fun j : Fin 8 => roomSh d j := by
  rw [cut_sh]
  exact bigSep_mono fun j _ => by
    show ((((d.tc : Thread nD τ).loc main_v1_0) ↦[row 36880 128 j]{fullShare} f : sProp 𝕄)) ⊢ iprop(∃ f, ((d.tc : Thread nD τ).loc main_v1_0) ↦[row 36880 128 j]{fullShare} f)
    iintro H; iexists f; iexact H

theorem room_rep (d : Dev nD) (f : Buf (Elt F) ((d.tc : Thread nD τ).loc main_v1_1)) : (((d.tc : Thread nD τ).loc main_v1_1) ↦{fullShare} f : sProp 𝕄)
    ⊢ bigSep Finset.univ fun j : Fin 8 => roomRep d j := by
  rw [cut_rep]
  exact bigSep_mono fun j _ => by
    show ((((d.tc : Thread nD τ).loc main_v1_1) ↦[row 2208 128 j]{fullShare} f : sProp 𝕄)) ⊢ iprop(∃ f, ((d.tc : Thread nD τ).loc main_v1_1) ↦[row 2208 128 j]{fullShare} f)
    iintro H; iexists f; iexact H

/-- A device's four arrays at launch, in the parts the transfers read and write. -/
theorem bring (c : Dev nD) : (unscopedBufs c (fun b => m ((c.tc : Thread nD τ).loc b)) : sProp 𝕄)
    ⊢ iprop(((bigSep Finset.univ fun j : Fin 8 => roomSh c j) ∗ bigSep Finset.univ fun k : Fin 8 => srcSh m c k)
      ∗ (bigSep Finset.univ fun j : Fin 8 => roomRep c j) ∗ bigSep Finset.univ fun k : Fin 8 => srcRep m c k) := by
  have e : (unscopedBufs c (fun b => m ((c.tc : Thread nD τ).loc b)) : sProp 𝕄) = _ :=
    bigSep_eq_bigSepL_of_eq [main_arg0, main_arg1, main_v1_0, main_v1_1] (by decide) (by decide) _
  rw [e]
  show iprop((((c.tc : Thread nD τ).loc main_arg0) ↦{fullShare} m ((c.tc : Thread nD τ).loc main_arg0))
    ∗ (((c.tc : Thread nD τ).loc main_arg1) ↦{fullShare} m ((c.tc : Thread nD τ).loc main_arg1))
    ∗ (((c.tc : Thread nD τ).loc main_v1_0) ↦{fullShare} m ((c.tc : Thread nD τ).loc main_v1_0))
    ∗ (((c.tc : Thread nD τ).loc main_v1_1) ↦{fullShare} m ((c.tc : Thread nD τ).loc main_v1_1))) ⊢ _
  rw [shards_in, array_in]
  iintro ⟨H0, H1, H2, H3⟩
  isplitl [H0 H2]
  · isplitl [H2]; · iapply (room_sh c _) $$ H2
    iexact H0
  · isplitl [H3]; · iapply (room_rep c _) $$ H3
    iexact H1

/-- Every device's arrays together are what every device gives up. -/
theorem shared_out : (bigSep Finset.univ fun c : Dev nD => unscopedBufs c (fun b => m ((c.tc : Thread nD τ).loc b)) : sProp 𝕄)
    ⊢ bigSep Finset.univ fun c : Dev nD => bigSep Finset.univ fun q : K => (plan m).need c q := by
  refine (bigSep_mono fun c _ => bring m c).trans ?_
  rw [bigSep_congr (s := Finset.univ) (Φ := fun c : Dev nD => bigSep Finset.univ fun q : K => (plan m).need c q) fun c _ => needs m c]
  simp only [bigSep_sep']
  rw [crossed roomSh, crossed roomRep]
  exact BI.Entails.refl _

/-! ### The region -/

/-- What device `c`'s kernel starts from, beside what it owes. -/
def start (c : Dev nD) : sProp 𝕄 :=
  iprop(∃ κ, (plan m).recs ER κ ∗ (plan m).dealtTo ER c ∗ (bigSep Finset.univ fun q : K => (plan m).need c q)
    ∗ bigSep Finset.univ fun q : K => if (plan m).recv q then cred (tallyAt ((plan m).cell c q) () ((plan m).amt q)) else iprop(emp))

/-- What it leaves. -/
def left (c : Dev nD) : sProp 𝕄 :=
  iprop((bigSep Finset.univ fun q : K => (plan m).pay c q) ∗ bigSep Finset.univ fun q : K => semVal ((plan m).cell c q) 0)

/-- The region's proof data: no window, one point. -/
def dats (_ : Fin 1) (c : Dev nD) : Dat τ (Elt F) Unit ℕ UU ℕ cfg0 c where
  A w := w.elim0
  after w _ := w.elim0
  Φ t := match t with
    | ⟨0, _⟩ => start m c
    | ⟨_ + 1, _⟩ => left m c
  q _ := fullShare
  owed t := match t with
    | ⟨0, _⟩ => (plan m).debt 0 c
    | ⟨_ + 1, _⟩ => 0

theorem body_run (c : Dev nD) : Pipeline.BodyObligationLoose (dats m 0 c) (defs₀ (F := F)) 𝒱₀ () Set.univ := fun t => by
  rw [fin_N0 t]
  show iprop(start m c ∗ (dats m 0 c).owesAt () t0_0.castSucc ∗ _)
    ⊢ wp frame (wpE (defs₀ (F := F)) 𝒱₀ c none) Set.univ
      (cc0_exchange_grads (F := F) shIn (Memref.isWhole_whole _) repIn (Memref.isWhole_whole _) shOut (Memref.isWhole_whole _) repOut (Memref.isWhole_whole _)
        cc0_scratch0 cc0_scratch1 cc0_scratch2) fun _ => iprop(left m c ∗ (dats m 0 c).owesAt () t0_0.succ ∗ _)
  unfold Dat.owesAt Pipeline.owesWithin start Plan.dealtTo
  iintro ⟨⟨%κ, #HR, ⟨Hp, Ht⟩, Hn, Hc⟩, ⟨%W, -, HO⟩, Hw⟩
  ihave HS := ((plan m).starting_zero ER c W) $$ [Ht Hn HO]
  · isplitl [Ht]; · iexact Ht
    isplitl [Hn]; · iexact Hn
    iexact HO
  iapply (run_kernel m κ c) $$ [HS Hc Hp]
  · isplitr; · iexact HR
    isplitl [HS]; · iexact HS
    isplitl [Hc] <;> iassumption
  iintro HE
  ihave H := ((plan m).waited ER (show ∀ q, waitNo q < 30 by decide +kernel) c) $$ HE
  icases H with ⟨Hpay, Hz, ⟨%W', HO⟩⟩
  isplitl [Hpay Hz]
  · unfold left; isplitl [Hpay] <;> iassumption
  isplitl [HO]
  · iexists W'; isplitr; · ipureintro; exact fun _ _ => Or.inl trivial
    iexact HO
  iexact Hw

/-! ### The run -/

def L (g : GSem nD τ sig) : Finset Unit := if g.1.2 = .tc then {()} else ∅
def lv (_ : GSem nD τ sig) (_ : Unit) : ℕ := 0

theorem L_of_ne (g : GSem nD τ sig) (h : g.1.2 ≠ .tc) : L g = ∅ := if_neg h

theorem waits (c : Dev nD) : (levAts L lv : sProp 𝕄) ⊢ Pipeline.cellsWaits cfgs (dats m) () 0 c :=
  Pipeline.cellsWaits_intro cfgs (dats m) () 0 c fun w _ _ => w.elim0

theorem sem_facts : Pipeline.OwnSemFacts cfg0.spec fun q : K => (SemLoc.dma (semNo q) : SemLoc sig) := by decide +kernel

theorem ownSemFacts : Pipeline.OwnSemFacts cfg0.spec fun q : K => (plan m).osem q := sem_facts

/-- The tables the region reads its block numbers from: it has none. -/
def tables (c : Dev nD) : sProp 𝕄 :=
  Pipeline.prefHeld (pcfgs (F := F) 0).pre c (fun _ => fullShare) (Cfg.toPCfg_adm (Val := Elt F) (cfgs 0)).1
theorem tables_none (c : Dev nD) : (tables c : sProp 𝕄) = BI.emp := by
  unfold tables Pipeline.prefHeld
  exact (congrArg (fun s => bigSep s _) (Finset.univ_eq_empty (α := Fin 0))).trans BI.bigSep_empty

theorem arrays_none (c : Dev nD) (A) : ((dats m 0 c).arrays A : sProp 𝕄) = BI.emp := BI.bigSep_empty

/-- The launch element: nothing of the pipeline's (it has no window), and every cell's round and right. -/
def u₀ : UU := (initOf (Pipeline.cells cfgs cellOf_inj) (Pipeline.launchToks cfgs cellOf_inj), initOf (plan m).cells (plan m).toks)

/-- The protocol's launch element, which the common update takes from device 0. -/
def seed (c : Dev nD) : sProp 𝕄 := own0 c (BI.own (ER (initOf (plan m).cells (plan m).toks)))

/-- The common update: every device's counters open the protocol's cells, and every device gives up what it has to the
    devices whose transfers need it. -/
theorem share_out :
    iprop((bigSep Finset.univ fun c => iprop(FirstRegion.dealt (fun q : K => (plan m).osem q) ((plan m).debt 0) m ρ c ∗ seed m c)) ∗ levAts L lv)
      ⊢ |={Set.univ}=> bigSep Finset.univ fun c => iprop((dats m 0 c).arrays ((dats m 0 c).arrAt · 0)
          ∗ tables c ∗ start m c ∗ iprop(emp)) := by
  have hd : (bigSep Finset.univ fun c => iprop(FirstRegion.dealt (fun q : K => (plan m).osem q) ((plan m).debt 0) m ρ c ∗ seed m c))
      ⊢ (iprop((bigSep Finset.univ fun c : Dev nD => unscopedBufs c (fun b => m ((c.tc : Thread nD τ).loc b)))
        ∗ (bigSep Finset.univ fun c : Dev nD => Pipeline.launchCred ((plan m).debt 0) c)
        ∗ (bigSep Finset.univ fun c : Dev nD => bigSep Finset.univ fun q : K => semVal ((plan m).cell c q) 0)
        ∗ BI.own (ER (initOf (plan m).cells (plan m).toks))) : sProp 𝕄) := by
    unfold FirstRegion.dealt
    simp only [bigSep_sep']
    have hs : (bigSep Finset.univ fun c : Dev nD => seed m c) ⊢ (BI.own (ER (initOf (plan m).cells (plan m).toks)) : sProp 𝕄) :=
      Entails.of_eq (own0_family _)
    iintro ⟨⟨Hb, -, Hc, -, Hz⟩, Hs⟩
    isplitl [Hb]; · iexact Hb
    isplitl [Hc]; · iexact Hc
    isplitl [Hz]; · iexact Hz
    iapply hs; iexact Hs
  iintro ⟨H, -⟩
  ihave H' := hd $$ H
  icases H' with ⟨Hb, Hc, Hz, Hs⟩
  imod ((plan m).launch ER) $$ [Hz Hs] with ⟨%κ, #HR, Hto⟩
  · isplitl [Hz] <;> iassumption
  ihave Hn := (shared_out m) $$ Hb
  imodintro
  have hc : (bigSep Finset.univ fun c : Dev nD => Pipeline.launchCred ((plan m).debt 0) c)
      ⊢ (bigSep Finset.univ fun c : Dev nD => bigSep Finset.univ fun q : K => if (plan m).recv q then cred (tallyAt ((plan m).cell c q) () ((plan m).amt q)) else iprop(emp) : sProp 𝕄) :=
    bigSep_mono fun c _ => (plan m).launch_creds c
  ihave Hc' := hc $$ Hc
  have hone (c : Dev nD) : iprop((plan m).recs ER κ ∗ (plan m).dealtTo ER c ∗ (bigSep Finset.univ fun q : K => (plan m).need c q)
        ∗ bigSep Finset.univ fun q : K => if (plan m).recv q then cred (tallyAt ((plan m).cell c q) () ((plan m).amt q)) else iprop(emp))
      ⊢ iprop((dats m 0 c).arrays ((dats m 0 c).arrAt · 0)
          ∗ tables c ∗ start m c ∗ iprop(emp)) := by
    rw [arrays_none, tables_none]
    unfold start
    iintro ⟨#HR, Ht, Hn, Hc⟩
    isplitr; · iempintro
    isplitr; · iempintro
    isplitl
    · iexists κ
      isplitr; · iexact HR
      isplitl [Ht]; · iexact Ht
      isplitl [Hn] <;> iassumption
    · iempintro
  have hall : iprop((bigSep Finset.univ fun _ : Dev nD => (plan m).recs ER κ) ∗ (bigSep Finset.univ fun c : Dev nD => (plan m).dealtTo ER c)
        ∗ (bigSep Finset.univ fun c : Dev nD => bigSep Finset.univ fun q : K => (plan m).need c q)
        ∗ bigSep Finset.univ fun c : Dev nD => bigSep Finset.univ fun q : K => if (plan m).recv q then cred (tallyAt ((plan m).cell c q) () ((plan m).amt q)) else iprop(emp))
      ⊢ bigSep Finset.univ fun c => iprop((dats m 0 c).arrays ((dats m 0 c).arrAt · 0)
          ∗ tables c ∗ start m c ∗ iprop(emp)) := by
    rw [← bigSep_sep', ← bigSep_sep', ← bigSep_sep']
    exact bigSep_mono fun c _ => hone c
  iapply hall
  isplitr; · iapply (BI.bigSep_intro_persistent (S := Finset.univ) fun (c : Dev nD) _ => (BI.Entails.refl ((plan m).recs ER κ : sProp 𝕄))); iexact HR
  isplitl [Hto]; · iexact Hto
  isplitl [Hn] <;> iassumption

/-- What a device's four arrays hold when the program ends. -/
def ended (c : Dev nD) : sProp 𝕄 :=
  iprop((((c.tc : Thread nD τ).loc main_arg0) ↦{fullShare} m ((c.tc : Thread nD τ).loc main_arg0))
    ∗ (((c.tc : Thread nD τ).loc main_arg1) ↦{fullShare} m ((c.tc : Thread nD τ).loc main_arg1))
    ∗ (((c.tc : Thread nD τ).loc main_v1_0) ↦{fullShare} shards m c)
    ∗ (((c.tc : Thread nD τ).loc main_v1_1) ↦{fullShare} reps m c))

/-- What a device gets from its cells is its four arrays. -/
theorem collected (c : Dev nD) : (bigSep Finset.univ fun q : K => (plan m).pay c q) ⊢ ended m c := by
  have ho := outputs_in m c
  rw [pays, ← shards_in, ← array_in]
  unfold ended
  have h2 := Entails.of_eq ho
  iintro ⟨⟨Hs, H0⟩, ⟨Hr, H1⟩⟩
  ihave H := h2 $$ [Hs Hr]
  · isplitl [Hs] <;> iassumption
  icases H with ⟨Hs, Hr⟩
  isplitl [H0]; · iexact H0
  isplitl [H1]; · iexact H1
  isplitl [Hs] <;> iassumption

/-- What a device's arrays hold, as a fact of a memory. -/
def Final (c : Dev nD) (s : MemSt nD τ sig (Elt F)) : Prop :=
  s.mem ((c.tc : Thread nD τ).loc main_v1_0) = shards m c ∧ s.mem ((c.tc : Thread nD τ).loc main_v1_1) = reps m c
    ∧ s.mem ((c.tc : Thread nD τ).loc main_arg0) = m ((c.tc : Thread nD τ).loc main_arg0)
    ∧ s.mem ((c.tc : Thread nD τ).loc main_arg1) = m ((c.tc : Thread nD τ).loc main_arg1)

theorem read_end (c : Dev nD) (s' : Phys nD τ sig (Elt F)) : iprop(ended m c ∗ SI s') ⊢ |={Set.univ}=> iprop(⌜Final m c s'.mem⌝ ∗ SI s') := by
  unfold ended
  iintro ⟨⟨H0, H1, H2, H3⟩, HSI⟩
  icombine HSI H0 gives %h0
  icombine HSI H1 gives %h1
  icombine HSI H2 gives %h2
  icombine HSI H3 gives %h3
  imodintro
  isplitr
  · ipureintro
    exact ⟨Buf.eq_of_forall_mem_univ h2, Buf.eq_of_forall_mem_univ h3, Buf.eq_of_forall_mem_univ h0, Buf.eq_of_forall_mem_univ h1⟩
  iexact HSI

set_option maxRecDepth 8000 in
/-- For any float values, from any memory with every counter at zero: every weakly fair execution of the program on its
    eight devices terminates, with matrix `j` of device `c`'s outputs holding device `j`'s shard `c` and device `j`'s
    array, the arguments unchanged and every counter at zero. -/
theorem run_main : θ_run (defs (F := F)) (onTc (τ := τ) (main (F := F))) ⟨m, fun _ => 0, ρ⟩
    (fun r => (∀ c, Final m c r.2) ∧ r.2.sem = fun _ => 0) :=
  FirstRegion.run_first_region (fun p => (cfgs p).toPCfg) (fun p => (cfgs p).toPCfg_adm) (dats m) () cellOf_inj (0 : Fin 1)
    winFacts0.to₀ (ownSemFacts m) EP defs₀ 𝒱₀ L lv m ρ main []
    (hmain := fun _ => rfl) (hnd := List.nodup_nil) (hmem := List.not_mem_nil)
    (hbody := body_run m) (hne := fun w => w.elim0) (hstage := stage_whole0)
    (O₀ := (plan m).debt 0) (howed₀ := fun _ => rfl) (hL := L_of_ne) (hwaits := waits m)
    (G := seed m) (u₀ := u₀ m)
    (hu₀ := by
      unfold u₀
      iintro Hu
      ihave H := (ownU_pair _ _) $$ Hu
      icases H with ⟨HP, HX⟩
      have hs : (BI.own (ER (initOf (plan m).cells (plan m).toks)) : sProp 𝕄) ⊢ (bigSep Finset.univ fun c : Dev nD => seed m c) :=
        Entails.of_eq (own0_family _).symm
      imodintro
      isplitl [HP]; · iexact HP
      iapply hs; iexact HX)
    (X := start m) (Y := fun c => bigSep Finset.univ fun q : K => (plan m).pay c q) (Z := fun _ => iprop(emp))
    (hglob := share_out m ρ)
    (hin := fun c => by
      show iprop(start m c ∗ tables c ∗ _) ⊢ start m c
      rw [tables_none]
      have hs := Entails.of_eq (scopedRest0_eq (Ix := Unit) (Val := Elt F) (Name := ℕ) (U := UU) (Lvl := ℕ) c)
      iintro ⟨H, -, -⟩
      iexact H)
    (hout := fun c => by
      show left m c ⊢ iprop(_ ∗ Pipeline.ownSems0 _ c ∗ Pipeline.scopedRest cfg0.spec c)
      rw [scopedRest0_eq]
      unfold left Pipeline.ownSems0
      iintro ⟨Hp, Hz⟩
      isplitl [Hp]; · iexact Hp
      isplitl [Hz]; · iexact Hz
      iempintro)
    (T₁ := fun c => iprop(ended m c ∗ ∃ W, owes (c.tc : Thread nD τ) (0 : CellTallies nD τ sig Unit) W)) (Tn := ended m)
    (hexit := fun c => by
      unfold Dat.owesAt Pipeline.owesWithin
      iintro ⟨-, ⟨%W, -, HO⟩, Hp, -⟩
      isplitl [Hp]; · iapply (collected m c); iexact Hp
      iexists W; iexact HO)
    (hch := fun c => BI.Entails.refl _)
    (QY := Final m) (hfin := read_end m)
    (hQ := fun _ h hs => ⟨h, sem_eq_zero_of_scoped (by decide) hs⟩)

end Cert.Exchange
-- ==== Proof.Value.lean ====
/-
  What the exchange computes: device `c`'s outputs are block `c` of the reference's, at any float values.
-/
module

public import proofs.«01_k».proof.Proof.Run
public import proofs.«01_k».proof.Proof.Gen.ReferenceIdeal.Run
public import Idealize.ShloMosaic.Lib.Layout
public import Idealize.ShloMosaic.Lib.Pipeline.Value

@[expose] public section

noncomputable section

namespace Cert.Exchange

open Idealize.ShloMosaic
open Idealize.ShloMosaic.TcCoe
open Idealize.ShloMosaic.ValueIdx
open Idealize.SL.Sem

variable {F : FTy → Type} [FloatOps F]

/-- The reference's first result: the shards sorted by their owner. -/
def byOwner (a : (⟨3, ![64, 36880, 128]⟩ : Shape).Idx → Elt F .f32) : (⟨3, ![64, 36880, 128]⟩ : Shape).Idx → Elt F .f32 :=
  shapeCast _ (transpose Cert.ReferenceIdeal.S8x8x36880x128 [1, 0, 2, 3]
    (shapeCast _ a Cert.ReferenceIdeal.Gen.shapeCasts_S64x36880x128_S8x8x36880x128)
    Cert.ReferenceIdeal.Gen.transposes_S8x8x36880x128_S8x8x36880x128_1_0_2_3) Cert.ReferenceIdeal.Gen.shapeCasts_S8x8x36880x128_S64x36880x128

/-- Its second: every device's array, once for every device. -/
def everyone (b : (⟨2, ![17664, 128]⟩ : Shape).Idx → Elt F .f32) : (⟨3, ![64, 2208, 128]⟩ : Shape).Idx → Elt F .f32 :=
  shapeCast _ (broadcastInDim Cert.ReferenceIdeal.S8x8x2208x128 ![0, 1, 2, 3] Cert.ReferenceIdeal.Gen.bcast_S1x8x2208x128_S8x8x2208x128_0_1_2_3
    (shapeCast _ b Cert.ReferenceIdeal.Gen.shapeCasts_S17664x128_S1x8x2208x128)) Cert.ReferenceIdeal.Gen.shapeCasts_S8x8x2208x128_S64x2208x128

/-- Shard `d` of device `j`, read in the whole array of shards and in the array sorted by owner. -/
theorem byOwner_at (a : (⟨3, ![64, 36880, 128]⟩ : Shape).Idx → Elt F .f32) (d j : Fin 8) (i k : (⟨3, ![64, 36880, 128]⟩ : Shape).Idx)
    (h0 : (i 0).val = d.val * 8 + j.val) (hk : (k 0).val = j.val * 8 + d.val) (h1 : (k 1).val = (i 1).val) (h2 : (k 2).val = (i 2).val) :
    byOwner a i = a k := by
  have l1 : (i 1).val < 36880 := (i 1).isLt
  have l2 : (i 2).val < 128 := (i 2).isLt
  unfold byOwner
  rw [shapeCast_apply _ _ i (ix4 (n0 := 8) (n1 := 8) (n2 := 36880) (n3 := 128) d j ⟨(i 1).val, l1⟩ ⟨(i 2).val, l2⟩) (by
    rw [Shape.rowMajor_val_four, Shape.rowMajor_val_three, h0]; rfl)]
  rw [transpose_apply _ _ _ _ (ix4 (n0 := 8) (n1 := 8) (n2 := 36880) (n3 := 128) j d ⟨(i 1).val, l1⟩ ⟨(i 2).val, l2⟩) (by
    intro b; match b with | ⟨0, _⟩ => rfl | ⟨1, _⟩ => rfl | ⟨2, _⟩ => rfl | ⟨3, _⟩ => rfl)]
  exact shapeCast_apply _ _ _ k (by rw [Shape.rowMajor_val_four, Shape.rowMajor_val_three, hk, h1, h2]; rfl)

/-- Device `j`'s array, read in the whole array of arrays and in device `d`'s part of the second result. -/
theorem everyone_at (b : (⟨2, ![17664, 128]⟩ : Shape).Idx → Elt F .f32) (d j : Fin 8) (i : (⟨3, ![64, 2208, 128]⟩ : Shape).Idx)
    (k : (⟨2, ![17664, 128]⟩ : Shape).Idx) (h0 : (i 0).val = d.val * 8 + j.val) (hk : (k 0).val = j.val * 2208 + (i 1).val) (h1 : (k 1).val = (i 2).val) :
    everyone b i = b k := by
  have l1 : (i 1).val < 2208 := (i 1).isLt
  have l2 : (i 2).val < 128 := (i 2).isLt
  unfold everyone
  rw [shapeCast_apply _ _ i (ix4 (n0 := 8) (n1 := 8) (n2 := 2208) (n3 := 128) d j ⟨(i 1).val, l1⟩ ⟨(i 2).val, l2⟩) (by
    rw [Shape.rowMajor_val_four, Shape.rowMajor_val_three, h0]; rfl)]
  rw [broadcastInDim_apply _ _ _ _ (ix4 (n0 := 1) (n1 := 8) (n2 := 2208) (n3 := 128) 0 j ⟨(i 1).val, l1⟩ ⟨(i 2).val, l2⟩) (by
    intro b
    match b with
    | ⟨0, _⟩ => exact (if_pos (show (1 : ℕ) = 1 from rfl)).symm
    | ⟨1, _⟩ => exact (if_neg (show ¬ (8 : ℕ) = 1 by decide)).symm
    | ⟨2, _⟩ => exact (if_neg (show ¬ (2208 : ℕ) = 1 by decide)).symm
    | ⟨3, _⟩ => exact (if_neg (show ¬ (128 : ℕ) = 1 by decide)).symm)]
  refine shapeCast_apply _ _ _ k ?_
  rw [Shape.rowMajor_val_four, Shape.rowMajor_val_two, hk, h1]
  show (j.val * 2208 + (i 1).val) * 128 + (i 2).val = ((0 * 8 + j.val) * 2208 + (i 1).val) * 128 + (i 2).val
  omega

open Cert.KernelIdeal in
/-- Device `c`'s first output is block `c` of the shards sorted by owner, where every device holds its block of the shards. -/
theorem shards_block (m : (ℓ : Loc nD τ sig) → Buf (Elt F) ℓ) (a : (⟨3, ![64, 36880, 128]⟩ : Shape).Idx → Elt F .f32)
    (h : ∀ c : Dev nD, m ((c.tc : Thread nD τ).loc main_arg0) = Layout.block ⟨3, ![8, 36880, 128]⟩ ⟨3, ![64, 36880, 128]⟩ 0 8 c a) (c : Dev nD) :
    shards m c = Layout.block ⟨3, ![8, 36880, 128]⟩ ⟨3, ![64, 36880, 128]⟩ 0 8 c (byOwner a) := by
  funext i
  unfold shards
  rw [h]
  rw [Layout.block_apply, Layout.block_apply]
  refine Eq.symm (byOwner_at a c ⟨(i 0).val, (i 0).isLt⟩ _ _ ?_ ?_ ?_ ?_) <;> rw [Layout.Tiles.idx_val] <;> rfl

open Cert.KernelIdeal in
/-- Device `c`'s second output is block `c` of every device's array, where every device holds its block of the arrays. -/
theorem reps_block (m : (ℓ : Loc nD τ sig) → Buf (Elt F) ℓ) (b : (⟨2, ![17664, 128]⟩ : Shape).Idx → Elt F .f32)
    (h : ∀ c : Dev nD, m ((c.tc : Thread nD τ).loc main_arg1) = Layout.block ⟨2, ![2208, 128]⟩ ⟨2, ![17664, 128]⟩ 0 8 c b) (c : Dev nD) :
    reps m c = Layout.block ⟨3, ![8, 2208, 128]⟩ ⟨3, ![64, 2208, 128]⟩ 0 8 c (everyone b) := by
  funext i
  unfold reps
  rw [h]
  rw [Layout.block_apply, Layout.block_apply]
  refine Eq.symm (everyone_at b c ⟨(i 0).val, (i 0).isLt⟩ _ _ ?_ ?_ ?_) <;> rw [Layout.Tiles.idx_val] <;> rfl

end Cert.Exchange
-- ==== Proof.Gathering.lean ====
/-
  The gathering of the weights as a protocol of single transfers. Every device holds two arrays of its own, its part of
  the weights in two precisions, and sends both to every device, itself included. Device `c` writes matrix `c` of every
  device's two outputs, so no two transfers meet. One cell counts each landing and one each departure.
-/
module

public import proofs.«01_k».proof.Proof.Gen.GatherIdeal
public import proofs.«01_k».proof.Proof.Gen.GatherIdeal.Skeleton
public import proofs.«01_k».proof.Proof.Talk
public import proofs.«01_k».proof.Proof.Rows
public import Idealize.ShloMosaic.Lib.Pipeline.Launch
public import Idealize.ShloMosaic.Lib.Tactic

@[expose] public section

noncomputable section

namespace Cert.Gathering

open Cert.GatherIdeal Cert.GatherIdeal.Gen Cert.Rows
open Idealize.ShloMosaic
open Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.Talk (Plan)

variable {F : FTy → Type} [FloatOps F]

abbrev UB := URounds (GSem nD τ sig) Unit
abbrev UU := UR sig nD τ × UB

local notation "𝕄" => MT nD τ sig Unit (Elt F) ℕ UU ℕ

abbrev EP : Emb (UR sig nD τ) 𝕄 := embL
abbrev ER : Emb UB 𝕄 := embR

variable (m : (ℓ : Loc nD τ sig) → Buf (Elt F) ℓ)

/-! ### The views the transfers write -/

/-- One matrix of a stack of weights in half precision. -/
abbrev cutWt (M : Memref sig .tc .hbm S8x9216x512 .bf16) (o : Fin 3 → ℕ) (h : ∀ a, o a + S1x9216x512.size a ≤ S8x9216x512.size a) :
    Memref sig .tc .hbm S9216x512 .bf16 :=
  (M.slice (Rect.unit (s := S8x9216x512) o S1x9216x512.size h) (fun _ => rfl)).squeeze S9216x512 squeezes_S1x9216x512_S9216x512

/-- One matrix of a stack of weights in single precision. -/
abbrev cutSg (M : Memref sig .tc .hbm S8x16x512 .f32) (o : Fin 3 → ℕ) (h : ∀ a, o a + S1x16x512.size a ≤ S8x16x512.size a) :
    Memref sig .tc .hbm S16x512 .f32 :=
  (M.slice (Rect.unit (s := S8x16x512) o S1x16x512.size h) (fun _ => rfl)).squeeze S16x512 squeezes_S1x16x512_S16x512

abbrev wtIn : Memref sig .tc .hbm S9216x512 .bf16 := Memref.whole main_arg0
abbrev wtOut : Memref sig .tc .hbm S8x9216x512 .bf16 := Memref.whole main_v1_0
abbrev sgIn : Memref sig .tc .hbm S16x512 .f32 := Memref.whole main_arg1
abbrev sgOut : Memref sig .tc .hbm S8x16x512 .f32 := Memref.whole main_v1_1

/-- An embedding whose value at `(x, y)` is `(j, x, y)` covers matrix `j`. -/
theorem map_eq_row {A B : ℕ} (j : Fin 8) (f : (⟨2, ![A, B]⟩ : Shape).Idx ↪ (Stack A B).Idx) (hf : ∀ x, f x = ix3 j (x 0) (x 1)) :
    Finset.univ.map f = row A B j := by
  ext i
  rw [Finset.mem_map, mem_row]
  constructor
  · rintro ⟨x, -, rfl⟩; rw [hf]; rfl
  · intro h
    refine ⟨ix2 (i 1) (i 2), Finset.mem_univ _, ?_⟩
    rw [hf]
    refine Eq.trans ?_ (eq_ix3 i).symm
    exact congrArg (fun t => ix3 t (i 1) (i 2)) (Fin.ext h.symm)

theorem emb_wtOut (j : Fin 8) {o : Fin 3 → ℕ} (ho : o = ![j.val, 0, 0]) (h) (x : S9216x512.Idx) :
    (cutWt wtOut o h).view.emb x = ix3 j (x 0) (x 1) := row_emb j ho h _ x
theorem emb_sgOut (j : Fin 8) {o : Fin 3 → ℕ} (ho : o = ![j.val, 0, 0]) (h) (x : S16x512.Idx) :
    (cutSg sgOut o h).view.emb x = ix3 j (x 0) (x 1) := row_emb j ho h _ x

theorem set_wtOut (j : Fin 8) {o : Fin 3 → ℕ} (ho : o = ![j.val, 0, 0]) (h) : (cutWt wtOut o h).view.set = row 9216 512 j :=
  map_eq_row j _ (emb_wtOut j ho h)
theorem set_sgOut (j : Fin 8) {o : Fin 3 → ℕ} (ho : o = ![j.val, 0, 0]) (h) : (cutSg sgOut o h).view.set = row 16 512 j :=
  map_eq_row j _ (emb_sgOut j ho h)

/-! ### What the outputs hold -/

/-- Device `d`'s first output: matrix `j` is device `j`'s array. -/
def wts (d : Dev nD) : Buf (Elt F) ((d.tc : Thread nD τ).loc main_v1_0) :=
  fun i : (Stack 9216 512).Idx => (m ((Dev.tc (⟨(i 0).val, (i 0).isLt⟩ : Dev nD) : Thread nD τ).loc main_arg0) : S9216x512.Idx → Elt F .bf16) (ix2 (i 1) (i 2))

/-- Device `d`'s second output: matrix `j` is device `j`'s array. -/
def sgs (d : Dev nD) : Buf (Elt F) ((d.tc : Thread nD τ).loc main_v1_1) :=
  fun i : (Stack 16 512).Idx => (m ((Dev.tc (⟨(i 0).val, (i 0).isLt⟩ : Dev nD) : Thread nD τ).loc main_arg1) : S16x512.Idx → Elt F .f32) (ix2 (i 1) (i 2))

/-- What a transfer of device `c`'s first array leaves in matrix `c` of an output. -/
theorem write_wts (c d : Fin 8) {o : Fin 3 → ℕ} (ho : o = ![c.val, 0, 0]) (h)
    (fd : Buf (Elt F) ((Dev.tc (nD := nD) d : Thread nD τ).loc main_v1_0)) (i : (Stack 9216 512).Idx) (hi : i ∈ row 9216 512 c) :
    (cutWt wtOut o h).view.write (Elt F) fd (wtIn.view.read (Elt F) (m ((Dev.tc (nD := nD) c : Thread nD τ).loc main_arg0))) Finset.univ i
      = wts m d i := by
  have e : (cutWt wtOut o h).view.emb (ix2 (i 1) (i 2)) = i := by
    rw [emb_wtOut c ho]
    refine Eq.trans ?_ (eq_ix3 i).symm
    exact congrArg (fun t => ix3 t (i 1) (i 2)) (Fin.ext (mem_row.mp hi).symm)
  have hc : (⟨(i 0).val, (i 0).isLt⟩ : Dev nD) = c := Fin.ext (mem_row.mp hi)
  have := View.write_emb (v := (cutWt wtOut o h).view) (Val := Elt F) fd
    (wtIn.view.read (Elt F) (m ((Dev.tc (nD := nD) c : Thread nD τ).loc main_arg0))) Finset.univ (ix2 (i 1) (i 2))
  rw [e, if_pos (Finset.mem_univ _), View.read_apply] at this
  refine this.trans ?_
  unfold wts
  rw [hc]
  rfl

/-- What a transfer of device `c`'s second array leaves in matrix `c` of an output. -/
theorem write_sgs (c d : Fin 8) {o : Fin 3 → ℕ} (ho : o = ![c.val, 0, 0]) (h)
    (fd : Buf (Elt F) ((Dev.tc (nD := nD) d : Thread nD τ).loc main_v1_1)) (i : (Stack 16 512).Idx) (hi : i ∈ row 16 512 c) :
    (cutSg sgOut o h).view.write (Elt F) fd (sgIn.view.read (Elt F) (m ((Dev.tc (nD := nD) c : Thread nD τ).loc main_arg1))) Finset.univ i
      = sgs m d i := by
  have e : (cutSg sgOut o h).view.emb (ix2 (i 1) (i 2)) = i := by
    rw [emb_sgOut c ho]
    refine Eq.trans ?_ (eq_ix3 i).symm
    exact congrArg (fun t => ix3 t (i 1) (i 2)) (Fin.ext (mem_row.mp hi).symm)
  have hc : (⟨(i 0).val, (i 0).isLt⟩ : Dev nD) = c := Fin.ext (mem_row.mp hi)
  have := View.write_emb (v := (cutSg sgOut o h).view) (Val := Elt F) fd
    (sgIn.view.read (Elt F) (m ((Dev.tc (nD := nD) c : Thread nD τ).loc main_arg1))) Finset.univ (ix2 (i 1) (i 2))
  rw [e, if_pos (Finset.mem_univ _), View.read_apply] at this
  refine this.trans ?_
  unfold sgs
  rw [hc]
  rfl

/-! ### The shares in which an array sent eight times is held -/

/-- Eight shares of a whole: three halvings. -/
def eighth (k : Fin 8) : PosShare TreeShare :=
  let h (b : Bool) (p : PosShare TreeShare) : PosShare TreeShare := if b then p.right else p.left
  h (k.val.testBit 0) (h (k.val.testBit 1) (h (k.val.testBit 2) fullShare))

theorem assoc_eq (A B C : sProp 𝕄) : iprop((A ∗ B) ∗ C) = iprop(A ∗ B ∗ C) := BI.Entails.antisymm BI.sep_assoc BI.sep_assoc'

theorem halves {ℓ : Loc nD τ sig} (I : Finset (Idx ℓ)) (p : PosShare TreeShare) (f : Buf (Elt F) ℓ) :
    (ℓ ↦[I]{p} f : sProp 𝕄) = iprop((ℓ ↦[I]{p.left} f) ∗ (ℓ ↦[I]{p.right} f)) :=
  BI.Entails.antisymm (pointsTo_share (PosShare.mem_left_op_right p)).1 (pointsTo_share (PosShare.mem_left_op_right p)).2

/-- A buffer held whole is held in eight shares. -/
theorem in_eighths {ℓ : Loc nD τ sig} (I : Finset (Idx ℓ)) (f : Buf (Elt F) ℓ) :
    (ℓ ↦[I]{fullShare} f : sProp 𝕄) = bigSep Finset.univ fun k : Fin 8 => (ℓ ↦[I]{eighth k} f : sProp 𝕄) := by
  have e : (bigSep Finset.univ fun k : Fin 8 => (ℓ ↦[I]{eighth k} f : sProp 𝕄)) = _ :=
    bigSep_univ_eq_bigSepL [0, 1, 2, 3, 4, 5, 6, 7] (by decide) (by decide) _
  rw [e]
  rw [halves I fullShare, halves I fullShare.left, halves I fullShare.right, halves I fullShare.left.left, halves I fullShare.left.right,
    halves I fullShare.right.left, halves I fullShare.right.right]
  simp only [assoc_eq]
  rfl

/-! ### The protocol -/

/-- The cells of a device: for the first arrays (left) and for the second (right), one for the landing of each device's
    transfer, numbered from the device itself on, and one for the departure to each of its seven peers. -/
abbrev K := (Fin 8 ⊕ Fin 7) ⊕ (Fin 8 ⊕ Fin 7)

/-- The semaphore that counts a cell. -/
def semNo : K → Fin 30
  | .inl (.inl k) => if k = 0 then 28 else ⟨13 + k.val, by omega⟩
  | .inl (.inr k) => ⟨k.val, by omega⟩
  | .inr (.inl k) => if k = 0 then 29 else ⟨20 + k.val, by omega⟩
  | .inr (.inr k) => ⟨7 + k.val, by omega⟩

theorem semNo_inj : Function.Injective semNo := by decide +kernel

/-- The start step of a cell's transfer. -/
def startNo : K → ℕ
  | .inl (.inl k) => k.val
  | .inl (.inr k) => k.val + 1
  | .inr (.inl k) => k.val + 8
  | .inr (.inr k) => k.val + 9

/-- The wait step of a cell. -/
def waitNo : K → ℕ
  | .inl (.inl k) => 2 * k.val
  | .inl (.inr k) => 2 * k.val + 1
  | .inr (.inl k) => 2 * k.val + 15
  | .inr (.inr k) => 2 * k.val + 16

/-- Whether a cell counts a peer's landing. -/
def isRecv : K → Bool
  | .inl (.inl k) | .inr (.inl k) => k ≠ 0
  | .inl (.inr _) | .inr (.inr _) => false

/-- The device whose cell a device's transfer credits. -/
def tgt : K → Dev nD ≃ Dev nD
  | .inl (.inl k) | .inr (.inl k) => peer k
  | .inl (.inr _) | .inr (.inr _) => Equiv.refl _

/-- The credit of one array of either kind. -/
def creditWt : ℕ := (cutWt wtOut (k0_off1 0) (k0_off1_inb 0)).view.dmaCredit
def creditSg : ℕ := (cutSg sgOut (k0_off2 0) (k0_off2_inb 0)).view.dmaCredit

/-- Device `c`'s array, in the share its `k`-th transfer reads it at. -/
def srcWt (c : Dev nD) (k : Fin 8) : sProp 𝕄 :=
  ((c.tc : Thread nD τ).loc main_arg0 ↦{eighth k} m ((c.tc : Thread nD τ).loc main_arg0))
/-- Device `c`'s array, in the share its `k`-th transfer reads it at. -/
def srcSg (c : Dev nD) (k : Fin 8) : sProp 𝕄 :=
  ((c.tc : Thread nD τ).loc main_arg1 ↦{eighth k} m ((c.tc : Thread nD τ).loc main_arg1))
/-- Matrix `j` of device `d`'s outputs, at any contents. -/
def roomWt (d : Dev nD) (j : Fin 8) : sProp 𝕄 := iprop(∃ f, (d.tc : Thread nD τ).loc main_v1_0 ↦[row 9216 512 j]{fullShare} f)
def roomSg (d : Dev nD) (j : Fin 8) : sProp 𝕄 := iprop(∃ f, (d.tc : Thread nD τ).loc main_v1_1 ↦[row 16 512 j]{fullShare} f)
/-- Matrix `j` of device `d`'s outputs, at what device `j` sent. -/
def doneWt (d : Dev nD) (j : Fin 8) : sProp 𝕄 := ((d.tc : Thread nD τ).loc main_v1_0 ↦[row 9216 512 j]{fullShare} wts m d)
def doneSg (d : Dev nD) (j : Fin 8) : sProp 𝕄 := ((d.tc : Thread nD τ).loc main_v1_1 ↦[row 16 512 j]{fullShare} sgs m d)

/-- The assertion `S` for the device's own transfer, nothing for its peers'. -/
def own0 (k : Fin 8) (S : sProp 𝕄) : sProp 𝕄 := if k = 0 then S else iprop(emp)

/-- What device `c` gives up to credit a cell. -/
def need (c : Dev nD) : K → sProp 𝕄
  | .inl (.inl k) => iprop(roomWt (peer k c) c ∗ own0 k (srcWt m c 0))
  | .inl (.inr k) => srcWt m c k.succ
  | .inr (.inl k) => iprop(roomSg (peer k c) c ∗ own0 k (srcSg m c 0))
  | .inr (.inr k) => srcSg m c k.succ

/-- What device `c` gets from a cell of its own. -/
def pay (c : Dev nD) : K → sProp 𝕄
  | .inl (.inl k) => iprop(doneWt m c (peer k c) ∗ own0 k (srcWt m c 0))
  | .inl (.inr k) => srcWt m c k.succ
  | .inr (.inl k) => iprop(doneSg m c (peer k c) ∗ own0 k (srcSg m c 0))
  | .inr (.inr k) => srcSg m c k.succ

instance own0_storable (k : Fin 8) (S : sProp 𝕄) [Storable (upEmb : UEmb _ 𝕄) S] : Storable (upEmb : UEmb _ 𝕄) (own0 k S) := by
  unfold own0; split <;> infer_instance
instance srcWt_storable (c : Dev nD) (k : Fin 8) : Storable (upEmb : UEmb _ 𝕄) (srcWt m c k) := by unfold srcWt; infer_instance
instance srcSg_storable (c : Dev nD) (k : Fin 8) : Storable (upEmb : UEmb _ 𝕄) (srcSg m c k) := by unfold srcSg; infer_instance
instance doneWt_storable (c : Dev nD) (k : Fin 8) : Storable (upEmb : UEmb _ 𝕄) (doneWt m c k) := by unfold doneWt; infer_instance
instance doneSg_storable (c : Dev nD) (k : Fin 8) : Storable (upEmb : UEmb _ 𝕄) (doneSg m c k) := by unfold doneSg; infer_instance

/-- The gathering's transfers. -/
def plan : Plan nD τ sig (Elt F) UU K where
  osem q := .dma (semNo q)
  osem_inj a b h := semNo_inj (SemLoc.dma.inj h)
  amt q := match q with
    | .inl _ => creditWt
    | .inr _ => creditSg
  amt_pos q := by
    rcases q with q | q
    · exact View.dmaCredit_pos _ (by decide)
    · exact View.dmaCredit_pos _ (by decide)
  tgt := tgt
  recv := isRecv
  tgt_local q h c := by
    rcases q with (k | k) | (k | k)
    · have : k = 0 := by simpa [isRecv] using h
      subst this; exact peer_zero c
    · rfl
    · have : k = 0 := by simpa [isRecv] using h
      subst this; exact peer_zero c
    · rfl
  need := need m
  pay := pay m
  storable c q := by
    rcases q with (k | k) | (k | k) <;> unfold pay <;> infer_instance
  ord := startNo
  word := waitNo

end Cert.Gathering
-- ==== Proof.GatheringBody.lean ====
/-
  The gathering's kernel on one device: sixteen start steps, then thirty waits, carried through the protocol's two phases.
-/
module

public import proofs.«01_k».proof.Proof.Gathering

@[expose] public section

noncomputable section

namespace Cert.Gathering

open Cert.GatherIdeal Cert.GatherIdeal.Gen Cert.Rows
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Talk (Plan)

variable {F : FTy → Type} [FloatOps F]

local notation "𝕄" => MT nD τ sig Unit (Elt F) ℕ UU ℕ

abbrev 𝒱₀ : Variants := Variants.none

variable (m : (ℓ : Loc nD τ sig) → Buf (Elt F) ℓ)

/-! ### One step of each kind -/

theorem own0_none {k : Fin 8} (hk : k ≠ 0) (A S : sProp 𝕄) : iprop(A ∗ own0 k S) = A := by
  unfold own0
  rw [if_neg hk]
  exact equiv_iff.mp BI.sep_emp

theorem routed (c d : Dev nD) : τ.routes (c.tc : Thread nD τ) (Dev.tc d : Thread nD τ) = true := by revert c d; decide

theorem wt_start (p : Fin 7) : ∀ q, startNo q = p.val + 1 → q = .inl (.inr p) ∨ q = .inl (.inl p.succ) := by revert p; decide +kernel
theorem sg_start (p : Fin 7) : ∀ q, startNo q = p.val + 9 → q = .inr (.inr p) ∨ q = .inr (.inl p.succ) := by revert p; decide +kernel
theorem succ_ne (p : Fin 7) : decide (p.succ ≠ 0) = true := by revert p; decide

/-- Device `c` before start step `n`. -/
abbrev startAt (c : Dev nD) (n : ℕ) : sProp 𝕄 := (plan m).starting ER n c
/-- Device `c` before wait step `n`. -/
abbrev waitAt (c : Dev nD) (n : ℕ) : sProp 𝕄 := (plan m).waiting ER n c
/-- The kernel's run from `e` on, on device `c`, to `Ψ`. -/
abbrev rest (c : Dev nD) {α : Type} (e : Prog (TpuEff nD τ sig (Elt F) Λ₀ .tc) α) (Ψ : α → sProp 𝕄) : sProp 𝕄 :=
  wp frame (wpE defs₀ 𝒱₀ (c.tc : Thread nD τ) none) Set.univ e Ψ

section
variable (κ : Dev nD × K → ℕ) {n : ℕ} (c : Dev nD)

/-- The device's own first array is copied. -/
theorem copy_wt {o : Fin 3 → ℕ} (ho : o = ![c.val, 0, 0]) {h} {hsrc hdst hsem}
    {α : Type} {Ψ : α → sProp 𝕄} {k : PUnit → Prog (TpuEff nD τ sig (Elt F) Λ₀ .tc) α} :
    iprop((plan m).recs ER κ ∗ startAt m c 0)
      ⊢ iprop((startAt m c 1 -∗ rest c (k ⟨⟩) Ψ)
        -∗ rest c (.op (.enqueueDma wtIn (.here (cutWt wtOut o h)) (.dma 28) hsrc hdst hsem) k) Ψ) := by
  refine (plan m).start_local ER defs₀ 𝒱₀ κ c (.inl (.inl 0)) rfl (show ∀ q, startNo q = 0 → q = _ by decide +kernel) rfl rfl rfl (q := eighth 0)
    (fs := m ((c.tc : Thread nD τ).loc main_arg0)) ?_ ?_
  · have e2 : (cutWt wtOut o h).view.set = row 9216 512 c := set_wtOut c ho h
    rw [e2, View.set_whole]
    show iprop(roomWt (peer 0 c) c ∗ own0 0 (srcWt m c 0)) ⊢ _
    rw [peer_zero]
    unfold roomWt own0 srcWt
    rw [if_pos rfl]
    iintro ⟨Hr, Hs⟩
    isplitl [Hs] <;> iassumption
  · intro fd
    have e2 : (cutWt wtOut o h).view.set = row 9216 512 c := set_wtOut c ho h
    rw [e2, View.set_whole]
    show _ ⊢ iprop(doneWt m c (peer 0 c) ∗ own0 0 (srcWt m c 0))
    rw [peer_zero]
    unfold doneWt own0 srcWt
    rw [if_pos rfl, pointsTo_congr (write_wts m c c ho h fd)]

/-- The device's own second array is copied. -/
theorem copy_sg {o : Fin 3 → ℕ} (ho : o = ![c.val, 0, 0]) {h} {hsrc hdst hsem}
    {α : Type} {Ψ : α → sProp 𝕄} {k : PUnit → Prog (TpuEff nD τ sig (Elt F) Λ₀ .tc) α} :
    iprop((plan m).recs ER κ ∗ startAt m c 8)
      ⊢ iprop((startAt m c 9 -∗ rest c (k ⟨⟩) Ψ)
        -∗ rest c (.op (.enqueueDma sgIn (.here (cutSg sgOut o h)) (.dma 29) hsrc hdst hsem) k) Ψ) := by
  refine (plan m).start_local ER defs₀ 𝒱₀ κ c (.inr (.inl 0)) rfl (show ∀ q, startNo q = 8 → q = _ by decide +kernel) rfl rfl rfl (q := eighth 0)
    (fs := m ((c.tc : Thread nD τ).loc main_arg1)) ?_ ?_
  · have e2 : (cutSg sgOut o h).view.set = row 16 512 c := set_sgOut c ho h
    rw [e2, View.set_whole]
    show iprop(roomSg (peer 0 c) c ∗ own0 0 (srcSg m c 0)) ⊢ _
    rw [peer_zero]
    unfold roomSg own0 srcSg
    rw [if_pos rfl]
    iintro ⟨Hr, Hs⟩
    isplitl [Hs] <;> iassumption
  · intro fd
    have e2 : (cutSg sgOut o h).view.set = row 16 512 c := set_sgOut c ho h
    rw [e2, View.set_whole]
    show _ ⊢ iprop(doneSg m c (peer 0 c) ∗ own0 0 (srcSg m c 0))
    rw [peer_zero]
    unfold doneSg own0 srcSg
    rw [if_pos rfl, pointsTo_congr (write_sgs m c c ho h fd)]

/-- The first array is sent to a peer. -/
theorem send_wt (p : Fin 7) (hn : n = p.val + 1) {d : Dev nD} (hd : d = peer p.succ c) {o : Fin 3 → ℕ}
    (ho : o = ![c.val, 0, 0]) {h} {sS sR : SemLoc sig} (hS : sS = .dma (semNo (.inl (.inr p)))) (hR : sR = .dma (semNo (.inl (.inl p.succ))))
    {hsc hsrc hdst hsem}
    {α : Type} {Ψ : α → sProp 𝕄} {k : PUnit → Prog (TpuEff nD τ sig (Elt F) Λ₀ .tc) α} :
    iprop((plan m).recs ER κ ∗ startAt m c n)
      ⊢ iprop((startAt m c (n + 1) -∗ rest c (k ⟨⟩) Ψ)
        -∗ rest c (.op (.enqueueDma wtIn (.remote (Dev.tc d : Thread nD τ) (cutWt wtOut o h) sS hsc) sR hsrc hdst hsem) k) Ψ) := by
  have hord : ∀ q, startNo q = n → q = .inl (.inr p) ∨ q = .inl (.inl p.succ) := by subst hn; exact wt_start p
  have e2 : (cutWt wtOut o h).view.set = row 9216 512 c := set_wtOut c ho h
  subst hd
  refine (plan m).start_remote ER defs₀ 𝒱₀ κ c _ (.inl (.inr p)) (.inl (.inl p.succ)) rfl hn.symm hn.symm (by simp) hord rfl
    (succ_ne p) rfl hS hR (by subst hR; rfl) (q := eighth p.succ) (fs := m ((c.tc : Thread nD τ).loc main_arg0)) ?_ ?_ ?_ ?_ ?_
  · rw [View.set_whole]
    exact Entails.of_eq rfl
  · rw [e2]
    show iprop(roomWt (peer p.succ c) c ∗ own0 p.succ (srcWt m c 0)) ⊢ _
    rw [own0_none (Fin.succ_ne_zero p)]
    exact Entails.of_eq rfl
  · rw [View.set_whole]
    exact Entails.of_eq rfl
  · intro fd
    rw [e2]
    show _ ⊢ iprop(doneWt m (peer p.succ c) (peer p.succ (peer p.succ c)) ∗ own0 p.succ (srcWt m (peer p.succ c) 0))
    rw [peer_peer]
    rw [own0_none (Fin.succ_ne_zero p)]
    exact Entails.of_eq (pointsTo_congr (write_wts m c (peer p.succ c) ho h fd))
  · exact routed _ _

/-- The second array is sent to a peer. -/
theorem send_sg (p : Fin 7) (hn : n = p.val + 9) {d : Dev nD} (hd : d = peer p.succ c) {o : Fin 3 → ℕ}
    (ho : o = ![c.val, 0, 0]) {h} {sS sR : SemLoc sig} (hS : sS = .dma (semNo (.inr (.inr p)))) (hR : sR = .dma (semNo (.inr (.inl p.succ))))
    {hsc hsrc hdst hsem}
    {α : Type} {Ψ : α → sProp 𝕄} {k : PUnit → Prog (TpuEff nD τ sig (Elt F) Λ₀ .tc) α} :
    iprop((plan m).recs ER κ ∗ startAt m c n)
      ⊢ iprop((startAt m c (n + 1) -∗ rest c (k ⟨⟩) Ψ)
        -∗ rest c (.op (.enqueueDma sgIn (.remote (Dev.tc d : Thread nD τ) (cutSg sgOut o h) sS hsc) sR hsrc hdst hsem) k) Ψ) := by
  have hord : ∀ q, startNo q = n → q = .inr (.inr p) ∨ q = .inr (.inl p.succ) := by subst hn; exact sg_start p
  have e2 : (cutSg sgOut o h).view.set = row 16 512 c := set_sgOut c ho h
  subst hd
  refine (plan m).start_remote ER defs₀ 𝒱₀ κ c _ (.inr (.inr p)) (.inr (.inl p.succ)) rfl hn.symm hn.symm (by simp) hord rfl
    (succ_ne p) rfl hS hR (by subst hR; rfl) (q := eighth p.succ) (fs := m ((c.tc : Thread nD τ).loc main_arg1)) ?_ ?_ ?_ ?_ ?_
  · rw [View.set_whole]
    exact Entails.of_eq rfl
  · rw [e2]
    show iprop(roomSg (peer p.succ c) c ∗ own0 p.succ (srcSg m c 0)) ⊢ _
    rw [own0_none (Fin.succ_ne_zero p)]
    exact Entails.of_eq rfl
  · rw [View.set_whole]
    exact Entails.of_eq rfl
  · intro fd
    rw [e2]
    show _ ⊢ iprop(doneSg m (peer p.succ c) (peer p.succ (peer p.succ c)) ∗ own0 p.succ (srcSg m (peer p.succ c) 0))
    rw [peer_peer]
    rw [own0_none (Fin.succ_ne_zero p)]
    exact Entails.of_eq (pointsTo_congr (write_sgs m c (peer p.succ c) ho h fd))
  · exact routed _ _

/-- A cell is waited for. -/
theorem wait_one (q : K) (hn : waitNo q = n) {sp sp' : Space} {sh sh' : Shape} {e e' : EltTy} {src : Memref sig .tc sp sh e}
    {dst : Memref sig .tc sp' sh' e'} {sem : DmaSem sig} (hs : sem = semNo q) (hN : dst.view.dmaCredit = (plan m).amt q) {hsrc hdst}
    {α : Type} {Ψ : α → sProp 𝕄} {k : PUnit → Prog (TpuEff nD τ sig (Elt F) Λ₀ .tc) α} :
    iprop((plan m).recs ER κ ∗ waitAt m c n)
      ⊢ iprop((waitAt m c (n + 1) -∗ rest c (k ⟨⟩) Ψ)
        -∗ rest c (.op (.waitDma2 sem src dst hsrc hdst) k) Ψ) := by
  have hon : ∀ q', waitNo q' = n → q' = q := by subst hn; clear hN hs; revert q; decide +kernel
  exact (plan m).wait_step ER defs₀ 𝒱₀ κ c q hn hon (congrArg SemLoc.dma hs) hN

end

/-! ### The kernel -/

theorem at_off1 (c : Dev nD) : k0_off1 c = ![c.val, 0, 0] := by revert c; decide +kernel
theorem at_off2 (c : Dev nD) : k0_off2 c = ![c.val, 0, 0] := by revert c; decide +kernel
theorem to_dev1 (c : Dev nD) : (⟨k0_dev1 c, k0_dev1_lt c⟩ : Dev nD) = peer 1 c := by revert c; decide +kernel
theorem to_dev2 (c : Dev nD) : (⟨k0_dev2 c, k0_dev2_lt c⟩ : Dev nD) = peer 2 c := by revert c; decide +kernel
theorem to_dev3 (c : Dev nD) : (⟨k0_dev3 c, k0_dev3_lt c⟩ : Dev nD) = peer 3 c := by revert c; decide +kernel
theorem to_dev4 (c : Dev nD) : (⟨k0_dev4 c, k0_dev4_lt c⟩ : Dev nD) = peer 4 c := by revert c; decide +kernel
theorem to_dev5 (c : Dev nD) : (⟨k0_dev5 c, k0_dev5_lt c⟩ : Dev nD) = peer 5 c := by revert c; decide +kernel
theorem to_dev6 (c : Dev nD) : (⟨k0_dev6 c, k0_dev6_lt c⟩ : Dev nD) = peer 6 c := by revert c; decide +kernel
theorem to_dev7 (c : Dev nD) : (⟨k0_dev7 c, k0_dev7_lt c⟩ : Dev nD) = peer 7 c := by revert c; decide +kernel
theorem to_dev8 (c : Dev nD) : (⟨k0_dev8 c, k0_dev8_lt c⟩ : Dev nD) = peer 1 c := by revert c; decide +kernel
theorem to_dev9 (c : Dev nD) : (⟨k0_dev9 c, k0_dev9_lt c⟩ : Dev nD) = peer 2 c := by revert c; decide +kernel
theorem to_dev10 (c : Dev nD) : (⟨k0_dev10 c, k0_dev10_lt c⟩ : Dev nD) = peer 3 c := by revert c; decide +kernel
theorem to_dev11 (c : Dev nD) : (⟨k0_dev11 c, k0_dev11_lt c⟩ : Dev nD) = peer 4 c := by revert c; decide +kernel
theorem to_dev12 (c : Dev nD) : (⟨k0_dev12 c, k0_dev12_lt c⟩ : Dev nD) = peer 5 c := by revert c; decide +kernel
theorem to_dev13 (c : Dev nD) : (⟨k0_dev13 c, k0_dev13_lt c⟩ : Dev nD) = peer 6 c := by revert c; decide +kernel
theorem to_dev14 (c : Dev nD) : (⟨k0_dev14 c, k0_dev14_lt c⟩ : Dev nD) = peer 7 c := by revert c; decide +kernel

set_option maxRecDepth 20000 in
set_option maxHeartbeats 4000000 in
/-- The kernel on device `c`: from its first state, with the credits of what lands on it and its positions at its cells, to
    its last. -/
theorem run_kernel (κ : Dev nD × K → ℕ) (c : Dev nD) {Ψ : PUnit → sProp 𝕄} :
    iprop((plan m).recs ER κ ∗ startAt m c 0
        ∗ (bigSep Finset.univ fun q : K => if (plan m).recv q then cred (tallyAt ((plan m).cell c q) () ((plan m).amt q)) else iprop(emp))
        ∗ bigSep Finset.univ fun q : K => atPos ER ((plan m).cell c q) 0 ∅ 0)
      ⊢ iprop((waitAt m c 30 -∗ Ψ ⟨⟩)
        -∗ rest c (cc0_gather_weights (F := F) wtIn (Memref.isWhole_whole _) sgIn (Memref.isWhole_whole _) wtOut (Memref.isWhole_whole _)
            sgOut (Memref.isWhole_whole _) cc0_scratch0 cc0_scratch1 cc0_scratch2) Ψ) := by
  simp only [cc0_gather_weights_eq_skeleton]
  unfold cc0_gather_weights_skel
  simp only [k0_part13_eq_skeleton]
  unfold k0_part13_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [Prog.lift, Prog.bind_op, Prog.bind_ret, Prog.pure_eq_ret, Prog.bind_assoc, wp_deviceId]
  iintro ⟨#HR, HS, HC, HA⟩ Hk
  iapply (copy_wt m κ c (at_off1 c)) $$ [HS]
  · isplitr; · iexact HR
    iexact HS
  iintro HS
  iapply (send_wt m κ c 0 rfl (to_dev1 c) (at_off1 c) rfl rfl) $$ [HS]
  · isplitr; · iexact HR
    iexact HS
  iintro HS
  iapply (send_wt m κ c 1 rfl (to_dev2 c) (at_off1 c) rfl rfl) $$ [HS]
  · isplitr; · iexact HR
    iexact HS
  iintro HS
  iapply (send_wt m κ c 2 rfl (to_dev3 c) (at_off1 c) rfl rfl) $$ [HS]
  · isplitr; · iexact HR
    iexact HS
  iintro HS
  iapply (send_wt m κ c 3 rfl (to_dev4 c) (at_off1 c) rfl rfl) $$ [HS]
  · isplitr; · iexact HR
    iexact HS
  iintro HS
  iapply (send_wt m κ c 4 rfl (to_dev5 c) (at_off1 c) rfl rfl) $$ [HS]
  · isplitr; · iexact HR
    iexact HS
  iintro HS
  iapply (send_wt m κ c 5 rfl (to_dev6 c) (at_off1 c) rfl rfl) $$ [HS]
  · isplitr; · iexact HR
    iexact HS
  iintro HS
  iapply (send_wt m κ c 6 rfl (to_dev7 c) (at_off1 c) rfl rfl) $$ [HS]
  · isplitr; · iexact HR
    iexact HS
  iintro HS
  iapply (copy_sg m κ c (at_off2 c)) $$ [HS]
  · isplitr; · iexact HR
    iexact HS
  iintro HS
  iapply (send_sg m κ c 0 rfl (to_dev8 c) (at_off2 c) rfl rfl) $$ [HS]
  · isplitr; · iexact HR
    iexact HS
  iintro HS
  iapply (send_sg m κ c 1 rfl (to_dev9 c) (at_off2 c) rfl rfl) $$ [HS]
  · isplitr; · iexact HR
    iexact HS
  iintro HS
  iapply (send_sg m κ c 2 rfl (to_dev10 c) (at_off2 c) rfl rfl) $$ [HS]
  · isplitr; · iexact HR
    iexact HS
  iintro HS
  iapply (send_sg m κ c 3 rfl (to_dev11 c) (at_off2 c) rfl rfl) $$ [HS]
  · isplitr; · iexact HR
    iexact HS
  iintro HS
  iapply (send_sg m κ c 4 rfl (to_dev12 c) (at_off2 c) rfl rfl) $$ [HS]
  · isplitr; · iexact HR
    iexact HS
  iintro HS
  iapply (send_sg m κ c 5 rfl (to_dev13 c) (at_off2 c) rfl rfl) $$ [HS]
  · isplitr; · iexact HR
    iexact HS
  iintro HS
  iapply (send_sg m κ c 6 rfl (to_dev14 c) (at_off2 c) rfl rfl) $$ [HS]
  · isplitr; · iexact HR
    iexact HS
  iintro HS
  ihave HS := ((plan m).turn ER (show ∀ q, startNo q < 16 by decide) c) $$ [HS HC HA]
  · isplitl [HS]; · iexact HS
    isplitl [HC] <;> iassumption
  iapply (wait_one m κ c (.inl (.inl 0)) rfl rfl rfl) $$ [HS]
  · isplitr; · iexact HR
    iexact HS
  iintro HS
  iapply (wait_one m κ c (.inl (.inr 0)) rfl rfl rfl) $$ [HS]
  · isplitr; · iexact HR
    iexact HS
  iintro HS
  iapply (wait_one m κ c (.inl (.inl 1)) rfl rfl rfl) $$ [HS]
  · isplitr; · iexact HR
    iexact HS
  iintro HS
  iapply (wait_one m κ c (.inl (.inr 1)) rfl rfl rfl) $$ [HS]
  · isplitr; · iexact HR
    iexact HS
  iintro HS
  iapply (wait_one m κ c (.inl (.inl 2)) rfl rfl rfl) $$ [HS]
  · isplitr; · iexact HR
    iexact HS
  iintro HS
  iapply (wait_one m κ c (.inl (.inr 2)) rfl rfl rfl) $$ [HS]
  · isplitr; · iexact HR
    iexact HS
  iintro HS
  iapply (wait_one m κ c (.inl (.inl 3)) rfl rfl rfl) $$ [HS]
  · isplitr; · iexact HR
    iexact HS
  iintro HS
  iapply (wait_one m κ c (.inl (.inr 3)) rfl rfl rfl) $$ [HS]
  · isplitr; · iexact HR
    iexact HS
  iintro HS
  iapply (wait_one m κ c (.inl (.inl 4)) rfl rfl rfl) $$ [HS]
  · isplitr; · iexact HR
    iexact HS
  iintro HS
  iapply (wait_one m κ c (.inl (.inr 4)) rfl rfl rfl) $$ [HS]
  · isplitr; · iexact HR
    iexact HS
  iintro HS
  iapply (wait_one m κ c (.inl (.inl 5)) rfl rfl rfl) $$ [HS]
  · isplitr; · iexact HR
    iexact HS
  iintro HS
  iapply (wait_one m κ c (.inl (.inr 5)) rfl rfl rfl) $$ [HS]
  · isplitr; · iexact HR
    iexact HS
  iintro HS
  iapply (wait_one m κ c (.inl (.inl 6)) rfl rfl rfl) $$ [HS]
  · isplitr; · iexact HR
    iexact HS
  iintro HS
  iapply (wait_one m κ c (.inl (.inr 6)) rfl rfl rfl) $$ [HS]
  · isplitr; · iexact HR
    iexact HS
  iintro HS
  iapply (wait_one m κ c (.inl (.inl 7)) rfl rfl rfl) $$ [HS]
  · isplitr; · iexact HR
    iexact HS
  iintro HS
  iapply (wait_one m κ c (.inr (.inl 0)) rfl rfl rfl) $$ [HS]
  · isplitr; · iexact HR
    iexact HS
  iintro HS
  iapply (wait_one m κ c (.inr (.inr 0)) rfl rfl rfl) $$ [HS]
  · isplitr; · iexact HR
    iexact HS
  iintro HS
  iapply (wait_one m κ c (.inr (.inl 1)) rfl rfl rfl) $$ [HS]
  · isplitr; · iexact HR
    iexact HS
  iintro HS
  iapply (wait_one m κ c (.inr (.inr 1)) rfl rfl rfl) $$ [HS]
  · isplitr; · iexact HR
    iexact HS
  iintro HS
  iapply (wait_one m κ c (.inr (.inl 2)) rfl rfl rfl) $$ [HS]
  · isplitr; · iexact HR
    iexact HS
  iintro HS
  iapply (wait_one m κ c (.inr (.inr 2)) rfl rfl rfl) $$ [HS]
  · isplitr; · iexact HR
    iexact HS
  iintro HS
  iapply (wait_one m κ c (.inr (.inl 3)) rfl rfl rfl) $$ [HS]
  · isplitr; · iexact HR
    iexact HS
  iintro HS
  iapply (wait_one m κ c (.inr (.inr 3)) rfl rfl rfl) $$ [HS]
  · isplitr; · iexact HR
    iexact HS
  iintro HS
  iapply (wait_one m κ c (.inr (.inl 4)) rfl rfl rfl) $$ [HS]
  · isplitr; · iexact HR
    iexact HS
  iintro HS
  iapply (wait_one m κ c (.inr (.inr 4)) rfl rfl rfl) $$ [HS]
  · isplitr; · iexact HR
    iexact HS
  iintro HS
  iapply (wait_one m κ c (.inr (.inl 5)) rfl rfl rfl) $$ [HS]
  · isplitr; · iexact HR
    iexact HS
  iintro HS
  iapply (wait_one m κ c (.inr (.inr 5)) rfl rfl rfl) $$ [HS]
  · isplitr; · iexact HR
    iexact HS
  iintro HS
  iapply (wait_one m κ c (.inr (.inl 6)) rfl rfl rfl) $$ [HS]
  · isplitr; · iexact HR
    iexact HS
  iintro HS
  iapply (wait_one m κ c (.inr (.inr 6)) rfl rfl rfl) $$ [HS]
  · isplitr; · iexact HR
    iexact HS
  iintro HS
  iapply (wait_one m κ c (.inr (.inl 7)) rfl rfl rfl) $$ [HS]
  · isplitr; · iexact HR
    iexact HS
  iintro HS
  unfold rest
  rw [wp_ret]
  imodintro
  iapply Hk
  iexact HS

end Cert.Gathering
-- ==== Proof.GatheringRun.lean ====
/-
  The gathering run from its launch: what the devices bring is shared out before any of them starts, each device's kernel
  is run, and what it leaves is the arguments as they were and the two outputs at what the devices sent.
-/
module

public import proofs.«01_k».proof.Proof.GatheringBody
public import proofs.«01_k».proof.Proof.FirstRegion
public import proofs.«01_k».proof.Proof.Gen.GatherIdeal.Launch
public import proofs.«01_k».proof.Proof.Gen.GatherIdeal.Points

@[expose] public section

noncomputable section

namespace Cert.Gathering

open Cert.GatherIdeal Cert.GatherIdeal.Gen Cert.Rows
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.Talk (Plan)

variable {F : FTy → Type} [FloatOps F]

local notation "𝕄" => MT nD τ sig Unit (Elt F) ℕ UU ℕ

variable (m : (ℓ : Loc nD τ sig) → Buf (Elt F) ℓ) (ρ : Dev nD → PrngReg)

/-! ### Families over the cells -/

/-- A family over `n + 1` members is its first member and the others. -/
theorem first_and_rest {n : ℕ} (B : Fin (n + 1) → sProp 𝕄) :
    bigSep Finset.univ B = iprop(B 0 ∗ bigSep Finset.univ fun p : Fin n => B p.succ) := by
  rw [Fin.univ_succ, Finset.cons_eq_insert, BI.bigSep_insert (by simp [Fin.succ_ne_zero]), bigSep_map]
  rfl

/-- What is held for member 0 alone is held once. -/
theorem own0_family (S : sProp 𝕄) : (bigSep Finset.univ fun k : Fin 8 => own0 k S) = S := by
  rw [first_and_rest, bigSep_congr (Ψ := fun _ : Fin 7 => (BI.emp : sProp 𝕄)) (fun p _ => ?_), BI.bigSep_emp_const]
  · refine (equiv_iff.mp BI.sep_emp).trans ?_
    unfold own0; exact if_pos rfl
  · unfold own0; exact if_neg (Fin.succ_ne_zero p)

/-- A family over one kind of cell, sorted: what the eight landings take, and the eight sources. -/
theorem sorted (A B : Fin 8 → sProp 𝕄) (f : Fin 8 ⊕ Fin 7 → sProp 𝕄) (hl : ∀ k, f (.inl k) = iprop(A k ∗ own0 k (B 0))) (hr : ∀ p, f (.inr p) = B p.succ) :
    bigSep Finset.univ f = iprop((bigSep Finset.univ A) ∗ bigSep Finset.univ B) := by
  rw [BI.bigSep_univ_sum, bigSep_congr (s := Finset.univ) (Φ := fun k => f (.inl k)) (fun k _ => hl k),
    bigSep_congr (s := Finset.univ) (Φ := fun p => f (.inr p)) (fun p _ => hr p), bigSep_sep', own0_family, first_and_rest B]
  exact assoc_eq _ _ _

/-- Everything device `c` gives up: room in every device's outputs, its two arrays. -/
theorem needs (c : Dev nD) : (bigSep Finset.univ fun q : K => (plan m).need c q)
    = iprop(((bigSep Finset.univ fun k : Fin 8 => roomWt (peer k c) c) ∗ bigSep Finset.univ fun k : Fin 8 => srcWt m c k)
      ∗ (bigSep Finset.univ fun k : Fin 8 => roomSg (peer k c) c) ∗ bigSep Finset.univ fun k : Fin 8 => srcSg m c k) := by
  rw [BI.bigSep_univ_sum, sorted (fun k => roomWt (peer k c) c) (srcWt m c) _ (fun _ => rfl) (fun _ => rfl),
    sorted (fun k => roomSg (peer k c) c) (srcSg m c) _ (fun _ => rfl) (fun _ => rfl)]
  rfl

/-- Everything device `c` gets: its own outputs' matrices, its two arrays. -/
theorem pays (c : Dev nD) : (bigSep Finset.univ fun q : K => (plan m).pay c q)
    = iprop(((bigSep Finset.univ fun k : Fin 8 => doneWt m c (peer k c)) ∗ bigSep Finset.univ fun k : Fin 8 => srcWt m c k)
      ∗ (bigSep Finset.univ fun k : Fin 8 => doneSg m c (peer k c)) ∗ bigSep Finset.univ fun k : Fin 8 => srcSg m c k) := by
  rw [BI.bigSep_univ_sum, sorted (fun k => doneWt m c (peer k c)) (srcWt m c) _ (fun _ => rfl) (fun _ => rfl),
    sorted (fun k => doneSg m c (peer k c)) (srcSg m c) _ (fun _ => rfl) (fun _ => rfl)]
  rfl

/-- Numbering from device `c` on reaches every device once. -/
theorem renumber (c : Fin 8) (Φ : Fin 8 → sProp 𝕄) : (bigSep Finset.univ fun k : Fin 8 => Φ (peer k c)) = bigSep Finset.univ Φ := by
  rw [BI.bigSep_univ_equiv (peer c) Φ]
  exact bigSep_congr fun k _ => by rw [peer_comm]

/-- What every device holds of itself for each sender is what every sender holds of each device. -/
theorem crossed (R : Fin 8 → Fin 8 → sProp 𝕄) :
    (bigSep Finset.univ fun d : Fin 8 => bigSep Finset.univ fun j : Fin 8 => R d j)
      = bigSep Finset.univ fun c : Fin 8 => bigSep Finset.univ fun k : Fin 8 => R (peer k c) c := by
  rw [Pipeline.bigSep_univ_comm]
  exact bigSep_congr fun c _ => (renumber c fun d => R d c).symm

/-! ### Whole buffers in parts -/

theorem wt_in (c : Dev nD) : (((c.tc : Thread nD τ).loc main_arg0) ↦{fullShare} m ((c.tc : Thread nD τ).loc main_arg0) : sProp 𝕄)
    = bigSep Finset.univ fun k : Fin 8 => srcWt m c k := in_eighths _ _
theorem sg_in (c : Dev nD) : (((c.tc : Thread nD τ).loc main_arg1) ↦{fullShare} m ((c.tc : Thread nD τ).loc main_arg1) : sProp 𝕄)
    = bigSep Finset.univ fun k : Fin 8 => srcSg m c k := in_eighths _ _

theorem cut_wt (d : Dev nD) (f : Buf (Elt F) ((d.tc : Thread nD τ).loc main_v1_0)) : (((d.tc : Thread nD τ).loc main_v1_0) ↦{fullShare} f : sProp 𝕄)
    = bigSep Finset.univ fun j : Fin 8 => (((d.tc : Thread nD τ).loc main_v1_0) ↦[row 9216 512 j]{fullShare} f : sProp 𝕄) := by
  rw [← pointsTo_biUnion (ℓ := (d.tc : Thread nD τ).loc main_v1_0) Finset.univ (row 9216 512) (fun _ _ _ _ h => row_disjoint 9216 512 Set.univ trivial trivial h)]
  rw [row_union]
theorem cut_sg (d : Dev nD) (f : Buf (Elt F) ((d.tc : Thread nD τ).loc main_v1_1)) : (((d.tc : Thread nD τ).loc main_v1_1) ↦{fullShare} f : sProp 𝕄)
    = bigSep Finset.univ fun j : Fin 8 => (((d.tc : Thread nD τ).loc main_v1_1) ↦[row 16 512 j]{fullShare} f : sProp 𝕄) := by
  rw [← pointsTo_biUnion (ℓ := (d.tc : Thread nD τ).loc main_v1_1) Finset.univ (row 16 512) (fun _ _ _ _ h => row_disjoint 16 512 Set.univ trivial trivial h)]
  rw [row_union]

/-- A device's two outputs at what the devices sent it. -/
theorem outputs_in (c : Dev nD) :
    iprop((bigSep Finset.univ fun k : Fin 8 => doneWt m c (peer k c)) ∗ bigSep Finset.univ fun k : Fin 8 => doneSg m c (peer k c))
      = iprop((((c.tc : Thread nD τ).loc main_v1_0) ↦{fullShare} wts m c) ∗ (((c.tc : Thread nD τ).loc main_v1_1) ↦{fullShare} sgs m c)) := by
  rw [renumber c (doneWt m c), renumber c (doneSg m c), cut_wt, cut_sg]
  rfl

theorem room_wt (d : Dev nD) (f : Buf (Elt F) ((d.tc : Thread nD τ).loc main_v1_0)) : (((d.tc : Thread nD τ).loc main_v1_0) ↦{fullShare} f : sProp 𝕄)
    ⊢ bigSep Finset.univ fun j : Fin 8 => roomWt d j := by
  rw [cut_wt]
  exact bigSep_mono fun j _ => by
    show ((((d.tc : Thread nD τ).loc main_v1_0) ↦[row 9216 512 j]{fullShare} f : sProp 𝕄)) ⊢ iprop(∃ f, ((d.tc : Thread nD τ).loc main_v1_0) ↦[row 9216 512 j]{fullShare} f)
    iintro H; iexists f; iexact H
theorem room_sg (d : Dev nD) (f : Buf (Elt F) ((d.tc : Thread nD τ).loc main_v1_1)) : (((d.tc : Thread nD τ).loc main_v1_1) ↦{fullShare} f : sProp 𝕄)
    ⊢ bigSep Finset.univ fun j : Fin 8 => roomSg d j := by
  rw [cut_sg]
  exact bigSep_mono fun j _ => by
    show ((((d.tc : Thread nD τ).loc main_v1_1) ↦[row 16 512 j]{fullShare} f : sProp 𝕄)) ⊢ iprop(∃ f, ((d.tc : Thread nD τ).loc main_v1_1) ↦[row 16 512 j]{fullShare} f)
    iintro H; iexists f; iexact H

/-- A device's four arrays at launch, in the parts the transfers read and write. -/
theorem bring (c : Dev nD) : (unscopedBufs c (fun b => m ((c.tc : Thread nD τ).loc b)) : sProp 𝕄)
    ⊢ iprop(((bigSep Finset.univ fun j : Fin 8 => roomWt c j) ∗ bigSep Finset.univ fun k : Fin 8 => srcWt m c k)
      ∗ (bigSep Finset.univ fun j : Fin 8 => roomSg c j) ∗ bigSep Finset.univ fun k : Fin 8 => srcSg m c k) := by
  have e : (unscopedBufs c (fun b => m ((c.tc : Thread nD τ).loc b)) : sProp 𝕄) = _ :=
    bigSep_eq_bigSepL_of_eq [main_arg0, main_arg1, main_v1_0, main_v1_1] (by decide) (by decide) _
  rw [e]
  show iprop((((c.tc : Thread nD τ).loc main_arg0) ↦{fullShare} m ((c.tc : Thread nD τ).loc main_arg0))
    ∗ (((c.tc : Thread nD τ).loc main_arg1) ↦{fullShare} m ((c.tc : Thread nD τ).loc main_arg1))
    ∗ (((c.tc : Thread nD τ).loc main_v1_0) ↦{fullShare} m ((c.tc : Thread nD τ).loc main_v1_0))
    ∗ (((c.tc : Thread nD τ).loc main_v1_1) ↦{fullShare} m ((c.tc : Thread nD τ).loc main_v1_1))) ⊢ _
  rw [wt_in, sg_in]
  iintro ⟨H0, H1, H2, H3⟩
  isplitl [H0 H2]
  · isplitl [H2]; · iapply (room_wt c _) $$ H2
    iexact H0
  · isplitl [H3]; · iapply (room_sg c _) $$ H3
    iexact H1

/-- Every device's arrays together are what every device gives up. -/
theorem shared_out : (bigSep Finset.univ fun c : Dev nD => unscopedBufs c (fun b => m ((c.tc : Thread nD τ).loc b)) : sProp 𝕄)
    ⊢ bigSep Finset.univ fun c : Dev nD => bigSep Finset.univ fun q : K => (plan m).need c q := by
  refine (bigSep_mono fun c _ => bring m c).trans ?_
  rw [bigSep_congr (s := Finset.univ) (Φ := fun c : Dev nD => bigSep Finset.univ fun q : K => (plan m).need c q) fun c _ => needs m c]
  simp only [bigSep_sep']
  rw [crossed roomWt, crossed roomSg]
  exact BI.Entails.refl _

/-! ### The region -/

/-- What device `c`'s kernel starts from, beside what it owes. -/
def start (c : Dev nD) : sProp 𝕄 :=
  iprop(∃ κ, (plan m).recs ER κ ∗ (plan m).dealtTo ER c ∗ (bigSep Finset.univ fun q : K => (plan m).need c q)
    ∗ bigSep Finset.univ fun q : K => if (plan m).recv q then cred (tallyAt ((plan m).cell c q) () ((plan m).amt q)) else iprop(emp))

/-- What it leaves. -/
def left (c : Dev nD) : sProp 𝕄 :=
  iprop((bigSep Finset.univ fun q : K => (plan m).pay c q) ∗ bigSep Finset.univ fun q : K => semVal ((plan m).cell c q) 0)

/-- The region's proof data: no window, one point. -/
def dats (_ : Fin 1) (c : Dev nD) : Dat τ (Elt F) Unit ℕ UU ℕ cfg0 c where
  A w := w.elim0
  after w _ := w.elim0
  Φ t := match t with
    | ⟨0, _⟩ => start m c
    | ⟨_ + 1, _⟩ => left m c
  q _ := fullShare
  owed t := match t with
    | ⟨0, _⟩ => (plan m).debt 0 c
    | ⟨_ + 1, _⟩ => 0

theorem body_run (c : Dev nD) : Pipeline.BodyObligationLoose (dats m 0 c) (defs₀ (F := F)) 𝒱₀ () Set.univ := fun t => by
  rw [fin_N0 t]
  show iprop(start m c ∗ (dats m 0 c).owesAt () t0_0.castSucc ∗ _)
    ⊢ wp frame (wpE (defs₀ (F := F)) 𝒱₀ c none) Set.univ
      (cc0_gather_weights (F := F) wtIn (Memref.isWhole_whole _) sgIn (Memref.isWhole_whole _) wtOut (Memref.isWhole_whole _) sgOut (Memref.isWhole_whole _)
        cc0_scratch0 cc0_scratch1 cc0_scratch2) fun _ => iprop(left m c ∗ (dats m 0 c).owesAt () t0_0.succ ∗ _)
  unfold Dat.owesAt Pipeline.owesWithin start Plan.dealtTo
  iintro ⟨⟨%κ, #HR, ⟨Hp, Ht⟩, Hn, Hc⟩, ⟨%W, -, HO⟩, Hw⟩
  ihave HS := ((plan m).starting_zero ER c W) $$ [Ht Hn HO]
  · isplitl [Ht]; · iexact Ht
    isplitl [Hn]; · iexact Hn
    iexact HO
  iapply (run_kernel m κ c) $$ [HS Hc Hp]
  · isplitr; · iexact HR
    isplitl [HS]; · iexact HS
    isplitl [Hc] <;> iassumption
  iintro HE
  ihave H := ((plan m).waited ER (show ∀ q, waitNo q < 30 by decide +kernel) c) $$ HE
  icases H with ⟨Hpay, Hz, ⟨%W', HO⟩⟩
  isplitl [Hpay Hz]
  · unfold left; isplitl [Hpay] <;> iassumption
  isplitl [HO]
  · iexists W'; isplitr; · ipureintro; exact fun _ _ => Or.inl trivial
    iexact HO
  iexact Hw

/-! ### The run -/

def L (g : GSem nD τ sig) : Finset Unit := if g.1.2 = .tc then {()} else ∅
def lv (_ : GSem nD τ sig) (_ : Unit) : ℕ := 0

theorem L_of_ne (g : GSem nD τ sig) (h : g.1.2 ≠ .tc) : L g = ∅ := if_neg h

theorem waits (c : Dev nD) : (levAts L lv : sProp 𝕄) ⊢ Pipeline.cellsWaits cfgs (dats m) () 0 c :=
  Pipeline.cellsWaits_intro cfgs (dats m) () 0 c fun w _ _ => w.elim0

theorem sem_facts : Pipeline.OwnSemFacts cfg0.spec fun q : K => (SemLoc.dma (semNo q) : SemLoc sig) := by decide +kernel

theorem ownSemFacts : Pipeline.OwnSemFacts cfg0.spec fun q : K => (plan m).osem q := sem_facts

/-- The tables the region reads its block numbers from: it has none. -/
def tables (c : Dev nD) : sProp 𝕄 :=
  Pipeline.prefHeld (pcfgs (F := F) 0).pre c (fun _ => fullShare) (Cfg.toPCfg_adm (Val := Elt F) (cfgs 0)).1
theorem tables_none (c : Dev nD) : (tables c : sProp 𝕄) = BI.emp := by
  unfold tables Pipeline.prefHeld
  exact (congrArg (fun s => bigSep s _) (Finset.univ_eq_empty (α := Fin 0))).trans BI.bigSep_empty

theorem arrays_none (c : Dev nD) (A) : ((dats m 0 c).arrays A : sProp 𝕄) = BI.emp := BI.bigSep_empty

/-- The launch element: nothing of the pipeline's (it has no window), and every cell's round and right. -/
def u₀ : UU := (initOf (Pipeline.cells cfgs cellOf_inj) (Pipeline.launchToks cfgs cellOf_inj), initOf (plan m).cells (plan m).toks)

/-- The protocol's launch element, which the common update takes from device 0. -/
def seed (c : Dev nD) : sProp 𝕄 := own0 c (BI.own (ER (initOf (plan m).cells (plan m).toks)))

/-- The common update: every device's counters open the protocol's cells, and every device gives up what it has to the
    devices whose transfers need it. -/
theorem share_out :
    iprop((bigSep Finset.univ fun c => iprop(FirstRegion.dealt (fun q : K => (plan m).osem q) ((plan m).debt 0) m ρ c ∗ seed m c)) ∗ levAts L lv)
      ⊢ |={Set.univ}=> bigSep Finset.univ fun c => iprop((dats m 0 c).arrays ((dats m 0 c).arrAt · 0)
          ∗ tables c ∗ start m c ∗ iprop(emp)) := by
  have hd : (bigSep Finset.univ fun c => iprop(FirstRegion.dealt (fun q : K => (plan m).osem q) ((plan m).debt 0) m ρ c ∗ seed m c))
      ⊢ (iprop((bigSep Finset.univ fun c : Dev nD => unscopedBufs c (fun b => m ((c.tc : Thread nD τ).loc b)))
        ∗ (bigSep Finset.univ fun c : Dev nD => Pipeline.launchCred ((plan m).debt 0) c)
        ∗ (bigSep Finset.univ fun c : Dev nD => bigSep Finset.univ fun q : K => semVal ((plan m).cell c q) 0)
        ∗ BI.own (ER (initOf (plan m).cells (plan m).toks))) : sProp 𝕄) := by
    unfold FirstRegion.dealt
    simp only [bigSep_sep']
    have hs : (bigSep Finset.univ fun c : Dev nD => seed m c) ⊢ (BI.own (ER (initOf (plan m).cells (plan m).toks)) : sProp 𝕄) :=
      Entails.of_eq (own0_family _)
    iintro ⟨⟨Hb, -, Hc, -, Hz⟩, Hs⟩
    isplitl [Hb]; · iexact Hb
    isplitl [Hc]; · iexact Hc
    isplitl [Hz]; · iexact Hz
    iapply hs; iexact Hs
  iintro ⟨H, -⟩
  ihave H' := hd $$ H
  icases H' with ⟨Hb, Hc, Hz, Hs⟩
  imod ((plan m).launch ER) $$ [Hz Hs] with ⟨%κ, #HR, Hto⟩
  · isplitl [Hz] <;> iassumption
  ihave Hn := (shared_out m) $$ Hb
  imodintro
  have hc : (bigSep Finset.univ fun c : Dev nD => Pipeline.launchCred ((plan m).debt 0) c)
      ⊢ (bigSep Finset.univ fun c : Dev nD => bigSep Finset.univ fun q : K => if (plan m).recv q then cred (tallyAt ((plan m).cell c q) () ((plan m).amt q)) else iprop(emp) : sProp 𝕄) :=
    bigSep_mono fun c _ => (plan m).launch_creds c
  ihave Hc' := hc $$ Hc
  have hone (c : Dev nD) : iprop((plan m).recs ER κ ∗ (plan m).dealtTo ER c ∗ (bigSep Finset.univ fun q : K => (plan m).need c q)
        ∗ bigSep Finset.univ fun q : K => if (plan m).recv q then cred (tallyAt ((plan m).cell c q) () ((plan m).amt q)) else iprop(emp))
      ⊢ iprop((dats m 0 c).arrays ((dats m 0 c).arrAt · 0)
          ∗ tables c ∗ start m c ∗ iprop(emp)) := by
    rw [arrays_none, tables_none]
    unfold start
    iintro ⟨#HR, Ht, Hn, Hc⟩
    isplitr; · iempintro
    isplitr; · iempintro
    isplitl
    · iexists κ
      isplitr; · iexact HR
      isplitl [Ht]; · iexact Ht
      isplitl [Hn] <;> iassumption
    · iempintro
  have hall : iprop((bigSep Finset.univ fun _ : Dev nD => (plan m).recs ER κ) ∗ (bigSep Finset.univ fun c : Dev nD => (plan m).dealtTo ER c)
        ∗ (bigSep Finset.univ fun c : Dev nD => bigSep Finset.univ fun q : K => (plan m).need c q)
        ∗ bigSep Finset.univ fun c : Dev nD => bigSep Finset.univ fun q : K => if (plan m).recv q then cred (tallyAt ((plan m).cell c q) () ((plan m).amt q)) else iprop(emp))
      ⊢ bigSep Finset.univ fun c => iprop((dats m 0 c).arrays ((dats m 0 c).arrAt · 0)
          ∗ tables c ∗ start m c ∗ iprop(emp)) := by
    rw [← bigSep_sep', ← bigSep_sep', ← bigSep_sep']
    exact bigSep_mono fun c _ => hone c
  iapply hall
  isplitr; · iapply (BI.bigSep_intro_persistent (S := Finset.univ) fun (c : Dev nD) _ => (BI.Entails.refl ((plan m).recs ER κ : sProp 𝕄))); iexact HR
  isplitl [Hto]; · iexact Hto
  isplitl [Hn] <;> iassumption

/-- What a device's four arrays hold when the program ends. -/
def ended (c : Dev nD) : sProp 𝕄 :=
  iprop((((c.tc : Thread nD τ).loc main_arg0) ↦{fullShare} m ((c.tc : Thread nD τ).loc main_arg0))
    ∗ (((c.tc : Thread nD τ).loc main_arg1) ↦{fullShare} m ((c.tc : Thread nD τ).loc main_arg1))
    ∗ (((c.tc : Thread nD τ).loc main_v1_0) ↦{fullShare} wts m c)
    ∗ (((c.tc : Thread nD τ).loc main_v1_1) ↦{fullShare} sgs m c))

/-- What a device gets from its cells is its four arrays. -/
theorem collected (c : Dev nD) : (bigSep Finset.univ fun q : K => (plan m).pay c q) ⊢ ended m c := by
  have ho := outputs_in m c
  rw [pays, ← wt_in, ← sg_in]
  unfold ended
  have h2 := Entails.of_eq ho
  iintro ⟨⟨Hs, H0⟩, ⟨Hr, H1⟩⟩
  ihave H := h2 $$ [Hs Hr]
  · isplitl [Hs] <;> iassumption
  icases H with ⟨Hs, Hr⟩
  isplitl [H0]; · iexact H0
  isplitl [H1]; · iexact H1
  isplitl [Hs] <;> iassumption

/-- What a device's arrays hold, as a fact of a memory. -/
def Final (c : Dev nD) (s : MemSt nD τ sig (Elt F)) : Prop :=
  s.mem ((c.tc : Thread nD τ).loc main_v1_0) = wts m c ∧ s.mem ((c.tc : Thread nD τ).loc main_v1_1) = sgs m c
    ∧ s.mem ((c.tc : Thread nD τ).loc main_arg0) = m ((c.tc : Thread nD τ).loc main_arg0)
    ∧ s.mem ((c.tc : Thread nD τ).loc main_arg1) = m ((c.tc : Thread nD τ).loc main_arg1)

theorem read_end (c : Dev nD) (s' : Phys nD τ sig (Elt F)) : iprop(ended m c ∗ SI s') ⊢ |={Set.univ}=> iprop(⌜Final m c s'.mem⌝ ∗ SI s') := by
  unfold ended
  iintro ⟨⟨H0, H1, H2, H3⟩, HSI⟩
  icombine HSI H0 gives %h0
  icombine HSI H1 gives %h1
  icombine HSI H2 gives %h2
  icombine HSI H3 gives %h3
  imodintro
  isplitr
  · ipureintro
    exact ⟨Buf.eq_of_forall_mem_univ h2, Buf.eq_of_forall_mem_univ h3, Buf.eq_of_forall_mem_univ h0, Buf.eq_of_forall_mem_univ h1⟩
  iexact HSI

set_option maxRecDepth 8000 in
/-- For any float values, from any memory with every counter at zero: every weakly fair execution of the program on its
    eight devices terminates, with matrix `j` of device `c`'s outputs holding device `j`'s two
    arrays, the arguments unchanged and every counter at zero. -/
theorem run_main : θ_run (defs (F := F)) (onTc (τ := τ) (main (F := F))) ⟨m, fun _ => 0, ρ⟩
    (fun r => (∀ c, Final m c r.2) ∧ r.2.sem = fun _ => 0) :=
  FirstRegion.run_first_region (fun p => (cfgs p).toPCfg) (fun p => (cfgs p).toPCfg_adm) (dats m) () cellOf_inj (0 : Fin 1)
    winFacts0.to₀ (ownSemFacts m) EP defs₀ 𝒱₀ L lv m ρ main []
    (hmain := fun _ => rfl) (hnd := List.nodup_nil) (hmem := List.not_mem_nil)
    (hbody := body_run m) (hne := fun w => w.elim0) (hstage := stage_whole0)
    (O₀ := (plan m).debt 0) (howed₀ := fun _ => rfl) (hL := L_of_ne) (hwaits := waits m)
    (G := seed m) (u₀ := u₀ m)
    (hu₀ := by
      unfold u₀
      iintro Hu
      ihave H := (ownU_pair _ _) $$ Hu
      icases H with ⟨HP, HX⟩
      have hs : (BI.own (ER (initOf (plan m).cells (plan m).toks)) : sProp 𝕄) ⊢ (bigSep Finset.univ fun c : Dev nD => seed m c) :=
        Entails.of_eq (own0_family _).symm
      imodintro
      isplitl [HP]; · iexact HP
      iapply hs; iexact HX)
    (X := start m) (Y := fun c => bigSep Finset.univ fun q : K => (plan m).pay c q) (Z := fun _ => iprop(emp))
    (hglob := share_out m ρ)
    (hin := fun c => by
      show iprop(start m c ∗ tables c ∗ _) ⊢ start m c
      rw [tables_none]
      have hs := Entails.of_eq (scopedRest0_eq (Ix := Unit) (Val := Elt F) (Name := ℕ) (U := UU) (Lvl := ℕ) c)
      iintro ⟨H, -, -⟩
      iexact H)
    (hout := fun c => by
      show left m c ⊢ iprop(_ ∗ Pipeline.ownSems0 _ c ∗ Pipeline.scopedRest cfg0.spec c)
      rw [scopedRest0_eq]
      unfold left Pipeline.ownSems0
      iintro ⟨Hp, Hz⟩
      isplitl [Hp]; · iexact Hp
      isplitl [Hz]; · iexact Hz
      iempintro)
    (T₁ := fun c => iprop(ended m c ∗ ∃ W, owes (c.tc : Thread nD τ) (0 : CellTallies nD τ sig Unit) W)) (Tn := ended m)
    (hexit := fun c => by
      unfold Dat.owesAt Pipeline.owesWithin
      iintro ⟨-, ⟨%W, -, HO⟩, Hp, -⟩
      isplitl [Hp]; · iapply (collected m c); iexact Hp
      iexists W; iexact HO)
    (hch := fun c => BI.Entails.refl _)
    (QY := Final m) (hfin := read_end m)
    (hQ := fun _ h hs => ⟨h, sem_eq_zero_of_scoped (by decide) hs⟩)

end Cert.Gathering
-- ==== Proof.GatheringValue.lean ====
/-
  What the gathering computes: device `c`'s outputs are block `c` of the reference's, at any float values.
-/
module

public import proofs.«01_k».proof.Proof.GatheringRun
public import proofs.«01_k».proof.Proof.Gen.GatherReferenceIdeal.Run
public import Idealize.ShloMosaic.Lib.Layout
public import Idealize.ShloMosaic.Lib.Pipeline.Value

@[expose] public section

noncomputable section

namespace Cert.Gathering

open Idealize.ShloMosaic
open Idealize.ShloMosaic.TcCoe
open Idealize.ShloMosaic.ValueIdx
open Idealize.SL.Sem

variable {F : FTy → Type} [FloatOps F]

/-- The reference's first result: every device's first array, once for every device. -/
def everyWt (b : (⟨2, ![73728, 512]⟩ : Shape).Idx → Elt F .bf16) : (⟨3, ![64, 9216, 512]⟩ : Shape).Idx → Elt F .bf16 :=
  shapeCast _ (broadcastInDim Cert.GatherReferenceIdeal.S8x8x9216x512 ![0, 1, 2, 3] Cert.GatherReferenceIdeal.Gen.bcast_S1x8x9216x512_S8x8x9216x512_0_1_2_3
    (shapeCast _ b Cert.GatherReferenceIdeal.Gen.shapeCasts_S73728x512_S1x8x9216x512)) Cert.GatherReferenceIdeal.Gen.shapeCasts_S8x8x9216x512_S64x9216x512

/-- Its second: every device's second array, once for every device. -/
def everySg (b : (⟨2, ![128, 512]⟩ : Shape).Idx → Elt F .f32) : (⟨3, ![64, 16, 512]⟩ : Shape).Idx → Elt F .f32 :=
  shapeCast _ (broadcastInDim Cert.GatherReferenceIdeal.S8x8x16x512 ![0, 1, 2, 3] Cert.GatherReferenceIdeal.Gen.bcast_S1x8x16x512_S8x8x16x512_0_1_2_3
    (shapeCast _ b Cert.GatherReferenceIdeal.Gen.shapeCasts_S128x512_S1x8x16x512)) Cert.GatherReferenceIdeal.Gen.shapeCasts_S8x8x16x512_S64x16x512

/-- Device `j`'s array, read in the whole array of arrays and in device `d`'s part of the first result. -/
theorem everyWt_at (b : (⟨2, ![73728, 512]⟩ : Shape).Idx → Elt F .bf16) (d j : Fin 8) (i : (⟨3, ![64, 9216, 512]⟩ : Shape).Idx)
    (k : (⟨2, ![73728, 512]⟩ : Shape).Idx) (h0 : (i 0).val = d.val * 8 + j.val) (hk : (k 0).val = j.val * 9216 + (i 1).val) (h1 : (k 1).val = (i 2).val) :
    everyWt b i = b k := by
  have l1 : (i 1).val < 9216 := (i 1).isLt
  have l2 : (i 2).val < 512 := (i 2).isLt
  unfold everyWt
  rw [shapeCast_apply _ _ i (ix4 (n0 := 8) (n1 := 8) (n2 := 9216) (n3 := 512) d j ⟨(i 1).val, l1⟩ ⟨(i 2).val, l2⟩) (by
    rw [Shape.rowMajor_val_four, Shape.rowMajor_val_three, h0]; rfl)]
  rw [broadcastInDim_apply _ _ _ _ (ix4 (n0 := 1) (n1 := 8) (n2 := 9216) (n3 := 512) 0 j ⟨(i 1).val, l1⟩ ⟨(i 2).val, l2⟩) (by
    intro b
    match b with
    | ⟨0, _⟩ => exact (if_pos (show (1 : ℕ) = 1 from rfl)).symm
    | ⟨1, _⟩ => exact (if_neg (show ¬ (8 : ℕ) = 1 by decide)).symm
    | ⟨2, _⟩ => exact (if_neg (show ¬ (9216 : ℕ) = 1 by decide)).symm
    | ⟨3, _⟩ => exact (if_neg (show ¬ (512 : ℕ) = 1 by decide)).symm)]
  refine shapeCast_apply _ _ _ k ?_
  rw [Shape.rowMajor_val_four, Shape.rowMajor_val_two, hk, h1]
  show (j.val * 9216 + (i 1).val) * 512 + (i 2).val = ((0 * 8 + j.val) * 9216 + (i 1).val) * 512 + (i 2).val
  omega

/-- Device `j`'s array, read in the whole array of arrays and in device `d`'s part of the second result. -/
theorem everySg_at (b : (⟨2, ![128, 512]⟩ : Shape).Idx → Elt F .f32) (d j : Fin 8) (i : (⟨3, ![64, 16, 512]⟩ : Shape).Idx)
    (k : (⟨2, ![128, 512]⟩ : Shape).Idx) (h0 : (i 0).val = d.val * 8 + j.val) (hk : (k 0).val = j.val * 16 + (i 1).val) (h1 : (k 1).val = (i 2).val) :
    everySg b i = b k := by
  have l1 : (i 1).val < 16 := (i 1).isLt
  have l2 : (i 2).val < 512 := (i 2).isLt
  unfold everySg
  rw [shapeCast_apply _ _ i (ix4 (n0 := 8) (n1 := 8) (n2 := 16) (n3 := 512) d j ⟨(i 1).val, l1⟩ ⟨(i 2).val, l2⟩) (by
    rw [Shape.rowMajor_val_four, Shape.rowMajor_val_three, h0]; rfl)]
  rw [broadcastInDim_apply _ _ _ _ (ix4 (n0 := 1) (n1 := 8) (n2 := 16) (n3 := 512) 0 j ⟨(i 1).val, l1⟩ ⟨(i 2).val, l2⟩) (by
    intro b
    match b with
    | ⟨0, _⟩ => exact (if_pos (show (1 : ℕ) = 1 from rfl)).symm
    | ⟨1, _⟩ => exact (if_neg (show ¬ (8 : ℕ) = 1 by decide)).symm
    | ⟨2, _⟩ => exact (if_neg (show ¬ (16 : ℕ) = 1 by decide)).symm
    | ⟨3, _⟩ => exact (if_neg (show ¬ (512 : ℕ) = 1 by decide)).symm)]
  refine shapeCast_apply _ _ _ k ?_
  rw [Shape.rowMajor_val_four, Shape.rowMajor_val_two, hk, h1]
  show (j.val * 16 + (i 1).val) * 512 + (i 2).val = ((0 * 8 + j.val) * 16 + (i 1).val) * 512 + (i 2).val
  omega

open Cert.GatherIdeal in
/-- Device `c`'s first output is block `c` of every device's array, where every device holds its block of the arrays. -/
theorem wts_block (m : (ℓ : Loc nD τ sig) → Buf (Elt F) ℓ) (b : (⟨2, ![73728, 512]⟩ : Shape).Idx → Elt F .bf16)
    (h : ∀ c : Dev nD, m ((c.tc : Thread nD τ).loc main_arg0) = Layout.block ⟨2, ![9216, 512]⟩ ⟨2, ![73728, 512]⟩ 0 8 c b) (c : Dev nD) :
    wts m c = Layout.block ⟨3, ![8, 9216, 512]⟩ ⟨3, ![64, 9216, 512]⟩ 0 8 c (everyWt b) := by
  funext i
  unfold wts
  rw [h]
  rw [Layout.block_apply, Layout.block_apply]
  refine Eq.symm (everyWt_at b c ⟨(i 0).val, (i 0).isLt⟩ _ _ ?_ ?_ ?_) <;> rw [Layout.Tiles.idx_val] <;> rfl

open Cert.GatherIdeal in
/-- Device `c`'s second output is block `c` of every device's array, where every device holds its block of the arrays. -/
theorem sgs_block (m : (ℓ : Loc nD τ sig) → Buf (Elt F) ℓ) (b : (⟨2, ![128, 512]⟩ : Shape).Idx → Elt F .f32)
    (h : ∀ c : Dev nD, m ((c.tc : Thread nD τ).loc main_arg1) = Layout.block ⟨2, ![16, 512]⟩ ⟨2, ![128, 512]⟩ 0 8 c b) (c : Dev nD) :
    sgs m c = Layout.block ⟨3, ![8, 16, 512]⟩ ⟨3, ![64, 16, 512]⟩ 0 8 c (everySg b) := by
  funext i
  unfold sgs
  rw [h]
  rw [Layout.block_apply, Layout.block_apply]
  refine Eq.symm (everySg_at b c ⟨(i 0).val, (i 0).isLt⟩ _ _ ?_ ?_ ?_) <;> rw [Layout.Tiles.idx_val] <;> rfl

end Cert.Gathering
-- ==== Proof.lean ====
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.ReferenceIdeal.Run
public import proofs.«01_k».proof.Proof.Gen.Gather
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherReference
public import proofs.«01_k».proof.Proof.Gen.GatherReferenceIdeal
public import proofs.«01_k».proof.Proof.Gen.GatherReferenceIdeal.Run
public import proofs.«01_k».proof.Proof.Gen.Loss.Frame
public import proofs.«01_k».proof.Proof.Gen.LossIdeal.Value
public import proofs.«01_k».proof.Proof.Gen.LossReferenceIdeal.Run
public import proofs.«01_k».proof.Proof.Gen.Input.Frame
public import proofs.«01_k».proof.Proof.Gen.InputIdeal.Value
public import proofs.«01_k».proof.Proof.Gen.InputReferenceIdeal.Run
public import proofs.«01_k».proof.Proof.Adamw
public import proofs.«01_k».proof.Proof.Sums
public import proofs.«01_k».proof.Proof.Loss
public import proofs.«01_k».proof.Proof.Input
public import proofs.«01_k».proof.Proof.Weights
public import proofs.«01_k».proof.Proof.Channel
public import proofs.«01_k».proof.Proof.Merge
public import proofs.«01_k».proof.Proof.MergeBackward
public import proofs.«01_k».proof.Proof.Attention
public import proofs.«01_k».proof.Proof.Shift
public import proofs.«01_k».proof.Proof.Gating
public import proofs.«01_k».proof.Proof.Run
public import proofs.«01_k».proof.Proof.Value
public import proofs.«01_k».proof.Proof.GatheringRun
public import proofs.«01_k».proof.Proof.GatheringValue
public import Idealize.ShloMosaic.Adequacy
public import Idealize.ShloMosaic.Init

@[expose] public section

noncomputable section

namespace Cert.Proof

open Idealize.ShloMosaic Idealize.ShloMosaic.TcCoe Idealize.SL.Sem

/-- The exchange leaves its arguments unchanged and every counter at zero. -/
theorem frame_kernel : @Cert.quiescent_Kernel Cert.Kernel.Gen.facts := fun m ρ _ =>
  (θ_run (Cert.KernelIdeal.defs (F := Bits)) _ _).mono (fun _ h => ⟨fun c => ⟨(h.1 c).2.2.1, (h.1 c).2.2.2⟩, h.2⟩) (Exchange.run_main (F := Bits) m ρ)

/-- So does its ideal program. -/
theorem frame_ideal : @Cert.quiescent_KernelIdeal Cert.KernelIdeal.Gen.facts := fun m ρ _ =>
  (θ_run (Cert.KernelIdeal.defs (F := Ideal)) _ _).mono (fun _ h => ⟨fun c => ⟨(h.1 c).2.2.1, (h.1 c).2.2.2⟩, h.2⟩) (Exchange.run_main (F := Ideal) m ρ)

/-- The reference leaves its arguments unchanged; it declares no semaphore. -/
theorem frame_reference : @Cert.quiescent_Reference Cert.Reference.Gen.facts := fun m ρ _ =>
  (θ_run (Cert.ReferenceIdeal.defs (F := Bits)) _ _).mono (fun r h => ⟨fun c => (h c).2.2, sem_eq_zero_of_no_sems (by decide) r.2⟩) (ReferenceIdeal.Value.run (F := Bits) m ρ)

/-- So does its ideal program. -/
theorem frame_reference_ideal : @Cert.quiescent_ReferenceIdeal Cert.ReferenceIdeal.Gen.facts := fun m ρ _ =>
  (θ_run (Cert.ReferenceIdeal.defs (F := Ideal)) _ _).mono (fun r h => ⟨fun c => (h c).2.2, sem_eq_zero_of_no_sems (by decide) r.2⟩) (ReferenceIdeal.Value.run (F := Ideal) m ρ)

/-- Bit for bit, device `c`'s outputs are block `c` of the reference's. -/
theorem bitexact : @Cert.bitexact_Kernel_Reference Cert.Kernel.Gen.facts Cert.Reference.Gen.facts := fun m ρ m' ρ' _ hin =>
  ⟨_, _, (θ_run (Cert.KernelIdeal.defs (F := Bits)) _ _).mono
      (fun _ h c => ⟨(h.1 c).1.trans (Exchange.shards_block (F := Bits) m _ (fun c => (hin c).1) c),
        (h.1 c).2.1.trans (Exchange.reps_block (F := Bits) m _ (fun c => (hin c).2) c), (h.1 c).2.2.1, (h.1 c).2.2.2⟩) (Exchange.run_main (F := Bits) m ρ),
    (θ_run (Cert.ReferenceIdeal.defs (F := Bits)) _ _).mono (fun _ h => h 0) (ReferenceIdeal.Value.run (F := Bits) m' ρ')⟩

/-- Over the extended reals, device `c`'s outputs are block `c` of the reference's. -/
theorem algebraic : @Cert.algebraic_KernelIdeal_ReferenceIdeal Cert.KernelIdeal.Gen.facts Cert.ReferenceIdeal.Gen.facts := fun m ρ m' ρ' _ hin =>
  ⟨_, _, (θ_run (Cert.KernelIdeal.defs (F := Ideal)) _ _).mono
      (fun _ h c => ⟨(h.1 c).1.trans (Exchange.shards_block (F := Ideal) m _ (fun c => (hin c).1) c),
        (h.1 c).2.1.trans (Exchange.reps_block (F := Ideal) m _ (fun c => (hin c).2) c), (h.1 c).2.2.1, (h.1 c).2.2.2⟩) (Exchange.run_main (F := Ideal) m ρ),
    (θ_run (Cert.ReferenceIdeal.defs (F := Ideal)) _ _).mono (fun _ h => h 0) (ReferenceIdeal.Value.run (F := Ideal) m' ρ')⟩

/-- The gathering leaves its arguments unchanged and every counter at zero. -/
theorem gather_frame : @Cert.quiescent_Gather Cert.Gather.Gen.facts := fun m ρ _ =>
  (θ_run (Cert.GatherIdeal.defs (F := Bits)) _ _).mono (fun _ h => ⟨fun c => ⟨(h.1 c).2.2.1, (h.1 c).2.2.2⟩, h.2⟩) (Gathering.run_main (F := Bits) m ρ)

/-- So does its ideal program. -/
theorem gather_frame_ideal : @Cert.quiescent_GatherIdeal Cert.GatherIdeal.Gen.facts := fun m ρ _ =>
  (θ_run (Cert.GatherIdeal.defs (F := Ideal)) _ _).mono (fun _ h => ⟨fun c => ⟨(h.1 c).2.2.1, (h.1 c).2.2.2⟩, h.2⟩) (Gathering.run_main (F := Ideal) m ρ)

/-- The gathering's reference leaves its arguments unchanged; it declares no semaphore. -/
theorem gather_frame_reference : @Cert.quiescent_GatherReference Cert.GatherReference.Gen.facts := fun m ρ _ =>
  (θ_run (Cert.GatherReferenceIdeal.defs (F := Bits)) _ _).mono (fun r h => ⟨fun c => (h c).2.2, sem_eq_zero_of_no_sems (by decide) r.2⟩) (Cert.GatherReferenceIdeal.Value.run (F := Bits) m ρ)

/-- So does its ideal program. -/
theorem gather_frame_reference_ideal : @Cert.quiescent_GatherReferenceIdeal Cert.GatherReferenceIdeal.Gen.facts := fun m ρ _ =>
  (θ_run (Cert.GatherReferenceIdeal.defs (F := Ideal)) _ _).mono (fun r h => ⟨fun c => (h c).2.2, sem_eq_zero_of_no_sems (by decide) r.2⟩) (Cert.GatherReferenceIdeal.Value.run (F := Ideal) m ρ)

/-- Bit for bit, device `c`'s outputs are block `c` of the reference's, for the gathering. -/
theorem gather_bitexact : @Cert.bitexact_Gather_GatherReference Cert.Gather.Gen.facts Cert.GatherReference.Gen.facts := fun m ρ m' ρ' _ hin =>
  ⟨_, _, (θ_run (Cert.GatherIdeal.defs (F := Bits)) _ _).mono
      (fun _ h c => ⟨(h.1 c).1.trans (Gathering.wts_block (F := Bits) m _ (fun c => (hin c).1) c),
        (h.1 c).2.1.trans (Gathering.sgs_block (F := Bits) m _ (fun c => (hin c).2) c), (h.1 c).2.2.1, (h.1 c).2.2.2⟩) (Gathering.run_main (F := Bits) m ρ),
    (θ_run (Cert.GatherReferenceIdeal.defs (F := Bits)) _ _).mono (fun _ h => h 0) (Cert.GatherReferenceIdeal.Value.run (F := Bits) m' ρ')⟩

/-- Over the extended reals, device `c`'s outputs are block `c` of the reference's, for the gathering. -/
theorem gather_algebraic : @Cert.algebraic_GatherIdeal_GatherReferenceIdeal Cert.GatherIdeal.Gen.facts Cert.GatherReferenceIdeal.Gen.facts := fun m ρ m' ρ' _ hin =>
  ⟨_, _, (θ_run (Cert.GatherIdeal.defs (F := Ideal)) _ _).mono
      (fun _ h c => ⟨(h.1 c).1.trans (Gathering.wts_block (F := Ideal) m _ (fun c => (hin c).1) c),
        (h.1 c).2.1.trans (Gathering.sgs_block (F := Ideal) m _ (fun c => (hin c).2) c), (h.1 c).2.2.1, (h.1 c).2.2.2⟩) (Gathering.run_main (F := Ideal) m ρ),
    (θ_run (Cert.GatherReferenceIdeal.defs (F := Ideal)) _ _).mono (fun _ h => h 0) (Cert.GatherReferenceIdeal.Value.run (F := Ideal) m' ρ')⟩

theorem claim : Cert.Claim :=
  ⟨Cert.Kernel.Gen.facts, Cert.KernelIdeal.Gen.facts, Cert.Reference.Gen.facts, Cert.ReferenceIdeal.Gen.facts,
    Cert.Gather.Gen.facts, Cert.GatherIdeal.Gen.facts, Cert.GatherReference.Gen.facts, Cert.GatherReferenceIdeal.Gen.facts,
    Cert.AdamwIn.Gen.facts, Cert.AdamwInIdeal.Gen.facts, Cert.AdamwReferenceInIdeal.Gen.facts,
    Cert.AdamwSg.Gen.facts, Cert.AdamwSgIdeal.Gen.facts, Cert.AdamwReferenceSgIdeal.Gen.facts,
    Cert.AdamwBranch.Gen.facts, Cert.AdamwBranchIdeal.Gen.facts, Cert.AdamwReferenceBranchIdeal.Gen.facts,
    Cert.AdamwOut.Gen.facts, Cert.AdamwOutIdeal.Gen.facts, Cert.AdamwReferenceOutIdeal.Gen.facts,
    Cert.AdamwFfn.Gen.facts, Cert.AdamwFfnIdeal.Gen.facts, Cert.AdamwReferenceFfnIdeal.Gen.facts,
    Cert.AdamwDown.Gen.facts, Cert.AdamwDownIdeal.Gen.facts, Cert.AdamwReferenceDownIdeal.Gen.facts,
    Cert.AdamwSmall.Gen.facts, Cert.AdamwSmallIdeal.Gen.facts, Cert.AdamwReferenceSmallIdeal.Gen.facts,
    Cert.SumSharded.Gen.facts, Cert.SumShardedIdeal.Gen.facts, Cert.SumReferenceShardedIdeal.Gen.facts,
    Cert.SumReplicated.Gen.facts, Cert.SumReplicatedIdeal.Gen.facts, Cert.SumReferenceReplicatedIdeal.Gen.facts,
    Cert.Loss.Gen.facts, Cert.LossIdeal.Gen.facts, Cert.LossReferenceIdeal.Gen.facts,
    Cert.Input.Gen.facts, Cert.InputIdeal.Gen.facts, Cert.InputReferenceIdeal.Gen.facts,
    Cert.WeightIn.Gen.facts, Cert.WeightInIdeal.Gen.facts, Cert.WeightInReferenceIdeal.Gen.facts,
    Cert.WeightGate.Gen.facts, Cert.WeightGateIdeal.Gen.facts, Cert.WeightGateReferenceIdeal.Gen.facts,
    Cert.WeightDown.Gen.facts, Cert.WeightDownIdeal.Gen.facts, Cert.WeightDownReferenceIdeal.Gen.facts,
    Cert.WeightOut.Gen.facts, Cert.WeightOutIdeal.Gen.facts, Cert.WeightOutReferenceIdeal.Gen.facts,
    Cert.WeightBranch.Gen.facts, Cert.WeightBranchIdeal.Gen.facts, Cert.WeightBranchReferenceIdeal.Gen.facts,
    Cert.Channel.Gen.facts, Cert.ChannelIdeal.Gen.facts, Cert.ChannelReferenceIdeal.Gen.facts,
    Cert.Merge.Gen.facts, Cert.MergeIdeal.Gen.facts, Cert.MergeReferenceIdeal.Gen.facts,
    Cert.MergeBackward.Gen.facts, Cert.MergeBackwardIdeal.Gen.facts, Cert.MergeBackwardReferenceIdeal.Gen.facts,
    Cert.Attention.Gen.facts, Cert.AttentionIdeal.Gen.facts, Cert.AttentionReferenceIdeal.Gen.facts,
    Cert.Shift.Gen.facts, Cert.ShiftIdeal.Gen.facts, Cert.ShiftReferenceIdeal.Gen.facts,
    Cert.Gating.Gen.facts, Cert.GatingIdeal.Gen.facts, Cert.GatingReferenceIdeal.Gen.facts,
    frame_kernel, frame_ideal, frame_reference, frame_reference_ideal,
    gather_frame, gather_frame_ideal, gather_frame_reference, gather_frame_reference_ideal,
    Updates.ofIn_frame, Updates.ofIn_frame_ideal, Updates.ofIn_frame_reference,
    Updates.ofSg_frame, Updates.ofSg_frame_ideal, Updates.ofSg_frame_reference,
    Updates.ofBranch_frame, Updates.ofBranch_frame_ideal, Updates.ofBranch_frame_reference,
    Updates.ofOut_frame, Updates.ofOut_frame_ideal, Updates.ofOut_frame_reference,
    Updates.ofFfn_frame, Updates.ofFfn_frame_ideal, Updates.ofFfn_frame_reference,
    Updates.ofDown_frame, Updates.ofDown_frame_ideal, Updates.ofDown_frame_reference,
    Updates.ofSmall_frame, Updates.ofSmall_frame_ideal, Updates.ofSmall_frame_reference,
    Sums.sharded_frame, Sums.sharded_frame_ideal, Sums.sharded_frame_reference,
    Sums.replicated_frame, Sums.replicated_frame_ideal, Sums.replicated_frame_reference,
    LossHead.frame, LossHead.frame_ideal, LossHead.frame_reference,
    InputBackward.frame, InputBackward.frame_ideal, InputBackward.frame_reference,
    Weights.In.frame, Weights.In.frame_ideal, Weights.In.frame_reference,
    Weights.Gate.frame, Weights.Gate.frame_ideal, Weights.Gate.frame_reference,
    Weights.Down.frame, Weights.Down.frame_ideal, Weights.Down.frame_reference,
    Weights.Out.frame, Weights.Out.frame_ideal, Weights.Out.frame_reference,
    Weights.Branch.frame, Weights.Branch.frame_ideal, Weights.Branch.frame_reference,
    ChannelMixer.frame, ChannelMixer.frame_ideal, ChannelMixer.frame_reference,
    GatedMerge.frame, GatedMerge.frame_ideal, GatedMerge.frame_reference,
    GatedMergeBackward.frame, GatedMergeBackward.frame_ideal, GatedMergeBackward.frame_reference,
    Attend.frame, Attend.frame_ideal, Attend.frame_reference,
    TokenShift.frame, TokenShift.frame_ideal, TokenShift.frame_reference,
    SpatialGating.frame, SpatialGating.frame_ideal, SpatialGating.frame_reference,
    trivial, bitexact, algebraic, trivial, gather_bitexact, gather_algebraic,
    trivial, Updates.ofIn_algebraic, trivial, Updates.ofSg_algebraic, trivial, Updates.ofBranch_algebraic, trivial, Updates.ofOut_algebraic, trivial, Updates.ofFfn_algebraic, trivial, Updates.ofDown_algebraic, trivial, Updates.ofSmall_algebraic,
    trivial, Sums.sharded_algebraic, trivial, Sums.replicated_algebraic,
    trivial, LossHead.algebraic, trivial, InputBackward.algebraic,
    trivial, Weights.In.algebraic, trivial, Weights.Gate.algebraic, trivial, Weights.Down.algebraic, trivial, Weights.Out.algebraic, trivial, Weights.Branch.algebraic, trivial, ChannelMixer.algebraic, trivial, GatedMerge.algebraic, trivial, GatedMergeBackward.algebraic, trivial, Attend.algebraic, trivial, TokenShift.algebraic, trivial, SpatialGating.algebraic⟩

end Cert.Proof

end
